-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4096x2048 : Shape := ⟨2, ![4096, 2048]⟩
abbrev S2x4x512x256 : Shape := ⟨4, ![2, 4, 512, 256]⟩
abbrev S4096x1024 : Shape := ⟨2, ![4096, 1024]⟩
abbrev S8x128 : Shape := ⟨2, ![8, 128]⟩
abbrev S2x4 : Shape := ⟨2, ![2, 4]⟩
abbrev S3x4 : Shape := ⟨2, ![3, 4]⟩
abbrev S8 : Shape := ⟨1, ![8]⟩
abbrev S_ : Shape := ⟨0, ![]⟩
abbrev S512x512 : Shape := ⟨2, ![512, 512]⟩
abbrev S1x1 : Shape := ⟨2, ![1, 1]⟩
abbrev S1x1x512x256 : Shape := ⟨4, ![1, 1, 512, 256]⟩
abbrev S512x256 : Shape := ⟨2, ![512, 256]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩
abbrev S1x128 : Shape := ⟨2, ![1, 128]⟩
abbrev S1x8x128 : Shape := ⟨3, ![1, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S4096x512, .bf16⟩
  | .local _ .vmem, ⟨1, _⟩ => ⟨S512x2048, .bf16⟩
  | .local _ .vmem, ⟨2, _⟩ => ⟨S4096x2048, .bf16⟩
  | .local _ .vmem, ⟨3, _⟩ => ⟨S2x4x512x256, .bf16⟩
  | .local _ .vmem, ⟨4, _⟩ => ⟨S2x4x512x256, .bf16⟩
  | .local _ .vmem, ⟨5, _⟩ => ⟨S4096x1024, .i8⟩
  | .local _ .vmem, ⟨6, _⟩ => ⟨S4096x1024, .i8⟩
  | .local _ .vmem, ⟨7, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 17 99 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 16

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v30 : BitVec 32 := Scalar.muli v2 c512_i32
  v30
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v30 : BitVec 32 := Scalar.muli v2 c512_i32
  let v31 : BitVec 32 := v30
  let v32 : Index := Scalar.indexCast v31
  let c0 : Index := 0#32
  ![v32.toNat, 0]
def k0_mult2 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_21 : BitVec 32 := 512#32
  let v39 : BitVec 32 := Scalar.muli v2 c512_i32_21
  v39
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_21 : BitVec 32 := 512#32
  let v39 : BitVec 32 := Scalar.muli v2 c512_i32_21
  let v40 : BitVec 32 := v39
  let v41 : Index := Scalar.indexCast v40
  let c0_22 : Index := 0#32
  ![v41.toNat, 0]
def k0_mult3 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_23 : BitVec 32 := 0#32
  let v43 : BitVec 32 := Scalar.subi v2 c0_i32_23
  let c8_i32_24 : BitVec 32 := 8#32
  let c0_i32_25 : BitVec 32 := 0#32
  let v44 : BitVec 1 := Scalar.cmpi .eq c8_i32_24 c0_i32_25
  let c1_i32_26 : BitVec 32 := 1#32
  let v45 : BitVec 32 := Scalar.select v44 c1_i32_26 c8_i32_24
  let v46 : BitVec 32 := Scalar.remsi v43 v45
  let c0_i32_28 : BitVec 32 := 0#32
  let v48 : BitVec 1 := Scalar.cmpi .slt v46 c0_i32_28
  let c0_i32_29 : BitVec 32 := 0#32
  let v49 : BitVec 1 := Scalar.cmpi .slt v45 c0_i32_29
  let v50 : BitVec 1 := Scalar.xori v48 v49
  let c0_i32_27 : BitVec 32 := 0#32
  let v47 : BitVec 1 := Scalar.cmpi .ne v46 c0_i32_27
  let v51 : BitVec 1 := Scalar.andi v50 v47
  let v52 : BitVec 32 := Scalar.addi v46 v45
  let v53 : BitVec 32 := Scalar.select v51 v52 v46
  let c512_i32_30 : BitVec 32 := 512#32
  let v54 : BitVec 32 := Scalar.muli v53 c512_i32_30
  v54
def k0_off3 (d0 : Dev nD) (c0_i32_23 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v43 : BitVec 32 := Scalar.subi v2 c0_i32_23
  let c8_i32_24 : BitVec 32 := 8#32
  let c0_i32_25 : BitVec 32 := 0#32
  let v44 : BitVec 1 := Scalar.cmpi .eq c8_i32_24 c0_i32_25
  let c1_i32_26 : BitVec 32 := 1#32
  let v45 : BitVec 32 := Scalar.select v44 c1_i32_26 c8_i32_24
  let v46 : BitVec 32 := Scalar.remsi v43 v45
  let c0_i32_28 : BitVec 32 := 0#32
  let v48 : BitVec 1 := Scalar.cmpi .slt v46 c0_i32_28
  let c0_i32_29 : BitVec 32 := 0#32
  let v49 : BitVec 1 := Scalar.cmpi .slt v45 c0_i32_29
  let v50 : BitVec 1 := Scalar.xori v48 v49
  let c0_i32_27 : BitVec 32 := 0#32
  let v47 : BitVec 1 := Scalar.cmpi .ne v46 c0_i32_27
  let v51 : BitVec 1 := Scalar.andi v50 v47
  let v52 : BitVec 32 := Scalar.addi v46 v45
  let v53 : BitVec 32 := Scalar.select v51 v52 v46
  let c512_i32_30 : BitVec 32 := 512#32
  let v54 : BitVec 32 := Scalar.muli v53 c512_i32_30
  let v55 : BitVec 32 := v54
  let c0_i32_41 : BitVec 32 := 0#32
  ![v55.toNat, 0]
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_37 : BitVec 32 := 1#32
  let v56 : BitVec 32 := Scalar.muli v24 c1_i32_37
  let v57 : BitVec 32 := Scalar.addi c0_i32_38 v56
  v57.toNat
def k0_mult4 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_42 : BitVec 32 := 0#32
  let v65 : BitVec 32 := Scalar.addi v2 c0_i32_42
  let c8_i32_43 : BitVec 32 := 8#32
  let c0_i32_44 : BitVec 32 := 0#32
  let v66 : BitVec 1 := Scalar.cmpi .eq c8_i32_43 c0_i32_44
  let c1_i32_45 : BitVec 32 := 1#32
  let v67 : BitVec 32 := Scalar.select v66 c1_i32_45 c8_i32_43
  let v68 : BitVec 32 := Scalar.remsi v65 v67
  let c0_i32_47 : BitVec 32 := 0#32
  let v70 : BitVec 1 := Scalar.cmpi .slt v68 c0_i32_47
  let c0_i32_48 : BitVec 32 := 0#32
  let v71 : BitVec 1 := Scalar.cmpi .slt v67 c0_i32_48
  let v72 : BitVec 1 := Scalar.xori v70 v71
  let c0_i32_46 : BitVec 32 := 0#32
  let v69 : BitVec 1 := Scalar.cmpi .ne v68 c0_i32_46
  let v73 : BitVec 1 := Scalar.andi v72 v69
  let v74 : BitVec 32 := Scalar.addi v68 v67
  let v75 : BitVec 32 := Scalar.select v73 v74 v68
  let c512_i32_49 : BitVec 32 := 512#32
  let v76 : BitVec 32 := Scalar.muli v75 c512_i32_49
  v76
def k0_off4 (d0 : Dev nD) (c0_i32_42 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v65 : BitVec 32 := Scalar.addi v2 c0_i32_42
  let c8_i32_43 : BitVec 32 := 8#32
  let c0_i32_44 : BitVec 32 := 0#32
  let v66 : BitVec 1 := Scalar.cmpi .eq c8_i32_43 c0_i32_44
  let c1_i32_45 : BitVec 32 := 1#32
  let v67 : BitVec 32 := Scalar.select v66 c1_i32_45 c8_i32_43
  let v68 : BitVec 32 := Scalar.remsi v65 v67
  let c0_i32_47 : BitVec 32 := 0#32
  let v70 : BitVec 1 := Scalar.cmpi .slt v68 c0_i32_47
  let c0_i32_48 : BitVec 32 := 0#32
  let v71 : BitVec 1 := Scalar.cmpi .slt v67 c0_i32_48
  let v72 : BitVec 1 := Scalar.xori v70 v71
  let c0_i32_46 : BitVec 32 := 0#32
  let v69 : BitVec 1 := Scalar.cmpi .ne v68 c0_i32_46
  let v73 : BitVec 1 := Scalar.andi v72 v69
  let v74 : BitVec 32 := Scalar.addi v68 v67
  let v75 : BitVec 32 := Scalar.select v73 v74 v68
  let c512_i32_49 : BitVec 32 := 512#32
  let v76 : BitVec 32 := Scalar.muli v75 c512_i32_49
  let v77 : BitVec 32 := v76
  let c1024_i32 : BitVec 32 := 1024#32
  ![v77.toNat, 1024]
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_56 : BitVec 32 := 1#32
  let v78 : BitVec 32 := Scalar.muli v13 c1_i32_56
  let v79 : BitVec 32 := Scalar.addi c0_i32_57 v78
  v79.toNat
def k0_mult5 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_60 : BitVec 32 := 0#32
  let v87 : BitVec 32 := Scalar.subi v2 c0_i32_60
  let c8_i32_61 : BitVec 32 := 8#32
  let c0_i32_62 : BitVec 32 := 0#32
  let v88 : BitVec 1 := Scalar.cmpi .eq c8_i32_61 c0_i32_62
  let c1_i32_63 : BitVec 32 := 1#32
  let v89 : BitVec 32 := Scalar.select v88 c1_i32_63 c8_i32_61
  let v90 : BitVec 32 := Scalar.remsi v87 v89
  let c0_i32_65 : BitVec 32 := 0#32
  let v92 : BitVec 1 := Scalar.cmpi .slt v90 c0_i32_65
  let c0_i32_66 : BitVec 32 := 0#32
  let v93 : BitVec 1 := Scalar.cmpi .slt v89 c0_i32_66
  let v94 : BitVec 1 := Scalar.xori v92 v93
  let c0_i32_64 : BitVec 32 := 0#32
  let v91 : BitVec 1 := Scalar.cmpi .ne v90 c0_i32_64
  let v95 : BitVec 1 := Scalar.andi v94 v91
  let v96 : BitVec 32 := Scalar.addi v90 v89
  let v97 : BitVec 32 := Scalar.select v95 v96 v90
  let c512_i32_67 : BitVec 32 := 512#32
  let v98 : BitVec 32 := Scalar.muli v97 c512_i32_67
  v98
def k0_off5 (d0 : Dev nD) (c0_i32_60 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v87 : BitVec 32 := Scalar.subi v2 c0_i32_60
  let c8_i32_61 : BitVec 32 := 8#32
  let c0_i32_62 : BitVec 32 := 0#32
  let v88 : BitVec 1 := Scalar.cmpi .eq c8_i32_61 c0_i32_62
  let c1_i32_63 : BitVec 32 := 1#32
  let v89 : BitVec 32 := Scalar.select v88 c1_i32_63 c8_i32_61
  let v90 : BitVec 32 := Scalar.remsi v87 v89
  let c0_i32_65 : BitVec 32 := 0#32
  let v92 : BitVec 1 := Scalar.cmpi .slt v90 c0_i32_65
  let c0_i32_66 : BitVec 32 := 0#32
  let v93 : BitVec 1 := Scalar.cmpi .slt v89 c0_i32_66
  let v94 : BitVec 1 := Scalar.xori v92 v93
  let c0_i32_64 : BitVec 32 := 0#32
  let v91 : BitVec 1 := Scalar.cmpi .ne v90 c0_i32_64
  let v95 : BitVec 1 := Scalar.andi v94 v91
  let v96 : BitVec 32 := Scalar.addi v90 v89
  let v97 : BitVec 32 := Scalar.select v95 v96 v90
  let c512_i32_67 : BitVec 32 := 512#32
  let v98 : BitVec 32 := Scalar.muli v97 c512_i32_67
  let v99 : BitVec 32 := v98
  let c256_i32 : BitVec 32 := 256#32
  ![v99.toNat, 256]
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_74 : BitVec 32 := 1#32
  let v100 : BitVec 32 := Scalar.muli v24 c1_i32_74
  let v101 : BitVec 32 := Scalar.addi c0_i32_75 v100
  v101.toNat
def k0_mult6 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_78 : BitVec 32 := 0#32
  let v109 : BitVec 32 := Scalar.addi v2 c0_i32_78
  let c8_i32_79 : BitVec 32 := 8#32
  let c0_i32_80 : BitVec 32 := 0#32
  let v110 : BitVec 1 := Scalar.cmpi .eq c8_i32_79 c0_i32_80
  let c1_i32_81 : BitVec 32 := 1#32
  let v111 : BitVec 32 := Scalar.select v110 c1_i32_81 c8_i32_79
  let v112 : BitVec 32 := Scalar.remsi v109 v111
  let c0_i32_83 : BitVec 32 := 0#32
  let v114 : BitVec 1 := Scalar.cmpi .slt v112 c0_i32_83
  let c0_i32_84 : BitVec 32 := 0#32
  let v115 : BitVec 1 := Scalar.cmpi .slt v111 c0_i32_84
  let v116 : BitVec 1 := Scalar.xori v114 v115
  let c0_i32_82 : BitVec 32 := 0#32
  let v113 : BitVec 1 := Scalar.cmpi .ne v112 c0_i32_82
  let v117 : BitVec 1 := Scalar.andi v116 v113
  let v118 : BitVec 32 := Scalar.addi v112 v111
  let v119 : BitVec 32 := Scalar.select v117 v118 v112
  let c512_i32_85 : BitVec 32 := 512#32
  let v120 : BitVec 32 := Scalar.muli v119 c512_i32_85
  v120
def k0_off6 (d0 : Dev nD) (c0_i32_78 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v109 : BitVec 32 := Scalar.addi v2 c0_i32_78
  let c8_i32_79 : BitVec 32 := 8#32
  let c0_i32_80 : BitVec 32 := 0#32
  let v110 : BitVec 1 := Scalar.cmpi .eq c8_i32_79 c0_i32_80
  let c1_i32_81 : BitVec 32 := 1#32
  let v111 : BitVec 32 := Scalar.select v110 c1_i32_81 c8_i32_79
  let v112 : BitVec 32 := Scalar.remsi v109 v111
  let c0_i32_83 : BitVec 32 := 0#32
  let v114 : BitVec 1 := Scalar.cmpi .slt v112 c0_i32_83
  let c0_i32_84 : BitVec 32 := 0#32
  let v115 : BitVec 1 := Scalar.cmpi .slt v111 c0_i32_84
  let v116 : BitVec 1 := Scalar.xori v114 v115
  let c0_i32_82 : BitVec 32 := 0#32
  let v113 : BitVec 1 := Scalar.cmpi .ne v112 c0_i32_82
  let v117 : BitVec 1 := Scalar.andi v116 v113
  let v118 : BitVec 32 := Scalar.addi v112 v111
  let v119 : BitVec 32 := Scalar.select v117 v118 v112
  let c512_i32_85 : BitVec 32 := 512#32
  let v120 : BitVec 32 := Scalar.muli v119 c512_i32_85
  let v121 : BitVec 32 := v120
  let c1280_i32 : BitVec 32 := 1280#32
  ![v121.toNat, 1280]
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_92 : BitVec 32 := 1#32
  let v122 : BitVec 32 := Scalar.muli v13 c1_i32_92
  let v123 : BitVec 32 := Scalar.addi c0_i32_93 v122
  v123.toNat
def k0_mult7 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_96 : BitVec 32 := 0#32
  let v131 : BitVec 32 := Scalar.subi v2 c0_i32_96
  let c8_i32_97 : BitVec 32 := 8#32
  let c0_i32_98 : BitVec 32 := 0#32
  let v132 : BitVec 1 := Scalar.cmpi .eq c8_i32_97 c0_i32_98
  let c1_i32_99 : BitVec 32 := 1#32
  let v133 : BitVec 32 := Scalar.select v132 c1_i32_99 c8_i32_97
  let v134 : BitVec 32 := Scalar.remsi v131 v133
  let c0_i32_101 : BitVec 32 := 0#32
  let v136 : BitVec 1 := Scalar.cmpi .slt v134 c0_i32_101
  let c0_i32_102 : BitVec 32 := 0#32
  let v137 : BitVec 1 := Scalar.cmpi .slt v133 c0_i32_102
  let v138 : BitVec 1 := Scalar.xori v136 v137
  let c0_i32_100 : BitVec 32 := 0#32
  let v135 : BitVec 1 := Scalar.cmpi .ne v134 c0_i32_100
  let v139 : BitVec 1 := Scalar.andi v138 v135
  let v140 : BitVec 32 := Scalar.addi v134 v133
  let v141 : BitVec 32 := Scalar.select v139 v140 v134
  let c512_i32_103 : BitVec 32 := 512#32
  let v142 : BitVec 32 := Scalar.muli v141 c512_i32_103
  v142
def k0_off7 (d0 : Dev nD) (c0_i32_96 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v131 : BitVec 32 := Scalar.subi v2 c0_i32_96
  let c8_i32_97 : BitVec 32 := 8#32
  let c0_i32_98 : BitVec 32 := 0#32
  let v132 : BitVec 1 := Scalar.cmpi .eq c8_i32_97 c0_i32_98
  let c1_i32_99 : BitVec 32 := 1#32
  let v133 : BitVec 32 := Scalar.select v132 c1_i32_99 c8_i32_97
  let v134 : BitVec 32 := Scalar.remsi v131 v133
  let c0_i32_101 : BitVec 32 := 0#32
  let v136 : BitVec 1 := Scalar.cmpi .slt v134 c0_i32_101
  let c0_i32_102 : BitVec 32 := 0#32
  let v137 : BitVec 1 := Scalar.cmpi .slt v133 c0_i32_102
  let v138 : BitVec 1 := Scalar.xori v136 v137
  let c0_i32_100 : BitVec 32 := 0#32
  let v135 : BitVec 1 := Scalar.cmpi .ne v134 c0_i32_100
  let v139 : BitVec 1 := Scalar.andi v138 v135
  let v140 : BitVec 32 := Scalar.addi v134 v133
  let v141 : BitVec 32 := Scalar.select v139 v140 v134
  let c512_i32_103 : BitVec 32 := 512#32
  let v142 : BitVec 32 := Scalar.muli v141 c512_i32_103
  let v143 : BitVec 32 := v142
  let c512_i32_114 : BitVec 32 := 512#32
  ![v143.toNat, 512]
def k0_dev7 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_110 : BitVec 32 := 1#32
  let v144 : BitVec 32 := Scalar.muli v24 c1_i32_110
  let v145 : BitVec 32 := Scalar.addi c0_i32_111 v144
  v145.toNat
def k0_mult8 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_115 : BitVec 32 := 0#32
  let v153 : BitVec 32 := Scalar.addi v2 c0_i32_115
  let c8_i32_116 : BitVec 32 := 8#32
  let c0_i32_117 : BitVec 32 := 0#32
  let v154 : BitVec 1 := Scalar.cmpi .eq c8_i32_116 c0_i32_117
  let c1_i32_118 : BitVec 32 := 1#32
  let v155 : BitVec 32 := Scalar.select v154 c1_i32_118 c8_i32_116
  let v156 : BitVec 32 := Scalar.remsi v153 v155
  let c0_i32_120 : BitVec 32 := 0#32
  let v158 : BitVec 1 := Scalar.cmpi .slt v156 c0_i32_120
  let c0_i32_121 : BitVec 32 := 0#32
  let v159 : BitVec 1 := Scalar.cmpi .slt v155 c0_i32_121
  let v160 : BitVec 1 := Scalar.xori v158 v159
  let c0_i32_119 : BitVec 32 := 0#32
  let v157 : BitVec 1 := Scalar.cmpi .ne v156 c0_i32_119
  let v161 : BitVec 1 := Scalar.andi v160 v157
  let v162 : BitVec 32 := Scalar.addi v156 v155
  let v163 : BitVec 32 := Scalar.select v161 v162 v156
  let c512_i32_122 : BitVec 32 := 512#32
  let v164 : BitVec 32 := Scalar.muli v163 c512_i32_122
  v164
def k0_off8 (d0 : Dev nD) (c0_i32_115 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v153 : BitVec 32 := Scalar.addi v2 c0_i32_115
  let c8_i32_116 : BitVec 32 := 8#32
  let c0_i32_117 : BitVec 32 := 0#32
  let v154 : BitVec 1 := Scalar.cmpi .eq c8_i32_116 c0_i32_117
  let c1_i32_118 : BitVec 32 := 1#32
  let v155 : BitVec 32 := Scalar.select v154 c1_i32_118 c8_i32_116
  let v156 : BitVec 32 := Scalar.remsi v153 v155
  let c0_i32_120 : BitVec 32 := 0#32
  let v158 : BitVec 1 := Scalar.cmpi .slt v156 c0_i32_120
  let c0_i32_121 : BitVec 32 := 0#32
  let v159 : BitVec 1 := Scalar.cmpi .slt v155 c0_i32_121
  let v160 : BitVec 1 := Scalar.xori v158 v159
  let c0_i32_119 : BitVec 32 := 0#32
  let v157 : BitVec 1 := Scalar.cmpi .ne v156 c0_i32_119
  let v161 : BitVec 1 := Scalar.andi v160 v157
  let v162 : BitVec 32 := Scalar.addi v156 v155
  let v163 : BitVec 32 := Scalar.select v161 v162 v156
  let c512_i32_122 : BitVec 32 := 512#32
  let v164 : BitVec 32 := Scalar.muli v163 c512_i32_122
  let v165 : BitVec 32 := v164
  let c1536_i32 : BitVec 32 := 1536#32
  ![v165.toNat, 1536]
def k0_dev8 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_129 : BitVec 32 := 1#32
  let v166 : BitVec 32 := Scalar.muli v13 c1_i32_129
  let v167 : BitVec 32 := Scalar.addi c0_i32_130 v166
  v167.toNat
def k0_mult9 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_133 : BitVec 32 := 0#32
  let v175 : BitVec 32 := Scalar.subi v2 c0_i32_133
  let c8_i32_134 : BitVec 32 := 8#32
  let c0_i32_135 : BitVec 32 := 0#32
  let v176 : BitVec 1 := Scalar.cmpi .eq c8_i32_134 c0_i32_135
  let c1_i32_136 : BitVec 32 := 1#32
  let v177 : BitVec 32 := Scalar.select v176 c1_i32_136 c8_i32_134
  let v178 : BitVec 32 := Scalar.remsi v175 v177
  let c0_i32_138 : BitVec 32 := 0#32
  let v180 : BitVec 1 := Scalar.cmpi .slt v178 c0_i32_138
  let c0_i32_139 : BitVec 32 := 0#32
  let v181 : BitVec 1 := Scalar.cmpi .slt v177 c0_i32_139
  let v182 : BitVec 1 := Scalar.xori v180 v181
  let c0_i32_137 : BitVec 32 := 0#32
  let v179 : BitVec 1 := Scalar.cmpi .ne v178 c0_i32_137
  let v183 : BitVec 1 := Scalar.andi v182 v179
  let v184 : BitVec 32 := Scalar.addi v178 v177
  let v185 : BitVec 32 := Scalar.select v183 v184 v178
  let c512_i32_140 : BitVec 32 := 512#32
  let v186 : BitVec 32 := Scalar.muli v185 c512_i32_140
  v186
def k0_off9 (d0 : Dev nD) (c0_i32_133 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v175 : BitVec 32 := Scalar.subi v2 c0_i32_133
  let c8_i32_134 : BitVec 32 := 8#32
  let c0_i32_135 : BitVec 32 := 0#32
  let v176 : BitVec 1 := Scalar.cmpi .eq c8_i32_134 c0_i32_135
  let c1_i32_136 : BitVec 32 := 1#32
  let v177 : BitVec 32 := Scalar.select v176 c1_i32_136 c8_i32_134
  let v178 : BitVec 32 := Scalar.remsi v175 v177
  let c0_i32_138 : BitVec 32 := 0#32
  let v180 : BitVec 1 := Scalar.cmpi .slt v178 c0_i32_138
  let c0_i32_139 : BitVec 32 := 0#32
  let v181 : BitVec 1 := Scalar.cmpi .slt v177 c0_i32_139
  let v182 : BitVec 1 := Scalar.xori v180 v181
  let c0_i32_137 : BitVec 32 := 0#32
  let v179 : BitVec 1 := Scalar.cmpi .ne v178 c0_i32_137
  let v183 : BitVec 1 := Scalar.andi v182 v179
  let v184 : BitVec 32 := Scalar.addi v178 v177
  let v185 : BitVec 32 := Scalar.select v183 v184 v178
  let c512_i32_140 : BitVec 32 := 512#32
  let v186 : BitVec 32 := Scalar.muli v185 c512_i32_140
  let v187 : BitVec 32 := v186
  let c768_i32 : BitVec 32 := 768#32
  ![v187.toNat, 768]
def k0_dev9 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_146 : BitVec 32 := 1#32
  let v188 : BitVec 32 := Scalar.muli v24 c1_i32_146
  let v189 : BitVec 32 := Scalar.addi c0_i32_147 v188
  v189.toNat
def k0_mult10 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_150 : BitVec 32 := 0#32
  let v197 : BitVec 32 := Scalar.addi v2 c0_i32_150
  let c8_i32_151 : BitVec 32 := 8#32
  let c0_i32_152 : BitVec 32 := 0#32
  let v198 : BitVec 1 := Scalar.cmpi .eq c8_i32_151 c0_i32_152
  let c1_i32_153 : BitVec 32 := 1#32
  let v199 : BitVec 32 := Scalar.select v198 c1_i32_153 c8_i32_151
  let v200 : BitVec 32 := Scalar.remsi v197 v199
  let c0_i32_155 : BitVec 32 := 0#32
  let v202 : BitVec 1 := Scalar.cmpi .slt v200 c0_i32_155
  let c0_i32_156 : BitVec 32 := 0#32
  let v203 : BitVec 1 := Scalar.cmpi .slt v199 c0_i32_156
  let v204 : BitVec 1 := Scalar.xori v202 v203
  let c0_i32_154 : BitVec 32 := 0#32
  let v201 : BitVec 1 := Scalar.cmpi .ne v200 c0_i32_154
  let v205 : BitVec 1 := Scalar.andi v204 v201
  let v206 : BitVec 32 := Scalar.addi v200 v199
  let v207 : BitVec 32 := Scalar.select v205 v206 v200
  let c512_i32_157 : BitVec 32 := 512#32
  let v208 : BitVec 32 := Scalar.muli v207 c512_i32_157
  v208
def k0_off10 (d0 : Dev nD) (c0_i32_150 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v197 : BitVec 32 := Scalar.addi v2 c0_i32_150
  let c8_i32_151 : BitVec 32 := 8#32
  let c0_i32_152 : BitVec 32 := 0#32
  let v198 : BitVec 1 := Scalar.cmpi .eq c8_i32_151 c0_i32_152
  let c1_i32_153 : BitVec 32 := 1#32
  let v199 : BitVec 32 := Scalar.select v198 c1_i32_153 c8_i32_151
  let v200 : BitVec 32 := Scalar.remsi v197 v199
  let c0_i32_155 : BitVec 32 := 0#32
  let v202 : BitVec 1 := Scalar.cmpi .slt v200 c0_i32_155
  let c0_i32_156 : BitVec 32 := 0#32
  let v203 : BitVec 1 := Scalar.cmpi .slt v199 c0_i32_156
  let v204 : BitVec 1 := Scalar.xori v202 v203
  let c0_i32_154 : BitVec 32 := 0#32
  let v201 : BitVec 1 := Scalar.cmpi .ne v200 c0_i32_154
  let v205 : BitVec 1 := Scalar.andi v204 v201
  let v206 : BitVec 32 := Scalar.addi v200 v199
  let v207 : BitVec 32 := Scalar.select v205 v206 v200
  let c512_i32_157 : BitVec 32 := 512#32
  let v208 : BitVec 32 := Scalar.muli v207 c512_i32_157
  let v209 : BitVec 32 := v208
  let c1792_i32 : BitVec 32 := 1792#32
  ![v209.toNat, 1792]
def k0_dev10 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_164 : BitVec 32 := 1#32
  let v210 : BitVec 32 := Scalar.muli v13 c1_i32_164
  let v211 : BitVec 32 := Scalar.addi c0_i32_165 v210
  v211.toNat
def k0_mult11 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_168 : BitVec 32 := 0#32
  let v219 : BitVec 32 := Scalar.subi v2 c0_i32_168
  let c1_i32_169 : BitVec 32 := 1#32
  let v220 : BitVec 32 := Scalar.subi v219 c1_i32_169
  let c8_i32_170 : BitVec 32 := 8#32
  let c0_i32_171 : BitVec 32 := 0#32
  let v221 : BitVec 1 := Scalar.cmpi .eq c8_i32_170 c0_i32_171
  let c1_i32_172 : BitVec 32 := 1#32
  let v222 : BitVec 32 := Scalar.select v221 c1_i32_172 c8_i32_170
  let v223 : BitVec 32 := Scalar.remsi v220 v222
  let c0_i32_174 : BitVec 32 := 0#32
  let v225 : BitVec 1 := Scalar.cmpi .slt v223 c0_i32_174
  let c0_i32_175 : BitVec 32 := 0#32
  let v226 : BitVec 1 := Scalar.cmpi .slt v222 c0_i32_175
  let v227 : BitVec 1 := Scalar.xori v225 v226
  let c0_i32_173 : BitVec 32 := 0#32
  let v224 : BitVec 1 := Scalar.cmpi .ne v223 c0_i32_173
  let v228 : BitVec 1 := Scalar.andi v227 v224
  let v229 : BitVec 32 := Scalar.addi v223 v222
  let v230 : BitVec 32 := Scalar.select v228 v229 v223
  let c512_i32_176 : BitVec 32 := 512#32
  let v231 : BitVec 32 := Scalar.muli v230 c512_i32_176
  v231
def k0_off11 (d0 : Dev nD) (c0_i32_168 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v219 : BitVec 32 := Scalar.subi v2 c0_i32_168
  let c1_i32_169 : BitVec 32 := 1#32
  let v220 : BitVec 32 := Scalar.subi v219 c1_i32_169
  let c8_i32_170 : BitVec 32 := 8#32
  let c0_i32_171 : BitVec 32 := 0#32
  let v221 : BitVec 1 := Scalar.cmpi .eq c8_i32_170 c0_i32_171
  let c1_i32_172 : BitVec 32 := 1#32
  let v222 : BitVec 32 := Scalar.select v221 c1_i32_172 c8_i32_170
  let v223 : BitVec 32 := Scalar.remsi v220 v222
  let c0_i32_174 : BitVec 32 := 0#32
  let v225 : BitVec 1 := Scalar.cmpi .slt v223 c0_i32_174
  let c0_i32_175 : BitVec 32 := 0#32
  let v226 : BitVec 1 := Scalar.cmpi .slt v222 c0_i32_175
  let v227 : BitVec 1 := Scalar.xori v225 v226
  let c0_i32_173 : BitVec 32 := 0#32
  let v224 : BitVec 1 := Scalar.cmpi .ne v223 c0_i32_173
  let v228 : BitVec 1 := Scalar.andi v227 v224
  let v229 : BitVec 32 := Scalar.addi v223 v222
  let v230 : BitVec 32 := Scalar.select v228 v229 v223
  let c512_i32_176 : BitVec 32 := 512#32
  let v231 : BitVec 32 := Scalar.muli v230 c512_i32_176
  let v232 : BitVec 32 := v231
  let v233 : Index := Scalar.indexCast v232
  let c0_177 : Index := 0#32
  ![v233.toNat, 0]
def k0_mult12 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_168 : BitVec 32 := 0#32
  let v219 : BitVec 32 := Scalar.subi v2 c0_i32_168
  let c1_i32_169 : BitVec 32 := 1#32
  let v220 : BitVec 32 := Scalar.subi v219 c1_i32_169
  let c8_i32_170 : BitVec 32 := 8#32
  let c0_i32_171 : BitVec 32 := 0#32
  let v221 : BitVec 1 := Scalar.cmpi .eq c8_i32_170 c0_i32_171
  let c1_i32_172 : BitVec 32 := 1#32
  let v222 : BitVec 32 := Scalar.select v221 c1_i32_172 c8_i32_170
  let v223 : BitVec 32 := Scalar.remsi v220 v222
  let c0_i32_174 : BitVec 32 := 0#32
  let v225 : BitVec 1 := Scalar.cmpi .slt v223 c0_i32_174
  let c0_i32_175 : BitVec 32 := 0#32
  let v226 : BitVec 1 := Scalar.cmpi .slt v222 c0_i32_175
  let v227 : BitVec 1 := Scalar.xori v225 v226
  let c0_i32_173 : BitVec 32 := 0#32
  let v224 : BitVec 1 := Scalar.cmpi .ne v223 c0_i32_173
  let v228 : BitVec 1 := Scalar.andi v227 v224
  let v229 : BitVec 32 := Scalar.addi v223 v222
  let v230 : BitVec 32 := Scalar.select v228 v229 v223
  let c512_i32_181 : BitVec 32 := 512#32
  let v240 : BitVec 32 := Scalar.muli v230 c512_i32_181
  v240
def k0_off12 (d0 : Dev nD) (c0_i32_168 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v219 : BitVec 32 := Scalar.subi v2 c0_i32_168
  let c1_i32_169 : BitVec 32 := 1#32
  let v220 : BitVec 32 := Scalar.subi v219 c1_i32_169
  let c8_i32_170 : BitVec 32 := 8#32
  let c0_i32_171 : BitVec 32 := 0#32
  let v221 : BitVec 1 := Scalar.cmpi .eq c8_i32_170 c0_i32_171
  let c1_i32_172 : BitVec 32 := 1#32
  let v222 : BitVec 32 := Scalar.select v221 c1_i32_172 c8_i32_170
  let v223 : BitVec 32 := Scalar.remsi v220 v222
  let c0_i32_174 : BitVec 32 := 0#32
  let v225 : BitVec 1 := Scalar.cmpi .slt v223 c0_i32_174
  let c0_i32_175 : BitVec 32 := 0#32
  let v226 : BitVec 1 := Scalar.cmpi .slt v222 c0_i32_175
  let v227 : BitVec 1 := Scalar.xori v225 v226
  let c0_i32_173 : BitVec 32 := 0#32
  let v224 : BitVec 1 := Scalar.cmpi .ne v223 c0_i32_173
  let v228 : BitVec 1 := Scalar.andi v227 v224
  let v229 : BitVec 32 := Scalar.addi v223 v222
  let v230 : BitVec 32 := Scalar.select v228 v229 v223
  let c512_i32_181 : BitVec 32 := 512#32
  let v240 : BitVec 32 := Scalar.muli v230 c512_i32_181
  let v241 : BitVec 32 := v240
  let v242 : Index := Scalar.indexCast v241
  let c0_182 : Index := 0#32
  ![v242.toNat, 0]
def k0_mult13 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_183 : BitVec 32 := 0#32
  let v244 : BitVec 32 := Scalar.addi v2 c0_i32_183
  let c1_i32_184 : BitVec 32 := 1#32
  let v245 : BitVec 32 := Scalar.addi v244 c1_i32_184
  let c8_i32_185 : BitVec 32 := 8#32
  let c0_i32_186 : BitVec 32 := 0#32
  let v246 : BitVec 1 := Scalar.cmpi .eq c8_i32_185 c0_i32_186
  let c1_i32_187 : BitVec 32 := 1#32
  let v247 : BitVec 32 := Scalar.select v246 c1_i32_187 c8_i32_185
  let v248 : BitVec 32 := Scalar.remsi v245 v247
  let c0_i32_189 : BitVec 32 := 0#32
  let v250 : BitVec 1 := Scalar.cmpi .slt v248 c0_i32_189
  let c0_i32_190 : BitVec 32 := 0#32
  let v251 : BitVec 1 := Scalar.cmpi .slt v247 c0_i32_190
  let v252 : BitVec 1 := Scalar.xori v250 v251
  let c0_i32_188 : BitVec 32 := 0#32
  let v249 : BitVec 1 := Scalar.cmpi .ne v248 c0_i32_188
  let v253 : BitVec 1 := Scalar.andi v252 v249
  let v254 : BitVec 32 := Scalar.addi v248 v247
  let v255 : BitVec 32 := Scalar.select v253 v254 v248
  let c512_i32_191 : BitVec 32 := 512#32
  let v256 : BitVec 32 := Scalar.muli v255 c512_i32_191
  v256
def k0_off13 (d0 : Dev nD) (c0_i32_183 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v244 : BitVec 32 := Scalar.addi v2 c0_i32_183
  let c1_i32_184 : BitVec 32 := 1#32
  let v245 : BitVec 32 := Scalar.addi v244 c1_i32_184
  let c8_i32_185 : BitVec 32 := 8#32
  let c0_i32_186 : BitVec 32 := 0#32
  let v246 : BitVec 1 := Scalar.cmpi .eq c8_i32_185 c0_i32_186
  let c1_i32_187 : BitVec 32 := 1#32
  let v247 : BitVec 32 := Scalar.select v246 c1_i32_187 c8_i32_185
  let v248 : BitVec 32 := Scalar.remsi v245 v247
  let c0_i32_189 : BitVec 32 := 0#32
  let v250 : BitVec 1 := Scalar.cmpi .slt v248 c0_i32_189
  let c0_i32_190 : BitVec 32 := 0#32
  let v251 : BitVec 1 := Scalar.cmpi .slt v247 c0_i32_190
  let v252 : BitVec 1 := Scalar.xori v250 v251
  let c0_i32_188 : BitVec 32 := 0#32
  let v249 : BitVec 1 := Scalar.cmpi .ne v248 c0_i32_188
  let v253 : BitVec 1 := Scalar.andi v252 v249
  let v254 : BitVec 32 := Scalar.addi v248 v247
  let v255 : BitVec 32 := Scalar.select v253 v254 v248
  let c512_i32_191 : BitVec 32 := 512#32
  let v256 : BitVec 32 := Scalar.muli v255 c512_i32_191
  let v257 : BitVec 32 := v256
  let v258 : Index := Scalar.indexCast v257
  let c0_192 : Index := 0#32
  ![v258.toNat, 0]
def k0_mult14 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_183 : BitVec 32 := 0#32
  let v244 : BitVec 32 := Scalar.addi v2 c0_i32_183
  let c1_i32_184 : BitVec 32 := 1#32
  let v245 : BitVec 32 := Scalar.addi v244 c1_i32_184
  let c8_i32_185 : BitVec 32 := 8#32
  let c0_i32_186 : BitVec 32 := 0#32
  let v246 : BitVec 1 := Scalar.cmpi .eq c8_i32_185 c0_i32_186
  let c1_i32_187 : BitVec 32 := 1#32
  let v247 : BitVec 32 := Scalar.select v246 c1_i32_187 c8_i32_185
  let v248 : BitVec 32 := Scalar.remsi v245 v247
  let c0_i32_189 : BitVec 32 := 0#32
  let v250 : BitVec 1 := Scalar.cmpi .slt v248 c0_i32_189
  let c0_i32_190 : BitVec 32 := 0#32
  let v251 : BitVec 1 := Scalar.cmpi .slt v247 c0_i32_190
  let v252 : BitVec 1 := Scalar.xori v250 v251
  let c0_i32_188 : BitVec 32 := 0#32
  let v249 : BitVec 1 := Scalar.cmpi .ne v248 c0_i32_188
  let v253 : BitVec 1 := Scalar.andi v252 v249
  let v254 : BitVec 32 := Scalar.addi v248 v247
  let v255 : BitVec 32 := Scalar.select v253 v254 v248
  let c512_i32_196 : BitVec 32 := 512#32
  let v265 : BitVec 32 := Scalar.muli v255 c512_i32_196
  v265
def k0_off14 (d0 : Dev nD) (c0_i32_183 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v244 : BitVec 32 := Scalar.addi v2 c0_i32_183
  let c1_i32_184 : BitVec 32 := 1#32
  let v245 : BitVec 32 := Scalar.addi v244 c1_i32_184
  let c8_i32_185 : BitVec 32 := 8#32
  let c0_i32_186 : BitVec 32 := 0#32
  let v246 : BitVec 1 := Scalar.cmpi .eq c8_i32_185 c0_i32_186
  let c1_i32_187 : BitVec 32 := 1#32
  let v247 : BitVec 32 := Scalar.select v246 c1_i32_187 c8_i32_185
  let v248 : BitVec 32 := Scalar.remsi v245 v247
  let c0_i32_189 : BitVec 32 := 0#32
  let v250 : BitVec 1 := Scalar.cmpi .slt v248 c0_i32_189
  let c0_i32_190 : BitVec 32 := 0#32
  let v251 : BitVec 1 := Scalar.cmpi .slt v247 c0_i32_190
  let v252 : BitVec 1 := Scalar.xori v250 v251
  let c0_i32_188 : BitVec 32 := 0#32
  let v249 : BitVec 1 := Scalar.cmpi .ne v248 c0_i32_188
  let v253 : BitVec 1 := Scalar.andi v252 v249
  let v254 : BitVec 32 := Scalar.addi v248 v247
  let v255 : BitVec 32 := Scalar.select v253 v254 v248
  let c512_i32_196 : BitVec 32 := 512#32
  let v265 : BitVec 32 := Scalar.muli v255 c512_i32_196
  let v266 : BitVec 32 := v265
  let v267 : Index := Scalar.indexCast v266
  let c0_197 : Index := 0#32
  ![v267.toNat, 0]
def k0_mult15 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_198 : BitVec 32 := 0#32
  let v269 : BitVec 32 := Scalar.subi v2 c0_i32_198
  let c1_i32_199 : BitVec 32 := 1#32
  let v270 : BitVec 32 := Scalar.subi v269 c1_i32_199
  let c8_i32_200 : BitVec 32 := 8#32
  let c0_i32_201 : BitVec 32 := 0#32
  let v271 : BitVec 1 := Scalar.cmpi .eq c8_i32_200 c0_i32_201
  let c1_i32_202 : BitVec 32 := 1#32
  let v272 : BitVec 32 := Scalar.select v271 c1_i32_202 c8_i32_200
  let v273 : BitVec 32 := Scalar.remsi v270 v272
  let c0_i32_204 : BitVec 32 := 0#32
  let v275 : BitVec 1 := Scalar.cmpi .slt v273 c0_i32_204
  let c0_i32_205 : BitVec 32 := 0#32
  let v276 : BitVec 1 := Scalar.cmpi .slt v272 c0_i32_205
  let v277 : BitVec 1 := Scalar.xori v275 v276
  let c0_i32_203 : BitVec 32 := 0#32
  let v274 : BitVec 1 := Scalar.cmpi .ne v273 c0_i32_203
  let v278 : BitVec 1 := Scalar.andi v277 v274
  let v279 : BitVec 32 := Scalar.addi v273 v272
  let v280 : BitVec 32 := Scalar.select v278 v279 v273
  let c512_i32_217 : BitVec 32 := 512#32
  let v288 : BitVec 32 := Scalar.muli v280 c512_i32_217
  v288
def k0_off15 (d0 : Dev nD) (c0_i32_198 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v269 : BitVec 32 := Scalar.subi v2 c0_i32_198
  let c1_i32_199 : BitVec 32 := 1#32
  let v270 : BitVec 32 := Scalar.subi v269 c1_i32_199
  let c8_i32_200 : BitVec 32 := 8#32
  let c0_i32_201 : BitVec 32 := 0#32
  let v271 : BitVec 1 := Scalar.cmpi .eq c8_i32_200 c0_i32_201
  let c1_i32_202 : BitVec 32 := 1#32
  let v272 : BitVec 32 := Scalar.select v271 c1_i32_202 c8_i32_200
  let v273 : BitVec 32 := Scalar.remsi v270 v272
  let c0_i32_204 : BitVec 32 := 0#32
  let v275 : BitVec 1 := Scalar.cmpi .slt v273 c0_i32_204
  let c0_i32_205 : BitVec 32 := 0#32
  let v276 : BitVec 1 := Scalar.cmpi .slt v272 c0_i32_205
  let v277 : BitVec 1 := Scalar.xori v275 v276
  let c0_i32_203 : BitVec 32 := 0#32
  let v274 : BitVec 1 := Scalar.cmpi .ne v273 c0_i32_203
  let v278 : BitVec 1 := Scalar.andi v277 v274
  let v279 : BitVec 32 := Scalar.addi v273 v272
  let v280 : BitVec 32 := Scalar.select v278 v279 v273
  let c512_i32_217 : BitVec 32 := 512#32
  let v288 : BitVec 32 := Scalar.muli v280 c512_i32_217
  let v289 : BitVec 32 := v288
  let v290 : Index := Scalar.indexCast v289
  let c0_218 : Index := 0#32
  ![v290.toNat, 0]
def k0_mult16 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_198 : BitVec 32 := 0#32
  let v269 : BitVec 32 := Scalar.subi v2 c0_i32_198
  let c1_i32_199 : BitVec 32 := 1#32
  let v270 : BitVec 32 := Scalar.subi v269 c1_i32_199
  let c8_i32_200 : BitVec 32 := 8#32
  let c0_i32_201 : BitVec 32 := 0#32
  let v271 : BitVec 1 := Scalar.cmpi .eq c8_i32_200 c0_i32_201
  let c1_i32_202 : BitVec 32 := 1#32
  let v272 : BitVec 32 := Scalar.select v271 c1_i32_202 c8_i32_200
  let v273 : BitVec 32 := Scalar.remsi v270 v272
  let c0_i32_204 : BitVec 32 := 0#32
  let v275 : BitVec 1 := Scalar.cmpi .slt v273 c0_i32_204
  let c0_i32_205 : BitVec 32 := 0#32
  let v276 : BitVec 1 := Scalar.cmpi .slt v272 c0_i32_205
  let v277 : BitVec 1 := Scalar.xori v275 v276
  let c0_i32_203 : BitVec 32 := 0#32
  let v274 : BitVec 1 := Scalar.cmpi .ne v273 c0_i32_203
  let v278 : BitVec 1 := Scalar.andi v277 v274
  let v279 : BitVec 32 := Scalar.addi v273 v272
  let v280 : BitVec 32 := Scalar.select v278 v279 v273
  let c512_i32_223 : BitVec 32 := 512#32
  let v296 : BitVec 32 := Scalar.muli v280 c512_i32_223
  v296
def k0_mult17 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_225 : BitVec 32 := 1#32
  let v300 : BitVec 32 := Scalar.subi v2 c1_i32_225
  let c8_i32_226 : BitVec 32 := 8#32
  let c0_i32_227 : BitVec 32 := 0#32
  let v301 : BitVec 1 := Scalar.cmpi .eq c8_i32_226 c0_i32_227
  let c1_i32_228 : BitVec 32 := 1#32
  let v302 : BitVec 32 := Scalar.select v301 c1_i32_228 c8_i32_226
  let v303 : BitVec 32 := Scalar.remsi v300 v302
  let c0_i32_230 : BitVec 32 := 0#32
  let v305 : BitVec 1 := Scalar.cmpi .slt v303 c0_i32_230
  let c0_i32_231 : BitVec 32 := 0#32
  let v306 : BitVec 1 := Scalar.cmpi .slt v302 c0_i32_231
  let v307 : BitVec 1 := Scalar.xori v305 v306
  let c0_i32_229 : BitVec 32 := 0#32
  let v304 : BitVec 1 := Scalar.cmpi .ne v303 c0_i32_229
  let v308 : BitVec 1 := Scalar.andi v307 v304
  let v309 : BitVec 32 := Scalar.addi v303 v302
  let v310 : BitVec 32 := Scalar.select v308 v309 v303
  let c512_i32_232 : BitVec 32 := 512#32
  let v311 : BitVec 32 := Scalar.muli v310 c512_i32_232
  v311
def k0_dev11 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_239 : BitVec 32 := 1#32
  let v313 : BitVec 32 := Scalar.muli v24 c1_i32_239
  let v314 : BitVec 32 := Scalar.addi c0_i32_240 v313
  v314.toNat
def k0_dev12 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_247 : BitVec 32 := 1#32
  let v324 : BitVec 32 := Scalar.muli v13 c1_i32_247
  let v325 : BitVec 32 := Scalar.addi c0_i32_248 v324
  v325.toNat
def k0_mult18 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_249 : BitVec 32 := 0#32
  let v326 : BitVec 32 := Scalar.addi v2 c0_i32_249
  let c1_i32_250 : BitVec 32 := 1#32
  let v327 : BitVec 32 := Scalar.addi v326 c1_i32_250
  let c8_i32_251 : BitVec 32 := 8#32
  let c0_i32_252 : BitVec 32 := 0#32
  let v328 : BitVec 1 := Scalar.cmpi .eq c8_i32_251 c0_i32_252
  let c1_i32_253 : BitVec 32 := 1#32
  let v329 : BitVec 32 := Scalar.select v328 c1_i32_253 c8_i32_251
  let v330 : BitVec 32 := Scalar.remsi v327 v329
  let c0_i32_255 : BitVec 32 := 0#32
  let v332 : BitVec 1 := Scalar.cmpi .slt v330 c0_i32_255
  let c0_i32_256 : BitVec 32 := 0#32
  let v333 : BitVec 1 := Scalar.cmpi .slt v329 c0_i32_256
  let v334 : BitVec 1 := Scalar.xori v332 v333
  let c0_i32_254 : BitVec 32 := 0#32
  let v331 : BitVec 1 := Scalar.cmpi .ne v330 c0_i32_254
  let v335 : BitVec 1 := Scalar.andi v334 v331
  let v336 : BitVec 32 := Scalar.addi v330 v329
  let v337 : BitVec 32 := Scalar.select v335 v336 v330
  let c512_i32_268 : BitVec 32 := 512#32
  let v345 : BitVec 32 := Scalar.muli v337 c512_i32_268
  v345
def k0_off16 (d0 : Dev nD) (c0_i32_249 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v326 : BitVec 32 := Scalar.addi v2 c0_i32_249
  let c1_i32_250 : BitVec 32 := 1#32
  let v327 : BitVec 32 := Scalar.addi v326 c1_i32_250
  let c8_i32_251 : BitVec 32 := 8#32
  let c0_i32_252 : BitVec 32 := 0#32
  let v328 : BitVec 1 := Scalar.cmpi .eq c8_i32_251 c0_i32_252
  let c1_i32_253 : BitVec 32 := 1#32
  let v329 : BitVec 32 := Scalar.select v328 c1_i32_253 c8_i32_251
  let v330 : BitVec 32 := Scalar.remsi v327 v329
  let c0_i32_255 : BitVec 32 := 0#32
  let v332 : BitVec 1 := Scalar.cmpi .slt v330 c0_i32_255
  let c0_i32_256 : BitVec 32 := 0#32
  let v333 : BitVec 1 := Scalar.cmpi .slt v329 c0_i32_256
  let v334 : BitVec 1 := Scalar.xori v332 v333
  let c0_i32_254 : BitVec 32 := 0#32
  let v331 : BitVec 1 := Scalar.cmpi .ne v330 c0_i32_254
  let v335 : BitVec 1 := Scalar.andi v334 v331
  let v336 : BitVec 32 := Scalar.addi v330 v329
  let v337 : BitVec 32 := Scalar.select v335 v336 v330
  let c512_i32_268 : BitVec 32 := 512#32
  let v345 : BitVec 32 := Scalar.muli v337 c512_i32_268
  let v346 : BitVec 32 := v345
  let v347 : Index := Scalar.indexCast v346
  let c1024 : Index := 1024#32
  ![v347.toNat, 1024]
def k0_mult19 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_249 : BitVec 32 := 0#32
  let v326 : BitVec 32 := Scalar.addi v2 c0_i32_249
  let c1_i32_250 : BitVec 32 := 1#32
  let v327 : BitVec 32 := Scalar.addi v326 c1_i32_250
  let c8_i32_251 : BitVec 32 := 8#32
  let c0_i32_252 : BitVec 32 := 0#32
  let v328 : BitVec 1 := Scalar.cmpi .eq c8_i32_251 c0_i32_252
  let c1_i32_253 : BitVec 32 := 1#32
  let v329 : BitVec 32 := Scalar.select v328 c1_i32_253 c8_i32_251
  let v330 : BitVec 32 := Scalar.remsi v327 v329
  let c0_i32_255 : BitVec 32 := 0#32
  let v332 : BitVec 1 := Scalar.cmpi .slt v330 c0_i32_255
  let c0_i32_256 : BitVec 32 := 0#32
  let v333 : BitVec 1 := Scalar.cmpi .slt v329 c0_i32_256
  let v334 : BitVec 1 := Scalar.xori v332 v333
  let c0_i32_254 : BitVec 32 := 0#32
  let v331 : BitVec 1 := Scalar.cmpi .ne v330 c0_i32_254
  let v335 : BitVec 1 := Scalar.andi v334 v331
  let v336 : BitVec 32 := Scalar.addi v330 v329
  let v337 : BitVec 32 := Scalar.select v335 v336 v330
  let c512_i32_273 : BitVec 32 := 512#32
  let v353 : BitVec 32 := Scalar.muli v337 c512_i32_273
  v353
def k0_mult20 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_275 : BitVec 32 := 1#32
  let v357 : BitVec 32 := Scalar.addi v2 c1_i32_275
  let c8_i32_276 : BitVec 32 := 8#32
  let c0_i32_277 : BitVec 32 := 0#32
  let v358 : BitVec 1 := Scalar.cmpi .eq c8_i32_276 c0_i32_277
  let c1_i32_278 : BitVec 32 := 1#32
  let v359 : BitVec 32 := Scalar.select v358 c1_i32_278 c8_i32_276
  let v360 : BitVec 32 := Scalar.remsi v357 v359
  let c0_i32_280 : BitVec 32 := 0#32
  let v362 : BitVec 1 := Scalar.cmpi .slt v360 c0_i32_280
  let c0_i32_281 : BitVec 32 := 0#32
  let v363 : BitVec 1 := Scalar.cmpi .slt v359 c0_i32_281
  let v364 : BitVec 1 := Scalar.xori v362 v363
  let c0_i32_279 : BitVec 32 := 0#32
  let v361 : BitVec 1 := Scalar.cmpi .ne v360 c0_i32_279
  let v365 : BitVec 1 := Scalar.andi v364 v361
  let v366 : BitVec 32 := Scalar.addi v360 v359
  let v367 : BitVec 32 := Scalar.select v365 v366 v360
  let c512_i32_282 : BitVec 32 := 512#32
  let v368 : BitVec 32 := Scalar.muli v367 c512_i32_282
  v368
def k0_dev13 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_289 : BitVec 32 := 1#32
  let v370 : BitVec 32 := Scalar.muli v13 c1_i32_289
  let v371 : BitVec 32 := Scalar.addi c0_i32_290 v370
  v371.toNat
def k0_dev14 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_297 : BitVec 32 := 1#32
  let v381 : BitVec 32 := Scalar.muli v24 c1_i32_297
  let v382 : BitVec 32 := Scalar.addi c0_i32_298 v381
  v382.toNat
def k0_mult21 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_299 : BitVec 32 := 0#32
  let v383 : BitVec 32 := Scalar.subi v2 c0_i32_299
  let c1_i32_300 : BitVec 32 := 1#32
  let v384 : BitVec 32 := Scalar.subi v383 c1_i32_300
  let c8_i32_301 : BitVec 32 := 8#32
  let c0_i32_302 : BitVec 32 := 0#32
  let v385 : BitVec 1 := Scalar.cmpi .eq c8_i32_301 c0_i32_302
  let c1_i32_303 : BitVec 32 := 1#32
  let v386 : BitVec 32 := Scalar.select v385 c1_i32_303 c8_i32_301
  let v387 : BitVec 32 := Scalar.remsi v384 v386
  let c0_i32_305 : BitVec 32 := 0#32
  let v389 : BitVec 1 := Scalar.cmpi .slt v387 c0_i32_305
  let c0_i32_306 : BitVec 32 := 0#32
  let v390 : BitVec 1 := Scalar.cmpi .slt v386 c0_i32_306
  let v391 : BitVec 1 := Scalar.xori v389 v390
  let c0_i32_304 : BitVec 32 := 0#32
  let v388 : BitVec 1 := Scalar.cmpi .ne v387 c0_i32_304
  let v392 : BitVec 1 := Scalar.andi v391 v388
  let v393 : BitVec 32 := Scalar.addi v387 v386
  let v394 : BitVec 32 := Scalar.select v392 v393 v387
  let c512_i32_318 : BitVec 32 := 512#32
  let v402 : BitVec 32 := Scalar.muli v394 c512_i32_318
  v402
def k0_off17 (d0 : Dev nD) (c0_i32_299 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v383 : BitVec 32 := Scalar.subi v2 c0_i32_299
  let c1_i32_300 : BitVec 32 := 1#32
  let v384 : BitVec 32 := Scalar.subi v383 c1_i32_300
  let c8_i32_301 : BitVec 32 := 8#32
  let c0_i32_302 : BitVec 32 := 0#32
  let v385 : BitVec 1 := Scalar.cmpi .eq c8_i32_301 c0_i32_302
  let c1_i32_303 : BitVec 32 := 1#32
  let v386 : BitVec 32 := Scalar.select v385 c1_i32_303 c8_i32_301
  let v387 : BitVec 32 := Scalar.remsi v384 v386
  let c0_i32_305 : BitVec 32 := 0#32
  let v389 : BitVec 1 := Scalar.cmpi .slt v387 c0_i32_305
  let c0_i32_306 : BitVec 32 := 0#32
  let v390 : BitVec 1 := Scalar.cmpi .slt v386 c0_i32_306
  let v391 : BitVec 1 := Scalar.xori v389 v390
  let c0_i32_304 : BitVec 32 := 0#32
  let v388 : BitVec 1 := Scalar.cmpi .ne v387 c0_i32_304
  let v392 : BitVec 1 := Scalar.andi v391 v388
  let v393 : BitVec 32 := Scalar.addi v387 v386
  let v394 : BitVec 32 := Scalar.select v392 v393 v387
  let c512_i32_318 : BitVec 32 := 512#32
  let v402 : BitVec 32 := Scalar.muli v394 c512_i32_318
  let v403 : BitVec 32 := v402
  let v404 : Index := Scalar.indexCast v403
  let c256 : Index := 256#32
  ![v404.toNat, 256]
def k0_mult22 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_299 : BitVec 32 := 0#32
  let v383 : BitVec 32 := Scalar.subi v2 c0_i32_299
  let c1_i32_300 : BitVec 32 := 1#32
  let v384 : BitVec 32 := Scalar.subi v383 c1_i32_300
  let c8_i32_301 : BitVec 32 := 8#32
  let c0_i32_302 : BitVec 32 := 0#32
  let v385 : BitVec 1 := Scalar.cmpi .eq c8_i32_301 c0_i32_302
  let c1_i32_303 : BitVec 32 := 1#32
  let v386 : BitVec 32 := Scalar.select v385 c1_i32_303 c8_i32_301
  let v387 : BitVec 32 := Scalar.remsi v384 v386
  let c0_i32_305 : BitVec 32 := 0#32
  let v389 : BitVec 1 := Scalar.cmpi .slt v387 c0_i32_305
  let c0_i32_306 : BitVec 32 := 0#32
  let v390 : BitVec 1 := Scalar.cmpi .slt v386 c0_i32_306
  let v391 : BitVec 1 := Scalar.xori v389 v390
  let c0_i32_304 : BitVec 32 := 0#32
  let v388 : BitVec 1 := Scalar.cmpi .ne v387 c0_i32_304
  let v392 : BitVec 1 := Scalar.andi v391 v388
  let v393 : BitVec 32 := Scalar.addi v387 v386
  let v394 : BitVec 32 := Scalar.select v392 v393 v387
  let c512_i32_322 : BitVec 32 := 512#32
  let v410 : BitVec 32 := Scalar.muli v394 c512_i32_322
  v410
def k0_mult23 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_324 : BitVec 32 := 1#32
  let v414 : BitVec 32 := Scalar.subi v2 c1_i32_324
  let c8_i32_325 : BitVec 32 := 8#32
  let c0_i32_326 : BitVec 32 := 0#32
  let v415 : BitVec 1 := Scalar.cmpi .eq c8_i32_325 c0_i32_326
  let c1_i32_327 : BitVec 32 := 1#32
  let v416 : BitVec 32 := Scalar.select v415 c1_i32_327 c8_i32_325
  let v417 : BitVec 32 := Scalar.remsi v414 v416
  let c0_i32_329 : BitVec 32 := 0#32
  let v419 : BitVec 1 := Scalar.cmpi .slt v417 c0_i32_329
  let c0_i32_330 : BitVec 32 := 0#32
  let v420 : BitVec 1 := Scalar.cmpi .slt v416 c0_i32_330
  let v421 : BitVec 1 := Scalar.xori v419 v420
  let c0_i32_328 : BitVec 32 := 0#32
  let v418 : BitVec 1 := Scalar.cmpi .ne v417 c0_i32_328
  let v422 : BitVec 1 := Scalar.andi v421 v418
  let v423 : BitVec 32 := Scalar.addi v417 v416
  let v424 : BitVec 32 := Scalar.select v422 v423 v417
  let c512_i32_331 : BitVec 32 := 512#32
  let v425 : BitVec 32 := Scalar.muli v424 c512_i32_331
  v425
def k0_dev15 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_338 : BitVec 32 := 1#32
  let v427 : BitVec 32 := Scalar.muli v24 c1_i32_338
  let v428 : BitVec 32 := Scalar.addi c0_i32_339 v427
  v428.toNat
def k0_dev16 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_346 : BitVec 32 := 1#32
  let v438 : BitVec 32 := Scalar.muli v13 c1_i32_346
  let v439 : BitVec 32 := Scalar.addi c0_i32_347 v438
  v439.toNat
def k0_mult24 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_348 : BitVec 32 := 0#32
  let v440 : BitVec 32 := Scalar.addi v2 c0_i32_348
  let c1_i32_349 : BitVec 32 := 1#32
  let v441 : BitVec 32 := Scalar.addi v440 c1_i32_349
  let c8_i32_350 : BitVec 32 := 8#32
  let c0_i32_351 : BitVec 32 := 0#32
  let v442 : BitVec 1 := Scalar.cmpi .eq c8_i32_350 c0_i32_351
  let c1_i32_352 : BitVec 32 := 1#32
  let v443 : BitVec 32 := Scalar.select v442 c1_i32_352 c8_i32_350
  let v444 : BitVec 32 := Scalar.remsi v441 v443
  let c0_i32_354 : BitVec 32 := 0#32
  let v446 : BitVec 1 := Scalar.cmpi .slt v444 c0_i32_354
  let c0_i32_355 : BitVec 32 := 0#32
  let v447 : BitVec 1 := Scalar.cmpi .slt v443 c0_i32_355
  let v448 : BitVec 1 := Scalar.xori v446 v447
  let c0_i32_353 : BitVec 32 := 0#32
  let v445 : BitVec 1 := Scalar.cmpi .ne v444 c0_i32_353
  let v449 : BitVec 1 := Scalar.andi v448 v445
  let v450 : BitVec 32 := Scalar.addi v444 v443
  let v451 : BitVec 32 := Scalar.select v449 v450 v444
  let c512_i32_367 : BitVec 32 := 512#32
  let v459 : BitVec 32 := Scalar.muli v451 c512_i32_367
  v459
def k0_off18 (d0 : Dev nD) (c0_i32_348 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v440 : BitVec 32 := Scalar.addi v2 c0_i32_348
  let c1_i32_349 : BitVec 32 := 1#32
  let v441 : BitVec 32 := Scalar.addi v440 c1_i32_349
  let c8_i32_350 : BitVec 32 := 8#32
  let c0_i32_351 : BitVec 32 := 0#32
  let v442 : BitVec 1 := Scalar.cmpi .eq c8_i32_350 c0_i32_351
  let c1_i32_352 : BitVec 32 := 1#32
  let v443 : BitVec 32 := Scalar.select v442 c1_i32_352 c8_i32_350
  let v444 : BitVec 32 := Scalar.remsi v441 v443
  let c0_i32_354 : BitVec 32 := 0#32
  let v446 : BitVec 1 := Scalar.cmpi .slt v444 c0_i32_354
  let c0_i32_355 : BitVec 32 := 0#32
  let v447 : BitVec 1 := Scalar.cmpi .slt v443 c0_i32_355
  let v448 : BitVec 1 := Scalar.xori v446 v447
  let c0_i32_353 : BitVec 32 := 0#32
  let v445 : BitVec 1 := Scalar.cmpi .ne v444 c0_i32_353
  let v449 : BitVec 1 := Scalar.andi v448 v445
  let v450 : BitVec 32 := Scalar.addi v444 v443
  let v451 : BitVec 32 := Scalar.select v449 v450 v444
  let c512_i32_367 : BitVec 32 := 512#32
  let v459 : BitVec 32 := Scalar.muli v451 c512_i32_367
  let v460 : BitVec 32 := v459
  let v461 : Index := Scalar.indexCast v460
  let c1280 : Index := 1280#32
  ![v461.toNat, 1280]
def k0_mult25 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_348 : BitVec 32 := 0#32
  let v440 : BitVec 32 := Scalar.addi v2 c0_i32_348
  let c1_i32_349 : BitVec 32 := 1#32
  let v441 : BitVec 32 := Scalar.addi v440 c1_i32_349
  let c8_i32_350 : BitVec 32 := 8#32
  let c0_i32_351 : BitVec 32 := 0#32
  let v442 : BitVec 1 := Scalar.cmpi .eq c8_i32_350 c0_i32_351
  let c1_i32_352 : BitVec 32 := 1#32
  let v443 : BitVec 32 := Scalar.select v442 c1_i32_352 c8_i32_350
  let v444 : BitVec 32 := Scalar.remsi v441 v443
  let c0_i32_354 : BitVec 32 := 0#32
  let v446 : BitVec 1 := Scalar.cmpi .slt v444 c0_i32_354
  let c0_i32_355 : BitVec 32 := 0#32
  let v447 : BitVec 1 := Scalar.cmpi .slt v443 c0_i32_355
  let v448 : BitVec 1 := Scalar.xori v446 v447
  let c0_i32_353 : BitVec 32 := 0#32
  let v445 : BitVec 1 := Scalar.cmpi .ne v444 c0_i32_353
  let v449 : BitVec 1 := Scalar.andi v448 v445
  let v450 : BitVec 32 := Scalar.addi v444 v443
  let v451 : BitVec 32 := Scalar.select v449 v450 v444
  let c512_i32_372 : BitVec 32 := 512#32
  let v467 : BitVec 32 := Scalar.muli v451 c512_i32_372
  v467
def k0_mult26 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_374 : BitVec 32 := 1#32
  let v471 : BitVec 32 := Scalar.addi v2 c1_i32_374
  let c8_i32_375 : BitVec 32 := 8#32
  let c0_i32_376 : BitVec 32 := 0#32
  let v472 : BitVec 1 := Scalar.cmpi .eq c8_i32_375 c0_i32_376
  let c1_i32_377 : BitVec 32 := 1#32
  let v473 : BitVec 32 := Scalar.select v472 c1_i32_377 c8_i32_375
  let v474 : BitVec 32 := Scalar.remsi v471 v473
  let c0_i32_379 : BitVec 32 := 0#32
  let v476 : BitVec 1 := Scalar.cmpi .slt v474 c0_i32_379
  let c0_i32_380 : BitVec 32 := 0#32
  let v477 : BitVec 1 := Scalar.cmpi .slt v473 c0_i32_380
  let v478 : BitVec 1 := Scalar.xori v476 v477
  let c0_i32_378 : BitVec 32 := 0#32
  let v475 : BitVec 1 := Scalar.cmpi .ne v474 c0_i32_378
  let v479 : BitVec 1 := Scalar.andi v478 v475
  let v480 : BitVec 32 := Scalar.addi v474 v473
  let v481 : BitVec 32 := Scalar.select v479 v480 v474
  let c512_i32_381 : BitVec 32 := 512#32
  let v482 : BitVec 32 := Scalar.muli v481 c512_i32_381
  v482
def k0_dev17 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_388 : BitVec 32 := 1#32
  let v484 : BitVec 32 := Scalar.muli v13 c1_i32_388
  let v485 : BitVec 32 := Scalar.addi c0_i32_389 v484
  v485.toNat
def k0_dev18 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_396 : BitVec 32 := 1#32
  let v495 : BitVec 32 := Scalar.muli v24 c1_i32_396
  let v496 : BitVec 32 := Scalar.addi c0_i32_397 v495
  v496.toNat
def k0_mult27 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_398 : BitVec 32 := 0#32
  let v497 : BitVec 32 := Scalar.subi v2 c0_i32_398
  let c1_i32_399 : BitVec 32 := 1#32
  let v498 : BitVec 32 := Scalar.subi v497 c1_i32_399
  let c8_i32_400 : BitVec 32 := 8#32
  let c0_i32_401 : BitVec 32 := 0#32
  let v499 : BitVec 1 := Scalar.cmpi .eq c8_i32_400 c0_i32_401
  let c1_i32_402 : BitVec 32 := 1#32
  let v500 : BitVec 32 := Scalar.select v499 c1_i32_402 c8_i32_400
  let v501 : BitVec 32 := Scalar.remsi v498 v500
  let c0_i32_404 : BitVec 32 := 0#32
  let v503 : BitVec 1 := Scalar.cmpi .slt v501 c0_i32_404
  let c0_i32_405 : BitVec 32 := 0#32
  let v504 : BitVec 1 := Scalar.cmpi .slt v500 c0_i32_405
  let v505 : BitVec 1 := Scalar.xori v503 v504
  let c0_i32_403 : BitVec 32 := 0#32
  let v502 : BitVec 1 := Scalar.cmpi .ne v501 c0_i32_403
  let v506 : BitVec 1 := Scalar.andi v505 v502
  let v507 : BitVec 32 := Scalar.addi v501 v500
  let v508 : BitVec 32 := Scalar.select v506 v507 v501
  let c512_i32_417 : BitVec 32 := 512#32
  let v516 : BitVec 32 := Scalar.muli v508 c512_i32_417
  v516
def k0_off19 (d0 : Dev nD) (c0_i32_398 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v497 : BitVec 32 := Scalar.subi v2 c0_i32_398
  let c1_i32_399 : BitVec 32 := 1#32
  let v498 : BitVec 32 := Scalar.subi v497 c1_i32_399
  let c8_i32_400 : BitVec 32 := 8#32
  let c0_i32_401 : BitVec 32 := 0#32
  let v499 : BitVec 1 := Scalar.cmpi .eq c8_i32_400 c0_i32_401
  let c1_i32_402 : BitVec 32 := 1#32
  let v500 : BitVec 32 := Scalar.select v499 c1_i32_402 c8_i32_400
  let v501 : BitVec 32 := Scalar.remsi v498 v500
  let c0_i32_404 : BitVec 32 := 0#32
  let v503 : BitVec 1 := Scalar.cmpi .slt v501 c0_i32_404
  let c0_i32_405 : BitVec 32 := 0#32
  let v504 : BitVec 1 := Scalar.cmpi .slt v500 c0_i32_405
  let v505 : BitVec 1 := Scalar.xori v503 v504
  let c0_i32_403 : BitVec 32 := 0#32
  let v502 : BitVec 1 := Scalar.cmpi .ne v501 c0_i32_403
  let v506 : BitVec 1 := Scalar.andi v505 v502
  let v507 : BitVec 32 := Scalar.addi v501 v500
  let v508 : BitVec 32 := Scalar.select v506 v507 v501
  let c512_i32_417 : BitVec 32 := 512#32
  let v516 : BitVec 32 := Scalar.muli v508 c512_i32_417
  let v517 : BitVec 32 := v516
  let v518 : Index := Scalar.indexCast v517
  let c512 : Index := 512#32
  ![v518.toNat, 512]
def k0_mult28 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_398 : BitVec 32 := 0#32
  let v497 : BitVec 32 := Scalar.subi v2 c0_i32_398
  let c1_i32_399 : BitVec 32 := 1#32
  let v498 : BitVec 32 := Scalar.subi v497 c1_i32_399
  let c8_i32_400 : BitVec 32 := 8#32
  let c0_i32_401 : BitVec 32 := 0#32
  let v499 : BitVec 1 := Scalar.cmpi .eq c8_i32_400 c0_i32_401
  let c1_i32_402 : BitVec 32 := 1#32
  let v500 : BitVec 32 := Scalar.select v499 c1_i32_402 c8_i32_400
  let v501 : BitVec 32 := Scalar.remsi v498 v500
  let c0_i32_404 : BitVec 32 := 0#32
  let v503 : BitVec 1 := Scalar.cmpi .slt v501 c0_i32_404
  let c0_i32_405 : BitVec 32 := 0#32
  let v504 : BitVec 1 := Scalar.cmpi .slt v500 c0_i32_405
  let v505 : BitVec 1 := Scalar.xori v503 v504
  let c0_i32_403 : BitVec 32 := 0#32
  let v502 : BitVec 1 := Scalar.cmpi .ne v501 c0_i32_403
  let v506 : BitVec 1 := Scalar.andi v505 v502
  let v507 : BitVec 32 := Scalar.addi v501 v500
  let v508 : BitVec 32 := Scalar.select v506 v507 v501
  let c512_i32_421 : BitVec 32 := 512#32
  let v524 : BitVec 32 := Scalar.muli v508 c512_i32_421
  v524
def k0_mult29 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_423 : BitVec 32 := 1#32
  let v528 : BitVec 32 := Scalar.subi v2 c1_i32_423
  let c8_i32_424 : BitVec 32 := 8#32
  let c0_i32_425 : BitVec 32 := 0#32
  let v529 : BitVec 1 := Scalar.cmpi .eq c8_i32_424 c0_i32_425
  let c1_i32_426 : BitVec 32 := 1#32
  let v530 : BitVec 32 := Scalar.select v529 c1_i32_426 c8_i32_424
  let v531 : BitVec 32 := Scalar.remsi v528 v530
  let c0_i32_428 : BitVec 32 := 0#32
  let v533 : BitVec 1 := Scalar.cmpi .slt v531 c0_i32_428
  let c0_i32_429 : BitVec 32 := 0#32
  let v534 : BitVec 1 := Scalar.cmpi .slt v530 c0_i32_429
  let v535 : BitVec 1 := Scalar.xori v533 v534
  let c0_i32_427 : BitVec 32 := 0#32
  let v532 : BitVec 1 := Scalar.cmpi .ne v531 c0_i32_427
  let v536 : BitVec 1 := Scalar.andi v535 v532
  let v537 : BitVec 32 := Scalar.addi v531 v530
  let v538 : BitVec 32 := Scalar.select v536 v537 v531
  let c512_i32_430 : BitVec 32 := 512#32
  let v539 : BitVec 32 := Scalar.muli v538 c512_i32_430
  v539
def k0_dev19 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_437 : BitVec 32 := 1#32
  let v541 : BitVec 32 := Scalar.muli v24 c1_i32_437
  let v542 : BitVec 32 := Scalar.addi c0_i32_438 v541
  v542.toNat
def k0_dev20 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_445 : BitVec 32 := 1#32
  let v552 : BitVec 32 := Scalar.muli v13 c1_i32_445
  let v553 : BitVec 32 := Scalar.addi c0_i32_446 v552
  v553.toNat
def k0_mult30 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_447 : BitVec 32 := 0#32
  let v554 : BitVec 32 := Scalar.addi v2 c0_i32_447
  let c1_i32_448 : BitVec 32 := 1#32
  let v555 : BitVec 32 := Scalar.addi v554 c1_i32_448
  let c8_i32_449 : BitVec 32 := 8#32
  let c0_i32_450 : BitVec 32 := 0#32
  let v556 : BitVec 1 := Scalar.cmpi .eq c8_i32_449 c0_i32_450
  let c1_i32_451 : BitVec 32 := 1#32
  let v557 : BitVec 32 := Scalar.select v556 c1_i32_451 c8_i32_449
  let v558 : BitVec 32 := Scalar.remsi v555 v557
  let c0_i32_453 : BitVec 32 := 0#32
  let v560 : BitVec 1 := Scalar.cmpi .slt v558 c0_i32_453
  let c0_i32_454 : BitVec 32 := 0#32
  let v561 : BitVec 1 := Scalar.cmpi .slt v557 c0_i32_454
  let v562 : BitVec 1 := Scalar.xori v560 v561
  let c0_i32_452 : BitVec 32 := 0#32
  let v559 : BitVec 1 := Scalar.cmpi .ne v558 c0_i32_452
  let v563 : BitVec 1 := Scalar.andi v562 v559
  let v564 : BitVec 32 := Scalar.addi v558 v557
  let v565 : BitVec 32 := Scalar.select v563 v564 v558
  let c512_i32_466 : BitVec 32 := 512#32
  let v573 : BitVec 32 := Scalar.muli v565 c512_i32_466
  v573
def k0_off20 (d0 : Dev nD) (c0_i32_447 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v554 : BitVec 32 := Scalar.addi v2 c0_i32_447
  let c1_i32_448 : BitVec 32 := 1#32
  let v555 : BitVec 32 := Scalar.addi v554 c1_i32_448
  let c8_i32_449 : BitVec 32 := 8#32
  let c0_i32_450 : BitVec 32 := 0#32
  let v556 : BitVec 1 := Scalar.cmpi .eq c8_i32_449 c0_i32_450
  let c1_i32_451 : BitVec 32 := 1#32
  let v557 : BitVec 32 := Scalar.select v556 c1_i32_451 c8_i32_449
  let v558 : BitVec 32 := Scalar.remsi v555 v557
  let c0_i32_453 : BitVec 32 := 0#32
  let v560 : BitVec 1 := Scalar.cmpi .slt v558 c0_i32_453
  let c0_i32_454 : BitVec 32 := 0#32
  let v561 : BitVec 1 := Scalar.cmpi .slt v557 c0_i32_454
  let v562 : BitVec 1 := Scalar.xori v560 v561
  let c0_i32_452 : BitVec 32 := 0#32
  let v559 : BitVec 1 := Scalar.cmpi .ne v558 c0_i32_452
  let v563 : BitVec 1 := Scalar.andi v562 v559
  let v564 : BitVec 32 := Scalar.addi v558 v557
  let v565 : BitVec 32 := Scalar.select v563 v564 v558
  let c512_i32_466 : BitVec 32 := 512#32
  let v573 : BitVec 32 := Scalar.muli v565 c512_i32_466
  let v574 : BitVec 32 := v573
  let v575 : Index := Scalar.indexCast v574
  let c1536 : Index := 1536#32
  ![v575.toNat, 1536]
def k0_mult31 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_447 : BitVec 32 := 0#32
  let v554 : BitVec 32 := Scalar.addi v2 c0_i32_447
  let c1_i32_448 : BitVec 32 := 1#32
  let v555 : BitVec 32 := Scalar.addi v554 c1_i32_448
  let c8_i32_449 : BitVec 32 := 8#32
  let c0_i32_450 : BitVec 32 := 0#32
  let v556 : BitVec 1 := Scalar.cmpi .eq c8_i32_449 c0_i32_450
  let c1_i32_451 : BitVec 32 := 1#32
  let v557 : BitVec 32 := Scalar.select v556 c1_i32_451 c8_i32_449
  let v558 : BitVec 32 := Scalar.remsi v555 v557
  let c0_i32_453 : BitVec 32 := 0#32
  let v560 : BitVec 1 := Scalar.cmpi .slt v558 c0_i32_453
  let c0_i32_454 : BitVec 32 := 0#32
  let v561 : BitVec 1 := Scalar.cmpi .slt v557 c0_i32_454
  let v562 : BitVec 1 := Scalar.xori v560 v561
  let c0_i32_452 : BitVec 32 := 0#32
  let v559 : BitVec 1 := Scalar.cmpi .ne v558 c0_i32_452
  let v563 : BitVec 1 := Scalar.andi v562 v559
  let v564 : BitVec 32 := Scalar.addi v558 v557
  let v565 : BitVec 32 := Scalar.select v563 v564 v558
  let c512_i32_471 : BitVec 32 := 512#32
  let v581 : BitVec 32 := Scalar.muli v565 c512_i32_471
  v581
def k0_mult32 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_473 : BitVec 32 := 1#32
  let v585 : BitVec 32 := Scalar.addi v2 c1_i32_473
  let c8_i32_474 : BitVec 32 := 8#32
  let c0_i32_475 : BitVec 32 := 0#32
  let v586 : BitVec 1 := Scalar.cmpi .eq c8_i32_474 c0_i32_475
  let c1_i32_476 : BitVec 32 := 1#32
  let v587 : BitVec 32 := Scalar.select v586 c1_i32_476 c8_i32_474
  let v588 : BitVec 32 := Scalar.remsi v585 v587
  let c0_i32_478 : BitVec 32 := 0#32
  let v590 : BitVec 1 := Scalar.cmpi .slt v588 c0_i32_478
  let c0_i32_479 : BitVec 32 := 0#32
  let v591 : BitVec 1 := Scalar.cmpi .slt v587 c0_i32_479
  let v592 : BitVec 1 := Scalar.xori v590 v591
  let c0_i32_477 : BitVec 32 := 0#32
  let v589 : BitVec 1 := Scalar.cmpi .ne v588 c0_i32_477
  let v593 : BitVec 1 := Scalar.andi v592 v589
  let v594 : BitVec 32 := Scalar.addi v588 v587
  let v595 : BitVec 32 := Scalar.select v593 v594 v588
  let c512_i32_480 : BitVec 32 := 512#32
  let v596 : BitVec 32 := Scalar.muli v595 c512_i32_480
  v596
def k0_dev21 (d0 : Dev nD) : Nat :=
  let c0_i32_488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_487 : BitVec 32 := 1#32
  let v598 : BitVec 32 := Scalar.muli v13 c1_i32_487
  let v599 : BitVec 32 := Scalar.addi c0_i32_488 v598
  v599.toNat
def k0_dev22 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_495 : BitVec 32 := 1#32
  let v609 : BitVec 32 := Scalar.muli v24 c1_i32_495
  let v610 : BitVec 32 := Scalar.addi c0_i32_496 v609
  v610.toNat
def k0_mult33 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_497 : BitVec 32 := 0#32
  let v611 : BitVec 32 := Scalar.subi v2 c0_i32_497
  let c1_i32_498 : BitVec 32 := 1#32
  let v612 : BitVec 32 := Scalar.subi v611 c1_i32_498
  let c8_i32_499 : BitVec 32 := 8#32
  let c0_i32_500 : BitVec 32 := 0#32
  let v613 : BitVec 1 := Scalar.cmpi .eq c8_i32_499 c0_i32_500
  let c1_i32_501 : BitVec 32 := 1#32
  let v614 : BitVec 32 := Scalar.select v613 c1_i32_501 c8_i32_499
  let v615 : BitVec 32 := Scalar.remsi v612 v614
  let c0_i32_503 : BitVec 32 := 0#32
  let v617 : BitVec 1 := Scalar.cmpi .slt v615 c0_i32_503
  let c0_i32_504 : BitVec 32 := 0#32
  let v618 : BitVec 1 := Scalar.cmpi .slt v614 c0_i32_504
  let v619 : BitVec 1 := Scalar.xori v617 v618
  let c0_i32_502 : BitVec 32 := 0#32
  let v616 : BitVec 1 := Scalar.cmpi .ne v615 c0_i32_502
  let v620 : BitVec 1 := Scalar.andi v619 v616
  let v621 : BitVec 32 := Scalar.addi v615 v614
  let v622 : BitVec 32 := Scalar.select v620 v621 v615
  let c512_i32_516 : BitVec 32 := 512#32
  let v630 : BitVec 32 := Scalar.muli v622 c512_i32_516
  v630
def k0_off21 (d0 : Dev nD) (c0_i32_497 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v611 : BitVec 32 := Scalar.subi v2 c0_i32_497
  let c1_i32_498 : BitVec 32 := 1#32
  let v612 : BitVec 32 := Scalar.subi v611 c1_i32_498
  let c8_i32_499 : BitVec 32 := 8#32
  let c0_i32_500 : BitVec 32 := 0#32
  let v613 : BitVec 1 := Scalar.cmpi .eq c8_i32_499 c0_i32_500
  let c1_i32_501 : BitVec 32 := 1#32
  let v614 : BitVec 32 := Scalar.select v613 c1_i32_501 c8_i32_499
  let v615 : BitVec 32 := Scalar.remsi v612 v614
  let c0_i32_503 : BitVec 32 := 0#32
  let v617 : BitVec 1 := Scalar.cmpi .slt v615 c0_i32_503
  let c0_i32_504 : BitVec 32 := 0#32
  let v618 : BitVec 1 := Scalar.cmpi .slt v614 c0_i32_504
  let v619 : BitVec 1 := Scalar.xori v617 v618
  let c0_i32_502 : BitVec 32 := 0#32
  let v616 : BitVec 1 := Scalar.cmpi .ne v615 c0_i32_502
  let v620 : BitVec 1 := Scalar.andi v619 v616
  let v621 : BitVec 32 := Scalar.addi v615 v614
  let v622 : BitVec 32 := Scalar.select v620 v621 v615
  let c512_i32_516 : BitVec 32 := 512#32
  let v630 : BitVec 32 := Scalar.muli v622 c512_i32_516
  let v631 : BitVec 32 := v630
  let v632 : Index := Scalar.indexCast v631
  let c768 : Index := 768#32
  ![v632.toNat, 768]
def k0_mult34 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_497 : BitVec 32 := 0#32
  let v611 : BitVec 32 := Scalar.subi v2 c0_i32_497
  let c1_i32_498 : BitVec 32 := 1#32
  let v612 : BitVec 32 := Scalar.subi v611 c1_i32_498
  let c8_i32_499 : BitVec 32 := 8#32
  let c0_i32_500 : BitVec 32 := 0#32
  let v613 : BitVec 1 := Scalar.cmpi .eq c8_i32_499 c0_i32_500
  let c1_i32_501 : BitVec 32 := 1#32
  let v614 : BitVec 32 := Scalar.select v613 c1_i32_501 c8_i32_499
  let v615 : BitVec 32 := Scalar.remsi v612 v614
  let c0_i32_503 : BitVec 32 := 0#32
  let v617 : BitVec 1 := Scalar.cmpi .slt v615 c0_i32_503
  let c0_i32_504 : BitVec 32 := 0#32
  let v618 : BitVec 1 := Scalar.cmpi .slt v614 c0_i32_504
  let v619 : BitVec 1 := Scalar.xori v617 v618
  let c0_i32_502 : BitVec 32 := 0#32
  let v616 : BitVec 1 := Scalar.cmpi .ne v615 c0_i32_502
  let v620 : BitVec 1 := Scalar.andi v619 v616
  let v621 : BitVec 32 := Scalar.addi v615 v614
  let v622 : BitVec 32 := Scalar.select v620 v621 v615
  let c512_i32_520 : BitVec 32 := 512#32
  let v638 : BitVec 32 := Scalar.muli v622 c512_i32_520
  v638
def k0_mult35 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_522 : BitVec 32 := 1#32
  let v642 : BitVec 32 := Scalar.subi v2 c1_i32_522
  let c8_i32_523 : BitVec 32 := 8#32
  let c0_i32_524 : BitVec 32 := 0#32
  let v643 : BitVec 1 := Scalar.cmpi .eq c8_i32_523 c0_i32_524
  let c1_i32_525 : BitVec 32 := 1#32
  let v644 : BitVec 32 := Scalar.select v643 c1_i32_525 c8_i32_523
  let v645 : BitVec 32 := Scalar.remsi v642 v644
  let c0_i32_527 : BitVec 32 := 0#32
  let v647 : BitVec 1 := Scalar.cmpi .slt v645 c0_i32_527
  let c0_i32_528 : BitVec 32 := 0#32
  let v648 : BitVec 1 := Scalar.cmpi .slt v644 c0_i32_528
  let v649 : BitVec 1 := Scalar.xori v647 v648
  let c0_i32_526 : BitVec 32 := 0#32
  let v646 : BitVec 1 := Scalar.cmpi .ne v645 c0_i32_526
  let v650 : BitVec 1 := Scalar.andi v649 v646
  let v651 : BitVec 32 := Scalar.addi v645 v644
  let v652 : BitVec 32 := Scalar.select v650 v651 v645
  let c512_i32_529 : BitVec 32 := 512#32
  let v653 : BitVec 32 := Scalar.muli v652 c512_i32_529
  v653
def k0_dev23 (d0 : Dev nD) : Nat :=
  let c0_i32_537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_536 : BitVec 32 := 1#32
  let v655 : BitVec 32 := Scalar.muli v24 c1_i32_536
  let v656 : BitVec 32 := Scalar.addi c0_i32_537 v655
  v656.toNat
def k0_dev24 (d0 : Dev nD) : Nat :=
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_544 : BitVec 32 := 1#32
  let v666 : BitVec 32 := Scalar.muli v13 c1_i32_544
  let v667 : BitVec 32 := Scalar.addi c0_i32_545 v666
  v667.toNat
def k0_mult36 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_546 : BitVec 32 := 0#32
  let v668 : BitVec 32 := Scalar.addi v2 c0_i32_546
  let c1_i32_547 : BitVec 32 := 1#32
  let v669 : BitVec 32 := Scalar.addi v668 c1_i32_547
  let c8_i32_548 : BitVec 32 := 8#32
  let c0_i32_549 : BitVec 32 := 0#32
  let v670 : BitVec 1 := Scalar.cmpi .eq c8_i32_548 c0_i32_549
  let c1_i32_550 : BitVec 32 := 1#32
  let v671 : BitVec 32 := Scalar.select v670 c1_i32_550 c8_i32_548
  let v672 : BitVec 32 := Scalar.remsi v669 v671
  let c0_i32_552 : BitVec 32 := 0#32
  let v674 : BitVec 1 := Scalar.cmpi .slt v672 c0_i32_552
  let c0_i32_553 : BitVec 32 := 0#32
  let v675 : BitVec 1 := Scalar.cmpi .slt v671 c0_i32_553
  let v676 : BitVec 1 := Scalar.xori v674 v675
  let c0_i32_551 : BitVec 32 := 0#32
  let v673 : BitVec 1 := Scalar.cmpi .ne v672 c0_i32_551
  let v677 : BitVec 1 := Scalar.andi v676 v673
  let v678 : BitVec 32 := Scalar.addi v672 v671
  let v679 : BitVec 32 := Scalar.select v677 v678 v672
  let c512_i32_565 : BitVec 32 := 512#32
  let v687 : BitVec 32 := Scalar.muli v679 c512_i32_565
  v687
def k0_off22 (d0 : Dev nD) (c0_i32_546 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v668 : BitVec 32 := Scalar.addi v2 c0_i32_546
  let c1_i32_547 : BitVec 32 := 1#32
  let v669 : BitVec 32 := Scalar.addi v668 c1_i32_547
  let c8_i32_548 : BitVec 32 := 8#32
  let c0_i32_549 : BitVec 32 := 0#32
  let v670 : BitVec 1 := Scalar.cmpi .eq c8_i32_548 c0_i32_549
  let c1_i32_550 : BitVec 32 := 1#32
  let v671 : BitVec 32 := Scalar.select v670 c1_i32_550 c8_i32_548
  let v672 : BitVec 32 := Scalar.remsi v669 v671
  let c0_i32_552 : BitVec 32 := 0#32
  let v674 : BitVec 1 := Scalar.cmpi .slt v672 c0_i32_552
  let c0_i32_553 : BitVec 32 := 0#32
  let v675 : BitVec 1 := Scalar.cmpi .slt v671 c0_i32_553
  let v676 : BitVec 1 := Scalar.xori v674 v675
  let c0_i32_551 : BitVec 32 := 0#32
  let v673 : BitVec 1 := Scalar.cmpi .ne v672 c0_i32_551
  let v677 : BitVec 1 := Scalar.andi v676 v673
  let v678 : BitVec 32 := Scalar.addi v672 v671
  let v679 : BitVec 32 := Scalar.select v677 v678 v672
  let c512_i32_565 : BitVec 32 := 512#32
  let v687 : BitVec 32 := Scalar.muli v679 c512_i32_565
  let v688 : BitVec 32 := v687
  let v689 : Index := Scalar.indexCast v688
  let c1792 : Index := 1792#32
  ![v689.toNat, 1792]
def k0_mult37 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_546 : BitVec 32 := 0#32
  let v668 : BitVec 32 := Scalar.addi v2 c0_i32_546
  let c1_i32_547 : BitVec 32 := 1#32
  let v669 : BitVec 32 := Scalar.addi v668 c1_i32_547
  let c8_i32_548 : BitVec 32 := 8#32
  let c0_i32_549 : BitVec 32 := 0#32
  let v670 : BitVec 1 := Scalar.cmpi .eq c8_i32_548 c0_i32_549
  let c1_i32_550 : BitVec 32 := 1#32
  let v671 : BitVec 32 := Scalar.select v670 c1_i32_550 c8_i32_548
  let v672 : BitVec 32 := Scalar.remsi v669 v671
  let c0_i32_552 : BitVec 32 := 0#32
  let v674 : BitVec 1 := Scalar.cmpi .slt v672 c0_i32_552
  let c0_i32_553 : BitVec 32 := 0#32
  let v675 : BitVec 1 := Scalar.cmpi .slt v671 c0_i32_553
  let v676 : BitVec 1 := Scalar.xori v674 v675
  let c0_i32_551 : BitVec 32 := 0#32
  let v673 : BitVec 1 := Scalar.cmpi .ne v672 c0_i32_551
  let v677 : BitVec 1 := Scalar.andi v676 v673
  let v678 : BitVec 32 := Scalar.addi v672 v671
  let v679 : BitVec 32 := Scalar.select v677 v678 v672
  let c512_i32_570 : BitVec 32 := 512#32
  let v695 : BitVec 32 := Scalar.muli v679 c512_i32_570
  v695
def k0_mult38 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_572 : BitVec 32 := 1#32
  let v699 : BitVec 32 := Scalar.addi v2 c1_i32_572
  let c8_i32_573 : BitVec 32 := 8#32
  let c0_i32_574 : BitVec 32 := 0#32
  let v700 : BitVec 1 := Scalar.cmpi .eq c8_i32_573 c0_i32_574
  let c1_i32_575 : BitVec 32 := 1#32
  let v701 : BitVec 32 := Scalar.select v700 c1_i32_575 c8_i32_573
  let v702 : BitVec 32 := Scalar.remsi v699 v701
  let c0_i32_577 : BitVec 32 := 0#32
  let v704 : BitVec 1 := Scalar.cmpi .slt v702 c0_i32_577
  let c0_i32_578 : BitVec 32 := 0#32
  let v705 : BitVec 1 := Scalar.cmpi .slt v701 c0_i32_578
  let v706 : BitVec 1 := Scalar.xori v704 v705
  let c0_i32_576 : BitVec 32 := 0#32
  let v703 : BitVec 1 := Scalar.cmpi .ne v702 c0_i32_576
  let v707 : BitVec 1 := Scalar.andi v706 v703
  let v708 : BitVec 32 := Scalar.addi v702 v701
  let v709 : BitVec 32 := Scalar.select v707 v708 v702
  let c512_i32_579 : BitVec 32 := 512#32
  let v710 : BitVec 32 := Scalar.muli v709 c512_i32_579
  v710
def k0_dev25 (d0 : Dev nD) : Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_586 : BitVec 32 := 1#32
  let v712 : BitVec 32 := Scalar.muli v13 c1_i32_586
  let v713 : BitVec 32 := Scalar.addi c0_i32_587 v712
  v713.toNat
def k0_dev26 (d0 : Dev nD) : Nat :=
  let c0_i32_595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_594 : BitVec 32 := 1#32
  let v723 : BitVec 32 := Scalar.muli v24 c1_i32_594
  let v724 : BitVec 32 := Scalar.addi c0_i32_595 v723
  v724.toNat
def k0_mult39 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_596 : BitVec 32 := 1#32
  let v725 : BitVec 32 := Scalar.subi v2 c1_i32_596
  let c1_i32_597 : BitVec 32 := 1#32
  let v726 : BitVec 32 := Scalar.subi v725 c1_i32_597
  let c8_i32_598 : BitVec 32 := 8#32
  let c0_i32_599 : BitVec 32 := 0#32
  let v727 : BitVec 1 := Scalar.cmpi .eq c8_i32_598 c0_i32_599
  let c1_i32_600 : BitVec 32 := 1#32
  let v728 : BitVec 32 := Scalar.select v727 c1_i32_600 c8_i32_598
  let v729 : BitVec 32 := Scalar.remsi v726 v728
  let c0_i32_602 : BitVec 32 := 0#32
  let v731 : BitVec 1 := Scalar.cmpi .slt v729 c0_i32_602
  let c0_i32_603 : BitVec 32 := 0#32
  let v732 : BitVec 1 := Scalar.cmpi .slt v728 c0_i32_603
  let v733 : BitVec 1 := Scalar.xori v731 v732
  let c0_i32_601 : BitVec 32 := 0#32
  let v730 : BitVec 1 := Scalar.cmpi .ne v729 c0_i32_601
  let v734 : BitVec 1 := Scalar.andi v733 v730
  let v735 : BitVec 32 := Scalar.addi v729 v728
  let v736 : BitVec 32 := Scalar.select v734 v735 v729
  let c512_i32_604 : BitVec 32 := 512#32
  let v737 : BitVec 32 := Scalar.muli v736 c512_i32_604
  v737
def k0_mult40 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_596 : BitVec 32 := 1#32
  let v725 : BitVec 32 := Scalar.subi v2 c1_i32_596
  let c1_i32_597 : BitVec 32 := 1#32
  let v726 : BitVec 32 := Scalar.subi v725 c1_i32_597
  let c8_i32_598 : BitVec 32 := 8#32
  let c0_i32_599 : BitVec 32 := 0#32
  let v727 : BitVec 1 := Scalar.cmpi .eq c8_i32_598 c0_i32_599
  let c1_i32_600 : BitVec 32 := 1#32
  let v728 : BitVec 32 := Scalar.select v727 c1_i32_600 c8_i32_598
  let v729 : BitVec 32 := Scalar.remsi v726 v728
  let c0_i32_602 : BitVec 32 := 0#32
  let v731 : BitVec 1 := Scalar.cmpi .slt v729 c0_i32_602
  let c0_i32_603 : BitVec 32 := 0#32
  let v732 : BitVec 1 := Scalar.cmpi .slt v728 c0_i32_603
  let v733 : BitVec 1 := Scalar.xori v731 v732
  let c0_i32_601 : BitVec 32 := 0#32
  let v730 : BitVec 1 := Scalar.cmpi .ne v729 c0_i32_601
  let v734 : BitVec 1 := Scalar.andi v733 v730
  let v735 : BitVec 32 := Scalar.addi v729 v728
  let v736 : BitVec 32 := Scalar.select v734 v735 v729
  let c512_i32_609 : BitVec 32 := 512#32
  let v746 : BitVec 32 := Scalar.muli v736 c512_i32_609
  v746
def k0_mult41 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_611 : BitVec 32 := 1#32
  let v750 : BitVec 32 := Scalar.addi v2 c1_i32_611
  let c1_i32_612 : BitVec 32 := 1#32
  let v751 : BitVec 32 := Scalar.addi v750 c1_i32_612
  let c8_i32_613 : BitVec 32 := 8#32
  let c0_i32_614 : BitVec 32 := 0#32
  let v752 : BitVec 1 := Scalar.cmpi .eq c8_i32_613 c0_i32_614
  let c1_i32_615 : BitVec 32 := 1#32
  let v753 : BitVec 32 := Scalar.select v752 c1_i32_615 c8_i32_613
  let v754 : BitVec 32 := Scalar.remsi v751 v753
  let c0_i32_617 : BitVec 32 := 0#32
  let v756 : BitVec 1 := Scalar.cmpi .slt v754 c0_i32_617
  let c0_i32_618 : BitVec 32 := 0#32
  let v757 : BitVec 1 := Scalar.cmpi .slt v753 c0_i32_618
  let v758 : BitVec 1 := Scalar.xori v756 v757
  let c0_i32_616 : BitVec 32 := 0#32
  let v755 : BitVec 1 := Scalar.cmpi .ne v754 c0_i32_616
  let v759 : BitVec 1 := Scalar.andi v758 v755
  let v760 : BitVec 32 := Scalar.addi v754 v753
  let v761 : BitVec 32 := Scalar.select v759 v760 v754
  let c512_i32_619 : BitVec 32 := 512#32
  let v762 : BitVec 32 := Scalar.muli v761 c512_i32_619
  v762
def k0_mult42 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_611 : BitVec 32 := 1#32
  let v750 : BitVec 32 := Scalar.addi v2 c1_i32_611
  let c1_i32_612 : BitVec 32 := 1#32
  let v751 : BitVec 32 := Scalar.addi v750 c1_i32_612
  let c8_i32_613 : BitVec 32 := 8#32
  let c0_i32_614 : BitVec 32 := 0#32
  let v752 : BitVec 1 := Scalar.cmpi .eq c8_i32_613 c0_i32_614
  let c1_i32_615 : BitVec 32 := 1#32
  let v753 : BitVec 32 := Scalar.select v752 c1_i32_615 c8_i32_613
  let v754 : BitVec 32 := Scalar.remsi v751 v753
  let c0_i32_617 : BitVec 32 := 0#32
  let v756 : BitVec 1 := Scalar.cmpi .slt v754 c0_i32_617
  let c0_i32_618 : BitVec 32 := 0#32
  let v757 : BitVec 1 := Scalar.cmpi .slt v753 c0_i32_618
  let v758 : BitVec 1 := Scalar.xori v756 v757
  let c0_i32_616 : BitVec 32 := 0#32
  let v755 : BitVec 1 := Scalar.cmpi .ne v754 c0_i32_616
  let v759 : BitVec 1 := Scalar.andi v758 v755
  let v760 : BitVec 32 := Scalar.addi v754 v753
  let v761 : BitVec 32 := Scalar.select v759 v760 v754
  let c512_i32_624 : BitVec 32 := 512#32
  let v771 : BitVec 32 := Scalar.muli v761 c512_i32_624
  v771
def k0_mult43 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_626 : BitVec 32 := 1#32
  let v775 : BitVec 32 := Scalar.subi v2 c1_i32_626
  let c1_i32_627 : BitVec 32 := 1#32
  let v776 : BitVec 32 := Scalar.subi v775 c1_i32_627
  let c8_i32_628 : BitVec 32 := 8#32
  let c0_i32_629 : BitVec 32 := 0#32
  let v777 : BitVec 1 := Scalar.cmpi .eq c8_i32_628 c0_i32_629
  let c1_i32_630 : BitVec 32 := 1#32
  let v778 : BitVec 32 := Scalar.select v777 c1_i32_630 c8_i32_628
  let v779 : BitVec 32 := Scalar.remsi v776 v778
  let c0_i32_632 : BitVec 32 := 0#32
  let v781 : BitVec 1 := Scalar.cmpi .slt v779 c0_i32_632
  let c0_i32_633 : BitVec 32 := 0#32
  let v782 : BitVec 1 := Scalar.cmpi .slt v778 c0_i32_633
  let v783 : BitVec 1 := Scalar.xori v781 v782
  let c0_i32_631 : BitVec 32 := 0#32
  let v780 : BitVec 1 := Scalar.cmpi .ne v779 c0_i32_631
  let v784 : BitVec 1 := Scalar.andi v783 v780
  let v785 : BitVec 32 := Scalar.addi v779 v778
  let v786 : BitVec 32 := Scalar.select v784 v785 v779
  let c512_i32_645 : BitVec 32 := 512#32
  let v794 : BitVec 32 := Scalar.muli v786 c512_i32_645
  v794
def k0_mult44 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_626 : BitVec 32 := 1#32
  let v775 : BitVec 32 := Scalar.subi v2 c1_i32_626
  let c1_i32_627 : BitVec 32 := 1#32
  let v776 : BitVec 32 := Scalar.subi v775 c1_i32_627
  let c8_i32_628 : BitVec 32 := 8#32
  let c0_i32_629 : BitVec 32 := 0#32
  let v777 : BitVec 1 := Scalar.cmpi .eq c8_i32_628 c0_i32_629
  let c1_i32_630 : BitVec 32 := 1#32
  let v778 : BitVec 32 := Scalar.select v777 c1_i32_630 c8_i32_628
  let v779 : BitVec 32 := Scalar.remsi v776 v778
  let c0_i32_632 : BitVec 32 := 0#32
  let v781 : BitVec 1 := Scalar.cmpi .slt v779 c0_i32_632
  let c0_i32_633 : BitVec 32 := 0#32
  let v782 : BitVec 1 := Scalar.cmpi .slt v778 c0_i32_633
  let v783 : BitVec 1 := Scalar.xori v781 v782
  let c0_i32_631 : BitVec 32 := 0#32
  let v780 : BitVec 1 := Scalar.cmpi .ne v779 c0_i32_631
  let v784 : BitVec 1 := Scalar.andi v783 v780
  let v785 : BitVec 32 := Scalar.addi v779 v778
  let v786 : BitVec 32 := Scalar.select v784 v785 v779
  let c512_i32_651 : BitVec 32 := 512#32
  let v802 : BitVec 32 := Scalar.muli v786 c512_i32_651
  v802
def k0_mult45 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_667 : BitVec 32 := 2#32
  let v813 : BitVec 32 := Scalar.subi v2 c2_i32_667
  let c8_i32_668 : BitVec 32 := 8#32
  let c0_i32_669 : BitVec 32 := 0#32
  let v814 : BitVec 1 := Scalar.cmpi .eq c8_i32_668 c0_i32_669
  let c1_i32_670 : BitVec 32 := 1#32
  let v815 : BitVec 32 := Scalar.select v814 c1_i32_670 c8_i32_668
  let v816 : BitVec 32 := Scalar.remsi v813 v815
  let c0_i32_672 : BitVec 32 := 0#32
  let v818 : BitVec 1 := Scalar.cmpi .slt v816 c0_i32_672
  let c0_i32_673 : BitVec 32 := 0#32
  let v819 : BitVec 1 := Scalar.cmpi .slt v815 c0_i32_673
  let v820 : BitVec 1 := Scalar.xori v818 v819
  let c0_i32_671 : BitVec 32 := 0#32
  let v817 : BitVec 1 := Scalar.cmpi .ne v816 c0_i32_671
  let v821 : BitVec 1 := Scalar.andi v820 v817
  let v822 : BitVec 32 := Scalar.addi v816 v815
  let v823 : BitVec 32 := Scalar.select v821 v822 v816
  let c512_i32_674 : BitVec 32 := 512#32
  let v824 : BitVec 32 := Scalar.muli v823 c512_i32_674
  v824
def k0_dev27 (d0 : Dev nD) : Nat :=
  let c0_i32_682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_681 : BitVec 32 := 1#32
  let v826 : BitVec 32 := Scalar.muli v24 c1_i32_681
  let v827 : BitVec 32 := Scalar.addi c0_i32_682 v826
  v827.toNat
def k0_dev28 (d0 : Dev nD) : Nat :=
  let c0_i32_690 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_689 : BitVec 32 := 1#32
  let v837 : BitVec 32 := Scalar.muli v13 c1_i32_689
  let v838 : BitVec 32 := Scalar.addi c0_i32_690 v837
  v838.toNat
def k0_mult46 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_691 : BitVec 32 := 1#32
  let v839 : BitVec 32 := Scalar.addi v2 c1_i32_691
  let c1_i32_692 : BitVec 32 := 1#32
  let v840 : BitVec 32 := Scalar.addi v839 c1_i32_692
  let c8_i32_693 : BitVec 32 := 8#32
  let c0_i32_694 : BitVec 32 := 0#32
  let v841 : BitVec 1 := Scalar.cmpi .eq c8_i32_693 c0_i32_694
  let c1_i32_695 : BitVec 32 := 1#32
  let v842 : BitVec 32 := Scalar.select v841 c1_i32_695 c8_i32_693
  let v843 : BitVec 32 := Scalar.remsi v840 v842
  let c0_i32_697 : BitVec 32 := 0#32
  let v845 : BitVec 1 := Scalar.cmpi .slt v843 c0_i32_697
  let c0_i32_698 : BitVec 32 := 0#32
  let v846 : BitVec 1 := Scalar.cmpi .slt v842 c0_i32_698
  let v847 : BitVec 1 := Scalar.xori v845 v846
  let c0_i32_696 : BitVec 32 := 0#32
  let v844 : BitVec 1 := Scalar.cmpi .ne v843 c0_i32_696
  let v848 : BitVec 1 := Scalar.andi v847 v844
  let v849 : BitVec 32 := Scalar.addi v843 v842
  let v850 : BitVec 32 := Scalar.select v848 v849 v843
  let c512_i32_710 : BitVec 32 := 512#32
  let v858 : BitVec 32 := Scalar.muli v850 c512_i32_710
  v858
def k0_mult47 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_691 : BitVec 32 := 1#32
  let v839 : BitVec 32 := Scalar.addi v2 c1_i32_691
  let c1_i32_692 : BitVec 32 := 1#32
  let v840 : BitVec 32 := Scalar.addi v839 c1_i32_692
  let c8_i32_693 : BitVec 32 := 8#32
  let c0_i32_694 : BitVec 32 := 0#32
  let v841 : BitVec 1 := Scalar.cmpi .eq c8_i32_693 c0_i32_694
  let c1_i32_695 : BitVec 32 := 1#32
  let v842 : BitVec 32 := Scalar.select v841 c1_i32_695 c8_i32_693
  let v843 : BitVec 32 := Scalar.remsi v840 v842
  let c0_i32_697 : BitVec 32 := 0#32
  let v845 : BitVec 1 := Scalar.cmpi .slt v843 c0_i32_697
  let c0_i32_698 : BitVec 32 := 0#32
  let v846 : BitVec 1 := Scalar.cmpi .slt v842 c0_i32_698
  let v847 : BitVec 1 := Scalar.xori v845 v846
  let c0_i32_696 : BitVec 32 := 0#32
  let v844 : BitVec 1 := Scalar.cmpi .ne v843 c0_i32_696
  let v848 : BitVec 1 := Scalar.andi v847 v844
  let v849 : BitVec 32 := Scalar.addi v843 v842
  let v850 : BitVec 32 := Scalar.select v848 v849 v843
  let c512_i32_716 : BitVec 32 := 512#32
  let v866 : BitVec 32 := Scalar.muli v850 c512_i32_716
  v866
def k0_mult48 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_732 : BitVec 32 := 2#32
  let v877 : BitVec 32 := Scalar.addi v2 c2_i32_732
  let c8_i32_733 : BitVec 32 := 8#32
  let c0_i32_734 : BitVec 32 := 0#32
  let v878 : BitVec 1 := Scalar.cmpi .eq c8_i32_733 c0_i32_734
  let c1_i32_735 : BitVec 32 := 1#32
  let v879 : BitVec 32 := Scalar.select v878 c1_i32_735 c8_i32_733
  let v880 : BitVec 32 := Scalar.remsi v877 v879
  let c0_i32_737 : BitVec 32 := 0#32
  let v882 : BitVec 1 := Scalar.cmpi .slt v880 c0_i32_737
  let c0_i32_738 : BitVec 32 := 0#32
  let v883 : BitVec 1 := Scalar.cmpi .slt v879 c0_i32_738
  let v884 : BitVec 1 := Scalar.xori v882 v883
  let c0_i32_736 : BitVec 32 := 0#32
  let v881 : BitVec 1 := Scalar.cmpi .ne v880 c0_i32_736
  let v885 : BitVec 1 := Scalar.andi v884 v881
  let v886 : BitVec 32 := Scalar.addi v880 v879
  let v887 : BitVec 32 := Scalar.select v885 v886 v880
  let c512_i32_739 : BitVec 32 := 512#32
  let v888 : BitVec 32 := Scalar.muli v887 c512_i32_739
  v888
def k0_dev29 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_746 : BitVec 32 := 1#32
  let v890 : BitVec 32 := Scalar.muli v13 c1_i32_746
  let v891 : BitVec 32 := Scalar.addi c0_i32_747 v890
  v891.toNat
def k0_dev30 (d0 : Dev nD) : Nat :=
  let c0_i32_755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_754 : BitVec 32 := 1#32
  let v901 : BitVec 32 := Scalar.muli v24 c1_i32_754
  let v902 : BitVec 32 := Scalar.addi c0_i32_755 v901
  v902.toNat
def k0_mult49 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_756 : BitVec 32 := 1#32
  let v903 : BitVec 32 := Scalar.subi v2 c1_i32_756
  let c1_i32_757 : BitVec 32 := 1#32
  let v904 : BitVec 32 := Scalar.subi v903 c1_i32_757
  let c8_i32_758 : BitVec 32 := 8#32
  let c0_i32_759 : BitVec 32 := 0#32
  let v905 : BitVec 1 := Scalar.cmpi .eq c8_i32_758 c0_i32_759
  let c1_i32_760 : BitVec 32 := 1#32
  let v906 : BitVec 32 := Scalar.select v905 c1_i32_760 c8_i32_758
  let v907 : BitVec 32 := Scalar.remsi v904 v906
  let c0_i32_762 : BitVec 32 := 0#32
  let v909 : BitVec 1 := Scalar.cmpi .slt v907 c0_i32_762
  let c0_i32_763 : BitVec 32 := 0#32
  let v910 : BitVec 1 := Scalar.cmpi .slt v906 c0_i32_763
  let v911 : BitVec 1 := Scalar.xori v909 v910
  let c0_i32_761 : BitVec 32 := 0#32
  let v908 : BitVec 1 := Scalar.cmpi .ne v907 c0_i32_761
  let v912 : BitVec 1 := Scalar.andi v911 v908
  let v913 : BitVec 32 := Scalar.addi v907 v906
  let v914 : BitVec 32 := Scalar.select v912 v913 v907
  let c512_i32_775 : BitVec 32 := 512#32
  let v922 : BitVec 32 := Scalar.muli v914 c512_i32_775
  v922
def k0_mult50 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_756 : BitVec 32 := 1#32
  let v903 : BitVec 32 := Scalar.subi v2 c1_i32_756
  let c1_i32_757 : BitVec 32 := 1#32
  let v904 : BitVec 32 := Scalar.subi v903 c1_i32_757
  let c8_i32_758 : BitVec 32 := 8#32
  let c0_i32_759 : BitVec 32 := 0#32
  let v905 : BitVec 1 := Scalar.cmpi .eq c8_i32_758 c0_i32_759
  let c1_i32_760 : BitVec 32 := 1#32
  let v906 : BitVec 32 := Scalar.select v905 c1_i32_760 c8_i32_758
  let v907 : BitVec 32 := Scalar.remsi v904 v906
  let c0_i32_762 : BitVec 32 := 0#32
  let v909 : BitVec 1 := Scalar.cmpi .slt v907 c0_i32_762
  let c0_i32_763 : BitVec 32 := 0#32
  let v910 : BitVec 1 := Scalar.cmpi .slt v906 c0_i32_763
  let v911 : BitVec 1 := Scalar.xori v909 v910
  let c0_i32_761 : BitVec 32 := 0#32
  let v908 : BitVec 1 := Scalar.cmpi .ne v907 c0_i32_761
  let v912 : BitVec 1 := Scalar.andi v911 v908
  let v913 : BitVec 32 := Scalar.addi v907 v906
  let v914 : BitVec 32 := Scalar.select v912 v913 v907
  let c512_i32_781 : BitVec 32 := 512#32
  let v930 : BitVec 32 := Scalar.muli v914 c512_i32_781
  v930
def k0_mult51 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_797 : BitVec 32 := 2#32
  let v941 : BitVec 32 := Scalar.subi v2 c2_i32_797
  let c8_i32_798 : BitVec 32 := 8#32
  let c0_i32_799 : BitVec 32 := 0#32
  let v942 : BitVec 1 := Scalar.cmpi .eq c8_i32_798 c0_i32_799
  let c1_i32_800 : BitVec 32 := 1#32
  let v943 : BitVec 32 := Scalar.select v942 c1_i32_800 c8_i32_798
  let v944 : BitVec 32 := Scalar.remsi v941 v943
  let c0_i32_802 : BitVec 32 := 0#32
  let v946 : BitVec 1 := Scalar.cmpi .slt v944 c0_i32_802
  let c0_i32_803 : BitVec 32 := 0#32
  let v947 : BitVec 1 := Scalar.cmpi .slt v943 c0_i32_803
  let v948 : BitVec 1 := Scalar.xori v946 v947
  let c0_i32_801 : BitVec 32 := 0#32
  let v945 : BitVec 1 := Scalar.cmpi .ne v944 c0_i32_801
  let v949 : BitVec 1 := Scalar.andi v948 v945
  let v950 : BitVec 32 := Scalar.addi v944 v943
  let v951 : BitVec 32 := Scalar.select v949 v950 v944
  let c512_i32_804 : BitVec 32 := 512#32
  let v952 : BitVec 32 := Scalar.muli v951 c512_i32_804
  v952
def k0_dev31 (d0 : Dev nD) : Nat :=
  let c0_i32_812 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_811 : BitVec 32 := 1#32
  let v954 : BitVec 32 := Scalar.muli v24 c1_i32_811
  let v955 : BitVec 32 := Scalar.addi c0_i32_812 v954
  v955.toNat
def k0_dev32 (d0 : Dev nD) : Nat :=
  let c0_i32_820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_819 : BitVec 32 := 1#32
  let v965 : BitVec 32 := Scalar.muli v13 c1_i32_819
  let v966 : BitVec 32 := Scalar.addi c0_i32_820 v965
  v966.toNat
def k0_mult52 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_821 : BitVec 32 := 1#32
  let v967 : BitVec 32 := Scalar.addi v2 c1_i32_821
  let c1_i32_822 : BitVec 32 := 1#32
  let v968 : BitVec 32 := Scalar.addi v967 c1_i32_822
  let c8_i32_823 : BitVec 32 := 8#32
  let c0_i32_824 : BitVec 32 := 0#32
  let v969 : BitVec 1 := Scalar.cmpi .eq c8_i32_823 c0_i32_824
  let c1_i32_825 : BitVec 32 := 1#32
  let v970 : BitVec 32 := Scalar.select v969 c1_i32_825 c8_i32_823
  let v971 : BitVec 32 := Scalar.remsi v968 v970
  let c0_i32_827 : BitVec 32 := 0#32
  let v973 : BitVec 1 := Scalar.cmpi .slt v971 c0_i32_827
  let c0_i32_828 : BitVec 32 := 0#32
  let v974 : BitVec 1 := Scalar.cmpi .slt v970 c0_i32_828
  let v975 : BitVec 1 := Scalar.xori v973 v974
  let c0_i32_826 : BitVec 32 := 0#32
  let v972 : BitVec 1 := Scalar.cmpi .ne v971 c0_i32_826
  let v976 : BitVec 1 := Scalar.andi v975 v972
  let v977 : BitVec 32 := Scalar.addi v971 v970
  let v978 : BitVec 32 := Scalar.select v976 v977 v971
  let c512_i32_840 : BitVec 32 := 512#32
  let v986 : BitVec 32 := Scalar.muli v978 c512_i32_840
  v986
def k0_mult53 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_821 : BitVec 32 := 1#32
  let v967 : BitVec 32 := Scalar.addi v2 c1_i32_821
  let c1_i32_822 : BitVec 32 := 1#32
  let v968 : BitVec 32 := Scalar.addi v967 c1_i32_822
  let c8_i32_823 : BitVec 32 := 8#32
  let c0_i32_824 : BitVec 32 := 0#32
  let v969 : BitVec 1 := Scalar.cmpi .eq c8_i32_823 c0_i32_824
  let c1_i32_825 : BitVec 32 := 1#32
  let v970 : BitVec 32 := Scalar.select v969 c1_i32_825 c8_i32_823
  let v971 : BitVec 32 := Scalar.remsi v968 v970
  let c0_i32_827 : BitVec 32 := 0#32
  let v973 : BitVec 1 := Scalar.cmpi .slt v971 c0_i32_827
  let c0_i32_828 : BitVec 32 := 0#32
  let v974 : BitVec 1 := Scalar.cmpi .slt v970 c0_i32_828
  let v975 : BitVec 1 := Scalar.xori v973 v974
  let c0_i32_826 : BitVec 32 := 0#32
  let v972 : BitVec 1 := Scalar.cmpi .ne v971 c0_i32_826
  let v976 : BitVec 1 := Scalar.andi v975 v972
  let v977 : BitVec 32 := Scalar.addi v971 v970
  let v978 : BitVec 32 := Scalar.select v976 v977 v971
  let c512_i32_846 : BitVec 32 := 512#32
  let v994 : BitVec 32 := Scalar.muli v978 c512_i32_846
  v994
def k0_mult54 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_862 : BitVec 32 := 2#32
  let v1005 : BitVec 32 := Scalar.addi v2 c2_i32_862
  let c8_i32_863 : BitVec 32 := 8#32
  let c0_i32_864 : BitVec 32 := 0#32
  let v1006 : BitVec 1 := Scalar.cmpi .eq c8_i32_863 c0_i32_864
  let c1_i32_865 : BitVec 32 := 1#32
  let v1007 : BitVec 32 := Scalar.select v1006 c1_i32_865 c8_i32_863
  let v1008 : BitVec 32 := Scalar.remsi v1005 v1007
  let c0_i32_867 : BitVec 32 := 0#32
  let v1010 : BitVec 1 := Scalar.cmpi .slt v1008 c0_i32_867
  let c0_i32_868 : BitVec 32 := 0#32
  let v1011 : BitVec 1 := Scalar.cmpi .slt v1007 c0_i32_868
  let v1012 : BitVec 1 := Scalar.xori v1010 v1011
  let c0_i32_866 : BitVec 32 := 0#32
  let v1009 : BitVec 1 := Scalar.cmpi .ne v1008 c0_i32_866
  let v1013 : BitVec 1 := Scalar.andi v1012 v1009
  let v1014 : BitVec 32 := Scalar.addi v1008 v1007
  let v1015 : BitVec 32 := Scalar.select v1013 v1014 v1008
  let c512_i32_869 : BitVec 32 := 512#32
  let v1016 : BitVec 32 := Scalar.muli v1015 c512_i32_869
  v1016
def k0_dev33 (d0 : Dev nD) : Nat :=
  let c0_i32_877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_876 : BitVec 32 := 1#32
  let v1018 : BitVec 32 := Scalar.muli v13 c1_i32_876
  let v1019 : BitVec 32 := Scalar.addi c0_i32_877 v1018
  v1019.toNat
def k0_dev34 (d0 : Dev nD) : Nat :=
  let c0_i32_885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_884 : BitVec 32 := 1#32
  let v1029 : BitVec 32 := Scalar.muli v24 c1_i32_884
  let v1030 : BitVec 32 := Scalar.addi c0_i32_885 v1029
  v1030.toNat
def k0_mult55 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_886 : BitVec 32 := 1#32
  let v1031 : BitVec 32 := Scalar.subi v2 c1_i32_886
  let c1_i32_887 : BitVec 32 := 1#32
  let v1032 : BitVec 32 := Scalar.subi v1031 c1_i32_887
  let c8_i32_888 : BitVec 32 := 8#32
  let c0_i32_889 : BitVec 32 := 0#32
  let v1033 : BitVec 1 := Scalar.cmpi .eq c8_i32_888 c0_i32_889
  let c1_i32_890 : BitVec 32 := 1#32
  let v1034 : BitVec 32 := Scalar.select v1033 c1_i32_890 c8_i32_888
  let v1035 : BitVec 32 := Scalar.remsi v1032 v1034
  let c0_i32_892 : BitVec 32 := 0#32
  let v1037 : BitVec 1 := Scalar.cmpi .slt v1035 c0_i32_892
  let c0_i32_893 : BitVec 32 := 0#32
  let v1038 : BitVec 1 := Scalar.cmpi .slt v1034 c0_i32_893
  let v1039 : BitVec 1 := Scalar.xori v1037 v1038
  let c0_i32_891 : BitVec 32 := 0#32
  let v1036 : BitVec 1 := Scalar.cmpi .ne v1035 c0_i32_891
  let v1040 : BitVec 1 := Scalar.andi v1039 v1036
  let v1041 : BitVec 32 := Scalar.addi v1035 v1034
  let v1042 : BitVec 32 := Scalar.select v1040 v1041 v1035
  let c512_i32_905 : BitVec 32 := 512#32
  let v1050 : BitVec 32 := Scalar.muli v1042 c512_i32_905
  v1050
def k0_mult56 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_886 : BitVec 32 := 1#32
  let v1031 : BitVec 32 := Scalar.subi v2 c1_i32_886
  let c1_i32_887 : BitVec 32 := 1#32
  let v1032 : BitVec 32 := Scalar.subi v1031 c1_i32_887
  let c8_i32_888 : BitVec 32 := 8#32
  let c0_i32_889 : BitVec 32 := 0#32
  let v1033 : BitVec 1 := Scalar.cmpi .eq c8_i32_888 c0_i32_889
  let c1_i32_890 : BitVec 32 := 1#32
  let v1034 : BitVec 32 := Scalar.select v1033 c1_i32_890 c8_i32_888
  let v1035 : BitVec 32 := Scalar.remsi v1032 v1034
  let c0_i32_892 : BitVec 32 := 0#32
  let v1037 : BitVec 1 := Scalar.cmpi .slt v1035 c0_i32_892
  let c0_i32_893 : BitVec 32 := 0#32
  let v1038 : BitVec 1 := Scalar.cmpi .slt v1034 c0_i32_893
  let v1039 : BitVec 1 := Scalar.xori v1037 v1038
  let c0_i32_891 : BitVec 32 := 0#32
  let v1036 : BitVec 1 := Scalar.cmpi .ne v1035 c0_i32_891
  let v1040 : BitVec 1 := Scalar.andi v1039 v1036
  let v1041 : BitVec 32 := Scalar.addi v1035 v1034
  let v1042 : BitVec 32 := Scalar.select v1040 v1041 v1035
  let c512_i32_911 : BitVec 32 := 512#32
  let v1058 : BitVec 32 := Scalar.muli v1042 c512_i32_911
  v1058
def k0_mult57 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_927 : BitVec 32 := 2#32
  let v1069 : BitVec 32 := Scalar.subi v2 c2_i32_927
  let c8_i32_928 : BitVec 32 := 8#32
  let c0_i32_929 : BitVec 32 := 0#32
  let v1070 : BitVec 1 := Scalar.cmpi .eq c8_i32_928 c0_i32_929
  let c1_i32_930 : BitVec 32 := 1#32
  let v1071 : BitVec 32 := Scalar.select v1070 c1_i32_930 c8_i32_928
  let v1072 : BitVec 32 := Scalar.remsi v1069 v1071
  let c0_i32_932 : BitVec 32 := 0#32
  let v1074 : BitVec 1 := Scalar.cmpi .slt v1072 c0_i32_932
  let c0_i32_933 : BitVec 32 := 0#32
  let v1075 : BitVec 1 := Scalar.cmpi .slt v1071 c0_i32_933
  let v1076 : BitVec 1 := Scalar.xori v1074 v1075
  let c0_i32_931 : BitVec 32 := 0#32
  let v1073 : BitVec 1 := Scalar.cmpi .ne v1072 c0_i32_931
  let v1077 : BitVec 1 := Scalar.andi v1076 v1073
  let v1078 : BitVec 32 := Scalar.addi v1072 v1071
  let v1079 : BitVec 32 := Scalar.select v1077 v1078 v1072
  let c512_i32_934 : BitVec 32 := 512#32
  let v1080 : BitVec 32 := Scalar.muli v1079 c512_i32_934
  v1080
def k0_dev35 (d0 : Dev nD) : Nat :=
  let c0_i32_942 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_941 : BitVec 32 := 1#32
  let v1082 : BitVec 32 := Scalar.muli v24 c1_i32_941
  let v1083 : BitVec 32 := Scalar.addi c0_i32_942 v1082
  v1083.toNat
def k0_dev36 (d0 : Dev nD) : Nat :=
  let c0_i32_950 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_949 : BitVec 32 := 1#32
  let v1093 : BitVec 32 := Scalar.muli v13 c1_i32_949
  let v1094 : BitVec 32 := Scalar.addi c0_i32_950 v1093
  v1094.toNat
def k0_mult58 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_951 : BitVec 32 := 1#32
  let v1095 : BitVec 32 := Scalar.addi v2 c1_i32_951
  let c1_i32_952 : BitVec 32 := 1#32
  let v1096 : BitVec 32 := Scalar.addi v1095 c1_i32_952
  let c8_i32_953 : BitVec 32 := 8#32
  let c0_i32_954 : BitVec 32 := 0#32
  let v1097 : BitVec 1 := Scalar.cmpi .eq c8_i32_953 c0_i32_954
  let c1_i32_955 : BitVec 32 := 1#32
  let v1098 : BitVec 32 := Scalar.select v1097 c1_i32_955 c8_i32_953
  let v1099 : BitVec 32 := Scalar.remsi v1096 v1098
  let c0_i32_957 : BitVec 32 := 0#32
  let v1101 : BitVec 1 := Scalar.cmpi .slt v1099 c0_i32_957
  let c0_i32_958 : BitVec 32 := 0#32
  let v1102 : BitVec 1 := Scalar.cmpi .slt v1098 c0_i32_958
  let v1103 : BitVec 1 := Scalar.xori v1101 v1102
  let c0_i32_956 : BitVec 32 := 0#32
  let v1100 : BitVec 1 := Scalar.cmpi .ne v1099 c0_i32_956
  let v1104 : BitVec 1 := Scalar.andi v1103 v1100
  let v1105 : BitVec 32 := Scalar.addi v1099 v1098
  let v1106 : BitVec 32 := Scalar.select v1104 v1105 v1099
  let c512_i32_970 : BitVec 32 := 512#32
  let v1114 : BitVec 32 := Scalar.muli v1106 c512_i32_970
  v1114
def k0_mult59 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_951 : BitVec 32 := 1#32
  let v1095 : BitVec 32 := Scalar.addi v2 c1_i32_951
  let c1_i32_952 : BitVec 32 := 1#32
  let v1096 : BitVec 32 := Scalar.addi v1095 c1_i32_952
  let c8_i32_953 : BitVec 32 := 8#32
  let c0_i32_954 : BitVec 32 := 0#32
  let v1097 : BitVec 1 := Scalar.cmpi .eq c8_i32_953 c0_i32_954
  let c1_i32_955 : BitVec 32 := 1#32
  let v1098 : BitVec 32 := Scalar.select v1097 c1_i32_955 c8_i32_953
  let v1099 : BitVec 32 := Scalar.remsi v1096 v1098
  let c0_i32_957 : BitVec 32 := 0#32
  let v1101 : BitVec 1 := Scalar.cmpi .slt v1099 c0_i32_957
  let c0_i32_958 : BitVec 32 := 0#32
  let v1102 : BitVec 1 := Scalar.cmpi .slt v1098 c0_i32_958
  let v1103 : BitVec 1 := Scalar.xori v1101 v1102
  let c0_i32_956 : BitVec 32 := 0#32
  let v1100 : BitVec 1 := Scalar.cmpi .ne v1099 c0_i32_956
  let v1104 : BitVec 1 := Scalar.andi v1103 v1100
  let v1105 : BitVec 32 := Scalar.addi v1099 v1098
  let v1106 : BitVec 32 := Scalar.select v1104 v1105 v1099
  let c512_i32_976 : BitVec 32 := 512#32
  let v1122 : BitVec 32 := Scalar.muli v1106 c512_i32_976
  v1122
def k0_mult60 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_992 : BitVec 32 := 2#32
  let v1133 : BitVec 32 := Scalar.addi v2 c2_i32_992
  let c8_i32_993 : BitVec 32 := 8#32
  let c0_i32_994 : BitVec 32 := 0#32
  let v1134 : BitVec 1 := Scalar.cmpi .eq c8_i32_993 c0_i32_994
  let c1_i32_995 : BitVec 32 := 1#32
  let v1135 : BitVec 32 := Scalar.select v1134 c1_i32_995 c8_i32_993
  let v1136 : BitVec 32 := Scalar.remsi v1133 v1135
  let c0_i32_997 : BitVec 32 := 0#32
  let v1138 : BitVec 1 := Scalar.cmpi .slt v1136 c0_i32_997
  let c0_i32_998 : BitVec 32 := 0#32
  let v1139 : BitVec 1 := Scalar.cmpi .slt v1135 c0_i32_998
  let v1140 : BitVec 1 := Scalar.xori v1138 v1139
  let c0_i32_996 : BitVec 32 := 0#32
  let v1137 : BitVec 1 := Scalar.cmpi .ne v1136 c0_i32_996
  let v1141 : BitVec 1 := Scalar.andi v1140 v1137
  let v1142 : BitVec 32 := Scalar.addi v1136 v1135
  let v1143 : BitVec 32 := Scalar.select v1141 v1142 v1136
  let c512_i32_999 : BitVec 32 := 512#32
  let v1144 : BitVec 32 := Scalar.muli v1143 c512_i32_999
  v1144
def k0_dev37 (d0 : Dev nD) : Nat :=
  let c0_i32_1007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1006 : BitVec 32 := 1#32
  let v1146 : BitVec 32 := Scalar.muli v13 c1_i32_1006
  let v1147 : BitVec 32 := Scalar.addi c0_i32_1007 v1146
  v1147.toNat
def k0_dev38 (d0 : Dev nD) : Nat :=
  let c0_i32_1015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1014 : BitVec 32 := 1#32
  let v1157 : BitVec 32 := Scalar.muli v24 c1_i32_1014
  let v1158 : BitVec 32 := Scalar.addi c0_i32_1015 v1157
  v1158.toNat
def k0_mult61 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1016 : BitVec 32 := 1#32
  let v1159 : BitVec 32 := Scalar.subi v2 c1_i32_1016
  let c1_i32_1017 : BitVec 32 := 1#32
  let v1160 : BitVec 32 := Scalar.subi v1159 c1_i32_1017
  let c8_i32_1018 : BitVec 32 := 8#32
  let c0_i32_1019 : BitVec 32 := 0#32
  let v1161 : BitVec 1 := Scalar.cmpi .eq c8_i32_1018 c0_i32_1019
  let c1_i32_1020 : BitVec 32 := 1#32
  let v1162 : BitVec 32 := Scalar.select v1161 c1_i32_1020 c8_i32_1018
  let v1163 : BitVec 32 := Scalar.remsi v1160 v1162
  let c0_i32_1022 : BitVec 32 := 0#32
  let v1165 : BitVec 1 := Scalar.cmpi .slt v1163 c0_i32_1022
  let c0_i32_1023 : BitVec 32 := 0#32
  let v1166 : BitVec 1 := Scalar.cmpi .slt v1162 c0_i32_1023
  let v1167 : BitVec 1 := Scalar.xori v1165 v1166
  let c0_i32_1021 : BitVec 32 := 0#32
  let v1164 : BitVec 1 := Scalar.cmpi .ne v1163 c0_i32_1021
  let v1168 : BitVec 1 := Scalar.andi v1167 v1164
  let v1169 : BitVec 32 := Scalar.addi v1163 v1162
  let v1170 : BitVec 32 := Scalar.select v1168 v1169 v1163
  let c512_i32_1035 : BitVec 32 := 512#32
  let v1178 : BitVec 32 := Scalar.muli v1170 c512_i32_1035
  v1178
def k0_mult62 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1016 : BitVec 32 := 1#32
  let v1159 : BitVec 32 := Scalar.subi v2 c1_i32_1016
  let c1_i32_1017 : BitVec 32 := 1#32
  let v1160 : BitVec 32 := Scalar.subi v1159 c1_i32_1017
  let c8_i32_1018 : BitVec 32 := 8#32
  let c0_i32_1019 : BitVec 32 := 0#32
  let v1161 : BitVec 1 := Scalar.cmpi .eq c8_i32_1018 c0_i32_1019
  let c1_i32_1020 : BitVec 32 := 1#32
  let v1162 : BitVec 32 := Scalar.select v1161 c1_i32_1020 c8_i32_1018
  let v1163 : BitVec 32 := Scalar.remsi v1160 v1162
  let c0_i32_1022 : BitVec 32 := 0#32
  let v1165 : BitVec 1 := Scalar.cmpi .slt v1163 c0_i32_1022
  let c0_i32_1023 : BitVec 32 := 0#32
  let v1166 : BitVec 1 := Scalar.cmpi .slt v1162 c0_i32_1023
  let v1167 : BitVec 1 := Scalar.xori v1165 v1166
  let c0_i32_1021 : BitVec 32 := 0#32
  let v1164 : BitVec 1 := Scalar.cmpi .ne v1163 c0_i32_1021
  let v1168 : BitVec 1 := Scalar.andi v1167 v1164
  let v1169 : BitVec 32 := Scalar.addi v1163 v1162
  let v1170 : BitVec 32 := Scalar.select v1168 v1169 v1163
  let c512_i32_1041 : BitVec 32 := 512#32
  let v1186 : BitVec 32 := Scalar.muli v1170 c512_i32_1041
  v1186
def k0_mult63 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1057 : BitVec 32 := 2#32
  let v1197 : BitVec 32 := Scalar.subi v2 c2_i32_1057
  let c8_i32_1058 : BitVec 32 := 8#32
  let c0_i32_1059 : BitVec 32 := 0#32
  let v1198 : BitVec 1 := Scalar.cmpi .eq c8_i32_1058 c0_i32_1059
  let c1_i32_1060 : BitVec 32 := 1#32
  let v1199 : BitVec 32 := Scalar.select v1198 c1_i32_1060 c8_i32_1058
  let v1200 : BitVec 32 := Scalar.remsi v1197 v1199
  let c0_i32_1062 : BitVec 32 := 0#32
  let v1202 : BitVec 1 := Scalar.cmpi .slt v1200 c0_i32_1062
  let c0_i32_1063 : BitVec 32 := 0#32
  let v1203 : BitVec 1 := Scalar.cmpi .slt v1199 c0_i32_1063
  let v1204 : BitVec 1 := Scalar.xori v1202 v1203
  let c0_i32_1061 : BitVec 32 := 0#32
  let v1201 : BitVec 1 := Scalar.cmpi .ne v1200 c0_i32_1061
  let v1205 : BitVec 1 := Scalar.andi v1204 v1201
  let v1206 : BitVec 32 := Scalar.addi v1200 v1199
  let v1207 : BitVec 32 := Scalar.select v1205 v1206 v1200
  let c512_i32_1064 : BitVec 32 := 512#32
  let v1208 : BitVec 32 := Scalar.muli v1207 c512_i32_1064
  v1208
def k0_dev39 (d0 : Dev nD) : Nat :=
  let c0_i32_1072 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1071 : BitVec 32 := 1#32
  let v1210 : BitVec 32 := Scalar.muli v24 c1_i32_1071
  let v1211 : BitVec 32 := Scalar.addi c0_i32_1072 v1210
  v1211.toNat
def k0_dev40 (d0 : Dev nD) : Nat :=
  let c0_i32_1080 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1079 : BitVec 32 := 1#32
  let v1221 : BitVec 32 := Scalar.muli v13 c1_i32_1079
  let v1222 : BitVec 32 := Scalar.addi c0_i32_1080 v1221
  v1222.toNat
def k0_mult64 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1081 : BitVec 32 := 1#32
  let v1223 : BitVec 32 := Scalar.addi v2 c1_i32_1081
  let c1_i32_1082 : BitVec 32 := 1#32
  let v1224 : BitVec 32 := Scalar.addi v1223 c1_i32_1082
  let c8_i32_1083 : BitVec 32 := 8#32
  let c0_i32_1084 : BitVec 32 := 0#32
  let v1225 : BitVec 1 := Scalar.cmpi .eq c8_i32_1083 c0_i32_1084
  let c1_i32_1085 : BitVec 32 := 1#32
  let v1226 : BitVec 32 := Scalar.select v1225 c1_i32_1085 c8_i32_1083
  let v1227 : BitVec 32 := Scalar.remsi v1224 v1226
  let c0_i32_1087 : BitVec 32 := 0#32
  let v1229 : BitVec 1 := Scalar.cmpi .slt v1227 c0_i32_1087
  let c0_i32_1088 : BitVec 32 := 0#32
  let v1230 : BitVec 1 := Scalar.cmpi .slt v1226 c0_i32_1088
  let v1231 : BitVec 1 := Scalar.xori v1229 v1230
  let c0_i32_1086 : BitVec 32 := 0#32
  let v1228 : BitVec 1 := Scalar.cmpi .ne v1227 c0_i32_1086
  let v1232 : BitVec 1 := Scalar.andi v1231 v1228
  let v1233 : BitVec 32 := Scalar.addi v1227 v1226
  let v1234 : BitVec 32 := Scalar.select v1232 v1233 v1227
  let c512_i32_1100 : BitVec 32 := 512#32
  let v1242 : BitVec 32 := Scalar.muli v1234 c512_i32_1100
  v1242
def k0_mult65 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1081 : BitVec 32 := 1#32
  let v1223 : BitVec 32 := Scalar.addi v2 c1_i32_1081
  let c1_i32_1082 : BitVec 32 := 1#32
  let v1224 : BitVec 32 := Scalar.addi v1223 c1_i32_1082
  let c8_i32_1083 : BitVec 32 := 8#32
  let c0_i32_1084 : BitVec 32 := 0#32
  let v1225 : BitVec 1 := Scalar.cmpi .eq c8_i32_1083 c0_i32_1084
  let c1_i32_1085 : BitVec 32 := 1#32
  let v1226 : BitVec 32 := Scalar.select v1225 c1_i32_1085 c8_i32_1083
  let v1227 : BitVec 32 := Scalar.remsi v1224 v1226
  let c0_i32_1087 : BitVec 32 := 0#32
  let v1229 : BitVec 1 := Scalar.cmpi .slt v1227 c0_i32_1087
  let c0_i32_1088 : BitVec 32 := 0#32
  let v1230 : BitVec 1 := Scalar.cmpi .slt v1226 c0_i32_1088
  let v1231 : BitVec 1 := Scalar.xori v1229 v1230
  let c0_i32_1086 : BitVec 32 := 0#32
  let v1228 : BitVec 1 := Scalar.cmpi .ne v1227 c0_i32_1086
  let v1232 : BitVec 1 := Scalar.andi v1231 v1228
  let v1233 : BitVec 32 := Scalar.addi v1227 v1226
  let v1234 : BitVec 32 := Scalar.select v1232 v1233 v1227
  let c512_i32_1106 : BitVec 32 := 512#32
  let v1250 : BitVec 32 := Scalar.muli v1234 c512_i32_1106
  v1250
def k0_mult66 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1122 : BitVec 32 := 2#32
  let v1261 : BitVec 32 := Scalar.addi v2 c2_i32_1122
  let c8_i32_1123 : BitVec 32 := 8#32
  let c0_i32_1124 : BitVec 32 := 0#32
  let v1262 : BitVec 1 := Scalar.cmpi .eq c8_i32_1123 c0_i32_1124
  let c1_i32_1125 : BitVec 32 := 1#32
  let v1263 : BitVec 32 := Scalar.select v1262 c1_i32_1125 c8_i32_1123
  let v1264 : BitVec 32 := Scalar.remsi v1261 v1263
  let c0_i32_1127 : BitVec 32 := 0#32
  let v1266 : BitVec 1 := Scalar.cmpi .slt v1264 c0_i32_1127
  let c0_i32_1128 : BitVec 32 := 0#32
  let v1267 : BitVec 1 := Scalar.cmpi .slt v1263 c0_i32_1128
  let v1268 : BitVec 1 := Scalar.xori v1266 v1267
  let c0_i32_1126 : BitVec 32 := 0#32
  let v1265 : BitVec 1 := Scalar.cmpi .ne v1264 c0_i32_1126
  let v1269 : BitVec 1 := Scalar.andi v1268 v1265
  let v1270 : BitVec 32 := Scalar.addi v1264 v1263
  let v1271 : BitVec 32 := Scalar.select v1269 v1270 v1264
  let c512_i32_1129 : BitVec 32 := 512#32
  let v1272 : BitVec 32 := Scalar.muli v1271 c512_i32_1129
  v1272
def k0_dev41 (d0 : Dev nD) : Nat :=
  let c0_i32_1137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1136 : BitVec 32 := 1#32
  let v1274 : BitVec 32 := Scalar.muli v13 c1_i32_1136
  let v1275 : BitVec 32 := Scalar.addi c0_i32_1137 v1274
  v1275.toNat
def k0_dev42 (d0 : Dev nD) : Nat :=
  let c0_i32_1145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1144 : BitVec 32 := 1#32
  let v1285 : BitVec 32 := Scalar.muli v24 c1_i32_1144
  let v1286 : BitVec 32 := Scalar.addi c0_i32_1145 v1285
  v1286.toNat
def k0_mult67 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1146 : BitVec 32 := 2#32
  let v1287 : BitVec 32 := Scalar.subi v2 c2_i32_1146
  let c1_i32_1147 : BitVec 32 := 1#32
  let v1288 : BitVec 32 := Scalar.subi v1287 c1_i32_1147
  let c8_i32_1148 : BitVec 32 := 8#32
  let c0_i32_1149 : BitVec 32 := 0#32
  let v1289 : BitVec 1 := Scalar.cmpi .eq c8_i32_1148 c0_i32_1149
  let c1_i32_1150 : BitVec 32 := 1#32
  let v1290 : BitVec 32 := Scalar.select v1289 c1_i32_1150 c8_i32_1148
  let v1291 : BitVec 32 := Scalar.remsi v1288 v1290
  let c0_i32_1152 : BitVec 32 := 0#32
  let v1293 : BitVec 1 := Scalar.cmpi .slt v1291 c0_i32_1152
  let c0_i32_1153 : BitVec 32 := 0#32
  let v1294 : BitVec 1 := Scalar.cmpi .slt v1290 c0_i32_1153
  let v1295 : BitVec 1 := Scalar.xori v1293 v1294
  let c0_i32_1151 : BitVec 32 := 0#32
  let v1292 : BitVec 1 := Scalar.cmpi .ne v1291 c0_i32_1151
  let v1296 : BitVec 1 := Scalar.andi v1295 v1292
  let v1297 : BitVec 32 := Scalar.addi v1291 v1290
  let v1298 : BitVec 32 := Scalar.select v1296 v1297 v1291
  let c512_i32_1154 : BitVec 32 := 512#32
  let v1299 : BitVec 32 := Scalar.muli v1298 c512_i32_1154
  v1299
def k0_mult68 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1146 : BitVec 32 := 2#32
  let v1287 : BitVec 32 := Scalar.subi v2 c2_i32_1146
  let c1_i32_1147 : BitVec 32 := 1#32
  let v1288 : BitVec 32 := Scalar.subi v1287 c1_i32_1147
  let c8_i32_1148 : BitVec 32 := 8#32
  let c0_i32_1149 : BitVec 32 := 0#32
  let v1289 : BitVec 1 := Scalar.cmpi .eq c8_i32_1148 c0_i32_1149
  let c1_i32_1150 : BitVec 32 := 1#32
  let v1290 : BitVec 32 := Scalar.select v1289 c1_i32_1150 c8_i32_1148
  let v1291 : BitVec 32 := Scalar.remsi v1288 v1290
  let c0_i32_1152 : BitVec 32 := 0#32
  let v1293 : BitVec 1 := Scalar.cmpi .slt v1291 c0_i32_1152
  let c0_i32_1153 : BitVec 32 := 0#32
  let v1294 : BitVec 1 := Scalar.cmpi .slt v1290 c0_i32_1153
  let v1295 : BitVec 1 := Scalar.xori v1293 v1294
  let c0_i32_1151 : BitVec 32 := 0#32
  let v1292 : BitVec 1 := Scalar.cmpi .ne v1291 c0_i32_1151
  let v1296 : BitVec 1 := Scalar.andi v1295 v1292
  let v1297 : BitVec 32 := Scalar.addi v1291 v1290
  let v1298 : BitVec 32 := Scalar.select v1296 v1297 v1291
  let c512_i32_1159 : BitVec 32 := 512#32
  let v1308 : BitVec 32 := Scalar.muli v1298 c512_i32_1159
  v1308
def k0_mult69 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1161 : BitVec 32 := 2#32
  let v1312 : BitVec 32 := Scalar.addi v2 c2_i32_1161
  let c1_i32_1162 : BitVec 32 := 1#32
  let v1313 : BitVec 32 := Scalar.addi v1312 c1_i32_1162
  let c8_i32_1163 : BitVec 32 := 8#32
  let c0_i32_1164 : BitVec 32 := 0#32
  let v1314 : BitVec 1 := Scalar.cmpi .eq c8_i32_1163 c0_i32_1164
  let c1_i32_1165 : BitVec 32 := 1#32
  let v1315 : BitVec 32 := Scalar.select v1314 c1_i32_1165 c8_i32_1163
  let v1316 : BitVec 32 := Scalar.remsi v1313 v1315
  let c0_i32_1167 : BitVec 32 := 0#32
  let v1318 : BitVec 1 := Scalar.cmpi .slt v1316 c0_i32_1167
  let c0_i32_1168 : BitVec 32 := 0#32
  let v1319 : BitVec 1 := Scalar.cmpi .slt v1315 c0_i32_1168
  let v1320 : BitVec 1 := Scalar.xori v1318 v1319
  let c0_i32_1166 : BitVec 32 := 0#32
  let v1317 : BitVec 1 := Scalar.cmpi .ne v1316 c0_i32_1166
  let v1321 : BitVec 1 := Scalar.andi v1320 v1317
  let v1322 : BitVec 32 := Scalar.addi v1316 v1315
  let v1323 : BitVec 32 := Scalar.select v1321 v1322 v1316
  let c512_i32_1169 : BitVec 32 := 512#32
  let v1324 : BitVec 32 := Scalar.muli v1323 c512_i32_1169
  v1324
def k0_mult70 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1161 : BitVec 32 := 2#32
  let v1312 : BitVec 32 := Scalar.addi v2 c2_i32_1161
  let c1_i32_1162 : BitVec 32 := 1#32
  let v1313 : BitVec 32 := Scalar.addi v1312 c1_i32_1162
  let c8_i32_1163 : BitVec 32 := 8#32
  let c0_i32_1164 : BitVec 32 := 0#32
  let v1314 : BitVec 1 := Scalar.cmpi .eq c8_i32_1163 c0_i32_1164
  let c1_i32_1165 : BitVec 32 := 1#32
  let v1315 : BitVec 32 := Scalar.select v1314 c1_i32_1165 c8_i32_1163
  let v1316 : BitVec 32 := Scalar.remsi v1313 v1315
  let c0_i32_1167 : BitVec 32 := 0#32
  let v1318 : BitVec 1 := Scalar.cmpi .slt v1316 c0_i32_1167
  let c0_i32_1168 : BitVec 32 := 0#32
  let v1319 : BitVec 1 := Scalar.cmpi .slt v1315 c0_i32_1168
  let v1320 : BitVec 1 := Scalar.xori v1318 v1319
  let c0_i32_1166 : BitVec 32 := 0#32
  let v1317 : BitVec 1 := Scalar.cmpi .ne v1316 c0_i32_1166
  let v1321 : BitVec 1 := Scalar.andi v1320 v1317
  let v1322 : BitVec 32 := Scalar.addi v1316 v1315
  let v1323 : BitVec 32 := Scalar.select v1321 v1322 v1316
  let c512_i32_1174 : BitVec 32 := 512#32
  let v1333 : BitVec 32 := Scalar.muli v1323 c512_i32_1174
  v1333
def k0_mult71 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1176 : BitVec 32 := 2#32
  let v1337 : BitVec 32 := Scalar.subi v2 c2_i32_1176
  let c1_i32_1177 : BitVec 32 := 1#32
  let v1338 : BitVec 32 := Scalar.subi v1337 c1_i32_1177
  let c8_i32_1178 : BitVec 32 := 8#32
  let c0_i32_1179 : BitVec 32 := 0#32
  let v1339 : BitVec 1 := Scalar.cmpi .eq c8_i32_1178 c0_i32_1179
  let c1_i32_1180 : BitVec 32 := 1#32
  let v1340 : BitVec 32 := Scalar.select v1339 c1_i32_1180 c8_i32_1178
  let v1341 : BitVec 32 := Scalar.remsi v1338 v1340
  let c0_i32_1182 : BitVec 32 := 0#32
  let v1343 : BitVec 1 := Scalar.cmpi .slt v1341 c0_i32_1182
  let c0_i32_1183 : BitVec 32 := 0#32
  let v1344 : BitVec 1 := Scalar.cmpi .slt v1340 c0_i32_1183
  let v1345 : BitVec 1 := Scalar.xori v1343 v1344
  let c0_i32_1181 : BitVec 32 := 0#32
  let v1342 : BitVec 1 := Scalar.cmpi .ne v1341 c0_i32_1181
  let v1346 : BitVec 1 := Scalar.andi v1345 v1342
  let v1347 : BitVec 32 := Scalar.addi v1341 v1340
  let v1348 : BitVec 32 := Scalar.select v1346 v1347 v1341
  let c512_i32_1195 : BitVec 32 := 512#32
  let v1356 : BitVec 32 := Scalar.muli v1348 c512_i32_1195
  v1356
def k0_mult72 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1176 : BitVec 32 := 2#32
  let v1337 : BitVec 32 := Scalar.subi v2 c2_i32_1176
  let c1_i32_1177 : BitVec 32 := 1#32
  let v1338 : BitVec 32 := Scalar.subi v1337 c1_i32_1177
  let c8_i32_1178 : BitVec 32 := 8#32
  let c0_i32_1179 : BitVec 32 := 0#32
  let v1339 : BitVec 1 := Scalar.cmpi .eq c8_i32_1178 c0_i32_1179
  let c1_i32_1180 : BitVec 32 := 1#32
  let v1340 : BitVec 32 := Scalar.select v1339 c1_i32_1180 c8_i32_1178
  let v1341 : BitVec 32 := Scalar.remsi v1338 v1340
  let c0_i32_1182 : BitVec 32 := 0#32
  let v1343 : BitVec 1 := Scalar.cmpi .slt v1341 c0_i32_1182
  let c0_i32_1183 : BitVec 32 := 0#32
  let v1344 : BitVec 1 := Scalar.cmpi .slt v1340 c0_i32_1183
  let v1345 : BitVec 1 := Scalar.xori v1343 v1344
  let c0_i32_1181 : BitVec 32 := 0#32
  let v1342 : BitVec 1 := Scalar.cmpi .ne v1341 c0_i32_1181
  let v1346 : BitVec 1 := Scalar.andi v1345 v1342
  let v1347 : BitVec 32 := Scalar.addi v1341 v1340
  let v1348 : BitVec 32 := Scalar.select v1346 v1347 v1341
  let c512_i32_1201 : BitVec 32 := 512#32
  let v1364 : BitVec 32 := Scalar.muli v1348 c512_i32_1201
  v1364
def k0_mult73 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1217 : BitVec 32 := 3#32
  let v1375 : BitVec 32 := Scalar.subi v2 c3_i32_1217
  let c8_i32_1218 : BitVec 32 := 8#32
  let c0_i32_1219 : BitVec 32 := 0#32
  let v1376 : BitVec 1 := Scalar.cmpi .eq c8_i32_1218 c0_i32_1219
  let c1_i32_1220 : BitVec 32 := 1#32
  let v1377 : BitVec 32 := Scalar.select v1376 c1_i32_1220 c8_i32_1218
  let v1378 : BitVec 32 := Scalar.remsi v1375 v1377
  let c0_i32_1222 : BitVec 32 := 0#32
  let v1380 : BitVec 1 := Scalar.cmpi .slt v1378 c0_i32_1222
  let c0_i32_1223 : BitVec 32 := 0#32
  let v1381 : BitVec 1 := Scalar.cmpi .slt v1377 c0_i32_1223
  let v1382 : BitVec 1 := Scalar.xori v1380 v1381
  let c0_i32_1221 : BitVec 32 := 0#32
  let v1379 : BitVec 1 := Scalar.cmpi .ne v1378 c0_i32_1221
  let v1383 : BitVec 1 := Scalar.andi v1382 v1379
  let v1384 : BitVec 32 := Scalar.addi v1378 v1377
  let v1385 : BitVec 32 := Scalar.select v1383 v1384 v1378
  let c512_i32_1224 : BitVec 32 := 512#32
  let v1386 : BitVec 32 := Scalar.muli v1385 c512_i32_1224
  v1386
def k0_dev43 (d0 : Dev nD) : Nat :=
  let c0_i32_1232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1231 : BitVec 32 := 1#32
  let v1388 : BitVec 32 := Scalar.muli v24 c1_i32_1231
  let v1389 : BitVec 32 := Scalar.addi c0_i32_1232 v1388
  v1389.toNat
def k0_dev44 (d0 : Dev nD) : Nat :=
  let c0_i32_1240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1239 : BitVec 32 := 1#32
  let v1399 : BitVec 32 := Scalar.muli v13 c1_i32_1239
  let v1400 : BitVec 32 := Scalar.addi c0_i32_1240 v1399
  v1400.toNat
def k0_mult74 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1241 : BitVec 32 := 2#32
  let v1401 : BitVec 32 := Scalar.addi v2 c2_i32_1241
  let c1_i32_1242 : BitVec 32 := 1#32
  let v1402 : BitVec 32 := Scalar.addi v1401 c1_i32_1242
  let c8_i32_1243 : BitVec 32 := 8#32
  let c0_i32_1244 : BitVec 32 := 0#32
  let v1403 : BitVec 1 := Scalar.cmpi .eq c8_i32_1243 c0_i32_1244
  let c1_i32_1245 : BitVec 32 := 1#32
  let v1404 : BitVec 32 := Scalar.select v1403 c1_i32_1245 c8_i32_1243
  let v1405 : BitVec 32 := Scalar.remsi v1402 v1404
  let c0_i32_1247 : BitVec 32 := 0#32
  let v1407 : BitVec 1 := Scalar.cmpi .slt v1405 c0_i32_1247
  let c0_i32_1248 : BitVec 32 := 0#32
  let v1408 : BitVec 1 := Scalar.cmpi .slt v1404 c0_i32_1248
  let v1409 : BitVec 1 := Scalar.xori v1407 v1408
  let c0_i32_1246 : BitVec 32 := 0#32
  let v1406 : BitVec 1 := Scalar.cmpi .ne v1405 c0_i32_1246
  let v1410 : BitVec 1 := Scalar.andi v1409 v1406
  let v1411 : BitVec 32 := Scalar.addi v1405 v1404
  let v1412 : BitVec 32 := Scalar.select v1410 v1411 v1405
  let c512_i32_1260 : BitVec 32 := 512#32
  let v1420 : BitVec 32 := Scalar.muli v1412 c512_i32_1260
  v1420
def k0_mult75 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1241 : BitVec 32 := 2#32
  let v1401 : BitVec 32 := Scalar.addi v2 c2_i32_1241
  let c1_i32_1242 : BitVec 32 := 1#32
  let v1402 : BitVec 32 := Scalar.addi v1401 c1_i32_1242
  let c8_i32_1243 : BitVec 32 := 8#32
  let c0_i32_1244 : BitVec 32 := 0#32
  let v1403 : BitVec 1 := Scalar.cmpi .eq c8_i32_1243 c0_i32_1244
  let c1_i32_1245 : BitVec 32 := 1#32
  let v1404 : BitVec 32 := Scalar.select v1403 c1_i32_1245 c8_i32_1243
  let v1405 : BitVec 32 := Scalar.remsi v1402 v1404
  let c0_i32_1247 : BitVec 32 := 0#32
  let v1407 : BitVec 1 := Scalar.cmpi .slt v1405 c0_i32_1247
  let c0_i32_1248 : BitVec 32 := 0#32
  let v1408 : BitVec 1 := Scalar.cmpi .slt v1404 c0_i32_1248
  let v1409 : BitVec 1 := Scalar.xori v1407 v1408
  let c0_i32_1246 : BitVec 32 := 0#32
  let v1406 : BitVec 1 := Scalar.cmpi .ne v1405 c0_i32_1246
  let v1410 : BitVec 1 := Scalar.andi v1409 v1406
  let v1411 : BitVec 32 := Scalar.addi v1405 v1404
  let v1412 : BitVec 32 := Scalar.select v1410 v1411 v1405
  let c512_i32_1266 : BitVec 32 := 512#32
  let v1428 : BitVec 32 := Scalar.muli v1412 c512_i32_1266
  v1428
def k0_mult76 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1282 : BitVec 32 := 3#32
  let v1439 : BitVec 32 := Scalar.addi v2 c3_i32_1282
  let c8_i32_1283 : BitVec 32 := 8#32
  let c0_i32_1284 : BitVec 32 := 0#32
  let v1440 : BitVec 1 := Scalar.cmpi .eq c8_i32_1283 c0_i32_1284
  let c1_i32_1285 : BitVec 32 := 1#32
  let v1441 : BitVec 32 := Scalar.select v1440 c1_i32_1285 c8_i32_1283
  let v1442 : BitVec 32 := Scalar.remsi v1439 v1441
  let c0_i32_1287 : BitVec 32 := 0#32
  let v1444 : BitVec 1 := Scalar.cmpi .slt v1442 c0_i32_1287
  let c0_i32_1288 : BitVec 32 := 0#32
  let v1445 : BitVec 1 := Scalar.cmpi .slt v1441 c0_i32_1288
  let v1446 : BitVec 1 := Scalar.xori v1444 v1445
  let c0_i32_1286 : BitVec 32 := 0#32
  let v1443 : BitVec 1 := Scalar.cmpi .ne v1442 c0_i32_1286
  let v1447 : BitVec 1 := Scalar.andi v1446 v1443
  let v1448 : BitVec 32 := Scalar.addi v1442 v1441
  let v1449 : BitVec 32 := Scalar.select v1447 v1448 v1442
  let c512_i32_1289 : BitVec 32 := 512#32
  let v1450 : BitVec 32 := Scalar.muli v1449 c512_i32_1289
  v1450
def k0_dev45 (d0 : Dev nD) : Nat :=
  let c0_i32_1297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1296 : BitVec 32 := 1#32
  let v1452 : BitVec 32 := Scalar.muli v13 c1_i32_1296
  let v1453 : BitVec 32 := Scalar.addi c0_i32_1297 v1452
  v1453.toNat
def k0_dev46 (d0 : Dev nD) : Nat :=
  let c0_i32_1305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1304 : BitVec 32 := 1#32
  let v1463 : BitVec 32 := Scalar.muli v24 c1_i32_1304
  let v1464 : BitVec 32 := Scalar.addi c0_i32_1305 v1463
  v1464.toNat
def k0_mult77 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1306 : BitVec 32 := 2#32
  let v1465 : BitVec 32 := Scalar.subi v2 c2_i32_1306
  let c1_i32_1307 : BitVec 32 := 1#32
  let v1466 : BitVec 32 := Scalar.subi v1465 c1_i32_1307
  let c8_i32_1308 : BitVec 32 := 8#32
  let c0_i32_1309 : BitVec 32 := 0#32
  let v1467 : BitVec 1 := Scalar.cmpi .eq c8_i32_1308 c0_i32_1309
  let c1_i32_1310 : BitVec 32 := 1#32
  let v1468 : BitVec 32 := Scalar.select v1467 c1_i32_1310 c8_i32_1308
  let v1469 : BitVec 32 := Scalar.remsi v1466 v1468
  let c0_i32_1312 : BitVec 32 := 0#32
  let v1471 : BitVec 1 := Scalar.cmpi .slt v1469 c0_i32_1312
  let c0_i32_1313 : BitVec 32 := 0#32
  let v1472 : BitVec 1 := Scalar.cmpi .slt v1468 c0_i32_1313
  let v1473 : BitVec 1 := Scalar.xori v1471 v1472
  let c0_i32_1311 : BitVec 32 := 0#32
  let v1470 : BitVec 1 := Scalar.cmpi .ne v1469 c0_i32_1311
  let v1474 : BitVec 1 := Scalar.andi v1473 v1470
  let v1475 : BitVec 32 := Scalar.addi v1469 v1468
  let v1476 : BitVec 32 := Scalar.select v1474 v1475 v1469
  let c512_i32_1325 : BitVec 32 := 512#32
  let v1484 : BitVec 32 := Scalar.muli v1476 c512_i32_1325
  v1484
def k0_mult78 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1306 : BitVec 32 := 2#32
  let v1465 : BitVec 32 := Scalar.subi v2 c2_i32_1306
  let c1_i32_1307 : BitVec 32 := 1#32
  let v1466 : BitVec 32 := Scalar.subi v1465 c1_i32_1307
  let c8_i32_1308 : BitVec 32 := 8#32
  let c0_i32_1309 : BitVec 32 := 0#32
  let v1467 : BitVec 1 := Scalar.cmpi .eq c8_i32_1308 c0_i32_1309
  let c1_i32_1310 : BitVec 32 := 1#32
  let v1468 : BitVec 32 := Scalar.select v1467 c1_i32_1310 c8_i32_1308
  let v1469 : BitVec 32 := Scalar.remsi v1466 v1468
  let c0_i32_1312 : BitVec 32 := 0#32
  let v1471 : BitVec 1 := Scalar.cmpi .slt v1469 c0_i32_1312
  let c0_i32_1313 : BitVec 32 := 0#32
  let v1472 : BitVec 1 := Scalar.cmpi .slt v1468 c0_i32_1313
  let v1473 : BitVec 1 := Scalar.xori v1471 v1472
  let c0_i32_1311 : BitVec 32 := 0#32
  let v1470 : BitVec 1 := Scalar.cmpi .ne v1469 c0_i32_1311
  let v1474 : BitVec 1 := Scalar.andi v1473 v1470
  let v1475 : BitVec 32 := Scalar.addi v1469 v1468
  let v1476 : BitVec 32 := Scalar.select v1474 v1475 v1469
  let c512_i32_1331 : BitVec 32 := 512#32
  let v1492 : BitVec 32 := Scalar.muli v1476 c512_i32_1331
  v1492
def k0_mult79 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1347 : BitVec 32 := 3#32
  let v1503 : BitVec 32 := Scalar.subi v2 c3_i32_1347
  let c8_i32_1348 : BitVec 32 := 8#32
  let c0_i32_1349 : BitVec 32 := 0#32
  let v1504 : BitVec 1 := Scalar.cmpi .eq c8_i32_1348 c0_i32_1349
  let c1_i32_1350 : BitVec 32 := 1#32
  let v1505 : BitVec 32 := Scalar.select v1504 c1_i32_1350 c8_i32_1348
  let v1506 : BitVec 32 := Scalar.remsi v1503 v1505
  let c0_i32_1352 : BitVec 32 := 0#32
  let v1508 : BitVec 1 := Scalar.cmpi .slt v1506 c0_i32_1352
  let c0_i32_1353 : BitVec 32 := 0#32
  let v1509 : BitVec 1 := Scalar.cmpi .slt v1505 c0_i32_1353
  let v1510 : BitVec 1 := Scalar.xori v1508 v1509
  let c0_i32_1351 : BitVec 32 := 0#32
  let v1507 : BitVec 1 := Scalar.cmpi .ne v1506 c0_i32_1351
  let v1511 : BitVec 1 := Scalar.andi v1510 v1507
  let v1512 : BitVec 32 := Scalar.addi v1506 v1505
  let v1513 : BitVec 32 := Scalar.select v1511 v1512 v1506
  let c512_i32_1354 : BitVec 32 := 512#32
  let v1514 : BitVec 32 := Scalar.muli v1513 c512_i32_1354
  v1514
def k0_dev47 (d0 : Dev nD) : Nat :=
  let c0_i32_1362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1361 : BitVec 32 := 1#32
  let v1516 : BitVec 32 := Scalar.muli v24 c1_i32_1361
  let v1517 : BitVec 32 := Scalar.addi c0_i32_1362 v1516
  v1517.toNat
def k0_dev48 (d0 : Dev nD) : Nat :=
  let c0_i32_1370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1369 : BitVec 32 := 1#32
  let v1527 : BitVec 32 := Scalar.muli v13 c1_i32_1369
  let v1528 : BitVec 32 := Scalar.addi c0_i32_1370 v1527
  v1528.toNat
def k0_mult80 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1371 : BitVec 32 := 2#32
  let v1529 : BitVec 32 := Scalar.addi v2 c2_i32_1371
  let c1_i32_1372 : BitVec 32 := 1#32
  let v1530 : BitVec 32 := Scalar.addi v1529 c1_i32_1372
  let c8_i32_1373 : BitVec 32 := 8#32
  let c0_i32_1374 : BitVec 32 := 0#32
  let v1531 : BitVec 1 := Scalar.cmpi .eq c8_i32_1373 c0_i32_1374
  let c1_i32_1375 : BitVec 32 := 1#32
  let v1532 : BitVec 32 := Scalar.select v1531 c1_i32_1375 c8_i32_1373
  let v1533 : BitVec 32 := Scalar.remsi v1530 v1532
  let c0_i32_1377 : BitVec 32 := 0#32
  let v1535 : BitVec 1 := Scalar.cmpi .slt v1533 c0_i32_1377
  let c0_i32_1378 : BitVec 32 := 0#32
  let v1536 : BitVec 1 := Scalar.cmpi .slt v1532 c0_i32_1378
  let v1537 : BitVec 1 := Scalar.xori v1535 v1536
  let c0_i32_1376 : BitVec 32 := 0#32
  let v1534 : BitVec 1 := Scalar.cmpi .ne v1533 c0_i32_1376
  let v1538 : BitVec 1 := Scalar.andi v1537 v1534
  let v1539 : BitVec 32 := Scalar.addi v1533 v1532
  let v1540 : BitVec 32 := Scalar.select v1538 v1539 v1533
  let c512_i32_1390 : BitVec 32 := 512#32
  let v1548 : BitVec 32 := Scalar.muli v1540 c512_i32_1390
  v1548
def k0_mult81 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1371 : BitVec 32 := 2#32
  let v1529 : BitVec 32 := Scalar.addi v2 c2_i32_1371
  let c1_i32_1372 : BitVec 32 := 1#32
  let v1530 : BitVec 32 := Scalar.addi v1529 c1_i32_1372
  let c8_i32_1373 : BitVec 32 := 8#32
  let c0_i32_1374 : BitVec 32 := 0#32
  let v1531 : BitVec 1 := Scalar.cmpi .eq c8_i32_1373 c0_i32_1374
  let c1_i32_1375 : BitVec 32 := 1#32
  let v1532 : BitVec 32 := Scalar.select v1531 c1_i32_1375 c8_i32_1373
  let v1533 : BitVec 32 := Scalar.remsi v1530 v1532
  let c0_i32_1377 : BitVec 32 := 0#32
  let v1535 : BitVec 1 := Scalar.cmpi .slt v1533 c0_i32_1377
  let c0_i32_1378 : BitVec 32 := 0#32
  let v1536 : BitVec 1 := Scalar.cmpi .slt v1532 c0_i32_1378
  let v1537 : BitVec 1 := Scalar.xori v1535 v1536
  let c0_i32_1376 : BitVec 32 := 0#32
  let v1534 : BitVec 1 := Scalar.cmpi .ne v1533 c0_i32_1376
  let v1538 : BitVec 1 := Scalar.andi v1537 v1534
  let v1539 : BitVec 32 := Scalar.addi v1533 v1532
  let v1540 : BitVec 32 := Scalar.select v1538 v1539 v1533
  let c512_i32_1396 : BitVec 32 := 512#32
  let v1556 : BitVec 32 := Scalar.muli v1540 c512_i32_1396
  v1556
def k0_mult82 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1412 : BitVec 32 := 3#32
  let v1567 : BitVec 32 := Scalar.addi v2 c3_i32_1412
  let c8_i32_1413 : BitVec 32 := 8#32
  let c0_i32_1414 : BitVec 32 := 0#32
  let v1568 : BitVec 1 := Scalar.cmpi .eq c8_i32_1413 c0_i32_1414
  let c1_i32_1415 : BitVec 32 := 1#32
  let v1569 : BitVec 32 := Scalar.select v1568 c1_i32_1415 c8_i32_1413
  let v1570 : BitVec 32 := Scalar.remsi v1567 v1569
  let c0_i32_1417 : BitVec 32 := 0#32
  let v1572 : BitVec 1 := Scalar.cmpi .slt v1570 c0_i32_1417
  let c0_i32_1418 : BitVec 32 := 0#32
  let v1573 : BitVec 1 := Scalar.cmpi .slt v1569 c0_i32_1418
  let v1574 : BitVec 1 := Scalar.xori v1572 v1573
  let c0_i32_1416 : BitVec 32 := 0#32
  let v1571 : BitVec 1 := Scalar.cmpi .ne v1570 c0_i32_1416
  let v1575 : BitVec 1 := Scalar.andi v1574 v1571
  let v1576 : BitVec 32 := Scalar.addi v1570 v1569
  let v1577 : BitVec 32 := Scalar.select v1575 v1576 v1570
  let c512_i32_1419 : BitVec 32 := 512#32
  let v1578 : BitVec 32 := Scalar.muli v1577 c512_i32_1419
  v1578
def k0_dev49 (d0 : Dev nD) : Nat :=
  let c0_i32_1427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1426 : BitVec 32 := 1#32
  let v1580 : BitVec 32 := Scalar.muli v13 c1_i32_1426
  let v1581 : BitVec 32 := Scalar.addi c0_i32_1427 v1580
  v1581.toNat
def k0_dev50 (d0 : Dev nD) : Nat :=
  let c0_i32_1435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1434 : BitVec 32 := 1#32
  let v1591 : BitVec 32 := Scalar.muli v24 c1_i32_1434
  let v1592 : BitVec 32 := Scalar.addi c0_i32_1435 v1591
  v1592.toNat
def k0_mult83 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1436 : BitVec 32 := 2#32
  let v1593 : BitVec 32 := Scalar.subi v2 c2_i32_1436
  let c1_i32_1437 : BitVec 32 := 1#32
  let v1594 : BitVec 32 := Scalar.subi v1593 c1_i32_1437
  let c8_i32_1438 : BitVec 32 := 8#32
  let c0_i32_1439 : BitVec 32 := 0#32
  let v1595 : BitVec 1 := Scalar.cmpi .eq c8_i32_1438 c0_i32_1439
  let c1_i32_1440 : BitVec 32 := 1#32
  let v1596 : BitVec 32 := Scalar.select v1595 c1_i32_1440 c8_i32_1438
  let v1597 : BitVec 32 := Scalar.remsi v1594 v1596
  let c0_i32_1442 : BitVec 32 := 0#32
  let v1599 : BitVec 1 := Scalar.cmpi .slt v1597 c0_i32_1442
  let c0_i32_1443 : BitVec 32 := 0#32
  let v1600 : BitVec 1 := Scalar.cmpi .slt v1596 c0_i32_1443
  let v1601 : BitVec 1 := Scalar.xori v1599 v1600
  let c0_i32_1441 : BitVec 32 := 0#32
  let v1598 : BitVec 1 := Scalar.cmpi .ne v1597 c0_i32_1441
  let v1602 : BitVec 1 := Scalar.andi v1601 v1598
  let v1603 : BitVec 32 := Scalar.addi v1597 v1596
  let v1604 : BitVec 32 := Scalar.select v1602 v1603 v1597
  let c512_i32_1455 : BitVec 32 := 512#32
  let v1612 : BitVec 32 := Scalar.muli v1604 c512_i32_1455
  v1612
def k0_mult84 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1436 : BitVec 32 := 2#32
  let v1593 : BitVec 32 := Scalar.subi v2 c2_i32_1436
  let c1_i32_1437 : BitVec 32 := 1#32
  let v1594 : BitVec 32 := Scalar.subi v1593 c1_i32_1437
  let c8_i32_1438 : BitVec 32 := 8#32
  let c0_i32_1439 : BitVec 32 := 0#32
  let v1595 : BitVec 1 := Scalar.cmpi .eq c8_i32_1438 c0_i32_1439
  let c1_i32_1440 : BitVec 32 := 1#32
  let v1596 : BitVec 32 := Scalar.select v1595 c1_i32_1440 c8_i32_1438
  let v1597 : BitVec 32 := Scalar.remsi v1594 v1596
  let c0_i32_1442 : BitVec 32 := 0#32
  let v1599 : BitVec 1 := Scalar.cmpi .slt v1597 c0_i32_1442
  let c0_i32_1443 : BitVec 32 := 0#32
  let v1600 : BitVec 1 := Scalar.cmpi .slt v1596 c0_i32_1443
  let v1601 : BitVec 1 := Scalar.xori v1599 v1600
  let c0_i32_1441 : BitVec 32 := 0#32
  let v1598 : BitVec 1 := Scalar.cmpi .ne v1597 c0_i32_1441
  let v1602 : BitVec 1 := Scalar.andi v1601 v1598
  let v1603 : BitVec 32 := Scalar.addi v1597 v1596
  let v1604 : BitVec 32 := Scalar.select v1602 v1603 v1597
  let c512_i32_1461 : BitVec 32 := 512#32
  let v1620 : BitVec 32 := Scalar.muli v1604 c512_i32_1461
  v1620
def k0_mult85 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1477 : BitVec 32 := 3#32
  let v1631 : BitVec 32 := Scalar.subi v2 c3_i32_1477
  let c8_i32_1478 : BitVec 32 := 8#32
  let c0_i32_1479 : BitVec 32 := 0#32
  let v1632 : BitVec 1 := Scalar.cmpi .eq c8_i32_1478 c0_i32_1479
  let c1_i32_1480 : BitVec 32 := 1#32
  let v1633 : BitVec 32 := Scalar.select v1632 c1_i32_1480 c8_i32_1478
  let v1634 : BitVec 32 := Scalar.remsi v1631 v1633
  let c0_i32_1482 : BitVec 32 := 0#32
  let v1636 : BitVec 1 := Scalar.cmpi .slt v1634 c0_i32_1482
  let c0_i32_1483 : BitVec 32 := 0#32
  let v1637 : BitVec 1 := Scalar.cmpi .slt v1633 c0_i32_1483
  let v1638 : BitVec 1 := Scalar.xori v1636 v1637
  let c0_i32_1481 : BitVec 32 := 0#32
  let v1635 : BitVec 1 := Scalar.cmpi .ne v1634 c0_i32_1481
  let v1639 : BitVec 1 := Scalar.andi v1638 v1635
  let v1640 : BitVec 32 := Scalar.addi v1634 v1633
  let v1641 : BitVec 32 := Scalar.select v1639 v1640 v1634
  let c512_i32_1484 : BitVec 32 := 512#32
  let v1642 : BitVec 32 := Scalar.muli v1641 c512_i32_1484
  v1642
def k0_dev51 (d0 : Dev nD) : Nat :=
  let c0_i32_1492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1491 : BitVec 32 := 1#32
  let v1644 : BitVec 32 := Scalar.muli v24 c1_i32_1491
  let v1645 : BitVec 32 := Scalar.addi c0_i32_1492 v1644
  v1645.toNat
def k0_dev52 (d0 : Dev nD) : Nat :=
  let c0_i32_1500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1499 : BitVec 32 := 1#32
  let v1655 : BitVec 32 := Scalar.muli v13 c1_i32_1499
  let v1656 : BitVec 32 := Scalar.addi c0_i32_1500 v1655
  v1656.toNat
def k0_mult86 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1501 : BitVec 32 := 2#32
  let v1657 : BitVec 32 := Scalar.addi v2 c2_i32_1501
  let c1_i32_1502 : BitVec 32 := 1#32
  let v1658 : BitVec 32 := Scalar.addi v1657 c1_i32_1502
  let c8_i32_1503 : BitVec 32 := 8#32
  let c0_i32_1504 : BitVec 32 := 0#32
  let v1659 : BitVec 1 := Scalar.cmpi .eq c8_i32_1503 c0_i32_1504
  let c1_i32_1505 : BitVec 32 := 1#32
  let v1660 : BitVec 32 := Scalar.select v1659 c1_i32_1505 c8_i32_1503
  let v1661 : BitVec 32 := Scalar.remsi v1658 v1660
  let c0_i32_1507 : BitVec 32 := 0#32
  let v1663 : BitVec 1 := Scalar.cmpi .slt v1661 c0_i32_1507
  let c0_i32_1508 : BitVec 32 := 0#32
  let v1664 : BitVec 1 := Scalar.cmpi .slt v1660 c0_i32_1508
  let v1665 : BitVec 1 := Scalar.xori v1663 v1664
  let c0_i32_1506 : BitVec 32 := 0#32
  let v1662 : BitVec 1 := Scalar.cmpi .ne v1661 c0_i32_1506
  let v1666 : BitVec 1 := Scalar.andi v1665 v1662
  let v1667 : BitVec 32 := Scalar.addi v1661 v1660
  let v1668 : BitVec 32 := Scalar.select v1666 v1667 v1661
  let c512_i32_1520 : BitVec 32 := 512#32
  let v1676 : BitVec 32 := Scalar.muli v1668 c512_i32_1520
  v1676
def k0_mult87 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1501 : BitVec 32 := 2#32
  let v1657 : BitVec 32 := Scalar.addi v2 c2_i32_1501
  let c1_i32_1502 : BitVec 32 := 1#32
  let v1658 : BitVec 32 := Scalar.addi v1657 c1_i32_1502
  let c8_i32_1503 : BitVec 32 := 8#32
  let c0_i32_1504 : BitVec 32 := 0#32
  let v1659 : BitVec 1 := Scalar.cmpi .eq c8_i32_1503 c0_i32_1504
  let c1_i32_1505 : BitVec 32 := 1#32
  let v1660 : BitVec 32 := Scalar.select v1659 c1_i32_1505 c8_i32_1503
  let v1661 : BitVec 32 := Scalar.remsi v1658 v1660
  let c0_i32_1507 : BitVec 32 := 0#32
  let v1663 : BitVec 1 := Scalar.cmpi .slt v1661 c0_i32_1507
  let c0_i32_1508 : BitVec 32 := 0#32
  let v1664 : BitVec 1 := Scalar.cmpi .slt v1660 c0_i32_1508
  let v1665 : BitVec 1 := Scalar.xori v1663 v1664
  let c0_i32_1506 : BitVec 32 := 0#32
  let v1662 : BitVec 1 := Scalar.cmpi .ne v1661 c0_i32_1506
  let v1666 : BitVec 1 := Scalar.andi v1665 v1662
  let v1667 : BitVec 32 := Scalar.addi v1661 v1660
  let v1668 : BitVec 32 := Scalar.select v1666 v1667 v1661
  let c512_i32_1526 : BitVec 32 := 512#32
  let v1684 : BitVec 32 := Scalar.muli v1668 c512_i32_1526
  v1684
def k0_mult88 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1542 : BitVec 32 := 3#32
  let v1695 : BitVec 32 := Scalar.addi v2 c3_i32_1542
  let c8_i32_1543 : BitVec 32 := 8#32
  let c0_i32_1544 : BitVec 32 := 0#32
  let v1696 : BitVec 1 := Scalar.cmpi .eq c8_i32_1543 c0_i32_1544
  let c1_i32_1545 : BitVec 32 := 1#32
  let v1697 : BitVec 32 := Scalar.select v1696 c1_i32_1545 c8_i32_1543
  let v1698 : BitVec 32 := Scalar.remsi v1695 v1697
  let c0_i32_1547 : BitVec 32 := 0#32
  let v1700 : BitVec 1 := Scalar.cmpi .slt v1698 c0_i32_1547
  let c0_i32_1548 : BitVec 32 := 0#32
  let v1701 : BitVec 1 := Scalar.cmpi .slt v1697 c0_i32_1548
  let v1702 : BitVec 1 := Scalar.xori v1700 v1701
  let c0_i32_1546 : BitVec 32 := 0#32
  let v1699 : BitVec 1 := Scalar.cmpi .ne v1698 c0_i32_1546
  let v1703 : BitVec 1 := Scalar.andi v1702 v1699
  let v1704 : BitVec 32 := Scalar.addi v1698 v1697
  let v1705 : BitVec 32 := Scalar.select v1703 v1704 v1698
  let c512_i32_1549 : BitVec 32 := 512#32
  let v1706 : BitVec 32 := Scalar.muli v1705 c512_i32_1549
  v1706
def k0_dev53 (d0 : Dev nD) : Nat :=
  let c0_i32_1557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1556 : BitVec 32 := 1#32
  let v1708 : BitVec 32 := Scalar.muli v13 c1_i32_1556
  let v1709 : BitVec 32 := Scalar.addi c0_i32_1557 v1708
  v1709.toNat
def k0_dev54 (d0 : Dev nD) : Nat :=
  let c0_i32_1565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1564 : BitVec 32 := 1#32
  let v1719 : BitVec 32 := Scalar.muli v24 c1_i32_1564
  let v1720 : BitVec 32 := Scalar.addi c0_i32_1565 v1719
  v1720.toNat
def k0_mult89 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1566 : BitVec 32 := 2#32
  let v1721 : BitVec 32 := Scalar.subi v2 c2_i32_1566
  let c1_i32_1567 : BitVec 32 := 1#32
  let v1722 : BitVec 32 := Scalar.subi v1721 c1_i32_1567
  let c8_i32_1568 : BitVec 32 := 8#32
  let c0_i32_1569 : BitVec 32 := 0#32
  let v1723 : BitVec 1 := Scalar.cmpi .eq c8_i32_1568 c0_i32_1569
  let c1_i32_1570 : BitVec 32 := 1#32
  let v1724 : BitVec 32 := Scalar.select v1723 c1_i32_1570 c8_i32_1568
  let v1725 : BitVec 32 := Scalar.remsi v1722 v1724
  let c0_i32_1572 : BitVec 32 := 0#32
  let v1727 : BitVec 1 := Scalar.cmpi .slt v1725 c0_i32_1572
  let c0_i32_1573 : BitVec 32 := 0#32
  let v1728 : BitVec 1 := Scalar.cmpi .slt v1724 c0_i32_1573
  let v1729 : BitVec 1 := Scalar.xori v1727 v1728
  let c0_i32_1571 : BitVec 32 := 0#32
  let v1726 : BitVec 1 := Scalar.cmpi .ne v1725 c0_i32_1571
  let v1730 : BitVec 1 := Scalar.andi v1729 v1726
  let v1731 : BitVec 32 := Scalar.addi v1725 v1724
  let v1732 : BitVec 32 := Scalar.select v1730 v1731 v1725
  let c512_i32_1585 : BitVec 32 := 512#32
  let v1740 : BitVec 32 := Scalar.muli v1732 c512_i32_1585
  v1740
def k0_mult90 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1566 : BitVec 32 := 2#32
  let v1721 : BitVec 32 := Scalar.subi v2 c2_i32_1566
  let c1_i32_1567 : BitVec 32 := 1#32
  let v1722 : BitVec 32 := Scalar.subi v1721 c1_i32_1567
  let c8_i32_1568 : BitVec 32 := 8#32
  let c0_i32_1569 : BitVec 32 := 0#32
  let v1723 : BitVec 1 := Scalar.cmpi .eq c8_i32_1568 c0_i32_1569
  let c1_i32_1570 : BitVec 32 := 1#32
  let v1724 : BitVec 32 := Scalar.select v1723 c1_i32_1570 c8_i32_1568
  let v1725 : BitVec 32 := Scalar.remsi v1722 v1724
  let c0_i32_1572 : BitVec 32 := 0#32
  let v1727 : BitVec 1 := Scalar.cmpi .slt v1725 c0_i32_1572
  let c0_i32_1573 : BitVec 32 := 0#32
  let v1728 : BitVec 1 := Scalar.cmpi .slt v1724 c0_i32_1573
  let v1729 : BitVec 1 := Scalar.xori v1727 v1728
  let c0_i32_1571 : BitVec 32 := 0#32
  let v1726 : BitVec 1 := Scalar.cmpi .ne v1725 c0_i32_1571
  let v1730 : BitVec 1 := Scalar.andi v1729 v1726
  let v1731 : BitVec 32 := Scalar.addi v1725 v1724
  let v1732 : BitVec 32 := Scalar.select v1730 v1731 v1725
  let c512_i32_1591 : BitVec 32 := 512#32
  let v1748 : BitVec 32 := Scalar.muli v1732 c512_i32_1591
  v1748
def k0_mult91 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1607 : BitVec 32 := 3#32
  let v1759 : BitVec 32 := Scalar.subi v2 c3_i32_1607
  let c8_i32_1608 : BitVec 32 := 8#32
  let c0_i32_1609 : BitVec 32 := 0#32
  let v1760 : BitVec 1 := Scalar.cmpi .eq c8_i32_1608 c0_i32_1609
  let c1_i32_1610 : BitVec 32 := 1#32
  let v1761 : BitVec 32 := Scalar.select v1760 c1_i32_1610 c8_i32_1608
  let v1762 : BitVec 32 := Scalar.remsi v1759 v1761
  let c0_i32_1612 : BitVec 32 := 0#32
  let v1764 : BitVec 1 := Scalar.cmpi .slt v1762 c0_i32_1612
  let c0_i32_1613 : BitVec 32 := 0#32
  let v1765 : BitVec 1 := Scalar.cmpi .slt v1761 c0_i32_1613
  let v1766 : BitVec 1 := Scalar.xori v1764 v1765
  let c0_i32_1611 : BitVec 32 := 0#32
  let v1763 : BitVec 1 := Scalar.cmpi .ne v1762 c0_i32_1611
  let v1767 : BitVec 1 := Scalar.andi v1766 v1763
  let v1768 : BitVec 32 := Scalar.addi v1762 v1761
  let v1769 : BitVec 32 := Scalar.select v1767 v1768 v1762
  let c512_i32_1614 : BitVec 32 := 512#32
  let v1770 : BitVec 32 := Scalar.muli v1769 c512_i32_1614
  v1770
def k0_dev55 (d0 : Dev nD) : Nat :=
  let c0_i32_1622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1621 : BitVec 32 := 1#32
  let v1772 : BitVec 32 := Scalar.muli v24 c1_i32_1621
  let v1773 : BitVec 32 := Scalar.addi c0_i32_1622 v1772
  v1773.toNat
def k0_dev56 (d0 : Dev nD) : Nat :=
  let c0_i32_1630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1629 : BitVec 32 := 1#32
  let v1783 : BitVec 32 := Scalar.muli v13 c1_i32_1629
  let v1784 : BitVec 32 := Scalar.addi c0_i32_1630 v1783
  v1784.toNat
def k0_mult92 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1631 : BitVec 32 := 2#32
  let v1785 : BitVec 32 := Scalar.addi v2 c2_i32_1631
  let c1_i32_1632 : BitVec 32 := 1#32
  let v1786 : BitVec 32 := Scalar.addi v1785 c1_i32_1632
  let c8_i32_1633 : BitVec 32 := 8#32
  let c0_i32_1634 : BitVec 32 := 0#32
  let v1787 : BitVec 1 := Scalar.cmpi .eq c8_i32_1633 c0_i32_1634
  let c1_i32_1635 : BitVec 32 := 1#32
  let v1788 : BitVec 32 := Scalar.select v1787 c1_i32_1635 c8_i32_1633
  let v1789 : BitVec 32 := Scalar.remsi v1786 v1788
  let c0_i32_1637 : BitVec 32 := 0#32
  let v1791 : BitVec 1 := Scalar.cmpi .slt v1789 c0_i32_1637
  let c0_i32_1638 : BitVec 32 := 0#32
  let v1792 : BitVec 1 := Scalar.cmpi .slt v1788 c0_i32_1638
  let v1793 : BitVec 1 := Scalar.xori v1791 v1792
  let c0_i32_1636 : BitVec 32 := 0#32
  let v1790 : BitVec 1 := Scalar.cmpi .ne v1789 c0_i32_1636
  let v1794 : BitVec 1 := Scalar.andi v1793 v1790
  let v1795 : BitVec 32 := Scalar.addi v1789 v1788
  let v1796 : BitVec 32 := Scalar.select v1794 v1795 v1789
  let c512_i32_1650 : BitVec 32 := 512#32
  let v1804 : BitVec 32 := Scalar.muli v1796 c512_i32_1650
  v1804
def k0_mult93 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1631 : BitVec 32 := 2#32
  let v1785 : BitVec 32 := Scalar.addi v2 c2_i32_1631
  let c1_i32_1632 : BitVec 32 := 1#32
  let v1786 : BitVec 32 := Scalar.addi v1785 c1_i32_1632
  let c8_i32_1633 : BitVec 32 := 8#32
  let c0_i32_1634 : BitVec 32 := 0#32
  let v1787 : BitVec 1 := Scalar.cmpi .eq c8_i32_1633 c0_i32_1634
  let c1_i32_1635 : BitVec 32 := 1#32
  let v1788 : BitVec 32 := Scalar.select v1787 c1_i32_1635 c8_i32_1633
  let v1789 : BitVec 32 := Scalar.remsi v1786 v1788
  let c0_i32_1637 : BitVec 32 := 0#32
  let v1791 : BitVec 1 := Scalar.cmpi .slt v1789 c0_i32_1637
  let c0_i32_1638 : BitVec 32 := 0#32
  let v1792 : BitVec 1 := Scalar.cmpi .slt v1788 c0_i32_1638
  let v1793 : BitVec 1 := Scalar.xori v1791 v1792
  let c0_i32_1636 : BitVec 32 := 0#32
  let v1790 : BitVec 1 := Scalar.cmpi .ne v1789 c0_i32_1636
  let v1794 : BitVec 1 := Scalar.andi v1793 v1790
  let v1795 : BitVec 32 := Scalar.addi v1789 v1788
  let v1796 : BitVec 32 := Scalar.select v1794 v1795 v1789
  let c512_i32_1656 : BitVec 32 := 512#32
  let v1812 : BitVec 32 := Scalar.muli v1796 c512_i32_1656
  v1812
def k0_mult94 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1672 : BitVec 32 := 3#32
  let v1823 : BitVec 32 := Scalar.addi v2 c3_i32_1672
  let c8_i32_1673 : BitVec 32 := 8#32
  let c0_i32_1674 : BitVec 32 := 0#32
  let v1824 : BitVec 1 := Scalar.cmpi .eq c8_i32_1673 c0_i32_1674
  let c1_i32_1675 : BitVec 32 := 1#32
  let v1825 : BitVec 32 := Scalar.select v1824 c1_i32_1675 c8_i32_1673
  let v1826 : BitVec 32 := Scalar.remsi v1823 v1825
  let c0_i32_1677 : BitVec 32 := 0#32
  let v1828 : BitVec 1 := Scalar.cmpi .slt v1826 c0_i32_1677
  let c0_i32_1678 : BitVec 32 := 0#32
  let v1829 : BitVec 1 := Scalar.cmpi .slt v1825 c0_i32_1678
  let v1830 : BitVec 1 := Scalar.xori v1828 v1829
  let c0_i32_1676 : BitVec 32 := 0#32
  let v1827 : BitVec 1 := Scalar.cmpi .ne v1826 c0_i32_1676
  let v1831 : BitVec 1 := Scalar.andi v1830 v1827
  let v1832 : BitVec 32 := Scalar.addi v1826 v1825
  let v1833 : BitVec 32 := Scalar.select v1831 v1832 v1826
  let c512_i32_1679 : BitVec 32 := 512#32
  let v1834 : BitVec 32 := Scalar.muli v1833 c512_i32_1679
  v1834
def k0_dev57 (d0 : Dev nD) : Nat :=
  let c0_i32_1687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1686 : BitVec 32 := 1#32
  let v1836 : BitVec 32 := Scalar.muli v13 c1_i32_1686
  let v1837 : BitVec 32 := Scalar.addi c0_i32_1687 v1836
  v1837.toNat
def k0_dev58 (d0 : Dev nD) : Nat :=
  let c0_i32_1695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1694 : BitVec 32 := 1#32
  let v1847 : BitVec 32 := Scalar.muli v24 c1_i32_1694
  let v1848 : BitVec 32 := Scalar.addi c0_i32_1695 v1847
  v1848.toNat
def k0_mult95 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v1849 : BitVec 32 := Scalar.addi v2 c4_i32
  let c8_i32_1696 : BitVec 32 := 8#32
  let c0_i32_1697 : BitVec 32 := 0#32
  let v1850 : BitVec 1 := Scalar.cmpi .eq c8_i32_1696 c0_i32_1697
  let c1_i32_1698 : BitVec 32 := 1#32
  let v1851 : BitVec 32 := Scalar.select v1850 c1_i32_1698 c8_i32_1696
  let v1852 : BitVec 32 := Scalar.remsi v1849 v1851
  let c0_i32_1700 : BitVec 32 := 0#32
  let v1854 : BitVec 1 := Scalar.cmpi .slt v1852 c0_i32_1700
  let c0_i32_1701 : BitVec 32 := 0#32
  let v1855 : BitVec 1 := Scalar.cmpi .slt v1851 c0_i32_1701
  let v1856 : BitVec 1 := Scalar.xori v1854 v1855
  let c0_i32_1699 : BitVec 32 := 0#32
  let v1853 : BitVec 1 := Scalar.cmpi .ne v1852 c0_i32_1699
  let v1857 : BitVec 1 := Scalar.andi v1856 v1853
  let v1858 : BitVec 32 := Scalar.addi v1852 v1851
  let v1859 : BitVec 32 := Scalar.select v1857 v1858 v1852
  let c512_i32_1702 : BitVec 32 := 512#32
  let v1860 : BitVec 32 := Scalar.muli v1859 c512_i32_1702
  v1860
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v1849 : BitVec 32 := Scalar.addi v2 c4_i32
  let c8_i32_1696 : BitVec 32 := 8#32
  let c0_i32_1697 : BitVec 32 := 0#32
  let v1850 : BitVec 1 := Scalar.cmpi .eq c8_i32_1696 c0_i32_1697
  let c1_i32_1698 : BitVec 32 := 1#32
  let v1851 : BitVec 32 := Scalar.select v1850 c1_i32_1698 c8_i32_1696
  let v1852 : BitVec 32 := Scalar.remsi v1849 v1851
  let c0_i32_1700 : BitVec 32 := 0#32
  let v1854 : BitVec 1 := Scalar.cmpi .slt v1852 c0_i32_1700
  let c0_i32_1701 : BitVec 32 := 0#32
  let v1855 : BitVec 1 := Scalar.cmpi .slt v1851 c0_i32_1701
  let v1856 : BitVec 1 := Scalar.xori v1854 v1855
  let c0_i32_1699 : BitVec 32 := 0#32
  let v1853 : BitVec 1 := Scalar.cmpi .ne v1852 c0_i32_1699
  let v1857 : BitVec 1 := Scalar.andi v1856 v1853
  let v1858 : BitVec 32 := Scalar.addi v1852 v1851
  let v1859 : BitVec 32 := Scalar.select v1857 v1858 v1852
  let c512_i32_1702 : BitVec 32 := 512#32
  let v1860 : BitVec 32 := Scalar.muli v1859 c512_i32_1702
  let v1861 : BitVec 32 := v1860
  let v1862 : Index := Scalar.indexCast v1861
  let c0_1703 : Index := 0#32
  ![v1862.toNat, 0]
def k0_mult96 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v1849 : BitVec 32 := Scalar.addi v2 c4_i32
  let c8_i32_1696 : BitVec 32 := 8#32
  let c0_i32_1697 : BitVec 32 := 0#32
  let v1850 : BitVec 1 := Scalar.cmpi .eq c8_i32_1696 c0_i32_1697
  let c1_i32_1698 : BitVec 32 := 1#32
  let v1851 : BitVec 32 := Scalar.select v1850 c1_i32_1698 c8_i32_1696
  let v1852 : BitVec 32 := Scalar.remsi v1849 v1851
  let c0_i32_1700 : BitVec 32 := 0#32
  let v1854 : BitVec 1 := Scalar.cmpi .slt v1852 c0_i32_1700
  let c0_i32_1701 : BitVec 32 := 0#32
  let v1855 : BitVec 1 := Scalar.cmpi .slt v1851 c0_i32_1701
  let v1856 : BitVec 1 := Scalar.xori v1854 v1855
  let c0_i32_1699 : BitVec 32 := 0#32
  let v1853 : BitVec 1 := Scalar.cmpi .ne v1852 c0_i32_1699
  let v1857 : BitVec 1 := Scalar.andi v1856 v1853
  let v1858 : BitVec 32 := Scalar.addi v1852 v1851
  let v1859 : BitVec 32 := Scalar.select v1857 v1858 v1852
  let c512_i32_1707 : BitVec 32 := 512#32
  let v1869 : BitVec 32 := Scalar.muli v1859 c512_i32_1707
  v1869
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v1849 : BitVec 32 := Scalar.addi v2 c4_i32
  let c8_i32_1696 : BitVec 32 := 8#32
  let c0_i32_1697 : BitVec 32 := 0#32
  let v1850 : BitVec 1 := Scalar.cmpi .eq c8_i32_1696 c0_i32_1697
  let c1_i32_1698 : BitVec 32 := 1#32
  let v1851 : BitVec 32 := Scalar.select v1850 c1_i32_1698 c8_i32_1696
  let v1852 : BitVec 32 := Scalar.remsi v1849 v1851
  let c0_i32_1700 : BitVec 32 := 0#32
  let v1854 : BitVec 1 := Scalar.cmpi .slt v1852 c0_i32_1700
  let c0_i32_1701 : BitVec 32 := 0#32
  let v1855 : BitVec 1 := Scalar.cmpi .slt v1851 c0_i32_1701
  let v1856 : BitVec 1 := Scalar.xori v1854 v1855
  let c0_i32_1699 : BitVec 32 := 0#32
  let v1853 : BitVec 1 := Scalar.cmpi .ne v1852 c0_i32_1699
  let v1857 : BitVec 1 := Scalar.andi v1856 v1853
  let v1858 : BitVec 32 := Scalar.addi v1852 v1851
  let v1859 : BitVec 32 := Scalar.select v1857 v1858 v1852
  let c512_i32_1707 : BitVec 32 := 512#32
  let v1869 : BitVec 32 := Scalar.muli v1859 c512_i32_1707
  let v1870 : BitVec 32 := v1869
  let v1871 : Index := Scalar.indexCast v1870
  let c0_1708 : Index := 0#32
  ![v1871.toNat, 0]
def k0_mult97 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1709 : BitVec 32 := 3#32
  let v1873 : BitVec 32 := Scalar.subi v2 c3_i32_1709
  let c1_i32_1710 : BitVec 32 := 1#32
  let v1874 : BitVec 32 := Scalar.subi v1873 c1_i32_1710
  let c8_i32_1711 : BitVec 32 := 8#32
  let c0_i32_1712 : BitVec 32 := 0#32
  let v1875 : BitVec 1 := Scalar.cmpi .eq c8_i32_1711 c0_i32_1712
  let c1_i32_1713 : BitVec 32 := 1#32
  let v1876 : BitVec 32 := Scalar.select v1875 c1_i32_1713 c8_i32_1711
  let v1877 : BitVec 32 := Scalar.remsi v1874 v1876
  let c0_i32_1715 : BitVec 32 := 0#32
  let v1879 : BitVec 1 := Scalar.cmpi .slt v1877 c0_i32_1715
  let c0_i32_1716 : BitVec 32 := 0#32
  let v1880 : BitVec 1 := Scalar.cmpi .slt v1876 c0_i32_1716
  let v1881 : BitVec 1 := Scalar.xori v1879 v1880
  let c0_i32_1714 : BitVec 32 := 0#32
  let v1878 : BitVec 1 := Scalar.cmpi .ne v1877 c0_i32_1714
  let v1882 : BitVec 1 := Scalar.andi v1881 v1878
  let v1883 : BitVec 32 := Scalar.addi v1877 v1876
  let v1884 : BitVec 32 := Scalar.select v1882 v1883 v1877
  let c512_i32_1728 : BitVec 32 := 512#32
  let v1892 : BitVec 32 := Scalar.muli v1884 c512_i32_1728
  v1892
def k0_mult98 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1709 : BitVec 32 := 3#32
  let v1873 : BitVec 32 := Scalar.subi v2 c3_i32_1709
  let c1_i32_1710 : BitVec 32 := 1#32
  let v1874 : BitVec 32 := Scalar.subi v1873 c1_i32_1710
  let c8_i32_1711 : BitVec 32 := 8#32
  let c0_i32_1712 : BitVec 32 := 0#32
  let v1875 : BitVec 1 := Scalar.cmpi .eq c8_i32_1711 c0_i32_1712
  let c1_i32_1713 : BitVec 32 := 1#32
  let v1876 : BitVec 32 := Scalar.select v1875 c1_i32_1713 c8_i32_1711
  let v1877 : BitVec 32 := Scalar.remsi v1874 v1876
  let c0_i32_1715 : BitVec 32 := 0#32
  let v1879 : BitVec 1 := Scalar.cmpi .slt v1877 c0_i32_1715
  let c0_i32_1716 : BitVec 32 := 0#32
  let v1880 : BitVec 1 := Scalar.cmpi .slt v1876 c0_i32_1716
  let v1881 : BitVec 1 := Scalar.xori v1879 v1880
  let c0_i32_1714 : BitVec 32 := 0#32
  let v1878 : BitVec 1 := Scalar.cmpi .ne v1877 c0_i32_1714
  let v1882 : BitVec 1 := Scalar.andi v1881 v1878
  let v1883 : BitVec 32 := Scalar.addi v1877 v1876
  let v1884 : BitVec 32 := Scalar.select v1882 v1883 v1877
  let c512_i32_1734 : BitVec 32 := 512#32
  let v1900 : BitVec 32 := Scalar.muli v1884 c512_i32_1734
  v1900
def k0_mult99 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1750 : BitVec 32 := 4#32
  let v1911 : BitVec 32 := Scalar.subi v2 c4_i32_1750
  let c8_i32_1751 : BitVec 32 := 8#32
  let c0_i32_1752 : BitVec 32 := 0#32
  let v1912 : BitVec 1 := Scalar.cmpi .eq c8_i32_1751 c0_i32_1752
  let c1_i32_1753 : BitVec 32 := 1#32
  let v1913 : BitVec 32 := Scalar.select v1912 c1_i32_1753 c8_i32_1751
  let v1914 : BitVec 32 := Scalar.remsi v1911 v1913
  let c0_i32_1755 : BitVec 32 := 0#32
  let v1916 : BitVec 1 := Scalar.cmpi .slt v1914 c0_i32_1755
  let c0_i32_1756 : BitVec 32 := 0#32
  let v1917 : BitVec 1 := Scalar.cmpi .slt v1913 c0_i32_1756
  let v1918 : BitVec 1 := Scalar.xori v1916 v1917
  let c0_i32_1754 : BitVec 32 := 0#32
  let v1915 : BitVec 1 := Scalar.cmpi .ne v1914 c0_i32_1754
  let v1919 : BitVec 1 := Scalar.andi v1918 v1915
  let v1920 : BitVec 32 := Scalar.addi v1914 v1913
  let v1921 : BitVec 32 := Scalar.select v1919 v1920 v1914
  let c512_i32_1757 : BitVec 32 := 512#32
  let v1922 : BitVec 32 := Scalar.muli v1921 c512_i32_1757
  v1922
def k0_dev59 (d0 : Dev nD) : Nat :=
  let c0_i32_1765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1764 : BitVec 32 := 1#32
  let v1924 : BitVec 32 := Scalar.muli v24 c1_i32_1764
  let v1925 : BitVec 32 := Scalar.addi c0_i32_1765 v1924
  v1925.toNat
def k0_dev60 (d0 : Dev nD) : Nat :=
  let c0_i32_1773 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1772 : BitVec 32 := 1#32
  let v1935 : BitVec 32 := Scalar.muli v13 c1_i32_1772
  let v1936 : BitVec 32 := Scalar.addi c0_i32_1773 v1935
  v1936.toNat
def k0_mult100 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1774 : BitVec 32 := 3#32
  let v1937 : BitVec 32 := Scalar.addi v2 c3_i32_1774
  let c1_i32_1775 : BitVec 32 := 1#32
  let v1938 : BitVec 32 := Scalar.addi v1937 c1_i32_1775
  let c8_i32_1776 : BitVec 32 := 8#32
  let c0_i32_1777 : BitVec 32 := 0#32
  let v1939 : BitVec 1 := Scalar.cmpi .eq c8_i32_1776 c0_i32_1777
  let c1_i32_1778 : BitVec 32 := 1#32
  let v1940 : BitVec 32 := Scalar.select v1939 c1_i32_1778 c8_i32_1776
  let v1941 : BitVec 32 := Scalar.remsi v1938 v1940
  let c0_i32_1780 : BitVec 32 := 0#32
  let v1943 : BitVec 1 := Scalar.cmpi .slt v1941 c0_i32_1780
  let c0_i32_1781 : BitVec 32 := 0#32
  let v1944 : BitVec 1 := Scalar.cmpi .slt v1940 c0_i32_1781
  let v1945 : BitVec 1 := Scalar.xori v1943 v1944
  let c0_i32_1779 : BitVec 32 := 0#32
  let v1942 : BitVec 1 := Scalar.cmpi .ne v1941 c0_i32_1779
  let v1946 : BitVec 1 := Scalar.andi v1945 v1942
  let v1947 : BitVec 32 := Scalar.addi v1941 v1940
  let v1948 : BitVec 32 := Scalar.select v1946 v1947 v1941
  let c512_i32_1793 : BitVec 32 := 512#32
  let v1956 : BitVec 32 := Scalar.muli v1948 c512_i32_1793
  v1956
def k0_mult101 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1774 : BitVec 32 := 3#32
  let v1937 : BitVec 32 := Scalar.addi v2 c3_i32_1774
  let c1_i32_1775 : BitVec 32 := 1#32
  let v1938 : BitVec 32 := Scalar.addi v1937 c1_i32_1775
  let c8_i32_1776 : BitVec 32 := 8#32
  let c0_i32_1777 : BitVec 32 := 0#32
  let v1939 : BitVec 1 := Scalar.cmpi .eq c8_i32_1776 c0_i32_1777
  let c1_i32_1778 : BitVec 32 := 1#32
  let v1940 : BitVec 32 := Scalar.select v1939 c1_i32_1778 c8_i32_1776
  let v1941 : BitVec 32 := Scalar.remsi v1938 v1940
  let c0_i32_1780 : BitVec 32 := 0#32
  let v1943 : BitVec 1 := Scalar.cmpi .slt v1941 c0_i32_1780
  let c0_i32_1781 : BitVec 32 := 0#32
  let v1944 : BitVec 1 := Scalar.cmpi .slt v1940 c0_i32_1781
  let v1945 : BitVec 1 := Scalar.xori v1943 v1944
  let c0_i32_1779 : BitVec 32 := 0#32
  let v1942 : BitVec 1 := Scalar.cmpi .ne v1941 c0_i32_1779
  let v1946 : BitVec 1 := Scalar.andi v1945 v1942
  let v1947 : BitVec 32 := Scalar.addi v1941 v1940
  let v1948 : BitVec 32 := Scalar.select v1946 v1947 v1941
  let c512_i32_1799 : BitVec 32 := 512#32
  let v1964 : BitVec 32 := Scalar.muli v1948 c512_i32_1799
  v1964
def k0_mult102 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1815 : BitVec 32 := 4#32
  let v1975 : BitVec 32 := Scalar.addi v2 c4_i32_1815
  let c8_i32_1816 : BitVec 32 := 8#32
  let c0_i32_1817 : BitVec 32 := 0#32
  let v1976 : BitVec 1 := Scalar.cmpi .eq c8_i32_1816 c0_i32_1817
  let c1_i32_1818 : BitVec 32 := 1#32
  let v1977 : BitVec 32 := Scalar.select v1976 c1_i32_1818 c8_i32_1816
  let v1978 : BitVec 32 := Scalar.remsi v1975 v1977
  let c0_i32_1820 : BitVec 32 := 0#32
  let v1980 : BitVec 1 := Scalar.cmpi .slt v1978 c0_i32_1820
  let c0_i32_1821 : BitVec 32 := 0#32
  let v1981 : BitVec 1 := Scalar.cmpi .slt v1977 c0_i32_1821
  let v1982 : BitVec 1 := Scalar.xori v1980 v1981
  let c0_i32_1819 : BitVec 32 := 0#32
  let v1979 : BitVec 1 := Scalar.cmpi .ne v1978 c0_i32_1819
  let v1983 : BitVec 1 := Scalar.andi v1982 v1979
  let v1984 : BitVec 32 := Scalar.addi v1978 v1977
  let v1985 : BitVec 32 := Scalar.select v1983 v1984 v1978
  let c512_i32_1822 : BitVec 32 := 512#32
  let v1986 : BitVec 32 := Scalar.muli v1985 c512_i32_1822
  v1986
def k0_dev61 (d0 : Dev nD) : Nat :=
  let c0_i32_1830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1829 : BitVec 32 := 1#32
  let v1988 : BitVec 32 := Scalar.muli v13 c1_i32_1829
  let v1989 : BitVec 32 := Scalar.addi c0_i32_1830 v1988
  v1989.toNat
def k0_dev62 (d0 : Dev nD) : Nat :=
  let c0_i32_1838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1837 : BitVec 32 := 1#32
  let v1999 : BitVec 32 := Scalar.muli v24 c1_i32_1837
  let v2000 : BitVec 32 := Scalar.addi c0_i32_1838 v1999
  v2000.toNat
def k0_mult103 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1839 : BitVec 32 := 3#32
  let v2001 : BitVec 32 := Scalar.subi v2 c3_i32_1839
  let c1_i32_1840 : BitVec 32 := 1#32
  let v2002 : BitVec 32 := Scalar.subi v2001 c1_i32_1840
  let c8_i32_1841 : BitVec 32 := 8#32
  let c0_i32_1842 : BitVec 32 := 0#32
  let v2003 : BitVec 1 := Scalar.cmpi .eq c8_i32_1841 c0_i32_1842
  let c1_i32_1843 : BitVec 32 := 1#32
  let v2004 : BitVec 32 := Scalar.select v2003 c1_i32_1843 c8_i32_1841
  let v2005 : BitVec 32 := Scalar.remsi v2002 v2004
  let c0_i32_1845 : BitVec 32 := 0#32
  let v2007 : BitVec 1 := Scalar.cmpi .slt v2005 c0_i32_1845
  let c0_i32_1846 : BitVec 32 := 0#32
  let v2008 : BitVec 1 := Scalar.cmpi .slt v2004 c0_i32_1846
  let v2009 : BitVec 1 := Scalar.xori v2007 v2008
  let c0_i32_1844 : BitVec 32 := 0#32
  let v2006 : BitVec 1 := Scalar.cmpi .ne v2005 c0_i32_1844
  let v2010 : BitVec 1 := Scalar.andi v2009 v2006
  let v2011 : BitVec 32 := Scalar.addi v2005 v2004
  let v2012 : BitVec 32 := Scalar.select v2010 v2011 v2005
  let c512_i32_1858 : BitVec 32 := 512#32
  let v2020 : BitVec 32 := Scalar.muli v2012 c512_i32_1858
  v2020
def k0_mult104 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1839 : BitVec 32 := 3#32
  let v2001 : BitVec 32 := Scalar.subi v2 c3_i32_1839
  let c1_i32_1840 : BitVec 32 := 1#32
  let v2002 : BitVec 32 := Scalar.subi v2001 c1_i32_1840
  let c8_i32_1841 : BitVec 32 := 8#32
  let c0_i32_1842 : BitVec 32 := 0#32
  let v2003 : BitVec 1 := Scalar.cmpi .eq c8_i32_1841 c0_i32_1842
  let c1_i32_1843 : BitVec 32 := 1#32
  let v2004 : BitVec 32 := Scalar.select v2003 c1_i32_1843 c8_i32_1841
  let v2005 : BitVec 32 := Scalar.remsi v2002 v2004
  let c0_i32_1845 : BitVec 32 := 0#32
  let v2007 : BitVec 1 := Scalar.cmpi .slt v2005 c0_i32_1845
  let c0_i32_1846 : BitVec 32 := 0#32
  let v2008 : BitVec 1 := Scalar.cmpi .slt v2004 c0_i32_1846
  let v2009 : BitVec 1 := Scalar.xori v2007 v2008
  let c0_i32_1844 : BitVec 32 := 0#32
  let v2006 : BitVec 1 := Scalar.cmpi .ne v2005 c0_i32_1844
  let v2010 : BitVec 1 := Scalar.andi v2009 v2006
  let v2011 : BitVec 32 := Scalar.addi v2005 v2004
  let v2012 : BitVec 32 := Scalar.select v2010 v2011 v2005
  let c512_i32_1864 : BitVec 32 := 512#32
  let v2028 : BitVec 32 := Scalar.muli v2012 c512_i32_1864
  v2028
def k0_mult105 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1880 : BitVec 32 := 4#32
  let v2039 : BitVec 32 := Scalar.subi v2 c4_i32_1880
  let c8_i32_1881 : BitVec 32 := 8#32
  let c0_i32_1882 : BitVec 32 := 0#32
  let v2040 : BitVec 1 := Scalar.cmpi .eq c8_i32_1881 c0_i32_1882
  let c1_i32_1883 : BitVec 32 := 1#32
  let v2041 : BitVec 32 := Scalar.select v2040 c1_i32_1883 c8_i32_1881
  let v2042 : BitVec 32 := Scalar.remsi v2039 v2041
  let c0_i32_1885 : BitVec 32 := 0#32
  let v2044 : BitVec 1 := Scalar.cmpi .slt v2042 c0_i32_1885
  let c0_i32_1886 : BitVec 32 := 0#32
  let v2045 : BitVec 1 := Scalar.cmpi .slt v2041 c0_i32_1886
  let v2046 : BitVec 1 := Scalar.xori v2044 v2045
  let c0_i32_1884 : BitVec 32 := 0#32
  let v2043 : BitVec 1 := Scalar.cmpi .ne v2042 c0_i32_1884
  let v2047 : BitVec 1 := Scalar.andi v2046 v2043
  let v2048 : BitVec 32 := Scalar.addi v2042 v2041
  let v2049 : BitVec 32 := Scalar.select v2047 v2048 v2042
  let c512_i32_1887 : BitVec 32 := 512#32
  let v2050 : BitVec 32 := Scalar.muli v2049 c512_i32_1887
  v2050
def k0_dev63 (d0 : Dev nD) : Nat :=
  let c0_i32_1895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1894 : BitVec 32 := 1#32
  let v2052 : BitVec 32 := Scalar.muli v24 c1_i32_1894
  let v2053 : BitVec 32 := Scalar.addi c0_i32_1895 v2052
  v2053.toNat
def k0_dev64 (d0 : Dev nD) : Nat :=
  let c0_i32_1903 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1902 : BitVec 32 := 1#32
  let v2063 : BitVec 32 := Scalar.muli v13 c1_i32_1902
  let v2064 : BitVec 32 := Scalar.addi c0_i32_1903 v2063
  v2064.toNat
def k0_mult106 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1904 : BitVec 32 := 3#32
  let v2065 : BitVec 32 := Scalar.addi v2 c3_i32_1904
  let c1_i32_1905 : BitVec 32 := 1#32
  let v2066 : BitVec 32 := Scalar.addi v2065 c1_i32_1905
  let c8_i32_1906 : BitVec 32 := 8#32
  let c0_i32_1907 : BitVec 32 := 0#32
  let v2067 : BitVec 1 := Scalar.cmpi .eq c8_i32_1906 c0_i32_1907
  let c1_i32_1908 : BitVec 32 := 1#32
  let v2068 : BitVec 32 := Scalar.select v2067 c1_i32_1908 c8_i32_1906
  let v2069 : BitVec 32 := Scalar.remsi v2066 v2068
  let c0_i32_1910 : BitVec 32 := 0#32
  let v2071 : BitVec 1 := Scalar.cmpi .slt v2069 c0_i32_1910
  let c0_i32_1911 : BitVec 32 := 0#32
  let v2072 : BitVec 1 := Scalar.cmpi .slt v2068 c0_i32_1911
  let v2073 : BitVec 1 := Scalar.xori v2071 v2072
  let c0_i32_1909 : BitVec 32 := 0#32
  let v2070 : BitVec 1 := Scalar.cmpi .ne v2069 c0_i32_1909
  let v2074 : BitVec 1 := Scalar.andi v2073 v2070
  let v2075 : BitVec 32 := Scalar.addi v2069 v2068
  let v2076 : BitVec 32 := Scalar.select v2074 v2075 v2069
  let c512_i32_1923 : BitVec 32 := 512#32
  let v2084 : BitVec 32 := Scalar.muli v2076 c512_i32_1923
  v2084
def k0_mult107 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1904 : BitVec 32 := 3#32
  let v2065 : BitVec 32 := Scalar.addi v2 c3_i32_1904
  let c1_i32_1905 : BitVec 32 := 1#32
  let v2066 : BitVec 32 := Scalar.addi v2065 c1_i32_1905
  let c8_i32_1906 : BitVec 32 := 8#32
  let c0_i32_1907 : BitVec 32 := 0#32
  let v2067 : BitVec 1 := Scalar.cmpi .eq c8_i32_1906 c0_i32_1907
  let c1_i32_1908 : BitVec 32 := 1#32
  let v2068 : BitVec 32 := Scalar.select v2067 c1_i32_1908 c8_i32_1906
  let v2069 : BitVec 32 := Scalar.remsi v2066 v2068
  let c0_i32_1910 : BitVec 32 := 0#32
  let v2071 : BitVec 1 := Scalar.cmpi .slt v2069 c0_i32_1910
  let c0_i32_1911 : BitVec 32 := 0#32
  let v2072 : BitVec 1 := Scalar.cmpi .slt v2068 c0_i32_1911
  let v2073 : BitVec 1 := Scalar.xori v2071 v2072
  let c0_i32_1909 : BitVec 32 := 0#32
  let v2070 : BitVec 1 := Scalar.cmpi .ne v2069 c0_i32_1909
  let v2074 : BitVec 1 := Scalar.andi v2073 v2070
  let v2075 : BitVec 32 := Scalar.addi v2069 v2068
  let v2076 : BitVec 32 := Scalar.select v2074 v2075 v2069
  let c512_i32_1929 : BitVec 32 := 512#32
  let v2092 : BitVec 32 := Scalar.muli v2076 c512_i32_1929
  v2092
def k0_mult108 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1945 : BitVec 32 := 4#32
  let v2103 : BitVec 32 := Scalar.addi v2 c4_i32_1945
  let c8_i32_1946 : BitVec 32 := 8#32
  let c0_i32_1947 : BitVec 32 := 0#32
  let v2104 : BitVec 1 := Scalar.cmpi .eq c8_i32_1946 c0_i32_1947
  let c1_i32_1948 : BitVec 32 := 1#32
  let v2105 : BitVec 32 := Scalar.select v2104 c1_i32_1948 c8_i32_1946
  let v2106 : BitVec 32 := Scalar.remsi v2103 v2105
  let c0_i32_1950 : BitVec 32 := 0#32
  let v2108 : BitVec 1 := Scalar.cmpi .slt v2106 c0_i32_1950
  let c0_i32_1951 : BitVec 32 := 0#32
  let v2109 : BitVec 1 := Scalar.cmpi .slt v2105 c0_i32_1951
  let v2110 : BitVec 1 := Scalar.xori v2108 v2109
  let c0_i32_1949 : BitVec 32 := 0#32
  let v2107 : BitVec 1 := Scalar.cmpi .ne v2106 c0_i32_1949
  let v2111 : BitVec 1 := Scalar.andi v2110 v2107
  let v2112 : BitVec 32 := Scalar.addi v2106 v2105
  let v2113 : BitVec 32 := Scalar.select v2111 v2112 v2106
  let c512_i32_1952 : BitVec 32 := 512#32
  let v2114 : BitVec 32 := Scalar.muli v2113 c512_i32_1952
  v2114
def k0_dev65 (d0 : Dev nD) : Nat :=
  let c0_i32_1960 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1959 : BitVec 32 := 1#32
  let v2116 : BitVec 32 := Scalar.muli v13 c1_i32_1959
  let v2117 : BitVec 32 := Scalar.addi c0_i32_1960 v2116
  v2117.toNat
def k0_dev66 (d0 : Dev nD) : Nat :=
  let c0_i32_1968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1967 : BitVec 32 := 1#32
  let v2127 : BitVec 32 := Scalar.muli v24 c1_i32_1967
  let v2128 : BitVec 32 := Scalar.addi c0_i32_1968 v2127
  v2128.toNat
def k0_mult109 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1969 : BitVec 32 := 3#32
  let v2129 : BitVec 32 := Scalar.subi v2 c3_i32_1969
  let c1_i32_1970 : BitVec 32 := 1#32
  let v2130 : BitVec 32 := Scalar.subi v2129 c1_i32_1970
  let c8_i32_1971 : BitVec 32 := 8#32
  let c0_i32_1972 : BitVec 32 := 0#32
  let v2131 : BitVec 1 := Scalar.cmpi .eq c8_i32_1971 c0_i32_1972
  let c1_i32_1973 : BitVec 32 := 1#32
  let v2132 : BitVec 32 := Scalar.select v2131 c1_i32_1973 c8_i32_1971
  let v2133 : BitVec 32 := Scalar.remsi v2130 v2132
  let c0_i32_1975 : BitVec 32 := 0#32
  let v2135 : BitVec 1 := Scalar.cmpi .slt v2133 c0_i32_1975
  let c0_i32_1976 : BitVec 32 := 0#32
  let v2136 : BitVec 1 := Scalar.cmpi .slt v2132 c0_i32_1976
  let v2137 : BitVec 1 := Scalar.xori v2135 v2136
  let c0_i32_1974 : BitVec 32 := 0#32
  let v2134 : BitVec 1 := Scalar.cmpi .ne v2133 c0_i32_1974
  let v2138 : BitVec 1 := Scalar.andi v2137 v2134
  let v2139 : BitVec 32 := Scalar.addi v2133 v2132
  let v2140 : BitVec 32 := Scalar.select v2138 v2139 v2133
  let c512_i32_1988 : BitVec 32 := 512#32
  let v2148 : BitVec 32 := Scalar.muli v2140 c512_i32_1988
  v2148
def k0_mult110 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1969 : BitVec 32 := 3#32
  let v2129 : BitVec 32 := Scalar.subi v2 c3_i32_1969
  let c1_i32_1970 : BitVec 32 := 1#32
  let v2130 : BitVec 32 := Scalar.subi v2129 c1_i32_1970
  let c8_i32_1971 : BitVec 32 := 8#32
  let c0_i32_1972 : BitVec 32 := 0#32
  let v2131 : BitVec 1 := Scalar.cmpi .eq c8_i32_1971 c0_i32_1972
  let c1_i32_1973 : BitVec 32 := 1#32
  let v2132 : BitVec 32 := Scalar.select v2131 c1_i32_1973 c8_i32_1971
  let v2133 : BitVec 32 := Scalar.remsi v2130 v2132
  let c0_i32_1975 : BitVec 32 := 0#32
  let v2135 : BitVec 1 := Scalar.cmpi .slt v2133 c0_i32_1975
  let c0_i32_1976 : BitVec 32 := 0#32
  let v2136 : BitVec 1 := Scalar.cmpi .slt v2132 c0_i32_1976
  let v2137 : BitVec 1 := Scalar.xori v2135 v2136
  let c0_i32_1974 : BitVec 32 := 0#32
  let v2134 : BitVec 1 := Scalar.cmpi .ne v2133 c0_i32_1974
  let v2138 : BitVec 1 := Scalar.andi v2137 v2134
  let v2139 : BitVec 32 := Scalar.addi v2133 v2132
  let v2140 : BitVec 32 := Scalar.select v2138 v2139 v2133
  let c512_i32_1994 : BitVec 32 := 512#32
  let v2156 : BitVec 32 := Scalar.muli v2140 c512_i32_1994
  v2156
def k0_mult111 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2010 : BitVec 32 := 4#32
  let v2167 : BitVec 32 := Scalar.subi v2 c4_i32_2010
  let c8_i32_2011 : BitVec 32 := 8#32
  let c0_i32_2012 : BitVec 32 := 0#32
  let v2168 : BitVec 1 := Scalar.cmpi .eq c8_i32_2011 c0_i32_2012
  let c1_i32_2013 : BitVec 32 := 1#32
  let v2169 : BitVec 32 := Scalar.select v2168 c1_i32_2013 c8_i32_2011
  let v2170 : BitVec 32 := Scalar.remsi v2167 v2169
  let c0_i32_2015 : BitVec 32 := 0#32
  let v2172 : BitVec 1 := Scalar.cmpi .slt v2170 c0_i32_2015
  let c0_i32_2016 : BitVec 32 := 0#32
  let v2173 : BitVec 1 := Scalar.cmpi .slt v2169 c0_i32_2016
  let v2174 : BitVec 1 := Scalar.xori v2172 v2173
  let c0_i32_2014 : BitVec 32 := 0#32
  let v2171 : BitVec 1 := Scalar.cmpi .ne v2170 c0_i32_2014
  let v2175 : BitVec 1 := Scalar.andi v2174 v2171
  let v2176 : BitVec 32 := Scalar.addi v2170 v2169
  let v2177 : BitVec 32 := Scalar.select v2175 v2176 v2170
  let c512_i32_2017 : BitVec 32 := 512#32
  let v2178 : BitVec 32 := Scalar.muli v2177 c512_i32_2017
  v2178
def k0_dev67 (d0 : Dev nD) : Nat :=
  let c0_i32_2025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2024 : BitVec 32 := 1#32
  let v2180 : BitVec 32 := Scalar.muli v24 c1_i32_2024
  let v2181 : BitVec 32 := Scalar.addi c0_i32_2025 v2180
  v2181.toNat
def k0_dev68 (d0 : Dev nD) : Nat :=
  let c0_i32_2033 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2032 : BitVec 32 := 1#32
  let v2191 : BitVec 32 := Scalar.muli v13 c1_i32_2032
  let v2192 : BitVec 32 := Scalar.addi c0_i32_2033 v2191
  v2192.toNat
def k0_mult112 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2034 : BitVec 32 := 3#32
  let v2193 : BitVec 32 := Scalar.addi v2 c3_i32_2034
  let c1_i32_2035 : BitVec 32 := 1#32
  let v2194 : BitVec 32 := Scalar.addi v2193 c1_i32_2035
  let c8_i32_2036 : BitVec 32 := 8#32
  let c0_i32_2037 : BitVec 32 := 0#32
  let v2195 : BitVec 1 := Scalar.cmpi .eq c8_i32_2036 c0_i32_2037
  let c1_i32_2038 : BitVec 32 := 1#32
  let v2196 : BitVec 32 := Scalar.select v2195 c1_i32_2038 c8_i32_2036
  let v2197 : BitVec 32 := Scalar.remsi v2194 v2196
  let c0_i32_2040 : BitVec 32 := 0#32
  let v2199 : BitVec 1 := Scalar.cmpi .slt v2197 c0_i32_2040
  let c0_i32_2041 : BitVec 32 := 0#32
  let v2200 : BitVec 1 := Scalar.cmpi .slt v2196 c0_i32_2041
  let v2201 : BitVec 1 := Scalar.xori v2199 v2200
  let c0_i32_2039 : BitVec 32 := 0#32
  let v2198 : BitVec 1 := Scalar.cmpi .ne v2197 c0_i32_2039
  let v2202 : BitVec 1 := Scalar.andi v2201 v2198
  let v2203 : BitVec 32 := Scalar.addi v2197 v2196
  let v2204 : BitVec 32 := Scalar.select v2202 v2203 v2197
  let c512_i32_2053 : BitVec 32 := 512#32
  let v2212 : BitVec 32 := Scalar.muli v2204 c512_i32_2053
  v2212
def k0_mult113 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2034 : BitVec 32 := 3#32
  let v2193 : BitVec 32 := Scalar.addi v2 c3_i32_2034
  let c1_i32_2035 : BitVec 32 := 1#32
  let v2194 : BitVec 32 := Scalar.addi v2193 c1_i32_2035
  let c8_i32_2036 : BitVec 32 := 8#32
  let c0_i32_2037 : BitVec 32 := 0#32
  let v2195 : BitVec 1 := Scalar.cmpi .eq c8_i32_2036 c0_i32_2037
  let c1_i32_2038 : BitVec 32 := 1#32
  let v2196 : BitVec 32 := Scalar.select v2195 c1_i32_2038 c8_i32_2036
  let v2197 : BitVec 32 := Scalar.remsi v2194 v2196
  let c0_i32_2040 : BitVec 32 := 0#32
  let v2199 : BitVec 1 := Scalar.cmpi .slt v2197 c0_i32_2040
  let c0_i32_2041 : BitVec 32 := 0#32
  let v2200 : BitVec 1 := Scalar.cmpi .slt v2196 c0_i32_2041
  let v2201 : BitVec 1 := Scalar.xori v2199 v2200
  let c0_i32_2039 : BitVec 32 := 0#32
  let v2198 : BitVec 1 := Scalar.cmpi .ne v2197 c0_i32_2039
  let v2202 : BitVec 1 := Scalar.andi v2201 v2198
  let v2203 : BitVec 32 := Scalar.addi v2197 v2196
  let v2204 : BitVec 32 := Scalar.select v2202 v2203 v2197
  let c512_i32_2059 : BitVec 32 := 512#32
  let v2220 : BitVec 32 := Scalar.muli v2204 c512_i32_2059
  v2220
def k0_mult114 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2075 : BitVec 32 := 4#32
  let v2231 : BitVec 32 := Scalar.addi v2 c4_i32_2075
  let c8_i32_2076 : BitVec 32 := 8#32
  let c0_i32_2077 : BitVec 32 := 0#32
  let v2232 : BitVec 1 := Scalar.cmpi .eq c8_i32_2076 c0_i32_2077
  let c1_i32_2078 : BitVec 32 := 1#32
  let v2233 : BitVec 32 := Scalar.select v2232 c1_i32_2078 c8_i32_2076
  let v2234 : BitVec 32 := Scalar.remsi v2231 v2233
  let c0_i32_2080 : BitVec 32 := 0#32
  let v2236 : BitVec 1 := Scalar.cmpi .slt v2234 c0_i32_2080
  let c0_i32_2081 : BitVec 32 := 0#32
  let v2237 : BitVec 1 := Scalar.cmpi .slt v2233 c0_i32_2081
  let v2238 : BitVec 1 := Scalar.xori v2236 v2237
  let c0_i32_2079 : BitVec 32 := 0#32
  let v2235 : BitVec 1 := Scalar.cmpi .ne v2234 c0_i32_2079
  let v2239 : BitVec 1 := Scalar.andi v2238 v2235
  let v2240 : BitVec 32 := Scalar.addi v2234 v2233
  let v2241 : BitVec 32 := Scalar.select v2239 v2240 v2234
  let c512_i32_2082 : BitVec 32 := 512#32
  let v2242 : BitVec 32 := Scalar.muli v2241 c512_i32_2082
  v2242
def k0_dev69 (d0 : Dev nD) : Nat :=
  let c0_i32_2090 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2089 : BitVec 32 := 1#32
  let v2244 : BitVec 32 := Scalar.muli v13 c1_i32_2089
  let v2245 : BitVec 32 := Scalar.addi c0_i32_2090 v2244
  v2245.toNat
def k0_dev70 (d0 : Dev nD) : Nat :=
  let c0_i32_2098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2097 : BitVec 32 := 1#32
  let v2255 : BitVec 32 := Scalar.muli v24 c1_i32_2097
  let v2256 : BitVec 32 := Scalar.addi c0_i32_2098 v2255
  v2256.toNat
def k0_mult115 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2099 : BitVec 32 := 3#32
  let v2257 : BitVec 32 := Scalar.subi v2 c3_i32_2099
  let c1_i32_2100 : BitVec 32 := 1#32
  let v2258 : BitVec 32 := Scalar.subi v2257 c1_i32_2100
  let c8_i32_2101 : BitVec 32 := 8#32
  let c0_i32_2102 : BitVec 32 := 0#32
  let v2259 : BitVec 1 := Scalar.cmpi .eq c8_i32_2101 c0_i32_2102
  let c1_i32_2103 : BitVec 32 := 1#32
  let v2260 : BitVec 32 := Scalar.select v2259 c1_i32_2103 c8_i32_2101
  let v2261 : BitVec 32 := Scalar.remsi v2258 v2260
  let c0_i32_2105 : BitVec 32 := 0#32
  let v2263 : BitVec 1 := Scalar.cmpi .slt v2261 c0_i32_2105
  let c0_i32_2106 : BitVec 32 := 0#32
  let v2264 : BitVec 1 := Scalar.cmpi .slt v2260 c0_i32_2106
  let v2265 : BitVec 1 := Scalar.xori v2263 v2264
  let c0_i32_2104 : BitVec 32 := 0#32
  let v2262 : BitVec 1 := Scalar.cmpi .ne v2261 c0_i32_2104
  let v2266 : BitVec 1 := Scalar.andi v2265 v2262
  let v2267 : BitVec 32 := Scalar.addi v2261 v2260
  let v2268 : BitVec 32 := Scalar.select v2266 v2267 v2261
  let c512_i32_2118 : BitVec 32 := 512#32
  let v2276 : BitVec 32 := Scalar.muli v2268 c512_i32_2118
  v2276
def k0_mult116 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2099 : BitVec 32 := 3#32
  let v2257 : BitVec 32 := Scalar.subi v2 c3_i32_2099
  let c1_i32_2100 : BitVec 32 := 1#32
  let v2258 : BitVec 32 := Scalar.subi v2257 c1_i32_2100
  let c8_i32_2101 : BitVec 32 := 8#32
  let c0_i32_2102 : BitVec 32 := 0#32
  let v2259 : BitVec 1 := Scalar.cmpi .eq c8_i32_2101 c0_i32_2102
  let c1_i32_2103 : BitVec 32 := 1#32
  let v2260 : BitVec 32 := Scalar.select v2259 c1_i32_2103 c8_i32_2101
  let v2261 : BitVec 32 := Scalar.remsi v2258 v2260
  let c0_i32_2105 : BitVec 32 := 0#32
  let v2263 : BitVec 1 := Scalar.cmpi .slt v2261 c0_i32_2105
  let c0_i32_2106 : BitVec 32 := 0#32
  let v2264 : BitVec 1 := Scalar.cmpi .slt v2260 c0_i32_2106
  let v2265 : BitVec 1 := Scalar.xori v2263 v2264
  let c0_i32_2104 : BitVec 32 := 0#32
  let v2262 : BitVec 1 := Scalar.cmpi .ne v2261 c0_i32_2104
  let v2266 : BitVec 1 := Scalar.andi v2265 v2262
  let v2267 : BitVec 32 := Scalar.addi v2261 v2260
  let v2268 : BitVec 32 := Scalar.select v2266 v2267 v2261
  let c512_i32_2124 : BitVec 32 := 512#32
  let v2284 : BitVec 32 := Scalar.muli v2268 c512_i32_2124
  v2284
def k0_mult117 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2140 : BitVec 32 := 4#32
  let v2295 : BitVec 32 := Scalar.subi v2 c4_i32_2140
  let c8_i32_2141 : BitVec 32 := 8#32
  let c0_i32_2142 : BitVec 32 := 0#32
  let v2296 : BitVec 1 := Scalar.cmpi .eq c8_i32_2141 c0_i32_2142
  let c1_i32_2143 : BitVec 32 := 1#32
  let v2297 : BitVec 32 := Scalar.select v2296 c1_i32_2143 c8_i32_2141
  let v2298 : BitVec 32 := Scalar.remsi v2295 v2297
  let c0_i32_2145 : BitVec 32 := 0#32
  let v2300 : BitVec 1 := Scalar.cmpi .slt v2298 c0_i32_2145
  let c0_i32_2146 : BitVec 32 := 0#32
  let v2301 : BitVec 1 := Scalar.cmpi .slt v2297 c0_i32_2146
  let v2302 : BitVec 1 := Scalar.xori v2300 v2301
  let c0_i32_2144 : BitVec 32 := 0#32
  let v2299 : BitVec 1 := Scalar.cmpi .ne v2298 c0_i32_2144
  let v2303 : BitVec 1 := Scalar.andi v2302 v2299
  let v2304 : BitVec 32 := Scalar.addi v2298 v2297
  let v2305 : BitVec 32 := Scalar.select v2303 v2304 v2298
  let c512_i32_2147 : BitVec 32 := 512#32
  let v2306 : BitVec 32 := Scalar.muli v2305 c512_i32_2147
  v2306
def k0_dev71 (d0 : Dev nD) : Nat :=
  let c0_i32_2155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2154 : BitVec 32 := 1#32
  let v2308 : BitVec 32 := Scalar.muli v24 c1_i32_2154
  let v2309 : BitVec 32 := Scalar.addi c0_i32_2155 v2308
  v2309.toNat
def k0_dev72 (d0 : Dev nD) : Nat :=
  let c0_i32_2163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2162 : BitVec 32 := 1#32
  let v2319 : BitVec 32 := Scalar.muli v13 c1_i32_2162
  let v2320 : BitVec 32 := Scalar.addi c0_i32_2163 v2319
  v2320.toNat
def k0_mult118 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2164 : BitVec 32 := 3#32
  let v2321 : BitVec 32 := Scalar.addi v2 c3_i32_2164
  let c1_i32_2165 : BitVec 32 := 1#32
  let v2322 : BitVec 32 := Scalar.addi v2321 c1_i32_2165
  let c8_i32_2166 : BitVec 32 := 8#32
  let c0_i32_2167 : BitVec 32 := 0#32
  let v2323 : BitVec 1 := Scalar.cmpi .eq c8_i32_2166 c0_i32_2167
  let c1_i32_2168 : BitVec 32 := 1#32
  let v2324 : BitVec 32 := Scalar.select v2323 c1_i32_2168 c8_i32_2166
  let v2325 : BitVec 32 := Scalar.remsi v2322 v2324
  let c0_i32_2170 : BitVec 32 := 0#32
  let v2327 : BitVec 1 := Scalar.cmpi .slt v2325 c0_i32_2170
  let c0_i32_2171 : BitVec 32 := 0#32
  let v2328 : BitVec 1 := Scalar.cmpi .slt v2324 c0_i32_2171
  let v2329 : BitVec 1 := Scalar.xori v2327 v2328
  let c0_i32_2169 : BitVec 32 := 0#32
  let v2326 : BitVec 1 := Scalar.cmpi .ne v2325 c0_i32_2169
  let v2330 : BitVec 1 := Scalar.andi v2329 v2326
  let v2331 : BitVec 32 := Scalar.addi v2325 v2324
  let v2332 : BitVec 32 := Scalar.select v2330 v2331 v2325
  let c512_i32_2183 : BitVec 32 := 512#32
  let v2340 : BitVec 32 := Scalar.muli v2332 c512_i32_2183
  v2340
def k0_mult119 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2164 : BitVec 32 := 3#32
  let v2321 : BitVec 32 := Scalar.addi v2 c3_i32_2164
  let c1_i32_2165 : BitVec 32 := 1#32
  let v2322 : BitVec 32 := Scalar.addi v2321 c1_i32_2165
  let c8_i32_2166 : BitVec 32 := 8#32
  let c0_i32_2167 : BitVec 32 := 0#32
  let v2323 : BitVec 1 := Scalar.cmpi .eq c8_i32_2166 c0_i32_2167
  let c1_i32_2168 : BitVec 32 := 1#32
  let v2324 : BitVec 32 := Scalar.select v2323 c1_i32_2168 c8_i32_2166
  let v2325 : BitVec 32 := Scalar.remsi v2322 v2324
  let c0_i32_2170 : BitVec 32 := 0#32
  let v2327 : BitVec 1 := Scalar.cmpi .slt v2325 c0_i32_2170
  let c0_i32_2171 : BitVec 32 := 0#32
  let v2328 : BitVec 1 := Scalar.cmpi .slt v2324 c0_i32_2171
  let v2329 : BitVec 1 := Scalar.xori v2327 v2328
  let c0_i32_2169 : BitVec 32 := 0#32
  let v2326 : BitVec 1 := Scalar.cmpi .ne v2325 c0_i32_2169
  let v2330 : BitVec 1 := Scalar.andi v2329 v2326
  let v2331 : BitVec 32 := Scalar.addi v2325 v2324
  let v2332 : BitVec 32 := Scalar.select v2330 v2331 v2325
  let c512_i32_2189 : BitVec 32 := 512#32
  let v2348 : BitVec 32 := Scalar.muli v2332 c512_i32_2189
  v2348
def k0_mult120 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2205 : BitVec 32 := 4#32
  let v2359 : BitVec 32 := Scalar.addi v2 c4_i32_2205
  let c8_i32_2206 : BitVec 32 := 8#32
  let c0_i32_2207 : BitVec 32 := 0#32
  let v2360 : BitVec 1 := Scalar.cmpi .eq c8_i32_2206 c0_i32_2207
  let c1_i32_2208 : BitVec 32 := 1#32
  let v2361 : BitVec 32 := Scalar.select v2360 c1_i32_2208 c8_i32_2206
  let v2362 : BitVec 32 := Scalar.remsi v2359 v2361
  let c0_i32_2210 : BitVec 32 := 0#32
  let v2364 : BitVec 1 := Scalar.cmpi .slt v2362 c0_i32_2210
  let c0_i32_2211 : BitVec 32 := 0#32
  let v2365 : BitVec 1 := Scalar.cmpi .slt v2361 c0_i32_2211
  let v2366 : BitVec 1 := Scalar.xori v2364 v2365
  let c0_i32_2209 : BitVec 32 := 0#32
  let v2363 : BitVec 1 := Scalar.cmpi .ne v2362 c0_i32_2209
  let v2367 : BitVec 1 := Scalar.andi v2366 v2363
  let v2368 : BitVec 32 := Scalar.addi v2362 v2361
  let v2369 : BitVec 32 := Scalar.select v2367 v2368 v2362
  let c512_i32_2212 : BitVec 32 := 512#32
  let v2370 : BitVec 32 := Scalar.muli v2369 c512_i32_2212
  v2370
def k0_dev73 (d0 : Dev nD) : Nat :=
  let c0_i32_2220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2219 : BitVec 32 := 1#32
  let v2372 : BitVec 32 := Scalar.muli v13 c1_i32_2219
  let v2373 : BitVec 32 := Scalar.addi c0_i32_2220 v2372
  v2373.toNat
def k0_dev74 (d0 : Dev nD) : Nat :=
  let c0_i32_2228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2227 : BitVec 32 := 1#32
  let v2383 : BitVec 32 := Scalar.muli v24 c1_i32_2227
  let v2384 : BitVec 32 := Scalar.addi c0_i32_2228 v2383
  v2384.toNat
def k0_mult121 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2229 : BitVec 32 := 4#32
  let v2385 : BitVec 32 := Scalar.subi v2 c4_i32_2229
  let c1_i32_2230 : BitVec 32 := 1#32
  let v2386 : BitVec 32 := Scalar.subi v2385 c1_i32_2230
  let c8_i32_2231 : BitVec 32 := 8#32
  let c0_i32_2232 : BitVec 32 := 0#32
  let v2387 : BitVec 1 := Scalar.cmpi .eq c8_i32_2231 c0_i32_2232
  let c1_i32_2233 : BitVec 32 := 1#32
  let v2388 : BitVec 32 := Scalar.select v2387 c1_i32_2233 c8_i32_2231
  let v2389 : BitVec 32 := Scalar.remsi v2386 v2388
  let c0_i32_2235 : BitVec 32 := 0#32
  let v2391 : BitVec 1 := Scalar.cmpi .slt v2389 c0_i32_2235
  let c0_i32_2236 : BitVec 32 := 0#32
  let v2392 : BitVec 1 := Scalar.cmpi .slt v2388 c0_i32_2236
  let v2393 : BitVec 1 := Scalar.xori v2391 v2392
  let c0_i32_2234 : BitVec 32 := 0#32
  let v2390 : BitVec 1 := Scalar.cmpi .ne v2389 c0_i32_2234
  let v2394 : BitVec 1 := Scalar.andi v2393 v2390
  let v2395 : BitVec 32 := Scalar.addi v2389 v2388
  let v2396 : BitVec 32 := Scalar.select v2394 v2395 v2389
  let c512_i32_2248 : BitVec 32 := 512#32
  let v2404 : BitVec 32 := Scalar.muli v2396 c512_i32_2248
  v2404
def k0_mult122 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2229 : BitVec 32 := 4#32
  let v2385 : BitVec 32 := Scalar.subi v2 c4_i32_2229
  let c1_i32_2230 : BitVec 32 := 1#32
  let v2386 : BitVec 32 := Scalar.subi v2385 c1_i32_2230
  let c8_i32_2231 : BitVec 32 := 8#32
  let c0_i32_2232 : BitVec 32 := 0#32
  let v2387 : BitVec 1 := Scalar.cmpi .eq c8_i32_2231 c0_i32_2232
  let c1_i32_2233 : BitVec 32 := 1#32
  let v2388 : BitVec 32 := Scalar.select v2387 c1_i32_2233 c8_i32_2231
  let v2389 : BitVec 32 := Scalar.remsi v2386 v2388
  let c0_i32_2235 : BitVec 32 := 0#32
  let v2391 : BitVec 1 := Scalar.cmpi .slt v2389 c0_i32_2235
  let c0_i32_2236 : BitVec 32 := 0#32
  let v2392 : BitVec 1 := Scalar.cmpi .slt v2388 c0_i32_2236
  let v2393 : BitVec 1 := Scalar.xori v2391 v2392
  let c0_i32_2234 : BitVec 32 := 0#32
  let v2390 : BitVec 1 := Scalar.cmpi .ne v2389 c0_i32_2234
  let v2394 : BitVec 1 := Scalar.andi v2393 v2390
  let v2395 : BitVec 32 := Scalar.addi v2389 v2388
  let v2396 : BitVec 32 := Scalar.select v2394 v2395 v2389
  let c512_i32_2254 : BitVec 32 := 512#32
  let v2412 : BitVec 32 := Scalar.muli v2396 c512_i32_2254
  v2412
def k0_mult123 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v2423 : BitVec 32 := Scalar.subi v2 c5_i32
  let c8_i32_2270 : BitVec 32 := 8#32
  let c0_i32_2271 : BitVec 32 := 0#32
  let v2424 : BitVec 1 := Scalar.cmpi .eq c8_i32_2270 c0_i32_2271
  let c1_i32_2272 : BitVec 32 := 1#32
  let v2425 : BitVec 32 := Scalar.select v2424 c1_i32_2272 c8_i32_2270
  let v2426 : BitVec 32 := Scalar.remsi v2423 v2425
  let c0_i32_2274 : BitVec 32 := 0#32
  let v2428 : BitVec 1 := Scalar.cmpi .slt v2426 c0_i32_2274
  let c0_i32_2275 : BitVec 32 := 0#32
  let v2429 : BitVec 1 := Scalar.cmpi .slt v2425 c0_i32_2275
  let v2430 : BitVec 1 := Scalar.xori v2428 v2429
  let c0_i32_2273 : BitVec 32 := 0#32
  let v2427 : BitVec 1 := Scalar.cmpi .ne v2426 c0_i32_2273
  let v2431 : BitVec 1 := Scalar.andi v2430 v2427
  let v2432 : BitVec 32 := Scalar.addi v2426 v2425
  let v2433 : BitVec 32 := Scalar.select v2431 v2432 v2426
  let c512_i32_2276 : BitVec 32 := 512#32
  let v2434 : BitVec 32 := Scalar.muli v2433 c512_i32_2276
  v2434
def k0_dev75 (d0 : Dev nD) : Nat :=
  let c0_i32_2284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2283 : BitVec 32 := 1#32
  let v2436 : BitVec 32 := Scalar.muli v24 c1_i32_2283
  let v2437 : BitVec 32 := Scalar.addi c0_i32_2284 v2436
  v2437.toNat
def k0_dev76 (d0 : Dev nD) : Nat :=
  let c0_i32_2292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2291 : BitVec 32 := 1#32
  let v2447 : BitVec 32 := Scalar.muli v13 c1_i32_2291
  let v2448 : BitVec 32 := Scalar.addi c0_i32_2292 v2447
  v2448.toNat
def k0_mult124 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2293 : BitVec 32 := 4#32
  let v2449 : BitVec 32 := Scalar.addi v2 c4_i32_2293
  let c1_i32_2294 : BitVec 32 := 1#32
  let v2450 : BitVec 32 := Scalar.addi v2449 c1_i32_2294
  let c8_i32_2295 : BitVec 32 := 8#32
  let c0_i32_2296 : BitVec 32 := 0#32
  let v2451 : BitVec 1 := Scalar.cmpi .eq c8_i32_2295 c0_i32_2296
  let c1_i32_2297 : BitVec 32 := 1#32
  let v2452 : BitVec 32 := Scalar.select v2451 c1_i32_2297 c8_i32_2295
  let v2453 : BitVec 32 := Scalar.remsi v2450 v2452
  let c0_i32_2299 : BitVec 32 := 0#32
  let v2455 : BitVec 1 := Scalar.cmpi .slt v2453 c0_i32_2299
  let c0_i32_2300 : BitVec 32 := 0#32
  let v2456 : BitVec 1 := Scalar.cmpi .slt v2452 c0_i32_2300
  let v2457 : BitVec 1 := Scalar.xori v2455 v2456
  let c0_i32_2298 : BitVec 32 := 0#32
  let v2454 : BitVec 1 := Scalar.cmpi .ne v2453 c0_i32_2298
  let v2458 : BitVec 1 := Scalar.andi v2457 v2454
  let v2459 : BitVec 32 := Scalar.addi v2453 v2452
  let v2460 : BitVec 32 := Scalar.select v2458 v2459 v2453
  let c512_i32_2312 : BitVec 32 := 512#32
  let v2468 : BitVec 32 := Scalar.muli v2460 c512_i32_2312
  v2468
def k0_mult125 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2293 : BitVec 32 := 4#32
  let v2449 : BitVec 32 := Scalar.addi v2 c4_i32_2293
  let c1_i32_2294 : BitVec 32 := 1#32
  let v2450 : BitVec 32 := Scalar.addi v2449 c1_i32_2294
  let c8_i32_2295 : BitVec 32 := 8#32
  let c0_i32_2296 : BitVec 32 := 0#32
  let v2451 : BitVec 1 := Scalar.cmpi .eq c8_i32_2295 c0_i32_2296
  let c1_i32_2297 : BitVec 32 := 1#32
  let v2452 : BitVec 32 := Scalar.select v2451 c1_i32_2297 c8_i32_2295
  let v2453 : BitVec 32 := Scalar.remsi v2450 v2452
  let c0_i32_2299 : BitVec 32 := 0#32
  let v2455 : BitVec 1 := Scalar.cmpi .slt v2453 c0_i32_2299
  let c0_i32_2300 : BitVec 32 := 0#32
  let v2456 : BitVec 1 := Scalar.cmpi .slt v2452 c0_i32_2300
  let v2457 : BitVec 1 := Scalar.xori v2455 v2456
  let c0_i32_2298 : BitVec 32 := 0#32
  let v2454 : BitVec 1 := Scalar.cmpi .ne v2453 c0_i32_2298
  let v2458 : BitVec 1 := Scalar.andi v2457 v2454
  let v2459 : BitVec 32 := Scalar.addi v2453 v2452
  let v2460 : BitVec 32 := Scalar.select v2458 v2459 v2453
  let c512_i32_2318 : BitVec 32 := 512#32
  let v2476 : BitVec 32 := Scalar.muli v2460 c512_i32_2318
  v2476
def k0_mult126 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2334 : BitVec 32 := 5#32
  let v2487 : BitVec 32 := Scalar.addi v2 c5_i32_2334
  let c8_i32_2335 : BitVec 32 := 8#32
  let c0_i32_2336 : BitVec 32 := 0#32
  let v2488 : BitVec 1 := Scalar.cmpi .eq c8_i32_2335 c0_i32_2336
  let c1_i32_2337 : BitVec 32 := 1#32
  let v2489 : BitVec 32 := Scalar.select v2488 c1_i32_2337 c8_i32_2335
  let v2490 : BitVec 32 := Scalar.remsi v2487 v2489
  let c0_i32_2339 : BitVec 32 := 0#32
  let v2492 : BitVec 1 := Scalar.cmpi .slt v2490 c0_i32_2339
  let c0_i32_2340 : BitVec 32 := 0#32
  let v2493 : BitVec 1 := Scalar.cmpi .slt v2489 c0_i32_2340
  let v2494 : BitVec 1 := Scalar.xori v2492 v2493
  let c0_i32_2338 : BitVec 32 := 0#32
  let v2491 : BitVec 1 := Scalar.cmpi .ne v2490 c0_i32_2338
  let v2495 : BitVec 1 := Scalar.andi v2494 v2491
  let v2496 : BitVec 32 := Scalar.addi v2490 v2489
  let v2497 : BitVec 32 := Scalar.select v2495 v2496 v2490
  let c512_i32_2341 : BitVec 32 := 512#32
  let v2498 : BitVec 32 := Scalar.muli v2497 c512_i32_2341
  v2498
def k0_dev77 (d0 : Dev nD) : Nat :=
  let c0_i32_2349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2348 : BitVec 32 := 1#32
  let v2500 : BitVec 32 := Scalar.muli v13 c1_i32_2348
  let v2501 : BitVec 32 := Scalar.addi c0_i32_2349 v2500
  v2501.toNat
def k0_dev78 (d0 : Dev nD) : Nat :=
  let c0_i32_2357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2356 : BitVec 32 := 1#32
  let v2511 : BitVec 32 := Scalar.muli v24 c1_i32_2356
  let v2512 : BitVec 32 := Scalar.addi c0_i32_2357 v2511
  v2512.toNat
def k0_mult127 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2358 : BitVec 32 := 4#32
  let v2513 : BitVec 32 := Scalar.subi v2 c4_i32_2358
  let c1_i32_2359 : BitVec 32 := 1#32
  let v2514 : BitVec 32 := Scalar.subi v2513 c1_i32_2359
  let c8_i32_2360 : BitVec 32 := 8#32
  let c0_i32_2361 : BitVec 32 := 0#32
  let v2515 : BitVec 1 := Scalar.cmpi .eq c8_i32_2360 c0_i32_2361
  let c1_i32_2362 : BitVec 32 := 1#32
  let v2516 : BitVec 32 := Scalar.select v2515 c1_i32_2362 c8_i32_2360
  let v2517 : BitVec 32 := Scalar.remsi v2514 v2516
  let c0_i32_2364 : BitVec 32 := 0#32
  let v2519 : BitVec 1 := Scalar.cmpi .slt v2517 c0_i32_2364
  let c0_i32_2365 : BitVec 32 := 0#32
  let v2520 : BitVec 1 := Scalar.cmpi .slt v2516 c0_i32_2365
  let v2521 : BitVec 1 := Scalar.xori v2519 v2520
  let c0_i32_2363 : BitVec 32 := 0#32
  let v2518 : BitVec 1 := Scalar.cmpi .ne v2517 c0_i32_2363
  let v2522 : BitVec 1 := Scalar.andi v2521 v2518
  let v2523 : BitVec 32 := Scalar.addi v2517 v2516
  let v2524 : BitVec 32 := Scalar.select v2522 v2523 v2517
  let c512_i32_2377 : BitVec 32 := 512#32
  let v2532 : BitVec 32 := Scalar.muli v2524 c512_i32_2377
  v2532
def k0_mult128 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2358 : BitVec 32 := 4#32
  let v2513 : BitVec 32 := Scalar.subi v2 c4_i32_2358
  let c1_i32_2359 : BitVec 32 := 1#32
  let v2514 : BitVec 32 := Scalar.subi v2513 c1_i32_2359
  let c8_i32_2360 : BitVec 32 := 8#32
  let c0_i32_2361 : BitVec 32 := 0#32
  let v2515 : BitVec 1 := Scalar.cmpi .eq c8_i32_2360 c0_i32_2361
  let c1_i32_2362 : BitVec 32 := 1#32
  let v2516 : BitVec 32 := Scalar.select v2515 c1_i32_2362 c8_i32_2360
  let v2517 : BitVec 32 := Scalar.remsi v2514 v2516
  let c0_i32_2364 : BitVec 32 := 0#32
  let v2519 : BitVec 1 := Scalar.cmpi .slt v2517 c0_i32_2364
  let c0_i32_2365 : BitVec 32 := 0#32
  let v2520 : BitVec 1 := Scalar.cmpi .slt v2516 c0_i32_2365
  let v2521 : BitVec 1 := Scalar.xori v2519 v2520
  let c0_i32_2363 : BitVec 32 := 0#32
  let v2518 : BitVec 1 := Scalar.cmpi .ne v2517 c0_i32_2363
  let v2522 : BitVec 1 := Scalar.andi v2521 v2518
  let v2523 : BitVec 32 := Scalar.addi v2517 v2516
  let v2524 : BitVec 32 := Scalar.select v2522 v2523 v2517
  let c512_i32_2383 : BitVec 32 := 512#32
  let v2540 : BitVec 32 := Scalar.muli v2524 c512_i32_2383
  v2540
def k0_mult129 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2399 : BitVec 32 := 5#32
  let v2551 : BitVec 32 := Scalar.subi v2 c5_i32_2399
  let c8_i32_2400 : BitVec 32 := 8#32
  let c0_i32_2401 : BitVec 32 := 0#32
  let v2552 : BitVec 1 := Scalar.cmpi .eq c8_i32_2400 c0_i32_2401
  let c1_i32_2402 : BitVec 32 := 1#32
  let v2553 : BitVec 32 := Scalar.select v2552 c1_i32_2402 c8_i32_2400
  let v2554 : BitVec 32 := Scalar.remsi v2551 v2553
  let c0_i32_2404 : BitVec 32 := 0#32
  let v2556 : BitVec 1 := Scalar.cmpi .slt v2554 c0_i32_2404
  let c0_i32_2405 : BitVec 32 := 0#32
  let v2557 : BitVec 1 := Scalar.cmpi .slt v2553 c0_i32_2405
  let v2558 : BitVec 1 := Scalar.xori v2556 v2557
  let c0_i32_2403 : BitVec 32 := 0#32
  let v2555 : BitVec 1 := Scalar.cmpi .ne v2554 c0_i32_2403
  let v2559 : BitVec 1 := Scalar.andi v2558 v2555
  let v2560 : BitVec 32 := Scalar.addi v2554 v2553
  let v2561 : BitVec 32 := Scalar.select v2559 v2560 v2554
  let c512_i32_2406 : BitVec 32 := 512#32
  let v2562 : BitVec 32 := Scalar.muli v2561 c512_i32_2406
  v2562
def k0_dev79 (d0 : Dev nD) : Nat :=
  let c0_i32_2414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2413 : BitVec 32 := 1#32
  let v2564 : BitVec 32 := Scalar.muli v24 c1_i32_2413
  let v2565 : BitVec 32 := Scalar.addi c0_i32_2414 v2564
  v2565.toNat
def k0_dev80 (d0 : Dev nD) : Nat :=
  let c0_i32_2422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2421 : BitVec 32 := 1#32
  let v2575 : BitVec 32 := Scalar.muli v13 c1_i32_2421
  let v2576 : BitVec 32 := Scalar.addi c0_i32_2422 v2575
  v2576.toNat
def k0_mult130 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2423 : BitVec 32 := 4#32
  let v2577 : BitVec 32 := Scalar.addi v2 c4_i32_2423
  let c1_i32_2424 : BitVec 32 := 1#32
  let v2578 : BitVec 32 := Scalar.addi v2577 c1_i32_2424
  let c8_i32_2425 : BitVec 32 := 8#32
  let c0_i32_2426 : BitVec 32 := 0#32
  let v2579 : BitVec 1 := Scalar.cmpi .eq c8_i32_2425 c0_i32_2426
  let c1_i32_2427 : BitVec 32 := 1#32
  let v2580 : BitVec 32 := Scalar.select v2579 c1_i32_2427 c8_i32_2425
  let v2581 : BitVec 32 := Scalar.remsi v2578 v2580
  let c0_i32_2429 : BitVec 32 := 0#32
  let v2583 : BitVec 1 := Scalar.cmpi .slt v2581 c0_i32_2429
  let c0_i32_2430 : BitVec 32 := 0#32
  let v2584 : BitVec 1 := Scalar.cmpi .slt v2580 c0_i32_2430
  let v2585 : BitVec 1 := Scalar.xori v2583 v2584
  let c0_i32_2428 : BitVec 32 := 0#32
  let v2582 : BitVec 1 := Scalar.cmpi .ne v2581 c0_i32_2428
  let v2586 : BitVec 1 := Scalar.andi v2585 v2582
  let v2587 : BitVec 32 := Scalar.addi v2581 v2580
  let v2588 : BitVec 32 := Scalar.select v2586 v2587 v2581
  let c512_i32_2442 : BitVec 32 := 512#32
  let v2596 : BitVec 32 := Scalar.muli v2588 c512_i32_2442
  v2596
def k0_mult131 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2423 : BitVec 32 := 4#32
  let v2577 : BitVec 32 := Scalar.addi v2 c4_i32_2423
  let c1_i32_2424 : BitVec 32 := 1#32
  let v2578 : BitVec 32 := Scalar.addi v2577 c1_i32_2424
  let c8_i32_2425 : BitVec 32 := 8#32
  let c0_i32_2426 : BitVec 32 := 0#32
  let v2579 : BitVec 1 := Scalar.cmpi .eq c8_i32_2425 c0_i32_2426
  let c1_i32_2427 : BitVec 32 := 1#32
  let v2580 : BitVec 32 := Scalar.select v2579 c1_i32_2427 c8_i32_2425
  let v2581 : BitVec 32 := Scalar.remsi v2578 v2580
  let c0_i32_2429 : BitVec 32 := 0#32
  let v2583 : BitVec 1 := Scalar.cmpi .slt v2581 c0_i32_2429
  let c0_i32_2430 : BitVec 32 := 0#32
  let v2584 : BitVec 1 := Scalar.cmpi .slt v2580 c0_i32_2430
  let v2585 : BitVec 1 := Scalar.xori v2583 v2584
  let c0_i32_2428 : BitVec 32 := 0#32
  let v2582 : BitVec 1 := Scalar.cmpi .ne v2581 c0_i32_2428
  let v2586 : BitVec 1 := Scalar.andi v2585 v2582
  let v2587 : BitVec 32 := Scalar.addi v2581 v2580
  let v2588 : BitVec 32 := Scalar.select v2586 v2587 v2581
  let c512_i32_2448 : BitVec 32 := 512#32
  let v2604 : BitVec 32 := Scalar.muli v2588 c512_i32_2448
  v2604
def k0_mult132 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2464 : BitVec 32 := 5#32
  let v2615 : BitVec 32 := Scalar.addi v2 c5_i32_2464
  let c8_i32_2465 : BitVec 32 := 8#32
  let c0_i32_2466 : BitVec 32 := 0#32
  let v2616 : BitVec 1 := Scalar.cmpi .eq c8_i32_2465 c0_i32_2466
  let c1_i32_2467 : BitVec 32 := 1#32
  let v2617 : BitVec 32 := Scalar.select v2616 c1_i32_2467 c8_i32_2465
  let v2618 : BitVec 32 := Scalar.remsi v2615 v2617
  let c0_i32_2469 : BitVec 32 := 0#32
  let v2620 : BitVec 1 := Scalar.cmpi .slt v2618 c0_i32_2469
  let c0_i32_2470 : BitVec 32 := 0#32
  let v2621 : BitVec 1 := Scalar.cmpi .slt v2617 c0_i32_2470
  let v2622 : BitVec 1 := Scalar.xori v2620 v2621
  let c0_i32_2468 : BitVec 32 := 0#32
  let v2619 : BitVec 1 := Scalar.cmpi .ne v2618 c0_i32_2468
  let v2623 : BitVec 1 := Scalar.andi v2622 v2619
  let v2624 : BitVec 32 := Scalar.addi v2618 v2617
  let v2625 : BitVec 32 := Scalar.select v2623 v2624 v2618
  let c512_i32_2471 : BitVec 32 := 512#32
  let v2626 : BitVec 32 := Scalar.muli v2625 c512_i32_2471
  v2626
def k0_dev81 (d0 : Dev nD) : Nat :=
  let c0_i32_2479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2478 : BitVec 32 := 1#32
  let v2628 : BitVec 32 := Scalar.muli v13 c1_i32_2478
  let v2629 : BitVec 32 := Scalar.addi c0_i32_2479 v2628
  v2629.toNat
def k0_dev82 (d0 : Dev nD) : Nat :=
  let c0_i32_2487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2486 : BitVec 32 := 1#32
  let v2639 : BitVec 32 := Scalar.muli v24 c1_i32_2486
  let v2640 : BitVec 32 := Scalar.addi c0_i32_2487 v2639
  v2640.toNat
def k0_mult133 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2488 : BitVec 32 := 4#32
  let v2641 : BitVec 32 := Scalar.subi v2 c4_i32_2488
  let c1_i32_2489 : BitVec 32 := 1#32
  let v2642 : BitVec 32 := Scalar.subi v2641 c1_i32_2489
  let c8_i32_2490 : BitVec 32 := 8#32
  let c0_i32_2491 : BitVec 32 := 0#32
  let v2643 : BitVec 1 := Scalar.cmpi .eq c8_i32_2490 c0_i32_2491
  let c1_i32_2492 : BitVec 32 := 1#32
  let v2644 : BitVec 32 := Scalar.select v2643 c1_i32_2492 c8_i32_2490
  let v2645 : BitVec 32 := Scalar.remsi v2642 v2644
  let c0_i32_2494 : BitVec 32 := 0#32
  let v2647 : BitVec 1 := Scalar.cmpi .slt v2645 c0_i32_2494
  let c0_i32_2495 : BitVec 32 := 0#32
  let v2648 : BitVec 1 := Scalar.cmpi .slt v2644 c0_i32_2495
  let v2649 : BitVec 1 := Scalar.xori v2647 v2648
  let c0_i32_2493 : BitVec 32 := 0#32
  let v2646 : BitVec 1 := Scalar.cmpi .ne v2645 c0_i32_2493
  let v2650 : BitVec 1 := Scalar.andi v2649 v2646
  let v2651 : BitVec 32 := Scalar.addi v2645 v2644
  let v2652 : BitVec 32 := Scalar.select v2650 v2651 v2645
  let c512_i32_2507 : BitVec 32 := 512#32
  let v2660 : BitVec 32 := Scalar.muli v2652 c512_i32_2507
  v2660
def k0_mult134 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2488 : BitVec 32 := 4#32
  let v2641 : BitVec 32 := Scalar.subi v2 c4_i32_2488
  let c1_i32_2489 : BitVec 32 := 1#32
  let v2642 : BitVec 32 := Scalar.subi v2641 c1_i32_2489
  let c8_i32_2490 : BitVec 32 := 8#32
  let c0_i32_2491 : BitVec 32 := 0#32
  let v2643 : BitVec 1 := Scalar.cmpi .eq c8_i32_2490 c0_i32_2491
  let c1_i32_2492 : BitVec 32 := 1#32
  let v2644 : BitVec 32 := Scalar.select v2643 c1_i32_2492 c8_i32_2490
  let v2645 : BitVec 32 := Scalar.remsi v2642 v2644
  let c0_i32_2494 : BitVec 32 := 0#32
  let v2647 : BitVec 1 := Scalar.cmpi .slt v2645 c0_i32_2494
  let c0_i32_2495 : BitVec 32 := 0#32
  let v2648 : BitVec 1 := Scalar.cmpi .slt v2644 c0_i32_2495
  let v2649 : BitVec 1 := Scalar.xori v2647 v2648
  let c0_i32_2493 : BitVec 32 := 0#32
  let v2646 : BitVec 1 := Scalar.cmpi .ne v2645 c0_i32_2493
  let v2650 : BitVec 1 := Scalar.andi v2649 v2646
  let v2651 : BitVec 32 := Scalar.addi v2645 v2644
  let v2652 : BitVec 32 := Scalar.select v2650 v2651 v2645
  let c512_i32_2513 : BitVec 32 := 512#32
  let v2668 : BitVec 32 := Scalar.muli v2652 c512_i32_2513
  v2668
def k0_mult135 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2529 : BitVec 32 := 5#32
  let v2679 : BitVec 32 := Scalar.subi v2 c5_i32_2529
  let c8_i32_2530 : BitVec 32 := 8#32
  let c0_i32_2531 : BitVec 32 := 0#32
  let v2680 : BitVec 1 := Scalar.cmpi .eq c8_i32_2530 c0_i32_2531
  let c1_i32_2532 : BitVec 32 := 1#32
  let v2681 : BitVec 32 := Scalar.select v2680 c1_i32_2532 c8_i32_2530
  let v2682 : BitVec 32 := Scalar.remsi v2679 v2681
  let c0_i32_2534 : BitVec 32 := 0#32
  let v2684 : BitVec 1 := Scalar.cmpi .slt v2682 c0_i32_2534
  let c0_i32_2535 : BitVec 32 := 0#32
  let v2685 : BitVec 1 := Scalar.cmpi .slt v2681 c0_i32_2535
  let v2686 : BitVec 1 := Scalar.xori v2684 v2685
  let c0_i32_2533 : BitVec 32 := 0#32
  let v2683 : BitVec 1 := Scalar.cmpi .ne v2682 c0_i32_2533
  let v2687 : BitVec 1 := Scalar.andi v2686 v2683
  let v2688 : BitVec 32 := Scalar.addi v2682 v2681
  let v2689 : BitVec 32 := Scalar.select v2687 v2688 v2682
  let c512_i32_2536 : BitVec 32 := 512#32
  let v2690 : BitVec 32 := Scalar.muli v2689 c512_i32_2536
  v2690
def k0_dev83 (d0 : Dev nD) : Nat :=
  let c0_i32_2544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2543 : BitVec 32 := 1#32
  let v2692 : BitVec 32 := Scalar.muli v24 c1_i32_2543
  let v2693 : BitVec 32 := Scalar.addi c0_i32_2544 v2692
  v2693.toNat
def k0_dev84 (d0 : Dev nD) : Nat :=
  let c0_i32_2552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2551 : BitVec 32 := 1#32
  let v2703 : BitVec 32 := Scalar.muli v13 c1_i32_2551
  let v2704 : BitVec 32 := Scalar.addi c0_i32_2552 v2703
  v2704.toNat
def k0_mult136 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2553 : BitVec 32 := 4#32
  let v2705 : BitVec 32 := Scalar.addi v2 c4_i32_2553
  let c1_i32_2554 : BitVec 32 := 1#32
  let v2706 : BitVec 32 := Scalar.addi v2705 c1_i32_2554
  let c8_i32_2555 : BitVec 32 := 8#32
  let c0_i32_2556 : BitVec 32 := 0#32
  let v2707 : BitVec 1 := Scalar.cmpi .eq c8_i32_2555 c0_i32_2556
  let c1_i32_2557 : BitVec 32 := 1#32
  let v2708 : BitVec 32 := Scalar.select v2707 c1_i32_2557 c8_i32_2555
  let v2709 : BitVec 32 := Scalar.remsi v2706 v2708
  let c0_i32_2559 : BitVec 32 := 0#32
  let v2711 : BitVec 1 := Scalar.cmpi .slt v2709 c0_i32_2559
  let c0_i32_2560 : BitVec 32 := 0#32
  let v2712 : BitVec 1 := Scalar.cmpi .slt v2708 c0_i32_2560
  let v2713 : BitVec 1 := Scalar.xori v2711 v2712
  let c0_i32_2558 : BitVec 32 := 0#32
  let v2710 : BitVec 1 := Scalar.cmpi .ne v2709 c0_i32_2558
  let v2714 : BitVec 1 := Scalar.andi v2713 v2710
  let v2715 : BitVec 32 := Scalar.addi v2709 v2708
  let v2716 : BitVec 32 := Scalar.select v2714 v2715 v2709
  let c512_i32_2572 : BitVec 32 := 512#32
  let v2724 : BitVec 32 := Scalar.muli v2716 c512_i32_2572
  v2724
def k0_mult137 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2553 : BitVec 32 := 4#32
  let v2705 : BitVec 32 := Scalar.addi v2 c4_i32_2553
  let c1_i32_2554 : BitVec 32 := 1#32
  let v2706 : BitVec 32 := Scalar.addi v2705 c1_i32_2554
  let c8_i32_2555 : BitVec 32 := 8#32
  let c0_i32_2556 : BitVec 32 := 0#32
  let v2707 : BitVec 1 := Scalar.cmpi .eq c8_i32_2555 c0_i32_2556
  let c1_i32_2557 : BitVec 32 := 1#32
  let v2708 : BitVec 32 := Scalar.select v2707 c1_i32_2557 c8_i32_2555
  let v2709 : BitVec 32 := Scalar.remsi v2706 v2708
  let c0_i32_2559 : BitVec 32 := 0#32
  let v2711 : BitVec 1 := Scalar.cmpi .slt v2709 c0_i32_2559
  let c0_i32_2560 : BitVec 32 := 0#32
  let v2712 : BitVec 1 := Scalar.cmpi .slt v2708 c0_i32_2560
  let v2713 : BitVec 1 := Scalar.xori v2711 v2712
  let c0_i32_2558 : BitVec 32 := 0#32
  let v2710 : BitVec 1 := Scalar.cmpi .ne v2709 c0_i32_2558
  let v2714 : BitVec 1 := Scalar.andi v2713 v2710
  let v2715 : BitVec 32 := Scalar.addi v2709 v2708
  let v2716 : BitVec 32 := Scalar.select v2714 v2715 v2709
  let c512_i32_2578 : BitVec 32 := 512#32
  let v2732 : BitVec 32 := Scalar.muli v2716 c512_i32_2578
  v2732
def k0_mult138 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2594 : BitVec 32 := 5#32
  let v2743 : BitVec 32 := Scalar.addi v2 c5_i32_2594
  let c8_i32_2595 : BitVec 32 := 8#32
  let c0_i32_2596 : BitVec 32 := 0#32
  let v2744 : BitVec 1 := Scalar.cmpi .eq c8_i32_2595 c0_i32_2596
  let c1_i32_2597 : BitVec 32 := 1#32
  let v2745 : BitVec 32 := Scalar.select v2744 c1_i32_2597 c8_i32_2595
  let v2746 : BitVec 32 := Scalar.remsi v2743 v2745
  let c0_i32_2599 : BitVec 32 := 0#32
  let v2748 : BitVec 1 := Scalar.cmpi .slt v2746 c0_i32_2599
  let c0_i32_2600 : BitVec 32 := 0#32
  let v2749 : BitVec 1 := Scalar.cmpi .slt v2745 c0_i32_2600
  let v2750 : BitVec 1 := Scalar.xori v2748 v2749
  let c0_i32_2598 : BitVec 32 := 0#32
  let v2747 : BitVec 1 := Scalar.cmpi .ne v2746 c0_i32_2598
  let v2751 : BitVec 1 := Scalar.andi v2750 v2747
  let v2752 : BitVec 32 := Scalar.addi v2746 v2745
  let v2753 : BitVec 32 := Scalar.select v2751 v2752 v2746
  let c512_i32_2601 : BitVec 32 := 512#32
  let v2754 : BitVec 32 := Scalar.muli v2753 c512_i32_2601
  v2754
def k0_dev85 (d0 : Dev nD) : Nat :=
  let c0_i32_2609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2608 : BitVec 32 := 1#32
  let v2756 : BitVec 32 := Scalar.muli v13 c1_i32_2608
  let v2757 : BitVec 32 := Scalar.addi c0_i32_2609 v2756
  v2757.toNat
def k0_dev86 (d0 : Dev nD) : Nat :=
  let c0_i32_2617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2616 : BitVec 32 := 1#32
  let v2767 : BitVec 32 := Scalar.muli v24 c1_i32_2616
  let v2768 : BitVec 32 := Scalar.addi c0_i32_2617 v2767
  v2768.toNat
def k0_mult139 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2618 : BitVec 32 := 4#32
  let v2769 : BitVec 32 := Scalar.subi v2 c4_i32_2618
  let c1_i32_2619 : BitVec 32 := 1#32
  let v2770 : BitVec 32 := Scalar.subi v2769 c1_i32_2619
  let c8_i32_2620 : BitVec 32 := 8#32
  let c0_i32_2621 : BitVec 32 := 0#32
  let v2771 : BitVec 1 := Scalar.cmpi .eq c8_i32_2620 c0_i32_2621
  let c1_i32_2622 : BitVec 32 := 1#32
  let v2772 : BitVec 32 := Scalar.select v2771 c1_i32_2622 c8_i32_2620
  let v2773 : BitVec 32 := Scalar.remsi v2770 v2772
  let c0_i32_2624 : BitVec 32 := 0#32
  let v2775 : BitVec 1 := Scalar.cmpi .slt v2773 c0_i32_2624
  let c0_i32_2625 : BitVec 32 := 0#32
  let v2776 : BitVec 1 := Scalar.cmpi .slt v2772 c0_i32_2625
  let v2777 : BitVec 1 := Scalar.xori v2775 v2776
  let c0_i32_2623 : BitVec 32 := 0#32
  let v2774 : BitVec 1 := Scalar.cmpi .ne v2773 c0_i32_2623
  let v2778 : BitVec 1 := Scalar.andi v2777 v2774
  let v2779 : BitVec 32 := Scalar.addi v2773 v2772
  let v2780 : BitVec 32 := Scalar.select v2778 v2779 v2773
  let c512_i32_2637 : BitVec 32 := 512#32
  let v2788 : BitVec 32 := Scalar.muli v2780 c512_i32_2637
  v2788
def k0_mult140 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2618 : BitVec 32 := 4#32
  let v2769 : BitVec 32 := Scalar.subi v2 c4_i32_2618
  let c1_i32_2619 : BitVec 32 := 1#32
  let v2770 : BitVec 32 := Scalar.subi v2769 c1_i32_2619
  let c8_i32_2620 : BitVec 32 := 8#32
  let c0_i32_2621 : BitVec 32 := 0#32
  let v2771 : BitVec 1 := Scalar.cmpi .eq c8_i32_2620 c0_i32_2621
  let c1_i32_2622 : BitVec 32 := 1#32
  let v2772 : BitVec 32 := Scalar.select v2771 c1_i32_2622 c8_i32_2620
  let v2773 : BitVec 32 := Scalar.remsi v2770 v2772
  let c0_i32_2624 : BitVec 32 := 0#32
  let v2775 : BitVec 1 := Scalar.cmpi .slt v2773 c0_i32_2624
  let c0_i32_2625 : BitVec 32 := 0#32
  let v2776 : BitVec 1 := Scalar.cmpi .slt v2772 c0_i32_2625
  let v2777 : BitVec 1 := Scalar.xori v2775 v2776
  let c0_i32_2623 : BitVec 32 := 0#32
  let v2774 : BitVec 1 := Scalar.cmpi .ne v2773 c0_i32_2623
  let v2778 : BitVec 1 := Scalar.andi v2777 v2774
  let v2779 : BitVec 32 := Scalar.addi v2773 v2772
  let v2780 : BitVec 32 := Scalar.select v2778 v2779 v2773
  let c512_i32_2643 : BitVec 32 := 512#32
  let v2796 : BitVec 32 := Scalar.muli v2780 c512_i32_2643
  v2796
def k0_mult141 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2659 : BitVec 32 := 5#32
  let v2807 : BitVec 32 := Scalar.subi v2 c5_i32_2659
  let c8_i32_2660 : BitVec 32 := 8#32
  let c0_i32_2661 : BitVec 32 := 0#32
  let v2808 : BitVec 1 := Scalar.cmpi .eq c8_i32_2660 c0_i32_2661
  let c1_i32_2662 : BitVec 32 := 1#32
  let v2809 : BitVec 32 := Scalar.select v2808 c1_i32_2662 c8_i32_2660
  let v2810 : BitVec 32 := Scalar.remsi v2807 v2809
  let c0_i32_2664 : BitVec 32 := 0#32
  let v2812 : BitVec 1 := Scalar.cmpi .slt v2810 c0_i32_2664
  let c0_i32_2665 : BitVec 32 := 0#32
  let v2813 : BitVec 1 := Scalar.cmpi .slt v2809 c0_i32_2665
  let v2814 : BitVec 1 := Scalar.xori v2812 v2813
  let c0_i32_2663 : BitVec 32 := 0#32
  let v2811 : BitVec 1 := Scalar.cmpi .ne v2810 c0_i32_2663
  let v2815 : BitVec 1 := Scalar.andi v2814 v2811
  let v2816 : BitVec 32 := Scalar.addi v2810 v2809
  let v2817 : BitVec 32 := Scalar.select v2815 v2816 v2810
  let c512_i32_2666 : BitVec 32 := 512#32
  let v2818 : BitVec 32 := Scalar.muli v2817 c512_i32_2666
  v2818
def k0_dev87 (d0 : Dev nD) : Nat :=
  let c0_i32_2674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2673 : BitVec 32 := 1#32
  let v2820 : BitVec 32 := Scalar.muli v24 c1_i32_2673
  let v2821 : BitVec 32 := Scalar.addi c0_i32_2674 v2820
  v2821.toNat
def k0_dev88 (d0 : Dev nD) : Nat :=
  let c0_i32_2682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2681 : BitVec 32 := 1#32
  let v2831 : BitVec 32 := Scalar.muli v13 c1_i32_2681
  let v2832 : BitVec 32 := Scalar.addi c0_i32_2682 v2831
  v2832.toNat
def k0_mult142 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2683 : BitVec 32 := 4#32
  let v2833 : BitVec 32 := Scalar.addi v2 c4_i32_2683
  let c1_i32_2684 : BitVec 32 := 1#32
  let v2834 : BitVec 32 := Scalar.addi v2833 c1_i32_2684
  let c8_i32_2685 : BitVec 32 := 8#32
  let c0_i32_2686 : BitVec 32 := 0#32
  let v2835 : BitVec 1 := Scalar.cmpi .eq c8_i32_2685 c0_i32_2686
  let c1_i32_2687 : BitVec 32 := 1#32
  let v2836 : BitVec 32 := Scalar.select v2835 c1_i32_2687 c8_i32_2685
  let v2837 : BitVec 32 := Scalar.remsi v2834 v2836
  let c0_i32_2689 : BitVec 32 := 0#32
  let v2839 : BitVec 1 := Scalar.cmpi .slt v2837 c0_i32_2689
  let c0_i32_2690 : BitVec 32 := 0#32
  let v2840 : BitVec 1 := Scalar.cmpi .slt v2836 c0_i32_2690
  let v2841 : BitVec 1 := Scalar.xori v2839 v2840
  let c0_i32_2688 : BitVec 32 := 0#32
  let v2838 : BitVec 1 := Scalar.cmpi .ne v2837 c0_i32_2688
  let v2842 : BitVec 1 := Scalar.andi v2841 v2838
  let v2843 : BitVec 32 := Scalar.addi v2837 v2836
  let v2844 : BitVec 32 := Scalar.select v2842 v2843 v2837
  let c512_i32_2702 : BitVec 32 := 512#32
  let v2852 : BitVec 32 := Scalar.muli v2844 c512_i32_2702
  v2852
def k0_mult143 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2683 : BitVec 32 := 4#32
  let v2833 : BitVec 32 := Scalar.addi v2 c4_i32_2683
  let c1_i32_2684 : BitVec 32 := 1#32
  let v2834 : BitVec 32 := Scalar.addi v2833 c1_i32_2684
  let c8_i32_2685 : BitVec 32 := 8#32
  let c0_i32_2686 : BitVec 32 := 0#32
  let v2835 : BitVec 1 := Scalar.cmpi .eq c8_i32_2685 c0_i32_2686
  let c1_i32_2687 : BitVec 32 := 1#32
  let v2836 : BitVec 32 := Scalar.select v2835 c1_i32_2687 c8_i32_2685
  let v2837 : BitVec 32 := Scalar.remsi v2834 v2836
  let c0_i32_2689 : BitVec 32 := 0#32
  let v2839 : BitVec 1 := Scalar.cmpi .slt v2837 c0_i32_2689
  let c0_i32_2690 : BitVec 32 := 0#32
  let v2840 : BitVec 1 := Scalar.cmpi .slt v2836 c0_i32_2690
  let v2841 : BitVec 1 := Scalar.xori v2839 v2840
  let c0_i32_2688 : BitVec 32 := 0#32
  let v2838 : BitVec 1 := Scalar.cmpi .ne v2837 c0_i32_2688
  let v2842 : BitVec 1 := Scalar.andi v2841 v2838
  let v2843 : BitVec 32 := Scalar.addi v2837 v2836
  let v2844 : BitVec 32 := Scalar.select v2842 v2843 v2837
  let c512_i32_2708 : BitVec 32 := 512#32
  let v2860 : BitVec 32 := Scalar.muli v2844 c512_i32_2708
  v2860
def k0_mult144 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2724 : BitVec 32 := 5#32
  let v2871 : BitVec 32 := Scalar.addi v2 c5_i32_2724
  let c8_i32_2725 : BitVec 32 := 8#32
  let c0_i32_2726 : BitVec 32 := 0#32
  let v2872 : BitVec 1 := Scalar.cmpi .eq c8_i32_2725 c0_i32_2726
  let c1_i32_2727 : BitVec 32 := 1#32
  let v2873 : BitVec 32 := Scalar.select v2872 c1_i32_2727 c8_i32_2725
  let v2874 : BitVec 32 := Scalar.remsi v2871 v2873
  let c0_i32_2729 : BitVec 32 := 0#32
  let v2876 : BitVec 1 := Scalar.cmpi .slt v2874 c0_i32_2729
  let c0_i32_2730 : BitVec 32 := 0#32
  let v2877 : BitVec 1 := Scalar.cmpi .slt v2873 c0_i32_2730
  let v2878 : BitVec 1 := Scalar.xori v2876 v2877
  let c0_i32_2728 : BitVec 32 := 0#32
  let v2875 : BitVec 1 := Scalar.cmpi .ne v2874 c0_i32_2728
  let v2879 : BitVec 1 := Scalar.andi v2878 v2875
  let v2880 : BitVec 32 := Scalar.addi v2874 v2873
  let v2881 : BitVec 32 := Scalar.select v2879 v2880 v2874
  let c512_i32_2731 : BitVec 32 := 512#32
  let v2882 : BitVec 32 := Scalar.muli v2881 c512_i32_2731
  v2882
def k0_dev89 (d0 : Dev nD) : Nat :=
  let c0_i32_2739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2738 : BitVec 32 := 1#32
  let v2884 : BitVec 32 := Scalar.muli v13 c1_i32_2738
  let v2885 : BitVec 32 := Scalar.addi c0_i32_2739 v2884
  v2885.toNat
def k0_dev90 (d0 : Dev nD) : Nat :=
  let c0_i32_2747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2746 : BitVec 32 := 1#32
  let v2895 : BitVec 32 := Scalar.muli v24 c1_i32_2746
  let v2896 : BitVec 32 := Scalar.addi c0_i32_2747 v2895
  v2896.toNat
def k0_mult145 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2748 : BitVec 32 := 5#32
  let v2897 : BitVec 32 := Scalar.subi v2 c5_i32_2748
  let c1_i32_2749 : BitVec 32 := 1#32
  let v2898 : BitVec 32 := Scalar.subi v2897 c1_i32_2749
  let c8_i32_2750 : BitVec 32 := 8#32
  let c0_i32_2751 : BitVec 32 := 0#32
  let v2899 : BitVec 1 := Scalar.cmpi .eq c8_i32_2750 c0_i32_2751
  let c1_i32_2752 : BitVec 32 := 1#32
  let v2900 : BitVec 32 := Scalar.select v2899 c1_i32_2752 c8_i32_2750
  let v2901 : BitVec 32 := Scalar.remsi v2898 v2900
  let c0_i32_2754 : BitVec 32 := 0#32
  let v2903 : BitVec 1 := Scalar.cmpi .slt v2901 c0_i32_2754
  let c0_i32_2755 : BitVec 32 := 0#32
  let v2904 : BitVec 1 := Scalar.cmpi .slt v2900 c0_i32_2755
  let v2905 : BitVec 1 := Scalar.xori v2903 v2904
  let c0_i32_2753 : BitVec 32 := 0#32
  let v2902 : BitVec 1 := Scalar.cmpi .ne v2901 c0_i32_2753
  let v2906 : BitVec 1 := Scalar.andi v2905 v2902
  let v2907 : BitVec 32 := Scalar.addi v2901 v2900
  let v2908 : BitVec 32 := Scalar.select v2906 v2907 v2901
  let c512_i32_2767 : BitVec 32 := 512#32
  let v2916 : BitVec 32 := Scalar.muli v2908 c512_i32_2767
  v2916
def k0_mult146 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2748 : BitVec 32 := 5#32
  let v2897 : BitVec 32 := Scalar.subi v2 c5_i32_2748
  let c1_i32_2749 : BitVec 32 := 1#32
  let v2898 : BitVec 32 := Scalar.subi v2897 c1_i32_2749
  let c8_i32_2750 : BitVec 32 := 8#32
  let c0_i32_2751 : BitVec 32 := 0#32
  let v2899 : BitVec 1 := Scalar.cmpi .eq c8_i32_2750 c0_i32_2751
  let c1_i32_2752 : BitVec 32 := 1#32
  let v2900 : BitVec 32 := Scalar.select v2899 c1_i32_2752 c8_i32_2750
  let v2901 : BitVec 32 := Scalar.remsi v2898 v2900
  let c0_i32_2754 : BitVec 32 := 0#32
  let v2903 : BitVec 1 := Scalar.cmpi .slt v2901 c0_i32_2754
  let c0_i32_2755 : BitVec 32 := 0#32
  let v2904 : BitVec 1 := Scalar.cmpi .slt v2900 c0_i32_2755
  let v2905 : BitVec 1 := Scalar.xori v2903 v2904
  let c0_i32_2753 : BitVec 32 := 0#32
  let v2902 : BitVec 1 := Scalar.cmpi .ne v2901 c0_i32_2753
  let v2906 : BitVec 1 := Scalar.andi v2905 v2902
  let v2907 : BitVec 32 := Scalar.addi v2901 v2900
  let v2908 : BitVec 32 := Scalar.select v2906 v2907 v2901
  let c512_i32_2773 : BitVec 32 := 512#32
  let v2924 : BitVec 32 := Scalar.muli v2908 c512_i32_2773
  v2924
def k0_mult147 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v2935 : BitVec 32 := Scalar.subi v2 c6_i32
  let c8_i32_2789 : BitVec 32 := 8#32
  let c0_i32_2790 : BitVec 32 := 0#32
  let v2936 : BitVec 1 := Scalar.cmpi .eq c8_i32_2789 c0_i32_2790
  let c1_i32_2791 : BitVec 32 := 1#32
  let v2937 : BitVec 32 := Scalar.select v2936 c1_i32_2791 c8_i32_2789
  let v2938 : BitVec 32 := Scalar.remsi v2935 v2937
  let c0_i32_2793 : BitVec 32 := 0#32
  let v2940 : BitVec 1 := Scalar.cmpi .slt v2938 c0_i32_2793
  let c0_i32_2794 : BitVec 32 := 0#32
  let v2941 : BitVec 1 := Scalar.cmpi .slt v2937 c0_i32_2794
  let v2942 : BitVec 1 := Scalar.xori v2940 v2941
  let c0_i32_2792 : BitVec 32 := 0#32
  let v2939 : BitVec 1 := Scalar.cmpi .ne v2938 c0_i32_2792
  let v2943 : BitVec 1 := Scalar.andi v2942 v2939
  let v2944 : BitVec 32 := Scalar.addi v2938 v2937
  let v2945 : BitVec 32 := Scalar.select v2943 v2944 v2938
  let c512_i32_2795 : BitVec 32 := 512#32
  let v2946 : BitVec 32 := Scalar.muli v2945 c512_i32_2795
  v2946
def k0_dev91 (d0 : Dev nD) : Nat :=
  let c0_i32_2803 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2802 : BitVec 32 := 1#32
  let v2948 : BitVec 32 := Scalar.muli v24 c1_i32_2802
  let v2949 : BitVec 32 := Scalar.addi c0_i32_2803 v2948
  v2949.toNat
def k0_dev92 (d0 : Dev nD) : Nat :=
  let c0_i32_2811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2810 : BitVec 32 := 1#32
  let v2959 : BitVec 32 := Scalar.muli v13 c1_i32_2810
  let v2960 : BitVec 32 := Scalar.addi c0_i32_2811 v2959
  v2960.toNat
def k0_mult148 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2812 : BitVec 32 := 5#32
  let v2961 : BitVec 32 := Scalar.addi v2 c5_i32_2812
  let c1_i32_2813 : BitVec 32 := 1#32
  let v2962 : BitVec 32 := Scalar.addi v2961 c1_i32_2813
  let c8_i32_2814 : BitVec 32 := 8#32
  let c0_i32_2815 : BitVec 32 := 0#32
  let v2963 : BitVec 1 := Scalar.cmpi .eq c8_i32_2814 c0_i32_2815
  let c1_i32_2816 : BitVec 32 := 1#32
  let v2964 : BitVec 32 := Scalar.select v2963 c1_i32_2816 c8_i32_2814
  let v2965 : BitVec 32 := Scalar.remsi v2962 v2964
  let c0_i32_2818 : BitVec 32 := 0#32
  let v2967 : BitVec 1 := Scalar.cmpi .slt v2965 c0_i32_2818
  let c0_i32_2819 : BitVec 32 := 0#32
  let v2968 : BitVec 1 := Scalar.cmpi .slt v2964 c0_i32_2819
  let v2969 : BitVec 1 := Scalar.xori v2967 v2968
  let c0_i32_2817 : BitVec 32 := 0#32
  let v2966 : BitVec 1 := Scalar.cmpi .ne v2965 c0_i32_2817
  let v2970 : BitVec 1 := Scalar.andi v2969 v2966
  let v2971 : BitVec 32 := Scalar.addi v2965 v2964
  let v2972 : BitVec 32 := Scalar.select v2970 v2971 v2965
  let c512_i32_2831 : BitVec 32 := 512#32
  let v2980 : BitVec 32 := Scalar.muli v2972 c512_i32_2831
  v2980
def k0_mult149 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2812 : BitVec 32 := 5#32
  let v2961 : BitVec 32 := Scalar.addi v2 c5_i32_2812
  let c1_i32_2813 : BitVec 32 := 1#32
  let v2962 : BitVec 32 := Scalar.addi v2961 c1_i32_2813
  let c8_i32_2814 : BitVec 32 := 8#32
  let c0_i32_2815 : BitVec 32 := 0#32
  let v2963 : BitVec 1 := Scalar.cmpi .eq c8_i32_2814 c0_i32_2815
  let c1_i32_2816 : BitVec 32 := 1#32
  let v2964 : BitVec 32 := Scalar.select v2963 c1_i32_2816 c8_i32_2814
  let v2965 : BitVec 32 := Scalar.remsi v2962 v2964
  let c0_i32_2818 : BitVec 32 := 0#32
  let v2967 : BitVec 1 := Scalar.cmpi .slt v2965 c0_i32_2818
  let c0_i32_2819 : BitVec 32 := 0#32
  let v2968 : BitVec 1 := Scalar.cmpi .slt v2964 c0_i32_2819
  let v2969 : BitVec 1 := Scalar.xori v2967 v2968
  let c0_i32_2817 : BitVec 32 := 0#32
  let v2966 : BitVec 1 := Scalar.cmpi .ne v2965 c0_i32_2817
  let v2970 : BitVec 1 := Scalar.andi v2969 v2966
  let v2971 : BitVec 32 := Scalar.addi v2965 v2964
  let v2972 : BitVec 32 := Scalar.select v2970 v2971 v2965
  let c512_i32_2837 : BitVec 32 := 512#32
  let v2988 : BitVec 32 := Scalar.muli v2972 c512_i32_2837
  v2988
def k0_mult150 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2853 : BitVec 32 := 6#32
  let v2999 : BitVec 32 := Scalar.addi v2 c6_i32_2853
  let c8_i32_2854 : BitVec 32 := 8#32
  let c0_i32_2855 : BitVec 32 := 0#32
  let v3000 : BitVec 1 := Scalar.cmpi .eq c8_i32_2854 c0_i32_2855
  let c1_i32_2856 : BitVec 32 := 1#32
  let v3001 : BitVec 32 := Scalar.select v3000 c1_i32_2856 c8_i32_2854
  let v3002 : BitVec 32 := Scalar.remsi v2999 v3001
  let c0_i32_2858 : BitVec 32 := 0#32
  let v3004 : BitVec 1 := Scalar.cmpi .slt v3002 c0_i32_2858
  let c0_i32_2859 : BitVec 32 := 0#32
  let v3005 : BitVec 1 := Scalar.cmpi .slt v3001 c0_i32_2859
  let v3006 : BitVec 1 := Scalar.xori v3004 v3005
  let c0_i32_2857 : BitVec 32 := 0#32
  let v3003 : BitVec 1 := Scalar.cmpi .ne v3002 c0_i32_2857
  let v3007 : BitVec 1 := Scalar.andi v3006 v3003
  let v3008 : BitVec 32 := Scalar.addi v3002 v3001
  let v3009 : BitVec 32 := Scalar.select v3007 v3008 v3002
  let c512_i32_2860 : BitVec 32 := 512#32
  let v3010 : BitVec 32 := Scalar.muli v3009 c512_i32_2860
  v3010
def k0_dev93 (d0 : Dev nD) : Nat :=
  let c0_i32_2868 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2867 : BitVec 32 := 1#32
  let v3012 : BitVec 32 := Scalar.muli v13 c1_i32_2867
  let v3013 : BitVec 32 := Scalar.addi c0_i32_2868 v3012
  v3013.toNat
def k0_dev94 (d0 : Dev nD) : Nat :=
  let c0_i32_2876 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2875 : BitVec 32 := 1#32
  let v3023 : BitVec 32 := Scalar.muli v24 c1_i32_2875
  let v3024 : BitVec 32 := Scalar.addi c0_i32_2876 v3023
  v3024.toNat
def k0_mult151 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2877 : BitVec 32 := 5#32
  let v3025 : BitVec 32 := Scalar.subi v2 c5_i32_2877
  let c1_i32_2878 : BitVec 32 := 1#32
  let v3026 : BitVec 32 := Scalar.subi v3025 c1_i32_2878
  let c8_i32_2879 : BitVec 32 := 8#32
  let c0_i32_2880 : BitVec 32 := 0#32
  let v3027 : BitVec 1 := Scalar.cmpi .eq c8_i32_2879 c0_i32_2880
  let c1_i32_2881 : BitVec 32 := 1#32
  let v3028 : BitVec 32 := Scalar.select v3027 c1_i32_2881 c8_i32_2879
  let v3029 : BitVec 32 := Scalar.remsi v3026 v3028
  let c0_i32_2883 : BitVec 32 := 0#32
  let v3031 : BitVec 1 := Scalar.cmpi .slt v3029 c0_i32_2883
  let c0_i32_2884 : BitVec 32 := 0#32
  let v3032 : BitVec 1 := Scalar.cmpi .slt v3028 c0_i32_2884
  let v3033 : BitVec 1 := Scalar.xori v3031 v3032
  let c0_i32_2882 : BitVec 32 := 0#32
  let v3030 : BitVec 1 := Scalar.cmpi .ne v3029 c0_i32_2882
  let v3034 : BitVec 1 := Scalar.andi v3033 v3030
  let v3035 : BitVec 32 := Scalar.addi v3029 v3028
  let v3036 : BitVec 32 := Scalar.select v3034 v3035 v3029
  let c512_i32_2896 : BitVec 32 := 512#32
  let v3044 : BitVec 32 := Scalar.muli v3036 c512_i32_2896
  v3044
def k0_mult152 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2877 : BitVec 32 := 5#32
  let v3025 : BitVec 32 := Scalar.subi v2 c5_i32_2877
  let c1_i32_2878 : BitVec 32 := 1#32
  let v3026 : BitVec 32 := Scalar.subi v3025 c1_i32_2878
  let c8_i32_2879 : BitVec 32 := 8#32
  let c0_i32_2880 : BitVec 32 := 0#32
  let v3027 : BitVec 1 := Scalar.cmpi .eq c8_i32_2879 c0_i32_2880
  let c1_i32_2881 : BitVec 32 := 1#32
  let v3028 : BitVec 32 := Scalar.select v3027 c1_i32_2881 c8_i32_2879
  let v3029 : BitVec 32 := Scalar.remsi v3026 v3028
  let c0_i32_2883 : BitVec 32 := 0#32
  let v3031 : BitVec 1 := Scalar.cmpi .slt v3029 c0_i32_2883
  let c0_i32_2884 : BitVec 32 := 0#32
  let v3032 : BitVec 1 := Scalar.cmpi .slt v3028 c0_i32_2884
  let v3033 : BitVec 1 := Scalar.xori v3031 v3032
  let c0_i32_2882 : BitVec 32 := 0#32
  let v3030 : BitVec 1 := Scalar.cmpi .ne v3029 c0_i32_2882
  let v3034 : BitVec 1 := Scalar.andi v3033 v3030
  let v3035 : BitVec 32 := Scalar.addi v3029 v3028
  let v3036 : BitVec 32 := Scalar.select v3034 v3035 v3029
  let c512_i32_2902 : BitVec 32 := 512#32
  let v3052 : BitVec 32 := Scalar.muli v3036 c512_i32_2902
  v3052
def k0_mult153 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2918 : BitVec 32 := 6#32
  let v3063 : BitVec 32 := Scalar.subi v2 c6_i32_2918
  let c8_i32_2919 : BitVec 32 := 8#32
  let c0_i32_2920 : BitVec 32 := 0#32
  let v3064 : BitVec 1 := Scalar.cmpi .eq c8_i32_2919 c0_i32_2920
  let c1_i32_2921 : BitVec 32 := 1#32
  let v3065 : BitVec 32 := Scalar.select v3064 c1_i32_2921 c8_i32_2919
  let v3066 : BitVec 32 := Scalar.remsi v3063 v3065
  let c0_i32_2923 : BitVec 32 := 0#32
  let v3068 : BitVec 1 := Scalar.cmpi .slt v3066 c0_i32_2923
  let c0_i32_2924 : BitVec 32 := 0#32
  let v3069 : BitVec 1 := Scalar.cmpi .slt v3065 c0_i32_2924
  let v3070 : BitVec 1 := Scalar.xori v3068 v3069
  let c0_i32_2922 : BitVec 32 := 0#32
  let v3067 : BitVec 1 := Scalar.cmpi .ne v3066 c0_i32_2922
  let v3071 : BitVec 1 := Scalar.andi v3070 v3067
  let v3072 : BitVec 32 := Scalar.addi v3066 v3065
  let v3073 : BitVec 32 := Scalar.select v3071 v3072 v3066
  let c512_i32_2925 : BitVec 32 := 512#32
  let v3074 : BitVec 32 := Scalar.muli v3073 c512_i32_2925
  v3074
def k0_dev95 (d0 : Dev nD) : Nat :=
  let c0_i32_2933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2932 : BitVec 32 := 1#32
  let v3076 : BitVec 32 := Scalar.muli v24 c1_i32_2932
  let v3077 : BitVec 32 := Scalar.addi c0_i32_2933 v3076
  v3077.toNat
def k0_dev96 (d0 : Dev nD) : Nat :=
  let c0_i32_2941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2940 : BitVec 32 := 1#32
  let v3087 : BitVec 32 := Scalar.muli v13 c1_i32_2940
  let v3088 : BitVec 32 := Scalar.addi c0_i32_2941 v3087
  v3088.toNat
def k0_mult154 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2942 : BitVec 32 := 5#32
  let v3089 : BitVec 32 := Scalar.addi v2 c5_i32_2942
  let c1_i32_2943 : BitVec 32 := 1#32
  let v3090 : BitVec 32 := Scalar.addi v3089 c1_i32_2943
  let c8_i32_2944 : BitVec 32 := 8#32
  let c0_i32_2945 : BitVec 32 := 0#32
  let v3091 : BitVec 1 := Scalar.cmpi .eq c8_i32_2944 c0_i32_2945
  let c1_i32_2946 : BitVec 32 := 1#32
  let v3092 : BitVec 32 := Scalar.select v3091 c1_i32_2946 c8_i32_2944
  let v3093 : BitVec 32 := Scalar.remsi v3090 v3092
  let c0_i32_2948 : BitVec 32 := 0#32
  let v3095 : BitVec 1 := Scalar.cmpi .slt v3093 c0_i32_2948
  let c0_i32_2949 : BitVec 32 := 0#32
  let v3096 : BitVec 1 := Scalar.cmpi .slt v3092 c0_i32_2949
  let v3097 : BitVec 1 := Scalar.xori v3095 v3096
  let c0_i32_2947 : BitVec 32 := 0#32
  let v3094 : BitVec 1 := Scalar.cmpi .ne v3093 c0_i32_2947
  let v3098 : BitVec 1 := Scalar.andi v3097 v3094
  let v3099 : BitVec 32 := Scalar.addi v3093 v3092
  let v3100 : BitVec 32 := Scalar.select v3098 v3099 v3093
  let c512_i32_2961 : BitVec 32 := 512#32
  let v3108 : BitVec 32 := Scalar.muli v3100 c512_i32_2961
  v3108
def k0_mult155 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2942 : BitVec 32 := 5#32
  let v3089 : BitVec 32 := Scalar.addi v2 c5_i32_2942
  let c1_i32_2943 : BitVec 32 := 1#32
  let v3090 : BitVec 32 := Scalar.addi v3089 c1_i32_2943
  let c8_i32_2944 : BitVec 32 := 8#32
  let c0_i32_2945 : BitVec 32 := 0#32
  let v3091 : BitVec 1 := Scalar.cmpi .eq c8_i32_2944 c0_i32_2945
  let c1_i32_2946 : BitVec 32 := 1#32
  let v3092 : BitVec 32 := Scalar.select v3091 c1_i32_2946 c8_i32_2944
  let v3093 : BitVec 32 := Scalar.remsi v3090 v3092
  let c0_i32_2948 : BitVec 32 := 0#32
  let v3095 : BitVec 1 := Scalar.cmpi .slt v3093 c0_i32_2948
  let c0_i32_2949 : BitVec 32 := 0#32
  let v3096 : BitVec 1 := Scalar.cmpi .slt v3092 c0_i32_2949
  let v3097 : BitVec 1 := Scalar.xori v3095 v3096
  let c0_i32_2947 : BitVec 32 := 0#32
  let v3094 : BitVec 1 := Scalar.cmpi .ne v3093 c0_i32_2947
  let v3098 : BitVec 1 := Scalar.andi v3097 v3094
  let v3099 : BitVec 32 := Scalar.addi v3093 v3092
  let v3100 : BitVec 32 := Scalar.select v3098 v3099 v3093
  let c512_i32_2967 : BitVec 32 := 512#32
  let v3116 : BitVec 32 := Scalar.muli v3100 c512_i32_2967
  v3116
def k0_mult156 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2983 : BitVec 32 := 6#32
  let v3127 : BitVec 32 := Scalar.addi v2 c6_i32_2983
  let c8_i32_2984 : BitVec 32 := 8#32
  let c0_i32_2985 : BitVec 32 := 0#32
  let v3128 : BitVec 1 := Scalar.cmpi .eq c8_i32_2984 c0_i32_2985
  let c1_i32_2986 : BitVec 32 := 1#32
  let v3129 : BitVec 32 := Scalar.select v3128 c1_i32_2986 c8_i32_2984
  let v3130 : BitVec 32 := Scalar.remsi v3127 v3129
  let c0_i32_2988 : BitVec 32 := 0#32
  let v3132 : BitVec 1 := Scalar.cmpi .slt v3130 c0_i32_2988
  let c0_i32_2989 : BitVec 32 := 0#32
  let v3133 : BitVec 1 := Scalar.cmpi .slt v3129 c0_i32_2989
  let v3134 : BitVec 1 := Scalar.xori v3132 v3133
  let c0_i32_2987 : BitVec 32 := 0#32
  let v3131 : BitVec 1 := Scalar.cmpi .ne v3130 c0_i32_2987
  let v3135 : BitVec 1 := Scalar.andi v3134 v3131
  let v3136 : BitVec 32 := Scalar.addi v3130 v3129
  let v3137 : BitVec 32 := Scalar.select v3135 v3136 v3130
  let c512_i32_2990 : BitVec 32 := 512#32
  let v3138 : BitVec 32 := Scalar.muli v3137 c512_i32_2990
  v3138
def k0_dev97 (d0 : Dev nD) : Nat :=
  let c0_i32_2998 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2997 : BitVec 32 := 1#32
  let v3140 : BitVec 32 := Scalar.muli v13 c1_i32_2997
  let v3141 : BitVec 32 := Scalar.addi c0_i32_2998 v3140
  v3141.toNat
def k0_dev98 (d0 : Dev nD) : Nat :=
  let c0_i32_3006 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3005 : BitVec 32 := 1#32
  let v3151 : BitVec 32 := Scalar.muli v24 c1_i32_3005
  let v3152 : BitVec 32 := Scalar.addi c0_i32_3006 v3151
  v3152.toNat
def k0_mult157 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3007 : BitVec 32 := 5#32
  let v3153 : BitVec 32 := Scalar.subi v2 c5_i32_3007
  let c1_i32_3008 : BitVec 32 := 1#32
  let v3154 : BitVec 32 := Scalar.subi v3153 c1_i32_3008
  let c8_i32_3009 : BitVec 32 := 8#32
  let c0_i32_3010 : BitVec 32 := 0#32
  let v3155 : BitVec 1 := Scalar.cmpi .eq c8_i32_3009 c0_i32_3010
  let c1_i32_3011 : BitVec 32 := 1#32
  let v3156 : BitVec 32 := Scalar.select v3155 c1_i32_3011 c8_i32_3009
  let v3157 : BitVec 32 := Scalar.remsi v3154 v3156
  let c0_i32_3013 : BitVec 32 := 0#32
  let v3159 : BitVec 1 := Scalar.cmpi .slt v3157 c0_i32_3013
  let c0_i32_3014 : BitVec 32 := 0#32
  let v3160 : BitVec 1 := Scalar.cmpi .slt v3156 c0_i32_3014
  let v3161 : BitVec 1 := Scalar.xori v3159 v3160
  let c0_i32_3012 : BitVec 32 := 0#32
  let v3158 : BitVec 1 := Scalar.cmpi .ne v3157 c0_i32_3012
  let v3162 : BitVec 1 := Scalar.andi v3161 v3158
  let v3163 : BitVec 32 := Scalar.addi v3157 v3156
  let v3164 : BitVec 32 := Scalar.select v3162 v3163 v3157
  let c512_i32_3026 : BitVec 32 := 512#32
  let v3172 : BitVec 32 := Scalar.muli v3164 c512_i32_3026
  v3172
def k0_mult158 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3007 : BitVec 32 := 5#32
  let v3153 : BitVec 32 := Scalar.subi v2 c5_i32_3007
  let c1_i32_3008 : BitVec 32 := 1#32
  let v3154 : BitVec 32 := Scalar.subi v3153 c1_i32_3008
  let c8_i32_3009 : BitVec 32 := 8#32
  let c0_i32_3010 : BitVec 32 := 0#32
  let v3155 : BitVec 1 := Scalar.cmpi .eq c8_i32_3009 c0_i32_3010
  let c1_i32_3011 : BitVec 32 := 1#32
  let v3156 : BitVec 32 := Scalar.select v3155 c1_i32_3011 c8_i32_3009
  let v3157 : BitVec 32 := Scalar.remsi v3154 v3156
  let c0_i32_3013 : BitVec 32 := 0#32
  let v3159 : BitVec 1 := Scalar.cmpi .slt v3157 c0_i32_3013
  let c0_i32_3014 : BitVec 32 := 0#32
  let v3160 : BitVec 1 := Scalar.cmpi .slt v3156 c0_i32_3014
  let v3161 : BitVec 1 := Scalar.xori v3159 v3160
  let c0_i32_3012 : BitVec 32 := 0#32
  let v3158 : BitVec 1 := Scalar.cmpi .ne v3157 c0_i32_3012
  let v3162 : BitVec 1 := Scalar.andi v3161 v3158
  let v3163 : BitVec 32 := Scalar.addi v3157 v3156
  let v3164 : BitVec 32 := Scalar.select v3162 v3163 v3157
  let c512_i32_3032 : BitVec 32 := 512#32
  let v3180 : BitVec 32 := Scalar.muli v3164 c512_i32_3032
  v3180
def k0_mult159 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3048 : BitVec 32 := 6#32
  let v3191 : BitVec 32 := Scalar.subi v2 c6_i32_3048
  let c8_i32_3049 : BitVec 32 := 8#32
  let c0_i32_3050 : BitVec 32 := 0#32
  let v3192 : BitVec 1 := Scalar.cmpi .eq c8_i32_3049 c0_i32_3050
  let c1_i32_3051 : BitVec 32 := 1#32
  let v3193 : BitVec 32 := Scalar.select v3192 c1_i32_3051 c8_i32_3049
  let v3194 : BitVec 32 := Scalar.remsi v3191 v3193
  let c0_i32_3053 : BitVec 32 := 0#32
  let v3196 : BitVec 1 := Scalar.cmpi .slt v3194 c0_i32_3053
  let c0_i32_3054 : BitVec 32 := 0#32
  let v3197 : BitVec 1 := Scalar.cmpi .slt v3193 c0_i32_3054
  let v3198 : BitVec 1 := Scalar.xori v3196 v3197
  let c0_i32_3052 : BitVec 32 := 0#32
  let v3195 : BitVec 1 := Scalar.cmpi .ne v3194 c0_i32_3052
  let v3199 : BitVec 1 := Scalar.andi v3198 v3195
  let v3200 : BitVec 32 := Scalar.addi v3194 v3193
  let v3201 : BitVec 32 := Scalar.select v3199 v3200 v3194
  let c512_i32_3055 : BitVec 32 := 512#32
  let v3202 : BitVec 32 := Scalar.muli v3201 c512_i32_3055
  v3202
def k0_dev99 (d0 : Dev nD) : Nat :=
  let c0_i32_3063 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3062 : BitVec 32 := 1#32
  let v3204 : BitVec 32 := Scalar.muli v24 c1_i32_3062
  let v3205 : BitVec 32 := Scalar.addi c0_i32_3063 v3204
  v3205.toNat
def k0_dev100 (d0 : Dev nD) : Nat :=
  let c0_i32_3071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3070 : BitVec 32 := 1#32
  let v3215 : BitVec 32 := Scalar.muli v13 c1_i32_3070
  let v3216 : BitVec 32 := Scalar.addi c0_i32_3071 v3215
  v3216.toNat
def k0_mult160 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3072 : BitVec 32 := 5#32
  let v3217 : BitVec 32 := Scalar.addi v2 c5_i32_3072
  let c1_i32_3073 : BitVec 32 := 1#32
  let v3218 : BitVec 32 := Scalar.addi v3217 c1_i32_3073
  let c8_i32_3074 : BitVec 32 := 8#32
  let c0_i32_3075 : BitVec 32 := 0#32
  let v3219 : BitVec 1 := Scalar.cmpi .eq c8_i32_3074 c0_i32_3075
  let c1_i32_3076 : BitVec 32 := 1#32
  let v3220 : BitVec 32 := Scalar.select v3219 c1_i32_3076 c8_i32_3074
  let v3221 : BitVec 32 := Scalar.remsi v3218 v3220
  let c0_i32_3078 : BitVec 32 := 0#32
  let v3223 : BitVec 1 := Scalar.cmpi .slt v3221 c0_i32_3078
  let c0_i32_3079 : BitVec 32 := 0#32
  let v3224 : BitVec 1 := Scalar.cmpi .slt v3220 c0_i32_3079
  let v3225 : BitVec 1 := Scalar.xori v3223 v3224
  let c0_i32_3077 : BitVec 32 := 0#32
  let v3222 : BitVec 1 := Scalar.cmpi .ne v3221 c0_i32_3077
  let v3226 : BitVec 1 := Scalar.andi v3225 v3222
  let v3227 : BitVec 32 := Scalar.addi v3221 v3220
  let v3228 : BitVec 32 := Scalar.select v3226 v3227 v3221
  let c512_i32_3091 : BitVec 32 := 512#32
  let v3236 : BitVec 32 := Scalar.muli v3228 c512_i32_3091
  v3236
def k0_mult161 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3072 : BitVec 32 := 5#32
  let v3217 : BitVec 32 := Scalar.addi v2 c5_i32_3072
  let c1_i32_3073 : BitVec 32 := 1#32
  let v3218 : BitVec 32 := Scalar.addi v3217 c1_i32_3073
  let c8_i32_3074 : BitVec 32 := 8#32
  let c0_i32_3075 : BitVec 32 := 0#32
  let v3219 : BitVec 1 := Scalar.cmpi .eq c8_i32_3074 c0_i32_3075
  let c1_i32_3076 : BitVec 32 := 1#32
  let v3220 : BitVec 32 := Scalar.select v3219 c1_i32_3076 c8_i32_3074
  let v3221 : BitVec 32 := Scalar.remsi v3218 v3220
  let c0_i32_3078 : BitVec 32 := 0#32
  let v3223 : BitVec 1 := Scalar.cmpi .slt v3221 c0_i32_3078
  let c0_i32_3079 : BitVec 32 := 0#32
  let v3224 : BitVec 1 := Scalar.cmpi .slt v3220 c0_i32_3079
  let v3225 : BitVec 1 := Scalar.xori v3223 v3224
  let c0_i32_3077 : BitVec 32 := 0#32
  let v3222 : BitVec 1 := Scalar.cmpi .ne v3221 c0_i32_3077
  let v3226 : BitVec 1 := Scalar.andi v3225 v3222
  let v3227 : BitVec 32 := Scalar.addi v3221 v3220
  let v3228 : BitVec 32 := Scalar.select v3226 v3227 v3221
  let c512_i32_3097 : BitVec 32 := 512#32
  let v3244 : BitVec 32 := Scalar.muli v3228 c512_i32_3097
  v3244
def k0_mult162 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3113 : BitVec 32 := 6#32
  let v3255 : BitVec 32 := Scalar.addi v2 c6_i32_3113
  let c8_i32_3114 : BitVec 32 := 8#32
  let c0_i32_3115 : BitVec 32 := 0#32
  let v3256 : BitVec 1 := Scalar.cmpi .eq c8_i32_3114 c0_i32_3115
  let c1_i32_3116 : BitVec 32 := 1#32
  let v3257 : BitVec 32 := Scalar.select v3256 c1_i32_3116 c8_i32_3114
  let v3258 : BitVec 32 := Scalar.remsi v3255 v3257
  let c0_i32_3118 : BitVec 32 := 0#32
  let v3260 : BitVec 1 := Scalar.cmpi .slt v3258 c0_i32_3118
  let c0_i32_3119 : BitVec 32 := 0#32
  let v3261 : BitVec 1 := Scalar.cmpi .slt v3257 c0_i32_3119
  let v3262 : BitVec 1 := Scalar.xori v3260 v3261
  let c0_i32_3117 : BitVec 32 := 0#32
  let v3259 : BitVec 1 := Scalar.cmpi .ne v3258 c0_i32_3117
  let v3263 : BitVec 1 := Scalar.andi v3262 v3259
  let v3264 : BitVec 32 := Scalar.addi v3258 v3257
  let v3265 : BitVec 32 := Scalar.select v3263 v3264 v3258
  let c512_i32_3120 : BitVec 32 := 512#32
  let v3266 : BitVec 32 := Scalar.muli v3265 c512_i32_3120
  v3266
def k0_dev101 (d0 : Dev nD) : Nat :=
  let c0_i32_3128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3127 : BitVec 32 := 1#32
  let v3268 : BitVec 32 := Scalar.muli v13 c1_i32_3127
  let v3269 : BitVec 32 := Scalar.addi c0_i32_3128 v3268
  v3269.toNat
def k0_dev102 (d0 : Dev nD) : Nat :=
  let c0_i32_3136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3135 : BitVec 32 := 1#32
  let v3279 : BitVec 32 := Scalar.muli v24 c1_i32_3135
  let v3280 : BitVec 32 := Scalar.addi c0_i32_3136 v3279
  v3280.toNat
def k0_mult163 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3137 : BitVec 32 := 5#32
  let v3281 : BitVec 32 := Scalar.subi v2 c5_i32_3137
  let c1_i32_3138 : BitVec 32 := 1#32
  let v3282 : BitVec 32 := Scalar.subi v3281 c1_i32_3138
  let c8_i32_3139 : BitVec 32 := 8#32
  let c0_i32_3140 : BitVec 32 := 0#32
  let v3283 : BitVec 1 := Scalar.cmpi .eq c8_i32_3139 c0_i32_3140
  let c1_i32_3141 : BitVec 32 := 1#32
  let v3284 : BitVec 32 := Scalar.select v3283 c1_i32_3141 c8_i32_3139
  let v3285 : BitVec 32 := Scalar.remsi v3282 v3284
  let c0_i32_3143 : BitVec 32 := 0#32
  let v3287 : BitVec 1 := Scalar.cmpi .slt v3285 c0_i32_3143
  let c0_i32_3144 : BitVec 32 := 0#32
  let v3288 : BitVec 1 := Scalar.cmpi .slt v3284 c0_i32_3144
  let v3289 : BitVec 1 := Scalar.xori v3287 v3288
  let c0_i32_3142 : BitVec 32 := 0#32
  let v3286 : BitVec 1 := Scalar.cmpi .ne v3285 c0_i32_3142
  let v3290 : BitVec 1 := Scalar.andi v3289 v3286
  let v3291 : BitVec 32 := Scalar.addi v3285 v3284
  let v3292 : BitVec 32 := Scalar.select v3290 v3291 v3285
  let c512_i32_3156 : BitVec 32 := 512#32
  let v3300 : BitVec 32 := Scalar.muli v3292 c512_i32_3156
  v3300
def k0_mult164 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3137 : BitVec 32 := 5#32
  let v3281 : BitVec 32 := Scalar.subi v2 c5_i32_3137
  let c1_i32_3138 : BitVec 32 := 1#32
  let v3282 : BitVec 32 := Scalar.subi v3281 c1_i32_3138
  let c8_i32_3139 : BitVec 32 := 8#32
  let c0_i32_3140 : BitVec 32 := 0#32
  let v3283 : BitVec 1 := Scalar.cmpi .eq c8_i32_3139 c0_i32_3140
  let c1_i32_3141 : BitVec 32 := 1#32
  let v3284 : BitVec 32 := Scalar.select v3283 c1_i32_3141 c8_i32_3139
  let v3285 : BitVec 32 := Scalar.remsi v3282 v3284
  let c0_i32_3143 : BitVec 32 := 0#32
  let v3287 : BitVec 1 := Scalar.cmpi .slt v3285 c0_i32_3143
  let c0_i32_3144 : BitVec 32 := 0#32
  let v3288 : BitVec 1 := Scalar.cmpi .slt v3284 c0_i32_3144
  let v3289 : BitVec 1 := Scalar.xori v3287 v3288
  let c0_i32_3142 : BitVec 32 := 0#32
  let v3286 : BitVec 1 := Scalar.cmpi .ne v3285 c0_i32_3142
  let v3290 : BitVec 1 := Scalar.andi v3289 v3286
  let v3291 : BitVec 32 := Scalar.addi v3285 v3284
  let v3292 : BitVec 32 := Scalar.select v3290 v3291 v3285
  let c512_i32_3162 : BitVec 32 := 512#32
  let v3308 : BitVec 32 := Scalar.muli v3292 c512_i32_3162
  v3308
def k0_mult165 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3178 : BitVec 32 := 6#32
  let v3319 : BitVec 32 := Scalar.subi v2 c6_i32_3178
  let c8_i32_3179 : BitVec 32 := 8#32
  let c0_i32_3180 : BitVec 32 := 0#32
  let v3320 : BitVec 1 := Scalar.cmpi .eq c8_i32_3179 c0_i32_3180
  let c1_i32_3181 : BitVec 32 := 1#32
  let v3321 : BitVec 32 := Scalar.select v3320 c1_i32_3181 c8_i32_3179
  let v3322 : BitVec 32 := Scalar.remsi v3319 v3321
  let c0_i32_3183 : BitVec 32 := 0#32
  let v3324 : BitVec 1 := Scalar.cmpi .slt v3322 c0_i32_3183
  let c0_i32_3184 : BitVec 32 := 0#32
  let v3325 : BitVec 1 := Scalar.cmpi .slt v3321 c0_i32_3184
  let v3326 : BitVec 1 := Scalar.xori v3324 v3325
  let c0_i32_3182 : BitVec 32 := 0#32
  let v3323 : BitVec 1 := Scalar.cmpi .ne v3322 c0_i32_3182
  let v3327 : BitVec 1 := Scalar.andi v3326 v3323
  let v3328 : BitVec 32 := Scalar.addi v3322 v3321
  let v3329 : BitVec 32 := Scalar.select v3327 v3328 v3322
  let c512_i32_3185 : BitVec 32 := 512#32
  let v3330 : BitVec 32 := Scalar.muli v3329 c512_i32_3185
  v3330
def k0_dev103 (d0 : Dev nD) : Nat :=
  let c0_i32_3193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3192 : BitVec 32 := 1#32
  let v3332 : BitVec 32 := Scalar.muli v24 c1_i32_3192
  let v3333 : BitVec 32 := Scalar.addi c0_i32_3193 v3332
  v3333.toNat
def k0_dev104 (d0 : Dev nD) : Nat :=
  let c0_i32_3201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3200 : BitVec 32 := 1#32
  let v3343 : BitVec 32 := Scalar.muli v13 c1_i32_3200
  let v3344 : BitVec 32 := Scalar.addi c0_i32_3201 v3343
  v3344.toNat
def k0_mult166 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3202 : BitVec 32 := 5#32
  let v3345 : BitVec 32 := Scalar.addi v2 c5_i32_3202
  let c1_i32_3203 : BitVec 32 := 1#32
  let v3346 : BitVec 32 := Scalar.addi v3345 c1_i32_3203
  let c8_i32_3204 : BitVec 32 := 8#32
  let c0_i32_3205 : BitVec 32 := 0#32
  let v3347 : BitVec 1 := Scalar.cmpi .eq c8_i32_3204 c0_i32_3205
  let c1_i32_3206 : BitVec 32 := 1#32
  let v3348 : BitVec 32 := Scalar.select v3347 c1_i32_3206 c8_i32_3204
  let v3349 : BitVec 32 := Scalar.remsi v3346 v3348
  let c0_i32_3208 : BitVec 32 := 0#32
  let v3351 : BitVec 1 := Scalar.cmpi .slt v3349 c0_i32_3208
  let c0_i32_3209 : BitVec 32 := 0#32
  let v3352 : BitVec 1 := Scalar.cmpi .slt v3348 c0_i32_3209
  let v3353 : BitVec 1 := Scalar.xori v3351 v3352
  let c0_i32_3207 : BitVec 32 := 0#32
  let v3350 : BitVec 1 := Scalar.cmpi .ne v3349 c0_i32_3207
  let v3354 : BitVec 1 := Scalar.andi v3353 v3350
  let v3355 : BitVec 32 := Scalar.addi v3349 v3348
  let v3356 : BitVec 32 := Scalar.select v3354 v3355 v3349
  let c512_i32_3221 : BitVec 32 := 512#32
  let v3364 : BitVec 32 := Scalar.muli v3356 c512_i32_3221
  v3364
def k0_mult167 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3202 : BitVec 32 := 5#32
  let v3345 : BitVec 32 := Scalar.addi v2 c5_i32_3202
  let c1_i32_3203 : BitVec 32 := 1#32
  let v3346 : BitVec 32 := Scalar.addi v3345 c1_i32_3203
  let c8_i32_3204 : BitVec 32 := 8#32
  let c0_i32_3205 : BitVec 32 := 0#32
  let v3347 : BitVec 1 := Scalar.cmpi .eq c8_i32_3204 c0_i32_3205
  let c1_i32_3206 : BitVec 32 := 1#32
  let v3348 : BitVec 32 := Scalar.select v3347 c1_i32_3206 c8_i32_3204
  let v3349 : BitVec 32 := Scalar.remsi v3346 v3348
  let c0_i32_3208 : BitVec 32 := 0#32
  let v3351 : BitVec 1 := Scalar.cmpi .slt v3349 c0_i32_3208
  let c0_i32_3209 : BitVec 32 := 0#32
  let v3352 : BitVec 1 := Scalar.cmpi .slt v3348 c0_i32_3209
  let v3353 : BitVec 1 := Scalar.xori v3351 v3352
  let c0_i32_3207 : BitVec 32 := 0#32
  let v3350 : BitVec 1 := Scalar.cmpi .ne v3349 c0_i32_3207
  let v3354 : BitVec 1 := Scalar.andi v3353 v3350
  let v3355 : BitVec 32 := Scalar.addi v3349 v3348
  let v3356 : BitVec 32 := Scalar.select v3354 v3355 v3349
  let c512_i32_3227 : BitVec 32 := 512#32
  let v3372 : BitVec 32 := Scalar.muli v3356 c512_i32_3227
  v3372
def k0_mult168 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3243 : BitVec 32 := 6#32
  let v3383 : BitVec 32 := Scalar.addi v2 c6_i32_3243
  let c8_i32_3244 : BitVec 32 := 8#32
  let c0_i32_3245 : BitVec 32 := 0#32
  let v3384 : BitVec 1 := Scalar.cmpi .eq c8_i32_3244 c0_i32_3245
  let c1_i32_3246 : BitVec 32 := 1#32
  let v3385 : BitVec 32 := Scalar.select v3384 c1_i32_3246 c8_i32_3244
  let v3386 : BitVec 32 := Scalar.remsi v3383 v3385
  let c0_i32_3248 : BitVec 32 := 0#32
  let v3388 : BitVec 1 := Scalar.cmpi .slt v3386 c0_i32_3248
  let c0_i32_3249 : BitVec 32 := 0#32
  let v3389 : BitVec 1 := Scalar.cmpi .slt v3385 c0_i32_3249
  let v3390 : BitVec 1 := Scalar.xori v3388 v3389
  let c0_i32_3247 : BitVec 32 := 0#32
  let v3387 : BitVec 1 := Scalar.cmpi .ne v3386 c0_i32_3247
  let v3391 : BitVec 1 := Scalar.andi v3390 v3387
  let v3392 : BitVec 32 := Scalar.addi v3386 v3385
  let v3393 : BitVec 32 := Scalar.select v3391 v3392 v3386
  let c512_i32_3250 : BitVec 32 := 512#32
  let v3394 : BitVec 32 := Scalar.muli v3393 c512_i32_3250
  v3394
def k0_dev105 (d0 : Dev nD) : Nat :=
  let c0_i32_3258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3257 : BitVec 32 := 1#32
  let v3396 : BitVec 32 := Scalar.muli v13 c1_i32_3257
  let v3397 : BitVec 32 := Scalar.addi c0_i32_3258 v3396
  v3397.toNat
def k0_dev106 (d0 : Dev nD) : Nat :=
  let c0_i32_3266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3265 : BitVec 32 := 1#32
  let v3407 : BitVec 32 := Scalar.muli v24 c1_i32_3265
  let v3408 : BitVec 32 := Scalar.addi c0_i32_3266 v3407
  v3408.toNat
def k0_mult169 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3267 : BitVec 32 := 6#32
  let v3409 : BitVec 32 := Scalar.subi v2 c6_i32_3267
  let c1_i32_3268 : BitVec 32 := 1#32
  let v3410 : BitVec 32 := Scalar.subi v3409 c1_i32_3268
  let c8_i32_3269 : BitVec 32 := 8#32
  let c0_i32_3270 : BitVec 32 := 0#32
  let v3411 : BitVec 1 := Scalar.cmpi .eq c8_i32_3269 c0_i32_3270
  let c1_i32_3271 : BitVec 32 := 1#32
  let v3412 : BitVec 32 := Scalar.select v3411 c1_i32_3271 c8_i32_3269
  let v3413 : BitVec 32 := Scalar.remsi v3410 v3412
  let c0_i32_3273 : BitVec 32 := 0#32
  let v3415 : BitVec 1 := Scalar.cmpi .slt v3413 c0_i32_3273
  let c0_i32_3274 : BitVec 32 := 0#32
  let v3416 : BitVec 1 := Scalar.cmpi .slt v3412 c0_i32_3274
  let v3417 : BitVec 1 := Scalar.xori v3415 v3416
  let c0_i32_3272 : BitVec 32 := 0#32
  let v3414 : BitVec 1 := Scalar.cmpi .ne v3413 c0_i32_3272
  let v3418 : BitVec 1 := Scalar.andi v3417 v3414
  let v3419 : BitVec 32 := Scalar.addi v3413 v3412
  let v3420 : BitVec 32 := Scalar.select v3418 v3419 v3413
  let c512_i32_3286 : BitVec 32 := 512#32
  let v3428 : BitVec 32 := Scalar.muli v3420 c512_i32_3286
  v3428
def k0_mult170 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3267 : BitVec 32 := 6#32
  let v3409 : BitVec 32 := Scalar.subi v2 c6_i32_3267
  let c1_i32_3268 : BitVec 32 := 1#32
  let v3410 : BitVec 32 := Scalar.subi v3409 c1_i32_3268
  let c8_i32_3269 : BitVec 32 := 8#32
  let c0_i32_3270 : BitVec 32 := 0#32
  let v3411 : BitVec 1 := Scalar.cmpi .eq c8_i32_3269 c0_i32_3270
  let c1_i32_3271 : BitVec 32 := 1#32
  let v3412 : BitVec 32 := Scalar.select v3411 c1_i32_3271 c8_i32_3269
  let v3413 : BitVec 32 := Scalar.remsi v3410 v3412
  let c0_i32_3273 : BitVec 32 := 0#32
  let v3415 : BitVec 1 := Scalar.cmpi .slt v3413 c0_i32_3273
  let c0_i32_3274 : BitVec 32 := 0#32
  let v3416 : BitVec 1 := Scalar.cmpi .slt v3412 c0_i32_3274
  let v3417 : BitVec 1 := Scalar.xori v3415 v3416
  let c0_i32_3272 : BitVec 32 := 0#32
  let v3414 : BitVec 1 := Scalar.cmpi .ne v3413 c0_i32_3272
  let v3418 : BitVec 1 := Scalar.andi v3417 v3414
  let v3419 : BitVec 32 := Scalar.addi v3413 v3412
  let v3420 : BitVec 32 := Scalar.select v3418 v3419 v3413
  let c512_i32_3292 : BitVec 32 := 512#32
  let v3436 : BitVec 32 := Scalar.muli v3420 c512_i32_3292
  v3436
def k0_dev107 (d0 : Dev nD) : Nat :=
  let c0_i32_3298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3297 : BitVec 32 := 1#32
  let v3442 : BitVec 32 := Scalar.muli v13 c1_i32_3297
  let v3443 : BitVec 32 := Scalar.addi c0_i32_3298 v3442
  v3443.toNat
def k0_mult171 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3299 : BitVec 32 := 6#32
  let v3444 : BitVec 32 := Scalar.addi v2 c6_i32_3299
  let c1_i32_3300 : BitVec 32 := 1#32
  let v3445 : BitVec 32 := Scalar.addi v3444 c1_i32_3300
  let c8_i32_3301 : BitVec 32 := 8#32
  let c0_i32_3302 : BitVec 32 := 0#32
  let v3446 : BitVec 1 := Scalar.cmpi .eq c8_i32_3301 c0_i32_3302
  let c1_i32_3303 : BitVec 32 := 1#32
  let v3447 : BitVec 32 := Scalar.select v3446 c1_i32_3303 c8_i32_3301
  let v3448 : BitVec 32 := Scalar.remsi v3445 v3447
  let c0_i32_3305 : BitVec 32 := 0#32
  let v3450 : BitVec 1 := Scalar.cmpi .slt v3448 c0_i32_3305
  let c0_i32_3306 : BitVec 32 := 0#32
  let v3451 : BitVec 1 := Scalar.cmpi .slt v3447 c0_i32_3306
  let v3452 : BitVec 1 := Scalar.xori v3450 v3451
  let c0_i32_3304 : BitVec 32 := 0#32
  let v3449 : BitVec 1 := Scalar.cmpi .ne v3448 c0_i32_3304
  let v3453 : BitVec 1 := Scalar.andi v3452 v3449
  let v3454 : BitVec 32 := Scalar.addi v3448 v3447
  let v3455 : BitVec 32 := Scalar.select v3453 v3454 v3448
  let c512_i32_3318 : BitVec 32 := 512#32
  let v3463 : BitVec 32 := Scalar.muli v3455 c512_i32_3318
  v3463
def k0_mult172 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3299 : BitVec 32 := 6#32
  let v3444 : BitVec 32 := Scalar.addi v2 c6_i32_3299
  let c1_i32_3300 : BitVec 32 := 1#32
  let v3445 : BitVec 32 := Scalar.addi v3444 c1_i32_3300
  let c8_i32_3301 : BitVec 32 := 8#32
  let c0_i32_3302 : BitVec 32 := 0#32
  let v3446 : BitVec 1 := Scalar.cmpi .eq c8_i32_3301 c0_i32_3302
  let c1_i32_3303 : BitVec 32 := 1#32
  let v3447 : BitVec 32 := Scalar.select v3446 c1_i32_3303 c8_i32_3301
  let v3448 : BitVec 32 := Scalar.remsi v3445 v3447
  let c0_i32_3305 : BitVec 32 := 0#32
  let v3450 : BitVec 1 := Scalar.cmpi .slt v3448 c0_i32_3305
  let c0_i32_3306 : BitVec 32 := 0#32
  let v3451 : BitVec 1 := Scalar.cmpi .slt v3447 c0_i32_3306
  let v3452 : BitVec 1 := Scalar.xori v3450 v3451
  let c0_i32_3304 : BitVec 32 := 0#32
  let v3449 : BitVec 1 := Scalar.cmpi .ne v3448 c0_i32_3304
  let v3453 : BitVec 1 := Scalar.andi v3452 v3449
  let v3454 : BitVec 32 := Scalar.addi v3448 v3447
  let v3455 : BitVec 32 := Scalar.select v3453 v3454 v3448
  let c512_i32_3324 : BitVec 32 := 512#32
  let v3471 : BitVec 32 := Scalar.muli v3455 c512_i32_3324
  v3471
def k0_dev108 (d0 : Dev nD) : Nat :=
  let c0_i32_3330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3329 : BitVec 32 := 1#32
  let v3477 : BitVec 32 := Scalar.muli v24 c1_i32_3329
  let v3478 : BitVec 32 := Scalar.addi c0_i32_3330 v3477
  v3478.toNat
def k0_mult173 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3331 : BitVec 32 := 6#32
  let v3479 : BitVec 32 := Scalar.subi v2 c6_i32_3331
  let c1_i32_3332 : BitVec 32 := 1#32
  let v3480 : BitVec 32 := Scalar.subi v3479 c1_i32_3332
  let c8_i32_3333 : BitVec 32 := 8#32
  let c0_i32_3334 : BitVec 32 := 0#32
  let v3481 : BitVec 1 := Scalar.cmpi .eq c8_i32_3333 c0_i32_3334
  let c1_i32_3335 : BitVec 32 := 1#32
  let v3482 : BitVec 32 := Scalar.select v3481 c1_i32_3335 c8_i32_3333
  let v3483 : BitVec 32 := Scalar.remsi v3480 v3482
  let c0_i32_3337 : BitVec 32 := 0#32
  let v3485 : BitVec 1 := Scalar.cmpi .slt v3483 c0_i32_3337
  let c0_i32_3338 : BitVec 32 := 0#32
  let v3486 : BitVec 1 := Scalar.cmpi .slt v3482 c0_i32_3338
  let v3487 : BitVec 1 := Scalar.xori v3485 v3486
  let c0_i32_3336 : BitVec 32 := 0#32
  let v3484 : BitVec 1 := Scalar.cmpi .ne v3483 c0_i32_3336
  let v3488 : BitVec 1 := Scalar.andi v3487 v3484
  let v3489 : BitVec 32 := Scalar.addi v3483 v3482
  let v3490 : BitVec 32 := Scalar.select v3488 v3489 v3483
  let c512_i32_3350 : BitVec 32 := 512#32
  let v3498 : BitVec 32 := Scalar.muli v3490 c512_i32_3350
  v3498
def k0_mult174 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3331 : BitVec 32 := 6#32
  let v3479 : BitVec 32 := Scalar.subi v2 c6_i32_3331
  let c1_i32_3332 : BitVec 32 := 1#32
  let v3480 : BitVec 32 := Scalar.subi v3479 c1_i32_3332
  let c8_i32_3333 : BitVec 32 := 8#32
  let c0_i32_3334 : BitVec 32 := 0#32
  let v3481 : BitVec 1 := Scalar.cmpi .eq c8_i32_3333 c0_i32_3334
  let c1_i32_3335 : BitVec 32 := 1#32
  let v3482 : BitVec 32 := Scalar.select v3481 c1_i32_3335 c8_i32_3333
  let v3483 : BitVec 32 := Scalar.remsi v3480 v3482
  let c0_i32_3337 : BitVec 32 := 0#32
  let v3485 : BitVec 1 := Scalar.cmpi .slt v3483 c0_i32_3337
  let c0_i32_3338 : BitVec 32 := 0#32
  let v3486 : BitVec 1 := Scalar.cmpi .slt v3482 c0_i32_3338
  let v3487 : BitVec 1 := Scalar.xori v3485 v3486
  let c0_i32_3336 : BitVec 32 := 0#32
  let v3484 : BitVec 1 := Scalar.cmpi .ne v3483 c0_i32_3336
  let v3488 : BitVec 1 := Scalar.andi v3487 v3484
  let v3489 : BitVec 32 := Scalar.addi v3483 v3482
  let v3490 : BitVec 32 := Scalar.select v3488 v3489 v3483
  let c512_i32_3356 : BitVec 32 := 512#32
  let v3506 : BitVec 32 := Scalar.muli v3490 c512_i32_3356
  v3506
def k0_dev109 (d0 : Dev nD) : Nat :=
  let c0_i32_3362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3361 : BitVec 32 := 1#32
  let v3512 : BitVec 32 := Scalar.muli v13 c1_i32_3361
  let v3513 : BitVec 32 := Scalar.addi c0_i32_3362 v3512
  v3513.toNat
def k0_mult175 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3363 : BitVec 32 := 6#32
  let v3514 : BitVec 32 := Scalar.addi v2 c6_i32_3363
  let c1_i32_3364 : BitVec 32 := 1#32
  let v3515 : BitVec 32 := Scalar.addi v3514 c1_i32_3364
  let c8_i32_3365 : BitVec 32 := 8#32
  let c0_i32_3366 : BitVec 32 := 0#32
  let v3516 : BitVec 1 := Scalar.cmpi .eq c8_i32_3365 c0_i32_3366
  let c1_i32_3367 : BitVec 32 := 1#32
  let v3517 : BitVec 32 := Scalar.select v3516 c1_i32_3367 c8_i32_3365
  let v3518 : BitVec 32 := Scalar.remsi v3515 v3517
  let c0_i32_3369 : BitVec 32 := 0#32
  let v3520 : BitVec 1 := Scalar.cmpi .slt v3518 c0_i32_3369
  let c0_i32_3370 : BitVec 32 := 0#32
  let v3521 : BitVec 1 := Scalar.cmpi .slt v3517 c0_i32_3370
  let v3522 : BitVec 1 := Scalar.xori v3520 v3521
  let c0_i32_3368 : BitVec 32 := 0#32
  let v3519 : BitVec 1 := Scalar.cmpi .ne v3518 c0_i32_3368
  let v3523 : BitVec 1 := Scalar.andi v3522 v3519
  let v3524 : BitVec 32 := Scalar.addi v3518 v3517
  let v3525 : BitVec 32 := Scalar.select v3523 v3524 v3518
  let c512_i32_3382 : BitVec 32 := 512#32
  let v3533 : BitVec 32 := Scalar.muli v3525 c512_i32_3382
  v3533
def k0_mult176 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3363 : BitVec 32 := 6#32
  let v3514 : BitVec 32 := Scalar.addi v2 c6_i32_3363
  let c1_i32_3364 : BitVec 32 := 1#32
  let v3515 : BitVec 32 := Scalar.addi v3514 c1_i32_3364
  let c8_i32_3365 : BitVec 32 := 8#32
  let c0_i32_3366 : BitVec 32 := 0#32
  let v3516 : BitVec 1 := Scalar.cmpi .eq c8_i32_3365 c0_i32_3366
  let c1_i32_3367 : BitVec 32 := 1#32
  let v3517 : BitVec 32 := Scalar.select v3516 c1_i32_3367 c8_i32_3365
  let v3518 : BitVec 32 := Scalar.remsi v3515 v3517
  let c0_i32_3369 : BitVec 32 := 0#32
  let v3520 : BitVec 1 := Scalar.cmpi .slt v3518 c0_i32_3369
  let c0_i32_3370 : BitVec 32 := 0#32
  let v3521 : BitVec 1 := Scalar.cmpi .slt v3517 c0_i32_3370
  let v3522 : BitVec 1 := Scalar.xori v3520 v3521
  let c0_i32_3368 : BitVec 32 := 0#32
  let v3519 : BitVec 1 := Scalar.cmpi .ne v3518 c0_i32_3368
  let v3523 : BitVec 1 := Scalar.andi v3522 v3519
  let v3524 : BitVec 32 := Scalar.addi v3518 v3517
  let v3525 : BitVec 32 := Scalar.select v3523 v3524 v3518
  let c512_i32_3388 : BitVec 32 := 512#32
  let v3541 : BitVec 32 := Scalar.muli v3525 c512_i32_3388
  v3541
def k0_dev110 (d0 : Dev nD) : Nat :=
  let c0_i32_3394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3393 : BitVec 32 := 1#32
  let v3547 : BitVec 32 := Scalar.muli v24 c1_i32_3393
  let v3548 : BitVec 32 := Scalar.addi c0_i32_3394 v3547
  v3548.toNat
def k0_mult177 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3395 : BitVec 32 := 6#32
  let v3549 : BitVec 32 := Scalar.subi v2 c6_i32_3395
  let c1_i32_3396 : BitVec 32 := 1#32
  let v3550 : BitVec 32 := Scalar.subi v3549 c1_i32_3396
  let c8_i32_3397 : BitVec 32 := 8#32
  let c0_i32_3398 : BitVec 32 := 0#32
  let v3551 : BitVec 1 := Scalar.cmpi .eq c8_i32_3397 c0_i32_3398
  let c1_i32_3399 : BitVec 32 := 1#32
  let v3552 : BitVec 32 := Scalar.select v3551 c1_i32_3399 c8_i32_3397
  let v3553 : BitVec 32 := Scalar.remsi v3550 v3552
  let c0_i32_3401 : BitVec 32 := 0#32
  let v3555 : BitVec 1 := Scalar.cmpi .slt v3553 c0_i32_3401
  let c0_i32_3402 : BitVec 32 := 0#32
  let v3556 : BitVec 1 := Scalar.cmpi .slt v3552 c0_i32_3402
  let v3557 : BitVec 1 := Scalar.xori v3555 v3556
  let c0_i32_3400 : BitVec 32 := 0#32
  let v3554 : BitVec 1 := Scalar.cmpi .ne v3553 c0_i32_3400
  let v3558 : BitVec 1 := Scalar.andi v3557 v3554
  let v3559 : BitVec 32 := Scalar.addi v3553 v3552
  let v3560 : BitVec 32 := Scalar.select v3558 v3559 v3553
  let c512_i32_3414 : BitVec 32 := 512#32
  let v3568 : BitVec 32 := Scalar.muli v3560 c512_i32_3414
  v3568
def k0_mult178 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3395 : BitVec 32 := 6#32
  let v3549 : BitVec 32 := Scalar.subi v2 c6_i32_3395
  let c1_i32_3396 : BitVec 32 := 1#32
  let v3550 : BitVec 32 := Scalar.subi v3549 c1_i32_3396
  let c8_i32_3397 : BitVec 32 := 8#32
  let c0_i32_3398 : BitVec 32 := 0#32
  let v3551 : BitVec 1 := Scalar.cmpi .eq c8_i32_3397 c0_i32_3398
  let c1_i32_3399 : BitVec 32 := 1#32
  let v3552 : BitVec 32 := Scalar.select v3551 c1_i32_3399 c8_i32_3397
  let v3553 : BitVec 32 := Scalar.remsi v3550 v3552
  let c0_i32_3401 : BitVec 32 := 0#32
  let v3555 : BitVec 1 := Scalar.cmpi .slt v3553 c0_i32_3401
  let c0_i32_3402 : BitVec 32 := 0#32
  let v3556 : BitVec 1 := Scalar.cmpi .slt v3552 c0_i32_3402
  let v3557 : BitVec 1 := Scalar.xori v3555 v3556
  let c0_i32_3400 : BitVec 32 := 0#32
  let v3554 : BitVec 1 := Scalar.cmpi .ne v3553 c0_i32_3400
  let v3558 : BitVec 1 := Scalar.andi v3557 v3554
  let v3559 : BitVec 32 := Scalar.addi v3553 v3552
  let v3560 : BitVec 32 := Scalar.select v3558 v3559 v3553
  let c512_i32_3420 : BitVec 32 := 512#32
  let v3576 : BitVec 32 := Scalar.muli v3560 c512_i32_3420
  v3576
def k0_dev111 (d0 : Dev nD) : Nat :=
  let c0_i32_3426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3425 : BitVec 32 := 1#32
  let v3582 : BitVec 32 := Scalar.muli v13 c1_i32_3425
  let v3583 : BitVec 32 := Scalar.addi c0_i32_3426 v3582
  v3583.toNat
def k0_mult179 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3427 : BitVec 32 := 6#32
  let v3584 : BitVec 32 := Scalar.addi v2 c6_i32_3427
  let c1_i32_3428 : BitVec 32 := 1#32
  let v3585 : BitVec 32 := Scalar.addi v3584 c1_i32_3428
  let c8_i32_3429 : BitVec 32 := 8#32
  let c0_i32_3430 : BitVec 32 := 0#32
  let v3586 : BitVec 1 := Scalar.cmpi .eq c8_i32_3429 c0_i32_3430
  let c1_i32_3431 : BitVec 32 := 1#32
  let v3587 : BitVec 32 := Scalar.select v3586 c1_i32_3431 c8_i32_3429
  let v3588 : BitVec 32 := Scalar.remsi v3585 v3587
  let c0_i32_3433 : BitVec 32 := 0#32
  let v3590 : BitVec 1 := Scalar.cmpi .slt v3588 c0_i32_3433
  let c0_i32_3434 : BitVec 32 := 0#32
  let v3591 : BitVec 1 := Scalar.cmpi .slt v3587 c0_i32_3434
  let v3592 : BitVec 1 := Scalar.xori v3590 v3591
  let c0_i32_3432 : BitVec 32 := 0#32
  let v3589 : BitVec 1 := Scalar.cmpi .ne v3588 c0_i32_3432
  let v3593 : BitVec 1 := Scalar.andi v3592 v3589
  let v3594 : BitVec 32 := Scalar.addi v3588 v3587
  let v3595 : BitVec 32 := Scalar.select v3593 v3594 v3588
  let c512_i32_3446 : BitVec 32 := 512#32
  let v3603 : BitVec 32 := Scalar.muli v3595 c512_i32_3446
  v3603
def k0_mult180 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3427 : BitVec 32 := 6#32
  let v3584 : BitVec 32 := Scalar.addi v2 c6_i32_3427
  let c1_i32_3428 : BitVec 32 := 1#32
  let v3585 : BitVec 32 := Scalar.addi v3584 c1_i32_3428
  let c8_i32_3429 : BitVec 32 := 8#32
  let c0_i32_3430 : BitVec 32 := 0#32
  let v3586 : BitVec 1 := Scalar.cmpi .eq c8_i32_3429 c0_i32_3430
  let c1_i32_3431 : BitVec 32 := 1#32
  let v3587 : BitVec 32 := Scalar.select v3586 c1_i32_3431 c8_i32_3429
  let v3588 : BitVec 32 := Scalar.remsi v3585 v3587
  let c0_i32_3433 : BitVec 32 := 0#32
  let v3590 : BitVec 1 := Scalar.cmpi .slt v3588 c0_i32_3433
  let c0_i32_3434 : BitVec 32 := 0#32
  let v3591 : BitVec 1 := Scalar.cmpi .slt v3587 c0_i32_3434
  let v3592 : BitVec 1 := Scalar.xori v3590 v3591
  let c0_i32_3432 : BitVec 32 := 0#32
  let v3589 : BitVec 1 := Scalar.cmpi .ne v3588 c0_i32_3432
  let v3593 : BitVec 1 := Scalar.andi v3592 v3589
  let v3594 : BitVec 32 := Scalar.addi v3588 v3587
  let v3595 : BitVec 32 := Scalar.select v3593 v3594 v3588
  let c512_i32_3452 : BitVec 32 := 512#32
  let v3611 : BitVec 32 := Scalar.muli v3595 c512_i32_3452
  v3611
def k0_dev112 (d0 : Dev nD) : Nat :=
  let c0_i32_3458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3457 : BitVec 32 := 1#32
  let v3617 : BitVec 32 := Scalar.muli v24 c1_i32_3457
  let v3618 : BitVec 32 := Scalar.addi c0_i32_3458 v3617
  v3618.toNat
def k0_mult181 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3459 : BitVec 32 := 6#32
  let v3619 : BitVec 32 := Scalar.subi v2 c6_i32_3459
  let c1_i32_3460 : BitVec 32 := 1#32
  let v3620 : BitVec 32 := Scalar.subi v3619 c1_i32_3460
  let c8_i32_3461 : BitVec 32 := 8#32
  let c0_i32_3462 : BitVec 32 := 0#32
  let v3621 : BitVec 1 := Scalar.cmpi .eq c8_i32_3461 c0_i32_3462
  let c1_i32_3463 : BitVec 32 := 1#32
  let v3622 : BitVec 32 := Scalar.select v3621 c1_i32_3463 c8_i32_3461
  let v3623 : BitVec 32 := Scalar.remsi v3620 v3622
  let c0_i32_3465 : BitVec 32 := 0#32
  let v3625 : BitVec 1 := Scalar.cmpi .slt v3623 c0_i32_3465
  let c0_i32_3466 : BitVec 32 := 0#32
  let v3626 : BitVec 1 := Scalar.cmpi .slt v3622 c0_i32_3466
  let v3627 : BitVec 1 := Scalar.xori v3625 v3626
  let c0_i32_3464 : BitVec 32 := 0#32
  let v3624 : BitVec 1 := Scalar.cmpi .ne v3623 c0_i32_3464
  let v3628 : BitVec 1 := Scalar.andi v3627 v3624
  let v3629 : BitVec 32 := Scalar.addi v3623 v3622
  let v3630 : BitVec 32 := Scalar.select v3628 v3629 v3623
  let c512_i32_3478 : BitVec 32 := 512#32
  let v3638 : BitVec 32 := Scalar.muli v3630 c512_i32_3478
  v3638
def k0_mult182 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3459 : BitVec 32 := 6#32
  let v3619 : BitVec 32 := Scalar.subi v2 c6_i32_3459
  let c1_i32_3460 : BitVec 32 := 1#32
  let v3620 : BitVec 32 := Scalar.subi v3619 c1_i32_3460
  let c8_i32_3461 : BitVec 32 := 8#32
  let c0_i32_3462 : BitVec 32 := 0#32
  let v3621 : BitVec 1 := Scalar.cmpi .eq c8_i32_3461 c0_i32_3462
  let c1_i32_3463 : BitVec 32 := 1#32
  let v3622 : BitVec 32 := Scalar.select v3621 c1_i32_3463 c8_i32_3461
  let v3623 : BitVec 32 := Scalar.remsi v3620 v3622
  let c0_i32_3465 : BitVec 32 := 0#32
  let v3625 : BitVec 1 := Scalar.cmpi .slt v3623 c0_i32_3465
  let c0_i32_3466 : BitVec 32 := 0#32
  let v3626 : BitVec 1 := Scalar.cmpi .slt v3622 c0_i32_3466
  let v3627 : BitVec 1 := Scalar.xori v3625 v3626
  let c0_i32_3464 : BitVec 32 := 0#32
  let v3624 : BitVec 1 := Scalar.cmpi .ne v3623 c0_i32_3464
  let v3628 : BitVec 1 := Scalar.andi v3627 v3624
  let v3629 : BitVec 32 := Scalar.addi v3623 v3622
  let v3630 : BitVec 32 := Scalar.select v3628 v3629 v3623
  let c512_i32_3484 : BitVec 32 := 512#32
  let v3646 : BitVec 32 := Scalar.muli v3630 c512_i32_3484
  v3646
def k0_dev113 (d0 : Dev nD) : Nat :=
  let c0_i32_3490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3489 : BitVec 32 := 1#32
  let v3652 : BitVec 32 := Scalar.muli v13 c1_i32_3489
  let v3653 : BitVec 32 := Scalar.addi c0_i32_3490 v3652
  v3653.toNat
def k0_mult183 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3491 : BitVec 32 := 6#32
  let v3654 : BitVec 32 := Scalar.addi v2 c6_i32_3491
  let c1_i32_3492 : BitVec 32 := 1#32
  let v3655 : BitVec 32 := Scalar.addi v3654 c1_i32_3492
  let c8_i32_3493 : BitVec 32 := 8#32
  let c0_i32_3494 : BitVec 32 := 0#32
  let v3656 : BitVec 1 := Scalar.cmpi .eq c8_i32_3493 c0_i32_3494
  let c1_i32_3495 : BitVec 32 := 1#32
  let v3657 : BitVec 32 := Scalar.select v3656 c1_i32_3495 c8_i32_3493
  let v3658 : BitVec 32 := Scalar.remsi v3655 v3657
  let c0_i32_3497 : BitVec 32 := 0#32
  let v3660 : BitVec 1 := Scalar.cmpi .slt v3658 c0_i32_3497
  let c0_i32_3498 : BitVec 32 := 0#32
  let v3661 : BitVec 1 := Scalar.cmpi .slt v3657 c0_i32_3498
  let v3662 : BitVec 1 := Scalar.xori v3660 v3661
  let c0_i32_3496 : BitVec 32 := 0#32
  let v3659 : BitVec 1 := Scalar.cmpi .ne v3658 c0_i32_3496
  let v3663 : BitVec 1 := Scalar.andi v3662 v3659
  let v3664 : BitVec 32 := Scalar.addi v3658 v3657
  let v3665 : BitVec 32 := Scalar.select v3663 v3664 v3658
  let c512_i32_3510 : BitVec 32 := 512#32
  let v3673 : BitVec 32 := Scalar.muli v3665 c512_i32_3510
  v3673
def k0_mult184 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3491 : BitVec 32 := 6#32
  let v3654 : BitVec 32 := Scalar.addi v2 c6_i32_3491
  let c1_i32_3492 : BitVec 32 := 1#32
  let v3655 : BitVec 32 := Scalar.addi v3654 c1_i32_3492
  let c8_i32_3493 : BitVec 32 := 8#32
  let c0_i32_3494 : BitVec 32 := 0#32
  let v3656 : BitVec 1 := Scalar.cmpi .eq c8_i32_3493 c0_i32_3494
  let c1_i32_3495 : BitVec 32 := 1#32
  let v3657 : BitVec 32 := Scalar.select v3656 c1_i32_3495 c8_i32_3493
  let v3658 : BitVec 32 := Scalar.remsi v3655 v3657
  let c0_i32_3497 : BitVec 32 := 0#32
  let v3660 : BitVec 1 := Scalar.cmpi .slt v3658 c0_i32_3497
  let c0_i32_3498 : BitVec 32 := 0#32
  let v3661 : BitVec 1 := Scalar.cmpi .slt v3657 c0_i32_3498
  let v3662 : BitVec 1 := Scalar.xori v3660 v3661
  let c0_i32_3496 : BitVec 32 := 0#32
  let v3659 : BitVec 1 := Scalar.cmpi .ne v3658 c0_i32_3496
  let v3663 : BitVec 1 := Scalar.andi v3662 v3659
  let v3664 : BitVec 32 := Scalar.addi v3658 v3657
  let v3665 : BitVec 32 := Scalar.select v3663 v3664 v3658
  let c512_i32_3516 : BitVec 32 := 512#32
  let v3681 : BitVec 32 := Scalar.muli v3665 c512_i32_3516
  v3681
def k0_dev114 (d0 : Dev nD) : Nat :=
  let c0_i32_3522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3521 : BitVec 32 := 1#32
  let v3687 : BitVec 32 := Scalar.muli v24 c1_i32_3521
  let v3688 : BitVec 32 := Scalar.addi c0_i32_3522 v3687
  v3688.toNat
def k0_mult185 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3683 : BitVec 32 := 1#32
  let v3769 : BitVec 32 := Scalar.addi v2 c1_i32_3683
  let c8_i32_3684 : BitVec 32 := 8#32
  let c0_i32_3685 : BitVec 32 := 0#32
  let v3770 : BitVec 1 := Scalar.cmpi .eq c8_i32_3684 c0_i32_3685
  let c1_i32_3686 : BitVec 32 := 1#32
  let v3771 : BitVec 32 := Scalar.select v3770 c1_i32_3686 c8_i32_3684
  let v3772 : BitVec 32 := Scalar.remsi v3769 v3771
  let c0_i32_3688 : BitVec 32 := 0#32
  let v3774 : BitVec 1 := Scalar.cmpi .slt v3772 c0_i32_3688
  let c0_i32_3689 : BitVec 32 := 0#32
  let v3775 : BitVec 1 := Scalar.cmpi .slt v3771 c0_i32_3689
  let v3776 : BitVec 1 := Scalar.xori v3774 v3775
  let c0_i32_3687 : BitVec 32 := 0#32
  let v3773 : BitVec 1 := Scalar.cmpi .ne v3772 c0_i32_3687
  let v3777 : BitVec 1 := Scalar.andi v3776 v3773
  let v3778 : BitVec 32 := Scalar.addi v3772 v3771
  let v3779 : BitVec 32 := Scalar.select v3777 v3778 v3772
  let c512_i32_3697 : BitVec 32 := 512#32
  let v3791 : BitVec 32 := Scalar.muli v3779 c512_i32_3697
  v3791
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3683 : BitVec 32 := 1#32
  let v3769 : BitVec 32 := Scalar.addi v2 c1_i32_3683
  let c8_i32_3684 : BitVec 32 := 8#32
  let c0_i32_3685 : BitVec 32 := 0#32
  let v3770 : BitVec 1 := Scalar.cmpi .eq c8_i32_3684 c0_i32_3685
  let c1_i32_3686 : BitVec 32 := 1#32
  let v3771 : BitVec 32 := Scalar.select v3770 c1_i32_3686 c8_i32_3684
  let v3772 : BitVec 32 := Scalar.remsi v3769 v3771
  let c0_i32_3688 : BitVec 32 := 0#32
  let v3774 : BitVec 1 := Scalar.cmpi .slt v3772 c0_i32_3688
  let c0_i32_3689 : BitVec 32 := 0#32
  let v3775 : BitVec 1 := Scalar.cmpi .slt v3771 c0_i32_3689
  let v3776 : BitVec 1 := Scalar.xori v3774 v3775
  let c0_i32_3687 : BitVec 32 := 0#32
  let v3773 : BitVec 1 := Scalar.cmpi .ne v3772 c0_i32_3687
  let v3777 : BitVec 1 := Scalar.andi v3776 v3773
  let v3778 : BitVec 32 := Scalar.addi v3772 v3771
  let v3779 : BitVec 32 := Scalar.select v3777 v3778 v3772
  let c512_i32_3697 : BitVec 32 := 512#32
  let v3791 : BitVec 32 := Scalar.muli v3779 c512_i32_3697
  let v3792 : BitVec 32 := v3791
  let v3793 : Index := Scalar.indexCast v3792
  let c0_3698 : Index := 0#32
  ![v3793.toNat, 0]
def k0_mult186 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3690 : BitVec 32 := 1#32
  let v3780 : BitVec 32 := Scalar.subi v2 c1_i32_3690
  let c8_i32_3691 : BitVec 32 := 8#32
  let c0_i32_3692 : BitVec 32 := 0#32
  let v3781 : BitVec 1 := Scalar.cmpi .eq c8_i32_3691 c0_i32_3692
  let c1_i32_3693 : BitVec 32 := 1#32
  let v3782 : BitVec 32 := Scalar.select v3781 c1_i32_3693 c8_i32_3691
  let v3783 : BitVec 32 := Scalar.remsi v3780 v3782
  let c0_i32_3695 : BitVec 32 := 0#32
  let v3785 : BitVec 1 := Scalar.cmpi .slt v3783 c0_i32_3695
  let c0_i32_3696 : BitVec 32 := 0#32
  let v3786 : BitVec 1 := Scalar.cmpi .slt v3782 c0_i32_3696
  let v3787 : BitVec 1 := Scalar.xori v3785 v3786
  let c0_i32_3694 : BitVec 32 := 0#32
  let v3784 : BitVec 1 := Scalar.cmpi .ne v3783 c0_i32_3694
  let v3788 : BitVec 1 := Scalar.andi v3787 v3784
  let v3789 : BitVec 32 := Scalar.addi v3783 v3782
  let v3790 : BitVec 32 := Scalar.select v3788 v3789 v3783
  let c512_i32_3700 : BitVec 32 := 512#32
  let v3802 : BitVec 32 := Scalar.muli v3790 c512_i32_3700
  v3802
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3690 : BitVec 32 := 1#32
  let v3780 : BitVec 32 := Scalar.subi v2 c1_i32_3690
  let c8_i32_3691 : BitVec 32 := 8#32
  let c0_i32_3692 : BitVec 32 := 0#32
  let v3781 : BitVec 1 := Scalar.cmpi .eq c8_i32_3691 c0_i32_3692
  let c1_i32_3693 : BitVec 32 := 1#32
  let v3782 : BitVec 32 := Scalar.select v3781 c1_i32_3693 c8_i32_3691
  let v3783 : BitVec 32 := Scalar.remsi v3780 v3782
  let c0_i32_3695 : BitVec 32 := 0#32
  let v3785 : BitVec 1 := Scalar.cmpi .slt v3783 c0_i32_3695
  let c0_i32_3696 : BitVec 32 := 0#32
  let v3786 : BitVec 1 := Scalar.cmpi .slt v3782 c0_i32_3696
  let v3787 : BitVec 1 := Scalar.xori v3785 v3786
  let c0_i32_3694 : BitVec 32 := 0#32
  let v3784 : BitVec 1 := Scalar.cmpi .ne v3783 c0_i32_3694
  let v3788 : BitVec 1 := Scalar.andi v3787 v3784
  let v3789 : BitVec 32 := Scalar.addi v3783 v3782
  let v3790 : BitVec 32 := Scalar.select v3788 v3789 v3783
  let c512_i32_3700 : BitVec 32 := 512#32
  let v3802 : BitVec 32 := Scalar.muli v3790 c512_i32_3700
  let v3803 : BitVec 32 := v3802
  let v3804 : Index := Scalar.indexCast v3803
  let c1024_3701 : Index := 1024#32
  ![v3804.toNat, 1024]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3815 : Index := Scalar.indexCast v2
  let c0_3703 : Index := 0#32
  ![v3815.toNat, 0]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3715 : BitVec 32 := 0#32
  ![v2.toNat, 0]
def k0_dev115 (d0 : Dev nD) : Nat :=
  let c0_i32_3714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3704 : BitVec 32 := 1#32
  let v3819 : BitVec 32 := Scalar.addi v2 c1_i32_3704
  let c8_i32_3705 : BitVec 32 := 8#32
  let c0_i32_3706 : BitVec 32 := 0#32
  let v3820 : BitVec 1 := Scalar.cmpi .eq c8_i32_3705 c0_i32_3706
  let c1_i32_3707 : BitVec 32 := 1#32
  let v3821 : BitVec 32 := Scalar.select v3820 c1_i32_3707 c8_i32_3705
  let v3822 : BitVec 32 := Scalar.remsi v3819 v3821
  let c0_i32_3709 : BitVec 32 := 0#32
  let v3824 : BitVec 1 := Scalar.cmpi .slt v3822 c0_i32_3709
  let c0_i32_3710 : BitVec 32 := 0#32
  let v3825 : BitVec 1 := Scalar.cmpi .slt v3821 c0_i32_3710
  let v3826 : BitVec 1 := Scalar.xori v3824 v3825
  let c0_i32_3708 : BitVec 32 := 0#32
  let v3823 : BitVec 1 := Scalar.cmpi .ne v3822 c0_i32_3708
  let v3827 : BitVec 1 := Scalar.andi v3826 v3823
  let v3828 : BitVec 32 := Scalar.addi v3822 v3821
  let v3829 : BitVec 32 := Scalar.select v3827 v3828 v3822
  let c1_i32_3713 : BitVec 32 := 1#32
  let v3830 : BitVec 32 := Scalar.muli v3829 c1_i32_3713
  let v3831 : BitVec 32 := Scalar.addi c0_i32_3714 v3830
  v3831.toNat
def k0_dev116 (d0 : Dev nD) : Nat :=
  let c0_i32_3727 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3717 : BitVec 32 := 2#32
  let v3838 : BitVec 32 := Scalar.addi v2 c2_i32_3717
  let c8_i32_3718 : BitVec 32 := 8#32
  let c0_i32_3719 : BitVec 32 := 0#32
  let v3839 : BitVec 1 := Scalar.cmpi .eq c8_i32_3718 c0_i32_3719
  let c1_i32_3720 : BitVec 32 := 1#32
  let v3840 : BitVec 32 := Scalar.select v3839 c1_i32_3720 c8_i32_3718
  let v3841 : BitVec 32 := Scalar.remsi v3838 v3840
  let c0_i32_3722 : BitVec 32 := 0#32
  let v3843 : BitVec 1 := Scalar.cmpi .slt v3841 c0_i32_3722
  let c0_i32_3723 : BitVec 32 := 0#32
  let v3844 : BitVec 1 := Scalar.cmpi .slt v3840 c0_i32_3723
  let v3845 : BitVec 1 := Scalar.xori v3843 v3844
  let c0_i32_3721 : BitVec 32 := 0#32
  let v3842 : BitVec 1 := Scalar.cmpi .ne v3841 c0_i32_3721
  let v3846 : BitVec 1 := Scalar.andi v3845 v3842
  let v3847 : BitVec 32 := Scalar.addi v3841 v3840
  let v3848 : BitVec 32 := Scalar.select v3846 v3847 v3841
  let c1_i32_3726 : BitVec 32 := 1#32
  let v3849 : BitVec 32 := Scalar.muli v3848 c1_i32_3726
  let v3850 : BitVec 32 := Scalar.addi c0_i32_3727 v3849
  v3850.toNat
def k0_dev117 (d0 : Dev nD) : Nat :=
  let c0_i32_3740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3730 : BitVec 32 := 3#32
  let v3857 : BitVec 32 := Scalar.addi v2 c3_i32_3730
  let c8_i32_3731 : BitVec 32 := 8#32
  let c0_i32_3732 : BitVec 32 := 0#32
  let v3858 : BitVec 1 := Scalar.cmpi .eq c8_i32_3731 c0_i32_3732
  let c1_i32_3733 : BitVec 32 := 1#32
  let v3859 : BitVec 32 := Scalar.select v3858 c1_i32_3733 c8_i32_3731
  let v3860 : BitVec 32 := Scalar.remsi v3857 v3859
  let c0_i32_3735 : BitVec 32 := 0#32
  let v3862 : BitVec 1 := Scalar.cmpi .slt v3860 c0_i32_3735
  let c0_i32_3736 : BitVec 32 := 0#32
  let v3863 : BitVec 1 := Scalar.cmpi .slt v3859 c0_i32_3736
  let v3864 : BitVec 1 := Scalar.xori v3862 v3863
  let c0_i32_3734 : BitVec 32 := 0#32
  let v3861 : BitVec 1 := Scalar.cmpi .ne v3860 c0_i32_3734
  let v3865 : BitVec 1 := Scalar.andi v3864 v3861
  let v3866 : BitVec 32 := Scalar.addi v3860 v3859
  let v3867 : BitVec 32 := Scalar.select v3865 v3866 v3860
  let c1_i32_3739 : BitVec 32 := 1#32
  let v3868 : BitVec 32 := Scalar.muli v3867 c1_i32_3739
  let v3869 : BitVec 32 := Scalar.addi c0_i32_3740 v3868
  v3869.toNat
def k0_dev118 (d0 : Dev nD) : Nat :=
  let c0_i32_3753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3743 : BitVec 32 := 4#32
  let v3876 : BitVec 32 := Scalar.addi v2 c4_i32_3743
  let c8_i32_3744 : BitVec 32 := 8#32
  let c0_i32_3745 : BitVec 32 := 0#32
  let v3877 : BitVec 1 := Scalar.cmpi .eq c8_i32_3744 c0_i32_3745
  let c1_i32_3746 : BitVec 32 := 1#32
  let v3878 : BitVec 32 := Scalar.select v3877 c1_i32_3746 c8_i32_3744
  let v3879 : BitVec 32 := Scalar.remsi v3876 v3878
  let c0_i32_3748 : BitVec 32 := 0#32
  let v3881 : BitVec 1 := Scalar.cmpi .slt v3879 c0_i32_3748
  let c0_i32_3749 : BitVec 32 := 0#32
  let v3882 : BitVec 1 := Scalar.cmpi .slt v3878 c0_i32_3749
  let v3883 : BitVec 1 := Scalar.xori v3881 v3882
  let c0_i32_3747 : BitVec 32 := 0#32
  let v3880 : BitVec 1 := Scalar.cmpi .ne v3879 c0_i32_3747
  let v3884 : BitVec 1 := Scalar.andi v3883 v3880
  let v3885 : BitVec 32 := Scalar.addi v3879 v3878
  let v3886 : BitVec 32 := Scalar.select v3884 v3885 v3879
  let c1_i32_3752 : BitVec 32 := 1#32
  let v3887 : BitVec 32 := Scalar.muli v3886 c1_i32_3752
  let v3888 : BitVec 32 := Scalar.addi c0_i32_3753 v3887
  v3888.toNat
def k0_dev119 (d0 : Dev nD) : Nat :=
  let c0_i32_3766 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3756 : BitVec 32 := 5#32
  let v3895 : BitVec 32 := Scalar.addi v2 c5_i32_3756
  let c8_i32_3757 : BitVec 32 := 8#32
  let c0_i32_3758 : BitVec 32 := 0#32
  let v3896 : BitVec 1 := Scalar.cmpi .eq c8_i32_3757 c0_i32_3758
  let c1_i32_3759 : BitVec 32 := 1#32
  let v3897 : BitVec 32 := Scalar.select v3896 c1_i32_3759 c8_i32_3757
  let v3898 : BitVec 32 := Scalar.remsi v3895 v3897
  let c0_i32_3761 : BitVec 32 := 0#32
  let v3900 : BitVec 1 := Scalar.cmpi .slt v3898 c0_i32_3761
  let c0_i32_3762 : BitVec 32 := 0#32
  let v3901 : BitVec 1 := Scalar.cmpi .slt v3897 c0_i32_3762
  let v3902 : BitVec 1 := Scalar.xori v3900 v3901
  let c0_i32_3760 : BitVec 32 := 0#32
  let v3899 : BitVec 1 := Scalar.cmpi .ne v3898 c0_i32_3760
  let v3903 : BitVec 1 := Scalar.andi v3902 v3899
  let v3904 : BitVec 32 := Scalar.addi v3898 v3897
  let v3905 : BitVec 32 := Scalar.select v3903 v3904 v3898
  let c1_i32_3765 : BitVec 32 := 1#32
  let v3906 : BitVec 32 := Scalar.muli v3905 c1_i32_3765
  let v3907 : BitVec 32 := Scalar.addi c0_i32_3766 v3906
  v3907.toNat
def k0_dev120 (d0 : Dev nD) : Nat :=
  let c0_i32_3779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3769 : BitVec 32 := 6#32
  let v3914 : BitVec 32 := Scalar.addi v2 c6_i32_3769
  let c8_i32_3770 : BitVec 32 := 8#32
  let c0_i32_3771 : BitVec 32 := 0#32
  let v3915 : BitVec 1 := Scalar.cmpi .eq c8_i32_3770 c0_i32_3771
  let c1_i32_3772 : BitVec 32 := 1#32
  let v3916 : BitVec 32 := Scalar.select v3915 c1_i32_3772 c8_i32_3770
  let v3917 : BitVec 32 := Scalar.remsi v3914 v3916
  let c0_i32_3774 : BitVec 32 := 0#32
  let v3919 : BitVec 1 := Scalar.cmpi .slt v3917 c0_i32_3774
  let c0_i32_3775 : BitVec 32 := 0#32
  let v3920 : BitVec 1 := Scalar.cmpi .slt v3916 c0_i32_3775
  let v3921 : BitVec 1 := Scalar.xori v3919 v3920
  let c0_i32_3773 : BitVec 32 := 0#32
  let v3918 : BitVec 1 := Scalar.cmpi .ne v3917 c0_i32_3773
  let v3922 : BitVec 1 := Scalar.andi v3921 v3918
  let v3923 : BitVec 32 := Scalar.addi v3917 v3916
  let v3924 : BitVec 32 := Scalar.select v3922 v3923 v3917
  let c1_i32_3778 : BitVec 32 := 1#32
  let v3925 : BitVec 32 := Scalar.muli v3924 c1_i32_3778
  let v3926 : BitVec 32 := Scalar.addi c0_i32_3779 v3925
  v3926.toNat
def k0_dev121 (d0 : Dev nD) : Nat :=
  let c0_i32_3791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v3933 : BitVec 32 := Scalar.addi v2 c7_i32
  let c8_i32_3782 : BitVec 32 := 8#32
  let c0_i32_3783 : BitVec 32 := 0#32
  let v3934 : BitVec 1 := Scalar.cmpi .eq c8_i32_3782 c0_i32_3783
  let c1_i32_3784 : BitVec 32 := 1#32
  let v3935 : BitVec 32 := Scalar.select v3934 c1_i32_3784 c8_i32_3782
  let v3936 : BitVec 32 := Scalar.remsi v3933 v3935
  let c0_i32_3786 : BitVec 32 := 0#32
  let v3938 : BitVec 1 := Scalar.cmpi .slt v3936 c0_i32_3786
  let c0_i32_3787 : BitVec 32 := 0#32
  let v3939 : BitVec 1 := Scalar.cmpi .slt v3935 c0_i32_3787
  let v3940 : BitVec 1 := Scalar.xori v3938 v3939
  let c0_i32_3785 : BitVec 32 := 0#32
  let v3937 : BitVec 1 := Scalar.cmpi .ne v3936 c0_i32_3785
  let v3941 : BitVec 1 := Scalar.andi v3940 v3937
  let v3942 : BitVec 32 := Scalar.addi v3936 v3935
  let v3943 : BitVec 32 := Scalar.select v3941 v3942 v3936
  let c1_i32_3790 : BitVec 32 := 1#32
  let v3944 : BitVec 32 := Scalar.muli v3943 c1_i32_3790
  let v3945 : BitVec 32 := Scalar.addi c0_i32_3791 v3944
  v3945.toNat
def k0_mult187 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3683 : BitVec 32 := 1#32
  let v3769 : BitVec 32 := Scalar.addi v2 c1_i32_3683
  let c8_i32_3684 : BitVec 32 := 8#32
  let c0_i32_3685 : BitVec 32 := 0#32
  let v3770 : BitVec 1 := Scalar.cmpi .eq c8_i32_3684 c0_i32_3685
  let c1_i32_3686 : BitVec 32 := 1#32
  let v3771 : BitVec 32 := Scalar.select v3770 c1_i32_3686 c8_i32_3684
  let v3772 : BitVec 32 := Scalar.remsi v3769 v3771
  let c0_i32_3688 : BitVec 32 := 0#32
  let v3774 : BitVec 1 := Scalar.cmpi .slt v3772 c0_i32_3688
  let c0_i32_3689 : BitVec 32 := 0#32
  let v3775 : BitVec 1 := Scalar.cmpi .slt v3771 c0_i32_3689
  let v3776 : BitVec 1 := Scalar.xori v3774 v3775
  let c0_i32_3687 : BitVec 32 := 0#32
  let v3773 : BitVec 1 := Scalar.cmpi .ne v3772 c0_i32_3687
  let v3777 : BitVec 1 := Scalar.andi v3776 v3773
  let v3778 : BitVec 32 := Scalar.addi v3772 v3771
  let v3779 : BitVec 32 := Scalar.select v3777 v3778 v3772
  let c512_i32_3876 : BitVec 32 := 512#32
  let v4030 : BitVec 32 := Scalar.muli v3779 c512_i32_3876
  v4030
def k0_mult188 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3683 : BitVec 32 := 1#32
  let v3769 : BitVec 32 := Scalar.addi v2 c1_i32_3683
  let c8_i32_3684 : BitVec 32 := 8#32
  let c0_i32_3685 : BitVec 32 := 0#32
  let v3770 : BitVec 1 := Scalar.cmpi .eq c8_i32_3684 c0_i32_3685
  let c1_i32_3686 : BitVec 32 := 1#32
  let v3771 : BitVec 32 := Scalar.select v3770 c1_i32_3686 c8_i32_3684
  let v3772 : BitVec 32 := Scalar.remsi v3769 v3771
  let c0_i32_3688 : BitVec 32 := 0#32
  let v3774 : BitVec 1 := Scalar.cmpi .slt v3772 c0_i32_3688
  let c0_i32_3689 : BitVec 32 := 0#32
  let v3775 : BitVec 1 := Scalar.cmpi .slt v3771 c0_i32_3689
  let v3776 : BitVec 1 := Scalar.xori v3774 v3775
  let c0_i32_3687 : BitVec 32 := 0#32
  let v3773 : BitVec 1 := Scalar.cmpi .ne v3772 c0_i32_3687
  let v3777 : BitVec 1 := Scalar.andi v3776 v3773
  let v3778 : BitVec 32 := Scalar.addi v3772 v3771
  let v3779 : BitVec 32 := Scalar.select v3777 v3778 v3772
  let c512_i32_3880 : BitVec 32 := 512#32
  let v4044 : BitVec 32 := Scalar.muli v3779 c512_i32_3880
  v4044
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3683 : BitVec 32 := 1#32
  let v3769 : BitVec 32 := Scalar.addi v2 c1_i32_3683
  let c8_i32_3684 : BitVec 32 := 8#32
  let c0_i32_3685 : BitVec 32 := 0#32
  let v3770 : BitVec 1 := Scalar.cmpi .eq c8_i32_3684 c0_i32_3685
  let c1_i32_3686 : BitVec 32 := 1#32
  let v3771 : BitVec 32 := Scalar.select v3770 c1_i32_3686 c8_i32_3684
  let v3772 : BitVec 32 := Scalar.remsi v3769 v3771
  let c0_i32_3688 : BitVec 32 := 0#32
  let v3774 : BitVec 1 := Scalar.cmpi .slt v3772 c0_i32_3688
  let c0_i32_3689 : BitVec 32 := 0#32
  let v3775 : BitVec 1 := Scalar.cmpi .slt v3771 c0_i32_3689
  let v3776 : BitVec 1 := Scalar.xori v3774 v3775
  let c0_i32_3687 : BitVec 32 := 0#32
  let v3773 : BitVec 1 := Scalar.cmpi .ne v3772 c0_i32_3687
  let v3777 : BitVec 1 := Scalar.andi v3776 v3773
  let v3778 : BitVec 32 := Scalar.addi v3772 v3771
  let v3779 : BitVec 32 := Scalar.select v3777 v3778 v3772
  let c512_i32_3880 : BitVec 32 := 512#32
  let v4044 : BitVec 32 := Scalar.muli v3779 c512_i32_3880
  let v4045 : BitVec 32 := v4044
  let v4046 : Index := Scalar.indexCast v4045
  let c0_3881 : Index := 0#32
  ![v4046.toNat, 0]
def k0_mult189 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3690 : BitVec 32 := 1#32
  let v3780 : BitVec 32 := Scalar.subi v2 c1_i32_3690
  let c8_i32_3691 : BitVec 32 := 8#32
  let c0_i32_3692 : BitVec 32 := 0#32
  let v3781 : BitVec 1 := Scalar.cmpi .eq c8_i32_3691 c0_i32_3692
  let c1_i32_3693 : BitVec 32 := 1#32
  let v3782 : BitVec 32 := Scalar.select v3781 c1_i32_3693 c8_i32_3691
  let v3783 : BitVec 32 := Scalar.remsi v3780 v3782
  let c0_i32_3695 : BitVec 32 := 0#32
  let v3785 : BitVec 1 := Scalar.cmpi .slt v3783 c0_i32_3695
  let c0_i32_3696 : BitVec 32 := 0#32
  let v3786 : BitVec 1 := Scalar.cmpi .slt v3782 c0_i32_3696
  let v3787 : BitVec 1 := Scalar.xori v3785 v3786
  let c0_i32_3694 : BitVec 32 := 0#32
  let v3784 : BitVec 1 := Scalar.cmpi .ne v3783 c0_i32_3694
  let v3788 : BitVec 1 := Scalar.andi v3787 v3784
  let v3789 : BitVec 32 := Scalar.addi v3783 v3782
  let v3790 : BitVec 32 := Scalar.select v3788 v3789 v3783
  let c512_i32_3882 : BitVec 32 := 512#32
  let v4050 : BitVec 32 := Scalar.muli v3790 c512_i32_3882
  v4050
def k0_mult190 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3690 : BitVec 32 := 1#32
  let v3780 : BitVec 32 := Scalar.subi v2 c1_i32_3690
  let c8_i32_3691 : BitVec 32 := 8#32
  let c0_i32_3692 : BitVec 32 := 0#32
  let v3781 : BitVec 1 := Scalar.cmpi .eq c8_i32_3691 c0_i32_3692
  let c1_i32_3693 : BitVec 32 := 1#32
  let v3782 : BitVec 32 := Scalar.select v3781 c1_i32_3693 c8_i32_3691
  let v3783 : BitVec 32 := Scalar.remsi v3780 v3782
  let c0_i32_3695 : BitVec 32 := 0#32
  let v3785 : BitVec 1 := Scalar.cmpi .slt v3783 c0_i32_3695
  let c0_i32_3696 : BitVec 32 := 0#32
  let v3786 : BitVec 1 := Scalar.cmpi .slt v3782 c0_i32_3696
  let v3787 : BitVec 1 := Scalar.xori v3785 v3786
  let c0_i32_3694 : BitVec 32 := 0#32
  let v3784 : BitVec 1 := Scalar.cmpi .ne v3783 c0_i32_3694
  let v3788 : BitVec 1 := Scalar.andi v3787 v3784
  let v3789 : BitVec 32 := Scalar.addi v3783 v3782
  let v3790 : BitVec 32 := Scalar.select v3788 v3789 v3783
  let c512_i32_3886 : BitVec 32 := 512#32
  let v4064 : BitVec 32 := Scalar.muli v3790 c512_i32_3886
  v4064
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3690 : BitVec 32 := 1#32
  let v3780 : BitVec 32 := Scalar.subi v2 c1_i32_3690
  let c8_i32_3691 : BitVec 32 := 8#32
  let c0_i32_3692 : BitVec 32 := 0#32
  let v3781 : BitVec 1 := Scalar.cmpi .eq c8_i32_3691 c0_i32_3692
  let c1_i32_3693 : BitVec 32 := 1#32
  let v3782 : BitVec 32 := Scalar.select v3781 c1_i32_3693 c8_i32_3691
  let v3783 : BitVec 32 := Scalar.remsi v3780 v3782
  let c0_i32_3695 : BitVec 32 := 0#32
  let v3785 : BitVec 1 := Scalar.cmpi .slt v3783 c0_i32_3695
  let c0_i32_3696 : BitVec 32 := 0#32
  let v3786 : BitVec 1 := Scalar.cmpi .slt v3782 c0_i32_3696
  let v3787 : BitVec 1 := Scalar.xori v3785 v3786
  let c0_i32_3694 : BitVec 32 := 0#32
  let v3784 : BitVec 1 := Scalar.cmpi .ne v3783 c0_i32_3694
  let v3788 : BitVec 1 := Scalar.andi v3787 v3784
  let v3789 : BitVec 32 := Scalar.addi v3783 v3782
  let v3790 : BitVec 32 := Scalar.select v3788 v3789 v3783
  let c512_i32_3886 : BitVec 32 := 512#32
  let v4064 : BitVec 32 := Scalar.muli v3790 c512_i32_3886
  let v4065 : BitVec 32 := v4064
  let v4066 : Index := Scalar.indexCast v4065
  let c0_3887 : Index := 0#32
  ![v4066.toNat, 0]
def k0_mult191 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3889 : BitVec 32 := 0#32
  let v4071 : BitVec 32 := Scalar.xori v2 c0_i32_3889
  let c1_i32_3890 : BitVec 32 := 1#32
  let v4072 : BitVec 32 := Scalar.addi v4071 c1_i32_3890
  let c8_i32_3891 : BitVec 32 := 8#32
  let c0_i32_3892 : BitVec 32 := 0#32
  let v4073 : BitVec 1 := Scalar.cmpi .eq c8_i32_3891 c0_i32_3892
  let c1_i32_3893 : BitVec 32 := 1#32
  let v4074 : BitVec 32 := Scalar.select v4073 c1_i32_3893 c8_i32_3891
  let v4075 : BitVec 32 := Scalar.remsi v4072 v4074
  let c0_i32_3895 : BitVec 32 := 0#32
  let v4077 : BitVec 1 := Scalar.cmpi .slt v4075 c0_i32_3895
  let c0_i32_3896 : BitVec 32 := 0#32
  let v4078 : BitVec 1 := Scalar.cmpi .slt v4074 c0_i32_3896
  let v4079 : BitVec 1 := Scalar.xori v4077 v4078
  let c0_i32_3894 : BitVec 32 := 0#32
  let v4076 : BitVec 1 := Scalar.cmpi .ne v4075 c0_i32_3894
  let v4080 : BitVec 1 := Scalar.andi v4079 v4076
  let v4081 : BitVec 32 := Scalar.addi v4075 v4074
  let v4082 : BitVec 32 := Scalar.select v4080 v4081 v4075
  let c512_i32_3897 : BitVec 32 := 512#32
  let v4083 : BitVec 32 := Scalar.muli v4082 c512_i32_3897
  v4083
def k0_mult192 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3889 : BitVec 32 := 0#32
  let v4071 : BitVec 32 := Scalar.xori v2 c0_i32_3889
  let c1_i32_3890 : BitVec 32 := 1#32
  let v4072 : BitVec 32 := Scalar.addi v4071 c1_i32_3890
  let c8_i32_3891 : BitVec 32 := 8#32
  let c0_i32_3892 : BitVec 32 := 0#32
  let v4073 : BitVec 1 := Scalar.cmpi .eq c8_i32_3891 c0_i32_3892
  let c1_i32_3893 : BitVec 32 := 1#32
  let v4074 : BitVec 32 := Scalar.select v4073 c1_i32_3893 c8_i32_3891
  let v4075 : BitVec 32 := Scalar.remsi v4072 v4074
  let c0_i32_3895 : BitVec 32 := 0#32
  let v4077 : BitVec 1 := Scalar.cmpi .slt v4075 c0_i32_3895
  let c0_i32_3896 : BitVec 32 := 0#32
  let v4078 : BitVec 1 := Scalar.cmpi .slt v4074 c0_i32_3896
  let v4079 : BitVec 1 := Scalar.xori v4077 v4078
  let c0_i32_3894 : BitVec 32 := 0#32
  let v4076 : BitVec 1 := Scalar.cmpi .ne v4075 c0_i32_3894
  let v4080 : BitVec 1 := Scalar.andi v4079 v4076
  let v4081 : BitVec 32 := Scalar.addi v4075 v4074
  let v4082 : BitVec 32 := Scalar.select v4080 v4081 v4075
  let c512_i32_3898 : BitVec 32 := 512#32
  let v4085 : BitVec 32 := Scalar.muli v4082 c512_i32_3898
  v4085
def k0_off31 (d0 : Dev nD) (c0_i32_3889 : BitVec 32) (c1_i32_3890 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4071 : BitVec 32 := Scalar.xori v2 c0_i32_3889
  let v4072 : BitVec 32 := Scalar.addi v4071 c1_i32_3890
  let c8_i32_3891 : BitVec 32 := 8#32
  let c0_i32_3892 : BitVec 32 := 0#32
  let v4073 : BitVec 1 := Scalar.cmpi .eq c8_i32_3891 c0_i32_3892
  let c1_i32_3893 : BitVec 32 := 1#32
  let v4074 : BitVec 32 := Scalar.select v4073 c1_i32_3893 c8_i32_3891
  let v4075 : BitVec 32 := Scalar.remsi v4072 v4074
  let c0_i32_3895 : BitVec 32 := 0#32
  let v4077 : BitVec 1 := Scalar.cmpi .slt v4075 c0_i32_3895
  let c0_i32_3896 : BitVec 32 := 0#32
  let v4078 : BitVec 1 := Scalar.cmpi .slt v4074 c0_i32_3896
  let v4079 : BitVec 1 := Scalar.xori v4077 v4078
  let c0_i32_3894 : BitVec 32 := 0#32
  let v4076 : BitVec 1 := Scalar.cmpi .ne v4075 c0_i32_3894
  let v4080 : BitVec 1 := Scalar.andi v4079 v4076
  let v4081 : BitVec 32 := Scalar.addi v4075 v4074
  let v4082 : BitVec 32 := Scalar.select v4080 v4081 v4075
  let c512_i32_3898 : BitVec 32 := 512#32
  let v4085 : BitVec 32 := Scalar.muli v4082 c512_i32_3898
  let v4086 : BitVec 32 := v4085
  let c0_i32_3905 : BitVec 32 := 0#32
  ![v4086.toNat, 0]
def k0_off31_at (r : Fin 8) : BitVec 32 × BitVec 32 :=
  if r.val < 4 then
    if r.val < 2 then
      if r.val < 1 then
        (0#32, 1#32)
      else
        (0#32, 4294967295#32)
    else
      if r.val < 3 then
        (1#32, 1#32)
      else
        (2#32, 4294967295#32)
  else
    if r.val < 6 then
      if r.val < 5 then
        (2#32, 1#32)
      else
        (3#32, 1#32)
    else
      if r.val < 7 then
        (4#32, 4294967295#32)
      else
        (6#32, 4294967295#32)
def k0_dev122 (d0 : Dev nD) : Nat :=
  let c0_i32_3904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3888 : BitVec 32 := 1#32
  let v4070 : BitVec 32 := Scalar.xori v2 c1_i32_3888
  let c1_i32_3903 : BitVec 32 := 1#32
  let v4087 : BitVec 32 := Scalar.muli v4070 c1_i32_3903
  let v4088 : BitVec 32 := Scalar.addi c0_i32_3904 v4087
  v4088.toNat
def k0_mult193 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3908 : BitVec 32 := 0#32
  let v4096 : BitVec 32 := Scalar.xori v2 c0_i32_3908
  let c_m1_i32 : BitVec 32 := 4294967295#32
  let v4097 : BitVec 32 := Scalar.addi v4096 c_m1_i32
  let c8_i32_3909 : BitVec 32 := 8#32
  let c0_i32_3910 : BitVec 32 := 0#32
  let v4098 : BitVec 1 := Scalar.cmpi .eq c8_i32_3909 c0_i32_3910
  let c1_i32_3911 : BitVec 32 := 1#32
  let v4099 : BitVec 32 := Scalar.select v4098 c1_i32_3911 c8_i32_3909
  let v4100 : BitVec 32 := Scalar.remsi v4097 v4099
  let c0_i32_3913 : BitVec 32 := 0#32
  let v4102 : BitVec 1 := Scalar.cmpi .slt v4100 c0_i32_3913
  let c0_i32_3914 : BitVec 32 := 0#32
  let v4103 : BitVec 1 := Scalar.cmpi .slt v4099 c0_i32_3914
  let v4104 : BitVec 1 := Scalar.xori v4102 v4103
  let c0_i32_3912 : BitVec 32 := 0#32
  let v4101 : BitVec 1 := Scalar.cmpi .ne v4100 c0_i32_3912
  let v4105 : BitVec 1 := Scalar.andi v4104 v4101
  let v4106 : BitVec 32 := Scalar.addi v4100 v4099
  let v4107 : BitVec 32 := Scalar.select v4105 v4106 v4100
  let c512_i32_3915 : BitVec 32 := 512#32
  let v4108 : BitVec 32 := Scalar.muli v4107 c512_i32_3915
  v4108
def k0_mult194 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3908 : BitVec 32 := 0#32
  let v4096 : BitVec 32 := Scalar.xori v2 c0_i32_3908
  let c_m1_i32 : BitVec 32 := 4294967295#32
  let v4097 : BitVec 32 := Scalar.addi v4096 c_m1_i32
  let c8_i32_3909 : BitVec 32 := 8#32
  let c0_i32_3910 : BitVec 32 := 0#32
  let v4098 : BitVec 1 := Scalar.cmpi .eq c8_i32_3909 c0_i32_3910
  let c1_i32_3911 : BitVec 32 := 1#32
  let v4099 : BitVec 32 := Scalar.select v4098 c1_i32_3911 c8_i32_3909
  let v4100 : BitVec 32 := Scalar.remsi v4097 v4099
  let c0_i32_3913 : BitVec 32 := 0#32
  let v4102 : BitVec 1 := Scalar.cmpi .slt v4100 c0_i32_3913
  let c0_i32_3914 : BitVec 32 := 0#32
  let v4103 : BitVec 1 := Scalar.cmpi .slt v4099 c0_i32_3914
  let v4104 : BitVec 1 := Scalar.xori v4102 v4103
  let c0_i32_3912 : BitVec 32 := 0#32
  let v4101 : BitVec 1 := Scalar.cmpi .ne v4100 c0_i32_3912
  let v4105 : BitVec 1 := Scalar.andi v4104 v4101
  let v4106 : BitVec 32 := Scalar.addi v4100 v4099
  let v4107 : BitVec 32 := Scalar.select v4105 v4106 v4100
  let c512_i32_3916 : BitVec 32 := 512#32
  let v4110 : BitVec 32 := Scalar.muli v4107 c512_i32_3916
  v4110
def k0_dev123 (d0 : Dev nD) : Nat :=
  let c0_i32_3922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3907 : BitVec 32 := 2#32
  let v4095 : BitVec 32 := Scalar.xori v2 c2_i32_3907
  let c1_i32_3921 : BitVec 32 := 1#32
  let v4112 : BitVec 32 := Scalar.muli v4095 c1_i32_3921
  let v4113 : BitVec 32 := Scalar.addi c0_i32_3922 v4112
  v4113.toNat
def k0_mult195 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3683 : BitVec 32 := 1#32
  let v3769 : BitVec 32 := Scalar.addi v2 c1_i32_3683
  let c8_i32_3684 : BitVec 32 := 8#32
  let c0_i32_3685 : BitVec 32 := 0#32
  let v3770 : BitVec 1 := Scalar.cmpi .eq c8_i32_3684 c0_i32_3685
  let c1_i32_3686 : BitVec 32 := 1#32
  let v3771 : BitVec 32 := Scalar.select v3770 c1_i32_3686 c8_i32_3684
  let v3772 : BitVec 32 := Scalar.remsi v3769 v3771
  let c0_i32_3688 : BitVec 32 := 0#32
  let v3774 : BitVec 1 := Scalar.cmpi .slt v3772 c0_i32_3688
  let c0_i32_3689 : BitVec 32 := 0#32
  let v3775 : BitVec 1 := Scalar.cmpi .slt v3771 c0_i32_3689
  let v3776 : BitVec 1 := Scalar.xori v3774 v3775
  let c0_i32_3687 : BitVec 32 := 0#32
  let v3773 : BitVec 1 := Scalar.cmpi .ne v3772 c0_i32_3687
  let v3777 : BitVec 1 := Scalar.andi v3776 v3773
  let v3778 : BitVec 32 := Scalar.addi v3772 v3771
  let v3779 : BitVec 32 := Scalar.select v3777 v3778 v3772
  let c512_i32_3925 : BitVec 32 := 512#32
  let v4120 : BitVec 32 := Scalar.muli v3779 c512_i32_3925
  v4120
def k0_mult196 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3683 : BitVec 32 := 1#32
  let v3769 : BitVec 32 := Scalar.addi v2 c1_i32_3683
  let c8_i32_3684 : BitVec 32 := 8#32
  let c0_i32_3685 : BitVec 32 := 0#32
  let v3770 : BitVec 1 := Scalar.cmpi .eq c8_i32_3684 c0_i32_3685
  let c1_i32_3686 : BitVec 32 := 1#32
  let v3771 : BitVec 32 := Scalar.select v3770 c1_i32_3686 c8_i32_3684
  let v3772 : BitVec 32 := Scalar.remsi v3769 v3771
  let c0_i32_3688 : BitVec 32 := 0#32
  let v3774 : BitVec 1 := Scalar.cmpi .slt v3772 c0_i32_3688
  let c0_i32_3689 : BitVec 32 := 0#32
  let v3775 : BitVec 1 := Scalar.cmpi .slt v3771 c0_i32_3689
  let v3776 : BitVec 1 := Scalar.xori v3774 v3775
  let c0_i32_3687 : BitVec 32 := 0#32
  let v3773 : BitVec 1 := Scalar.cmpi .ne v3772 c0_i32_3687
  let v3777 : BitVec 1 := Scalar.andi v3776 v3773
  let v3778 : BitVec 32 := Scalar.addi v3772 v3771
  let v3779 : BitVec 32 := Scalar.select v3777 v3778 v3772
  let c512_i32_3927 : BitVec 32 := 512#32
  let v4127 : BitVec 32 := Scalar.muli v3779 c512_i32_3927
  v4127
def k0_mult197 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3690 : BitVec 32 := 1#32
  let v3780 : BitVec 32 := Scalar.subi v2 c1_i32_3690
  let c8_i32_3691 : BitVec 32 := 8#32
  let c0_i32_3692 : BitVec 32 := 0#32
  let v3781 : BitVec 1 := Scalar.cmpi .eq c8_i32_3691 c0_i32_3692
  let c1_i32_3693 : BitVec 32 := 1#32
  let v3782 : BitVec 32 := Scalar.select v3781 c1_i32_3693 c8_i32_3691
  let v3783 : BitVec 32 := Scalar.remsi v3780 v3782
  let c0_i32_3695 : BitVec 32 := 0#32
  let v3785 : BitVec 1 := Scalar.cmpi .slt v3783 c0_i32_3695
  let c0_i32_3696 : BitVec 32 := 0#32
  let v3786 : BitVec 1 := Scalar.cmpi .slt v3782 c0_i32_3696
  let v3787 : BitVec 1 := Scalar.xori v3785 v3786
  let c0_i32_3694 : BitVec 32 := 0#32
  let v3784 : BitVec 1 := Scalar.cmpi .ne v3783 c0_i32_3694
  let v3788 : BitVec 1 := Scalar.andi v3787 v3784
  let v3789 : BitVec 32 := Scalar.addi v3783 v3782
  let v3790 : BitVec 32 := Scalar.select v3788 v3789 v3783
  let c512_i32_3929 : BitVec 32 := 512#32
  let v4131 : BitVec 32 := Scalar.muli v3790 c512_i32_3929
  v4131
def k0_mult198 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3690 : BitVec 32 := 1#32
  let v3780 : BitVec 32 := Scalar.subi v2 c1_i32_3690
  let c8_i32_3691 : BitVec 32 := 8#32
  let c0_i32_3692 : BitVec 32 := 0#32
  let v3781 : BitVec 1 := Scalar.cmpi .eq c8_i32_3691 c0_i32_3692
  let c1_i32_3693 : BitVec 32 := 1#32
  let v3782 : BitVec 32 := Scalar.select v3781 c1_i32_3693 c8_i32_3691
  let v3783 : BitVec 32 := Scalar.remsi v3780 v3782
  let c0_i32_3695 : BitVec 32 := 0#32
  let v3785 : BitVec 1 := Scalar.cmpi .slt v3783 c0_i32_3695
  let c0_i32_3696 : BitVec 32 := 0#32
  let v3786 : BitVec 1 := Scalar.cmpi .slt v3782 c0_i32_3696
  let v3787 : BitVec 1 := Scalar.xori v3785 v3786
  let c0_i32_3694 : BitVec 32 := 0#32
  let v3784 : BitVec 1 := Scalar.cmpi .ne v3783 c0_i32_3694
  let v3788 : BitVec 1 := Scalar.andi v3787 v3784
  let v3789 : BitVec 32 := Scalar.addi v3783 v3782
  let v3790 : BitVec 32 := Scalar.select v3788 v3789 v3783
  let c512_i32_3931 : BitVec 32 := 512#32
  let v4138 : BitVec 32 := Scalar.muli v3790 c512_i32_3931
  v4138
def k0_mult199 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3964 : BitVec 32 := 0#32
  let v4163 : BitVec 32 := Scalar.xori v2 c0_i32_3964
  let c1_i32_3965 : BitVec 32 := 1#32
  let v4164 : BitVec 32 := Scalar.addi v4163 c1_i32_3965
  let c8_i32_3966 : BitVec 32 := 8#32
  let c0_i32_3967 : BitVec 32 := 0#32
  let v4165 : BitVec 1 := Scalar.cmpi .eq c8_i32_3966 c0_i32_3967
  let c1_i32_3968 : BitVec 32 := 1#32
  let v4166 : BitVec 32 := Scalar.select v4165 c1_i32_3968 c8_i32_3966
  let v4167 : BitVec 32 := Scalar.remsi v4164 v4166
  let c0_i32_3970 : BitVec 32 := 0#32
  let v4169 : BitVec 1 := Scalar.cmpi .slt v4167 c0_i32_3970
  let c0_i32_3971 : BitVec 32 := 0#32
  let v4170 : BitVec 1 := Scalar.cmpi .slt v4166 c0_i32_3971
  let v4171 : BitVec 1 := Scalar.xori v4169 v4170
  let c0_i32_3969 : BitVec 32 := 0#32
  let v4168 : BitVec 1 := Scalar.cmpi .ne v4167 c0_i32_3969
  let v4172 : BitVec 1 := Scalar.andi v4171 v4168
  let v4173 : BitVec 32 := Scalar.addi v4167 v4166
  let v4174 : BitVec 32 := Scalar.select v4172 v4173 v4167
  let c512_i32_3972 : BitVec 32 := 512#32
  let v4175 : BitVec 32 := Scalar.muli v4174 c512_i32_3972
  v4175
def k0_mult200 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3964 : BitVec 32 := 0#32
  let v4163 : BitVec 32 := Scalar.xori v2 c0_i32_3964
  let c1_i32_3965 : BitVec 32 := 1#32
  let v4164 : BitVec 32 := Scalar.addi v4163 c1_i32_3965
  let c8_i32_3966 : BitVec 32 := 8#32
  let c0_i32_3967 : BitVec 32 := 0#32
  let v4165 : BitVec 1 := Scalar.cmpi .eq c8_i32_3966 c0_i32_3967
  let c1_i32_3968 : BitVec 32 := 1#32
  let v4166 : BitVec 32 := Scalar.select v4165 c1_i32_3968 c8_i32_3966
  let v4167 : BitVec 32 := Scalar.remsi v4164 v4166
  let c0_i32_3970 : BitVec 32 := 0#32
  let v4169 : BitVec 1 := Scalar.cmpi .slt v4167 c0_i32_3970
  let c0_i32_3971 : BitVec 32 := 0#32
  let v4170 : BitVec 1 := Scalar.cmpi .slt v4166 c0_i32_3971
  let v4171 : BitVec 1 := Scalar.xori v4169 v4170
  let c0_i32_3969 : BitVec 32 := 0#32
  let v4168 : BitVec 1 := Scalar.cmpi .ne v4167 c0_i32_3969
  let v4172 : BitVec 1 := Scalar.andi v4171 v4168
  let v4173 : BitVec 32 := Scalar.addi v4167 v4166
  let v4174 : BitVec 32 := Scalar.select v4172 v4173 v4167
  let c512_i32_3973 : BitVec 32 := 512#32
  let v4177 : BitVec 32 := Scalar.muli v4174 c512_i32_3973
  v4177
def k0_dev124 (d0 : Dev nD) : Nat :=
  let c0_i32_3979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3963 : BitVec 32 := 2#32
  let v4162 : BitVec 32 := Scalar.xori v2 c2_i32_3963
  let c1_i32_3978 : BitVec 32 := 1#32
  let v4179 : BitVec 32 := Scalar.muli v4162 c1_i32_3978
  let v4180 : BitVec 32 := Scalar.addi c0_i32_3979 v4179
  v4180.toNat
def k0_mult201 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3982 : BitVec 32 := 1#32
  let v4187 : BitVec 32 := Scalar.xori v2 c1_i32_3982
  let c1_i32_3983 : BitVec 32 := 1#32
  let v4188 : BitVec 32 := Scalar.addi v4187 c1_i32_3983
  let c8_i32_3984 : BitVec 32 := 8#32
  let c0_i32_3985 : BitVec 32 := 0#32
  let v4189 : BitVec 1 := Scalar.cmpi .eq c8_i32_3984 c0_i32_3985
  let c1_i32_3986 : BitVec 32 := 1#32
  let v4190 : BitVec 32 := Scalar.select v4189 c1_i32_3986 c8_i32_3984
  let v4191 : BitVec 32 := Scalar.remsi v4188 v4190
  let c0_i32_3988 : BitVec 32 := 0#32
  let v4193 : BitVec 1 := Scalar.cmpi .slt v4191 c0_i32_3988
  let c0_i32_3989 : BitVec 32 := 0#32
  let v4194 : BitVec 1 := Scalar.cmpi .slt v4190 c0_i32_3989
  let v4195 : BitVec 1 := Scalar.xori v4193 v4194
  let c0_i32_3987 : BitVec 32 := 0#32
  let v4192 : BitVec 1 := Scalar.cmpi .ne v4191 c0_i32_3987
  let v4196 : BitVec 1 := Scalar.andi v4195 v4192
  let v4197 : BitVec 32 := Scalar.addi v4191 v4190
  let v4198 : BitVec 32 := Scalar.select v4196 v4197 v4191
  let c512_i32_3990 : BitVec 32 := 512#32
  let v4199 : BitVec 32 := Scalar.muli v4198 c512_i32_3990
  v4199
def k0_mult202 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3982 : BitVec 32 := 1#32
  let v4187 : BitVec 32 := Scalar.xori v2 c1_i32_3982
  let c1_i32_3983 : BitVec 32 := 1#32
  let v4188 : BitVec 32 := Scalar.addi v4187 c1_i32_3983
  let c8_i32_3984 : BitVec 32 := 8#32
  let c0_i32_3985 : BitVec 32 := 0#32
  let v4189 : BitVec 1 := Scalar.cmpi .eq c8_i32_3984 c0_i32_3985
  let c1_i32_3986 : BitVec 32 := 1#32
  let v4190 : BitVec 32 := Scalar.select v4189 c1_i32_3986 c8_i32_3984
  let v4191 : BitVec 32 := Scalar.remsi v4188 v4190
  let c0_i32_3988 : BitVec 32 := 0#32
  let v4193 : BitVec 1 := Scalar.cmpi .slt v4191 c0_i32_3988
  let c0_i32_3989 : BitVec 32 := 0#32
  let v4194 : BitVec 1 := Scalar.cmpi .slt v4190 c0_i32_3989
  let v4195 : BitVec 1 := Scalar.xori v4193 v4194
  let c0_i32_3987 : BitVec 32 := 0#32
  let v4192 : BitVec 1 := Scalar.cmpi .ne v4191 c0_i32_3987
  let v4196 : BitVec 1 := Scalar.andi v4195 v4192
  let v4197 : BitVec 32 := Scalar.addi v4191 v4190
  let v4198 : BitVec 32 := Scalar.select v4196 v4197 v4191
  let c512_i32_3991 : BitVec 32 := 512#32
  let v4201 : BitVec 32 := Scalar.muli v4198 c512_i32_3991
  v4201
def k0_dev125 (d0 : Dev nD) : Nat :=
  let c0_i32_3997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3963 : BitVec 32 := 2#32
  let v4162 : BitVec 32 := Scalar.xori v2 c2_i32_3963
  let c1_i32_3996 : BitVec 32 := 1#32
  let v4203 : BitVec 32 := Scalar.muli v4162 c1_i32_3996
  let v4204 : BitVec 32 := Scalar.addi c0_i32_3997 v4203
  v4204.toNat
def k0_mult203 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4001 : BitVec 32 := 0#32
  let v4212 : BitVec 32 := Scalar.xori v2 c0_i32_4001
  let c_m1_i32_4002 : BitVec 32 := 4294967295#32
  let v4213 : BitVec 32 := Scalar.addi v4212 c_m1_i32_4002
  let c8_i32_4003 : BitVec 32 := 8#32
  let c0_i32_4004 : BitVec 32 := 0#32
  let v4214 : BitVec 1 := Scalar.cmpi .eq c8_i32_4003 c0_i32_4004
  let c1_i32_4005 : BitVec 32 := 1#32
  let v4215 : BitVec 32 := Scalar.select v4214 c1_i32_4005 c8_i32_4003
  let v4216 : BitVec 32 := Scalar.remsi v4213 v4215
  let c0_i32_4007 : BitVec 32 := 0#32
  let v4218 : BitVec 1 := Scalar.cmpi .slt v4216 c0_i32_4007
  let c0_i32_4008 : BitVec 32 := 0#32
  let v4219 : BitVec 1 := Scalar.cmpi .slt v4215 c0_i32_4008
  let v4220 : BitVec 1 := Scalar.xori v4218 v4219
  let c0_i32_4006 : BitVec 32 := 0#32
  let v4217 : BitVec 1 := Scalar.cmpi .ne v4216 c0_i32_4006
  let v4221 : BitVec 1 := Scalar.andi v4220 v4217
  let v4222 : BitVec 32 := Scalar.addi v4216 v4215
  let v4223 : BitVec 32 := Scalar.select v4221 v4222 v4216
  let c512_i32_4009 : BitVec 32 := 512#32
  let v4224 : BitVec 32 := Scalar.muli v4223 c512_i32_4009
  v4224
def k0_mult204 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4001 : BitVec 32 := 0#32
  let v4212 : BitVec 32 := Scalar.xori v2 c0_i32_4001
  let c_m1_i32_4002 : BitVec 32 := 4294967295#32
  let v4213 : BitVec 32 := Scalar.addi v4212 c_m1_i32_4002
  let c8_i32_4003 : BitVec 32 := 8#32
  let c0_i32_4004 : BitVec 32 := 0#32
  let v4214 : BitVec 1 := Scalar.cmpi .eq c8_i32_4003 c0_i32_4004
  let c1_i32_4005 : BitVec 32 := 1#32
  let v4215 : BitVec 32 := Scalar.select v4214 c1_i32_4005 c8_i32_4003
  let v4216 : BitVec 32 := Scalar.remsi v4213 v4215
  let c0_i32_4007 : BitVec 32 := 0#32
  let v4218 : BitVec 1 := Scalar.cmpi .slt v4216 c0_i32_4007
  let c0_i32_4008 : BitVec 32 := 0#32
  let v4219 : BitVec 1 := Scalar.cmpi .slt v4215 c0_i32_4008
  let v4220 : BitVec 1 := Scalar.xori v4218 v4219
  let c0_i32_4006 : BitVec 32 := 0#32
  let v4217 : BitVec 1 := Scalar.cmpi .ne v4216 c0_i32_4006
  let v4221 : BitVec 1 := Scalar.andi v4220 v4217
  let v4222 : BitVec 32 := Scalar.addi v4216 v4215
  let v4223 : BitVec 32 := Scalar.select v4221 v4222 v4216
  let c512_i32_4010 : BitVec 32 := 512#32
  let v4226 : BitVec 32 := Scalar.muli v4223 c512_i32_4010
  v4226
def k0_dev126 (d0 : Dev nD) : Nat :=
  let c0_i32_4016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4000 : BitVec 32 := 4#32
  let v4211 : BitVec 32 := Scalar.xori v2 c4_i32_4000
  let c1_i32_4015 : BitVec 32 := 1#32
  let v4228 : BitVec 32 := Scalar.muli v4211 c1_i32_4015
  let v4229 : BitVec 32 := Scalar.addi c0_i32_4016 v4228
  v4229.toNat
def k0_mult205 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4019 : BitVec 32 := 2#32
  let v4236 : BitVec 32 := Scalar.xori v2 c2_i32_4019
  let c_m1_i32_4020 : BitVec 32 := 4294967295#32
  let v4237 : BitVec 32 := Scalar.addi v4236 c_m1_i32_4020
  let c8_i32_4021 : BitVec 32 := 8#32
  let c0_i32_4022 : BitVec 32 := 0#32
  let v4238 : BitVec 1 := Scalar.cmpi .eq c8_i32_4021 c0_i32_4022
  let c1_i32_4023 : BitVec 32 := 1#32
  let v4239 : BitVec 32 := Scalar.select v4238 c1_i32_4023 c8_i32_4021
  let v4240 : BitVec 32 := Scalar.remsi v4237 v4239
  let c0_i32_4025 : BitVec 32 := 0#32
  let v4242 : BitVec 1 := Scalar.cmpi .slt v4240 c0_i32_4025
  let c0_i32_4026 : BitVec 32 := 0#32
  let v4243 : BitVec 1 := Scalar.cmpi .slt v4239 c0_i32_4026
  let v4244 : BitVec 1 := Scalar.xori v4242 v4243
  let c0_i32_4024 : BitVec 32 := 0#32
  let v4241 : BitVec 1 := Scalar.cmpi .ne v4240 c0_i32_4024
  let v4245 : BitVec 1 := Scalar.andi v4244 v4241
  let v4246 : BitVec 32 := Scalar.addi v4240 v4239
  let v4247 : BitVec 32 := Scalar.select v4245 v4246 v4240
  let c512_i32_4027 : BitVec 32 := 512#32
  let v4248 : BitVec 32 := Scalar.muli v4247 c512_i32_4027
  v4248
def k0_mult206 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4019 : BitVec 32 := 2#32
  let v4236 : BitVec 32 := Scalar.xori v2 c2_i32_4019
  let c_m1_i32_4020 : BitVec 32 := 4294967295#32
  let v4237 : BitVec 32 := Scalar.addi v4236 c_m1_i32_4020
  let c8_i32_4021 : BitVec 32 := 8#32
  let c0_i32_4022 : BitVec 32 := 0#32
  let v4238 : BitVec 1 := Scalar.cmpi .eq c8_i32_4021 c0_i32_4022
  let c1_i32_4023 : BitVec 32 := 1#32
  let v4239 : BitVec 32 := Scalar.select v4238 c1_i32_4023 c8_i32_4021
  let v4240 : BitVec 32 := Scalar.remsi v4237 v4239
  let c0_i32_4025 : BitVec 32 := 0#32
  let v4242 : BitVec 1 := Scalar.cmpi .slt v4240 c0_i32_4025
  let c0_i32_4026 : BitVec 32 := 0#32
  let v4243 : BitVec 1 := Scalar.cmpi .slt v4239 c0_i32_4026
  let v4244 : BitVec 1 := Scalar.xori v4242 v4243
  let c0_i32_4024 : BitVec 32 := 0#32
  let v4241 : BitVec 1 := Scalar.cmpi .ne v4240 c0_i32_4024
  let v4245 : BitVec 1 := Scalar.andi v4244 v4241
  let v4246 : BitVec 32 := Scalar.addi v4240 v4239
  let v4247 : BitVec 32 := Scalar.select v4245 v4246 v4240
  let c512_i32_4028 : BitVec 32 := 512#32
  let v4250 : BitVec 32 := Scalar.muli v4247 c512_i32_4028
  v4250
def k0_dev127 (d0 : Dev nD) : Nat :=
  let c0_i32_4034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4000 : BitVec 32 := 4#32
  let v4211 : BitVec 32 := Scalar.xori v2 c4_i32_4000
  let c1_i32_4033 : BitVec 32 := 1#32
  let v4252 : BitVec 32 := Scalar.muli v4211 c1_i32_4033
  let v4253 : BitVec 32 := Scalar.addi c0_i32_4034 v4252
  v4253.toNat
def k0_mult207 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4037 : BitVec 32 := 1#32
  let v4260 : BitVec 32 := Scalar.xori v2 c1_i32_4037
  let c1_i32_4038 : BitVec 32 := 1#32
  let v4261 : BitVec 32 := Scalar.addi v4260 c1_i32_4038
  let c8_i32_4039 : BitVec 32 := 8#32
  let c0_i32_4040 : BitVec 32 := 0#32
  let v4262 : BitVec 1 := Scalar.cmpi .eq c8_i32_4039 c0_i32_4040
  let c1_i32_4041 : BitVec 32 := 1#32
  let v4263 : BitVec 32 := Scalar.select v4262 c1_i32_4041 c8_i32_4039
  let v4264 : BitVec 32 := Scalar.remsi v4261 v4263
  let c0_i32_4043 : BitVec 32 := 0#32
  let v4266 : BitVec 1 := Scalar.cmpi .slt v4264 c0_i32_4043
  let c0_i32_4044 : BitVec 32 := 0#32
  let v4267 : BitVec 1 := Scalar.cmpi .slt v4263 c0_i32_4044
  let v4268 : BitVec 1 := Scalar.xori v4266 v4267
  let c0_i32_4042 : BitVec 32 := 0#32
  let v4265 : BitVec 1 := Scalar.cmpi .ne v4264 c0_i32_4042
  let v4269 : BitVec 1 := Scalar.andi v4268 v4265
  let v4270 : BitVec 32 := Scalar.addi v4264 v4263
  let v4271 : BitVec 32 := Scalar.select v4269 v4270 v4264
  let c512_i32_4045 : BitVec 32 := 512#32
  let v4272 : BitVec 32 := Scalar.muli v4271 c512_i32_4045
  v4272
def k0_off32 (d0 : Dev nD) (c1_i32_4037 : BitVec 32) (c1_i32_4038 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4260 : BitVec 32 := Scalar.xori v2 c1_i32_4037
  let v4261 : BitVec 32 := Scalar.addi v4260 c1_i32_4038
  let c8_i32_4039 : BitVec 32 := 8#32
  let c0_i32_4040 : BitVec 32 := 0#32
  let v4262 : BitVec 1 := Scalar.cmpi .eq c8_i32_4039 c0_i32_4040
  let c1_i32_4041 : BitVec 32 := 1#32
  let v4263 : BitVec 32 := Scalar.select v4262 c1_i32_4041 c8_i32_4039
  let v4264 : BitVec 32 := Scalar.remsi v4261 v4263
  let c0_i32_4043 : BitVec 32 := 0#32
  let v4266 : BitVec 1 := Scalar.cmpi .slt v4264 c0_i32_4043
  let c0_i32_4044 : BitVec 32 := 0#32
  let v4267 : BitVec 1 := Scalar.cmpi .slt v4263 c0_i32_4044
  let v4268 : BitVec 1 := Scalar.xori v4266 v4267
  let c0_i32_4042 : BitVec 32 := 0#32
  let v4265 : BitVec 1 := Scalar.cmpi .ne v4264 c0_i32_4042
  let v4269 : BitVec 1 := Scalar.andi v4268 v4265
  let v4270 : BitVec 32 := Scalar.addi v4264 v4263
  let v4271 : BitVec 32 := Scalar.select v4269 v4270 v4264
  let c512_i32_4045 : BitVec 32 := 512#32
  let v4272 : BitVec 32 := Scalar.muli v4271 c512_i32_4045
  let v4273 : BitVec 32 := v4272
  let v4274 : Index := Scalar.indexCast v4273
  let c0_4046 : Index := 0#32
  ![v4274.toNat, 0]
def k0_mult208 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4037 : BitVec 32 := 1#32
  let v4260 : BitVec 32 := Scalar.xori v2 c1_i32_4037
  let c1_i32_4038 : BitVec 32 := 1#32
  let v4261 : BitVec 32 := Scalar.addi v4260 c1_i32_4038
  let c8_i32_4039 : BitVec 32 := 8#32
  let c0_i32_4040 : BitVec 32 := 0#32
  let v4262 : BitVec 1 := Scalar.cmpi .eq c8_i32_4039 c0_i32_4040
  let c1_i32_4041 : BitVec 32 := 1#32
  let v4263 : BitVec 32 := Scalar.select v4262 c1_i32_4041 c8_i32_4039
  let v4264 : BitVec 32 := Scalar.remsi v4261 v4263
  let c0_i32_4043 : BitVec 32 := 0#32
  let v4266 : BitVec 1 := Scalar.cmpi .slt v4264 c0_i32_4043
  let c0_i32_4044 : BitVec 32 := 0#32
  let v4267 : BitVec 1 := Scalar.cmpi .slt v4263 c0_i32_4044
  let v4268 : BitVec 1 := Scalar.xori v4266 v4267
  let c0_i32_4042 : BitVec 32 := 0#32
  let v4265 : BitVec 1 := Scalar.cmpi .ne v4264 c0_i32_4042
  let v4269 : BitVec 1 := Scalar.andi v4268 v4265
  let v4270 : BitVec 32 := Scalar.addi v4264 v4263
  let v4271 : BitVec 32 := Scalar.select v4269 v4270 v4264
  let c512_i32_4047 : BitVec 32 := 512#32
  let v4279 : BitVec 32 := Scalar.muli v4271 c512_i32_4047
  v4279
def k0_off33 (d0 : Dev nD) (c1_i32_4037 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4260 : BitVec 32 := Scalar.xori v2 c1_i32_4037
  let c1_i32_4038 : BitVec 32 := 1#32
  let v4261 : BitVec 32 := Scalar.addi v4260 c1_i32_4038
  let c8_i32_4039 : BitVec 32 := 8#32
  let c0_i32_4040 : BitVec 32 := 0#32
  let v4262 : BitVec 1 := Scalar.cmpi .eq c8_i32_4039 c0_i32_4040
  let c1_i32_4041 : BitVec 32 := 1#32
  let v4263 : BitVec 32 := Scalar.select v4262 c1_i32_4041 c8_i32_4039
  let v4264 : BitVec 32 := Scalar.remsi v4261 v4263
  let c0_i32_4043 : BitVec 32 := 0#32
  let v4266 : BitVec 1 := Scalar.cmpi .slt v4264 c0_i32_4043
  let c0_i32_4044 : BitVec 32 := 0#32
  let v4267 : BitVec 1 := Scalar.cmpi .slt v4263 c0_i32_4044
  let v4268 : BitVec 1 := Scalar.xori v4266 v4267
  let c0_i32_4042 : BitVec 32 := 0#32
  let v4265 : BitVec 1 := Scalar.cmpi .ne v4264 c0_i32_4042
  let v4269 : BitVec 1 := Scalar.andi v4268 v4265
  let v4270 : BitVec 32 := Scalar.addi v4264 v4263
  let v4271 : BitVec 32 := Scalar.select v4269 v4270 v4264
  let c512_i32_4047 : BitVec 32 := 512#32
  let v4279 : BitVec 32 := Scalar.muli v4271 c512_i32_4047
  let v4280 : BitVec 32 := v4279
  let v4281 : Index := Scalar.indexCast v4280
  let c0_4048 : Index := 0#32
  ![v4281.toNat, 0]
def k0_mult209 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4049 : BitVec 32 := 2#32
  let v4283 : BitVec 32 := Scalar.xori v2 c2_i32_4049
  let c_m1_i32_4050 : BitVec 32 := 4294967295#32
  let v4284 : BitVec 32 := Scalar.addi v4283 c_m1_i32_4050
  let c8_i32_4051 : BitVec 32 := 8#32
  let c0_i32_4052 : BitVec 32 := 0#32
  let v4285 : BitVec 1 := Scalar.cmpi .eq c8_i32_4051 c0_i32_4052
  let c1_i32_4053 : BitVec 32 := 1#32
  let v4286 : BitVec 32 := Scalar.select v4285 c1_i32_4053 c8_i32_4051
  let v4287 : BitVec 32 := Scalar.remsi v4284 v4286
  let c0_i32_4055 : BitVec 32 := 0#32
  let v4289 : BitVec 1 := Scalar.cmpi .slt v4287 c0_i32_4055
  let c0_i32_4056 : BitVec 32 := 0#32
  let v4290 : BitVec 1 := Scalar.cmpi .slt v4286 c0_i32_4056
  let v4291 : BitVec 1 := Scalar.xori v4289 v4290
  let c0_i32_4054 : BitVec 32 := 0#32
  let v4288 : BitVec 1 := Scalar.cmpi .ne v4287 c0_i32_4054
  let v4292 : BitVec 1 := Scalar.andi v4291 v4288
  let v4293 : BitVec 32 := Scalar.addi v4287 v4286
  let v4294 : BitVec 32 := Scalar.select v4292 v4293 v4287
  let c512_i32_4057 : BitVec 32 := 512#32
  let v4295 : BitVec 32 := Scalar.muli v4294 c512_i32_4057
  v4295
def k0_mult210 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4049 : BitVec 32 := 2#32
  let v4283 : BitVec 32 := Scalar.xori v2 c2_i32_4049
  let c_m1_i32_4050 : BitVec 32 := 4294967295#32
  let v4284 : BitVec 32 := Scalar.addi v4283 c_m1_i32_4050
  let c8_i32_4051 : BitVec 32 := 8#32
  let c0_i32_4052 : BitVec 32 := 0#32
  let v4285 : BitVec 1 := Scalar.cmpi .eq c8_i32_4051 c0_i32_4052
  let c1_i32_4053 : BitVec 32 := 1#32
  let v4286 : BitVec 32 := Scalar.select v4285 c1_i32_4053 c8_i32_4051
  let v4287 : BitVec 32 := Scalar.remsi v4284 v4286
  let c0_i32_4055 : BitVec 32 := 0#32
  let v4289 : BitVec 1 := Scalar.cmpi .slt v4287 c0_i32_4055
  let c0_i32_4056 : BitVec 32 := 0#32
  let v4290 : BitVec 1 := Scalar.cmpi .slt v4286 c0_i32_4056
  let v4291 : BitVec 1 := Scalar.xori v4289 v4290
  let c0_i32_4054 : BitVec 32 := 0#32
  let v4288 : BitVec 1 := Scalar.cmpi .ne v4287 c0_i32_4054
  let v4292 : BitVec 1 := Scalar.andi v4291 v4288
  let v4293 : BitVec 32 := Scalar.addi v4287 v4286
  let v4294 : BitVec 32 := Scalar.select v4292 v4293 v4287
  let c512_i32_4059 : BitVec 32 := 512#32
  let v4302 : BitVec 32 := Scalar.muli v4294 c512_i32_4059
  v4302
def k0_off34 (d0 : Dev nD) (c2_i32_4049 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v4283 : BitVec 32 := Scalar.xori v2 c2_i32_4049
  let c_m1_i32_4050 : BitVec 32 := 4294967295#32
  let v4284 : BitVec 32 := Scalar.addi v4283 c_m1_i32_4050
  let c8_i32_4051 : BitVec 32 := 8#32
  let c0_i32_4052 : BitVec 32 := 0#32
  let v4285 : BitVec 1 := Scalar.cmpi .eq c8_i32_4051 c0_i32_4052
  let c1_i32_4053 : BitVec 32 := 1#32
  let v4286 : BitVec 32 := Scalar.select v4285 c1_i32_4053 c8_i32_4051
  let v4287 : BitVec 32 := Scalar.remsi v4284 v4286
  let c0_i32_4055 : BitVec 32 := 0#32
  let v4289 : BitVec 1 := Scalar.cmpi .slt v4287 c0_i32_4055
  let c0_i32_4056 : BitVec 32 := 0#32
  let v4290 : BitVec 1 := Scalar.cmpi .slt v4286 c0_i32_4056
  let v4291 : BitVec 1 := Scalar.xori v4289 v4290
  let c0_i32_4054 : BitVec 32 := 0#32
  let v4288 : BitVec 1 := Scalar.cmpi .ne v4287 c0_i32_4054
  let v4292 : BitVec 1 := Scalar.andi v4291 v4288
  let v4293 : BitVec 32 := Scalar.addi v4287 v4286
  let v4294 : BitVec 32 := Scalar.select v4292 v4293 v4287
  let c512_i32_4059 : BitVec 32 := 512#32
  let v4302 : BitVec 32 := Scalar.muli v4294 c512_i32_4059
  let v4303 : BitVec 32 := v4302
  let v4304 : Index := Scalar.indexCast v4303
  let c1024_4060 : Index := 1024#32
  ![v4304.toNat, 1024]
def k0_mult211 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4122 : BitVec 32 := 0#32
  let v4347 : BitVec 32 := Scalar.xori v2 c0_i32_4122
  let c1_i32_4123 : BitVec 32 := 1#32
  let v4348 : BitVec 32 := Scalar.addi v4347 c1_i32_4123
  let c8_i32_4124 : BitVec 32 := 8#32
  let c0_i32_4125 : BitVec 32 := 0#32
  let v4349 : BitVec 1 := Scalar.cmpi .eq c8_i32_4124 c0_i32_4125
  let c1_i32_4126 : BitVec 32 := 1#32
  let v4350 : BitVec 32 := Scalar.select v4349 c1_i32_4126 c8_i32_4124
  let v4351 : BitVec 32 := Scalar.remsi v4348 v4350
  let c0_i32_4128 : BitVec 32 := 0#32
  let v4353 : BitVec 1 := Scalar.cmpi .slt v4351 c0_i32_4128
  let c0_i32_4129 : BitVec 32 := 0#32
  let v4354 : BitVec 1 := Scalar.cmpi .slt v4350 c0_i32_4129
  let v4355 : BitVec 1 := Scalar.xori v4353 v4354
  let c0_i32_4127 : BitVec 32 := 0#32
  let v4352 : BitVec 1 := Scalar.cmpi .ne v4351 c0_i32_4127
  let v4356 : BitVec 1 := Scalar.andi v4355 v4352
  let v4357 : BitVec 32 := Scalar.addi v4351 v4350
  let v4358 : BitVec 32 := Scalar.select v4356 v4357 v4351
  let c512_i32_4130 : BitVec 32 := 512#32
  let v4359 : BitVec 32 := Scalar.muli v4358 c512_i32_4130
  v4359
def k0_mult212 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4122 : BitVec 32 := 0#32
  let v4347 : BitVec 32 := Scalar.xori v2 c0_i32_4122
  let c1_i32_4123 : BitVec 32 := 1#32
  let v4348 : BitVec 32 := Scalar.addi v4347 c1_i32_4123
  let c8_i32_4124 : BitVec 32 := 8#32
  let c0_i32_4125 : BitVec 32 := 0#32
  let v4349 : BitVec 1 := Scalar.cmpi .eq c8_i32_4124 c0_i32_4125
  let c1_i32_4126 : BitVec 32 := 1#32
  let v4350 : BitVec 32 := Scalar.select v4349 c1_i32_4126 c8_i32_4124
  let v4351 : BitVec 32 := Scalar.remsi v4348 v4350
  let c0_i32_4128 : BitVec 32 := 0#32
  let v4353 : BitVec 1 := Scalar.cmpi .slt v4351 c0_i32_4128
  let c0_i32_4129 : BitVec 32 := 0#32
  let v4354 : BitVec 1 := Scalar.cmpi .slt v4350 c0_i32_4129
  let v4355 : BitVec 1 := Scalar.xori v4353 v4354
  let c0_i32_4127 : BitVec 32 := 0#32
  let v4352 : BitVec 1 := Scalar.cmpi .ne v4351 c0_i32_4127
  let v4356 : BitVec 1 := Scalar.andi v4355 v4352
  let v4357 : BitVec 32 := Scalar.addi v4351 v4350
  let v4358 : BitVec 32 := Scalar.select v4356 v4357 v4351
  let c512_i32_4131 : BitVec 32 := 512#32
  let v4361 : BitVec 32 := Scalar.muli v4358 c512_i32_4131
  v4361
def k0_dev128 (d0 : Dev nD) : Nat :=
  let c0_i32_4137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4121 : BitVec 32 := 4#32
  let v4346 : BitVec 32 := Scalar.xori v2 c4_i32_4121
  let c1_i32_4136 : BitVec 32 := 1#32
  let v4363 : BitVec 32 := Scalar.muli v4346 c1_i32_4136
  let v4364 : BitVec 32 := Scalar.addi c0_i32_4137 v4363
  v4364.toNat
def k0_mult213 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4140 : BitVec 32 := 1#32
  let v4371 : BitVec 32 := Scalar.xori v2 c1_i32_4140
  let c1_i32_4141 : BitVec 32 := 1#32
  let v4372 : BitVec 32 := Scalar.addi v4371 c1_i32_4141
  let c8_i32_4142 : BitVec 32 := 8#32
  let c0_i32_4143 : BitVec 32 := 0#32
  let v4373 : BitVec 1 := Scalar.cmpi .eq c8_i32_4142 c0_i32_4143
  let c1_i32_4144 : BitVec 32 := 1#32
  let v4374 : BitVec 32 := Scalar.select v4373 c1_i32_4144 c8_i32_4142
  let v4375 : BitVec 32 := Scalar.remsi v4372 v4374
  let c0_i32_4146 : BitVec 32 := 0#32
  let v4377 : BitVec 1 := Scalar.cmpi .slt v4375 c0_i32_4146
  let c0_i32_4147 : BitVec 32 := 0#32
  let v4378 : BitVec 1 := Scalar.cmpi .slt v4374 c0_i32_4147
  let v4379 : BitVec 1 := Scalar.xori v4377 v4378
  let c0_i32_4145 : BitVec 32 := 0#32
  let v4376 : BitVec 1 := Scalar.cmpi .ne v4375 c0_i32_4145
  let v4380 : BitVec 1 := Scalar.andi v4379 v4376
  let v4381 : BitVec 32 := Scalar.addi v4375 v4374
  let v4382 : BitVec 32 := Scalar.select v4380 v4381 v4375
  let c512_i32_4148 : BitVec 32 := 512#32
  let v4383 : BitVec 32 := Scalar.muli v4382 c512_i32_4148
  v4383
def k0_mult214 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4140 : BitVec 32 := 1#32
  let v4371 : BitVec 32 := Scalar.xori v2 c1_i32_4140
  let c1_i32_4141 : BitVec 32 := 1#32
  let v4372 : BitVec 32 := Scalar.addi v4371 c1_i32_4141
  let c8_i32_4142 : BitVec 32 := 8#32
  let c0_i32_4143 : BitVec 32 := 0#32
  let v4373 : BitVec 1 := Scalar.cmpi .eq c8_i32_4142 c0_i32_4143
  let c1_i32_4144 : BitVec 32 := 1#32
  let v4374 : BitVec 32 := Scalar.select v4373 c1_i32_4144 c8_i32_4142
  let v4375 : BitVec 32 := Scalar.remsi v4372 v4374
  let c0_i32_4146 : BitVec 32 := 0#32
  let v4377 : BitVec 1 := Scalar.cmpi .slt v4375 c0_i32_4146
  let c0_i32_4147 : BitVec 32 := 0#32
  let v4378 : BitVec 1 := Scalar.cmpi .slt v4374 c0_i32_4147
  let v4379 : BitVec 1 := Scalar.xori v4377 v4378
  let c0_i32_4145 : BitVec 32 := 0#32
  let v4376 : BitVec 1 := Scalar.cmpi .ne v4375 c0_i32_4145
  let v4380 : BitVec 1 := Scalar.andi v4379 v4376
  let v4381 : BitVec 32 := Scalar.addi v4375 v4374
  let v4382 : BitVec 32 := Scalar.select v4380 v4381 v4375
  let c512_i32_4149 : BitVec 32 := 512#32
  let v4385 : BitVec 32 := Scalar.muli v4382 c512_i32_4149
  v4385
def k0_dev129 (d0 : Dev nD) : Nat :=
  let c0_i32_4155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4121 : BitVec 32 := 4#32
  let v4346 : BitVec 32 := Scalar.xori v2 c4_i32_4121
  let c1_i32_4154 : BitVec 32 := 1#32
  let v4387 : BitVec 32 := Scalar.muli v4346 c1_i32_4154
  let v4388 : BitVec 32 := Scalar.addi c0_i32_4155 v4387
  v4388.toNat
def k0_mult215 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4158 : BitVec 32 := 2#32
  let v4395 : BitVec 32 := Scalar.xori v2 c2_i32_4158
  let c1_i32_4159 : BitVec 32 := 1#32
  let v4396 : BitVec 32 := Scalar.addi v4395 c1_i32_4159
  let c8_i32_4160 : BitVec 32 := 8#32
  let c0_i32_4161 : BitVec 32 := 0#32
  let v4397 : BitVec 1 := Scalar.cmpi .eq c8_i32_4160 c0_i32_4161
  let c1_i32_4162 : BitVec 32 := 1#32
  let v4398 : BitVec 32 := Scalar.select v4397 c1_i32_4162 c8_i32_4160
  let v4399 : BitVec 32 := Scalar.remsi v4396 v4398
  let c0_i32_4164 : BitVec 32 := 0#32
  let v4401 : BitVec 1 := Scalar.cmpi .slt v4399 c0_i32_4164
  let c0_i32_4165 : BitVec 32 := 0#32
  let v4402 : BitVec 1 := Scalar.cmpi .slt v4398 c0_i32_4165
  let v4403 : BitVec 1 := Scalar.xori v4401 v4402
  let c0_i32_4163 : BitVec 32 := 0#32
  let v4400 : BitVec 1 := Scalar.cmpi .ne v4399 c0_i32_4163
  let v4404 : BitVec 1 := Scalar.andi v4403 v4400
  let v4405 : BitVec 32 := Scalar.addi v4399 v4398
  let v4406 : BitVec 32 := Scalar.select v4404 v4405 v4399
  let c512_i32_4166 : BitVec 32 := 512#32
  let v4407 : BitVec 32 := Scalar.muli v4406 c512_i32_4166
  v4407
def k0_mult216 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4158 : BitVec 32 := 2#32
  let v4395 : BitVec 32 := Scalar.xori v2 c2_i32_4158
  let c1_i32_4159 : BitVec 32 := 1#32
  let v4396 : BitVec 32 := Scalar.addi v4395 c1_i32_4159
  let c8_i32_4160 : BitVec 32 := 8#32
  let c0_i32_4161 : BitVec 32 := 0#32
  let v4397 : BitVec 1 := Scalar.cmpi .eq c8_i32_4160 c0_i32_4161
  let c1_i32_4162 : BitVec 32 := 1#32
  let v4398 : BitVec 32 := Scalar.select v4397 c1_i32_4162 c8_i32_4160
  let v4399 : BitVec 32 := Scalar.remsi v4396 v4398
  let c0_i32_4164 : BitVec 32 := 0#32
  let v4401 : BitVec 1 := Scalar.cmpi .slt v4399 c0_i32_4164
  let c0_i32_4165 : BitVec 32 := 0#32
  let v4402 : BitVec 1 := Scalar.cmpi .slt v4398 c0_i32_4165
  let v4403 : BitVec 1 := Scalar.xori v4401 v4402
  let c0_i32_4163 : BitVec 32 := 0#32
  let v4400 : BitVec 1 := Scalar.cmpi .ne v4399 c0_i32_4163
  let v4404 : BitVec 1 := Scalar.andi v4403 v4400
  let v4405 : BitVec 32 := Scalar.addi v4399 v4398
  let v4406 : BitVec 32 := Scalar.select v4404 v4405 v4399
  let c512_i32_4167 : BitVec 32 := 512#32
  let v4409 : BitVec 32 := Scalar.muli v4406 c512_i32_4167
  v4409
def k0_dev130 (d0 : Dev nD) : Nat :=
  let c0_i32_4173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4121 : BitVec 32 := 4#32
  let v4346 : BitVec 32 := Scalar.xori v2 c4_i32_4121
  let c1_i32_4172 : BitVec 32 := 1#32
  let v4411 : BitVec 32 := Scalar.muli v4346 c1_i32_4172
  let v4412 : BitVec 32 := Scalar.addi c0_i32_4173 v4411
  v4412.toNat
def k0_mult217 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4176 : BitVec 32 := 3#32
  let v4419 : BitVec 32 := Scalar.xori v2 c3_i32_4176
  let c1_i32_4177 : BitVec 32 := 1#32
  let v4420 : BitVec 32 := Scalar.addi v4419 c1_i32_4177
  let c8_i32_4178 : BitVec 32 := 8#32
  let c0_i32_4179 : BitVec 32 := 0#32
  let v4421 : BitVec 1 := Scalar.cmpi .eq c8_i32_4178 c0_i32_4179
  let c1_i32_4180 : BitVec 32 := 1#32
  let v4422 : BitVec 32 := Scalar.select v4421 c1_i32_4180 c8_i32_4178
  let v4423 : BitVec 32 := Scalar.remsi v4420 v4422
  let c0_i32_4182 : BitVec 32 := 0#32
  let v4425 : BitVec 1 := Scalar.cmpi .slt v4423 c0_i32_4182
  let c0_i32_4183 : BitVec 32 := 0#32
  let v4426 : BitVec 1 := Scalar.cmpi .slt v4422 c0_i32_4183
  let v4427 : BitVec 1 := Scalar.xori v4425 v4426
  let c0_i32_4181 : BitVec 32 := 0#32
  let v4424 : BitVec 1 := Scalar.cmpi .ne v4423 c0_i32_4181
  let v4428 : BitVec 1 := Scalar.andi v4427 v4424
  let v4429 : BitVec 32 := Scalar.addi v4423 v4422
  let v4430 : BitVec 32 := Scalar.select v4428 v4429 v4423
  let c512_i32_4184 : BitVec 32 := 512#32
  let v4431 : BitVec 32 := Scalar.muli v4430 c512_i32_4184
  v4431
def k0_mult218 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4176 : BitVec 32 := 3#32
  let v4419 : BitVec 32 := Scalar.xori v2 c3_i32_4176
  let c1_i32_4177 : BitVec 32 := 1#32
  let v4420 : BitVec 32 := Scalar.addi v4419 c1_i32_4177
  let c8_i32_4178 : BitVec 32 := 8#32
  let c0_i32_4179 : BitVec 32 := 0#32
  let v4421 : BitVec 1 := Scalar.cmpi .eq c8_i32_4178 c0_i32_4179
  let c1_i32_4180 : BitVec 32 := 1#32
  let v4422 : BitVec 32 := Scalar.select v4421 c1_i32_4180 c8_i32_4178
  let v4423 : BitVec 32 := Scalar.remsi v4420 v4422
  let c0_i32_4182 : BitVec 32 := 0#32
  let v4425 : BitVec 1 := Scalar.cmpi .slt v4423 c0_i32_4182
  let c0_i32_4183 : BitVec 32 := 0#32
  let v4426 : BitVec 1 := Scalar.cmpi .slt v4422 c0_i32_4183
  let v4427 : BitVec 1 := Scalar.xori v4425 v4426
  let c0_i32_4181 : BitVec 32 := 0#32
  let v4424 : BitVec 1 := Scalar.cmpi .ne v4423 c0_i32_4181
  let v4428 : BitVec 1 := Scalar.andi v4427 v4424
  let v4429 : BitVec 32 := Scalar.addi v4423 v4422
  let v4430 : BitVec 32 := Scalar.select v4428 v4429 v4423
  let c512_i32_4185 : BitVec 32 := 512#32
  let v4433 : BitVec 32 := Scalar.muli v4430 c512_i32_4185
  v4433
def k0_dev131 (d0 : Dev nD) : Nat :=
  let c0_i32_4191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4121 : BitVec 32 := 4#32
  let v4346 : BitVec 32 := Scalar.xori v2 c4_i32_4121
  let c1_i32_4190 : BitVec 32 := 1#32
  let v4435 : BitVec 32 := Scalar.muli v4346 c1_i32_4190
  let v4436 : BitVec 32 := Scalar.addi c0_i32_4191 v4435
  v4436.toNat
def k0_mult219 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4195 : BitVec 32 := 0#32
  let v4444 : BitVec 32 := Scalar.xori v2 c0_i32_4195
  let c_m1_i32_4196 : BitVec 32 := 4294967295#32
  let v4445 : BitVec 32 := Scalar.addi v4444 c_m1_i32_4196
  let c8_i32_4197 : BitVec 32 := 8#32
  let c0_i32_4198 : BitVec 32 := 0#32
  let v4446 : BitVec 1 := Scalar.cmpi .eq c8_i32_4197 c0_i32_4198
  let c1_i32_4199 : BitVec 32 := 1#32
  let v4447 : BitVec 32 := Scalar.select v4446 c1_i32_4199 c8_i32_4197
  let v4448 : BitVec 32 := Scalar.remsi v4445 v4447
  let c0_i32_4201 : BitVec 32 := 0#32
  let v4450 : BitVec 1 := Scalar.cmpi .slt v4448 c0_i32_4201
  let c0_i32_4202 : BitVec 32 := 0#32
  let v4451 : BitVec 1 := Scalar.cmpi .slt v4447 c0_i32_4202
  let v4452 : BitVec 1 := Scalar.xori v4450 v4451
  let c0_i32_4200 : BitVec 32 := 0#32
  let v4449 : BitVec 1 := Scalar.cmpi .ne v4448 c0_i32_4200
  let v4453 : BitVec 1 := Scalar.andi v4452 v4449
  let v4454 : BitVec 32 := Scalar.addi v4448 v4447
  let v4455 : BitVec 32 := Scalar.select v4453 v4454 v4448
  let c512_i32_4203 : BitVec 32 := 512#32
  let v4456 : BitVec 32 := Scalar.muli v4455 c512_i32_4203
  v4456
def k0_mult220 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_4195 : BitVec 32 := 0#32
  let v4444 : BitVec 32 := Scalar.xori v2 c0_i32_4195
  let c_m1_i32_4196 : BitVec 32 := 4294967295#32
  let v4445 : BitVec 32 := Scalar.addi v4444 c_m1_i32_4196
  let c8_i32_4197 : BitVec 32 := 8#32
  let c0_i32_4198 : BitVec 32 := 0#32
  let v4446 : BitVec 1 := Scalar.cmpi .eq c8_i32_4197 c0_i32_4198
  let c1_i32_4199 : BitVec 32 := 1#32
  let v4447 : BitVec 32 := Scalar.select v4446 c1_i32_4199 c8_i32_4197
  let v4448 : BitVec 32 := Scalar.remsi v4445 v4447
  let c0_i32_4201 : BitVec 32 := 0#32
  let v4450 : BitVec 1 := Scalar.cmpi .slt v4448 c0_i32_4201
  let c0_i32_4202 : BitVec 32 := 0#32
  let v4451 : BitVec 1 := Scalar.cmpi .slt v4447 c0_i32_4202
  let v4452 : BitVec 1 := Scalar.xori v4450 v4451
  let c0_i32_4200 : BitVec 32 := 0#32
  let v4449 : BitVec 1 := Scalar.cmpi .ne v4448 c0_i32_4200
  let v4453 : BitVec 1 := Scalar.andi v4452 v4449
  let v4454 : BitVec 32 := Scalar.addi v4448 v4447
  let v4455 : BitVec 32 := Scalar.select v4453 v4454 v4448
  let c512_i32_4204 : BitVec 32 := 512#32
  let v4458 : BitVec 32 := Scalar.muli v4455 c512_i32_4204
  v4458
def k0_dev132 (d0 : Dev nD) : Nat :=
  let c0_i32_4210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4194 : BitVec 32 := 1#32
  let v4443 : BitVec 32 := Scalar.xori v2 c1_i32_4194
  let c1_i32_4209 : BitVec 32 := 1#32
  let v4460 : BitVec 32 := Scalar.muli v4443 c1_i32_4209
  let v4461 : BitVec 32 := Scalar.addi c0_i32_4210 v4460
  v4461.toNat
def k0_mult221 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4213 : BitVec 32 := 2#32
  let v4468 : BitVec 32 := Scalar.xori v2 c2_i32_4213
  let c_m1_i32_4214 : BitVec 32 := 4294967295#32
  let v4469 : BitVec 32 := Scalar.addi v4468 c_m1_i32_4214
  let c8_i32_4215 : BitVec 32 := 8#32
  let c0_i32_4216 : BitVec 32 := 0#32
  let v4470 : BitVec 1 := Scalar.cmpi .eq c8_i32_4215 c0_i32_4216
  let c1_i32_4217 : BitVec 32 := 1#32
  let v4471 : BitVec 32 := Scalar.select v4470 c1_i32_4217 c8_i32_4215
  let v4472 : BitVec 32 := Scalar.remsi v4469 v4471
  let c0_i32_4219 : BitVec 32 := 0#32
  let v4474 : BitVec 1 := Scalar.cmpi .slt v4472 c0_i32_4219
  let c0_i32_4220 : BitVec 32 := 0#32
  let v4475 : BitVec 1 := Scalar.cmpi .slt v4471 c0_i32_4220
  let v4476 : BitVec 1 := Scalar.xori v4474 v4475
  let c0_i32_4218 : BitVec 32 := 0#32
  let v4473 : BitVec 1 := Scalar.cmpi .ne v4472 c0_i32_4218
  let v4477 : BitVec 1 := Scalar.andi v4476 v4473
  let v4478 : BitVec 32 := Scalar.addi v4472 v4471
  let v4479 : BitVec 32 := Scalar.select v4477 v4478 v4472
  let c512_i32_4221 : BitVec 32 := 512#32
  let v4480 : BitVec 32 := Scalar.muli v4479 c512_i32_4221
  v4480
def k0_mult222 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4213 : BitVec 32 := 2#32
  let v4468 : BitVec 32 := Scalar.xori v2 c2_i32_4213
  let c_m1_i32_4214 : BitVec 32 := 4294967295#32
  let v4469 : BitVec 32 := Scalar.addi v4468 c_m1_i32_4214
  let c8_i32_4215 : BitVec 32 := 8#32
  let c0_i32_4216 : BitVec 32 := 0#32
  let v4470 : BitVec 1 := Scalar.cmpi .eq c8_i32_4215 c0_i32_4216
  let c1_i32_4217 : BitVec 32 := 1#32
  let v4471 : BitVec 32 := Scalar.select v4470 c1_i32_4217 c8_i32_4215
  let v4472 : BitVec 32 := Scalar.remsi v4469 v4471
  let c0_i32_4219 : BitVec 32 := 0#32
  let v4474 : BitVec 1 := Scalar.cmpi .slt v4472 c0_i32_4219
  let c0_i32_4220 : BitVec 32 := 0#32
  let v4475 : BitVec 1 := Scalar.cmpi .slt v4471 c0_i32_4220
  let v4476 : BitVec 1 := Scalar.xori v4474 v4475
  let c0_i32_4218 : BitVec 32 := 0#32
  let v4473 : BitVec 1 := Scalar.cmpi .ne v4472 c0_i32_4218
  let v4477 : BitVec 1 := Scalar.andi v4476 v4473
  let v4478 : BitVec 32 := Scalar.addi v4472 v4471
  let v4479 : BitVec 32 := Scalar.select v4477 v4478 v4472
  let c512_i32_4222 : BitVec 32 := 512#32
  let v4482 : BitVec 32 := Scalar.muli v4479 c512_i32_4222
  v4482
def k0_dev133 (d0 : Dev nD) : Nat :=
  let c0_i32_4228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4194 : BitVec 32 := 1#32
  let v4443 : BitVec 32 := Scalar.xori v2 c1_i32_4194
  let c1_i32_4227 : BitVec 32 := 1#32
  let v4484 : BitVec 32 := Scalar.muli v4443 c1_i32_4227
  let v4485 : BitVec 32 := Scalar.addi c0_i32_4228 v4484
  v4485.toNat
def k0_mult223 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4231 : BitVec 32 := 4#32
  let v4492 : BitVec 32 := Scalar.xori v2 c4_i32_4231
  let c_m1_i32_4232 : BitVec 32 := 4294967295#32
  let v4493 : BitVec 32 := Scalar.addi v4492 c_m1_i32_4232
  let c8_i32_4233 : BitVec 32 := 8#32
  let c0_i32_4234 : BitVec 32 := 0#32
  let v4494 : BitVec 1 := Scalar.cmpi .eq c8_i32_4233 c0_i32_4234
  let c1_i32_4235 : BitVec 32 := 1#32
  let v4495 : BitVec 32 := Scalar.select v4494 c1_i32_4235 c8_i32_4233
  let v4496 : BitVec 32 := Scalar.remsi v4493 v4495
  let c0_i32_4237 : BitVec 32 := 0#32
  let v4498 : BitVec 1 := Scalar.cmpi .slt v4496 c0_i32_4237
  let c0_i32_4238 : BitVec 32 := 0#32
  let v4499 : BitVec 1 := Scalar.cmpi .slt v4495 c0_i32_4238
  let v4500 : BitVec 1 := Scalar.xori v4498 v4499
  let c0_i32_4236 : BitVec 32 := 0#32
  let v4497 : BitVec 1 := Scalar.cmpi .ne v4496 c0_i32_4236
  let v4501 : BitVec 1 := Scalar.andi v4500 v4497
  let v4502 : BitVec 32 := Scalar.addi v4496 v4495
  let v4503 : BitVec 32 := Scalar.select v4501 v4502 v4496
  let c512_i32_4239 : BitVec 32 := 512#32
  let v4504 : BitVec 32 := Scalar.muli v4503 c512_i32_4239
  v4504
def k0_mult224 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4231 : BitVec 32 := 4#32
  let v4492 : BitVec 32 := Scalar.xori v2 c4_i32_4231
  let c_m1_i32_4232 : BitVec 32 := 4294967295#32
  let v4493 : BitVec 32 := Scalar.addi v4492 c_m1_i32_4232
  let c8_i32_4233 : BitVec 32 := 8#32
  let c0_i32_4234 : BitVec 32 := 0#32
  let v4494 : BitVec 1 := Scalar.cmpi .eq c8_i32_4233 c0_i32_4234
  let c1_i32_4235 : BitVec 32 := 1#32
  let v4495 : BitVec 32 := Scalar.select v4494 c1_i32_4235 c8_i32_4233
  let v4496 : BitVec 32 := Scalar.remsi v4493 v4495
  let c0_i32_4237 : BitVec 32 := 0#32
  let v4498 : BitVec 1 := Scalar.cmpi .slt v4496 c0_i32_4237
  let c0_i32_4238 : BitVec 32 := 0#32
  let v4499 : BitVec 1 := Scalar.cmpi .slt v4495 c0_i32_4238
  let v4500 : BitVec 1 := Scalar.xori v4498 v4499
  let c0_i32_4236 : BitVec 32 := 0#32
  let v4497 : BitVec 1 := Scalar.cmpi .ne v4496 c0_i32_4236
  let v4501 : BitVec 1 := Scalar.andi v4500 v4497
  let v4502 : BitVec 32 := Scalar.addi v4496 v4495
  let v4503 : BitVec 32 := Scalar.select v4501 v4502 v4496
  let c512_i32_4240 : BitVec 32 := 512#32
  let v4506 : BitVec 32 := Scalar.muli v4503 c512_i32_4240
  v4506
def k0_dev134 (d0 : Dev nD) : Nat :=
  let c0_i32_4246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4194 : BitVec 32 := 1#32
  let v4443 : BitVec 32 := Scalar.xori v2 c1_i32_4194
  let c1_i32_4245 : BitVec 32 := 1#32
  let v4508 : BitVec 32 := Scalar.muli v4443 c1_i32_4245
  let v4509 : BitVec 32 := Scalar.addi c0_i32_4246 v4508
  v4509.toNat
def k0_mult225 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_4249 : BitVec 32 := 6#32
  let v4516 : BitVec 32 := Scalar.xori v2 c6_i32_4249
  let c_m1_i32_4250 : BitVec 32 := 4294967295#32
  let v4517 : BitVec 32 := Scalar.addi v4516 c_m1_i32_4250
  let c8_i32_4251 : BitVec 32 := 8#32
  let c0_i32_4252 : BitVec 32 := 0#32
  let v4518 : BitVec 1 := Scalar.cmpi .eq c8_i32_4251 c0_i32_4252
  let c1_i32_4253 : BitVec 32 := 1#32
  let v4519 : BitVec 32 := Scalar.select v4518 c1_i32_4253 c8_i32_4251
  let v4520 : BitVec 32 := Scalar.remsi v4517 v4519
  let c0_i32_4255 : BitVec 32 := 0#32
  let v4522 : BitVec 1 := Scalar.cmpi .slt v4520 c0_i32_4255
  let c0_i32_4256 : BitVec 32 := 0#32
  let v4523 : BitVec 1 := Scalar.cmpi .slt v4519 c0_i32_4256
  let v4524 : BitVec 1 := Scalar.xori v4522 v4523
  let c0_i32_4254 : BitVec 32 := 0#32
  let v4521 : BitVec 1 := Scalar.cmpi .ne v4520 c0_i32_4254
  let v4525 : BitVec 1 := Scalar.andi v4524 v4521
  let v4526 : BitVec 32 := Scalar.addi v4520 v4519
  let v4527 : BitVec 32 := Scalar.select v4525 v4526 v4520
  let c512_i32_4257 : BitVec 32 := 512#32
  let v4528 : BitVec 32 := Scalar.muli v4527 c512_i32_4257
  v4528
def k0_mult226 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_4249 : BitVec 32 := 6#32
  let v4516 : BitVec 32 := Scalar.xori v2 c6_i32_4249
  let c_m1_i32_4250 : BitVec 32 := 4294967295#32
  let v4517 : BitVec 32 := Scalar.addi v4516 c_m1_i32_4250
  let c8_i32_4251 : BitVec 32 := 8#32
  let c0_i32_4252 : BitVec 32 := 0#32
  let v4518 : BitVec 1 := Scalar.cmpi .eq c8_i32_4251 c0_i32_4252
  let c1_i32_4253 : BitVec 32 := 1#32
  let v4519 : BitVec 32 := Scalar.select v4518 c1_i32_4253 c8_i32_4251
  let v4520 : BitVec 32 := Scalar.remsi v4517 v4519
  let c0_i32_4255 : BitVec 32 := 0#32
  let v4522 : BitVec 1 := Scalar.cmpi .slt v4520 c0_i32_4255
  let c0_i32_4256 : BitVec 32 := 0#32
  let v4523 : BitVec 1 := Scalar.cmpi .slt v4519 c0_i32_4256
  let v4524 : BitVec 1 := Scalar.xori v4522 v4523
  let c0_i32_4254 : BitVec 32 := 0#32
  let v4521 : BitVec 1 := Scalar.cmpi .ne v4520 c0_i32_4254
  let v4525 : BitVec 1 := Scalar.andi v4524 v4521
  let v4526 : BitVec 32 := Scalar.addi v4520 v4519
  let v4527 : BitVec 32 := Scalar.select v4525 v4526 v4520
  let c512_i32_4258 : BitVec 32 := 512#32
  let v4530 : BitVec 32 := Scalar.muli v4527 c512_i32_4258
  v4530
def k0_dev135 (d0 : Dev nD) : Nat :=
  let c0_i32_4264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4194 : BitVec 32 := 1#32
  let v4443 : BitVec 32 := Scalar.xori v2 c1_i32_4194
  let c1_i32_4263 : BitVec 32 := 1#32
  let v4532 : BitVec 32 := Scalar.muli v4443 c1_i32_4263
  let v4533 : BitVec 32 := Scalar.addi c0_i32_4264 v4532
  v4533.toNat
def k0_mult227 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4267 : BitVec 32 := 2#32
  let v4540 : BitVec 32 := Scalar.xori v2 c2_i32_4267
  let c1_i32_4268 : BitVec 32 := 1#32
  let v4541 : BitVec 32 := Scalar.addi v4540 c1_i32_4268
  let c8_i32_4269 : BitVec 32 := 8#32
  let c0_i32_4270 : BitVec 32 := 0#32
  let v4542 : BitVec 1 := Scalar.cmpi .eq c8_i32_4269 c0_i32_4270
  let c1_i32_4271 : BitVec 32 := 1#32
  let v4543 : BitVec 32 := Scalar.select v4542 c1_i32_4271 c8_i32_4269
  let v4544 : BitVec 32 := Scalar.remsi v4541 v4543
  let c0_i32_4273 : BitVec 32 := 0#32
  let v4546 : BitVec 1 := Scalar.cmpi .slt v4544 c0_i32_4273
  let c0_i32_4274 : BitVec 32 := 0#32
  let v4547 : BitVec 1 := Scalar.cmpi .slt v4543 c0_i32_4274
  let v4548 : BitVec 1 := Scalar.xori v4546 v4547
  let c0_i32_4272 : BitVec 32 := 0#32
  let v4545 : BitVec 1 := Scalar.cmpi .ne v4544 c0_i32_4272
  let v4549 : BitVec 1 := Scalar.andi v4548 v4545
  let v4550 : BitVec 32 := Scalar.addi v4544 v4543
  let v4551 : BitVec 32 := Scalar.select v4549 v4550 v4544
  let c512_i32_4275 : BitVec 32 := 512#32
  let v4552 : BitVec 32 := Scalar.muli v4551 c512_i32_4275
  v4552
def k0_mult228 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4267 : BitVec 32 := 2#32
  let v4540 : BitVec 32 := Scalar.xori v2 c2_i32_4267
  let c1_i32_4268 : BitVec 32 := 1#32
  let v4541 : BitVec 32 := Scalar.addi v4540 c1_i32_4268
  let c8_i32_4269 : BitVec 32 := 8#32
  let c0_i32_4270 : BitVec 32 := 0#32
  let v4542 : BitVec 1 := Scalar.cmpi .eq c8_i32_4269 c0_i32_4270
  let c1_i32_4271 : BitVec 32 := 1#32
  let v4543 : BitVec 32 := Scalar.select v4542 c1_i32_4271 c8_i32_4269
  let v4544 : BitVec 32 := Scalar.remsi v4541 v4543
  let c0_i32_4273 : BitVec 32 := 0#32
  let v4546 : BitVec 1 := Scalar.cmpi .slt v4544 c0_i32_4273
  let c0_i32_4274 : BitVec 32 := 0#32
  let v4547 : BitVec 1 := Scalar.cmpi .slt v4543 c0_i32_4274
  let v4548 : BitVec 1 := Scalar.xori v4546 v4547
  let c0_i32_4272 : BitVec 32 := 0#32
  let v4545 : BitVec 1 := Scalar.cmpi .ne v4544 c0_i32_4272
  let v4549 : BitVec 1 := Scalar.andi v4548 v4545
  let v4550 : BitVec 32 := Scalar.addi v4544 v4543
  let v4551 : BitVec 32 := Scalar.select v4549 v4550 v4544
  let c512_i32_4277 : BitVec 32 := 512#32
  let v4559 : BitVec 32 := Scalar.muli v4551 c512_i32_4277
  v4559
def k0_mult229 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4279 : BitVec 32 := 3#32
  let v4563 : BitVec 32 := Scalar.xori v2 c3_i32_4279
  let c1_i32_4280 : BitVec 32 := 1#32
  let v4564 : BitVec 32 := Scalar.addi v4563 c1_i32_4280
  let c8_i32_4281 : BitVec 32 := 8#32
  let c0_i32_4282 : BitVec 32 := 0#32
  let v4565 : BitVec 1 := Scalar.cmpi .eq c8_i32_4281 c0_i32_4282
  let c1_i32_4283 : BitVec 32 := 1#32
  let v4566 : BitVec 32 := Scalar.select v4565 c1_i32_4283 c8_i32_4281
  let v4567 : BitVec 32 := Scalar.remsi v4564 v4566
  let c0_i32_4285 : BitVec 32 := 0#32
  let v4569 : BitVec 1 := Scalar.cmpi .slt v4567 c0_i32_4285
  let c0_i32_4286 : BitVec 32 := 0#32
  let v4570 : BitVec 1 := Scalar.cmpi .slt v4566 c0_i32_4286
  let v4571 : BitVec 1 := Scalar.xori v4569 v4570
  let c0_i32_4284 : BitVec 32 := 0#32
  let v4568 : BitVec 1 := Scalar.cmpi .ne v4567 c0_i32_4284
  let v4572 : BitVec 1 := Scalar.andi v4571 v4568
  let v4573 : BitVec 32 := Scalar.addi v4567 v4566
  let v4574 : BitVec 32 := Scalar.select v4572 v4573 v4567
  let c512_i32_4287 : BitVec 32 := 512#32
  let v4575 : BitVec 32 := Scalar.muli v4574 c512_i32_4287
  v4575
def k0_mult230 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4279 : BitVec 32 := 3#32
  let v4563 : BitVec 32 := Scalar.xori v2 c3_i32_4279
  let c1_i32_4280 : BitVec 32 := 1#32
  let v4564 : BitVec 32 := Scalar.addi v4563 c1_i32_4280
  let c8_i32_4281 : BitVec 32 := 8#32
  let c0_i32_4282 : BitVec 32 := 0#32
  let v4565 : BitVec 1 := Scalar.cmpi .eq c8_i32_4281 c0_i32_4282
  let c1_i32_4283 : BitVec 32 := 1#32
  let v4566 : BitVec 32 := Scalar.select v4565 c1_i32_4283 c8_i32_4281
  let v4567 : BitVec 32 := Scalar.remsi v4564 v4566
  let c0_i32_4285 : BitVec 32 := 0#32
  let v4569 : BitVec 1 := Scalar.cmpi .slt v4567 c0_i32_4285
  let c0_i32_4286 : BitVec 32 := 0#32
  let v4570 : BitVec 1 := Scalar.cmpi .slt v4566 c0_i32_4286
  let v4571 : BitVec 1 := Scalar.xori v4569 v4570
  let c0_i32_4284 : BitVec 32 := 0#32
  let v4568 : BitVec 1 := Scalar.cmpi .ne v4567 c0_i32_4284
  let v4572 : BitVec 1 := Scalar.andi v4571 v4568
  let v4573 : BitVec 32 := Scalar.addi v4567 v4566
  let v4574 : BitVec 32 := Scalar.select v4572 v4573 v4567
  let c512_i32_4289 : BitVec 32 := 512#32
  let v4582 : BitVec 32 := Scalar.muli v4574 c512_i32_4289
  v4582
def k0_mult231 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4291 : BitVec 32 := 4#32
  let v4586 : BitVec 32 := Scalar.xori v2 c4_i32_4291
  let c_m1_i32_4292 : BitVec 32 := 4294967295#32
  let v4587 : BitVec 32 := Scalar.addi v4586 c_m1_i32_4292
  let c8_i32_4293 : BitVec 32 := 8#32
  let c0_i32_4294 : BitVec 32 := 0#32
  let v4588 : BitVec 1 := Scalar.cmpi .eq c8_i32_4293 c0_i32_4294
  let c1_i32_4295 : BitVec 32 := 1#32
  let v4589 : BitVec 32 := Scalar.select v4588 c1_i32_4295 c8_i32_4293
  let v4590 : BitVec 32 := Scalar.remsi v4587 v4589
  let c0_i32_4297 : BitVec 32 := 0#32
  let v4592 : BitVec 1 := Scalar.cmpi .slt v4590 c0_i32_4297
  let c0_i32_4298 : BitVec 32 := 0#32
  let v4593 : BitVec 1 := Scalar.cmpi .slt v4589 c0_i32_4298
  let v4594 : BitVec 1 := Scalar.xori v4592 v4593
  let c0_i32_4296 : BitVec 32 := 0#32
  let v4591 : BitVec 1 := Scalar.cmpi .ne v4590 c0_i32_4296
  let v4595 : BitVec 1 := Scalar.andi v4594 v4591
  let v4596 : BitVec 32 := Scalar.addi v4590 v4589
  let v4597 : BitVec 32 := Scalar.select v4595 v4596 v4590
  let c512_i32_4299 : BitVec 32 := 512#32
  let v4598 : BitVec 32 := Scalar.muli v4597 c512_i32_4299
  v4598
def k0_mult232 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4291 : BitVec 32 := 4#32
  let v4586 : BitVec 32 := Scalar.xori v2 c4_i32_4291
  let c_m1_i32_4292 : BitVec 32 := 4294967295#32
  let v4587 : BitVec 32 := Scalar.addi v4586 c_m1_i32_4292
  let c8_i32_4293 : BitVec 32 := 8#32
  let c0_i32_4294 : BitVec 32 := 0#32
  let v4588 : BitVec 1 := Scalar.cmpi .eq c8_i32_4293 c0_i32_4294
  let c1_i32_4295 : BitVec 32 := 1#32
  let v4589 : BitVec 32 := Scalar.select v4588 c1_i32_4295 c8_i32_4293
  let v4590 : BitVec 32 := Scalar.remsi v4587 v4589
  let c0_i32_4297 : BitVec 32 := 0#32
  let v4592 : BitVec 1 := Scalar.cmpi .slt v4590 c0_i32_4297
  let c0_i32_4298 : BitVec 32 := 0#32
  let v4593 : BitVec 1 := Scalar.cmpi .slt v4589 c0_i32_4298
  let v4594 : BitVec 1 := Scalar.xori v4592 v4593
  let c0_i32_4296 : BitVec 32 := 0#32
  let v4591 : BitVec 1 := Scalar.cmpi .ne v4590 c0_i32_4296
  let v4595 : BitVec 1 := Scalar.andi v4594 v4591
  let v4596 : BitVec 32 := Scalar.addi v4590 v4589
  let v4597 : BitVec 32 := Scalar.select v4595 v4596 v4590
  let c512_i32_4301 : BitVec 32 := 512#32
  let v4605 : BitVec 32 := Scalar.muli v4597 c512_i32_4301
  v4605
def k0_mult233 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_4303 : BitVec 32 := 6#32
  let v4609 : BitVec 32 := Scalar.xori v2 c6_i32_4303
  let c_m1_i32_4304 : BitVec 32 := 4294967295#32
  let v4610 : BitVec 32 := Scalar.addi v4609 c_m1_i32_4304
  let c8_i32_4305 : BitVec 32 := 8#32
  let c0_i32_4306 : BitVec 32 := 0#32
  let v4611 : BitVec 1 := Scalar.cmpi .eq c8_i32_4305 c0_i32_4306
  let c1_i32_4307 : BitVec 32 := 1#32
  let v4612 : BitVec 32 := Scalar.select v4611 c1_i32_4307 c8_i32_4305
  let v4613 : BitVec 32 := Scalar.remsi v4610 v4612
  let c0_i32_4309 : BitVec 32 := 0#32
  let v4615 : BitVec 1 := Scalar.cmpi .slt v4613 c0_i32_4309
  let c0_i32_4310 : BitVec 32 := 0#32
  let v4616 : BitVec 1 := Scalar.cmpi .slt v4612 c0_i32_4310
  let v4617 : BitVec 1 := Scalar.xori v4615 v4616
  let c0_i32_4308 : BitVec 32 := 0#32
  let v4614 : BitVec 1 := Scalar.cmpi .ne v4613 c0_i32_4308
  let v4618 : BitVec 1 := Scalar.andi v4617 v4614
  let v4619 : BitVec 32 := Scalar.addi v4613 v4612
  let v4620 : BitVec 32 := Scalar.select v4618 v4619 v4613
  let c512_i32_4311 : BitVec 32 := 512#32
  let v4621 : BitVec 32 := Scalar.muli v4620 c512_i32_4311
  v4621
def k0_mult234 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_4303 : BitVec 32 := 6#32
  let v4609 : BitVec 32 := Scalar.xori v2 c6_i32_4303
  let c_m1_i32_4304 : BitVec 32 := 4294967295#32
  let v4610 : BitVec 32 := Scalar.addi v4609 c_m1_i32_4304
  let c8_i32_4305 : BitVec 32 := 8#32
  let c0_i32_4306 : BitVec 32 := 0#32
  let v4611 : BitVec 1 := Scalar.cmpi .eq c8_i32_4305 c0_i32_4306
  let c1_i32_4307 : BitVec 32 := 1#32
  let v4612 : BitVec 32 := Scalar.select v4611 c1_i32_4307 c8_i32_4305
  let v4613 : BitVec 32 := Scalar.remsi v4610 v4612
  let c0_i32_4309 : BitVec 32 := 0#32
  let v4615 : BitVec 1 := Scalar.cmpi .slt v4613 c0_i32_4309
  let c0_i32_4310 : BitVec 32 := 0#32
  let v4616 : BitVec 1 := Scalar.cmpi .slt v4612 c0_i32_4310
  let v4617 : BitVec 1 := Scalar.xori v4615 v4616
  let c0_i32_4308 : BitVec 32 := 0#32
  let v4614 : BitVec 1 := Scalar.cmpi .ne v4613 c0_i32_4308
  let v4618 : BitVec 1 := Scalar.andi v4617 v4614
  let v4619 : BitVec 32 := Scalar.addi v4613 v4612
  let v4620 : BitVec 32 := Scalar.select v4618 v4619 v4613
  let c512_i32_4313 : BitVec 32 := 512#32
  let v4628 : BitVec 32 := Scalar.muli v4620 c512_i32_4313
  v4628
def k0_mult235 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4323 : BitVec 32 := 4#32
  let v4638 : BitVec 32 := Scalar.xori v2 c4_i32_4323
  let c1_i32_4324 : BitVec 32 := 1#32
  let v4639 : BitVec 32 := Scalar.addi v4638 c1_i32_4324
  let c8_i32_4325 : BitVec 32 := 8#32
  let c0_i32_4326 : BitVec 32 := 0#32
  let v4640 : BitVec 1 := Scalar.cmpi .eq c8_i32_4325 c0_i32_4326
  let c1_i32_4327 : BitVec 32 := 1#32
  let v4641 : BitVec 32 := Scalar.select v4640 c1_i32_4327 c8_i32_4325
  let v4642 : BitVec 32 := Scalar.remsi v4639 v4641
  let c0_i32_4329 : BitVec 32 := 0#32
  let v4644 : BitVec 1 := Scalar.cmpi .slt v4642 c0_i32_4329
  let c0_i32_4330 : BitVec 32 := 0#32
  let v4645 : BitVec 1 := Scalar.cmpi .slt v4641 c0_i32_4330
  let v4646 : BitVec 1 := Scalar.xori v4644 v4645
  let c0_i32_4328 : BitVec 32 := 0#32
  let v4643 : BitVec 1 := Scalar.cmpi .ne v4642 c0_i32_4328
  let v4647 : BitVec 1 := Scalar.andi v4646 v4643
  let v4648 : BitVec 32 := Scalar.addi v4642 v4641
  let v4649 : BitVec 32 := Scalar.select v4647 v4648 v4642
  let c512_i32_4331 : BitVec 32 := 512#32
  let v4650 : BitVec 32 := Scalar.muli v4649 c512_i32_4331
  v4650
def k0_mult236 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4323 : BitVec 32 := 4#32
  let v4638 : BitVec 32 := Scalar.xori v2 c4_i32_4323
  let c1_i32_4324 : BitVec 32 := 1#32
  let v4639 : BitVec 32 := Scalar.addi v4638 c1_i32_4324
  let c8_i32_4325 : BitVec 32 := 8#32
  let c0_i32_4326 : BitVec 32 := 0#32
  let v4640 : BitVec 1 := Scalar.cmpi .eq c8_i32_4325 c0_i32_4326
  let c1_i32_4327 : BitVec 32 := 1#32
  let v4641 : BitVec 32 := Scalar.select v4640 c1_i32_4327 c8_i32_4325
  let v4642 : BitVec 32 := Scalar.remsi v4639 v4641
  let c0_i32_4329 : BitVec 32 := 0#32
  let v4644 : BitVec 1 := Scalar.cmpi .slt v4642 c0_i32_4329
  let c0_i32_4330 : BitVec 32 := 0#32
  let v4645 : BitVec 1 := Scalar.cmpi .slt v4641 c0_i32_4330
  let v4646 : BitVec 1 := Scalar.xori v4644 v4645
  let c0_i32_4328 : BitVec 32 := 0#32
  let v4643 : BitVec 1 := Scalar.cmpi .ne v4642 c0_i32_4328
  let v4647 : BitVec 1 := Scalar.andi v4646 v4643
  let v4648 : BitVec 32 := Scalar.addi v4642 v4641
  let v4649 : BitVec 32 := Scalar.select v4647 v4648 v4642
  let c512_i32_4333 : BitVec 32 := 512#32
  let v4657 : BitVec 32 := Scalar.muli v4649 c512_i32_4333
  v4657
def k0_mult237 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_4343 : BitVec 32 := 5#32
  let v4667 : BitVec 32 := Scalar.xori v2 c5_i32_4343
  let c1_i32_4344 : BitVec 32 := 1#32
  let v4668 : BitVec 32 := Scalar.addi v4667 c1_i32_4344
  let c8_i32_4345 : BitVec 32 := 8#32
  let c0_i32_4346 : BitVec 32 := 0#32
  let v4669 : BitVec 1 := Scalar.cmpi .eq c8_i32_4345 c0_i32_4346
  let c1_i32_4347 : BitVec 32 := 1#32
  let v4670 : BitVec 32 := Scalar.select v4669 c1_i32_4347 c8_i32_4345
  let v4671 : BitVec 32 := Scalar.remsi v4668 v4670
  let c0_i32_4349 : BitVec 32 := 0#32
  let v4673 : BitVec 1 := Scalar.cmpi .slt v4671 c0_i32_4349
  let c0_i32_4350 : BitVec 32 := 0#32
  let v4674 : BitVec 1 := Scalar.cmpi .slt v4670 c0_i32_4350
  let v4675 : BitVec 1 := Scalar.xori v4673 v4674
  let c0_i32_4348 : BitVec 32 := 0#32
  let v4672 : BitVec 1 := Scalar.cmpi .ne v4671 c0_i32_4348
  let v4676 : BitVec 1 := Scalar.andi v4675 v4672
  let v4677 : BitVec 32 := Scalar.addi v4671 v4670
  let v4678 : BitVec 32 := Scalar.select v4676 v4677 v4671
  let c512_i32_4351 : BitVec 32 := 512#32
  let v4679 : BitVec 32 := Scalar.muli v4678 c512_i32_4351
  v4679
def k0_mult238 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_4343 : BitVec 32 := 5#32
  let v4667 : BitVec 32 := Scalar.xori v2 c5_i32_4343
  let c1_i32_4344 : BitVec 32 := 1#32
  let v4668 : BitVec 32 := Scalar.addi v4667 c1_i32_4344
  let c8_i32_4345 : BitVec 32 := 8#32
  let c0_i32_4346 : BitVec 32 := 0#32
  let v4669 : BitVec 1 := Scalar.cmpi .eq c8_i32_4345 c0_i32_4346
  let c1_i32_4347 : BitVec 32 := 1#32
  let v4670 : BitVec 32 := Scalar.select v4669 c1_i32_4347 c8_i32_4345
  let v4671 : BitVec 32 := Scalar.remsi v4668 v4670
  let c0_i32_4349 : BitVec 32 := 0#32
  let v4673 : BitVec 1 := Scalar.cmpi .slt v4671 c0_i32_4349
  let c0_i32_4350 : BitVec 32 := 0#32
  let v4674 : BitVec 1 := Scalar.cmpi .slt v4670 c0_i32_4350
  let v4675 : BitVec 1 := Scalar.xori v4673 v4674
  let c0_i32_4348 : BitVec 32 := 0#32
  let v4672 : BitVec 1 := Scalar.cmpi .ne v4671 c0_i32_4348
  let v4676 : BitVec 1 := Scalar.andi v4675 v4672
  let v4677 : BitVec 32 := Scalar.addi v4671 v4670
  let v4678 : BitVec 32 := Scalar.select v4676 v4677 v4671
  let c512_i32_4353 : BitVec 32 := 512#32
  let v4686 : BitVec 32 := Scalar.muli v4678 c512_i32_4353
  v4686
def k0_mult239 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_4363 : BitVec 32 := 6#32
  let v4696 : BitVec 32 := Scalar.xori v2 c6_i32_4363
  let c1_i32_4364 : BitVec 32 := 1#32
  let v4697 : BitVec 32 := Scalar.addi v4696 c1_i32_4364
  let c8_i32_4365 : BitVec 32 := 8#32
  let c0_i32_4366 : BitVec 32 := 0#32
  let v4698 : BitVec 1 := Scalar.cmpi .eq c8_i32_4365 c0_i32_4366
  let c1_i32_4367 : BitVec 32 := 1#32
  let v4699 : BitVec 32 := Scalar.select v4698 c1_i32_4367 c8_i32_4365
  let v4700 : BitVec 32 := Scalar.remsi v4697 v4699
  let c0_i32_4369 : BitVec 32 := 0#32
  let v4702 : BitVec 1 := Scalar.cmpi .slt v4700 c0_i32_4369
  let c0_i32_4370 : BitVec 32 := 0#32
  let v4703 : BitVec 1 := Scalar.cmpi .slt v4699 c0_i32_4370
  let v4704 : BitVec 1 := Scalar.xori v4702 v4703
  let c0_i32_4368 : BitVec 32 := 0#32
  let v4701 : BitVec 1 := Scalar.cmpi .ne v4700 c0_i32_4368
  let v4705 : BitVec 1 := Scalar.andi v4704 v4701
  let v4706 : BitVec 32 := Scalar.addi v4700 v4699
  let v4707 : BitVec 32 := Scalar.select v4705 v4706 v4700
  let c512_i32_4371 : BitVec 32 := 512#32
  let v4708 : BitVec 32 := Scalar.muli v4707 c512_i32_4371
  v4708
def k0_mult240 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_4363 : BitVec 32 := 6#32
  let v4696 : BitVec 32 := Scalar.xori v2 c6_i32_4363
  let c1_i32_4364 : BitVec 32 := 1#32
  let v4697 : BitVec 32 := Scalar.addi v4696 c1_i32_4364
  let c8_i32_4365 : BitVec 32 := 8#32
  let c0_i32_4366 : BitVec 32 := 0#32
  let v4698 : BitVec 1 := Scalar.cmpi .eq c8_i32_4365 c0_i32_4366
  let c1_i32_4367 : BitVec 32 := 1#32
  let v4699 : BitVec 32 := Scalar.select v4698 c1_i32_4367 c8_i32_4365
  let v4700 : BitVec 32 := Scalar.remsi v4697 v4699
  let c0_i32_4369 : BitVec 32 := 0#32
  let v4702 : BitVec 1 := Scalar.cmpi .slt v4700 c0_i32_4369
  let c0_i32_4370 : BitVec 32 := 0#32
  let v4703 : BitVec 1 := Scalar.cmpi .slt v4699 c0_i32_4370
  let v4704 : BitVec 1 := Scalar.xori v4702 v4703
  let c0_i32_4368 : BitVec 32 := 0#32
  let v4701 : BitVec 1 := Scalar.cmpi .ne v4700 c0_i32_4368
  let v4705 : BitVec 1 := Scalar.andi v4704 v4701
  let v4706 : BitVec 32 := Scalar.addi v4700 v4699
  let v4707 : BitVec 32 := Scalar.select v4705 v4706 v4700
  let c512_i32_4373 : BitVec 32 := 512#32
  let v4715 : BitVec 32 := Scalar.muli v4707 c512_i32_4373
  v4715
def k0_mult241 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_4383 : BitVec 32 := 7#32
  let v4725 : BitVec 32 := Scalar.xori v2 c7_i32_4383
  let c1_i32_4384 : BitVec 32 := 1#32
  let v4726 : BitVec 32 := Scalar.addi v4725 c1_i32_4384
  let c8_i32_4385 : BitVec 32 := 8#32
  let c0_i32_4386 : BitVec 32 := 0#32
  let v4727 : BitVec 1 := Scalar.cmpi .eq c8_i32_4385 c0_i32_4386
  let c1_i32_4387 : BitVec 32 := 1#32
  let v4728 : BitVec 32 := Scalar.select v4727 c1_i32_4387 c8_i32_4385
  let v4729 : BitVec 32 := Scalar.remsi v4726 v4728
  let c0_i32_4389 : BitVec 32 := 0#32
  let v4731 : BitVec 1 := Scalar.cmpi .slt v4729 c0_i32_4389
  let c0_i32_4390 : BitVec 32 := 0#32
  let v4732 : BitVec 1 := Scalar.cmpi .slt v4728 c0_i32_4390
  let v4733 : BitVec 1 := Scalar.xori v4731 v4732
  let c0_i32_4388 : BitVec 32 := 0#32
  let v4730 : BitVec 1 := Scalar.cmpi .ne v4729 c0_i32_4388
  let v4734 : BitVec 1 := Scalar.andi v4733 v4730
  let v4735 : BitVec 32 := Scalar.addi v4729 v4728
  let v4736 : BitVec 32 := Scalar.select v4734 v4735 v4729
  let c512_i32_4391 : BitVec 32 := 512#32
  let v4737 : BitVec 32 := Scalar.muli v4736 c512_i32_4391
  v4737
def k0_mult242 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_4383 : BitVec 32 := 7#32
  let v4725 : BitVec 32 := Scalar.xori v2 c7_i32_4383
  let c1_i32_4384 : BitVec 32 := 1#32
  let v4726 : BitVec 32 := Scalar.addi v4725 c1_i32_4384
  let c8_i32_4385 : BitVec 32 := 8#32
  let c0_i32_4386 : BitVec 32 := 0#32
  let v4727 : BitVec 1 := Scalar.cmpi .eq c8_i32_4385 c0_i32_4386
  let c1_i32_4387 : BitVec 32 := 1#32
  let v4728 : BitVec 32 := Scalar.select v4727 c1_i32_4387 c8_i32_4385
  let v4729 : BitVec 32 := Scalar.remsi v4726 v4728
  let c0_i32_4389 : BitVec 32 := 0#32
  let v4731 : BitVec 1 := Scalar.cmpi .slt v4729 c0_i32_4389
  let c0_i32_4390 : BitVec 32 := 0#32
  let v4732 : BitVec 1 := Scalar.cmpi .slt v4728 c0_i32_4390
  let v4733 : BitVec 1 := Scalar.xori v4731 v4732
  let c0_i32_4388 : BitVec 32 := 0#32
  let v4730 : BitVec 1 := Scalar.cmpi .ne v4729 c0_i32_4388
  let v4734 : BitVec 1 := Scalar.andi v4733 v4730
  let v4735 : BitVec 32 := Scalar.addi v4729 v4728
  let v4736 : BitVec 32 := Scalar.select v4734 v4735 v4729
  let c512_i32_4393 : BitVec 32 := 512#32
  let v4744 : BitVec 32 := Scalar.muli v4736 c512_i32_4393
  v4744
def k0_mult243 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4403 : BitVec 32 := 1#32
  let v4754 : BitVec 32 := Scalar.xori v2 c1_i32_4403
  let c_m1_i32_4404 : BitVec 32 := 4294967295#32
  let v4755 : BitVec 32 := Scalar.addi v4754 c_m1_i32_4404
  let c8_i32_4405 : BitVec 32 := 8#32
  let c0_i32_4406 : BitVec 32 := 0#32
  let v4756 : BitVec 1 := Scalar.cmpi .eq c8_i32_4405 c0_i32_4406
  let c1_i32_4407 : BitVec 32 := 1#32
  let v4757 : BitVec 32 := Scalar.select v4756 c1_i32_4407 c8_i32_4405
  let v4758 : BitVec 32 := Scalar.remsi v4755 v4757
  let c0_i32_4409 : BitVec 32 := 0#32
  let v4760 : BitVec 1 := Scalar.cmpi .slt v4758 c0_i32_4409
  let c0_i32_4410 : BitVec 32 := 0#32
  let v4761 : BitVec 1 := Scalar.cmpi .slt v4757 c0_i32_4410
  let v4762 : BitVec 1 := Scalar.xori v4760 v4761
  let c0_i32_4408 : BitVec 32 := 0#32
  let v4759 : BitVec 1 := Scalar.cmpi .ne v4758 c0_i32_4408
  let v4763 : BitVec 1 := Scalar.andi v4762 v4759
  let v4764 : BitVec 32 := Scalar.addi v4758 v4757
  let v4765 : BitVec 32 := Scalar.select v4763 v4764 v4758
  let c512_i32_4411 : BitVec 32 := 512#32
  let v4766 : BitVec 32 := Scalar.muli v4765 c512_i32_4411
  v4766
def k0_mult244 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4403 : BitVec 32 := 1#32
  let v4754 : BitVec 32 := Scalar.xori v2 c1_i32_4403
  let c_m1_i32_4404 : BitVec 32 := 4294967295#32
  let v4755 : BitVec 32 := Scalar.addi v4754 c_m1_i32_4404
  let c8_i32_4405 : BitVec 32 := 8#32
  let c0_i32_4406 : BitVec 32 := 0#32
  let v4756 : BitVec 1 := Scalar.cmpi .eq c8_i32_4405 c0_i32_4406
  let c1_i32_4407 : BitVec 32 := 1#32
  let v4757 : BitVec 32 := Scalar.select v4756 c1_i32_4407 c8_i32_4405
  let v4758 : BitVec 32 := Scalar.remsi v4755 v4757
  let c0_i32_4409 : BitVec 32 := 0#32
  let v4760 : BitVec 1 := Scalar.cmpi .slt v4758 c0_i32_4409
  let c0_i32_4410 : BitVec 32 := 0#32
  let v4761 : BitVec 1 := Scalar.cmpi .slt v4757 c0_i32_4410
  let v4762 : BitVec 1 := Scalar.xori v4760 v4761
  let c0_i32_4408 : BitVec 32 := 0#32
  let v4759 : BitVec 1 := Scalar.cmpi .ne v4758 c0_i32_4408
  let v4763 : BitVec 1 := Scalar.andi v4762 v4759
  let v4764 : BitVec 32 := Scalar.addi v4758 v4757
  let v4765 : BitVec 32 := Scalar.select v4763 v4764 v4758
  let c512_i32_4413 : BitVec 32 := 512#32
  let v4773 : BitVec 32 := Scalar.muli v4765 c512_i32_4413
  v4773
def k0_mult245 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4423 : BitVec 32 := 3#32
  let v4783 : BitVec 32 := Scalar.xori v2 c3_i32_4423
  let c_m1_i32_4424 : BitVec 32 := 4294967295#32
  let v4784 : BitVec 32 := Scalar.addi v4783 c_m1_i32_4424
  let c8_i32_4425 : BitVec 32 := 8#32
  let c0_i32_4426 : BitVec 32 := 0#32
  let v4785 : BitVec 1 := Scalar.cmpi .eq c8_i32_4425 c0_i32_4426
  let c1_i32_4427 : BitVec 32 := 1#32
  let v4786 : BitVec 32 := Scalar.select v4785 c1_i32_4427 c8_i32_4425
  let v4787 : BitVec 32 := Scalar.remsi v4784 v4786
  let c0_i32_4429 : BitVec 32 := 0#32
  let v4789 : BitVec 1 := Scalar.cmpi .slt v4787 c0_i32_4429
  let c0_i32_4430 : BitVec 32 := 0#32
  let v4790 : BitVec 1 := Scalar.cmpi .slt v4786 c0_i32_4430
  let v4791 : BitVec 1 := Scalar.xori v4789 v4790
  let c0_i32_4428 : BitVec 32 := 0#32
  let v4788 : BitVec 1 := Scalar.cmpi .ne v4787 c0_i32_4428
  let v4792 : BitVec 1 := Scalar.andi v4791 v4788
  let v4793 : BitVec 32 := Scalar.addi v4787 v4786
  let v4794 : BitVec 32 := Scalar.select v4792 v4793 v4787
  let c512_i32_4431 : BitVec 32 := 512#32
  let v4795 : BitVec 32 := Scalar.muli v4794 c512_i32_4431
  v4795
def k0_mult246 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_4423 : BitVec 32 := 3#32
  let v4783 : BitVec 32 := Scalar.xori v2 c3_i32_4423
  let c_m1_i32_4424 : BitVec 32 := 4294967295#32
  let v4784 : BitVec 32 := Scalar.addi v4783 c_m1_i32_4424
  let c8_i32_4425 : BitVec 32 := 8#32
  let c0_i32_4426 : BitVec 32 := 0#32
  let v4785 : BitVec 1 := Scalar.cmpi .eq c8_i32_4425 c0_i32_4426
  let c1_i32_4427 : BitVec 32 := 1#32
  let v4786 : BitVec 32 := Scalar.select v4785 c1_i32_4427 c8_i32_4425
  let v4787 : BitVec 32 := Scalar.remsi v4784 v4786
  let c0_i32_4429 : BitVec 32 := 0#32
  let v4789 : BitVec 1 := Scalar.cmpi .slt v4787 c0_i32_4429
  let c0_i32_4430 : BitVec 32 := 0#32
  let v4790 : BitVec 1 := Scalar.cmpi .slt v4786 c0_i32_4430
  let v4791 : BitVec 1 := Scalar.xori v4789 v4790
  let c0_i32_4428 : BitVec 32 := 0#32
  let v4788 : BitVec 1 := Scalar.cmpi .ne v4787 c0_i32_4428
  let v4792 : BitVec 1 := Scalar.andi v4791 v4788
  let v4793 : BitVec 32 := Scalar.addi v4787 v4786
  let v4794 : BitVec 32 := Scalar.select v4792 v4793 v4787
  let c512_i32_4433 : BitVec 32 := 512#32
  let v4802 : BitVec 32 := Scalar.muli v4794 c512_i32_4433
  v4802
def k0_mult247 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_4443 : BitVec 32 := 5#32
  let v4812 : BitVec 32 := Scalar.xori v2 c5_i32_4443
  let c_m1_i32_4444 : BitVec 32 := 4294967295#32
  let v4813 : BitVec 32 := Scalar.addi v4812 c_m1_i32_4444
  let c8_i32_4445 : BitVec 32 := 8#32
  let c0_i32_4446 : BitVec 32 := 0#32
  let v4814 : BitVec 1 := Scalar.cmpi .eq c8_i32_4445 c0_i32_4446
  let c1_i32_4447 : BitVec 32 := 1#32
  let v4815 : BitVec 32 := Scalar.select v4814 c1_i32_4447 c8_i32_4445
  let v4816 : BitVec 32 := Scalar.remsi v4813 v4815
  let c0_i32_4449 : BitVec 32 := 0#32
  let v4818 : BitVec 1 := Scalar.cmpi .slt v4816 c0_i32_4449
  let c0_i32_4450 : BitVec 32 := 0#32
  let v4819 : BitVec 1 := Scalar.cmpi .slt v4815 c0_i32_4450
  let v4820 : BitVec 1 := Scalar.xori v4818 v4819
  let c0_i32_4448 : BitVec 32 := 0#32
  let v4817 : BitVec 1 := Scalar.cmpi .ne v4816 c0_i32_4448
  let v4821 : BitVec 1 := Scalar.andi v4820 v4817
  let v4822 : BitVec 32 := Scalar.addi v4816 v4815
  let v4823 : BitVec 32 := Scalar.select v4821 v4822 v4816
  let c512_i32_4451 : BitVec 32 := 512#32
  let v4824 : BitVec 32 := Scalar.muli v4823 c512_i32_4451
  v4824
def k0_mult248 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_4443 : BitVec 32 := 5#32
  let v4812 : BitVec 32 := Scalar.xori v2 c5_i32_4443
  let c_m1_i32_4444 : BitVec 32 := 4294967295#32
  let v4813 : BitVec 32 := Scalar.addi v4812 c_m1_i32_4444
  let c8_i32_4445 : BitVec 32 := 8#32
  let c0_i32_4446 : BitVec 32 := 0#32
  let v4814 : BitVec 1 := Scalar.cmpi .eq c8_i32_4445 c0_i32_4446
  let c1_i32_4447 : BitVec 32 := 1#32
  let v4815 : BitVec 32 := Scalar.select v4814 c1_i32_4447 c8_i32_4445
  let v4816 : BitVec 32 := Scalar.remsi v4813 v4815
  let c0_i32_4449 : BitVec 32 := 0#32
  let v4818 : BitVec 1 := Scalar.cmpi .slt v4816 c0_i32_4449
  let c0_i32_4450 : BitVec 32 := 0#32
  let v4819 : BitVec 1 := Scalar.cmpi .slt v4815 c0_i32_4450
  let v4820 : BitVec 1 := Scalar.xori v4818 v4819
  let c0_i32_4448 : BitVec 32 := 0#32
  let v4817 : BitVec 1 := Scalar.cmpi .ne v4816 c0_i32_4448
  let v4821 : BitVec 1 := Scalar.andi v4820 v4817
  let v4822 : BitVec 32 := Scalar.addi v4816 v4815
  let v4823 : BitVec 32 := Scalar.select v4821 v4822 v4816
  let c512_i32_4453 : BitVec 32 := 512#32
  let v4831 : BitVec 32 := Scalar.muli v4823 c512_i32_4453
  v4831
def k0_mult249 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_4463 : BitVec 32 := 7#32
  let v4841 : BitVec 32 := Scalar.xori v2 c7_i32_4463
  let c_m1_i32_4464 : BitVec 32 := 4294967295#32
  let v4842 : BitVec 32 := Scalar.addi v4841 c_m1_i32_4464
  let c8_i32_4465 : BitVec 32 := 8#32
  let c0_i32_4466 : BitVec 32 := 0#32
  let v4843 : BitVec 1 := Scalar.cmpi .eq c8_i32_4465 c0_i32_4466
  let c1_i32_4467 : BitVec 32 := 1#32
  let v4844 : BitVec 32 := Scalar.select v4843 c1_i32_4467 c8_i32_4465
  let v4845 : BitVec 32 := Scalar.remsi v4842 v4844
  let c0_i32_4469 : BitVec 32 := 0#32
  let v4847 : BitVec 1 := Scalar.cmpi .slt v4845 c0_i32_4469
  let c0_i32_4470 : BitVec 32 := 0#32
  let v4848 : BitVec 1 := Scalar.cmpi .slt v4844 c0_i32_4470
  let v4849 : BitVec 1 := Scalar.xori v4847 v4848
  let c0_i32_4468 : BitVec 32 := 0#32
  let v4846 : BitVec 1 := Scalar.cmpi .ne v4845 c0_i32_4468
  let v4850 : BitVec 1 := Scalar.andi v4849 v4846
  let v4851 : BitVec 32 := Scalar.addi v4845 v4844
  let v4852 : BitVec 32 := Scalar.select v4850 v4851 v4845
  let c512_i32_4471 : BitVec 32 := 512#32
  let v4853 : BitVec 32 := Scalar.muli v4852 c512_i32_4471
  v4853
def k0_mult250 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_4463 : BitVec 32 := 7#32
  let v4841 : BitVec 32 := Scalar.xori v2 c7_i32_4463
  let c_m1_i32_4464 : BitVec 32 := 4294967295#32
  let v4842 : BitVec 32 := Scalar.addi v4841 c_m1_i32_4464
  let c8_i32_4465 : BitVec 32 := 8#32
  let c0_i32_4466 : BitVec 32 := 0#32
  let v4843 : BitVec 1 := Scalar.cmpi .eq c8_i32_4465 c0_i32_4466
  let c1_i32_4467 : BitVec 32 := 1#32
  let v4844 : BitVec 32 := Scalar.select v4843 c1_i32_4467 c8_i32_4465
  let v4845 : BitVec 32 := Scalar.remsi v4842 v4844
  let c0_i32_4469 : BitVec 32 := 0#32
  let v4847 : BitVec 1 := Scalar.cmpi .slt v4845 c0_i32_4469
  let c0_i32_4470 : BitVec 32 := 0#32
  let v4848 : BitVec 1 := Scalar.cmpi .slt v4844 c0_i32_4470
  let v4849 : BitVec 1 := Scalar.xori v4847 v4848
  let c0_i32_4468 : BitVec 32 := 0#32
  let v4846 : BitVec 1 := Scalar.cmpi .ne v4845 c0_i32_4468
  let v4850 : BitVec 1 := Scalar.andi v4849 v4846
  let v4851 : BitVec 32 := Scalar.addi v4845 v4844
  let v4852 : BitVec 32 := Scalar.select v4850 v4851 v4845
  let c512_i32_4473 : BitVec 32 := 512#32
  let v4860 : BitVec 32 := Scalar.muli v4852 c512_i32_4473
  v4860
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Proof.K.Cells.lean ====
module

public import proofs.«01_k».proof.Proof.Gen.KernelIdeal.Skeleton
public import Idealize.ShloMosaic.Lib.Pipeline.Launch
public import Idealize.ShloMosaic.Lib.Pipeline.Kit
public import Idealize.ShloMosaic.Lib.Tactic

/-!
# The semaphore cells, the dues and their order

Eight devices. A lane `j` of the reduce-scatter is a direction (`j % 2`: `0` travels to the right, `1` to the left)
and a column group (`j / 2`). Every cell of the protocol has an index in `Kn`, every due of a device an index in `Ob`;
`ord` is the place of a due in the order in which the kernel pays them.
-/

@[expose] public section

noncomputable section

namespace K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The chunk a device meets after `i` steps in direction `X`. -/
def ch (X : ℕ) (i : ℕ) (c : Dev nD) : Dev nD := ⟨(c.val + (if X = 0 then 7 else 1) * i) % 8, Nat.mod_lt _ (by decide)⟩

/-- The device a lane of direction `X` sends to. -/
def tgt (X : ℕ) (c : Dev nD) : Dev nD := ch X 7 c
/-- The device a lane of direction `X` receives from. -/
def up (X : ℕ) (c : Dev nD) : Dev nD := ch X 1 c

theorem tgt_up (X : Fin 2) (c : Dev nD) : tgt X.val (up X.val c) = c := by revert X c; decide +kernel
theorem up_tgt (X : Fin 2) (c : Dev nD) : up X.val (tgt X.val c) = c := by revert X c; decide +kernel

/-- The direction of a lane. -/
abbrev lx (j : Fin 8) : ℕ := j.val % 2
/-- The column group of a lane. -/
abbrev lg (j : Fin 8) : ℕ := j.val / 2

theorem tgt_up_l (j : Fin 8) (c : Dev nD) : tgt (lx j) (up (lx j) c) = c := by revert j c; decide +kernel
theorem up_tgt_l (j : Fin 8) (c : Dev nD) : up (lx j) (tgt (lx j) c) = c := by revert j c; decide +kernel

/-! ## The all-gather's transfers, in the order in which they are issued -/

/-- The direction of transfer `e`. -/
def agX (e : Fin 14) : Fin 2 := ![0, 1, 0, 0, 1, 1, 0, 0, 0, 0, 1, 1, 1, 1] e
/-- The piece transfer `e` sends, by its distance from the sender. -/
def agS (e : Fin 14) : Fin 8 := ![0, 0, 0, 1, 0, 2, 0, 1, 2, 3, 0, 2, 4, 6] e
/-- The same piece, by its distance from the receiver. -/
def agD (e : Fin 14) : Fin 8 := ![1, 2, 2, 3, 4, 6, 4, 5, 6, 7, 1, 3, 5, 7] e
/-- The distance of the two. -/
def agW (e : Fin 14) : Fin 8 := ![1, 2, 2, 2, 4, 4, 4, 4, 4, 4, 1, 1, 1, 1] e
/-- The semaphore cell of transfer `e` in its array. -/
def agC (e : Fin 14) : ℕ := ![0, 0, 4, 5, 4, 5, 8, 9, 10, 11, 8, 9, 10, 11] e

/-- Bitwise exclusive or of two devices. -/
def xr (c : Dev nD) (s : Fin 8) : Dev nD := ⟨(c.val ^^^ s.val) % 8, Nat.mod_lt _ (by decide)⟩

theorem xr_xr (c : Dev nD) (s : Fin 8) : xr (xr c s) s = c := by revert c s; decide +kernel

/-- The chunk of piece `s` of direction `X`. -/
def hc (X : Fin 2) (s : Fin 8) (c : Dev nD) : Dev nD := ch X.val 7 (xr c s)

theorem hc_src (e : Fin 14) (c : Dev nD) : hc (agX e) (agD e) (xr c (agW e)) = hc (agX e) (agS e) c := by
  revert e c; decide +kernel

/-! ## Cells -/

/-- The cells of one device: the barrier's; the reduce-scatter's (send, receive, credit; slot; lane); the maximum's
    (send, receive; distance less one); the all-gather's (send, receive; transfer). -/
abbrev Kn := Unit ⊕ (Fin 3 × Fin 2 × Fin 8) ⊕ (Fin 2 × Fin 7) ⊕ (Fin 2 × Fin 14)

/-- A DMA semaphore by number. -/
def dm (n : ℕ) : SemLoc sig := .dma (⟨n % 99, Nat.mod_lt _ (by decide)⟩ : Fin 99)
/-- A regular semaphore by number. -/
def rg (n : ℕ) : SemLoc sig := .reg (⟨n % 17, Nat.mod_lt _ (by decide)⟩ : Fin 17)

/-- The semaphore of a cell. -/
def semOf : Kn → SemLoc sig
  | .inl _ => rg 16
  | .inr (.inl (w, s, j)) =>
      if w = 0 then dm ((if j.val % 2 = 0 then 3 else 19) + 4 * s.val + j.val / 2)
      else if w = 1 then dm ((if j.val % 2 = 0 then 11 else 27) + 4 * s.val + j.val / 2)
      else rg ((if j.val % 2 = 0 then 0 else 8) + 4 * s.val + j.val / 2)
  | .inr (.inr (.inl (w, o))) => dm ((if w = 0 then 83 else 91) + o.val + 1)
  | .inr (.inr (.inr (w, e))) =>
      dm ((if w = 0 then (if (agX e) = 0 then 35 else 59) else (if (agX e) = 0 then 47 else 71)) + agC e)

set_option synthInstance.maxSize 10000 in
set_option synthInstance.maxHeartbeats 400000 in
theorem semOf_inj : Function.Injective semOf := by
  have h : ∀ p : Kn × Kn, semOf p.1 = semOf p.2 → p.1 = p.2 := by decide +kernel
  exact fun a b => h (a, b)

/-- A device's cell. -/
def cell (c : Dev nD) (k : Kn) : GSem nD τ sig := ((c.tc : Thread nD τ), semOf k)

theorem cell_inj : Function.Injective fun p : Dev nD × Kn => cell p.1 p.2 := by
  rintro ⟨c, k⟩ ⟨c', k'⟩ h
  have h1 := congrArg Prod.fst h
  have h2 : semOf k = semOf k' := congrArg Prod.snd h
  have h3 : c = c' := congrArg Prod.fst h1
  rw [h3, semOf_inj h2]

/-- The device and index of a cell. -/
def dec : GSem nD τ sig → Option (Dev nD × Kn) := Function.partialInv fun p : Dev nD × Kn => cell p.1 p.2

theorem dec_cell (c : Dev nD) (k : Kn) : dec (cell c k) = some (c, k) :=
  Function.partialInv_left cell_inj (c, k)

theorem dec_some {g : GSem nD τ sig} {c : Dev nD} {k : Kn} (h : dec g = some (c, k)) : g = cell c k :=
  ((Function.partialInv_of_injective cell_inj (c, k) g).mp h).symm

/-- The barrier's cell. -/
abbrev kB : Kn := .inl ()
/-- A reduce-scatter cell. -/
abbrev kR (w : Fin 3) (s : Fin 2) (j : Fin 8) : Kn := .inr (.inl (w, s, j))
/-- A cell of the maximum's exchange. -/
abbrev kM (w : Fin 2) (o : Fin 7) : Kn := .inr (.inr (.inl (w, o)))
/-- A cell of the all-gather. -/
abbrev kG (w : Fin 2) (e : Fin 14) : Kn := .inr (.inr (.inr (w, e)))

/-- The slot of a hop. -/
def sl (h : ℕ) : Fin 2 := ⟨h % 2, Nat.mod_lt _ (by decide)⟩

/-! ## Dues -/

/-- What a device owes: two barrier signals; the arrival of a hop of a lane; the credit of a hop of a lane; the arrival
    of its maximum at distance `o + 1`; the arrival of an all-gather transfer. -/
abbrev Ob := Fin 2 ⊕ (Fin 7 × Fin 8) ⊕ (Fin 7 × Fin 8) ⊕ Fin 7 ⊕ Fin 14

abbrev oB (X : Fin 2) : Ob := .inl X
abbrev oR (h : Fin 7) (j : Fin 8) : Ob := .inr (.inl (h, j))
abbrev oC (h : Fin 7) (j : Fin 8) : Ob := .inr (.inr (.inl (h, j)))
abbrev oM (o : Fin 7) : Ob := .inr (.inr (.inr (.inl o)))
abbrev oG (e : Fin 14) : Ob := .inr (.inr (.inr (.inr e)))

/-- The cell a due is paid on. -/
def obK : Ob → Kn
  | .inl _ => kB
  | .inr (.inl (h, j)) => kR 1 (sl h) j
  | .inr (.inr (.inl (h, j))) => kR 2 (sl h) j
  | .inr (.inr (.inr (.inl o))) => kM 1 o
  | .inr (.inr (.inr (.inr e))) => kG 1 e

/-- The round of the cell a due belongs to. -/
def obR : Ob → ℕ
  | .inr (.inl (h, _)) => h.val / 2
  | .inr (.inr (.inl (h, _))) => h.val / 2
  | _ => 0

/-- The duty's name in its round: the two barrier signals have one each. -/
def obD : Ob → Bool
  | .inl X => X = 1
  | _ => false

/-- The device at distance `o + 1`. -/
def am (o : ℕ) (c : Dev nD) : Dev nD := ⟨(c.val + o + 1) % 8, Nat.mod_lt _ (by decide)⟩
/-- The device whose maximum arrives over the distance `o + 1`. -/
def ma (o : ℕ) (c : Dev nD) : Dev nD := ⟨(c.val + 7 * (o + 1)) % 8, Nat.mod_lt _ (by decide)⟩

/-- The device a due is paid to. -/
def obT (c : Dev nD) : Ob → Dev nD
  | .inl X => up X c
  | .inr (.inl (_, j)) => tgt (lx j) c
  | .inr (.inr (.inl (_, j))) => up (lx j) c
  | .inr (.inr (.inr (.inl o))) => am o c
  | .inr (.inr (.inr (.inr e))) => xr c (agW e)

/-- The devices a due is paid from. -/
def obS (c : Dev nD) : Ob → Dev nD
  | .inl X => tgt X c
  | .inr (.inl (_, j)) => up (lx j) c
  | .inr (.inr (.inl (_, j))) => tgt (lx j) c
  | .inr (.inr (.inr (.inl o))) => ma o c
  | .inr (.inr (.inr (.inr e))) => xr c (agW e)

theorem obT_obS (c : Dev nD) (b : Ob) : obT (obS c b) b = c := by revert b c; decide +kernel
theorem obS_obT (c : Dev nD) (b : Ob) : obS (obT c b) b = c := by revert b c; decide +kernel

/-- The units of a copy of a reduce-scatter piece, of a row of maxima, of a quantised piece. -/
abbrev nR : ℕ := 8192
abbrev nM : ℕ := RefSig.tileCredit S1x128 .f32
abbrev nG : ℕ := 16384

/-- The units of a due. -/
def obN : Ob → ℕ
  | .inr (.inl _) => nR
  | .inr (.inr (.inr (.inl _))) => nM
  | .inr (.inr (.inr (.inr _))) => nG
  | _ => 1

/-- The place of a due in the order of the program. -/
def ord : Ob → ℕ
  | .inl X => X.val
  | .inr (.inl (h, j)) => if h.val = 0 then 2 + j.val else 10 + 16 * (h.val - 1) + 2 * j.val
  | .inr (.inr (.inl (h, j))) => if h.val = 6 then 106 + j.val else 11 + 16 * h.val + 2 * j.val
  | .inr (.inr (.inr (.inl o))) => 114 + o.val
  | .inr (.inr (.inr (.inr e))) => 121 + e.val

theorem ord_inj : Function.Injective ord := by
  have h : ∀ a b : Ob, ord a = ord b → a = b := by decide +kernel
  exact fun a b => h a b

set_option synthInstance.maxSize 10000 in
set_option synthInstance.maxHeartbeats 400000 in
theorem obKD_inj : Function.Injective fun b : Ob => (obK b, obR b, obD b) := by
  have h : ∀ p : Ob × Ob, (obK p.1, obR p.1, obD p.1) = (obK p.2, obR p.2, obD p.2) → p.1 = p.2 := by decide +kernel
  exact fun a b => h (a, b)

/-- One due, as a tally. -/
def tal (c : Dev nD) (b : Ob) : CellTallies nD τ sig ℕ := tallyAt (cell (obT c b) (obK b)) (obR b) (obN b)

/-- What a device still owes when it has paid the first `n` dues. -/
def Orem (c : Dev nD) (n : ℕ) : CellTallies nD τ sig ℕ :=
  ∑ b ∈ (Finset.univ : Finset Ob).filter (fun b => n ≤ ord b), tal c b

theorem Orem_step (c : Dev nD) (b : Ob) (n : ℕ) (h : ord b = n) : Orem c n = Orem c (n + 1) + tal c b := by
  have hs : (Finset.univ : Finset Ob).filter (fun b => n ≤ ord b)
      = insert b ((Finset.univ : Finset Ob).filter (fun b => n + 1 ≤ ord b)) := by
    ext b'
    simp only [Finset.mem_filter, Finset.mem_univ, true_and, Finset.mem_insert]
    constructor
    · intro h1
      by_cases h2 : ord b' = n
      · exact Or.inl (ord_inj (h2.trans h.symm))
      · exact Or.inr (by omega)
    · rintro (rfl | h1) <;> omega
  unfold Orem
  rw [hs, Finset.sum_insert (by simp [h]), add_comm]

theorem Orem_end (c : Dev nD) : Orem c 135 = 0 := by
  unfold Orem
  rw [Finset.filter_eq_empty_iff.mpr, Finset.sum_empty]
  intro b _; revert b; decide +kernel

/-! ## Levels -/

/-- The level of a cell's round: one more than the place of the due that ends it; the cells nobody owes on are at 0. -/
def lev : Kn → ℕ → ℕ
  | .inl _, _ => 2
  | .inr (.inl (w, s, j)), r =>
      if w = 0 then 0
      else if w = 1 then (if 2 * r + s.val = 0 then 2 + j.val else 10 + 16 * (2 * r + s.val - 1) + 2 * j.val) + 1
      else (if 2 * r + s.val = 6 then 106 + j.val else 11 + 16 * (2 * r + s.val) + 2 * j.val) + 1
  | .inr (.inr (.inl (w, o))), _ => if w = 0 then 0 else 115 + o.val
  | .inr (.inr (.inr (w, e))), _ => if w = 0 then 0 else 122 + e.val

theorem lev_ob (b : Ob) : lev (obK b) (obR b) = if ord b < 2 then 2 else ord b + 1 := by revert b; decide +kernel

/-- The level of any cell. -/
def Lv (g : GSem nD τ sig) (r : ℕ) : ℕ :=
  match dec g with
  | some (_, k) => lev k r
  | none => 0

/-- The rounds of a cell that are levelled. -/
def Ls (g : GSem nD τ sig) : Finset ℕ := if g.1.2 = .tc then Finset.range 8 else ∅

theorem Ls_tc (c : Dev nD) (sm : SemLoc sig) : Ls ((c.tc : Thread nD τ), sm) = Finset.range 8 := if_pos rfl
theorem Ls_ne (g : GSem nD τ sig) (h : g.1.2 ≠ .tc) : Ls g = ∅ := if_neg h

theorem Lv_cell (c : Dev nD) (k : Kn) (r : ℕ) : Lv (cell c k) r = lev k r := by
  unfold Lv; rw [dec_cell]

theorem obR_lt (b : Ob) : obR b < 8 := by revert b; decide +kernel

/-- Every round owed after the first `n` dues lies above level `n`. -/
theorem Orem_pos {c : Dev nD} {n : ℕ} {g : GSem nD τ sig} {r : ℕ} (h : 0 < Orem c n g r) :
    ∃ b, n ≤ ord b ∧ g = cell (obT c b) (obK b) ∧ r = obR b := by
  unfold Orem at h
  rw [Finset.sum_apply, Finsupp.finset_sum_apply] at h
  obtain ⟨b, hb, hne⟩ := Finset.exists_ne_zero_of_sum_ne_zero (Nat.pos_iff_ne_zero.mp h)
  refine ⟨b, (Finset.mem_filter.mp hb).2, ?_⟩
  exact Pipeline.tallyAt_pos (Nat.pos_of_ne_zero hne)

/-- The ghost state beside the heap: the pipeline's and the rounds'. -/
abbrev UU := UR sig nD τ × URounds (GSem nD τ sig) Bool

section
variable {F : FTy → Type} [FloatOps F]

local notation "𝕄" => MT nD τ sig ℕ (Elt F) ℕ UU ℕ

/-- A wait on a round at level at most `n` is allowed once `n` dues are paid. -/
theorem mayWait (c : Dev nD) (k : Kn) (r n : ℕ) (hr : r < 8) (hl : lev k r ≤ n) (hn : lev k r < 2) :
    (levAts Ls Lv : sProp 𝕄) ⊢ MayWait (c.tc : Thread nD τ) (semOf k) r (Orem c n) := by
  refine Pipeline.mayWait_of_levAts (by rw [Ls_tc]; exact Finset.mem_range.mpr hr) fun g i hg => ?_
  obtain ⟨b, hb, rfl, rfl⟩ := Orem_pos hg
  refine ⟨by unfold cell; rw [Ls_tc]; exact Finset.mem_range.mpr (obR_lt b), ?_⟩
  have h1 := Lv_cell c k r
  unfold cell at h1
  rw [h1, Lv_cell, lev_ob]
  split <;> omega

/-- The same from the barrier's wait on. -/
theorem mayWait' (c : Dev nD) (k : Kn) (r n : ℕ) (hr : r < 8) (hl : lev k r ≤ n) (hn : 2 ≤ n) :
    (levAts Ls Lv : sProp 𝕄) ⊢ MayWait (c.tc : Thread nD τ) (semOf k) r (Orem c n) := by
  refine Pipeline.mayWait_of_levAts (by rw [Ls_tc]; exact Finset.mem_range.mpr hr) fun g i hg => ?_
  obtain ⟨b, hb, rfl, rfl⟩ := Orem_pos hg
  refine ⟨by unfold cell; rw [Ls_tc]; exact Finset.mem_range.mpr (obR_lt b), ?_⟩
  have h1 := Lv_cell c k r
  unfold cell at h1
  rw [h1, Lv_cell, lev_ob]
  split <;> omega

/-- A wait on a cell outside the protocol is always allowed. -/
theorem mayWait_else (c : Dev nD) (sm : SemLoc sig) (hs : ∀ k : Kn, semOf k ≠ sm) (r : ℕ) (hr : r < 8) (n : ℕ) :
    (levAts Ls Lv : sProp 𝕄) ⊢ MayWait (c.tc : Thread nD τ) sm r (Orem c n) := by
  refine Pipeline.mayWait_of_levAts (by rw [Ls_tc]; exact Finset.mem_range.mpr hr) fun g i hg => ?_
  obtain ⟨b, hb, rfl, rfl⟩ := Orem_pos hg
  refine ⟨by unfold cell; rw [Ls_tc]; exact Finset.mem_range.mpr (obR_lt b), ?_⟩
  have h0 : Lv ((c.tc : Thread nD τ), sm) r = 0 := by
    unfold Lv
    cases hd : dec ((c.tc : Thread nD τ), sm) with
    | none => rfl
    | some p => exact absurd (congrArg Prod.snd (dec_some (c := p.1) (k := p.2) hd)).symm (hs p.2)
  rw [h0, Lv_cell, lev_ob]
  split <;> omega

end

end K
-- ==== Proof.K.Offs.lean ====
module

public import proofs.«01_k».proof.Proof.K.Cells

/-!
# The kernel's devices and offsets in closed form
-/

@[expose] public section

noncomputable section

namespace K

open Cert.KernelIdeal Cert.KernelIdeal.Gen
open Idealize.ShloMosaic Idealize.ShloMosaic.TcCoe

theorem dv1 : ∀ c, (⟨k0_dev1 c, k0_dev1_lt c⟩ : Dev nD) = up 0 c := by decide +kernel
theorem dv2 : ∀ c, (⟨k0_dev2 c, k0_dev2_lt c⟩ : Dev nD) = up 1 c := by decide +kernel
theorem dv3 : ∀ c, (⟨k0_dev3 c, k0_dev3_lt c⟩ : Dev nD) = tgt 0 c := by decide +kernel
theorem dv4 : ∀ c, (⟨k0_dev4 c, k0_dev4_lt c⟩ : Dev nD) = tgt 1 c := by decide +kernel
theorem dv5 : ∀ c, (⟨k0_dev5 c, k0_dev5_lt c⟩ : Dev nD) = tgt 0 c := by decide +kernel
theorem dv6 : ∀ c, (⟨k0_dev6 c, k0_dev6_lt c⟩ : Dev nD) = tgt 1 c := by decide +kernel
theorem dv7 : ∀ c, (⟨k0_dev7 c, k0_dev7_lt c⟩ : Dev nD) = tgt 0 c := by decide +kernel
theorem dv8 : ∀ c, (⟨k0_dev8 c, k0_dev8_lt c⟩ : Dev nD) = tgt 1 c := by decide +kernel
theorem dv9 : ∀ c, (⟨k0_dev9 c, k0_dev9_lt c⟩ : Dev nD) = tgt 0 c := by decide +kernel
theorem dv10 : ∀ c, (⟨k0_dev10 c, k0_dev10_lt c⟩ : Dev nD) = tgt 1 c := by decide +kernel
theorem dv11 : ∀ c, (⟨k0_dev11 c, k0_dev11_lt c⟩ : Dev nD) = tgt 0 c := by decide +kernel
theorem dv12 : ∀ c, (⟨k0_dev12 c, k0_dev12_lt c⟩ : Dev nD) = up 0 c := by decide +kernel
theorem dv13 : ∀ c, (⟨k0_dev13 c, k0_dev13_lt c⟩ : Dev nD) = tgt 1 c := by decide +kernel
theorem dv14 : ∀ c, (⟨k0_dev14 c, k0_dev14_lt c⟩ : Dev nD) = up 1 c := by decide +kernel
theorem dv15 : ∀ c, (⟨k0_dev15 c, k0_dev15_lt c⟩ : Dev nD) = tgt 0 c := by decide +kernel
theorem dv16 : ∀ c, (⟨k0_dev16 c, k0_dev16_lt c⟩ : Dev nD) = up 0 c := by decide +kernel
theorem dv17 : ∀ c, (⟨k0_dev17 c, k0_dev17_lt c⟩ : Dev nD) = tgt 1 c := by decide +kernel
theorem dv18 : ∀ c, (⟨k0_dev18 c, k0_dev18_lt c⟩ : Dev nD) = up 1 c := by decide +kernel
theorem dv19 : ∀ c, (⟨k0_dev19 c, k0_dev19_lt c⟩ : Dev nD) = tgt 0 c := by decide +kernel
theorem dv20 : ∀ c, (⟨k0_dev20 c, k0_dev20_lt c⟩ : Dev nD) = up 0 c := by decide +kernel
theorem dv21 : ∀ c, (⟨k0_dev21 c, k0_dev21_lt c⟩ : Dev nD) = tgt 1 c := by decide +kernel
theorem dv22 : ∀ c, (⟨k0_dev22 c, k0_dev22_lt c⟩ : Dev nD) = up 1 c := by decide +kernel
theorem dv23 : ∀ c, (⟨k0_dev23 c, k0_dev23_lt c⟩ : Dev nD) = tgt 0 c := by decide +kernel
theorem dv24 : ∀ c, (⟨k0_dev24 c, k0_dev24_lt c⟩ : Dev nD) = up 0 c := by decide +kernel
theorem dv25 : ∀ c, (⟨k0_dev25 c, k0_dev25_lt c⟩ : Dev nD) = tgt 1 c := by decide +kernel
theorem dv26 : ∀ c, (⟨k0_dev26 c, k0_dev26_lt c⟩ : Dev nD) = up 1 c := by decide +kernel
theorem dv27 : ∀ c, (⟨k0_dev27 c, k0_dev27_lt c⟩ : Dev nD) = tgt 0 c := by decide +kernel
theorem dv28 : ∀ c, (⟨k0_dev28 c, k0_dev28_lt c⟩ : Dev nD) = up 0 c := by decide +kernel
theorem dv29 : ∀ c, (⟨k0_dev29 c, k0_dev29_lt c⟩ : Dev nD) = tgt 1 c := by decide +kernel
theorem dv30 : ∀ c, (⟨k0_dev30 c, k0_dev30_lt c⟩ : Dev nD) = up 1 c := by decide +kernel
theorem dv31 : ∀ c, (⟨k0_dev31 c, k0_dev31_lt c⟩ : Dev nD) = tgt 0 c := by decide +kernel
theorem dv32 : ∀ c, (⟨k0_dev32 c, k0_dev32_lt c⟩ : Dev nD) = up 0 c := by decide +kernel
theorem dv33 : ∀ c, (⟨k0_dev33 c, k0_dev33_lt c⟩ : Dev nD) = tgt 1 c := by decide +kernel
theorem dv34 : ∀ c, (⟨k0_dev34 c, k0_dev34_lt c⟩ : Dev nD) = up 1 c := by decide +kernel
theorem dv35 : ∀ c, (⟨k0_dev35 c, k0_dev35_lt c⟩ : Dev nD) = tgt 0 c := by decide +kernel
theorem dv36 : ∀ c, (⟨k0_dev36 c, k0_dev36_lt c⟩ : Dev nD) = up 0 c := by decide +kernel
theorem dv37 : ∀ c, (⟨k0_dev37 c, k0_dev37_lt c⟩ : Dev nD) = tgt 1 c := by decide +kernel
theorem dv38 : ∀ c, (⟨k0_dev38 c, k0_dev38_lt c⟩ : Dev nD) = up 1 c := by decide +kernel
theorem dv39 : ∀ c, (⟨k0_dev39 c, k0_dev39_lt c⟩ : Dev nD) = tgt 0 c := by decide +kernel
theorem dv40 : ∀ c, (⟨k0_dev40 c, k0_dev40_lt c⟩ : Dev nD) = up 0 c := by decide +kernel
theorem dv41 : ∀ c, (⟨k0_dev41 c, k0_dev41_lt c⟩ : Dev nD) = tgt 1 c := by decide +kernel
theorem dv42 : ∀ c, (⟨k0_dev42 c, k0_dev42_lt c⟩ : Dev nD) = up 1 c := by decide +kernel
theorem dv43 : ∀ c, (⟨k0_dev43 c, k0_dev43_lt c⟩ : Dev nD) = tgt 0 c := by decide +kernel
theorem dv44 : ∀ c, (⟨k0_dev44 c, k0_dev44_lt c⟩ : Dev nD) = up 0 c := by decide +kernel
theorem dv45 : ∀ c, (⟨k0_dev45 c, k0_dev45_lt c⟩ : Dev nD) = tgt 1 c := by decide +kernel
theorem dv46 : ∀ c, (⟨k0_dev46 c, k0_dev46_lt c⟩ : Dev nD) = up 1 c := by decide +kernel
theorem dv47 : ∀ c, (⟨k0_dev47 c, k0_dev47_lt c⟩ : Dev nD) = tgt 0 c := by decide +kernel
theorem dv48 : ∀ c, (⟨k0_dev48 c, k0_dev48_lt c⟩ : Dev nD) = up 0 c := by decide +kernel
theorem dv49 : ∀ c, (⟨k0_dev49 c, k0_dev49_lt c⟩ : Dev nD) = tgt 1 c := by decide +kernel
theorem dv50 : ∀ c, (⟨k0_dev50 c, k0_dev50_lt c⟩ : Dev nD) = up 1 c := by decide +kernel
theorem dv51 : ∀ c, (⟨k0_dev51 c, k0_dev51_lt c⟩ : Dev nD) = tgt 0 c := by decide +kernel
theorem dv52 : ∀ c, (⟨k0_dev52 c, k0_dev52_lt c⟩ : Dev nD) = up 0 c := by decide +kernel
theorem dv53 : ∀ c, (⟨k0_dev53 c, k0_dev53_lt c⟩ : Dev nD) = tgt 1 c := by decide +kernel
theorem dv54 : ∀ c, (⟨k0_dev54 c, k0_dev54_lt c⟩ : Dev nD) = up 1 c := by decide +kernel
theorem dv55 : ∀ c, (⟨k0_dev55 c, k0_dev55_lt c⟩ : Dev nD) = tgt 0 c := by decide +kernel
theorem dv56 : ∀ c, (⟨k0_dev56 c, k0_dev56_lt c⟩ : Dev nD) = up 0 c := by decide +kernel
theorem dv57 : ∀ c, (⟨k0_dev57 c, k0_dev57_lt c⟩ : Dev nD) = tgt 1 c := by decide +kernel
theorem dv58 : ∀ c, (⟨k0_dev58 c, k0_dev58_lt c⟩ : Dev nD) = up 1 c := by decide +kernel
theorem dv59 : ∀ c, (⟨k0_dev59 c, k0_dev59_lt c⟩ : Dev nD) = tgt 0 c := by decide +kernel
theorem dv60 : ∀ c, (⟨k0_dev60 c, k0_dev60_lt c⟩ : Dev nD) = up 0 c := by decide +kernel
theorem dv61 : ∀ c, (⟨k0_dev61 c, k0_dev61_lt c⟩ : Dev nD) = tgt 1 c := by decide +kernel
theorem dv62 : ∀ c, (⟨k0_dev62 c, k0_dev62_lt c⟩ : Dev nD) = up 1 c := by decide +kernel
theorem dv63 : ∀ c, (⟨k0_dev63 c, k0_dev63_lt c⟩ : Dev nD) = tgt 0 c := by decide +kernel
theorem dv64 : ∀ c, (⟨k0_dev64 c, k0_dev64_lt c⟩ : Dev nD) = up 0 c := by decide +kernel
theorem dv65 : ∀ c, (⟨k0_dev65 c, k0_dev65_lt c⟩ : Dev nD) = tgt 1 c := by decide +kernel
theorem dv66 : ∀ c, (⟨k0_dev66 c, k0_dev66_lt c⟩ : Dev nD) = up 1 c := by decide +kernel
theorem dv67 : ∀ c, (⟨k0_dev67 c, k0_dev67_lt c⟩ : Dev nD) = tgt 0 c := by decide +kernel
theorem dv68 : ∀ c, (⟨k0_dev68 c, k0_dev68_lt c⟩ : Dev nD) = up 0 c := by decide +kernel
theorem dv69 : ∀ c, (⟨k0_dev69 c, k0_dev69_lt c⟩ : Dev nD) = tgt 1 c := by decide +kernel
theorem dv70 : ∀ c, (⟨k0_dev70 c, k0_dev70_lt c⟩ : Dev nD) = up 1 c := by decide +kernel
theorem dv71 : ∀ c, (⟨k0_dev71 c, k0_dev71_lt c⟩ : Dev nD) = tgt 0 c := by decide +kernel
theorem dv72 : ∀ c, (⟨k0_dev72 c, k0_dev72_lt c⟩ : Dev nD) = up 0 c := by decide +kernel
theorem dv73 : ∀ c, (⟨k0_dev73 c, k0_dev73_lt c⟩ : Dev nD) = tgt 1 c := by decide +kernel
theorem dv74 : ∀ c, (⟨k0_dev74 c, k0_dev74_lt c⟩ : Dev nD) = up 1 c := by decide +kernel
theorem dv75 : ∀ c, (⟨k0_dev75 c, k0_dev75_lt c⟩ : Dev nD) = tgt 0 c := by decide +kernel
theorem dv76 : ∀ c, (⟨k0_dev76 c, k0_dev76_lt c⟩ : Dev nD) = up 0 c := by decide +kernel
theorem dv77 : ∀ c, (⟨k0_dev77 c, k0_dev77_lt c⟩ : Dev nD) = tgt 1 c := by decide +kernel
theorem dv78 : ∀ c, (⟨k0_dev78 c, k0_dev78_lt c⟩ : Dev nD) = up 1 c := by decide +kernel
theorem dv79 : ∀ c, (⟨k0_dev79 c, k0_dev79_lt c⟩ : Dev nD) = tgt 0 c := by decide +kernel
theorem dv80 : ∀ c, (⟨k0_dev80 c, k0_dev80_lt c⟩ : Dev nD) = up 0 c := by decide +kernel
theorem dv81 : ∀ c, (⟨k0_dev81 c, k0_dev81_lt c⟩ : Dev nD) = tgt 1 c := by decide +kernel
theorem dv82 : ∀ c, (⟨k0_dev82 c, k0_dev82_lt c⟩ : Dev nD) = up 1 c := by decide +kernel
theorem dv83 : ∀ c, (⟨k0_dev83 c, k0_dev83_lt c⟩ : Dev nD) = tgt 0 c := by decide +kernel
theorem dv84 : ∀ c, (⟨k0_dev84 c, k0_dev84_lt c⟩ : Dev nD) = up 0 c := by decide +kernel
theorem dv85 : ∀ c, (⟨k0_dev85 c, k0_dev85_lt c⟩ : Dev nD) = tgt 1 c := by decide +kernel
theorem dv86 : ∀ c, (⟨k0_dev86 c, k0_dev86_lt c⟩ : Dev nD) = up 1 c := by decide +kernel
theorem dv87 : ∀ c, (⟨k0_dev87 c, k0_dev87_lt c⟩ : Dev nD) = tgt 0 c := by decide +kernel
theorem dv88 : ∀ c, (⟨k0_dev88 c, k0_dev88_lt c⟩ : Dev nD) = up 0 c := by decide +kernel
theorem dv89 : ∀ c, (⟨k0_dev89 c, k0_dev89_lt c⟩ : Dev nD) = tgt 1 c := by decide +kernel
theorem dv90 : ∀ c, (⟨k0_dev90 c, k0_dev90_lt c⟩ : Dev nD) = up 1 c := by decide +kernel
theorem dv91 : ∀ c, (⟨k0_dev91 c, k0_dev91_lt c⟩ : Dev nD) = tgt 0 c := by decide +kernel
theorem dv92 : ∀ c, (⟨k0_dev92 c, k0_dev92_lt c⟩ : Dev nD) = up 0 c := by decide +kernel
theorem dv93 : ∀ c, (⟨k0_dev93 c, k0_dev93_lt c⟩ : Dev nD) = tgt 1 c := by decide +kernel
theorem dv94 : ∀ c, (⟨k0_dev94 c, k0_dev94_lt c⟩ : Dev nD) = up 1 c := by decide +kernel
theorem dv95 : ∀ c, (⟨k0_dev95 c, k0_dev95_lt c⟩ : Dev nD) = tgt 0 c := by decide +kernel
theorem dv96 : ∀ c, (⟨k0_dev96 c, k0_dev96_lt c⟩ : Dev nD) = up 0 c := by decide +kernel
theorem dv97 : ∀ c, (⟨k0_dev97 c, k0_dev97_lt c⟩ : Dev nD) = tgt 1 c := by decide +kernel
theorem dv98 : ∀ c, (⟨k0_dev98 c, k0_dev98_lt c⟩ : Dev nD) = up 1 c := by decide +kernel
theorem dv99 : ∀ c, (⟨k0_dev99 c, k0_dev99_lt c⟩ : Dev nD) = tgt 0 c := by decide +kernel
theorem dv100 : ∀ c, (⟨k0_dev100 c, k0_dev100_lt c⟩ : Dev nD) = up 0 c := by decide +kernel
theorem dv101 : ∀ c, (⟨k0_dev101 c, k0_dev101_lt c⟩ : Dev nD) = tgt 1 c := by decide +kernel
theorem dv102 : ∀ c, (⟨k0_dev102 c, k0_dev102_lt c⟩ : Dev nD) = up 1 c := by decide +kernel
theorem dv103 : ∀ c, (⟨k0_dev103 c, k0_dev103_lt c⟩ : Dev nD) = tgt 0 c := by decide +kernel
theorem dv104 : ∀ c, (⟨k0_dev104 c, k0_dev104_lt c⟩ : Dev nD) = up 0 c := by decide +kernel
theorem dv105 : ∀ c, (⟨k0_dev105 c, k0_dev105_lt c⟩ : Dev nD) = tgt 1 c := by decide +kernel
theorem dv106 : ∀ c, (⟨k0_dev106 c, k0_dev106_lt c⟩ : Dev nD) = up 1 c := by decide +kernel
theorem dv107 : ∀ c, (⟨k0_dev107 c, k0_dev107_lt c⟩ : Dev nD) = up 0 c := by decide +kernel
theorem dv108 : ∀ c, (⟨k0_dev108 c, k0_dev108_lt c⟩ : Dev nD) = up 1 c := by decide +kernel
theorem dv109 : ∀ c, (⟨k0_dev109 c, k0_dev109_lt c⟩ : Dev nD) = up 0 c := by decide +kernel
theorem dv110 : ∀ c, (⟨k0_dev110 c, k0_dev110_lt c⟩ : Dev nD) = up 1 c := by decide +kernel
theorem dv111 : ∀ c, (⟨k0_dev111 c, k0_dev111_lt c⟩ : Dev nD) = up 0 c := by decide +kernel
theorem dv112 : ∀ c, (⟨k0_dev112 c, k0_dev112_lt c⟩ : Dev nD) = up 1 c := by decide +kernel
theorem dv113 : ∀ c, (⟨k0_dev113 c, k0_dev113_lt c⟩ : Dev nD) = up 0 c := by decide +kernel
theorem dv114 : ∀ c, (⟨k0_dev114 c, k0_dev114_lt c⟩ : Dev nD) = up 1 c := by decide +kernel
theorem dv115 : ∀ c, (⟨k0_dev115 c, k0_dev115_lt c⟩ : Dev nD) = am 0 c := by decide +kernel
theorem dv116 : ∀ c, (⟨k0_dev116 c, k0_dev116_lt c⟩ : Dev nD) = am 1 c := by decide +kernel
theorem dv117 : ∀ c, (⟨k0_dev117 c, k0_dev117_lt c⟩ : Dev nD) = am 2 c := by decide +kernel
theorem dv118 : ∀ c, (⟨k0_dev118 c, k0_dev118_lt c⟩ : Dev nD) = am 3 c := by decide +kernel
theorem dv119 : ∀ c, (⟨k0_dev119 c, k0_dev119_lt c⟩ : Dev nD) = am 4 c := by decide +kernel
theorem dv120 : ∀ c, (⟨k0_dev120 c, k0_dev120_lt c⟩ : Dev nD) = am 5 c := by decide +kernel
theorem dv121 : ∀ c, (⟨k0_dev121 c, k0_dev121_lt c⟩ : Dev nD) = am 6 c := by decide +kernel
theorem dv122 : ∀ c, (⟨k0_dev122 c, k0_dev122_lt c⟩ : Dev nD) = xr c (agW 0) := by decide +kernel
theorem dv123 : ∀ c, (⟨k0_dev123 c, k0_dev123_lt c⟩ : Dev nD) = xr c (agW 1) := by decide +kernel
theorem dv124 : ∀ c, (⟨k0_dev124 c, k0_dev124_lt c⟩ : Dev nD) = xr c (agW 2) := by decide +kernel
theorem dv125 : ∀ c, (⟨k0_dev125 c, k0_dev125_lt c⟩ : Dev nD) = xr c (agW 3) := by decide +kernel
theorem dv126 : ∀ c, (⟨k0_dev126 c, k0_dev126_lt c⟩ : Dev nD) = xr c (agW 4) := by decide +kernel
theorem dv127 : ∀ c, (⟨k0_dev127 c, k0_dev127_lt c⟩ : Dev nD) = xr c (agW 5) := by decide +kernel
theorem dv128 : ∀ c, (⟨k0_dev128 c, k0_dev128_lt c⟩ : Dev nD) = xr c (agW 6) := by decide +kernel
theorem dv129 : ∀ c, (⟨k0_dev129 c, k0_dev129_lt c⟩ : Dev nD) = xr c (agW 7) := by decide +kernel
theorem dv130 : ∀ c, (⟨k0_dev130 c, k0_dev130_lt c⟩ : Dev nD) = xr c (agW 8) := by decide +kernel
theorem dv131 : ∀ c, (⟨k0_dev131 c, k0_dev131_lt c⟩ : Dev nD) = xr c (agW 9) := by decide +kernel
theorem dv132 : ∀ c, (⟨k0_dev132 c, k0_dev132_lt c⟩ : Dev nD) = xr c (agW 10) := by decide +kernel
theorem dv133 : ∀ c, (⟨k0_dev133 c, k0_dev133_lt c⟩ : Dev nD) = xr c (agW 11) := by decide +kernel
theorem dv134 : ∀ c, (⟨k0_dev134 c, k0_dev134_lt c⟩ : Dev nD) = xr c (agW 12) := by decide +kernel
theorem dv135 : ∀ c, (⟨k0_dev135 c, k0_dev135_lt c⟩ : Dev nD) = xr c (agW 13) := by decide +kernel
theorem of3 : ∀ c, ∀ h : Fin 7, k0_off3 c (BitVec.ofNat 32 h.val) = ![512 * (ch 0 h c).val, 0] := by decide +kernel
theorem of15 : ∀ c, ∀ h : Fin 7, k0_off15 c (BitVec.ofNat 32 h.val) = ![512 * (ch 0 (h.val + 1) c).val, 0] := by decide +kernel
theorem of4 : ∀ c, ∀ h : Fin 7, k0_off4 c (BitVec.ofNat 32 h.val) = ![512 * (ch 1 h c).val, 1024] := by decide +kernel
theorem of16 : ∀ c, ∀ h : Fin 7, k0_off16 c (BitVec.ofNat 32 h.val) = ![512 * (ch 1 (h.val + 1) c).val, 1024] := by decide +kernel
theorem of5 : ∀ c, ∀ h : Fin 7, k0_off5 c (BitVec.ofNat 32 h.val) = ![512 * (ch 0 h c).val, 256] := by decide +kernel
theorem of17 : ∀ c, ∀ h : Fin 7, k0_off17 c (BitVec.ofNat 32 h.val) = ![512 * (ch 0 (h.val + 1) c).val, 256] := by decide +kernel
theorem of6 : ∀ c, ∀ h : Fin 7, k0_off6 c (BitVec.ofNat 32 h.val) = ![512 * (ch 1 h c).val, 1280] := by decide +kernel
theorem of18 : ∀ c, ∀ h : Fin 7, k0_off18 c (BitVec.ofNat 32 h.val) = ![512 * (ch 1 (h.val + 1) c).val, 1280] := by decide +kernel
theorem of7 : ∀ c, ∀ h : Fin 7, k0_off7 c (BitVec.ofNat 32 h.val) = ![512 * (ch 0 h c).val, 512] := by decide +kernel
theorem of19 : ∀ c, ∀ h : Fin 7, k0_off19 c (BitVec.ofNat 32 h.val) = ![512 * (ch 0 (h.val + 1) c).val, 512] := by decide +kernel
theorem of8 : ∀ c, ∀ h : Fin 7, k0_off8 c (BitVec.ofNat 32 h.val) = ![512 * (ch 1 h c).val, 1536] := by decide +kernel
theorem of20 : ∀ c, ∀ h : Fin 7, k0_off20 c (BitVec.ofNat 32 h.val) = ![512 * (ch 1 (h.val + 1) c).val, 1536] := by decide +kernel
theorem of9 : ∀ c, ∀ h : Fin 7, k0_off9 c (BitVec.ofNat 32 h.val) = ![512 * (ch 0 h c).val, 768] := by decide +kernel
theorem of21 : ∀ c, ∀ h : Fin 7, k0_off21 c (BitVec.ofNat 32 h.val) = ![512 * (ch 0 (h.val + 1) c).val, 768] := by decide +kernel
theorem of10 : ∀ c, ∀ h : Fin 7, k0_off10 c (BitVec.ofNat 32 h.val) = ![512 * (ch 1 h c).val, 1792] := by decide +kernel
theorem of22 : ∀ c, ∀ h : Fin 7, k0_off22 c (BitVec.ofNat 32 h.val) = ![512 * (ch 1 (h.val + 1) c).val, 1792] := by decide +kernel
theorem of1 : ∀ c, k0_off1 c = ![512 * (ch 0 0 c).val, 0] := by decide +kernel
theorem of2 : ∀ c, k0_off2 c = ![512 * (ch 0 0 c).val, 0] := by decide +kernel
theorem of11 : ∀ c, ∀ h : Fin 3, k0_off11 c (BitVec.ofNat 32 h.val) = ![512 * (ch 0 (h.val + 1) c).val, 0] := by decide +kernel
theorem of12 : ∀ c, ∀ h : Fin 3, k0_off12 c (BitVec.ofNat 32 h.val) = ![512 * (ch 0 (h.val + 1) c).val, 0] := by decide +kernel
theorem of13 : ∀ c, ∀ h : Fin 3, k0_off13 c (BitVec.ofNat 32 h.val) = ![512 * (ch 1 (h.val + 1) c).val, 0] := by decide +kernel
theorem of14 : ∀ c, ∀ h : Fin 3, k0_off14 c (BitVec.ofNat 32 h.val) = ![512 * (ch 1 (h.val + 1) c).val, 0] := by decide +kernel
theorem of23 : ∀ c, k0_off23 c = ![512 * (ch 0 4 c).val, 0] := by decide +kernel
theorem of24 : ∀ c, k0_off24 c = ![512 * (ch 0 4 c).val, 0] := by decide +kernel
theorem of25 : ∀ c, k0_off25 c = ![512 * (hc 0 0 c).val, 0] := by decide +kernel
theorem of26 : ∀ c, k0_off26 c = ![512 * (hc 1 0 c).val, 1024] := by decide +kernel
theorem of27 : ∀ c, k0_off27 c = ![c.val, 0] := by decide +kernel
theorem of28 : ∀ c, k0_off28 c = ![c.val, 0] := by decide +kernel
theorem of29 : ∀ c, k0_off29 c = ![512 * (hc 0 0 c).val, 0] := by decide +kernel
theorem of30 : ∀ c, k0_off30 c = ![512 * (hc 1 0 c).val, 0] := by decide +kernel
theorem of31r : ∀ c, ∀ s : Fin 8, k0_off31 c (BitVec.ofNat 32 s.val) 1#32 = ![512 * (hc 0 s c).val, 0] := by decide +kernel
theorem of31l : ∀ c, ∀ s : Fin 8, k0_off31 c (BitVec.ofNat 32 s.val) 4294967295#32 = ![512 * (hc 1 s c).val, 0] := by decide +kernel
theorem of32r : ∀ c, ∀ s : Fin 8, k0_off32 c (BitVec.ofNat 32 s.val) 1#32 = ![512 * (hc 0 s c).val, 0] := by decide +kernel
theorem of32l : ∀ c, ∀ s : Fin 8, k0_off32 c (BitVec.ofNat 32 s.val) 4294967295#32 = ![512 * (hc 1 s c).val, 0] := by decide +kernel
theorem of33 : ∀ c, ∀ h : Fin 8, k0_off33 c (BitVec.ofNat 32 h.val) = ![512 * (hc 0 h c).val, 0] := by decide +kernel
theorem of34 : ∀ c, ∀ h : Fin 8, k0_off34 c (BitVec.ofNat 32 h.val) = ![512 * (hc 1 h c).val, 1024] := by decide +kernel

end K
-- ==== Proof.K.Geo.lean ====
module

public import proofs.«01_k».proof.Proof.K.Offs

/-!
# The buffers, their pieces, and the values they hold

The output buffer is cut in row chunks `i` and lanes `j`; the receive buffers of the reduce-scatter in slots; the
quantised image of one column half in row chunks. `A I h c` is what device `c`'s output buffer would hold were every
piece's `h`-th partial sum kept there.
-/

@[expose] public section

noncomputable section

namespace K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

instance neE : ∀ e, Nonempty (Elt F e)
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨(FloatOps.ofBits .fp8e4m3 0 : F .fp8e4m3)⟩ | .fp8e5m2 => ⟨(FloatOps.ofBits .fp8e5m2 0 : F .fp8e5m2)⟩
  | .bf16 => ⟨(FloatOps.ofBits .bf16 0 : F .bf16)⟩ | .f16 => ⟨(FloatOps.ofBits .f16 0 : F .f16)⟩
  | .f32 => ⟨(FloatOps.ofBits .f32 0 : F .f32)⟩

/-! ## Buffers -/

def aX : Memref sig .tc .vmem S4096x512 .bf16 := Memref.whole cc0_stg0_0
def aW : Memref sig .tc .vmem S512x2048 .bf16 := Memref.whole cc0_stg1_0
def aO : Memref sig .tc .vmem S4096x2048 .bf16 := Memref.whole cc0_stg2_0
def aC (X : ℕ) : Memref sig .tc .vmem S2x4x512x256 .bf16 :=
  match X with | 0 => Memref.whole cc0_scratch0 | _ + 1 => Memref.whole cc0_scratch1
def aQ (X : ℕ) : Memref sig .tc .vmem S4096x1024 .i8 :=
  match X with | 0 => Memref.whole cc0_scratch2 | _ + 1 => Memref.whole cc0_scratch3
def aM : Memref sig .tc .vmem S8x128 .f32 := Memref.whole cc0_scratch4

/-! ## Rectangles -/

/-- The row chunk `i` of the left operand. -/
abbrev xR (i : Fin 8) : Rect S4096x512 := Rect.unit ![512 * i.val, 0] S512x512.size
  (by intro a; have := i.isLt; fin_cases a <;> simp <;> omega)
/-- The right operand, whole. -/
abbrev wR : Rect S512x2048 := Rect.unit ![0, 0] S512x2048.size inb_S512x2048_S512x2048_0_0
/-- The row chunk `i` of the output. -/
abbrev oR' (i : Fin 8) : Rect S4096x2048 := Rect.unit ![512 * i.val, 0] S512x2048.size
  (by intro a; have := i.isLt; fin_cases a <;> simp <;> omega)
/-- Row chunk `i`, lane `j` of the output. -/
abbrev pR (i j : Fin 8) : Rect S4096x2048 := Rect.unit ![512 * i.val, 1024 * (j.val % 2) + 256 * (j.val / 2)] S512x256.size
  (by intro a; have := i.isLt; have := j.isLt; fin_cases a <;> simp <;> omega)
/-- Row chunk `i`, column half `X` of the output. -/
abbrev hR (X : Fin 2) (i : Fin 8) : Rect S4096x2048 := Rect.unit ![512 * i.val, 1024 * X.val] S512x1024.size
  (by intro a; have := i.isLt; have := X.isLt; fin_cases a <;> simp <;> omega)
/-- Row chunk `i` of a quantised half. -/
abbrev qR (i : Fin 8) : Rect S4096x1024 := Rect.unit ![512 * i.val, 0] S512x1024.size
  (by intro a; have := i.isLt; fin_cases a <;> simp <;> omega)
/-- Row `i` of the local maxima. -/
abbrev mR (i : Fin 8) : Rect S8x128 := Rect.unit ![i.val, 0] S1x128.size
  (by intro a; have := i.isLt; fin_cases a <;> simp <;> omega)
/-- Slot `s`, column group `g` of a receive buffer. -/
abbrev sR (s : Fin 2) (g : Fin 4) : Rect S2x4x512x256 := Rect.unit ![s.val, g.val, 0, 0] S1x1x512x256.size
  (by intro a; have := s.isLt; have := g.isLt; fin_cases a <;> simp <;> omega)

theorem pR_mem (i j : Fin 8) (x : S4096x2048.Idx) :
    x ∈ (pR i j).set ↔ (512 * i.val ≤ (x 0).val ∧ (x 0).val < 512 * i.val + 512)
      ∧ (1024 * (j.val % 2) + 256 * (j.val / 2) ≤ (x 1).val ∧ (x 1).val < 1024 * (j.val % 2) + 256 * (j.val / 2) + 256) := by
  rw [Rect.mem_set_unit]; exact Fin.forall_fin_two
theorem oR_mem (i : Fin 8) (x : S4096x2048.Idx) :
    x ∈ (oR' i).set ↔ (512 * i.val ≤ (x 0).val ∧ (x 0).val < 512 * i.val + 512) ∧ (0 ≤ (x 1).val ∧ (x 1).val < 0 + 2048) := by
  rw [Rect.mem_set_unit]; exact Fin.forall_fin_two
theorem hR_mem (X : Fin 2) (i : Fin 8) (x : S4096x2048.Idx) :
    x ∈ (hR X i).set ↔ (512 * i.val ≤ (x 0).val ∧ (x 0).val < 512 * i.val + 512)
      ∧ (1024 * X.val ≤ (x 1).val ∧ (x 1).val < 1024 * X.val + 1024) := by
  rw [Rect.mem_set_unit]; exact Fin.forall_fin_two
theorem qR_mem (i : Fin 8) (x : S4096x1024.Idx) :
    x ∈ (qR i).set ↔ (512 * i.val ≤ (x 0).val ∧ (x 0).val < 512 * i.val + 512) ∧ (0 ≤ (x 1).val ∧ (x 1).val < 0 + 1024) := by
  rw [Rect.mem_set_unit]; exact Fin.forall_fin_two
theorem mR_mem (i : Fin 8) (x : S8x128.Idx) :
    x ∈ (mR i).set ↔ (i.val ≤ (x 0).val ∧ (x 0).val < i.val + 1) ∧ (0 ≤ (x 1).val ∧ (x 1).val < 0 + 128) := by
  rw [Rect.mem_set_unit]; exact Fin.forall_fin_two
theorem sR_mem (s : Fin 2) (g : Fin 4) (x : S2x4x512x256.Idx) :
    x ∈ (sR s g).set ↔ (s.val ≤ (x 0).val ∧ (x 0).val < s.val + 1) ∧ (g.val ≤ (x 1).val ∧ (x 1).val < g.val + 1) := by
  rw [Rect.mem_set_unit]
  have h2 := (x 2).isLt; have h3 := (x 3).isLt
  change (x 2).val < 512 at h2; change (x 3).val < 256 at h3
  constructor
  · intro h; exact ⟨h 0, h 1⟩
  · rintro ⟨h0, h1⟩ a
    fin_cases a
    · exact h0
    · exact h1
    · exact ⟨Nat.zero_le _, by show (x 2).val < 0 + 512; omega⟩
    · exact ⟨Nat.zero_le _, by show (x 3).val < 0 + 256; omega⟩

theorem lt0 (x : S4096x2048.Idx) : (x 0).val < 4096 := (x 0).isLt
theorem lt1 (x : S4096x2048.Idx) : (x 1).val < 2048 := (x 1).isLt

theorem pR_disj (p q : Fin 8 × Fin 8) (h : p ≠ q) : Disjoint (pR p.1 p.2).set (pR q.1 q.2).set := by
  rw [Finset.disjoint_left]; intro x hx hy
  rw [pR_mem] at hx hy
  apply h
  have := p.2.isLt; have := q.2.isLt
  refine Prod.ext (Fin.ext ?_) (Fin.ext ?_) <;> omega
theorem oR_disj (p q : Fin 8) (h : p ≠ q) : Disjoint (oR' p).set (oR' q).set := by
  rw [Finset.disjoint_left]; intro x hx hy
  rw [oR_mem] at hx hy
  exact h (Fin.ext (by omega))
theorem hR_disj (p q : Fin 2 × Fin 8) (h : p ≠ q) : Disjoint (hR p.1 p.2).set (hR q.1 q.2).set := by
  rw [Finset.disjoint_left]; intro x hx hy
  rw [hR_mem] at hx hy
  exact h (Prod.ext (Fin.ext (by omega)) (Fin.ext (by omega)))
theorem qR_disj (p q : Fin 8) (h : p ≠ q) : Disjoint (qR p).set (qR q).set := by
  rw [Finset.disjoint_left]; intro x hx hy
  rw [qR_mem] at hx hy
  exact h (Fin.ext (by omega))
theorem mR_disj (p q : Fin 8) (h : p ≠ q) : Disjoint (mR p).set (mR q).set := by
  rw [Finset.disjoint_left]; intro x hx hy
  rw [mR_mem] at hx hy
  exact h (Fin.ext (by omega))
theorem sR_disj (p q : Fin 2 × Fin 4) (h : p ≠ q) : Disjoint (sR p.1 p.2).set (sR q.1 q.2).set := by
  rw [Finset.disjoint_left]; intro x hx hy
  rw [sR_mem] at hx hy
  exact h (Prod.ext (Fin.ext (by omega)) (Fin.ext (by omega)))

/-- The chunk of an index of the output. -/
def rowOf (x : S4096x2048.Idx) : Fin 8 := ⟨(x 0).val / 512, by have := lt0 x; omega⟩
/-- The column half of an index of the output. -/
def colOf (x : S4096x2048.Idx) : Fin 2 := ⟨(x 1).val / 1024, by have := lt1 x; omega⟩

theorem pR_cov : (Finset.univ : Finset (Fin 8 × Fin 8)).biUnion (fun p => (pR p.1 p.2).set) = Finset.univ := by
  refine Finset.eq_univ_of_forall fun x => Finset.mem_biUnion.mpr ?_
  have h1 := lt1 x
  refine ⟨(rowOf x, ⟨(x 1).val / 1024 + 2 * ((x 1).val % 1024 / 256), by omega⟩), Finset.mem_univ _, (pR_mem _ _ _).mpr ?_⟩
  simp only [rowOf]; omega
theorem oR_cov : (Finset.univ : Finset (Fin 8)).biUnion (fun p => (oR' p).set) = Finset.univ := by
  refine Finset.eq_univ_of_forall fun x => Finset.mem_biUnion.mpr ?_
  have h1 := lt1 x
  refine ⟨rowOf x, Finset.mem_univ _, (oR_mem _ _).mpr ?_⟩
  simp only [rowOf]; omega
theorem hR_cov : (Finset.univ : Finset (Fin 2 × Fin 8)).biUnion (fun p => (hR p.1 p.2).set) = Finset.univ := by
  refine Finset.eq_univ_of_forall fun x => Finset.mem_biUnion.mpr ?_
  have h1 := lt1 x
  refine ⟨(colOf x, rowOf x), Finset.mem_univ _, (hR_mem _ _ _).mpr ?_⟩
  simp only [rowOf, colOf]; omega
theorem qR_cov : (Finset.univ : Finset (Fin 8)).biUnion (fun p => (qR p).set) = Finset.univ := by
  refine Finset.eq_univ_of_forall fun x => Finset.mem_biUnion.mpr ?_
  have h0 : (x 0).val < 4096 := (x 0).isLt
  have h1 : (x 1).val < 1024 := (x 1).isLt
  refine ⟨⟨(x 0).val / 512, by omega⟩, Finset.mem_univ _, (qR_mem _ _).mpr ?_⟩
  simp only; omega
theorem mR_cov : (Finset.univ : Finset (Fin 8)).biUnion (fun p => (mR p).set) = Finset.univ := by
  refine Finset.eq_univ_of_forall fun x => Finset.mem_biUnion.mpr ?_
  have h0 : (x 0).val < 8 := (x 0).isLt
  have h1 : (x 1).val < 128 := (x 1).isLt
  refine ⟨⟨(x 0).val, by omega⟩, Finset.mem_univ _, (mR_mem _ _).mpr ?_⟩
  simp only; omega
theorem sR_cov : (Finset.univ : Finset (Fin 2 × Fin 4)).biUnion (fun p => (sR p.1 p.2).set) = Finset.univ := by
  refine Finset.eq_univ_of_forall fun x => Finset.mem_biUnion.mpr ?_
  have h0 : (x 0).val < 2 := (x 0).isLt
  have h1 : (x 1).val < 4 := (x 1).isLt
  refine ⟨(⟨(x 0).val, h0⟩, ⟨(x 1).val, h1⟩), Finset.mem_univ _, (sR_mem _ _ _).mpr ?_⟩
  simp only; omega

/-- A row chunk is its eight lanes. -/
theorem oR_lanes (i : Fin 8) : (oR' i).set = (Finset.univ : Finset (Fin 8)).biUnion (fun j => (pR i j).set) := by
  ext x
  have h1 := lt1 x
  simp only [Finset.mem_biUnion, Finset.mem_univ, true_and, oR_mem, pR_mem]
  constructor
  · intro h
    refine ⟨⟨(x 1).val / 1024 + 2 * ((x 1).val % 1024 / 256), by omega⟩, ?_⟩
    simp only; omega
  · rintro ⟨j, h⟩; omega
/-- A half row chunk is its four lanes. -/
theorem hR_lanes (X : Fin 2) (i : Fin 8) : (hR X i).set
    = (Finset.univ : Finset (Fin 4)).biUnion (fun g => (pR i ⟨2 * g.val + X.val, by omega⟩).set) := by
  ext x
  have h1 := lt1 x
  simp only [Finset.mem_biUnion, Finset.mem_univ, true_and, hR_mem, pR_mem]
  constructor
  · intro h
    refine ⟨⟨(x 1).val % 1024 / 256, by omega⟩, ?_⟩
    simp only; omega
  · rintro ⟨j, h⟩; omega

/-! ## Pieces of buffers -/

abbrev pM (i j : Fin 8) : Memref sig .tc .vmem S512x256 .bf16 := aO.slice (pR i j) (fun _ => rfl)
abbrev oM' (i : Fin 8) : Memref sig .tc .vmem S512x2048 .bf16 := aO.slice (oR' i) (fun _ => rfl)
abbrev hM (X : Fin 2) (i : Fin 8) : Memref sig .tc .vmem S512x1024 .bf16 := aO.slice (hR X i) (fun _ => rfl)
abbrev qM (X : ℕ) (i : Fin 8) : Memref sig .tc .vmem S512x1024 .i8 := (aQ X).slice (qR i) (fun _ => rfl)
abbrev mM (i : Fin 8) : Memref sig .tc .vmem S1x128 .f32 := aM.slice (mR i) (fun _ => rfl)
abbrev sM' (X : ℕ) (s : Fin 2) (g : Fin 4) : Memref sig .tc .vmem S1x1x512x256 .bf16 := (aC X).slice (sR s g) (fun _ => rfl)
abbrev sM (X : ℕ) (s : Fin 2) (g : Fin 4) : Memref sig .tc .vmem S512x256 .bf16 :=
  (sM' X s g).squeeze S512x256 squeezes_S1x1x512x256_S512x256

/-! ## Values -/

/-- What the devices hold at the start. -/
structure In (F : FTy → Type) where
  x : Dev nD → Vec F S4096x512 .bf16
  w : Dev nD → Vec F S512x2048 .bf16

/-- A device's local product. -/
def G (I : In F) (c : Dev nD) : Vec F S4096x2048 .bf16 :=
  Rect.glue oR' oR_cov (fun i => k0_pay1 (fun y => I.x c ((xR i).emb y)) (fun y => I.w c (wR.emb y)))

theorem G_row (I : In F) (c : Dev nD) (i : Fin 8) :
    (fun y => G I c ((oR' i).emb y)) = k0_pay1 (fun y => I.x c ((xR i).emb y)) (fun y => I.w c (wR.emb y)) :=
  funext fun y => Rect.glue_emb oR' oR_cov oR_disj _ i y

/-- The partial sums after `h` hops. -/
def A (I : In F) : ℕ → Dev nD → Vec F S4096x2048 .bf16
  | 0, c => G I c
  | h + 1, c => fun x => FloatOps.addf (φ := .bf16) (G I c x) (A I h (up (colOf x).val c) x)

/-- The sum over the devices. -/
def T (I : In F) : Vec F S4096x2048 .bf16 := fun x => A I 7 (up (colOf x).val (rowOf x)) x

/-- A device's row of the local maxima. -/
def am1 (I : In F) (c : Dev nD) : Vec F S1x128 .f32 :=
  k0_pay69 (k0_pay68 (fun y => T I ((hR 0 (hc 0 0 c)).emb y))) (fun y => T I ((hR 1 (hc 1 0 c)).emb y))
def AM (I : In F) : Vec F S8x128 .f32 := Rect.glue mR mR_cov (fun i => am1 I i)
theorem AM_row (I : In F) (i : Fin 8) : (fun y => AM I ((mR i).emb y)) = am1 I i :=
  funext fun y => Rect.glue_emb mR mR_cov mR_disj _ i y

/-- The quantised half `X`. -/
def QV (I : In F) (X : ℕ) : Vec F S4096x1024 .i8 :=
  Rect.glue qR qR_cov (fun i => k0_pay74 (k0_pay70 (AM I)) (fun y => T I ((hR ⟨X % 2, Nat.mod_lt _ (by decide)⟩ i).emb y)))
theorem QV_row (I : In F) (X : Fin 2) (i : Fin 8) : (fun y => QV I X.val ((qR i).emb y))
    = k0_pay74 (k0_pay70 (AM I)) (fun y => T I ((hR X i).emb y)) := by
  have hX : (⟨X.val % 2, Nat.mod_lt _ (by decide)⟩ : Fin 2) = X := Fin.ext (Nat.mod_eq_of_lt X.isLt)
  refine (funext fun y => Rect.glue_emb qR qR_cov qR_disj _ i y).trans ?_
  rw [hX]

/-- The scale. -/
def sc (I : In F) : F .bf16 := k0_pay73 (k0_pay70 (AM I))
/-- The result. -/
def RV (I : In F) : Vec F S4096x2048 .bf16 :=
  Rect.glue (fun p : Fin 2 × Fin 8 => hR p.1 p.2) hR_cov (fun p => k0_pay77 (sc I) (fun y => QV I p.1.val ((qR p.2).emb y)))
theorem RV_row (I : In F) (X : Fin 2) (i : Fin 8) : (fun y => RV I ((hR X i).emb y))
    = k0_pay77 (sc I) (fun y => QV I X.val ((qR i).emb y)) :=
  funext fun y => Rect.glue_emb (fun p : Fin 2 × Fin 8 => hR p.1 p.2) hR_cov hR_disj _ (X, i) y

theorem colOf_p (i j : Fin 8) (y : (pR i j).shape.Idx) : (colOf ((pR i j).emb y)).val = j.val % 2 := by
  have h := (pR_mem i j ((pR i j).emb y)).mp (by rw [← Rect.map_emb_univ]; exact Finset.mem_map_of_mem _ (Finset.mem_univ y))
  have := j.isLt
  simp only [colOf]; omega
theorem rowOf_p (i j : Fin 8) (y : (pR i j).shape.Idx) : rowOf ((pR i j).emb y) = i := by
  have h := (pR_mem i j ((pR i j).emb y)).mp (by rw [← Rect.map_emb_univ]; exact Finset.mem_map_of_mem _ (Finset.mem_univ y))
  have := i.isLt
  exact Fin.ext (by simp only [rowOf]; omega)
theorem colOf_h (X : Fin 2) (i : Fin 8) (y : (hR X i).shape.Idx) : colOf ((hR X i).emb y) = X := by
  have h := (hR_mem X i ((hR X i).emb y)).mp (by rw [← Rect.map_emb_univ]; exact Finset.mem_map_of_mem _ (Finset.mem_univ y))
  exact Fin.ext (by simp only [colOf]; omega)
theorem rowOf_h (X : Fin 2) (i : Fin 8) (y : (hR X i).shape.Idx) : rowOf ((hR X i).emb y) = i := by
  have h := (hR_mem X i ((hR X i).emb y)).mp (by rw [← Rect.map_emb_univ]; exact Finset.mem_map_of_mem _ (Finset.mem_univ y))
  have := i.isLt
  exact Fin.ext (by simp only [rowOf]; omega)

/-- The sum of a hop, on a piece. -/
theorem A_succ_p (I : In F) (h : ℕ) (c : Dev nD) (i j : Fin 8) :
    (fun y => A I (h + 1) c ((pR i j).emb y))
      = fun y => FloatOps.addf (φ := .bf16) (G I c ((pR i j).emb y)) (A I h (up (lx j) c) ((pR i j).emb y)) := by
  funext y
  show FloatOps.addf (φ := .bf16) _ _ = _
  rw [colOf_p]

theorem up_hc (X : Fin 2) (c : Dev nD) : up X.val (hc X 0 c) = c := by revert X c; decide +kernel

/-- A device's own half holds the sum over the devices. -/
theorem A_own (I : In F) (X : Fin 2) (c : Dev nD) :
    (fun y => A I 7 c ((hR X (hc X 0 c)).emb y)) = fun y => T I ((hR X (hc X 0 c)).emb y) := by
  funext y
  unfold T
  rw [colOf_h, rowOf_h]
  rw [up_hc]

/-! ## Programs -/

/-- The weakest precondition of device `c`'s TensorCore program. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- What a device owns of a memref. -/
abbrev own' (c : Dev nD) {sp : Space} {s : Shape} {e : EltTy} (m : Memref sig .tc sp s e) (q : PosShare TreeShare) (X : s.Idx → Elt F e) :
    sProp 𝕄 := owns (nD := nD) (τ := τ) (Val := Elt F) (c : Thread nD τ) m q X

section Mem

variable {c : Dev nD} {α : Type} {sp : CoreSpace} {s : Shape} {e : EltTy}

theorem load_sl {m : Memref sig .tc sp s e} {r : Rect s} {hl : m.view.LoadsAt r.toLoadRect} (hr : ∀ a, r.stride a = 1) {q : PosShare TreeShare}
    {X : r.shape.Idx → Elt F e} {k : (r.shape.Idx → Elt F e) → Prog (TpuEff nD τ sig (Elt F) Λ₀ .tc) α} {S R : sProp 𝕄} {Q : α → sProp 𝕄}
    (hS : S ⊢ iprop(own' c (m.slice r hr) q X ∗ R)) (hk : iprop(own' c (m.slice r hr) q X ∗ R) ⊢ WP c (k X) Q) :
    S ⊢ WP c (.op (.load m r.toLoadRect hl) k) Q := by
  refine hS.trans ?_
  iintro ⟨H, HR⟩
  ihave H' := (show own' c (m.slice r hr) q X ⊢ iprop(∃ f, ⌜(m.slice r hr).view.read (Elt F) f = X⌝ ∗ (m.slice r hr).view.loc (c : Thread nD τ) ↦[(m.slice r hr).view.set]{q} f) from .rfl) $$ H
  icases H' with ⟨%f, %hf, H⟩
  iapply (wp_load_rect (defs := defs₀ (F := F)) Variants.none (c : Thread nD τ) none Set.univ (m := m) (r := r) (hl := hl) (k := k) (Q := Q) (q := q) (f := f) subset_rfl) $$ H
  iintro H
  rw [show (m.access r).read (Elt F) f = X from hf]
  iapply hk
  isplitl [H]
  · iapply (show iprop(∃ f, ⌜(m.slice r hr).view.read (Elt F) f = X⌝ ∗ (m.slice r hr).view.loc (c : Thread nD τ) ↦[(m.slice r hr).view.set]{q} f) ⊢ own' c (m.slice r hr) q X from .rfl)
    iexists f
    isplitr
    · ipureintro; exact hf
    · iexact H
  · iexact HR

theorem load_sub {m : Memref sig .tc sp s e} {r : Rect s} {hl : m.view.LoadsAt r.toLoadRect} {q : PosShare TreeShare}
    {X : s.Idx → Elt F e} {k : (r.shape.Idx → Elt F e) → Prog (TpuEff nD τ sig (Elt F) Λ₀ .tc) α} {S R : sProp 𝕄} {Q : α → sProp 𝕄}
    (hS : S ⊢ iprop(own' c m q X ∗ R)) (hk : iprop(own' c m q X ∗ R) ⊢ WP c (k (fun y => X (r.emb y))) Q) :
    S ⊢ WP c (.op (.load m r.toLoadRect hl) k) Q := by
  refine hS.trans ?_
  iintro ⟨H, HR⟩
  ihave H' := (show own' c m q X ⊢ iprop(∃ f, ⌜m.view.read (Elt F) f = X⌝ ∗ m.view.loc (c : Thread nD τ) ↦[m.view.set]{q} f) from .rfl) $$ H
  icases H' with ⟨%f, %hf, H⟩
  iapply (wp_load_rect (defs := defs₀ (F := F)) Variants.none (c : Thread nD τ) none Set.univ (m := m) (r := r) (hl := hl) (k := k) (Q := Q) (q := q) (f := f) (S := m.view.set) (View.set_slice_subset _ _)) $$ H
  iintro H
  rw [show (m.access r).read (Elt F) f = (fun y => X (r.emb y)) from by rw [← hf]; rfl]
  iapply hk
  isplitl [H]
  · iapply (show iprop(∃ f, ⌜m.view.read (Elt F) f = X⌝ ∗ m.view.loc (c : Thread nD τ) ↦[m.view.set]{q} f) ⊢ own' c m q X from .rfl)
    iexists f
    isplitr
    · ipureintro; exact hf
    · iexact H
  · iexact HR

theorem store_sl {m : Memref sig .tc sp s e} {r : Rect s} {w : r.shape.Idx → Elt F e} {hx : (m.access r).Stores Finset.univ}
    {hm : (Finset.univ : Finset r.shape.Idx) = Finset.univ ∨ ∀ a, r.stride a = 1} (hr : ∀ a, r.stride a = 1)
    {X : r.shape.Idx → Elt F e} {k : PUnit → Prog (TpuEff nD τ sig (Elt F) Λ₀ .tc) α} {S R : sProp 𝕄} {Q : α → sProp 𝕄}
    (hS : S ⊢ iprop(own' c (m.slice r hr) fullShare X ∗ R)) (hk : iprop(own' c (m.slice r hr) fullShare w ∗ R) ⊢ WP c (k ⟨⟩) Q) :
    S ⊢ WP c (.op (.store m r w Finset.univ hx hm) k) Q := by
  refine hS.trans ?_
  iintro ⟨H, HR⟩
  ihave H' := (show own' c (m.slice r hr) fullShare X ⊢ iprop(∃ f, ⌜(m.slice r hr).view.read (Elt F) f = X⌝ ∗ (m.slice r hr).view.loc (c : Thread nD τ) ↦[(m.slice r hr).view.set]{fullShare} f) from .rfl) $$ H
  icases H' with ⟨%f, %hf, H⟩
  iapply (wp_store (defs := defs₀ (F := F)) Variants.none (c : Thread nD τ) none Set.univ (m := m) (r := r) (w := w) (hx := hx) (hm := hm) (k := k) (Q := Q) (f := f) (S := (m.slice r hr).view.set) (View.setOn_subset_set _ _)) $$ H
  iintro H
  iapply hk
  isplitl [H]
  · iapply (show iprop(∃ f, ⌜(m.slice r hr).view.read (Elt F) f = w⌝ ∗ (m.slice r hr).view.loc (c : Thread nD τ) ↦[(m.slice r hr).view.set]{fullShare} f) ⊢ own' c (m.slice r hr) fullShare w from .rfl)
    iexists ((m.access r).write (Elt F) f w Finset.univ)
    isplitr
    · ipureintro; exact View.read_write_univ _ _
    · iexact H
  · iexact HR

theorem store_sub {m : Memref sig .tc sp s e} {r : Rect s} {w : r.shape.Idx → Elt F e} {hx : (m.access r).Stores Finset.univ}
    {hm : (Finset.univ : Finset r.shape.Idx) = Finset.univ ∨ ∀ a, r.stride a = 1} (hr : ∀ a, r.stride a = 1)
    {X : s.Idx → Elt F e} {k : PUnit → Prog (TpuEff nD τ sig (Elt F) Λ₀ .tc) α} {S R : sProp 𝕄} {Q : α → sProp 𝕄}
    (hS : S ⊢ iprop(own' c m fullShare X ∗ R)) (hk : iprop(own' c m fullShare (r.overlay X w) ∗ R) ⊢ WP c (k ⟨⟩) Q) :
    S ⊢ WP c (.op (.store m r w Finset.univ hx hm) k) Q := by
  refine hS.trans ((sep_mono_left (owns_slice_split (c : Thread nD τ) m fullShare r hr X)).trans ?_)
  refine store_sl (m := m) (r := r) (w := w) (hx := hx) (hm := hm) hr (k := k) (Q := Q) (X := fun i => X (r.emb i)) (R := iprop((∃ f, ⌜m.view.read (Elt F) f = X⌝ ∗ m.view.loc (c : Thread nD τ) ↦[m.view.set \ (m.slice r hr).view.set]{fullShare} f) ∗ R)) (show _ from by
    iintro ⟨⟨H1, H2⟩, H3⟩
    isplitl [H1]; · iexact H1
    isplitl [H2]; · iexact H2
    iexact H3) ?_
  iintro ⟨H, ⟨%f, %hf, H2⟩, HR⟩
  iapply hk
  isplitr [HR]
  · rw [← hf]
    iapply (owns_slice_join (c : Thread nD τ) m fullShare r hr w f)
    isplitl [H]; · iexact H
    iexact H2
  · iexact HR

end Mem

/-- A rectangle of a memref is the disjoint rectangles that make it up. -/
theorem slice_rects (c : Dev nD) {sp : Space} {s : Shape} {e : EltTy} (m : Memref sig .tc sp s e) (q : PosShare TreeShare) {T : Type} [DecidableEq T]
    (S : Finset T) (r : T → Rect s) (hr : ∀ t a, (r t).stride a = 1) (R : Rect s) (hR : ∀ a, R.stride a = 1)
    (hd : ∀ t t', t ≠ t' → Disjoint (r t).set (r t').set) (hcov : R.set = S.biUnion fun t => (r t).set) (X : s.Idx → Elt F e) :
    own' c (m.slice R hR) q (fun y => X (R.emb y))
      ⊣⊢ bigSep S (fun t => own' c (m.slice (r t) (hr t)) q (fun y => X ((r t).emb y))) := by
  have hset : (m.view.slice R).set = S.biUnion fun t => (m.view.slice (r t)).set := by
    rw [View.set_slice, hcov]
    ext i
    simp only [Finset.mem_map, Finset.mem_biUnion, View.set_slice]
    constructor
    · rintro ⟨a, ⟨t, ht, ha⟩, rfl⟩; exact ⟨t, ht, a, ha, rfl⟩
    · rintro ⟨t, ht, a, ha, rfl⟩; exact ⟨a, ⟨t, ht, ha⟩, rfl⟩
  have hdv (t t' : T) (htt : t ≠ t') : Disjoint (m.view.slice (r t)).set (m.view.slice (r t')).set := by
    rw [View.set_slice, View.set_slice]; exact (Finset.disjoint_map _).mpr (hd t t' htt)
  constructor
  · iintro H
    ihave H' := (show own' c (m.slice R hR) q (fun y => X (R.emb y)) ⊢ iprop(∃ f, ⌜(m.slice R hR).view.read (Elt F) f = fun y => X (R.emb y)⌝ ∗ m.view.loc (c : Thread nD τ) ↦[(m.view.slice R).set]{q} f) from .rfl) $$ H
    icases H' with ⟨%f, %hf, H⟩
    have hX : ∀ t ∈ S, (fun y => X ((r t).emb y)) = fun y => m.view.read (Elt F) f ((r t).emb y) := by
      intro t ht; funext y
      have hy : (r t).emb y ∈ R.set := by
        rw [hcov]; exact Finset.mem_biUnion.mpr ⟨t, ht, by rw [← Rect.map_emb_univ]; exact Finset.mem_map_of_mem _ (Finset.mem_univ y)⟩
      rw [← Rect.map_emb_univ, Finset.mem_map] at hy
      obtain ⟨z, -, hz⟩ := hy
      rw [← hz]; exact (congrFun hf z).symm
    rw [bigSep_congr (fun t ht => (congrArg (own' c (m.slice (r t) (hr t)) q) (hX t ht)).trans (owns_slice_read (c : Thread nD τ) m q (r t) (hr t) f))]
    rw [hset]
    iapply (show (m.view.loc (c : Thread nD τ) ↦[S.biUnion fun t => (m.view.slice (r t)).set]{q} f : sProp 𝕄) ⊢ bigSep S (fun t => m.view.loc (c : Thread nD τ) ↦[(m.view.slice (r t)).set]{q} f) from Entails.of_eq (pointsTo_biUnion S _ (fun t _ t' _ h => hdv t t' h)))
    iexact H
  · refine (owns_rects_join (c : Thread nD τ) m q r hr hd X S).trans ?_
    iintro ⟨%g, %hg, H⟩
    iapply (show iprop(∃ f, ⌜(m.slice R hR).view.read (Elt F) f = fun y => X (R.emb y)⌝ ∗ m.view.loc (c : Thread nD τ) ↦[(m.view.slice R).set]{q} f) ⊢ own' c (m.slice R hR) q (fun y => X (R.emb y)) from .rfl)
    iexists g
    isplitr
    · ipureintro
      funext y
      have hy : R.emb y ∈ S.biUnion fun t => (r t).set := by
        rw [← hcov, ← Rect.map_emb_univ]; exact Finset.mem_map_of_mem _ (Finset.mem_univ y)
      obtain ⟨t, ht, hy⟩ := Finset.mem_biUnion.mp hy
      rw [← Rect.map_emb_univ, Finset.mem_map] at hy
      obtain ⟨z, -, hz⟩ := hy
      show m.view.read (Elt F) g (R.emb y) = X (R.emb y)
      rw [← hz]; exact hg t ht z
    · rw [hset]; iexact H

end K
-- ==== Proof.K.Sched.lean ====
module

public import proofs.«01_k».proof.Proof.K.Geo
public import Idealize.ShloMosaic.Lib.ShareLeaves

/-!
# The schedule of the semaphores

What every unit of a semaphore hands over, and the kernel's operations under it: a copy to a peer, a signal, a wait.
-/

@[expose] public section

noncomputable section

namespace K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

/-- A memref owned at unspecified contents. -/
def any' (c : Dev nD) {sp : Space} {s : Shape} {e : EltTy} (m : Memref sig .tc sp s e) : sProp 𝕄 := iprop(∃ X, own' c m fullShare X)

instance any_storable (c : Dev nD) {sp : Space} {s : Shape} {e : EltTy} (m : Memref sig .tc sp s e) :
    BI.Storable (upEmb : UEmb _ 𝕄) (any' (F := F) c m) := by unfold any'; infer_instance

theorem any_intro (c : Dev nD) {sp : Space} {s : Shape} {e : EltTy} (m : Memref sig .tc sp s e) (X : s.Idx → Elt F e) :
    (own' c m fullShare X : sProp 𝕄) ⊢ any' c m := by
  unfold any'; iintro H; iexists X; iexact H

/-! ## What is handed over -/

/-- The column group of a lane. -/
abbrev gF (j : Fin 8) : Fin 4 := ⟨j.val / 2, by omega⟩

/-- The slot of hop `h` of lane `j`. -/
abbrev slM (h : ℕ) (j : Fin 8) : Memref sig .tc .vmem S512x256 .bf16 := sM (lx j) (sl h) (gF j)

/-- The partial sum of device `u`'s piece at hop `h`. -/
def pv (I : In F) (u : Dev nD) (h : ℕ) (j : Fin 8) : Vec F S512x256 .bf16 := fun y => A I h u ((pR (ch (lx j) h u) j).emb y)

/-- A piece of an output buffer. -/
def pieceAt (I : In F) (u : Dev nD) (h : ℕ) (j : Fin 8) : sProp 𝕄 := own' u (pM (ch (lx j) h u) j) fullShare (pv I u h j)
/-- A slot holding what hop `h` brought. -/
def slotAt (I : In F) (c : Dev nD) (h : ℕ) (j : Fin 8) : sProp 𝕄 := own' c (slM h j) fullShare (pv I (up (lx j) c) h j)
/-- A slot. -/
def slotAny (c : Dev nD) (h : ℕ) (j : Fin 8) : sProp 𝕄 := any' (F := F) c (slM h j)

/-- What device `q` writes on device `p` after the reduce-scatter. -/
def bun (p q : Dev nD) : sProp 𝕄 :=
  iprop(any' (F := F) p (mM q)
    ∗ bigSep Finset.univ fun e : Fin 14 => if xr q (agW e) = p then any' (F := F) p (qM (agX e).val (hc (agX e) (agD e) p)) else iprop(emp))

/-- The bundles that travel to the right with lane `0`'s hop `i`. -/
def fwd (c : Dev nD) (i : ℕ) : sProp 𝕄 :=
  bigSep (Finset.Ico (i + 1) 8) fun d => bun (F := F) (ch 0 i c) (ch 1 d (ch 0 i c))

instance piece_st (I : In F) (u : Dev nD) (h : ℕ) (j : Fin 8) : BI.Storable (upEmb : UEmb _ 𝕄) (pieceAt I u h j) := by
  unfold pieceAt; infer_instance
instance slot_st (I : In F) (u : Dev nD) (h : ℕ) (j : Fin 8) : BI.Storable (upEmb : UEmb _ 𝕄) (slotAt I u h j) := by
  unfold slotAt; infer_instance
instance slotAny_st (u : Dev nD) (h : ℕ) (j : Fin 8) : BI.Storable (upEmb : UEmb _ 𝕄) (slotAny (F := F) u h j) := by
  unfold slotAny; infer_instance
instance bun_st (p q : Dev nD) : BI.Storable (upEmb : UEmb _ 𝕄) (bun (F := F) p q) := by
  unfold bun
  haveI : ∀ e : Fin 14, BI.Storable (upEmb : UEmb _ 𝕄) (if xr q (agW e) = p then any' (F := F) p (qM (agX e).val (hc (agX e) (agD e) p)) else iprop(emp)) := by
    intro e; split <;> infer_instance
  infer_instance
instance fwd_st (c : Dev nD) (i : ℕ) : BI.Storable (upEmb : UEmb _ 𝕄) (fwd (F := F) c i) := by
  unfold fwd; infer_instance

/-- The shares of a row of maxima lent to its copies. -/
def amq (o : ℕ) : PosShare TreeShare := ShareLeaves.leaf 3 fullShare ⟨o % 8, Nat.mod_lt _ (by decide)⟩

/-- What a unit of cell `k` of device `c` in round `r` hands over. -/
def payK (I : In F) (c : Dev nD) (k : Kn) (r : ℕ) (d : Bool) : sProp 𝕄 :=
  match k with
  | .inl _ => bigSep Finset.univ fun p : Fin 2 × Fin 4 =>
      any' (F := F) (tgt (if d then 1 else 0) c) (sM (if d then 1 else 0) p.1 p.2)
  | .inr (.inl (w, s, j)) =>
      if w = 0 then pieceAt I c (2 * r + s.val) j
      else if w = 1 then iprop(slotAt I c (2 * r + s.val) j ∗ reached ER (cell (up (lx j) c) (kR 2 s j)) r
          ∗ if j = 0 then fwd (F := F) (up 0 c) (2 * r + s.val) else iprop(emp))
      else if 2 * r + s.val < 5 then iprop(slotAny (F := F) (tgt (lx j) c) (2 * r + s.val) j
          ∗ reached ER (cell (tgt (lx j) c) (kR 1 s j)) (r + 1)) else iprop(emp)
  | .inr (.inr (.inl (w, o))) =>
      if w = 0 then own' c (mM c) (amq o.val) (am1 I c) else own' c (mM (ma o.val c)) fullShare (am1 I (ma o.val c))
  | .inr (.inr (.inr (w, e))) =>
      if w = 0 then own' c (qM (agX e).val (hc (agX e) (agS e) c)) fullShare.right (fun y => QV I (agX e).val ((qR (hc (agX e) (agS e) c)).emb y))
      else own' c (qM (agX e).val (hc (agX e) (agD e) c)) fullShare (fun y => QV I (agX e).val ((qR (hc (agX e) (agD e) c)).emb y))

/-- The duties of a cell's round. -/
def dutK (k : Kn) (r : ℕ) : Finset Bool :=
  match k with
  | .inl _ => if r = 0 then Finset.univ else ∅
  | .inr (.inl (_, s, _)) => if 2 * r + s.val < 7 then {false} else ∅
  | _ => if r = 0 then {false} else ∅

/-- The units of a duty. -/
def unK : Kn → ℕ
  | .inl _ => 1
  | .inr (.inl (w, _, _)) => if w = 2 then 1 else nR
  | .inr (.inr (.inl _)) => nM
  | .inr (.inr (.inr _)) => nG

theorem unK_pos (k : Kn) : 0 < unK k := by
  match k with
  | .inl _ => exact Nat.one_pos
  | .inr (.inl (w, _, _)) => unfold unK; dsimp only; split <;> decide
  | .inr (.inr (.inl _)) => show 0 < nM; decide +kernel
  | .inr (.inr (.inr _)) => show 0 < nG; decide

/-- The schedule. -/
def Rd (I : In F) : Rounds.Schedule (GSem nD τ sig) Bool 𝕄 where
  duties g r := match dec g with | some (_, k) => dutK k r | none => ∅
  unitless _ := False
  amount g _ _ := match dec g with | some (_, k) => unK k | none => 1
  payload g r d := match dec g with | some (c, k) => payK I c k r d | none => iprop(emp)
  amount_pos g _ _ _ := by
    show 0 < (match dec g with | some (_, k) => unK k | none => 1)
    split
    · exact unK_pos _
    · exact Nat.one_pos

instance payK_st (I : In F) (c : Dev nD) (k : Kn) (r : ℕ) (d : Bool) : BI.Storable (upEmb : UEmb _ 𝕄) (payK I c k r d) := by
  match k with
  | .inl _ => unfold payK; infer_instance
  | .inr (.inl (w, s, j)) =>
      unfold payK; dsimp only
      haveI : BI.Storable (upEmb : UEmb _ 𝕄) (if j = 0 then fwd (F := F) (up 0 c) (2 * r + s.val) else iprop(emp)) := by
        split <;> infer_instance
      (repeat' split) <;> infer_instance
  | .inr (.inr (.inl (w, o))) => unfold payK; dsimp only; (repeat' split) <;> infer_instance
  | .inr (.inr (.inr (w, e))) => unfold payK; dsimp only; (repeat' split) <;> infer_instance

instance Rd_st (I : In F) (g : GSem nD τ sig) (r : ℕ) (d : Bool) : BI.Storable (upEmb : UEmb _ 𝕄) ((Rd I).payload g r d) := by
  show BI.Storable upEmb (match dec g with | some (c, k) => payK I c k r d | none => iprop(emp))
  split <;> infer_instance

theorem Rd_duties (I : In F) (c : Dev nD) (k : Kn) (r : ℕ) : (Rd I).duties (cell c k) r = dutK k r := by
  show (match dec (cell c k) with | some (_, k) => dutK k r | none => ∅) = _; rw [dec_cell]
theorem Rd_amount (I : In F) (c : Dev nD) (k : Kn) (r : ℕ) (d : Bool) : (Rd I).amount (cell c k) r d = unK k := by
  show (match dec (cell c k) with | some (_, k) => unK k | none => 1) = _; rw [dec_cell]
theorem Rd_payload (I : In F) (c : Dev nD) (k : Kn) (r : ℕ) (d : Bool) : (Rd I).payload (cell c k) r d = payK I c k r d := by
  show (match dec (cell c k) with | some (c, k) => payK I c k r d | none => iprop(emp)) = _; rw [dec_cell]

theorem ob_dut (b : Ob) : obD b ∈ dutK (obK b) (obR b) := by revert b; decide +kernel
theorem ob_un (b : Ob) : obN b = unK (obK b) := by
  match b with
  | .inl _ => rfl
  | .inr (.inl (h, j)) => rfl
  | .inr (.inr (.inl (h, j))) => rfl
  | .inr (.inr (.inr (.inl o))) => rfl
  | .inr (.inr (.inr (.inr e))) => rfl

/-! ## The persistent facts -/

/-- Every cell's invariant, every cell's first round, the levels. -/
def recs (I : In F) (K : Dev nD × Kn → ℕ) : sProp 𝕄 :=
  iprop((bigSep Finset.univ fun p : Dev nD × Kn => cellInv ER (Rd I) (K p) (cell p.1 p.2))
    ∗ (bigSep Finset.univ fun p : Dev nD × Kn => reached ER (cell p.1 p.2) 0) ∗ levAts Ls Lv)

instance recs_pers (I : In F) (K : Dev nD × Kn → ℕ) : BI.Persistent (recs I K) := by unfold recs; infer_instance

theorem recs_inv (I : In F) (K : Dev nD × Kn → ℕ) (c : Dev nD) (k : Kn) :
    recs I K ⊢ cellInv ER (Rd I) (K (c, k)) (cell c k) := by
  classical
  unfold recs
  iintro ⟨H, -⟩
  iapply (show (bigSep Finset.univ fun p : Dev nD × Kn => (cellInv ER (Rd I) (K p) (cell p.1 p.2) : sProp 𝕄)) ⊢ cellInv ER (Rd I) (K (c, k)) (cell c k) from bigSep_elim (i := (c, k)) (Finset.mem_univ _))
  iexact H
theorem recs_r0 (I : In F) (K : Dev nD × Kn → ℕ) (c : Dev nD) (k : Kn) :
    recs I K ⊢ (reached ER (cell c k) 0 : sProp 𝕄) := by
  classical
  unfold recs
  iintro ⟨-, H, -⟩
  iapply (show (bigSep Finset.univ fun p : Dev nD × Kn => (reached ER (cell p.1 p.2) 0 : sProp 𝕄)) ⊢ reached ER (cell c k) 0 from bigSep_elim (i := (c, k)) (Finset.mem_univ _))
  iexact H
theorem recs_lev (I : In F) (K : Dev nD × Kn → ℕ) : recs I K ⊢ (levAts Ls Lv : sProp 𝕄) := by
  unfold recs
  iintro ⟨-, -, H⟩
  iexact H

/-- What a device owes when it has paid `n` dues. -/
def ow (c : Dev nD) (n : ℕ) : sProp 𝕄 := iprop(∃ W, owes (c.tc : Thread nD τ) (Orem c n) W)

/-! ## The operations -/

section Ops

variable (I : In F) (K : Dev nD × Kn → ℕ) {c : Dev nD} {α : Type}

/-- A copy to a peer. -/
theorem op_send {Q : α → sProp 𝕄} (b : Ob) (kS : Kn) (rS n : ℕ) (hn : ord b = n) (hdS : false ∈ dutK kS rS) (hNS : unK kS = obN b)
    {t : Dev nD} (ht : t = obT c b) {sp sp' : Space} {s : Shape} {e : EltTy}
    {src : Memref sig .tc sp s e} {dst : Memref sig .tc sp' s e} {sS sem : SemLoc sig} (hsS : sS = semOf kS) (hsem' : sem = semOf (obK b))
    {hsc : dst.view.ref.isScScratch = false} {hsrc : src.view.WordExact} {hdst : dst.view.WordExact}
    {hty : DmaTarget.Typed sp sem (.remote (t.tc : Thread nD τ) dst sS hsc)}
    (hN : dst.view.amount sem = obN b)
    {k : PUnit → Prog (TpuEff nD τ sig (Elt F) Λ₀ .tc) α} {q : PosShare TreeShare} {X : s.Idx → Elt F e} {Fp S R : sProp 𝕄}
    (hp1 : (own' c src q X : sProp 𝕄) ⊢ payK I c kS rS false)
    (hp2 : iprop(own' (obT c b) dst fullShare X ∗ Fp) ⊢ payK I (obT c b) (obK b) (obR b) (obD b))
    (hS : S ⊢ iprop((recs I K ∗ ow c n) ∗ own' c src q X ∗ any' (obT c b) dst ∗ Fp
      ∗ (dutyTok ER (cell c kS) rS false ∗ reached ER (cell c kS) rS)
      ∗ (dutyTok ER (cell (obT c b) (obK b)) (obR b) (obD b) ∗ reached ER (cell (obT c b) (obK b)) (obR b)) ∗ R))
    (hk : iprop((recs I K ∗ ow c (n + 1)) ∗ cred (tallyAt (cell c kS) rS (obN b)) ∗ R) ⊢ WP c (k ⟨⟩) Q) :
    S ⊢ WP c (.op (.enqueueDma src (.remote (t.tc : Thread nD τ) dst sS hsc) sem hsrc hdst hty) k) Q := by
  subst ht hsS hsem'
  refine hS.trans ?_
  unfold ow any'
  iintro ⟨⟨#Hrec, ⟨%W, HO⟩⟩, Hsrc, ⟨%Y, Hdst⟩, HF, ⟨Ht1, Hr1⟩, ⟨Ht2, Hr2⟩, HR⟩
  ihave Hsrc' := (show own' c src q X ⊢ iprop(∃ f, ⌜src.view.read (Elt F) f = X⌝ ∗ src.view.loc (c : Thread nD τ) ↦[src.view.set]{q} f) from .rfl) $$ Hsrc
  icases Hsrc' with ⟨%f, %hf, Hsrc⟩
  ihave Hdst' := (show own' (obT c b) dst fullShare Y ⊢ iprop(∃ f, ⌜dst.view.read (Elt F) f = Y⌝ ∗ dst.view.loc ((obT c b).tc : Thread nD τ) ↦[dst.view.set]{fullShare} f) from .rfl) $$ Hdst
  icases Hdst' with ⟨%g, %hg, Hdst⟩
  iapply (Rounds.wp_send_pointsTo_with Variants.none ER (Rd I) (c : Thread nD τ) none (c' := ((obT c b).tc : Thread nD τ))
      (defs := defs₀ (F := F)) (src := src) (dst := dst) (sS := semOf kS) (sem := semOf (obK b)) (hsc := hsc) (hsrc := hsrc) (hdst := hdst) (hsem := hty) (k := k)
      (q := q) (fs := f) (fd := g) (F := Fp) (r₁ := rS) (r₂ := obR b) (d₁ := false) (d₂ := obD b) (κ₁ := K (c, kS)) (κ₂ := K (obT c b, obK b))
      (by have := Rd_duties I c kS rS; unfold cell at this; rw [this]; exact hdS)
      (by have := Rd_duties I (obT c b) (obK b) (obR b); unfold cell at this; rw [this]; exact ob_dut b)
      (obR b) rS (obN b) hN
      (by have := Rd_amount I c kS rS false; unfold cell at this; rw [this]; exact hNS)
      (by have := Rd_amount I (obT c b) (obK b) (obR b) (obD b); unfold cell at this; rw [this]; exact (ob_un b).symm)
      (O₀ := Orem c n) (Orem c (n + 1)) (Orem_step c b n hn) (W := W)
      (by
        have := Rd_payload I c kS rS false; unfold cell at this; rw [this]
        refine BIBase.Entails.trans ?_ hp1
        iintro H
        iapply (show iprop(∃ f, ⌜src.view.read (Elt F) f = X⌝ ∗ src.view.loc (c : Thread nD τ) ↦[src.view.set]{q} f) ⊢ own' c src q X from .rfl)
        iexists f
        isplitr
        · ipureintro; exact hf
        · iexact H)
      (by
        have := Rd_payload I (obT c b) (obK b) (obR b) (obD b); unfold cell at this; rw [this]
        refine BIBase.Entails.trans (sep_mono_left ?_) hp2
        iintro H
        iapply (show iprop(∃ f, ⌜dst.view.read (Elt F) f = X⌝ ∗ dst.view.loc ((obT c b).tc : Thread nD τ) ↦[dst.view.set]{fullShare} f) ⊢ own' (obT c b) dst fullShare X from .rfl)
        iexists (dst.view.write (Elt F) g (src.view.read (Elt F) f) Finset.univ)
        isplitr
        · ipureintro; rw [View.read_write_univ]; exact hf
        · iexact H))
    $$ [HO Hsrc Hdst HF Ht1 Hr1 Ht2 Hr2]
  · isplitr; · iapply (recs_inv I K c kS); iexact Hrec
    isplitr; · iapply (recs_inv I K (obT c b) (obK b)); iexact Hrec
    isplitl [Hsrc]; · iexact Hsrc
    isplitl [Hdst HF]
    · isplitl [Hdst]; · iexact Hdst
      iexact HF
    isplitl [HO]; · iexact HO
    isplitl [Ht1]; · iexact Ht1
    isplitl [Hr1]; · iexact Hr1
    isplitl [Ht2]; · iexact Ht2
    iexact Hr2
  iintro ⟨Hc, HO⟩
  iapply hk
  isplitl [HO]
  · isplitr; · iexact Hrec
    unfold ow; iexists W; iexact HO
  isplitl [Hc]; · iexact Hc
  iexact HR

/-- A signal to a peer. -/
theorem op_signal {Q : α → sProp 𝕄} (b : Ob) (n : ℕ) (hn : ord b = n) (hN : obN b = 1)
    {t : Dev nD} (ht : t = obT c b) {sem : Sem sig} (hsem : (SemLoc.reg sem : SemLoc sig) = semOf (obK b)) {v : Int} (hv : v = 1)
    {k : PUnit → Prog (TpuEff nD τ sig (Elt F) Λ₀ .tc) α} {S R : sProp 𝕄}
    (hS : S ⊢ iprop((recs I K ∗ ow c n) ∗ payK I (obT c b) (obK b) (obR b) (obD b)
      ∗ (dutyTok ER (cell (obT c b) (obK b)) (obR b) (obD b) ∗ reached ER (cell (obT c b) (obK b)) (obR b)) ∗ R))
    (hk : iprop((recs I K ∗ ow c (n + 1)) ∗ R) ⊢ WP c (k ⟨⟩) Q) :
    S ⊢ WP c (.op (.semSignal ((t, .tc) : Thread nD τ) sem v) k) Q := by
  subst ht hv
  refine hS.trans ?_
  unfold ow
  iintro ⟨⟨#Hrec, ⟨%W, HO⟩⟩, Hp, ⟨Ht2, Hr2⟩, HR⟩
  have hcell : (((obT c b, Proc.tc) : Thread nD τ), (SemLoc.reg sem : SemLoc sig)) = cell (obT c b) (obK b) := by rw [hsem]; rfl
  iapply (Rounds.wp_signal Variants.none ER (Rd I) (c : Thread nD τ) none (dst := ((obT c b, .tc) : Thread nD τ)) (sem := sem) (κ := K (obT c b, obK b)) (k := k)
      (defs := defs₀ (F := F)) (r := obR b) (d := obD b) (k' := 1)
      (by rw [hcell, Rd_duties]; exact ob_dut b)
      (by rw [hcell, Rd_amount, ← ob_un]; exact hN)
      (obR b) (O₀ := Orem c n) (Orem c (n + 1)) (by rw [Orem_step c b n hn, hcell]; unfold tal; rw [hN]) (W := W))
    $$ [HO Hp Ht2 Hr2]
  · rw [hcell]
    isplitr; · iapply (recs_inv I K (obT c b) (obK b)); iexact Hrec
    isplitl [HO]; · iexact HO
    isplitl [Ht2]; · iexact Ht2
    isplitl [Hp]; · rw [Rd_payload]; iexact Hp
    iexact Hr2
  iintro HO
  iapply hk
  isplitl [HO]
  · isplitr; · iexact Hrec
    unfold ow; iexists W; iexact HO
  iexact HR

/-- A wait for a round of one duty. -/
theorem op_wait {Q : α → sProp 𝕄} (kk : Kn) (r n : ℕ) (hd : dutK kk r = {false}) (hr : r < 8) (hl : lev kk r ≤ n) (hn : 2 ≤ n)
    {w : TpuEff nD τ sig (Elt F) Λ₀ .tc PUnit} {sm : SemLoc sig} {k' : ℕ} (hsm : sm = semOf kk) (hk' : k' = unK kk)
    (hw : ∀ Kq : PUnit → sProp 𝕄, wpE (defs₀ (F := F)) Variants.none (c : Thread nD τ) none Set.univ w Kq = waitSpec (c : Thread nD τ) Set.univ sm k' Kq)
    {k : PUnit → Prog (TpuEff nD τ sig (Elt F) Λ₀ .tc) α} {S R : sProp 𝕄}
    (hS : S ⊢ iprop((recs I K ∗ ow c n) ∗ cred (tallyAt (cell c kk) r (unK kk)) ∗ atPos ER (cell c kk) r ∅ 0 ∗ R))
    (hk : iprop((recs I K ∗ ow c n) ∗ payK I c kk r false ∗ (atPos ER (cell c kk) (r + 1) ∅ 0 ∗ reached ER (cell c kk) (r + 1)) ∗ R) ⊢ WP c (k ⟨⟩) Q) :
    S ⊢ WP c (.op w k) Q := by
  subst hsm hk'
  refine hS.trans ?_
  unfold ow
  iintro ⟨⟨#Hrec, ⟨%W, HO⟩⟩, Hc, Hat, HR⟩
  have hE : (Rd I).expect (cell c kk) r = unK kk := by
    unfold Schedule.expect Schedule.amountOf; rw [Rd_duties, hd, Finset.sum_singleton, Rd_amount]
  have hrest : bigSep ((Rd I).duties (cell c kk) r \ ∅) (fun d => (Rd I).payload (cell c kk) r d) = payK I c kk r false := by
    rw [Finset.sdiff_empty, Rd_duties, hd, bigSep_singleton, Rd_payload]
  iapply (Rounds.wp_wait_rest_token Variants.none ER (Rd I) (c : Thread nD τ) none (κ := K (c, kk)) (defs := defs₀ (F := F)) (k := k)
      hw (Set.mem_univ _) r (O := Orem c n) (W := W) (R := r) (m := 0) (T := ∅) (by rw [Nat.zero_add]; exact hE.symm)) $$ [Hc HO Hat]
  · isplitr; · iapply (recs_inv I K c kk); iexact Hrec
    isplitl [Hc]; · iexact Hc
    isplitl [HO]; · iexact HO
    isplitr; · iapply (mayWait' c kk r n hr hl hn); iapply (recs_lev I K); iexact Hrec
    iexact Hat
  iintro ⟨HO, Hat, Hre, Hp⟩
  ihave Hp := (show bigSep ((Rd I).duties ((c.tc : Thread nD τ), semOf kk) r \ ∅) (fun d => (Rd I).payload ((c.tc : Thread nD τ), semOf kk) r d) ⊢ payK I c kk r false from Entails.of_eq hrest) $$ Hp
  iapply hk
  isplitl [HO]
  · isplitr; · iexact Hrec
    unfold ow; iexists _; iexact HO
  isplitl [Hp]; · iexact Hp
  isplitl [Hat Hre]
  · isplitl [Hat]; · iexact Hat
    iexact Hre
  iexact HR

/-- The barrier's wait. -/
theorem op_bar {Q : α → sProp 𝕄} {sem : Sem sig} (hsem : (SemLoc.reg sem : SemLoc sig) = semOf kB) {v : Int} (hv : v = (2 : ℕ))
    {k : PUnit → Prog (TpuEff nD τ sig (Elt F) Λ₀ .tc) α} {S R : sProp 𝕄}
    (hS : S ⊢ iprop((recs I K ∗ ow c 2) ∗ cred (tallyAt (cell c kB) 0 2) ∗ atPos ER (cell c kB) 0 ∅ 0 ∗ R))
    (hk : iprop((recs I K ∗ ow c 2) ∗ (payK I c kB 0 false ∗ payK I c kB 0 true) ∗ atPos ER (cell c kB) 1 ∅ 0 ∗ R) ⊢ WP c (k ⟨⟩) Q) :
    S ⊢ WP c (.op (.semWait sem v) k) Q := by
  subst hv
  refine hS.trans ?_
  unfold ow
  iintro ⟨⟨#Hrec, ⟨%W, HO⟩⟩, Hc, Hat, HR⟩
  have hE : (Rd I).expect (cell c kB) 0 = 2 := by
    unfold Schedule.expect Schedule.amountOf
    rw [Rd_duties, Finset.sum_congr rfl fun d _ => Rd_amount I c kB 0 d]; rfl
  have hrest : bigSep ((Rd I).duties (cell c kB) 0 \ ∅) (fun d => (Rd I).payload (cell c kB) 0 d) = iprop(payK I c kB 0 false ∗ payK I c kB 0 true) := by
    rw [Finset.sdiff_empty, Rd_duties, show dutK kB 0 = Finset.univ from rfl, bigSep_univ_eq_bigSepL [false, true] (by decide) (by decide), bigSepL_cons_cons, bigSepL_singleton,
      Rd_payload, Rd_payload]
    rfl
  have hcell : ((c : Thread nD τ), (SemLoc.reg sem : SemLoc sig)) = cell c kB := by rw [hsem]; rfl
  iapply (Rounds.wp_wait_rest_token Variants.none ER (Rd I) (c : Thread nD τ) none (κ := K (c, kB)) (defs := defs₀ (F := F)) (k := k)
      (wpE_semWait_eq Variants.none (c : Thread nD τ) none Set.univ) (sm := .reg sem) (k' := 2) (Set.mem_univ _) 0 (O := Orem c 2) (W := W) (R := 0) (m := 0) (T := ∅)
      (by rw [Nat.zero_add, hcell]; exact hE.symm)) $$ [Hc HO Hat]
  · rw [hcell]
    isplitr; · iapply (recs_inv I K c kB); iexact Hrec
    isplitl [Hc]; · iexact Hc
    isplitl [HO]; · iexact HO
    isplitr; · rw [hsem]; iapply (mayWait' c kB 0 2 (by decide) (by decide) (by decide)); iapply (recs_lev I K); iexact Hrec
    iexact Hat
  rw [hcell]
  iintro ⟨HO, Hat, -, Hp⟩
  ihave Hp := (Entails.of_eq hrest) $$ Hp
  iapply hk
  isplitl [HO]
  · isplitr; · iexact Hrec
    unfold ow; iexists _; iexact HO
  isplitl [Hp]; · iexact Hp
  isplitl [Hat]; · iexact Hat
  iexact HR

end Ops

end K
-- ==== Proof.K.Lane.lean ====
module

public import proofs.«01_k».proof.Proof.K.Sched

/-!
# The lanes of the reduce-scatter

A lane's state is eight counters; what the device holds for the lane is read off them. Every operation of the
reduce-scatter moves one counter.
-/

@[expose] public section

noncomputable section

namespace K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families over the hops -/

/-- The resources `Φ i` of the hops `i < 8` with `P i`. -/
def fam (P : ℕ → Prop) [DecidablePred P] (Φ : ℕ → sProp 𝕄) : sProp 𝕄 := bigSep ((Finset.range 8).filter P) Φ

theorem fam_take {P P' : ℕ → Prop} [DecidablePred P] [DecidablePred P'] (k : ℕ) (hk : k < 8) (hP : P k)
    (h : ∀ i, i < 8 → (P' i ↔ P i ∧ i ≠ k)) (Φ : ℕ → sProp 𝕄) : fam P Φ = iprop(Φ k ∗ fam P' Φ) := by
  unfold fam
  have hs : (Finset.range 8).filter P = insert k ((Finset.range 8).filter P') := by
    ext i
    simp only [Finset.mem_filter, Finset.mem_range, Finset.mem_insert]
    by_cases h8 : i < 8
    · have := h i h8
      by_cases hi : i = k
      · subst hi; simp [h8, hP]
      · simp [h8, this, hi]
    · simp [h8]; intro hi; omega
  rw [hs]
  have hn : k ∉ (Finset.range 8).filter P' := by
    intro hm
    have := (h k hk).mp (Finset.mem_filter.mp hm).2
    exact this.2 rfl
  exact bigSep_insert hn

theorem fam_congr {P P' : ℕ → Prop} [DecidablePred P] [DecidablePred P'] (h : ∀ i, i < 8 → (P i ↔ P' i)) {Φ Ψ : ℕ → sProp 𝕄}
    (hΦ : ∀ i, i < 8 → P i → Φ i = Ψ i) : fam P Φ = fam P' Ψ := by
  unfold fam
  have hs : (Finset.range 8).filter P = (Finset.range 8).filter P' := by
    ext i
    simp only [Finset.mem_filter, Finset.mem_range]
    by_cases h8 : i < 8
    · simp [h8, h i h8]
    · simp [h8]
  rw [← hs]
  exact bigSep_congr fun i hi => hΦ i (Finset.mem_range.mp (Finset.mem_filter.mp hi).1) (Finset.mem_filter.mp hi).2

theorem fam_none {P : ℕ → Prop} [DecidablePred P] (h : ∀ i, i < 8 → ¬ P i) (Φ : ℕ → sProp 𝕄) : fam P Φ = iprop(emp) := by
  unfold fam
  rw [Finset.filter_eq_empty_iff.mpr (fun i hi => h i (Finset.mem_range.mp hi))]; rfl

/-! ## A lane's state -/

/-- Receptions, accumulations, awaited sends (by slot), awaited credits (by slot), sends, credits given. -/
structure LC where
  r : ℕ
  a : ℕ
  w0 : ℕ
  w1 : ℕ
  c0 : ℕ
  c1 : ℕ
  sN : ℕ
  g : ℕ
  deriving DecidableEq

/-- The awaited sends on the slot of hop `i`. -/
def LC.w (x : LC) (i : ℕ) : ℕ := if i % 2 = 0 then x.w0 else x.w1
/-- The awaited credits on the slot of hop `i`. -/
def LC.c (x : LC) (i : ℕ) : ℕ := if i % 2 = 0 then x.c0 else x.c1

/-- The awaited sends on the slot of hop `h` set to `v`. -/
def LC.setw (x : LC) (h v : ℕ) : LC := { x with w0 := if h % 2 = 0 then v else x.w0, w1 := if h % 2 = 0 then x.w1 else v }
/-- The awaited credits on the slot of hop `h` set to `v`. -/
def LC.setc (x : LC) (h v : ℕ) : LC := { x with c0 := if h % 2 = 0 then v else x.c0, c1 := if h % 2 = 0 then x.c1 else v }

/-- The number of local products done when piece `i` of direction `X` is filled. -/
def need (X i : ℕ) : ℕ :=
  if X = 0 then (if i = 0 then 1 else if i ≤ 4 then 2 * i else 17 - 2 * i)
  else (if i = 0 then 1 else if i ≤ 3 then 2 * i + 1 else if i = 4 then 8 else 16 - 2 * i)

/-- What piece `i` of a lane holds. -/
def Zc (I : In F) (c : Dev nD) (f0 : Vec F S4096x2048 .bf16) (m X a i : ℕ) : Vec F S4096x2048 .bf16 :=
  if i ≤ a then A I i c else if need X i ≤ m then G I c else f0

/-- The piece of an array at chunk `i` of a lane. -/
abbrev pcv (Z : Vec F S4096x2048 .bf16) (i j : Fin 8) : Vec F S512x256 .bf16 := fun y => Z ((pR i j).emb y)

/-- The two positions of a lane at its cells of kind `w`. -/
def ps (c : Dev nD) (w : Fin 3) (j : Fin 8) (n0 n1 : ℕ) : sProp 𝕄 :=
  iprop(atPos ER (cell c (kR w 0 j)) n0 ∅ 0 ∗ atPos ER (cell c (kR w 1 j)) n1 ∅ 0)

theorem ps_step (c : Dev nD) (w : Fin 3) (j : Fin 8) (h n0 n1 : ℕ) (hn : (if h % 2 = 0 then n0 else n1) = h / 2) :
    (ps (F := F) c w j n0 n1) ⊢ iprop(atPos ER (cell c (kR w (sl h) j)) (h / 2) ∅ 0
      ∗ (atPos ER (cell c (kR w (sl h) j)) (h / 2 + 1) ∅ 0
        -∗ ps c w j (if h % 2 = 0 then h / 2 + 1 else n0) (if h % 2 = 0 then n1 else h / 2 + 1))) := by
  unfold ps
  by_cases hh : h % 2 = 0
  · have hs : sl h = 0 := Fin.ext hh
    simp only [hh, if_true] at hn ⊢
    rw [hs, hn]
    iintro ⟨H0, H1⟩
    isplitl [H0]; · iexact H0
    iintro H
    isplitl [H]; · iexact H
    iexact H1
  · have hs : sl h = 1 := Fin.ext (show h % 2 = 1 by omega)
    simp only [hh, if_false] at hn ⊢
    rw [hs, hn]
    iintro ⟨H0, H1⟩
    isplitl [H1]; · iexact H1
    iintro H
    isplitl [H0]; · iexact H0
    iexact H

section Lane

variable (I : In F) (c : Dev nD) (f0 : Vec F S4096x2048 .bf16)

/-- The bundles that lane `0` carries. -/
def bunds (x : LC) : sProp 𝕄 :=
  iprop(fam (fun i => i < x.r) (fun i => bun (F := F) (ch 0 (i + 1) c) c) ∗ fam (fun i => x.sN ≤ i ∧ i ≤ x.r) (fun i => fwd (F := F) c i))

abbrev Φout (m j' : ℕ) (j : Fin 8) (a : ℕ) (i : ℕ) : sProp 𝕄 :=
  own' c (pM (ch j' i c) j) fullShare (pcv (Zc I c f0 m j' a i) (ch j' i c) j)
abbrev Φslot (j : Fin 8) (i : ℕ) : sProp 𝕄 :=
  iprop(slotAt I c i j ∗ reached ER (cell (up (lx j) c) (kR 2 (sl i) j)) (i / 2) ∗ reached ER (cell c (kR 1 (sl i) j)) (i / 2 + 1))
abbrev Φpeer (j : Fin 8) (i : ℕ) : sProp 𝕄 :=
  iprop(slotAny (F := F) (tgt (lx j) c) i j ∗ reached ER (cell (tgt (lx j) c) (kR 1 (sl i) j)) (i / 2) ∗ reached ER (cell c (kR 2 (sl i) j)) (i / 2))
abbrev Φtok (j : Fin 8) (i : ℕ) : sProp 𝕄 :=
  iprop(dutyTok ER (cell (tgt (lx j) c) (kR 1 (sl i) j)) (i / 2) false ∗ dutyTok ER (cell c (kR 0 (sl i) j)) (i / 2) false)

/-- What a device holds for a lane. -/
def Ln (m : ℕ) (j : Fin 8) (x : LC) : sProp 𝕄 :=
  iprop(fam (fun i => x.sN ≤ i ∨ i / 2 < x.w i) (Φout I c f0 m (lx j) j x.a)
    ∗ fam (fun i => x.g ≤ i ∧ i < x.r) (Φslot I c j)
    ∗ fam (fun i => 5 ≤ i ∧ i < x.g) (fun i => slotAny (F := F) c i j)
    ∗ fam (fun i => x.sN ≤ i ∧ i < 7 ∧ i / 2 ≤ x.c i) (Φpeer c j)
    ∗ fam (fun i => x.sN ≤ i ∧ i < 7 ∧ i / 2 ≤ x.w i) (fun i => reached ER (cell c (kR 0 (sl i) j)) (i / 2))
    ∗ fam (fun i => x.sN ≤ i ∧ i < 7) (Φtok c j)
    ∗ fam (fun i => x.g ≤ i ∧ i < 7) (fun i => dutyTok ER (cell (up (lx j) c) (kR 2 (sl i) j)) (i / 2) false)
    ∗ fam (fun i => x.r ≤ i ∧ i < 7) (fun i => cred (tallyAt (cell c (kR 1 (sl i) j)) (i / 2) nR))
    ∗ fam (fun i => x.c i ≤ i / 2 ∧ i < 7) (fun i => cred (tallyAt (cell c (kR 2 (sl i) j)) (i / 2) 1))
    ∗ fam (fun i => i < x.sN ∧ x.w i ≤ i / 2) (fun i => cred (tallyAt (cell c (kR 0 (sl i) j)) (i / 2) nR))
    ∗ (ps c 1 j ((x.r + 1) / 2) (x.r / 2) ∗ ps c 0 j x.w0 x.w1 ∗ ps c 2 j x.c0 x.c1)
    ∗ if j = 0 then bunds c x else iprop(emp))

end Lane

theorem two_sl (h : ℕ) : 2 * (h / 2) + (sl h).val = h := by simp only [sl]; omega

theorem payR0 (I : In F) (c : Dev nD) (h : ℕ) (j : Fin 8) (d : Bool) : payK I c (kR 0 (sl h) j) (h / 2) d = pieceAt I c h j := by
  unfold payK; dsimp only; rw [if_pos rfl, two_sl]
theorem payR1 (I : In F) (c : Dev nD) (h : ℕ) (j : Fin 8) (d : Bool) : payK I c (kR 1 (sl h) j) (h / 2) d
    = iprop(slotAt I c h j ∗ reached ER (cell (up (lx j) c) (kR 2 (sl h) j)) (h / 2)
        ∗ if j = 0 then fwd (F := F) (up 0 c) h else iprop(emp)) := by
  unfold payK; dsimp only; rw [if_neg (by decide), if_pos rfl, two_sl]
theorem payR2 (I : In F) (c : Dev nD) (h : ℕ) (j : Fin 8) (d : Bool) : payK I c (kR 2 (sl h) j) (h / 2) d
    = if h < 5 then iprop(slotAny (F := F) (tgt (lx j) c) h j ∗ reached ER (cell (tgt (lx j) c) (kR 1 (sl h) j)) (h / 2 + 1)) else iprop(emp) := by
  unfold payK; dsimp only; rw [if_neg (by decide), if_neg (by decide), two_sl]

theorem ch_up (X : ℕ) (h : ℕ) (c : Dev nD) : ch X h (up X c) = ch X (h + 1) c := by
  apply Fin.ext
  simp only [ch, up]
  split <;> omega

theorem slM_add (h : ℕ) (j : Fin 8) : slM (h + 2) j = slM h j := by
  have : sl (h + 2) = sl h := Fin.ext (by simp only [sl]; omega)
  rw [slM, this]
theorem sl_add (h : ℕ) : sl (h + 2) = sl h := Fin.ext (by simp only [sl]; omega)

theorem fwd_split (c : Dev nD) (h : ℕ) (hh : h < 7) : (fwd (F := F) (up 0 c) h) = iprop(bun (ch 0 (h + 1) c) c ∗ fwd c (h + 1)) := by
  unfold fwd
  have hs : Finset.Ico (h + 1) 8 = insert (h + 1) (Finset.Ico (h + 1 + 1) 8) := by
    ext i; simp only [Finset.mem_Ico, Finset.mem_insert]; omega
  have : ch 1 (h + 1) (ch 0 (h + 1) c) = c := by
    apply Fin.ext; simp only [ch]; have := c.isLt; simp only [nD] at *; simp; omega
  rw [hs, bigSep_insert (by simp), ch_up, this]
  rfl

/-- The duties of the lanes' cells. -/
theorem dutR (w : Fin 3) (h : ℕ) (hh : h < 7) (j : Fin 8) : dutK (kR w (sl h) j) (h / 2) = {false} := by
  unfold dutK; dsimp only; rw [two_sl, if_pos hh]

/-! ## One lane's steps -/

section Steps

variable (I : In F) (c : Dev nD) (f0 : Vec F S4096x2048 .bf16) (m : ℕ) (j : Fin 8) (x : LC)

/-- A hop's arrival. -/
theorem Ln_recv (h : ℕ) (hh : h < 7) (hr : x.r = h) (hg : x.g ≤ h) (hs : x.sN ≤ h + 1) :
    Ln I c f0 m j x ⊢ iprop(cred (tallyAt (cell c (kR 1 (sl h) j)) (h / 2) nR) ∗ atPos ER (cell c (kR 1 (sl h) j)) (h / 2) ∅ 0
      ∗ ((payK I c (kR 1 (sl h) j) (h / 2) false ∗ atPos ER (cell c (kR 1 (sl h) j)) (h / 2 + 1) ∅ 0 ∗ reached ER (cell c (kR 1 (sl h) j)) (h / 2 + 1))
        -∗ Ln I c f0 m j { x with r := h + 1 })) := by
  have e1 : fam (fun i => x.r ≤ i ∧ i < 7) (fun i => (cred (tallyAt (cell c (kR 1 (sl i) j)) (i / 2) nR) : sProp 𝕄))
      = iprop(cred (tallyAt (cell c (kR 1 (sl h) j)) (h / 2) nR) ∗ fam (fun i => h + 1 ≤ i ∧ i < 7) (fun i => cred (tallyAt (cell c (kR 1 (sl i) j)) (i / 2) nR))) :=
    fam_take h (by omega) (by omega) (by intros; omega) _
  have e2 : fam (fun i => x.g ≤ i ∧ i < h + 1) (Φslot I c j) = iprop(Φslot I c j h ∗ fam (fun i => x.g ≤ i ∧ i < x.r) (Φslot I c j)) :=
    fam_take h (by omega) (by omega) (by intros; omega) _
  have e3 : fam (fun i => i < h + 1) (fun i => bun (F := F) (ch 0 (i + 1) c) c) = iprop(bun (ch 0 (h + 1) c) c ∗ fam (fun i => i < x.r) (fun i => bun (F := F) (ch 0 (i + 1) c) c)) :=
    fam_take h (by omega) (by omega) (by intros; omega) _
  have e4 : fam (fun i => x.sN ≤ i ∧ i ≤ h + 1) (fun i => fwd (F := F) c i) = iprop(fwd c (h + 1) ∗ fam (fun i => x.sN ≤ i ∧ i ≤ x.r) (fun i => fwd (F := F) c i)) :=
    fam_take (h + 1) (by omega) (by omega) (by intros; omega) _
  have e5 := ps_step (F := F) c 1 j h ((x.r + 1) / 2) (x.r / 2) (by split_ifs <;> omega)
  have e6 : (ps (F := F) c 1 j (if h % 2 = 0 then h / 2 + 1 else (x.r + 1) / 2) (if h % 2 = 0 then x.r / 2 else h / 2 + 1))
      = ps c 1 j ((h + 1 + 1) / 2) ((h + 1) / 2) := by
    congr 1 <;> split_ifs <;> omega
  rw [payR1]
  unfold Ln
  iintro ⟨Ho, Hs, Hk, Hp, Hr, Ht, Hg, Cr, Cc, Cs, ⟨P1, P0, P2⟩, Hb⟩
  ihave Cr := (Entails.of_eq e1) $$ Cr
  icases Cr with ⟨C, Cr⟩
  ihave P1 := e5 $$ P1
  icases P1 with ⟨P, P1⟩
  isplitl [C]; · iexact C
  isplitl [P]; · iexact P
  iintro ⟨⟨Y1, Y2, Y3⟩, P, Y4⟩
  ihave P1 := P1 $$ P
  ihave P1 := (Entails.of_eq e6) $$ P1
  isplitl [Ho]; · iexact Ho
  isplitl [Hs Y1 Y2 Y4]
  · iapply (Entails.of_eq e2.symm)
    isplitr [Hs]
    · isplitl [Y1]; · iexact Y1
      isplitl [Y2]; · iexact Y2
      iexact Y4
    iexact Hs
  isplitl [Hk]; · iexact Hk
  isplitl [Hp]; · iexact Hp
  isplitl [Hr]; · iexact Hr
  isplitl [Ht]; · iexact Ht
  isplitl [Hg]; · iexact Hg
  isplitl [Cr]; · iexact Cr
  isplitl [Cc]; · iexact Cc
  isplitl [Cs]; · iexact Cs
  isplitl [P1 P0 P2]
  · isplitl [P1]; · iexact P1
    isplitl [P0]; · iexact P0
    iexact P2
  by_cases hj : j = 0
  · subst hj
    ihave Y3 := (show (if (0 : Fin 8) = 0 then fwd (F := F) (up 0 c) h else iprop(emp)) ⊢ iprop(bun (ch 0 (h + 1) c) c ∗ fwd c (h + 1)) from
      Entails.of_eq ((if_pos rfl).trans (fwd_split c h hh))) $$ Y3
    icases Y3 with ⟨Ya, Yb⟩
    ihave Hb := (show (if (0 : Fin 8) = 0 then bunds (F := F) c x else iprop(emp)) ⊢ bunds c x from Entails.of_eq (if_pos rfl)) $$ Hb
    iapply (show bunds (F := F) c { x with r := h + 1 } ⊢ (if (0 : Fin 8) = 0 then bunds (F := F) c { x with r := h + 1 } else iprop(emp)) from Entails.of_eq (if_pos rfl).symm)
    unfold bunds
    icases Hb with ⟨B1, B2⟩
    isplitl [Ya B1]
    · iapply (Entails.of_eq e3.symm)
      isplitl [Ya]; · iexact Ya
      iexact B1
    · iapply (Entails.of_eq e4.symm)
      isplitl [Yb]; · iexact Yb
      iexact B2
  · iapply (show iprop(emp) ⊢ (if j = 0 then bunds (F := F) c { x with r := h + 1 } else iprop(emp)) from Entails.of_eq (if_neg hj).symm)
    ihave Hb := (show (if j = 0 then bunds (F := F) c x else iprop(emp)) ⊢ iprop(emp) from Entails.of_eq (if_neg hj)) $$ Hb
    ihave Y3 := (show (if j = 0 then fwd (F := F) (up 0 c) h else iprop(emp)) ⊢ iprop(emp) from Entails.of_eq (if_neg hj)) $$ Y3
    iexact Hb

/-- The slot of an arrived hop. -/
theorem Ln_slot (h : ℕ) (h1 : x.g ≤ h) (h2 : h < x.r) (hh : h < 7) :
    Ln I c f0 m j x ⊢ iprop(slotAt I c h j ∗ (slotAt I c h j -∗ Ln I c f0 m j x)) := by
  have e1 : fam (fun i => x.g ≤ i ∧ i < x.r) (Φslot I c j) = iprop(Φslot I c j h ∗ fam (fun i => (x.g ≤ i ∧ i < x.r) ∧ i ≠ h) (Φslot I c j)) :=
    fam_take h (by omega) (by omega) (by intros; omega) _
  unfold Ln
  iintro ⟨Ho, Hs, HR⟩
  ihave Hs := (Entails.of_eq e1) $$ Hs
  icases Hs with ⟨⟨H1, H2⟩, H3⟩
  isplitl [H1]; · iexact H1
  iintro H1
  isplitl [Ho]; · iexact Ho
  isplitr [HR]
  · iapply (Entails.of_eq e1.symm)
    isplitr [H3]
    · isplitl [H1]; · iexact H1
      iexact H2
    iexact H3
  iexact HR

/-- A piece of the output, to be read. -/
theorem Ln_piece (i : ℕ) (h1 : x.sN ≤ i) (hi : i < 8) :
    Ln I c f0 m j x ⊢ iprop(Φout I c f0 m (lx j) j x.a i ∗ (Φout I c f0 m (lx j) j x.a i -∗ Ln I c f0 m j x)) := by
  have e1 : fam (fun i => x.sN ≤ i ∨ i / 2 < x.w i) (Φout I c f0 m (lx j) j x.a)
      = iprop(Φout I c f0 m (lx j) j x.a i ∗ fam (fun k => (x.sN ≤ k ∨ k / 2 < x.w k) ∧ k ≠ i) (Φout I c f0 m (lx j) j x.a)) :=
    fam_take i hi (Or.inl h1) (by intros; exact Iff.rfl) _
  unfold Ln
  iintro ⟨Ho, HR⟩
  ihave Ho := (Entails.of_eq e1) $$ Ho
  icases Ho with ⟨H1, H2⟩
  isplitl [H1]; · iexact H1
  iintro H1
  isplitr [HR]
  · iapply (Entails.of_eq e1.symm)
    isplitl [H1]; · iexact H1
    iexact H2
  iexact HR

/-- A piece of the output, to be accumulated into. -/
theorem Ln_store (h : ℕ) (ha : x.a = h) (h1 : x.sN ≤ h + 1) (hi : h < 7) :
    Ln I c f0 m j x ⊢ iprop(Φout I c f0 m (lx j) j x.a (h + 1)
      ∗ (own' c (pM (ch (lx j) (h + 1) c) j) fullShare (pcv (A I (h + 1) c) (ch (lx j) (h + 1) c) j) -∗ Ln I c f0 m j { x with a := h + 1 })) := by
  have e1 : fam (fun i => x.sN ≤ i ∨ i / 2 < x.w i) (Φout I c f0 m (lx j) j x.a)
      = iprop(Φout I c f0 m (lx j) j x.a (h + 1) ∗ fam (fun k => (x.sN ≤ k ∨ k / 2 < x.w k) ∧ k ≠ h + 1) (Φout I c f0 m (lx j) j x.a)) :=
    fam_take (h + 1) (by omega) (Or.inl h1) (by intros; exact Iff.rfl) _
  have e2 : fam (fun i => x.sN ≤ i ∨ i / 2 < x.w i) (Φout I c f0 m (lx j) j (h + 1))
      = iprop(Φout I c f0 m (lx j) j (h + 1) (h + 1) ∗ fam (fun k => (x.sN ≤ k ∨ k / 2 < x.w k) ∧ k ≠ h + 1) (Φout I c f0 m (lx j) j (h + 1))) :=
    fam_take (h + 1) (by omega) (Or.inl h1) (by intros; exact Iff.rfl) _
  have e3 : fam (fun k => (x.sN ≤ k ∨ k / 2 < x.w k) ∧ k ≠ h + 1) (Φout I c f0 m (lx j) j x.a)
      = fam (fun k => (x.sN ≤ k ∨ k / 2 < x.w k) ∧ k ≠ h + 1) (Φout I c f0 m (lx j) j (h + 1)) := by
    refine fam_congr (fun _ _ => Iff.rfl) fun i _ hi => ?_
    show own' c _ _ (pcv (Zc I c f0 m (lx j) x.a i) _ _) = own' c _ _ (pcv (Zc I c f0 m (lx j) (h + 1) i) _ _)
    have : Zc I c f0 m (lx j) x.a i = Zc I c f0 m (lx j) (h + 1) i := by
      unfold Zc
      by_cases hia : i ≤ x.a
      · rw [if_pos hia, if_pos (by omega)]
      · rw [if_neg hia, if_neg (show ¬ i ≤ h + 1 by have := hi.2; omega)]
    rw [this]
  have e4 : (own' c (pM (ch (lx j) (h + 1) c) j) fullShare (pcv (A I (h + 1) c) (ch (lx j) (h + 1) c) j) : sProp 𝕄)
      = Φout I c f0 m (lx j) j (h + 1) (h + 1) := by
    show _ = own' c _ _ (pcv (Zc I c f0 m (lx j) (h + 1) (h + 1)) _ _)
    unfold Zc; rw [if_pos le_rfl]
  unfold Ln
  iintro ⟨Ho, HR⟩
  ihave Ho := (Entails.of_eq e1) $$ Ho
  icases Ho with ⟨H1, H2⟩
  isplitl [H1]; · iexact H1
  iintro H1
  isplitr [HR]
  · iapply (Entails.of_eq e2.symm)
    isplitl [H1]; · iapply (Entails.of_eq e4); iexact H1
    iapply (Entails.of_eq e3); iexact H2
  iexact HR

/-- The end of a send. -/
theorem Ln_sendwait (h : ℕ) (hh : h < 7) (hw : x.w h = h / 2) (hs : h < x.sN) (ha : h ≤ x.a) (hs2 : h < 5 → x.sN ≤ h + 2) :
    Ln I c f0 m j x ⊢ iprop(cred (tallyAt (cell c (kR 0 (sl h) j)) (h / 2) nR) ∗ atPos ER (cell c (kR 0 (sl h) j)) (h / 2) ∅ 0
      ∗ ((payK I c (kR 0 (sl h) j) (h / 2) false ∗ atPos ER (cell c (kR 0 (sl h) j)) (h / 2 + 1) ∅ 0 ∗ reached ER (cell c (kR 0 (sl h) j)) (h / 2 + 1))
        -∗ Ln I c f0 m j (x.setw h (h / 2 + 1)))) := by
  have e1 : fam (fun i => i < x.sN ∧ x.w i ≤ i / 2) (fun i => (cred (tallyAt (cell c (kR 0 (sl i) j)) (i / 2) nR) : sProp 𝕄))
      = iprop(cred (tallyAt (cell c (kR 0 (sl h) j)) (h / 2) nR) ∗ fam (fun i => i < (x.setw h (h / 2 + 1)).sN ∧ (x.setw h (h / 2 + 1)).w i ≤ i / 2) (fun i => cred (tallyAt (cell c (kR 0 (sl i) j)) (i / 2) nR))) :=
    fam_take h (by omega) (by omega) (by intro i hi; simp only [LC.w, LC.setw] at *; split_ifs at * <;> omega) _
  have e2 : fam (fun i => (x.setw h (h / 2 + 1)).sN ≤ i ∨ i / 2 < (x.setw h (h / 2 + 1)).w i) (Φout I c f0 m (lx j) j x.a)
      = iprop(Φout I c f0 m (lx j) j x.a h ∗ fam (fun i => x.sN ≤ i ∨ i / 2 < x.w i) (Φout I c f0 m (lx j) j x.a)) :=
    fam_take h (by omega) (by simp only [LC.w, LC.setw] at *; split_ifs at * <;> omega) (by intro i hi; simp only [LC.w, LC.setw] at *; split_ifs at * <;> omega) _
  have e3 : payK I c (kR 0 (sl h) j) (h / 2) false = Φout I c f0 m (lx j) j x.a h := by
    rw [payR0]
    show _ = own' c _ _ (pcv (Zc I c f0 m (lx j) x.a h) _ _)
    unfold Zc; rw [if_pos ha]; rfl
  have e5 := ps_step (F := F) c 0 j h x.w0 x.w1 hw
  unfold Ln
  iintro ⟨Ho, Hs, Hk, Hp, Hr, Ht, Hg, Cr, Cc, Cs, ⟨P1, P0, P2⟩, Hb⟩
  ihave Cs := (Entails.of_eq e1) $$ Cs
  icases Cs with ⟨C, Cs⟩
  ihave P0 := e5 $$ P0
  icases P0 with ⟨P, P0⟩
  isplitl [C]; · iexact C
  isplitl [P]; · iexact P
  iintro ⟨Y1, P, Y4⟩
  ihave P0 := P0 $$ P
  isplitl [Ho Y1]
  · iapply (Entails.of_eq e2.symm)
    isplitl [Y1]; · iapply (Entails.of_eq e3); iexact Y1
    iexact Ho
  isplitl [Hs]; · iexact Hs
  isplitl [Hk]; · iexact Hk
  isplitl [Hp]; · iexact Hp
  isplitl [Hr Y4]
  · by_cases h5 : h < 5
    · have e6 : fam (fun i => (x.setw h (h / 2 + 1)).sN ≤ i ∧ i < 7 ∧ i / 2 ≤ (x.setw h (h / 2 + 1)).w i) (fun i => (reached ER (cell c (kR 0 (sl i) j)) (i / 2) : sProp 𝕄))
          = iprop(reached ER (cell c (kR 0 (sl (h + 2)) j)) ((h + 2) / 2) ∗ fam (fun i => x.sN ≤ i ∧ i < 7 ∧ i / 2 ≤ x.w i) (fun i => reached ER (cell c (kR 0 (sl i) j)) (i / 2))) :=
        fam_take (h + 2) (by omega) (by have := hs2 h5; simp only [LC.w, LC.setw] at *; split_ifs at * <;> omega)
          (by intro i hi; have := hs2 h5; simp only [LC.w, LC.setw] at *; split_ifs at * <;> omega) _
      iapply (Entails.of_eq e6.symm)
      isplitl [Y4]
      · rw [sl_add, show (h + 2) / 2 = h / 2 + 1 by omega]; iexact Y4
      iexact Hr
    · have e6 : fam (fun i => x.sN ≤ i ∧ i < 7 ∧ i / 2 ≤ x.w i) (fun i => (reached ER (cell c (kR 0 (sl i) j)) (i / 2) : sProp 𝕄))
          = fam (fun i => (x.setw h (h / 2 + 1)).sN ≤ i ∧ i < 7 ∧ i / 2 ≤ (x.setw h (h / 2 + 1)).w i) (fun i => (reached ER (cell c (kR 0 (sl i) j)) (i / 2) : sProp 𝕄)) :=
        fam_congr (by intro i hi; simp only [LC.w, LC.setw] at *; split_ifs at * <;> omega) (fun _ _ _ => rfl)
      iapply (Entails.of_eq e6)
      iexact Hr
  isplitl [Ht]; · iexact Ht
  isplitl [Hg]; · iexact Hg
  isplitl [Cr]; · iexact Cr
  isplitl [Cc]; · iexact Cc
  isplitl [Cs]; · iexact Cs
  isplitl [P1 P0 P2]
  · isplitl [P1]; · iexact P1
    isplitl [P0]; · iexact P0
    iexact P2
  iexact Hb

/-- A credit. -/
theorem Ln_credwait (h : ℕ) (hh : h < 7) (hw : x.c h = h / 2) (hs2 : h < 5 → x.sN ≤ h + 2) (hs3 : ¬ h < 5 → 7 ≤ x.sN) :
    Ln I c f0 m j x ⊢ iprop(cred (tallyAt (cell c (kR 2 (sl h) j)) (h / 2) 1) ∗ atPos ER (cell c (kR 2 (sl h) j)) (h / 2) ∅ 0
      ∗ ((payK I c (kR 2 (sl h) j) (h / 2) false ∗ atPos ER (cell c (kR 2 (sl h) j)) (h / 2 + 1) ∅ 0 ∗ reached ER (cell c (kR 2 (sl h) j)) (h / 2 + 1))
        -∗ Ln I c f0 m j (x.setc h (h / 2 + 1)))) := by
  have e1 : fam (fun i => x.c i ≤ i / 2 ∧ i < 7) (fun i => (cred (tallyAt (cell c (kR 2 (sl i) j)) (i / 2) 1) : sProp 𝕄))
      = iprop(cred (tallyAt (cell c (kR 2 (sl h) j)) (h / 2) 1) ∗ fam (fun i => (x.setc h (h / 2 + 1)).c i ≤ i / 2 ∧ i < 7) (fun i => cred (tallyAt (cell c (kR 2 (sl i) j)) (i / 2) 1))) :=
    fam_take h (by omega) (by omega) (by intro i hi; simp only [LC.c, LC.setc] at *; split_ifs at * <;> omega) _
  have e5 := ps_step (F := F) c 2 j h x.c0 x.c1 hw
  rw [payR2]
  unfold Ln
  iintro ⟨Ho, Hs, Hk, Hp, Hr, Ht, Hg, Cr, Cc, Cs, ⟨P1, P0, P2⟩, Hb⟩
  ihave Cc := (Entails.of_eq e1) $$ Cc
  icases Cc with ⟨C, Cc⟩
  ihave P2 := e5 $$ P2
  icases P2 with ⟨P, P2⟩
  isplitl [C]; · iexact C
  isplitl [P]; · iexact P
  iintro ⟨Y1, P, Y4⟩
  ihave P2 := P2 $$ P
  isplitl [Ho]; · iexact Ho
  isplitl [Hs]; · iexact Hs
  isplitl [Hk]; · iexact Hk
  isplitl [Hp Y1 Y4]
  · by_cases h5 : h < 5
    · have e6 : fam (fun i => (x.setc h (h / 2 + 1)).sN ≤ i ∧ i < 7 ∧ i / 2 ≤ (x.setc h (h / 2 + 1)).c i) (Φpeer (F := F) c j)
          = iprop(Φpeer (F := F) c j (h + 2) ∗ fam (fun i => x.sN ≤ i ∧ i < 7 ∧ i / 2 ≤ x.c i) (Φpeer (F := F) c j)) :=
        fam_take (h + 2) (by omega) (by have := hs2 h5; simp only [LC.c, LC.setc] at *; split_ifs at * <;> omega)
          (by intro i hi; have := hs2 h5; simp only [LC.c, LC.setc] at *; split_ifs at * <;> omega) _
      ihave Y1 := (Entails.of_eq (if_pos h5)) $$ Y1
      icases Y1 with ⟨Ya, Yb⟩
      iapply (Entails.of_eq e6.symm)
      isplitr [Hp]
      · have e7 : Φpeer (F := F) c j (h + 2) = iprop(slotAny (F := F) (tgt (lx j) c) h j ∗ reached ER (cell (tgt (lx j) c) (kR 1 (sl h) j)) (h / 2 + 1) ∗ reached ER (cell c (kR 2 (sl h) j)) (h / 2 + 1)) := by
          show iprop(any' (F := F) (tgt (lx j) c) (slM (h + 2) j) ∗ _) = _
          rw [slM_add, sl_add, show (h + 2) / 2 = h / 2 + 1 by omega]; rfl
        iapply (Entails.of_eq e7.symm)
        isplitl [Ya]; · iexact Ya
        isplitl [Yb]; · iexact Yb
        iexact Y4
      iexact Hp
    · have e6 : fam (fun i => x.sN ≤ i ∧ i < 7 ∧ i / 2 ≤ x.c i) (Φpeer (F := F) c j)
          = fam (fun i => (x.setc h (h / 2 + 1)).sN ≤ i ∧ i < 7 ∧ i / 2 ≤ (x.setc h (h / 2 + 1)).c i) (Φpeer (F := F) c j) :=
        fam_congr (by intro i hi; have := hs3 h5; simp only [LC.c, LC.setc] at *; split_ifs at * <;> omega) (fun _ _ _ => rfl)
      iapply (Entails.of_eq e6)
      ihave Y1 := (Entails.of_eq (if_neg h5)) $$ Y1
      iexact Hp
  isplitl [Hr]; · iexact Hr
  isplitl [Ht]; · iexact Ht
  isplitl [Hg]; · iexact Hg
  isplitl [Cr]; · iexact Cr
  isplitl [Cc]; · iexact Cc
  isplitl [Cs]; · iexact Cs
  isplitl [P1 P0 P2]
  · isplitl [P1]; · iexact P1
    isplitl [P0]; · iexact P0
    iexact P2
  iexact Hb

/-- A send. -/
theorem Ln_send (h : ℕ) (hh : h < 7) (hs : x.sN = h) (ha : h ≤ x.a) (hr : h ≤ x.r) (hw : x.w h = h / 2) (hc : h / 2 ≤ x.c h) :
    Ln I c f0 m j x ⊢ iprop(own' c (pM (ch (lx j) h c) j) fullShare (pv I c h j) ∗ slotAny (F := F) (tgt (lx j) c) h j
      ∗ (reached ER (cell c (kR 2 (sl h) j)) (h / 2) ∗ if j = 0 then fwd (F := F) c h else iprop(emp))
      ∗ (dutyTok ER (cell c (kR 0 (sl h) j)) (h / 2) false ∗ reached ER (cell c (kR 0 (sl h) j)) (h / 2))
      ∗ (dutyTok ER (cell (tgt (lx j) c) (kR 1 (sl h) j)) (h / 2) false ∗ reached ER (cell (tgt (lx j) c) (kR 1 (sl h) j)) (h / 2))
      ∗ (cred (tallyAt (cell c (kR 0 (sl h) j)) (h / 2) nR) -∗ Ln I c f0 m j { x with sN := h + 1 })) := by
  have e1 : fam (fun i => x.sN ≤ i ∨ i / 2 < x.w i) (Φout I c f0 m (lx j) j x.a)
      = iprop(Φout I c f0 m (lx j) j x.a h ∗ fam (fun i => h + 1 ≤ i ∨ i / 2 < x.w i) (Φout I c f0 m (lx j) j x.a)) :=
    fam_take h (by omega) (by omega) (by intro i hi; by_cases e : i = h <;> [(subst e; omega); omega]) _
  have e3 : Φout I c f0 m (lx j) j x.a h = own' c (pM (ch (lx j) h c) j) fullShare (pv I c h j) := by
    show own' c _ _ (pcv (Zc I c f0 m (lx j) x.a h) _ _) = _
    unfold Zc; rw [if_pos ha]; rfl
  have e4 : fam (fun i => x.sN ≤ i ∧ i < 7 ∧ i / 2 ≤ x.c i) (Φpeer (F := F) c j)
      = iprop(Φpeer (F := F) c j h ∗ fam (fun i => h + 1 ≤ i ∧ i < 7 ∧ i / 2 ≤ x.c i) (Φpeer (F := F) c j)) :=
    fam_take h (by omega) (by omega) (by intro i hi; omega) _
  have e5 : fam (fun i => x.sN ≤ i ∧ i < 7 ∧ i / 2 ≤ x.w i) (fun i => (reached ER (cell c (kR 0 (sl i) j)) (i / 2) : sProp 𝕄))
      = iprop(reached ER (cell c (kR 0 (sl h) j)) (h / 2) ∗ fam (fun i => h + 1 ≤ i ∧ i < 7 ∧ i / 2 ≤ x.w i) (fun i => reached ER (cell c (kR 0 (sl i) j)) (i / 2))) :=
    fam_take h (by omega) (by omega) (by intro i hi; omega) _
  have e6 : fam (fun i => x.sN ≤ i ∧ i < 7) (Φtok (F := F) c j) = iprop(Φtok (F := F) c j h ∗ fam (fun i => h + 1 ≤ i ∧ i < 7) (Φtok (F := F) c j)) :=
    fam_take h (by omega) (by omega) (by intro i hi; omega) _
  have e7 : fam (fun i => i < h + 1 ∧ x.w i ≤ i / 2) (fun i => (cred (tallyAt (cell c (kR 0 (sl i) j)) (i / 2) nR) : sProp 𝕄))
      = iprop(cred (tallyAt (cell c (kR 0 (sl h) j)) (h / 2) nR) ∗ fam (fun i => i < x.sN ∧ x.w i ≤ i / 2) (fun i => cred (tallyAt (cell c (kR 0 (sl i) j)) (i / 2) nR))) :=
    fam_take h (by omega) (by omega) (by intro i hi; omega) _
  have e8 : fam (fun i => x.sN ≤ i ∧ i ≤ x.r) (fun i => fwd (F := F) c i) = iprop(fwd c h ∗ fam (fun i => h + 1 ≤ i ∧ i ≤ x.r) (fun i => fwd (F := F) c i)) :=
    fam_take h (by omega) (by omega) (by intro i hi; omega) _
  have e9 : (if j = 0 then bunds (F := F) c x else iprop(emp)) ⊢ iprop((if j = 0 then fwd (F := F) c h else iprop(emp)) ∗ if j = 0 then bunds (F := F) c { x with sN := h + 1 } else iprop(emp)) := by
    by_cases hj : j = 0
    · rw [if_pos hj, if_pos hj, if_pos hj]; unfold bunds
      iintro ⟨B1, B2⟩
      ihave B2 := (Entails.of_eq e8) $$ B2
      icases B2 with ⟨B2, B3⟩
      isplitl [B2]; · iexact B2
      isplitl [B1]; · iexact B1
      iexact B3
    · rw [if_neg hj, if_neg hj, if_neg hj]
      iintro H
      isplitl [H]; · iexact H
      iempintro
  unfold Ln
  iintro ⟨Ho, Hs, Hk, Hp, Hr, Ht, Hg, Cr, Cc, Cs, HP, Hb⟩
  ihave Ho := (Entails.of_eq e1) $$ Ho
  icases Ho with ⟨X1, Ho⟩
  ihave Hp := (Entails.of_eq e4) $$ Hp
  icases Hp with ⟨⟨X2, X3, X4⟩, Hp⟩
  ihave Hr := (Entails.of_eq e5) $$ Hr
  icases Hr with ⟨X5, Hr⟩
  ihave Ht := (Entails.of_eq e6) $$ Ht
  icases Ht with ⟨⟨X6, X7⟩, Ht⟩
  ihave Hb := e9 $$ Hb
  icases Hb with ⟨X8, Hb⟩
  isplitl [X1]; · iapply (Entails.of_eq e3); iexact X1
  isplitl [X2]; · iexact X2
  isplitl [X4 X8]
  · isplitl [X4]; · iexact X4
    iexact X8
  isplitl [X7 X5]
  · isplitl [X7]; · iexact X7
    iexact X5
  isplitl [X6 X3]
  · isplitl [X6]; · iexact X6
    iexact X3
  iintro C
  isplitl [Ho]; · iexact Ho
  isplitl [Hs]; · iexact Hs
  isplitl [Hk]; · iexact Hk
  isplitl [Hp]; · iexact Hp
  isplitl [Hr]; · iexact Hr
  isplitl [Ht]; · iexact Ht
  isplitl [Hg]; · iexact Hg
  isplitl [Cr]; · iexact Cr
  isplitl [Cc]; · iexact Cc
  isplitl [Cs C]
  · iapply (Entails.of_eq e7.symm)
    isplitl [C]; · iexact C
    iexact Cs
  isplitl [HP]; · iexact HP
  iexact Hb

/-- A credit given. -/
theorem Ln_signal (h : ℕ) (hh : h < 7) (hg : x.g = h) (hr : h < x.r) :
    Ln I c f0 m j x ⊢ iprop(payK I (up (lx j) c) (kR 2 (sl h) j) (h / 2) false
      ∗ (dutyTok ER (cell (up (lx j) c) (kR 2 (sl h) j)) (h / 2) false ∗ reached ER (cell (up (lx j) c) (kR 2 (sl h) j)) (h / 2))
      ∗ Ln I c f0 m j { x with g := h + 1 }) := by
  have e1 : fam (fun i => x.g ≤ i ∧ i < x.r) (Φslot I c j) = iprop(Φslot I c j h ∗ fam (fun i => h + 1 ≤ i ∧ i < x.r) (Φslot I c j)) :=
    fam_take h (by omega) (by omega) (by intros; omega) _
  have e2 : fam (fun i => x.g ≤ i ∧ i < 7) (fun i => (dutyTok ER (cell (up (lx j) c) (kR 2 (sl i) j)) (i / 2) false : sProp 𝕄))
      = iprop(dutyTok ER (cell (up (lx j) c) (kR 2 (sl h) j)) (h / 2) false ∗ fam (fun i => h + 1 ≤ i ∧ i < 7) (fun i => dutyTok ER (cell (up (lx j) c) (kR 2 (sl i) j)) (i / 2) false)) :=
    fam_take h (by omega) (by omega) (by intros; omega) _
  have e3 : slotAt I c h j ⊢ slotAny (F := F) c h j := any_intro _ _ _
  rw [payR2, tgt_up_l]
  unfold Ln
  iintro ⟨Ho, Hs, Hk, Hp, Hr, Ht, Hg, HR⟩
  ihave Hs := (Entails.of_eq e1) $$ Hs
  icases Hs with ⟨⟨X1, X2, X3⟩, Hs⟩
  ihave X1 := e3 $$ X1
  ihave Hg := (Entails.of_eq e2) $$ Hg
  icases Hg with ⟨X4, Hg⟩
  by_cases h5 : h < 5
  · have e4 : fam (fun i => 5 ≤ i ∧ i < x.g) (fun i => slotAny (F := F) c i j) = fam (fun i => 5 ≤ i ∧ i < h + 1) (fun i => slotAny (F := F) c i j) :=
      fam_congr (by intros; omega) (fun _ _ _ => rfl)
    isplitl [X1 X3]
    · iapply (show iprop(slotAny (F := F) c h j ∗ reached ER (cell c (kR 1 (sl h) j)) (h / 2 + 1)) ⊢ (if h < 5 then iprop(slotAny (F := F) c h j ∗ reached ER (cell c (kR 1 (sl h) j)) (h / 2 + 1)) else iprop(emp)) from Entails.of_eq (if_pos h5).symm)
      isplitl [X1]; · iexact X1
      iexact X3
    isplitl [X4 X2]
    · isplitl [X4]; · iexact X4
      iexact X2
    isplitl [Ho]; · iexact Ho
    isplitl [Hs]; · iexact Hs
    isplitl [Hk]; · iapply (Entails.of_eq e4); iexact Hk
    isplitl [Hp]; · iexact Hp
    isplitl [Hr]; · iexact Hr
    isplitl [Ht]; · iexact Ht
    isplitl [Hg]; · iexact Hg
    iexact HR
  · have e4 : fam (fun i => 5 ≤ i ∧ i < h + 1) (fun i => slotAny (F := F) c i j) = iprop(slotAny (F := F) c h j ∗ fam (fun i => 5 ≤ i ∧ i < x.g) (fun i => slotAny (F := F) c i j)) :=
      fam_take h (by omega) (by omega) (by intros; omega) _
    isplitl []
    · iapply (show iprop(emp) ⊢ (if h < 5 then iprop(slotAny (F := F) c h j ∗ reached ER (cell c (kR 1 (sl h) j)) (h / 2 + 1)) else iprop(emp)) from Entails.of_eq (if_neg h5).symm)
      iempintro
    isplitl [X4 X2]
    · isplitl [X4]; · iexact X4
      iexact X2
    isplitl [Ho]; · iexact Ho
    isplitl [Hs]; · iexact Hs
    isplitl [Hk X1]
    · iapply (Entails.of_eq e4.symm)
      isplitl [X1]; · iexact X1
      iexact Hk
    isplitl [Hp]; · iexact Hp
    isplitl [Hr]; · iexact Hr
    isplitl [Ht]; · iexact Ht
    isplitl [Hg]; · iexact Hg
    iexact HR

end Steps

end K
-- ==== Proof.K.RSOps.lean ====
module

public import proofs.«01_k».proof.Proof.K.Lane

/-!
# The operations of the reduce-scatter

Each operation of the program takes the state of the reduce-scatter to its next state.
-/

@[expose] public section

noncomputable section

namespace K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The whole state: the dues paid, the local products done, the lanes' counters, and what the phase leaves alone. -/
def RS (I : In F) (K : Dev nD × Kn → ℕ) (c : Dev nD) (f0 : Vec F S4096x2048 .bf16) (R : sProp 𝕄) (n m : ℕ) (f : Fin 8 → LC) : sProp 𝕄 :=
  iprop((recs I K ∗ ow c n) ∗ (own' c aX fullShare (I.x c) ∗ own' c aW fullShare (I.w c))
    ∗ (bigSep Finset.univ fun j => Ln I c f0 m j (f j)) ∗ R)

/-- What a lane's piece of the local product holds. -/
def gv (I : In F) (c : Dev nD) (h : ℕ) (j : Fin 8) : Vec F S512x256 .bf16 := fun y => G I c ((pR (ch (lx j) h c) j).emb y)

/-- What a slot holds after hop `h`. -/
def cv (I : In F) (c : Dev nD) (h : ℕ) (j : Fin 8) : Vec F S1x1x512x256 .bf16 :=
  fun y => pv I (up (lx j) c) h j (Shape.reshapeEquiv shapeCasts_S1x1x512x256_S512x256.symm y)

theorem sum_eq (I : In F) (c : Dev nD) (h : ℕ) (j : Fin 8) :
    addf (shapeCast S512x256 (gv I c (h + 1) j) shapeCasts_S512x256_S512x256) (shapeCast S512x256 (cv I c h j) shapeCasts_S1x1x512x256_S512x256)
      = pcv (A I (h + 1) c) (ch (lx j) (h + 1) c) j := by
  have e := A_succ_p I h c (ch (lx j) (h + 1) c) j
  refine Eq.trans ?_ e.symm
  funext y
  show FloatOps.addf (φ := .bf16) (gv I c (h + 1) j (Shape.reshapeEquiv _ y)) (cv I c h j (Shape.reshapeEquiv _ y)) = _
  rw [Shape.reshapeEquiv_self]
  unfold cv
  rw [Shape.reshapeEquiv_reshapeEquiv, Shape.reshapeEquiv_self]
  unfold pv gv
  rw [ch_up]

/-- A slot, seen in its buffer's own shape. -/
theorem slot_unsq (I : In F) (c : Dev nD) (h : ℕ) (j : Fin 8) :
    slotAt I c h j ⊣⊢ own' c (sM' (lx j) (sl h) (gF j)) fullShare (cv I c h j) := by
  unfold slotAt
  constructor
  · iintro H
    ihave H' := (show own' c (slM h j) fullShare (pv I (up (lx j) c) h j) ⊢ iprop(∃ f, ⌜(slM h j).view.read (Elt F) f = pv I (up (lx j) c) h j⌝ ∗ (slM h j).view.loc (c : Thread nD τ) ↦[(slM h j).view.set]{fullShare} f) from .rfl) $$ H
    icases H' with ⟨%f, %hf, H⟩
    iapply (show iprop(∃ f, ⌜(sM' (lx j) (sl h) (gF j)).view.read (Elt F) f = cv I c h j⌝ ∗ (sM' (lx j) (sl h) (gF j)).view.loc (c : Thread nD τ) ↦[(sM' (lx j) (sl h) (gF j)).view.set]{fullShare} f) ⊢ own' c (sM' (lx j) (sl h) (gF j)) fullShare (cv I c h j) from .rfl)
    iexists f
    isplitr
    · ipureintro
      funext y
      unfold cv
      rw [← hf]
      show _ = (sM' (lx j) (sl h) (gF j)).view.read (Elt F) f (Shape.reshapeEquiv _ _)
      rw [Shape.reshapeEquiv_reshapeEquiv, Shape.reshapeEquiv_self]
    · rw [show (slM h j).view.set = (sM' (lx j) (sl h) (gF j)).view.set from View.set_reshape _ _]
      iexact H
  · iintro H
    ihave H' := (show own' c (sM' (lx j) (sl h) (gF j)) fullShare (cv I c h j) ⊢ iprop(∃ f, ⌜(sM' (lx j) (sl h) (gF j)).view.read (Elt F) f = cv I c h j⌝ ∗ (sM' (lx j) (sl h) (gF j)).view.loc (c : Thread nD τ) ↦[(sM' (lx j) (sl h) (gF j)).view.set]{fullShare} f) from .rfl) $$ H
    icases H' with ⟨%f, %hf, H⟩
    iapply (show iprop(∃ f, ⌜(slM h j).view.read (Elt F) f = pv I (up (lx j) c) h j⌝ ∗ (slM h j).view.loc (c : Thread nD τ) ↦[(slM h j).view.set]{fullShare} f) ⊢ own' c (slM h j) fullShare (pv I (up (lx j) c) h j) from .rfl)
    iexists f
    isplitr
    · ipureintro
      funext y
      show (sM' (lx j) (sl h) (gF j)).view.read (Elt F) f (Shape.reshapeEquiv _ y) = _
      rw [hf]
      unfold cv
      rw [Shape.reshapeEquiv_reshapeEquiv, Shape.reshapeEquiv_self]
    · rw [show (slM h j).view.set = (sM' (lx j) (sl h) (gF j)).view.set from View.set_reshape _ _]
      iexact H

section Ops

variable {I : In F} {K : Dev nD × Kn → ℕ} {c : Dev nD} {f0 : Vec F S4096x2048 .bf16} {α : Type} {n m : ℕ} {f : Fin 8 → LC}

/-- One lane taken out of the state. -/
theorem RS_lane {R : sProp 𝕄} (j : Fin 8) :
    RS I K c f0 R n m f ⊢ iprop((recs I K ∗ ow c n) ∗ Ln I c f0 m j (f j)
      ∗ (∀ n' x', ((recs I K ∗ ow c n') ∗ Ln I c f0 m j x') -∗ RS I K c f0 R n' m (Function.update f j x'))) := by
  unfold RS
  iintro ⟨HO, HX, HL, HR⟩
  isplitl [HO]; · iexact HO
  ihave HL := (show (bigSep Finset.univ fun j => Ln I c f0 m j (f j)) ⊢ iprop(Ln I c f0 m j (f j) ∗ bigSep (Finset.univ.erase j) fun j => Ln I c f0 m j (f j)) from Entails.of_eq (bigSep_univ_at _ j)) $$ HL
  icases HL with ⟨Hj, HL⟩
  isplitl [Hj]; · iexact Hj
  iintro %n' %x' ⟨HO, Hj⟩
  isplitl [HO]; · iexact HO
  isplitl [HX]; · iexact HX
  isplitr [HR]
  · iapply (show iprop(Ln I c f0 m j x' ∗ bigSep (Finset.univ.erase j) fun j => Ln I c f0 m j (f j)) ⊢ (bigSep Finset.univ fun i => Ln I c f0 m i (Function.update f j x' i)) from by
      rw [bigSep_univ_at _ j, Function.update_self]
      refine sep_mono_right (Entails.of_eq (bigSep_congr fun i hi => ?_))
      rw [Function.update_of_ne (Finset.ne_of_mem_erase hi)])
    isplitl [Hj]; · iexact Hj
    iexact HL
  iexact HR

/-- The counters under another name. -/
theorem RS_eq {R : sProp 𝕄} {f' : Fin 8 → LC} (h : f = f') {P : sProp 𝕄} (hk : RS I K c f0 R n m f' ⊢ P) : RS I K c f0 R n m f ⊢ P := by
  subst h; exact hk

/-- The wait for a hop's arrival. -/
theorem rs_recv {R : sProp 𝕄} {Q : α → sProp 𝕄} {sm : DmaSem sig} (j : Fin 8) (h : ℕ)
    (hc : h < 7 ∧ (f j).r = h ∧ (f j).g ≤ h ∧ (f j).sN ≤ h + 1 ∧ lev (kR 1 (sl h) j) (h / 2) ≤ n ∧ 2 ≤ n)
    (hsm : (SemLoc.dma sm : SemLoc sig) = semOf (kR 1 (sl h) j)) {sp sp' : Space} {s s' : Shape} {e e' : EltTy}
    {src : Memref sig .tc sp' s' e'} {dst : Memref sig .tc sp s e} {hsrc : src.view.WordExact} {hdst : dst.view.WordExact}
    (hN : dst.view.dmaCredit = nR)
    {k : PUnit → Prog (TpuEff nD τ sig (Elt F) Λ₀ .tc) α}
    (hk : RS I K c f0 R n m (Function.update f j { f j with r := h + 1 }) ⊢ WP c (k ⟨⟩) Q) :
    RS I K c f0 R n m f ⊢ WP c (.op (.waitDma2 sm src dst hsrc hdst) k) Q := by
  obtain ⟨hh, hr, hg, hs, hl, hn⟩ := hc
  refine (RS_lane j).trans (op_wait I K (kR 1 (sl h) j) (h / 2) n (dutR 1 h hh j) (by omega) hl hn hsm hN
    (wpE_waitDma2_eq Variants.none (c : Thread nD τ) none Set.univ)
    (R := iprop(((payK I c (kR 1 (sl h) j) (h / 2) false ∗ atPos ER (cell c (kR 1 (sl h) j)) (h / 2 + 1) ∅ 0 ∗ reached ER (cell c (kR 1 (sl h) j)) (h / 2 + 1))
        -∗ Ln I c f0 m j { f j with r := h + 1 }) ∗ (∀ n' x', ((recs I K ∗ ow c n') ∗ Ln I c f0 m j x') -∗ RS I K c f0 R n' m (Function.update f j x')))) ?_ ?_)
  · iintro ⟨HO, HL, HW⟩
    ihave HL := (Ln_recv I c f0 m j (f j) h hh hr hg hs) $$ HL
    icases HL with ⟨H1, H2, H3⟩
    isplitl [HO]; · iexact HO
    isplitl [H1]; · iexact H1
    isplitl [H2]; · iexact H2
    isplitl [H3]; · iexact H3
    iexact HW
  · iintro ⟨HO, H1, ⟨H2, H3⟩, HL, HW⟩
    iapply hk
    iapply HW
    isplitl [HO]; · iexact HO
    iapply HL
    isplitl [H1]; · iexact H1
    isplitl [H2]; · iexact H2
    iexact H3

/-- The wait for a send's end. -/
theorem rs_sendwait {R : sProp 𝕄} {Q : α → sProp 𝕄} {sm : DmaSem sig} (j : Fin 8) (h : ℕ)
    (hc : h < 7 ∧ (f j).w h = h / 2 ∧ h < (f j).sN ∧ h ≤ (f j).a ∧ (h < 5 → (f j).sN ≤ h + 2) ∧ lev (kR 0 (sl h) j) (h / 2) ≤ n ∧ 2 ≤ n)
    (hsm : (SemLoc.dma sm : SemLoc sig) = semOf (kR 0 (sl h) j)) {sp sp' : Space} {s s' : Shape} {e e' : EltTy}
    {src : Memref sig .tc sp' s' e'} {dst : Memref sig .tc sp s e} {hsrc : src.view.WordExact} {hdst : dst.view.WordExact}
    (hN : dst.view.dmaCredit = nR)
    {k : PUnit → Prog (TpuEff nD τ sig (Elt F) Λ₀ .tc) α}
    (hk : RS I K c f0 R n m (Function.update f j ((f j).setw h (h / 2 + 1))) ⊢ WP c (k ⟨⟩) Q) :
    RS I K c f0 R n m f ⊢ WP c (.op (.waitDma2 sm src dst hsrc hdst) k) Q := by
  obtain ⟨hh, hw, hs, ha, hs2, hl, hn⟩ := hc
  refine (RS_lane j).trans (op_wait I K (kR 0 (sl h) j) (h / 2) n (dutR 0 h hh j) (by omega) hl hn hsm hN
    (wpE_waitDma2_eq Variants.none (c : Thread nD τ) none Set.univ)
    (R := iprop(((payK I c (kR 0 (sl h) j) (h / 2) false ∗ atPos ER (cell c (kR 0 (sl h) j)) (h / 2 + 1) ∅ 0 ∗ reached ER (cell c (kR 0 (sl h) j)) (h / 2 + 1))
        -∗ Ln I c f0 m j ((f j).setw h (h / 2 + 1))) ∗ (∀ n' x', ((recs I K ∗ ow c n') ∗ Ln I c f0 m j x') -∗ RS I K c f0 R n' m (Function.update f j x')))) ?_ ?_)
  · iintro ⟨HO, HL, HW⟩
    ihave HL := (Ln_sendwait I c f0 m j (f j) h hh hw hs ha hs2) $$ HL
    icases HL with ⟨H1, H2, H3⟩
    isplitl [HO]; · iexact HO
    isplitl [H1]; · iexact H1
    isplitl [H2]; · iexact H2
    isplitl [H3]; · iexact H3
    iexact HW
  · iintro ⟨HO, H1, ⟨H2, H3⟩, HL, HW⟩
    iapply hk
    iapply HW
    isplitl [HO]; · iexact HO
    iapply HL
    isplitl [H1]; · iexact H1
    isplitl [H2]; · iexact H2
    iexact H3

/-- The wait for a credit. -/
theorem rs_credwait {R : sProp 𝕄} {Q : α → sProp 𝕄} {sm : Sem sig} (j : Fin 8) (h : ℕ)
    (hc : h < 7 ∧ (f j).c h = h / 2 ∧ (h < 5 → (f j).sN ≤ h + 2) ∧ (¬ h < 5 → 7 ≤ (f j).sN) ∧ lev (kR 2 (sl h) j) (h / 2) ≤ n ∧ 2 ≤ n)
    (hsm : (SemLoc.reg sm : SemLoc sig) = semOf (kR 2 (sl h) j)) {v : Int} (hv : v = (1 : ℕ))
    {k : PUnit → Prog (TpuEff nD τ sig (Elt F) Λ₀ .tc) α}
    (hk : RS I K c f0 R n m (Function.update f j ((f j).setc h (h / 2 + 1))) ⊢ WP c (k ⟨⟩) Q) :
    RS I K c f0 R n m f ⊢ WP c (.op (.semWait sm v) k) Q := by
  subst hv
  obtain ⟨hh, hw, hs2, hs3, hl, hn⟩ := hc
  refine (RS_lane j).trans (op_wait I K (kR 2 (sl h) j) (h / 2) n (dutR 2 h hh j) (by omega) hl hn hsm rfl
    (wpE_semWait_eq Variants.none (c : Thread nD τ) none Set.univ)
    (R := iprop(((payK I c (kR 2 (sl h) j) (h / 2) false ∗ atPos ER (cell c (kR 2 (sl h) j)) (h / 2 + 1) ∅ 0 ∗ reached ER (cell c (kR 2 (sl h) j)) (h / 2 + 1))
        -∗ Ln I c f0 m j ((f j).setc h (h / 2 + 1))) ∗ (∀ n' x', ((recs I K ∗ ow c n') ∗ Ln I c f0 m j x') -∗ RS I K c f0 R n' m (Function.update f j x')))) ?_ ?_)
  · iintro ⟨HO, HL, HW⟩
    ihave HL := (Ln_credwait I c f0 m j (f j) h hh hw hs2 hs3) $$ HL
    icases HL with ⟨H1, H2, H3⟩
    isplitl [HO]; · iexact HO
    isplitl [H1]; · iexact H1
    isplitl [H2]; · iexact H2
    isplitl [H3]; · iexact H3
    iexact HW
  · iintro ⟨HO, H1, ⟨H2, H3⟩, HL, HW⟩
    iapply hk
    iapply HW
    isplitl [HO]; · iexact HO
    iapply HL
    isplitl [H1]; · iexact H1
    isplitl [H2]; · iexact H2
    iexact H3

/-- A credit given to the device before. -/
theorem rs_signal {R : sProp 𝕄} {Q : α → sProp 𝕄} {sm : Sem sig} (j : Fin 8) (h : Fin 7)
    (hc : (f j).g = h.val ∧ h.val < (f j).r ∧ ord (oC h j) = n) {t : Dev nD} (ht : t = up (lx j) c)
    (hsm : (SemLoc.reg sm : SemLoc sig) = semOf (kR 2 (sl h.val) j)) {v : Int} (hv : v = 1)
    {k : PUnit → Prog (TpuEff nD τ sig (Elt F) Λ₀ .tc) α}
    (hk : RS I K c f0 R (n + 1) m (Function.update f j { f j with g := h.val + 1 }) ⊢ WP c (k ⟨⟩) Q) :
    RS I K c f0 R n m f ⊢ WP c (.op (.semSignal ((t, .tc) : Thread nD τ) sm v) k) Q := by
  obtain ⟨hg, hr, ho⟩ := hc
  refine (RS_lane j).trans (op_signal I K (oC h j) n ho rfl ht hsm hv
    (R := iprop(Ln I c f0 m j { f j with g := h.val + 1 } ∗ (∀ n' x', ((recs I K ∗ ow c n') ∗ Ln I c f0 m j x') -∗ RS I K c f0 R n' m (Function.update f j x')))) ?_ ?_)
  · iintro ⟨HO, HL, HW⟩
    ihave HL := (Ln_signal I c f0 m j (f j) h.val h.isLt hg hr) $$ HL
    icases HL with ⟨H1, ⟨H2, H3⟩, H4⟩
    isplitl [HO]; · iexact HO
    isplitl [H1]; · iexact H1
    isplitl [H2 H3]
    · isplitl [H2]; · iexact H2
      iexact H3
    isplitl [H4]; · iexact H4
    iexact HW
  · iintro ⟨HO, HL, HW⟩
    iapply hk
    iapply HW
    isplitl [HO]; · iexact HO
    iexact HL

/-- A hop's send. -/
theorem rs_send {R : sProp 𝕄} {Q : α → sProp 𝕄} (j : Fin 8) (h : Fin 7)
    (hc : (f j).sN = h.val ∧ h.val ≤ (f j).a ∧ h.val ≤ (f j).r ∧ (f j).w h.val = h.val / 2 ∧ h.val / 2 ≤ (f j).c h.val ∧ ord (oR h j) = n)
    {t : Dev nD} (ht : t = tgt (lx j) c) {off : Fin 2 → Nat} {hin : ∀ a, off a + S512x256.size a ≤ S4096x2048.size a}
    {hst : ∀ a, (Rect.unit (s := S4096x2048) off S512x256.size hin).stride a = 1}
    (hoff : off = ![512 * (ch (lx j) h.val c).val, 1024 * (j.val % 2) + 256 * (j.val / 2)])
    {dst : Memref sig .tc .vmem S512x256 .bf16} (hdst : dst = slM h.val j) {sS sem : SemLoc sig}
    (hsS : sS = semOf (kR 0 (sl h.val) j)) (hsem' : sem = semOf (kR 1 (sl h.val) j))
    {hsc : dst.view.ref.isScScratch = false} {hsrc : (aO.slice (Rect.unit (s := S4096x2048) off S512x256.size hin) hst).view.WordExact} {hdstw : dst.view.WordExact}
    {hty : DmaTarget.Typed .vmem sem (.remote (t.tc : Thread nD τ) dst sS hsc)}
    (hN : dst.view.amount sem = nR)
    {k : PUnit → Prog (TpuEff nD τ sig (Elt F) Λ₀ .tc) α}
    (hk : RS I K c f0 R (n + 1) m (Function.update f j { f j with sN := h.val + 1 }) ⊢ WP c (k ⟨⟩) Q) :
    RS I K c f0 R n m f ⊢ WP c (.op (.enqueueDma (aO.slice (Rect.unit (s := S4096x2048) off S512x256.size hin) hst) (.remote (t.tc : Thread nD τ) dst sS hsc) sem hsrc hdstw hty) k) Q := by
  obtain ⟨hs, ha, hr, hw, hcc, ho⟩ := hc
  subst hoff hdst
  refine (RS_lane j).trans (op_send I K (oR h j) (kR 0 (sl h.val) j) (h.val / 2) n ho (by rw [dutR 0 h.val h.isLt j]; exact Finset.mem_singleton_self _) rfl ht hsS hsem' hN
    (q := fullShare) (X := pv I c h.val j)
    (Fp := iprop(reached ER (cell c (kR 2 (sl h.val) j)) (h.val / 2) ∗ if j = 0 then fwd (F := F) c h.val else iprop(emp)))
    (R := iprop((cred (tallyAt (cell c (kR 0 (sl h.val) j)) (h.val / 2) nR) -∗ Ln I c f0 m j { f j with sN := h.val + 1 })
      ∗ (∀ n' x', ((recs I K ∗ ow c n') ∗ Ln I c f0 m j x') -∗ RS I K c f0 R n' m (Function.update f j x')))) ?_ ?_ ?_ ?_)
  · rw [payR0]; exact BIBase.Entails.rfl
  · show _ ⊢ payK I (tgt (lx j) c) (kR 1 (sl h.val) j) (h.val / 2) false
    have e : (if j = 0 then fwd (F := F) c h.val else iprop(emp)) = if j = 0 then fwd (F := F) (up 0 (tgt (lx j) c)) h.val else iprop(emp) := by
      by_cases hj : j = 0
      · subst hj; rw [if_pos rfl, if_pos rfl]; exact congrArg (fun d => fwd (F := F) d h.val) (up_tgt 0 c).symm
      · rw [if_neg hj, if_neg hj]
    rw [payR1, up_tgt_l, e]
    unfold slotAt
    rw [up_tgt_l]
    exact BIBase.Entails.rfl
  · iintro ⟨HO, HL, HW⟩
    ihave HL := (Ln_send I c f0 m j (f j) h.val h.isLt hs ha hr hw hcc) $$ HL
    icases HL with ⟨H1, H2, H3, H4, H5, H6⟩
    isplitl [HO]; · iexact HO
    isplitl [H1]; · iexact H1
    isplitl [H2]; · iapply (show slotAny (F := F) (tgt (lx j) c) h.val j ⊢ any' (obT c (oR h j)) (slM h.val j) from BIBase.Entails.rfl); iexact H2
    isplitl [H3]; · iexact H3
    isplitl [H4]; · iexact H4
    isplitl [H5]; · iexact H5
    isplitl [H6]; · iexact H6
    iexact HW
  · iintro ⟨HO, H1, HL, HW⟩
    iapply hk
    iapply HW
    isplitl [HO]; · iexact HO
    iapply HL
    iexact H1

theorem Zc_gt {I : In F} {c : Dev nD} {f0 : Vec F S4096x2048 .bf16} {X a i : ℕ} (h1 : a < i) (h2 : need X i ≤ m) : Zc I c f0 m X a i = G I c := by
  unfold Zc; rw [if_neg (by omega), if_pos h2]

/-- A load of the piece a hop accumulates into. -/
theorem rs_ldacc {R : sProp 𝕄} {Q : α → sProp 𝕄} (j : Fin 8) (h : ℕ)
    (hc : h < 7 ∧ (f j).sN ≤ h + 1 ∧ (f j).a ≤ h ∧ need (lx j) (h + 1) ≤ m) {off : Fin 2 → Nat} {hin : ∀ a, off a + S512x256.size a ≤ S4096x2048.size a}
    (hoff : off = ![512 * (ch (lx j) (h + 1) c).val, 1024 * (j.val % 2) + 256 * (j.val / 2)])
    {hl : aO.view.LoadsAt (Rect.unit (s := S4096x2048) off S512x256.size hin).toLoadRect}
    {k : Vec F S512x256 .bf16 → Prog (TpuEff nD τ sig (Elt F) Λ₀ .tc) α}
    (hk : RS I K c f0 R n m f ⊢ WP c (k (gv I c (h + 1) j)) Q) :
    RS I K c f0 R n m f ⊢ WP c (.op (.load aO (Rect.unit (s := S4096x2048) off S512x256.size hin).toLoadRect hl) k) Q := by
  obtain ⟨hh, hs, ha, hm⟩ := hc
  subst hoff
  refine (RS_lane j).trans (load_sl (m := aO) (r := pR (ch (lx j) (h + 1) c) j) (fun _ => rfl) (q := fullShare) (X := gv I c (h + 1) j)
    (R := iprop((recs I K ∗ ow c n) ∗ ((Φout I c f0 m (lx j) j (f j).a (h + 1)) -∗ Ln I c f0 m j (f j))
      ∗ (∀ n' x', ((recs I K ∗ ow c n') ∗ Ln I c f0 m j x') -∗ RS I K c f0 R n' m (Function.update f j x')))) ?_ ?_)
  · iintro ⟨HO, HL, HW⟩
    ihave HL := (Ln_piece I c f0 m j (f j) (h + 1) hs (by omega)) $$ HL
    icases HL with ⟨H1, H2⟩
    isplitl [H1]
    · iapply (show Φout I c f0 m (lx j) j (f j).a (h + 1) ⊢ own' c (aO.slice (pR (ch (lx j) (h + 1) c) j) (fun _ => rfl)) fullShare (gv I c (h + 1) j) from by
        unfold Φout; rw [Zc_gt (by omega) hm]; exact BIBase.Entails.rfl)
      iexact H1
    isplitl [HO]; · iexact HO
    isplitl [H2]; · iexact H2
    iexact HW
  · iintro ⟨H1, HO, HL, HW⟩
    iapply hk
    iapply (show RS I K c f0 R n m (Function.update f j (f j)) ⊢ RS I K c f0 R n m f from by rw [Function.update_eq_self])
    iapply HW
    isplitl [HO]; · iexact HO
    iapply HL
    iapply (show own' c (aO.slice (pR (ch (lx j) (h + 1) c) j) (fun _ => rfl)) fullShare (gv I c (h + 1) j) ⊢ Φout I c f0 m (lx j) j (f j).a (h + 1) from by
      unfold Φout; rw [Zc_gt (by omega) hm]; exact BIBase.Entails.rfl)
    iexact H1

/-- The store of a hop's sum. -/
theorem rs_store {R : sProp 𝕄} {Q : α → sProp 𝕄} (j : Fin 8) (h : ℕ)
    (hc : h < 7 ∧ (f j).sN ≤ h + 1 ∧ (f j).a = h) {off : Fin 2 → Nat} {hin : ∀ a, off a + S512x256.size a ≤ S4096x2048.size a}
    (hoff : off = ![512 * (ch (lx j) (h + 1) c).val, 1024 * (j.val % 2) + 256 * (j.val / 2)])
    {w : Vec F S512x256 .bf16} (hw : w = addf (shapeCast S512x256 (gv I c (h + 1) j) shapeCasts_S512x256_S512x256) (shapeCast S512x256 (cv I c h j) shapeCasts_S1x1x512x256_S512x256))
    {hx : (aO.access (Rect.unit (s := S4096x2048) off S512x256.size hin)).Stores Finset.univ}
    {hm : (Finset.univ : Finset (Rect.unit (s := S4096x2048) off S512x256.size hin).shape.Idx) = Finset.univ ∨ ∀ a, (Rect.unit (s := S4096x2048) off S512x256.size hin).stride a = 1}
    {k : PUnit → Prog (TpuEff nD τ sig (Elt F) Λ₀ .tc) α}
    (hk : RS I K c f0 R n m (Function.update f j { f j with a := h + 1 }) ⊢ WP c (k ⟨⟩) Q) :
    RS I K c f0 R n m f ⊢ WP c (.op (.store aO (Rect.unit (s := S4096x2048) off S512x256.size hin) w Finset.univ hx hm) k) Q := by
  obtain ⟨hh, hs, ha⟩ := hc
  subst hoff
  rw [sum_eq] at hw
  subst hw
  refine (RS_lane j).trans (store_sl (m := aO) (r := pR (ch (lx j) (h + 1) c) j) (fun _ => rfl) (X := pcv (Zc I c f0 m (lx j) (f j).a (h + 1)) (ch (lx j) (h + 1) c) j)
    (R := iprop((recs I K ∗ ow c n) ∗ (own' c (pM (ch (lx j) (h + 1) c) j) fullShare (pcv (A I (h + 1) c) (ch (lx j) (h + 1) c) j) -∗ Ln I c f0 m j { f j with a := h + 1 })
      ∗ (∀ n' x', ((recs I K ∗ ow c n') ∗ Ln I c f0 m j x') -∗ RS I K c f0 R n' m (Function.update f j x')))) ?_ ?_)
  · iintro ⟨HO, HL, HW⟩
    ihave HL := (Ln_store I c f0 m j (f j) h ha hs hh) $$ HL
    icases HL with ⟨H1, H2⟩
    isplitl [H1]; · iexact H1
    isplitl [HO]; · iexact HO
    isplitl [H2]; · iexact H2
    iexact HW
  · iintro ⟨H1, HO, HL, HW⟩
    iapply hk
    iapply HW
    isplitl [HO]; · iexact HO
    iapply HL
    iexact H1

/-- A load of an arrived slot. -/
theorem rs_ldcomm {R : sProp 𝕄} {Q : α → sProp 𝕄} (j : Fin 8) (h : ℕ) (hc : h < 7 ∧ (f j).g ≤ h ∧ h < (f j).r)
    {mm : Memref sig .tc .vmem S2x4x512x256 .bf16} (hmm : mm = aC (lx j)) {off : Fin 4 → Nat} {hin : ∀ a, off a + S1x1x512x256.size a ≤ S2x4x512x256.size a}
    (hoff : off = ![(sl h).val, (gF j).val, 0, 0])
    {hl : mm.view.LoadsAt (Rect.unit (s := S2x4x512x256) off S1x1x512x256.size hin).toLoadRect}
    {k : Vec F S1x1x512x256 .bf16 → Prog (TpuEff nD τ sig (Elt F) Λ₀ .tc) α}
    (hk : RS I K c f0 R n m f ⊢ WP c (k (cv I c h j)) Q) :
    RS I K c f0 R n m f ⊢ WP c (.op (.load mm (Rect.unit (s := S2x4x512x256) off S1x1x512x256.size hin).toLoadRect hl) k) Q := by
  obtain ⟨hh, hg, hr⟩ := hc
  subst hoff hmm
  refine (RS_lane j).trans (load_sl (m := aC (lx j)) (r := sR (sl h) (gF j)) (fun _ => rfl) (q := fullShare) (X := cv I c h j)
    (R := iprop((recs I K ∗ ow c n) ∗ (slotAt I c h j -∗ Ln I c f0 m j (f j))
      ∗ (∀ n' x', ((recs I K ∗ ow c n') ∗ Ln I c f0 m j x') -∗ RS I K c f0 R n' m (Function.update f j x')))) ?_ ?_)
  · iintro ⟨HO, HL, HW⟩
    ihave HL := (Ln_slot I c f0 m j (f j) h hg hr hh) $$ HL
    icases HL with ⟨H1, H2⟩
    isplitl [H1]; · iapply (slot_unsq I c h j).1; iexact H1
    isplitl [HO]; · iexact HO
    isplitl [H2]; · iexact H2
    iexact HW
  · iintro ⟨H1, HO, HL, HW⟩
    iapply hk
    iapply (show RS I K c f0 R n m (Function.update f j (f j)) ⊢ RS I K c f0 R n m f from by rw [Function.update_eq_self])
    iapply HW
    isplitl [HO]; · iexact HO
    iapply HL
    iapply (slot_unsq I c h j).2
    iexact H1

/-! ## The local products -/

/-- The piece of direction `X` that the local product `m` fills, and its row. -/
def pix (X m : ℕ) : ℕ :=
  if X = 0 then (if m = 0 then 0 else if m % 2 = 1 then (m + 1) / 2 else 8 - m / 2)
  else (if m = 0 then 0 else if m = 7 then 4 else if m % 2 = 1 then 8 - (m + 1) / 2 else m / 2)

theorem pix_lt (m' : Fin 8) (j : Fin 8) : pix (lx j) m'.val < 8 ∧ need (lx j) (pix (lx j) m'.val) = m'.val + 1 ∧
    ∀ i : Fin 8, i.val ≠ pix (lx j) m'.val → need (lx j) i.val ≠ m'.val + 1 := by revert m' j; decide +kernel
theorem pix_row (m' : Fin 8) (j : Fin 8) (c : Dev nD) : ch (lx j) (pix (lx j) m'.val) c = ch 0 (pix 0 m'.val) c := by
  revert m' j c; decide +kernel

/-- The piece a local product fills, in one lane. -/
theorem Ln_fill {x : LC} (j : Fin 8) (hm8 : m < 8) (h1 : x.sN ≤ pix (lx j) m) (h2 : x.a < pix (lx j) m) :
    Ln I c f0 m j x ⊢ iprop(own' c (pM (ch 0 (pix 0 m) c) j) fullShare (pcv f0 (ch 0 (pix 0 m) c) j)
      ∗ (own' c (pM (ch 0 (pix 0 m) c) j) fullShare (pcv (G I c) (ch 0 (pix 0 m) c) j) -∗ Ln I c f0 (m + 1) j x)) := by
  obtain ⟨h8, hne, hoth⟩ := pix_lt ⟨m, hm8⟩ j
  simp only at h8 hne hoth
  have hrow := pix_row ⟨m, hm8⟩ j c
  simp only at hrow
  have e1 (m' : ℕ) : fam (fun i => x.sN ≤ i ∨ i / 2 < x.w i) (Φout I c f0 m' (lx j) j x.a)
      = iprop(Φout I c f0 m' (lx j) j x.a (pix (lx j) m) ∗ fam (fun k => (x.sN ≤ k ∨ k / 2 < x.w k) ∧ k ≠ pix (lx j) m) (Φout I c f0 m' (lx j) j x.a)) :=
    fam_take (pix (lx j) m) h8 (Or.inl h1) (by intros; exact Iff.rfl) _
  have e2 : Φout I c f0 m (lx j) j x.a (pix (lx j) m) = own' c (pM (ch 0 (pix 0 m) c) j) fullShare (pcv f0 (ch 0 (pix 0 m) c) j) := by
    unfold Φout; rw [← hrow]
    have : Zc I c f0 m (lx j) x.a (pix (lx j) m) = f0 := by
      unfold Zc; rw [if_neg (by omega), if_neg (by omega)]
    rw [this]
  have e3 : Φout I c f0 (m + 1) (lx j) j x.a (pix (lx j) m) = own' c (pM (ch 0 (pix 0 m) c) j) fullShare (pcv (G I c) (ch 0 (pix 0 m) c) j) := by
    unfold Φout; rw [← hrow]
    rw [Zc_gt h2 (by omega)]
  have e4 : fam (fun k => (x.sN ≤ k ∨ k / 2 < x.w k) ∧ k ≠ pix (lx j) m) (Φout I c f0 m (lx j) j x.a)
      = fam (fun k => (x.sN ≤ k ∨ k / 2 < x.w k) ∧ k ≠ pix (lx j) m) (Φout I c f0 (m + 1) (lx j) j x.a) := by
    refine fam_congr (fun _ _ => Iff.rfl) fun i hi8 hi => ?_
    have hi' := hoth ⟨i, hi8⟩ hi.2
    simp only at hi'
    have : Zc I c f0 m (lx j) x.a i = Zc I c f0 (m + 1) (lx j) x.a i := by
      unfold Zc
      by_cases hia : i ≤ x.a
      · rw [if_pos hia, if_pos hia]
      · rw [if_neg hia, if_neg hia]
        by_cases hm : need (lx j) i ≤ m
        · rw [if_pos hm, if_pos (by omega)]
        · rw [if_neg hm, if_neg (by omega)]
    unfold Φout; rw [this]
  unfold Ln
  iintro ⟨Ho, HR⟩
  ihave Ho := (Entails.of_eq (e1 m)) $$ Ho
  icases Ho with ⟨H1, H2⟩
  isplitl [H1]; · iapply (Entails.of_eq e2); iexact H1
  iintro H1
  isplitr [HR]
  · iapply (Entails.of_eq (e1 (m + 1)).symm)
    isplitl [H1]; · iapply (Entails.of_eq e3.symm); iexact H1
    iapply (Entails.of_eq e4); iexact H2
  iexact HR

theorem Ln_read {x : LC} (j : Fin 8) (hm8 : m < 8) (h1 : x.sN ≤ pix (lx j) m) (h2 : x.a < pix (lx j) m) :
    Ln I c f0 m j x ⊢ iprop(own' c (pM (ch 0 (pix 0 m) c) j) fullShare (pcv f0 (ch 0 (pix 0 m) c) j)
      ∗ (own' c (pM (ch 0 (pix 0 m) c) j) fullShare (pcv f0 (ch 0 (pix 0 m) c) j) -∗ Ln I c f0 m j x)) := by
  obtain ⟨h8, hne, -⟩ := pix_lt ⟨m, hm8⟩ j
  simp only at h8 hne
  have hrow := pix_row ⟨m, hm8⟩ j c
  simp only at hrow
  have e2 : Φout I c f0 m (lx j) j x.a (pix (lx j) m) = own' c (pM (ch 0 (pix 0 m) c) j) fullShare (pcv f0 (ch 0 (pix 0 m) c) j) := by
    unfold Φout; rw [← hrow]
    have : Zc I c f0 m (lx j) x.a (pix (lx j) m) = f0 := by
      unfold Zc; rw [if_neg (by omega), if_neg (by omega)]
    rw [this]
  rw [← e2]
  exact Ln_piece I c f0 m j x _ h1 h8

/-- A family each of whose members can be had from a part of itself. -/
theorem bigSep_parts (P P' L L' : Fin 8 → sProp 𝕄) (h : ∀ j, L j ⊢ iprop(P j ∗ (P' j -∗ L' j))) :
    bigSep Finset.univ L ⊢ iprop(bigSep Finset.univ P ∗ (bigSep Finset.univ P' -∗ bigSep Finset.univ L')) := by
  refine BIBase.Entails.trans (show bigSep Finset.univ L ⊢ bigSep Finset.univ (fun j => iprop(P j ∗ (P' j -∗ L' j))) from bigSep_mono fun j _ => h j) ?_
  refine BIBase.Entails.trans (Entails.of_eq (bigSep_sep' _ _ _)) ?_
  refine sep_mono_right ?_
  iintro H1 H2
  iapply (show bigSep Finset.univ (fun j => iprop(P' j ∗ (P' j -∗ L' j))) ⊢ bigSep Finset.univ L' from bigSep_mono fun j _ => by
    show iprop(P' j ∗ (P' j -∗ L' j)) ⊢ L' j
    iintro ⟨H1, H2⟩; iapply H2; iexact H1)
  iapply (show iprop((bigSep Finset.univ P') ∗ bigSep Finset.univ (fun j => iprop(P' j -∗ L' j))) ⊢ bigSep Finset.univ (fun j => iprop(P' j ∗ (P' j -∗ L' j))) from Entails.of_eq (bigSep_sep' _ _ _).symm)
  isplitl [H2]; · iexact H2
  iexact H1

/-- A row chunk of the output and its lanes. -/
theorem row_lanes (Z : Vec F S4096x2048 .bf16) (i : Fin 8) :
    own' c (oM' i) fullShare (fun y => Z ((oR' i).emb y)) ⊣⊢ bigSep Finset.univ fun j : Fin 8 => own' c (pM i j) fullShare (pcv Z i j) :=
  slice_rects c aO fullShare Finset.univ (fun j : Fin 8 => pR i j) (fun _ _ => rfl) (oR' i) (fun _ => rfl)
    (fun t t' h => pR_disj (i, t) (i, t') (fun e => h (Prod.mk.inj e).2)) (oR_lanes i) Z

/-- A row chunk, to be read. -/
theorem RS_read {R : sProp 𝕄} (hm8 : m < 8) (hc : ∀ j, (f j).sN ≤ pix (lx j) m ∧ (f j).a < pix (lx j) m) :
    RS I K c f0 R n m f ⊢ iprop(own' c (oM' (ch 0 (pix 0 m) c)) fullShare (fun y => f0 ((oR' (ch 0 (pix 0 m) c)).emb y))
      ∗ (own' c (oM' (ch 0 (pix 0 m) c)) fullShare (fun y => f0 ((oR' (ch 0 (pix 0 m) c)).emb y)) -∗ RS I K c f0 R n m f)) := by
  unfold RS
  iintro ⟨HO, HX, HL, HR⟩
  ihave HL := (bigSep_parts _ _ _ _ fun j => Ln_read (I := I) (c := c) (f0 := f0) (x := f j) j hm8 (hc j).1 (hc j).2) $$ HL
  icases HL with ⟨H1, H2⟩
  isplitl [H1]; · iapply (row_lanes f0 _).2; iexact H1
  iintro H1
  isplitl [HO]; · iexact HO
  isplitl [HX]; · iexact HX
  isplitr [HR]
  · iapply H2; iapply (row_lanes f0 _).1; iexact H1
  iexact HR

/-- A row chunk, to be filled. -/
theorem RS_fill {R : sProp 𝕄} (hm8 : m < 8) (hc : ∀ j, (f j).sN ≤ pix (lx j) m ∧ (f j).a < pix (lx j) m) :
    RS I K c f0 R n m f ⊢ iprop(own' c (oM' (ch 0 (pix 0 m) c)) fullShare (fun y => f0 ((oR' (ch 0 (pix 0 m) c)).emb y))
      ∗ (own' c (oM' (ch 0 (pix 0 m) c)) fullShare (fun y => G I c ((oR' (ch 0 (pix 0 m) c)).emb y)) -∗ RS I K c f0 R n (m + 1) f)) := by
  unfold RS
  iintro ⟨HO, HX, HL, HR⟩
  ihave HL := (bigSep_parts _ _ _ _ fun j => Ln_fill (I := I) (c := c) (f0 := f0) (x := f j) j hm8 (hc j).1 (hc j).2) $$ HL
  icases HL with ⟨H1, H2⟩
  isplitl [H1]; · iapply (row_lanes f0 _).2; iexact H1
  iintro H1
  isplitl [HO]; · iexact HO
  isplitl [HX]; · iexact HX
  isplitr [HR]
  · iapply H2; iapply (row_lanes (G I c) _).1; iexact H1
  iexact HR

/-- A load of a row chunk of the left operand. -/
theorem rs_ldx {R : sProp 𝕄} {Q : α → sProp 𝕄} {i : Fin 8} {off : Fin 2 → Nat} {hin : ∀ a, off a + S512x512.size a ≤ S4096x512.size a}
    (hoff : off = ![512 * i.val, 0])
    {hl : aX.view.LoadsAt (Rect.unit (s := S4096x512) off S512x512.size hin).toLoadRect}
    {k : Vec F S512x512 .bf16 → Prog (TpuEff nD τ sig (Elt F) Λ₀ .tc) α}
    (hk : RS I K c f0 R n m f ⊢ WP c (k (fun y => I.x c ((xR i).emb y))) Q) :
    RS I K c f0 R n m f ⊢ WP c (.op (.load aX (Rect.unit (s := S4096x512) off S512x512.size hin).toLoadRect hl) k) Q := by
  subst hoff
  refine load_sub (m := aX) (r := xR i) (q := fullShare) (X := I.x c)
    (R := iprop((recs I K ∗ ow c n) ∗ own' c aW fullShare (I.w c) ∗ (bigSep Finset.univ fun j => Ln I c f0 m j (f j)) ∗ R)) ?_ ?_
  · unfold RS
    iintro ⟨HO, ⟨HX, HW⟩, HL, HR⟩
    isplitl [HX]; · iexact HX
    isplitl [HO]; · iexact HO
    isplitl [HW]; · iexact HW
    isplitl [HL]; · iexact HL
    iexact HR
  · refine BIBase.Entails.trans ?_ hk
    unfold RS
    iintro ⟨HX, HO, HW, HL, HR⟩
    isplitl [HO]; · iexact HO
    isplitl [HX HW]
    · isplitl [HX]; · iexact HX
      iexact HW
    isplitl [HL]; · iexact HL
    iexact HR

/-- A load of the right operand. -/
theorem rs_ldw {R : sProp 𝕄} {Q : α → sProp 𝕄}
    {hl : aW.view.LoadsAt wR.toLoadRect}
    {k : Vec F S512x2048 .bf16 → Prog (TpuEff nD τ sig (Elt F) Λ₀ .tc) α}
    (hk : RS I K c f0 R n m f ⊢ WP c (k (fun y => I.w c (wR.emb y))) Q) :
    RS I K c f0 R n m f ⊢ WP c (.op (.load aW wR.toLoadRect hl) k) Q := by
  refine load_sub (m := aW) (r := wR) (q := fullShare) (X := I.w c)
    (R := iprop((recs I K ∗ ow c n) ∗ own' c aX fullShare (I.x c) ∗ (bigSep Finset.univ fun j => Ln I c f0 m j (f j)) ∗ R)) ?_ ?_
  · unfold RS
    iintro ⟨HO, ⟨HX, HW⟩, HL, HR⟩
    isplitl [HW]; · iexact HW
    isplitl [HO]; · iexact HO
    isplitl [HX]; · iexact HX
    isplitl [HL]; · iexact HL
    iexact HR
  · refine BIBase.Entails.trans ?_ hk
    unfold RS
    iintro ⟨HW, HO, HX, HL, HR⟩
    isplitl [HO]; · iexact HO
    isplitl [HX HW]
    · isplitl [HX]; · iexact HX
      iexact HW
    isplitl [HL]; · iexact HL
    iexact HR

/-- A load of the row chunk about to be filled. -/
theorem rs_ldrow {R : sProp 𝕄} {Q : α → sProp 𝕄} (hm8 : m < 8) (hc : ∀ j, (f j).sN ≤ pix (lx j) m ∧ (f j).a < pix (lx j) m)
    {off : Fin 2 → Nat} {hin : ∀ a, off a + S512x2048.size a ≤ S4096x2048.size a}
    (hoff : off = ![512 * (ch 0 (pix 0 m) c).val, 0])
    {hl : aO.view.LoadsAt (Rect.unit (s := S4096x2048) off S512x2048.size hin).toLoadRect}
    {k : Vec F S512x2048 .bf16 → Prog (TpuEff nD τ sig (Elt F) Λ₀ .tc) α}
    (hk : ∀ v, RS I K c f0 R n m f ⊢ WP c (k v) Q) :
    RS I K c f0 R n m f ⊢ WP c (.op (.load aO (Rect.unit (s := S4096x2048) off S512x2048.size hin).toLoadRect hl) k) Q := by
  subst hoff
  refine (RS_read hm8 hc).trans (load_sl (m := aO) (r := oR' (ch 0 (pix 0 m) c)) (fun _ => rfl) (q := fullShare) BIBase.Entails.rfl ?_)
  refine BIBase.Entails.trans ?_ (hk _)
  iintro ⟨H1, H2⟩
  iapply H2
  iexact H1

/-- The store of a local product. -/
theorem rs_strow {R : sProp 𝕄} {Q : α → sProp 𝕄} (hm8 : m < 8) (hc : ∀ j, (f j).sN ≤ pix (lx j) m ∧ (f j).a < pix (lx j) m)
    {off : Fin 2 → Nat} {hin : ∀ a, off a + S512x2048.size a ≤ S4096x2048.size a}
    (hoff : off = ![512 * (ch 0 (pix 0 m) c).val, 0])
    {w : Vec F S512x2048 .bf16} (hw : w = k0_pay1 (fun y => I.x c ((xR (ch 0 (pix 0 m) c)).emb y)) (fun y => I.w c (wR.emb y)))
    {hx : (aO.access (Rect.unit (s := S4096x2048) off S512x2048.size hin)).Stores Finset.univ}
    {hmm : (Finset.univ : Finset (Rect.unit (s := S4096x2048) off S512x2048.size hin).shape.Idx) = Finset.univ ∨ ∀ a, (Rect.unit (s := S4096x2048) off S512x2048.size hin).stride a = 1}
    {k : PUnit → Prog (TpuEff nD τ sig (Elt F) Λ₀ .tc) α}
    (hk : RS I K c f0 R n (m + 1) f ⊢ WP c (k ⟨⟩) Q) :
    RS I K c f0 R n m f ⊢ WP c (.op (.store aO (Rect.unit (s := S4096x2048) off S512x2048.size hin) w Finset.univ hx hmm) k) Q := by
  subst hoff
  rw [← G_row] at hw
  subst hw
  refine (RS_fill hm8 hc).trans (store_sl (m := aO) (r := oR' (ch 0 (pix 0 m) c)) (fun _ => rfl) BIBase.Entails.rfl ?_)
  refine BIBase.Entails.trans ?_ hk
  iintro ⟨H1, H2⟩
  iapply H2
  iexact H1

end Ops

end K
-- ==== Proof.K.Pre.lean ====
module

public import proofs.«01_k».proof.Proof.K.RSOps

/-!
# Two small rules, and offsets of the products' rows
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A returned value. -/
theorem wp_ret_intro {α : Type} {c : Dev nD} (a : α) (Q : α → sProp 𝕄) : Q a ⊢ WP c (.ret a) Q := by
  unfold WP
  rw [wp_ret]
  iintro H
  imodintro
  iexact H

/-- One program after another. -/
theorem wp_seq {α β : Type} {c : Dev nD} {p : Prog (TpuEff nD τ sig (Elt F) Λ₀ .tc) α} {k : α → Prog (TpuEff nD τ sig (Elt F) Λ₀ .tc) β}
    {Q : β → sProp 𝕄} {S : sProp 𝕄} (h : S ⊢ WP c p (fun x => WP c (k x) Q)) : S ⊢ WP c (p >>= k) Q := by
  unfold WP at h ⊢
  rw [wp_bind]; exact h

theorem of13' : ∀ c, ∀ h : Fin 3, k0_off13 c (BitVec.ofNat 32 h.val) = ![512 * (ch 0 (7 - h.val) c).val, 0] := by decide +kernel
theorem of14' : ∀ c, ∀ h : Fin 3, k0_off14 c (BitVec.ofNat 32 h.val) = ![512 * (ch 0 (7 - h.val) c).val, 0] := by decide +kernel

end K
-- ==== Proof.K.AG.lean ====
module

public import proofs.«01_k».proof.Proof.K.Pre
public import Idealize.ShloMosaic.Lib.MemrefSat

/-!
# The all-gather
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The pieces -/

/-- The direction of a piece: the device's own two, then one a transfer. -/
def pX (t : Fin 16) : Fin 2 := ![0, 1, 0, 1, 0, 0, 1, 1, 0, 0, 0, 0, 1, 1, 1, 1] t
/-- The index of a piece in its direction. -/
def pS (t : Fin 16) : Fin 8 := ![0, 0, 1, 2, 2, 3, 4, 6, 4, 5, 6, 7, 1, 3, 5, 7] t
/-- The piece a transfer sends. -/
def sP (e : Fin 14) : Fin 16 := ![0, 1, 0, 2, 1, 3, 0, 2, 4, 5, 1, 3, 6, 7] e
/-- The piece a transfer brings. -/
def dP (e : Fin 14) : Fin 16 := ⟨e.val + 2, by omega⟩
/-- The chunk of a piece. -/
abbrev hp (t : Fin 16) (c : Dev nD) : Dev nD := hc (pX t) (pS t) c

theorem sP_eq : ∀ e, pX (sP e) = agX e ∧ pS (sP e) = agS e := by decide +kernel
theorem dP_eq : ∀ e, pX (dP e) = agX e ∧ pS (dP e) = agD e := by decide +kernel

abbrev tV (I : In F) (t : Fin 16) (c : Dev nD) : Vec F S512x1024 .bf16 := fun y => T I ((hR (pX t) (hp t c)).emb y)
abbrev rV (I : In F) (t : Fin 16) (c : Dev nD) : Vec F S512x1024 .bf16 := fun y => RV I ((hR (pX t) (hp t c)).emb y)
abbrev qV (I : In F) (t : Fin 16) (c : Dev nD) : Vec F S512x1024 .i8 := fun y => QV I (pX t).val ((qR (hp t c)).emb y)

section Fam

variable (I : In F) (c : Dev nD)

/-- A half chunk of the output: unknown, the sum, the result. -/
def Φo (t : Fin 16) (s : ℕ) : sProp 𝕄 :=
  if s = 0 then any' (F := F) c (hM (pX t) (hp t c))
  else if s = 1 then own' c (hM (pX t) (hp t c)) fullShare (tV I t c)
  else own' c (hM (pX t) (hp t c)) fullShare (rV I t c)

/-- A quantised chunk: not here, unknown, here, half lent. -/
def Φq (t : Fin 16) (s : ℕ) : sProp 𝕄 :=
  if s = 0 then iprop(emp)
  else if s = 1 then any' (F := F) c (qM (pX t).val (hp t c))
  else if s = 2 then iprop(own' c (qM (pX t).val (hp t c)) fullShare.left (qV I t c) ∗ own' c (qM (pX t).val (hp t c)) fullShare.right (qV I t c))
  else own' c (qM (pX t).val (hp t c)) fullShare.left (qV I t c)

/-- The sending side of a transfer: not begun, under way, done. -/
def Φe (e : Fin 14) (s : ℕ) : sProp 𝕄 :=
  if s = 0 then iprop(atPos ER (cell c (kG 0 e)) 0 ∅ 0 ∗ any' (F := F) (xr c (agW e)) (qM (agX e).val (_root_.K.hc (agX e) (agD e) (xr c (agW e))))
      ∗ dutyTok ER (cell c (kG 0 e)) 0 false ∗ dutyTok ER (cell (xr c (agW e)) (kG 1 e)) 0 false)
  else if s = 1 then iprop(atPos ER (cell c (kG 0 e)) 0 ∅ 0 ∗ cred (tallyAt (cell c (kG 0 e)) 0 nG))
  else atPos ER (cell c (kG 0 e)) 1 ∅ 0

/-- The receiving side of a transfer. -/
def Φr (e : Fin 14) (s : ℕ) : sProp 𝕄 :=
  if s = 0 then iprop(atPos ER (cell c (kG 1 e)) 0 ∅ 0 ∗ cred (tallyAt (cell c (kG 1 e)) 0 nG)) else atPos ER (cell c (kG 1 e)) 1 ∅ 0

/-- The sending side of a row of maxima: not begun without and with its share of the row, under way, done. -/
def Φm (o : Fin 7) (s : ℕ) : sProp 𝕄 :=
  if s < 2 then iprop((atPos ER (cell c (kM 0 o)) 0 ∅ 0 ∗ any' (F := F) (am o.val c) (mM c)
      ∗ dutyTok ER (cell c (kM 0 o)) 0 false ∗ dutyTok ER (cell (am o.val c) (kM 1 o)) 0 false)
      ∗ if s = 0 then iprop(emp) else own' c (mM c) (amq o.val) (am1 I c))
  else if s = 2 then iprop(atPos ER (cell c (kM 0 o)) 0 ∅ 0 ∗ cred (tallyAt (cell c (kM 0 o)) 0 nM))
  else iprop(atPos ER (cell c (kM 0 o)) 1 ∅ 0 ∗ own' c (mM c) (amq o.val) (am1 I c))

/-- The receiving side of a row of maxima. -/
def Φn (o : Fin 7) (s : ℕ) : sProp 𝕄 :=
  if s = 0 then iprop(atPos ER (cell c (kM 1 o)) 0 ∅ 0 ∗ cred (tallyAt (cell c (kM 1 o)) 0 nM))
  else iprop(atPos ER (cell c (kM 1 o)) 1 ∅ 0 ∗ own' c (mM (ma o.val c)) fullShare (am1 I (ma o.val c)))

/-- The exchange of the maxima. -/
def MX (r : ℕ) (f g : Fin 7 → ℕ) : sProp 𝕄 :=
  iprop((if r = 0 then any' (F := F) c (mM c) else own' c (mM c) (amq 7) (am1 I c))
    ∗ (bigSep Finset.univ fun o => Φm I c o (f o)) ∗ bigSep Finset.univ fun o => Φn I c o (g o))

/-- What is left of the exchange when it is over. -/
def MXend : sProp 𝕄 :=
  iprop(own' c aM fullShare (AM I) ∗ (bigSep Finset.univ fun o : Fin 7 => (atPos ER (cell c (kM 0 o)) 1 ∅ 0 : sProp 𝕄))
    ∗ bigSep Finset.univ fun o : Fin 7 => (atPos ER (cell c (kM 1 o)) 1 ∅ 0 : sProp 𝕄))

end Fam

/-- What a device holds from the maximum's exchange to the end. -/
def AG (I : In F) (K : Dev nD × Kn → ℕ) (c : Dev nD) (R M : sProp 𝕄) (n : ℕ) (o q : Fin 16 → ℕ) (s r : Fin 14 → ℕ) : sProp 𝕄 :=
  iprop((recs I K ∗ ow c n) ∗ M ∗ (bigSep Finset.univ fun t => Φo I c t (o t)) ∗ (bigSep Finset.univ fun t => Φq I c t (q t))
    ∗ (bigSep Finset.univ fun e => Φe c e (s e)) ∗ (bigSep Finset.univ fun e => Φr c e (r e)) ∗ R)

/-- One member of a family taken out, to come back changed. -/
theorem fam_upd {J : Type} [Fintype J] [DecidableEq J] (Φ : J → ℕ → sProp 𝕄) (f : J → ℕ) (i : J) :
    (bigSep Finset.univ fun t => Φ t (f t)) ⊢ iprop(Φ i (f i) ∗ ∀ v, Φ i v -∗ bigSep Finset.univ fun t => Φ t (Function.update f i v t)) := by
  iintro H
  ihave H := (show (bigSep Finset.univ fun t => Φ t (f t)) ⊢ iprop(Φ i (f i) ∗ bigSep (Finset.univ.erase i) fun t => Φ t (f t)) from Entails.of_eq (bigSep_univ_at _ i)) $$ H
  icases H with ⟨H1, H2⟩
  isplitl [H1]; · iexact H1
  iintro %v H
  iapply (show iprop(Φ i v ∗ bigSep (Finset.univ.erase i) fun t => Φ t (f t)) ⊢ (bigSep Finset.univ fun t => Φ t (Function.update f i v t)) from by
    rw [bigSep_univ_at _ i, Function.update_self]
    refine sep_mono_right (Entails.of_eq (bigSep_congr fun t ht => ?_))
    rw [Function.update_of_ne (Finset.ne_of_mem_erase ht)])
  isplitl [H]; · iexact H
  iexact H2

/-- The same without a change. -/
theorem fam_read {J : Type} [Fintype J] [DecidableEq J] (Φ : J → ℕ → sProp 𝕄) (f : J → ℕ) (i : J) :
    (bigSep Finset.univ fun t => Φ t (f t)) ⊢ iprop(Φ i (f i) ∗ (Φ i (f i) -∗ bigSep Finset.univ fun t => Φ t (f t))) := by
  iintro H
  ihave H := (fam_upd Φ f i) $$ H
  icases H with ⟨H1, H2⟩
  isplitl [H1]; · iexact H1
  iintro H
  ihave H := H2 $$ %(f i) H
  rw [Function.update_eq_self]
  iexact H

theorem gN (X : ℕ) {off : Fin 2 → Nat} {hin : ∀ a, off a + S512x1024.size a ≤ S4096x1024.size a}
    {hst : ∀ a, (Rect.unit (s := S4096x1024) off S512x1024.size hin).stride a = 1} (k : ℕ) :
    ((aQ X).slice (Rect.unit (s := S4096x1024) off S512x1024.size hin) hst).view.amount (dm k) = nG := by
  have h : RefSig.tileCredit S512x1024 .i8 = nG := by decide +kernel
  refine Eq.trans ?_ h
  match X with
  | 0 => rfl
  | _ + 1 => rfl

section Ops

variable {I : In F} {K : Dev nD × Kn → ℕ} {c : Dev nD} {α : Type} {n : ℕ} {o q : Fin 16 → ℕ} {s r : Fin 14 → ℕ}

theorem AG_eq {R M : sProp 𝕄} {o' q' : Fin 16 → ℕ} {s' r' : Fin 14 → ℕ} (h : o = o' ∧ q = q' ∧ s = s' ∧ r = r') {P : sProp 𝕄}
    (hk : AG I K c R M n o' q' s' r' ⊢ P) : AG I K c R M n o q s r ⊢ P := by
  obtain ⟨rfl, rfl, rfl, rfl⟩ := h; exact hk

/-- A load of a half chunk holding the sum. -/
theorem ag_ldsum {R M : sProp 𝕄} {Q : α → sProp 𝕄} (t : Fin 16) (hc : o t = 1) {off : Fin 2 → Nat}
    {hin : ∀ a, off a + S512x1024.size a ≤ S4096x2048.size a} (hoff : off = ![512 * (hp t c).val, 1024 * (pX t).val])
    {hl : aO.view.LoadsAt (Rect.unit (s := S4096x2048) off S512x1024.size hin).toLoadRect}
    {k : Vec F S512x1024 .bf16 → Prog (TpuEff nD τ sig (Elt F) Λ₀ .tc) α}
    (hk : AG I K c R M n o q s r ⊢ WP c (k (tV I t c)) Q) :
    AG I K c R M n o q s r ⊢ WP c (.op (.load aO (Rect.unit (s := S4096x2048) off S512x1024.size hin).toLoadRect hl) k) Q := by
  subst hoff
  refine load_sl (m := aO) (r := hR (pX t) (hp t c)) (fun _ => rfl) (q := fullShare) (X := tV I t c)
    (R := iprop((recs I K ∗ ow c n) ∗ M ∗ (Φo I c t (o t) -∗ bigSep Finset.univ fun t => Φo I c t (o t)) ∗ (bigSep Finset.univ fun t => Φq I c t (q t))
    ∗ (bigSep Finset.univ fun e => Φe c e (s e)) ∗ (bigSep Finset.univ fun e => Φr c e (r e)) ∗ R)) ?_ ?_
  · unfold AG
    iintro ⟨H1, H2, H3, H4⟩
    ihave H3 := (fam_read (Φo I c) o t) $$ H3
    icases H3 with ⟨H3, H3'⟩
    isplitl [H3]
    · rw [hc]; iapply (show Φo I c t 1 ⊢ own' c (hM (pX t) (hp t c)) fullShare (tV I t c) from BIBase.Entails.rfl); iexact H3
    isplitl [H1]; · iexact H1
    isplitl [H2]; · iexact H2
    isplitl [H3']; · iexact H3'
    iexact H4
  · refine BIBase.Entails.trans ?_ hk
    unfold AG
    iintro ⟨H, H1, H2, H3, H4⟩
    isplitl [H1]; · iexact H1
    isplitl [H2]; · iexact H2
    isplitl [H H3]
    · iapply H3; rw [hc]; iapply (show own' c (hM (pX t) (hp t c)) fullShare (tV I t c) ⊢ Φo I c t 1 from BIBase.Entails.rfl); iexact H
    iexact H4

theorem Φo_any (t : Fin 16) (v : ℕ) : Φo I c t v ⊢ (∃ X, own' c (hM (pX t) (hp t c)) fullShare X ∗ (own' c (hM (pX t) (hp t c)) fullShare X -∗ Φo I c t v) : sProp 𝕄) := by
  unfold Φo any'
  split
  · iintro ⟨%X, H⟩
    iexists X
    isplitl [H]; · iexact H
    iintro H; iexists X; iexact H
  split
  · iintro H
    iexists _
    isplitl [H]; · iexact H
    iintro H; iexact H
  · iintro H
    iexists _
    isplitl [H]; · iexact H
    iintro H; iexact H

/-- A load of a half chunk whose value is not used. -/
theorem ag_ldout {R M : sProp 𝕄} {Q : α → sProp 𝕄} (t : Fin 16) {off : Fin 2 → Nat}
    {hin : ∀ a, off a + S512x1024.size a ≤ S4096x2048.size a} (hoff : off = ![512 * (hp t c).val, 1024 * (pX t).val])
    {hl : aO.view.LoadsAt (Rect.unit (s := S4096x2048) off S512x1024.size hin).toLoadRect}
    {k : Vec F S512x1024 .bf16 → Prog (TpuEff nD τ sig (Elt F) Λ₀ .tc) α}
    (hk : ∀ v, AG I K c R M n o q s r ⊢ WP c (k v) Q) :
    AG I K c R M n o q s r ⊢ WP c (.op (.load aO (Rect.unit (s := S4096x2048) off S512x1024.size hin).toLoadRect hl) k) Q := by
  subst hoff
  have h1 : AG I K c R M n o q s r ⊢ iprop(∃ X, own' c (hM (pX t) (hp t c)) fullShare X ∗ (own' c (hM (pX t) (hp t c)) fullShare X -∗ AG I K c R M n o q s r)) := by
    unfold AG
    iintro ⟨H1, H2, H3, H4⟩
    ihave H3 := (fam_read (Φo I c) o t) $$ H3
    icases H3 with ⟨H3, H3'⟩
    ihave H3 := (Φo_any t (o t)) $$ H3
    icases H3 with ⟨%X, H3, H3''⟩
    iexists X
    isplitl [H3]; · iexact H3
    iintro H
    isplitl [H1]; · iexact H1
    isplitl [H2]; · iexact H2
    isplitl [H H3' H3'']
    · iapply H3'; iapply H3''; iexact H
    iexact H4
  refine h1.trans (BI.Laws.exists_elim fun X => ?_)
  refine load_sl (m := aO) (r := hR (pX t) (hp t c)) (fun _ => rfl) (q := fullShare) (X := X) BIBase.Entails.rfl ?_
  refine BIBase.Entails.trans ?_ (hk X)
  iintro ⟨H1, H2⟩
  iapply H2
  iexact H1

/-- The store of a half chunk of the result. -/
theorem ag_stout {R M : sProp 𝕄} {Q : α → sProp 𝕄} (t : Fin 16) {off : Fin 2 → Nat}
    {hin : ∀ a, off a + S512x1024.size a ≤ S4096x2048.size a} (hoff : off = ![512 * (hp t c).val, 1024 * (pX t).val])
    {w : Vec F S512x1024 .bf16} (hw : w = k0_pay77 (sc I) (qV I t c))
    {hx : (aO.access (Rect.unit (s := S4096x2048) off S512x1024.size hin)).Stores Finset.univ}
    {hm : (Finset.univ : Finset (Rect.unit (s := S4096x2048) off S512x1024.size hin).shape.Idx) = Finset.univ ∨ ∀ a, (Rect.unit (s := S4096x2048) off S512x1024.size hin).stride a = 1}
    {k : PUnit → Prog (TpuEff nD τ sig (Elt F) Λ₀ .tc) α}
    (hk : AG I K c R M n (Function.update o t 2) q s r ⊢ WP c (k ⟨⟩) Q) :
    AG I K c R M n o q s r ⊢ WP c (.op (.store aO (Rect.unit (s := S4096x2048) off S512x1024.size hin) w Finset.univ hx hm) k) Q := by
  subst hoff
  have hw' : w = rV I t c := hw.trans (RV_row I (pX t) (hp t c)).symm
  subst hw'
  have h1 : AG I K c R M n o q s r ⊢ iprop(∃ X, own' c (hM (pX t) (hp t c)) fullShare X ∗ (own' c (hM (pX t) (hp t c)) fullShare (rV I t c) -∗ AG I K c R M n (Function.update o t 2) q s r)) := by
    unfold AG
    iintro ⟨H1, H2, H3, H4⟩
    ihave H3 := (fam_upd (Φo I c) o t) $$ H3
    icases H3 with ⟨H3, H3'⟩
    ihave H3 := (Φo_any t (o t)) $$ H3
    icases H3 with ⟨%X, H3, -⟩
    iexists X
    isplitl [H3]; · iexact H3
    iintro H
    isplitl [H1]; · iexact H1
    isplitl [H2]; · iexact H2
    isplitl [H H3']
    · iapply H3' $$ %2
      iapply (show own' c (hM (pX t) (hp t c)) fullShare (rV I t c) ⊢ Φo I c t 2 from BIBase.Entails.rfl); iexact H
    iexact H4
  refine h1.trans (BI.Laws.exists_elim fun X => ?_)
  refine store_sl (m := aO) (r := hR (pX t) (hp t c)) (fun _ => rfl) (X := X) BIBase.Entails.rfl ?_
  refine BIBase.Entails.trans ?_ hk
  iintro ⟨H1, H2⟩
  iapply H2
  iexact H1

theorem Φq_left (t : Fin 16) (v : ℕ) (hv : 2 ≤ v) : Φq I c t v ⊢ (own' c (qM (pX t).val (hp t c)) fullShare.left (qV I t c)
    ∗ (own' c (qM (pX t).val (hp t c)) fullShare.left (qV I t c) -∗ Φq I c t v) : sProp 𝕄) := by
  unfold Φq
  rw [if_neg (by omega), if_neg (by omega)]
  split
  · iintro ⟨H1, H2⟩
    isplitl [H1]; · iexact H1
    iintro H
    isplitl [H]; · iexact H
    iexact H2
  · iintro H1
    isplitl [H1]; · iexact H1
    iintro H; iexact H

/-- A load of a quantised chunk. -/
theorem ag_ldq {R M : sProp 𝕄} {Q : α → sProp 𝕄} (t : Fin 16) (hc : 2 ≤ q t) {mm : Memref sig .tc .vmem S4096x1024 .i8} (hmm : mm = aQ (pX t).val) {off : Fin 2 → Nat}
    {hin : ∀ a, off a + S512x1024.size a ≤ S4096x1024.size a} (hoff : off = ![512 * (hp t c).val, 0])
    {hl : mm.view.LoadsAt (Rect.unit (s := S4096x1024) off S512x1024.size hin).toLoadRect}
    {k : Vec F S512x1024 .i8 → Prog (TpuEff nD τ sig (Elt F) Λ₀ .tc) α}
    (hk : AG I K c R M n o q s r ⊢ WP c (k (qV I t c)) Q) :
    AG I K c R M n o q s r ⊢ WP c (.op (.load mm (Rect.unit (s := S4096x1024) off S512x1024.size hin).toLoadRect hl) k) Q := by
  subst hoff hmm
  refine load_sl (m := aQ (pX t).val) (r := qR (hp t c)) (fun _ => rfl) (q := fullShare.left) (X := qV I t c)
    (R := iprop(own' c (qM (pX t).val (hp t c)) fullShare.left (qV I t c) -∗ AG I K c R M n o q s r)) ?_ ?_
  · unfold AG
    iintro ⟨H1, H2, H3, H4, H5⟩
    ihave H4 := (fam_read (Φq I c) q t) $$ H4
    icases H4 with ⟨H4, H4'⟩
    ihave H4 := (Φq_left t (q t) hc) $$ H4
    icases H4 with ⟨H4, H4''⟩
    isplitl [H4]; · iexact H4
    iintro H
    isplitl [H1]; · iexact H1
    isplitl [H2]; · iexact H2
    isplitl [H3]; · iexact H3
    isplitl [H H4' H4'']
    · iapply H4'; iapply H4''; iexact H
    iexact H5
  · refine BIBase.Entails.trans ?_ hk
    iintro ⟨H1, H2⟩
    iapply H2
    iexact H1

theorem ag_own {R M : sProp 𝕄} (t : Fin 16) (hc : q t = 1) : AG I K c R M n o q s r ⊢ iprop(∃ X, own' c (qM (pX t).val (hp t c)) fullShare X
    ∗ (∀ v, Φq I c t v -∗ AG I K c R M n o (Function.update q t v) s r)) := by
  unfold AG
  iintro ⟨H1, H2, H3, H4, H5⟩
  ihave H4 := (fam_upd (Φq I c) q t) $$ H4
  rw [hc]
  icases H4 with ⟨H4, H4'⟩
  ihave H4 := (show Φq I c t 1 ⊢ iprop(∃ X, own' c (qM (pX t).val (hp t c)) fullShare X) from BIBase.Entails.rfl) $$ H4
  icases H4 with ⟨%X, H4⟩
  iexists X
  isplitl [H4]; · iexact H4
  iintro %v H
  isplitl [H1]; · iexact H1
  isplitl [H2]; · iexact H2
  isplitl [H3]; · iexact H3
  isplitl [H H4']
  · iapply H4'; iexact H
  iexact H5

/-- A load of a quantised chunk whose value is not used. -/
theorem ag_ldqany {R M : sProp 𝕄} {Q : α → sProp 𝕄} (t : Fin 16) (hc : q t = 1) {mm : Memref sig .tc .vmem S4096x1024 .i8} (hmm : mm = aQ (pX t).val) {off : Fin 2 → Nat}
    {hin : ∀ a, off a + S512x1024.size a ≤ S4096x1024.size a} (hoff : off = ![512 * (hp t c).val, 0])
    {hl : mm.view.LoadsAt (Rect.unit (s := S4096x1024) off S512x1024.size hin).toLoadRect}
    {k : Vec F S512x1024 .i8 → Prog (TpuEff nD τ sig (Elt F) Λ₀ .tc) α}
    (hk : ∀ v, AG I K c R M n o q s r ⊢ WP c (k v) Q) :
    AG I K c R M n o q s r ⊢ WP c (.op (.load mm (Rect.unit (s := S4096x1024) off S512x1024.size hin).toLoadRect hl) k) Q := by
  subst hoff hmm
  refine (ag_own t hc).trans (BI.Laws.exists_elim fun X => ?_)
  refine load_sl (m := aQ (pX t).val) (r := qR (hp t c)) (fun _ => rfl) (q := fullShare) (X := X) BIBase.Entails.rfl ?_
  refine BIBase.Entails.trans ?_ (hk X)
  iintro ⟨H1, H2⟩
  ihave H := H2 $$ %1 [H1]
  · iapply (show iprop(∃ X, own' c (qM (pX t).val (hp t c)) fullShare X) ⊢ Φq I c t 1 from BIBase.Entails.rfl)
    iexists X; iexact H1
  rw [show Function.update q t 1 = q from by rw [← hc]; exact Function.update_eq_self _ _]
  iexact H

/-- The store of a quantised chunk. -/
theorem ag_stq {R M : sProp 𝕄} {Q : α → sProp 𝕄} (t : Fin 16) (hc : q t = 1) {mm : Memref sig .tc .vmem S4096x1024 .i8} (hmm : mm = aQ (pX t).val) {off : Fin 2 → Nat}
    {hin : ∀ a, off a + S512x1024.size a ≤ S4096x1024.size a} (hoff : off = ![512 * (hp t c).val, 0])
    {w : Vec F S512x1024 .i8} (hw : w = k0_pay74 (k0_pay70 (AM I)) (tV I t c))
    {hx : (mm.access (Rect.unit (s := S4096x1024) off S512x1024.size hin)).Stores Finset.univ}
    {hm : (Finset.univ : Finset (Rect.unit (s := S4096x1024) off S512x1024.size hin).shape.Idx) = Finset.univ ∨ ∀ a, (Rect.unit (s := S4096x1024) off S512x1024.size hin).stride a = 1}
    {k : PUnit → Prog (TpuEff nD τ sig (Elt F) Λ₀ .tc) α}
    (hk : AG I K c R M n o (Function.update q t 2) s r ⊢ WP c (k ⟨⟩) Q) :
    AG I K c R M n o q s r ⊢ WP c (.op (.store mm (Rect.unit (s := S4096x1024) off S512x1024.size hin) w Finset.univ hx hm) k) Q := by
  subst hoff hmm
  have hw' : w = qV I t c := hw.trans (QV_row I (pX t) (hp t c)).symm
  subst hw'
  refine (ag_own t hc).trans (BI.Laws.exists_elim fun X => ?_)
  refine store_sl (m := aQ (pX t).val) (r := qR (hp t c)) (fun _ => rfl) (X := X) BIBase.Entails.rfl ?_
  refine BIBase.Entails.trans ?_ hk
  iintro ⟨H1, H2⟩
  iapply H2
  iapply (show iprop(own' c (qM (pX t).val (hp t c)) fullShare.left (qV I t c) ∗ own' c (qM (pX t).val (hp t c)) fullShare.right (qV I t c)) ⊢ Φq I c t 2 from BIBase.Entails.rfl)
  iapply (owns_halves (c : Thread nD τ) (qM (pX t).val (hp t c)) fullShare (qV I t c)).1
  iexact H1

/-- A transfer of a quantised chunk. -/
theorem ag_send {R M : sProp 𝕄} {Q : α → sProp 𝕄} (e : Fin 14) (hc : s e = 0 ∧ q (sP e) = 2 ∧ ord (oG e) = n)
    {t : Dev nD} (ht : t = xr c (agW e)) {mm : Memref sig .tc .vmem S4096x1024 .i8} (hmm : mm = aQ (agX e).val) {off : Fin 2 → Nat}
    {hin : ∀ a, off a + S512x1024.size a ≤ S4096x1024.size a} {hst : ∀ a, (Rect.unit (s := S4096x1024) off S512x1024.size hin).stride a = 1}
    (hoff : off = ![512 * (hp (sP e) c).val, 0]) {sS sem : SemLoc sig}
    (hsS : sS = semOf (kG 0 e)) (hsem' : sem = semOf (kG 1 e))
    {hsc : (mm.slice (Rect.unit (s := S4096x1024) off S512x1024.size hin) hst).view.ref.isScScratch = false} {hsrc : (mm.slice (Rect.unit (s := S4096x1024) off S512x1024.size hin) hst).view.WordExact} {hdstw : (mm.slice (Rect.unit (s := S4096x1024) off S512x1024.size hin) hst).view.WordExact}
    {hty : DmaTarget.Typed .vmem sem (.remote (t.tc : Thread nD τ) (mm.slice (Rect.unit (s := S4096x1024) off S512x1024.size hin) hst) sS hsc)}
    {k : PUnit → Prog (TpuEff nD τ sig (Elt F) Λ₀ .tc) α}
    (hk : AG I K c R M (n + 1) o (Function.update q (sP e) 3) (Function.update s e 1) r ⊢ WP c (k ⟨⟩) Q) :
    AG I K c R M n o q s r ⊢ WP c (.op (.enqueueDma (mm.slice (Rect.unit (s := S4096x1024) off S512x1024.size hin) hst) (.remote (t.tc : Thread nD τ) (mm.slice (Rect.unit (s := S4096x1024) off S512x1024.size hin) hst) sS hsc) sem hsrc hdstw hty) k) Q := by
  obtain ⟨hs, hq, ho⟩ := hc
  subst hmm hoff
  obtain ⟨e1, e2⟩ := sP_eq e
  have e3 : _root_.K.hc (agX e) (agD e) (xr c (agW e)) = hp (sP e) c := by unfold hp; rw [hc_src, e1, e2]
  have e4 : _root_.K.hc (agX e) (agS e) c = hp (sP e) c := by unfold hp; rw [e1, e2]
  refine op_send I K (oG e) (kG 0 e) 0 n ho (Finset.mem_singleton_self _) rfl ht hsS hsem' (by rw [hsem']; exact gN _ _)
    (q := fullShare.right) (X := fun y => QV I (agX e).val ((qR (hp (sP e) c)).emb y)) (Fp := iprop(emp))
    (R := iprop(M ∗ (bigSep Finset.univ fun t => Φo I c t (o t)) ∗ (Φq I c (sP e) 3 -∗ bigSep Finset.univ fun t => Φq I c t (Function.update q (sP e) 3 t))
      ∗ ((atPos ER (cell c (kG 0 e)) 0 ∅ 0 ∗ cred (tallyAt (cell c (kG 0 e)) 0 nG)) -∗ bigSep Finset.univ fun t => Φe c t (Function.update s e 1 t))
      ∗ atPos ER (cell c (kG 0 e)) 0 ∅ 0
      ∗ Φq I c (sP e) 3
      ∗ (bigSep Finset.univ fun e => Φr c e (r e)) ∗ R)) ?_ ?_ ?_ ?_
  · show _ ⊢ own' c (qM (agX e).val (_root_.K.hc (agX e) (agS e) c)) fullShare.right (fun y => QV I (agX e).val ((qR (_root_.K.hc (agX e) (agS e) c)).emb y))
    rw [e4]
    exact BIBase.Entails.rfl
  · show _ ⊢ own' (xr c (agW e)) (qM (agX e).val (_root_.K.hc (agX e) (agD e) (xr c (agW e)))) fullShare (fun y => QV I (agX e).val ((qR (_root_.K.hc (agX e) (agD e) (xr c (agW e)))).emb y))
    rw [e3]
    iintro ⟨H, -⟩
    iexact H
  · unfold AG
    iintro ⟨⟨#Hr, HO⟩, H2, H3, H4, H5, H6, H7⟩
    ihave H4 := (fam_upd (Φq I c) q (sP e)) $$ H4
    icases H4 with ⟨H4, H4'⟩
    rw [hq]
    ihave H4 := (show Φq I c (sP e) 2 ⊢ iprop(own' c (qM (pX (sP e)).val (hp (sP e) c)) fullShare.left (qV I (sP e) c) ∗ own' c (qM (pX (sP e)).val (hp (sP e) c)) fullShare.right (qV I (sP e) c)) from BIBase.Entails.rfl) $$ H4
    icases H4 with ⟨HL, HR⟩
    ihave H5 := (fam_upd (Φe (F := F) c) s e) $$ H5
    icases H5 with ⟨H5, H5'⟩
    rw [hs]
    ihave H5 := (show Φe (F := F) c e 0 ⊢ iprop(atPos ER (cell c (kG 0 e)) 0 ∅ 0 ∗ any' (F := F) (xr c (agW e)) (qM (agX e).val (_root_.K.hc (agX e) (agD e) (xr c (agW e))))
      ∗ dutyTok ER (cell c (kG 0 e)) 0 false ∗ dutyTok ER (cell (xr c (agW e)) (kG 1 e)) 0 false) from BIBase.Entails.rfl) $$ H5
    icases H5 with ⟨HA, HP, HT1, HT2⟩
    rw [e3]
    isplitl [HO]
    · isplitr; · iexact Hr
      iexact HO
    isplitl [HR]; · rw [← e1]; iexact HR
    isplitl [HP]; · iexact HP
    isplitr; · iempintro
    isplitl [HT1]
    · isplitl [HT1]; · iexact HT1
      iapply (recs_r0 I K c (kG 0 e)); iexact Hr
    isplitl [HT2]
    · isplitl [HT2]; · iexact HT2
      iapply (recs_r0 I K (xr c (agW e)) (kG 1 e)); iexact Hr
    isplitl [H2]; · iexact H2
    isplitl [H3]; · iexact H3
    isplitl [H4']; · iapply H4'
    isplitl [H5']
    · iintro H
      iapply H5'
      iapply (show iprop(atPos ER (cell c (kG 0 e)) 0 ∅ 0 ∗ cred (tallyAt (cell c (kG 0 e)) 0 nG)) ⊢ Φe (F := F) c e 1 from BIBase.Entails.rfl)
      iexact H
    isplitl [HA]; · iexact HA
    isplitl [HL]
    · iapply (show own' c (qM (pX (sP e)).val (hp (sP e) c)) fullShare.left (qV I (sP e) c) ⊢ Φq I c (sP e) 3 from BIBase.Entails.rfl)
      iexact HL
    isplitl [H6]; · iexact H6
    iexact H7
  · iintro ⟨HO, HC, H2, H3, H4, H5, HA, HL, H6, H7⟩
    iapply hk
    unfold AG
    isplitl [HO]; · iexact HO
    isplitl [H2]; · iexact H2
    isplitl [H3]; · iexact H3
    isplitl [H4 HL]
    · iapply H4; iexact HL
    isplitl [H5 HA HC]
    · iapply H5
      isplitl [HA]; · iexact HA
      iexact HC
    isplitl [H6]; · iexact H6
    iexact H7

/-- The wait for a transfer's departure. -/
theorem ag_wait {R M : sProp 𝕄} {Q : α → sProp 𝕄} {sm : DmaSem sig} (e : Fin 14) (hc : s e = 1 ∧ q (sP e) = 3 ∧ 2 ≤ n)
    (hsm : (SemLoc.dma sm : SemLoc sig) = semOf (kG 0 e)) {sp sp' : Space} {s1 s2 : Shape} {e1 e2 : EltTy}
    {src : Memref sig .tc sp' s2 e2} {dst : Memref sig .tc sp s1 e1} {hsrc : src.view.WordExact} {hdst : dst.view.WordExact}
    (hN : dst.view.dmaCredit = nG)
    {k : PUnit → Prog (TpuEff nD τ sig (Elt F) Λ₀ .tc) α}
    (hk : AG I K c R M n o (Function.update q (sP e) 2) (Function.update s e 2) r ⊢ WP c (k ⟨⟩) Q) :
    AG I K c R M n o q s r ⊢ WP c (.op (.waitDma2 sm src dst hsrc hdst) k) Q := by
  obtain ⟨hs, hq, hn⟩ := hc
  obtain ⟨x1, x2⟩ := sP_eq e
  have x4 : _root_.K.hc (agX e) (agS e) c = hp (sP e) c := by unfold hp; rw [x1, x2]
  refine op_wait I K (kG 0 e) 0 n rfl (by decide) (Nat.zero_le _) hn hsm hN
    (wpE_waitDma2_eq Variants.none (c : Thread nD τ) none Set.univ)
    (R := iprop(M ∗ (bigSep Finset.univ fun t => Φo I c t (o t)) ∗ (Φq I c (sP e) 2 -∗ bigSep Finset.univ fun t => Φq I c t (Function.update q (sP e) 2 t))
      ∗ (atPos ER (cell c (kG 0 e)) 1 ∅ 0 -∗ bigSep Finset.univ fun t => Φe (F := F) c t (Function.update s e 2 t))
      ∗ own' c (qM (pX (sP e)).val (hp (sP e) c)) fullShare.left (qV I (sP e) c)
      ∗ (bigSep Finset.univ fun e => Φr c e (r e)) ∗ R)) ?_ ?_
  · unfold AG
    iintro ⟨HO, H2, H3, H4, H5, H6, H7⟩
    ihave H4 := (fam_upd (Φq I c) q (sP e)) $$ H4
    icases H4 with ⟨H4, H4'⟩
    rw [hq]
    ihave H4 := (show Φq I c (sP e) 3 ⊢ own' c (qM (pX (sP e)).val (hp (sP e) c)) fullShare.left (qV I (sP e) c) from BIBase.Entails.rfl) $$ H4
    ihave H5 := (fam_upd (Φe (F := F) c) s e) $$ H5
    icases H5 with ⟨H5, H5'⟩
    rw [hs]
    ihave H5 := (show Φe (F := F) c e 1 ⊢ iprop(atPos ER (cell c (kG 0 e)) 0 ∅ 0 ∗ cred (tallyAt (cell c (kG 0 e)) 0 nG)) from BIBase.Entails.rfl) $$ H5
    icases H5 with ⟨HA, HC⟩
    isplitl [HO]; · iexact HO
    isplitl [HC]; · iexact HC
    isplitl [HA]; · iexact HA
    isplitl [H2]; · iexact H2
    isplitl [H3]; · iexact H3
    isplitl [H4']; · iapply H4'
    isplitl [H5']
    · iintro H
      iapply H5'
      iapply (show atPos ER (cell c (kG 0 e)) 1 ∅ 0 ⊢ Φe (F := F) c e 2 from BIBase.Entails.rfl)
      iexact H
    isplitl [H4]; · iexact H4
    isplitl [H6]; · iexact H6
    iexact H7
  · iintro ⟨HO, HP, ⟨HA, -⟩, H2, H3, H4, H5, HL, H6, H7⟩
    ihave HP := (show payK I c (kG 0 e) 0 false ⊢ own' c (qM (agX e).val (_root_.K.hc (agX e) (agS e) c)) fullShare.right (fun y => QV I (agX e).val ((qR (_root_.K.hc (agX e) (agS e) c)).emb y)) from BIBase.Entails.rfl) $$ HP
    rw [x4, ← x1]
    iapply hk
    unfold AG
    isplitl [HO]; · iexact HO
    isplitl [H2]; · iexact H2
    isplitl [H3]; · iexact H3
    isplitl [H4 HL HP]
    · iapply H4
      iapply (show iprop(own' c (qM (pX (sP e)).val (hp (sP e) c)) fullShare.left (qV I (sP e) c) ∗ own' c (qM (pX (sP e)).val (hp (sP e) c)) fullShare.right (qV I (sP e) c)) ⊢ Φq I c (sP e) 2 from BIBase.Entails.rfl)
      isplitl [HL]; · iexact HL
      iexact HP
    isplitl [H5 HA]
    · iapply H5; iexact HA
    isplitl [H6]; · iexact H6
    iexact H7

/-- The wait for a transfer's arrival. -/
theorem ag_recv {R M : sProp 𝕄} {Q : α → sProp 𝕄} {sm : DmaSem sig} (e : Fin 14) (hc : r e = 0 ∧ q (dP e) = 0 ∧ 2 ≤ n ∧ lev (kG 1 e) 0 ≤ n)
    (hsm : (SemLoc.dma sm : SemLoc sig) = semOf (kG 1 e)) {sp sp' : Space} {s1 s2 : Shape} {e1 e2 : EltTy}
    {src : Memref sig .tc sp' s2 e2} {dst : Memref sig .tc sp s1 e1} {hsrc : src.view.WordExact} {hdst : dst.view.WordExact}
    (hN : dst.view.dmaCredit = nG)
    {k : PUnit → Prog (TpuEff nD τ sig (Elt F) Λ₀ .tc) α}
    (hk : AG I K c R M n o (Function.update q (dP e) 2) s (Function.update r e 1) ⊢ WP c (k ⟨⟩) Q) :
    AG I K c R M n o q s r ⊢ WP c (.op (.waitDma2 sm src dst hsrc hdst) k) Q := by
  obtain ⟨hs, hq, hn, hl⟩ := hc
  obtain ⟨x1, x2⟩ := dP_eq e
  have x4 : _root_.K.hc (agX e) (agD e) c = hp (dP e) c := by unfold hp; rw [x1, x2]
  refine op_wait I K (kG 1 e) 0 n rfl (by decide) hl hn hsm hN
    (wpE_waitDma2_eq Variants.none (c : Thread nD τ) none Set.univ)
    (R := iprop(M ∗ (bigSep Finset.univ fun t => Φo I c t (o t)) ∗ (Φq I c (dP e) 2 -∗ bigSep Finset.univ fun t => Φq I c t (Function.update q (dP e) 2 t))
      ∗ (bigSep Finset.univ fun e => Φe c e (s e))
      ∗ (atPos ER (cell c (kG 1 e)) 1 ∅ 0 -∗ bigSep Finset.univ fun t => Φr (F := F) c t (Function.update r e 1 t)) ∗ R)) ?_ ?_
  · unfold AG
    iintro ⟨HO, H2, H3, H4, H5, H6, H7⟩
    ihave H4 := (fam_upd (Φq I c) q (dP e)) $$ H4
    icases H4 with ⟨-, H4'⟩
    ihave H6 := (fam_upd (Φr (F := F) c) r e) $$ H6
    icases H6 with ⟨H6, H6'⟩
    rw [hs]
    ihave H6 := (show Φr (F := F) c e 0 ⊢ iprop(atPos ER (cell c (kG 1 e)) 0 ∅ 0 ∗ cred (tallyAt (cell c (kG 1 e)) 0 nG)) from BIBase.Entails.rfl) $$ H6
    icases H6 with ⟨HA, HC⟩
    isplitl [HO]; · iexact HO
    isplitl [HC]; · iexact HC
    isplitl [HA]; · iexact HA
    isplitl [H2]; · iexact H2
    isplitl [H3]; · iexact H3
    isplitl [H4']; · iapply H4'
    isplitl [H5]; · iexact H5
    isplitl [H6']
    · iintro H
      iapply H6'
      iapply (show atPos ER (cell c (kG 1 e)) 1 ∅ 0 ⊢ Φr (F := F) c e 1 from BIBase.Entails.rfl)
      iexact H
    iexact H7
  · iintro ⟨HO, HP, ⟨HA, -⟩, H2, H3, H4, H5, H6, H7⟩
    ihave HP := (show payK I c (kG 1 e) 0 false ⊢ own' c (qM (agX e).val (_root_.K.hc (agX e) (agD e) c)) fullShare (fun y => QV I (agX e).val ((qR (_root_.K.hc (agX e) (agD e) c)).emb y)) from BIBase.Entails.rfl) $$ HP
    rw [x4, ← x1]
    iapply hk
    unfold AG
    isplitl [HO]; · iexact HO
    isplitl [H2]; · iexact H2
    isplitl [H3]; · iexact H3
    isplitl [H4 HP]
    · iapply H4
      iapply (show iprop(own' c (qM (pX (dP e)).val (hp (dP e) c)) fullShare.left (qV I (dP e) c) ∗ own' c (qM (pX (dP e)).val (hp (dP e) c)) fullShare.right (qV I (dP e) c)) ⊢ Φq I c (dP e) 2 from BIBase.Entails.rfl)
      iapply (owns_halves (c : Thread nD τ) (qM (pX (dP e)).val (hp (dP e) c)) fullShare (qV I (dP e) c)).1
      iexact HP
    isplitl [H5]; · iexact H5
    isplitl [H6 HA]
    · iapply H6; iexact HA
    iexact H7

end Ops

end K
-- ==== Proof.K.AM.lean ====
module

public import proofs.«01_k».proof.Proof.K.AG

/-!
# The exchange of the maxima
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem half_eq (c : Dev nD) {sp : Space} {sh : Shape} {e : EltTy} (m : Memref sig .tc sp sh e) (X : sh.Idx → Elt F e) (q : PosShare TreeShare) :
    (own' c m q X : sProp 𝕄) = iprop(own' c m q.left X ∗ own' c m q.right X) :=
  BI.Entails.antisymm (owns_halves (c : Thread nD τ) m q X).1 (owns_halves (c : Thread nD τ) m q X).2

/-- A memref held whole is held in eight shares, the last of them kept. -/
theorem leaves8 (c : Dev nD) {sp : Space} {sh : Shape} {e : EltTy} (m : Memref sig .tc sp sh e) (X : sh.Idx → Elt F e) :
    (own' c m fullShare X : sProp 𝕄) ⊣⊢ iprop(own' c m (amq 7) X ∗ bigSep (Finset.univ : Finset (Fin 7)) fun o => own' c m (amq o.val) X) := by
  have h := half_eq c m X
  rw [show (bigSep (Finset.univ : Finset (Fin 7)) fun o => (own' c m (amq o.val) X : sProp 𝕄))
      = iprop(own' c m (amq 0) X ∗ own' c m (amq 1) X ∗ own' c m (amq 2) X ∗ own' c m (amq 3) X ∗ own' c m (amq 4) X ∗ own' c m (amq 5) X ∗ own' c m (amq 6) X) from by
    rw [bigSep_univ_eq_bigSepL [0, 1, 2, 3, 4, 5, 6] (by decide) (by decide)]; rfl]
  rw [h fullShare, h fullShare.left, h fullShare.right, h fullShare.left.left, h fullShare.left.right, h fullShare.right.left, h fullShare.right.right]
  constructor
  · iintro ⟨⟨⟨H0, H1⟩, H2, H3⟩, ⟨H4, H5⟩, H6, H7⟩
    isplitl [H7]; · iexact H7
    isplitl [H0]; · iexact H0
    isplitl [H1]; · iexact H1
    isplitl [H2]; · iexact H2
    isplitl [H3]; · iexact H3
    isplitl [H4]; · iexact H4
    isplitl [H5]; · iexact H5
    iexact H6
  · iintro ⟨H7, H0, H1, H2, H3, H4, H5, H6⟩
    isplitl [H0 H1 H2 H3]
    · isplitl [H0 H1]
      · isplitl [H0]; · iexact H0
        iexact H1
      isplitl [H2]; · iexact H2
      iexact H3
    isplitl [H4 H5]
    · isplitl [H4]; · iexact H4
      iexact H5
    isplitl [H6]; · iexact H6
    iexact H7

theorem ma_erase (c : Dev nD) : Finset.univ.erase c = (Finset.univ : Finset (Fin 7)).image fun o => ma o.val c := by revert c; decide +kernel
theorem ma_inj (c : Dev nD) : ∀ x y : Fin 7, ma x.val c = ma y.val c → x = y := by revert c; decide +kernel
theorem ma_am : ∀ (c : Dev nD) (o : Fin 7), ma o.val (am o.val c) = c := by decide +kernel

/-- The eight rows of maxima are the whole of them. -/
theorem rows_join (I : In F) (c : Dev nD) :
    iprop(own' c (mM c) fullShare (am1 I c) ∗ bigSep (Finset.univ : Finset (Fin 7)) fun o => own' c (mM (ma o.val c)) fullShare (am1 I (ma o.val c)))
      ⊢ own' c aM fullShare (AM I) := by
  haveI : ∀ e, Nonempty (Elt F e) := fun e => ⟨default⟩
  refine BIBase.Entails.trans ?_ (owns_of_rects (c : Thread nD τ) aM fullShare mR (fun _ _ => rfl) mR_disj mR_cov (AM I))
  rw [bigSep_univ_at _ c, ma_erase, bigSep_image_of_injOn (fun x _ y _ h => ma_inj c x y h)]
  iintro ⟨H1, H2⟩
  isplitl [H1]
  · rw [AM_row]; iexact H1
  · iapply (show (bigSep (Finset.univ : Finset (Fin 7)) fun o => own' c (mM (ma o.val c)) fullShare (am1 I (ma o.val c))) ⊢
      bigSep (Finset.univ : Finset (Fin 7)) fun o => own' c (mM (ma o.val c)) fullShare (fun y => AM I ((mR (ma o.val c)).emb y)) from
      bigSep_mono fun o _ => Entails.of_eq (congrArg (fun X => own' c (mM (ma o.val c)) fullShare X) (AM_row I (ma o.val c)).symm))
    iexact H2

section Ops

variable {I : In F} {K : Dev nD × Kn → ℕ} {c : Dev nD} {α : Type} {n : ℕ} {o q : Fin 16 → ℕ} {s r : Fin 14 → ℕ} {ro : ℕ} {f g : Fin 7 → ℕ}

theorem MX_eq {R : sProp 𝕄} {f' g' : Fin 7 → ℕ} (h : f = f' ∧ g = g') {P : sProp 𝕄}
    (hk : AG I K c R (MX I c ro f' g') n o q s r ⊢ P) : AG I K c R (MX I c ro f g) n o q s r ⊢ P := by
  obtain ⟨rfl, rfl⟩ := h; exact hk

/-- A load of the device's own row whose value is not used. -/
theorem am_ldrow {R : sProp 𝕄} {Q : α → sProp 𝕄} {off : Fin 2 → Nat}
    {hin : ∀ a, off a + S1x128.size a ≤ S8x128.size a} (hoff : off = ![c.val, 0])
    {hl : aM.view.LoadsAt (Rect.unit (s := S8x128) off S1x128.size hin).toLoadRect}
    {k : Vec F S1x128 .f32 → Prog (TpuEff nD τ sig (Elt F) Λ₀ .tc) α}
    (hk : ∀ v, AG I K c R (MX I c 0 f g) n o q s r ⊢ WP c (k v) Q) :
    AG I K c R (MX I c 0 f g) n o q s r ⊢ WP c (.op (.load aM (Rect.unit (s := S8x128) off S1x128.size hin).toLoadRect hl) k) Q := by
  subst hoff
  have h1 : AG I K c R (MX I c 0 f g) n o q s r ⊢ iprop(∃ X, own' c (mM c) fullShare X ∗ (any' (F := F) c (mM c) -∗ AG I K c R (MX I c 0 f g) n o q s r)) := by
    unfold AG MX
    rw [if_pos rfl]
    iintro ⟨H1, ⟨H, H2⟩, H4⟩
    ihave H := (show any' (F := F) c (mM c) ⊢ iprop(∃ X, own' c (mM c) fullShare X) from BIBase.Entails.rfl) $$ H
    icases H with ⟨%X, H⟩
    iexists X
    isplitl [H]; · iexact H
    iintro H
    isplitl [H1]; · iexact H1
    isplitl [H H2]
    · isplitl [H]; · iexact H
      iexact H2
    iexact H4
  refine h1.trans (BI.Laws.exists_elim fun X => ?_)
  refine load_sl (m := aM) (r := mR c) (fun _ => rfl) (q := fullShare) (X := X) BIBase.Entails.rfl ?_
  refine BIBase.Entails.trans ?_ (hk X)
  iintro ⟨H1, H2⟩
  iapply H2
  iapply (show iprop(∃ X, own' c (mM c) fullShare X) ⊢ any' (F := F) c (mM c) from BIBase.Entails.rfl)
  iexists X
  iexact H1

/-- The store of the device's own row. -/
theorem am_strow {R : sProp 𝕄} {Q : α → sProp 𝕄} (hf : f = fun _ => 0) {off : Fin 2 → Nat}
    {hin : ∀ a, off a + S1x128.size a ≤ S8x128.size a} (hoff : off = ![c.val, 0])
    {w : Vec F S1x128 .f32} (hw : w = am1 I c)
    {hx : (aM.access (Rect.unit (s := S8x128) off S1x128.size hin)).Stores Finset.univ}
    {hm : (Finset.univ : Finset (Rect.unit (s := S8x128) off S1x128.size hin).shape.Idx) = Finset.univ ∨ ∀ a, (Rect.unit (s := S8x128) off S1x128.size hin).stride a = 1}
    {k : PUnit → Prog (TpuEff nD τ sig (Elt F) Λ₀ .tc) α}
    (hk : AG I K c R (MX I c 1 (fun _ => 1) g) n o q s r ⊢ WP c (k ⟨⟩) Q) :
    AG I K c R (MX I c 0 f g) n o q s r ⊢ WP c (.op (.store aM (Rect.unit (s := S8x128) off S1x128.size hin) w Finset.univ hx hm) k) Q := by
  subst hoff hw hf
  have h1 : AG I K c R (MX I c 0 (fun _ => 0) g) n o q s r ⊢ iprop(∃ X, own' c (mM c) fullShare X ∗ (own' c (mM c) fullShare (am1 I c) -∗ AG I K c R (MX I c 1 (fun _ => 1) g) n o q s r)) := by
    unfold AG MX
    rw [if_pos rfl, if_neg (by decide)]
    iintro ⟨H1, ⟨H, Hf, H2⟩, H4⟩
    ihave H := (show any' (F := F) c (mM c) ⊢ iprop(∃ X, own' c (mM c) fullShare X) from BIBase.Entails.rfl) $$ H
    icases H with ⟨%X, H⟩
    iexists X
    isplitl [H]; · iexact H
    iintro H
    isplitl [H1]; · iexact H1
    isplitl [H Hf H2]
    · ihave H := (leaves8 c (mM c) (am1 I c)).1 $$ H
      icases H with ⟨H7, H⟩
      isplitl [H7]; · iexact H7
      isplitl [H Hf]
      · iapply (show iprop((bigSep Finset.univ fun t : Fin 7 => Φm I c t 0) ∗ bigSep (Finset.univ : Finset (Fin 7)) fun o => own' c (mM c) (amq o.val) (am1 I c)) ⊢ bigSep Finset.univ fun t : Fin 7 => Φm I c t 1 from by
          rw [← bigSep_sep']
          refine bigSep_mono fun t _ => ?_
          show iprop(((atPos ER (cell c (kM 0 t)) 0 ∅ 0 ∗ any' (F := F) (am t.val c) (mM c)
              ∗ dutyTok ER (cell c (kM 0 t)) 0 false ∗ dutyTok ER (cell (am t.val c) (kM 1 t)) 0 false) ∗ emp) ∗ own' c (mM c) (amq t.val) (am1 I c))
            ⊢ iprop((atPos ER (cell c (kM 0 t)) 0 ∅ 0 ∗ any' (F := F) (am t.val c) (mM c)
              ∗ dutyTok ER (cell c (kM 0 t)) 0 false ∗ dutyTok ER (cell (am t.val c) (kM 1 t)) 0 false) ∗ own' c (mM c) (amq t.val) (am1 I c))
          iintro ⟨⟨H, -⟩, H'⟩
          isplitl [H]; · iexact H
          iexact H')
        isplitl [Hf]; · iexact Hf
        iexact H
      iexact H2
    iexact H4
  refine h1.trans (BI.Laws.exists_elim fun X => ?_)
  refine store_sl (m := aM) (r := mR c) (fun _ => rfl) (X := X) BIBase.Entails.rfl ?_
  refine BIBase.Entails.trans ?_ hk
  iintro ⟨H1, H2⟩
  iapply H2
  iexact H1

/-- The copy of the row to the device at a distance. -/
theorem am_send {R : sProp 𝕄} {Q : α → sProp 𝕄} (e : Fin 7) (hc : f e = 1 ∧ ord (oM e) = n)
    {t : Dev nD} (ht : t = am e.val c) {off : Fin 2 → Nat}
    {hin : ∀ a, off a + S1x128.size a ≤ S8x128.size a} {hst : ∀ a, (Rect.unit (s := S8x128) off S1x128.size hin).stride a = 1}
    (hoff : off = ![c.val, 0]) {sS sem : SemLoc sig}
    (hsS : sS = semOf (kM 0 e)) (hsem' : sem = semOf (kM 1 e))
    {hsc : (aM.slice (Rect.unit (s := S8x128) off S1x128.size hin) hst).view.ref.isScScratch = false} {hsrc : (aM.slice (Rect.unit (s := S8x128) off S1x128.size hin) hst).view.WordExact} {hdstw : (aM.slice (Rect.unit (s := S8x128) off S1x128.size hin) hst).view.WordExact}
    {hty : DmaTarget.Typed .vmem sem (.remote (t.tc : Thread nD τ) (aM.slice (Rect.unit (s := S8x128) off S1x128.size hin) hst) sS hsc)}
    (hN : (aM.slice (Rect.unit (s := S8x128) off S1x128.size hin) hst).view.amount sem = nM)
    {k : PUnit → Prog (TpuEff nD τ sig (Elt F) Λ₀ .tc) α}
    (hk : AG I K c R (MX I c ro (Function.update f e 2) g) (n + 1) o q s r ⊢ WP c (k ⟨⟩) Q) :
    AG I K c R (MX I c ro f g) n o q s r ⊢ WP c (.op (.enqueueDma (aM.slice (Rect.unit (s := S8x128) off S1x128.size hin) hst) (.remote (t.tc : Thread nD τ) (aM.slice (Rect.unit (s := S8x128) off S1x128.size hin) hst) sS hsc) sem hsrc hdstw hty) k) Q := by
  obtain ⟨hs, ho⟩ := hc
  subst hoff
  refine op_send I K (oM e) (kM 0 e) 0 n ho (Finset.mem_singleton_self _) rfl ht hsS hsem' hN
    (q := amq e.val) (X := am1 I c) (Fp := iprop(emp))
    (R := iprop(atPos ER (cell c (kM 0 e)) 0 ∅ 0 ∗ (∀ n', (recs I K ∗ ow c n') -∗ (atPos ER (cell c (kM 0 e)) 0 ∅ 0 ∗ cred (tallyAt (cell c (kM 0 e)) 0 nM)) -∗ AG I K c R (MX I c ro (Function.update f e 2) g) n' o q s r))) ?_ ?_ ?_ ?_
  · exact BIBase.Entails.rfl
  · show _ ⊢ own' (am e.val c) (mM (ma e.val (am e.val c))) fullShare (am1 I (ma e.val (am e.val c)))
    rw [ma_am]
    iintro ⟨H, -⟩
    iexact H
  · unfold AG MX
    iintro ⟨⟨#Hr, HO⟩, ⟨HR, Hf, Hg⟩, H4⟩
    ihave Hf := (fam_upd (Φm I c) f e) $$ Hf
    icases Hf with ⟨Hf, Hf'⟩
    rw [hs]
    ihave Hf := (show Φm I c e 1 ⊢ iprop((atPos ER (cell c (kM 0 e)) 0 ∅ 0 ∗ any' (F := F) (am e.val c) (mM c)
      ∗ dutyTok ER (cell c (kM 0 e)) 0 false ∗ dutyTok ER (cell (am e.val c) (kM 1 e)) 0 false)
      ∗ own' c (mM c) (amq e.val) (am1 I c)) from BIBase.Entails.rfl) $$ Hf
    icases Hf with ⟨⟨HA, HP, HT1, HT2⟩, HL⟩
    isplitl [HO]
    · isplitr; · iexact Hr
      iexact HO
    isplitl [HL]; · iexact HL
    isplitl [HP]; · iexact HP
    isplitr; · iempintro
    isplitl [HT1]
    · isplitl [HT1]; · iexact HT1
      iapply (recs_r0 I K c (kM 0 e)); iexact Hr
    isplitl [HT2]
    · isplitl [HT2]; · iexact HT2
      iapply (recs_r0 I K (am e.val c) (kM 1 e)); iexact Hr
    isplitl [HA]; · iexact HA
    iintro %n' HO H
    isplitl [HO]; · iexact HO
    isplitl [HR Hf' Hg H]
    · isplitl [HR]; · iexact HR
      isplitl [Hf' H]
      · iapply Hf'
        iapply (show iprop(atPos ER (cell c (kM 0 e)) 0 ∅ 0 ∗ cred (tallyAt (cell c (kM 0 e)) 0 nM)) ⊢ Φm I c e 2 from BIBase.Entails.rfl)
        iexact H
      iexact Hg
    iexact H4
  · iintro ⟨HO, HC, HA, H⟩
    iapply hk
    iapply H $$ HO
    isplitl [HA]; · iexact HA
    iexact HC

/-- The wait for a row's departure. -/
theorem am_wait {R : sProp 𝕄} {Q : α → sProp 𝕄} {sm : DmaSem sig} (e : Fin 7) (hc : f e = 2 ∧ 2 ≤ n)
    (hsm : (SemLoc.dma sm : SemLoc sig) = semOf (kM 0 e)) {sp sp' : Space} {s1 s2 : Shape} {e1 e2 : EltTy}
    {src : Memref sig .tc sp' s2 e2} {dst : Memref sig .tc sp s1 e1} {hsrc : src.view.WordExact} {hdst : dst.view.WordExact}
    (hN : dst.view.dmaCredit = nM)
    {k : PUnit → Prog (TpuEff nD τ sig (Elt F) Λ₀ .tc) α}
    (hk : AG I K c R (MX I c ro (Function.update f e 3) g) n o q s r ⊢ WP c (k ⟨⟩) Q) :
    AG I K c R (MX I c ro f g) n o q s r ⊢ WP c (.op (.waitDma2 sm src dst hsrc hdst) k) Q := by
  obtain ⟨hs, hn⟩ := hc
  refine op_wait I K (kM 0 e) 0 n rfl (by decide) (Nat.zero_le _) hn hsm hN
    (wpE_waitDma2_eq Variants.none (c : Thread nD τ) none Set.univ)
    (R := iprop((recs I K ∗ ow c n) -∗ (atPos ER (cell c (kM 0 e)) 1 ∅ 0 ∗ own' c (mM c) (amq e.val) (am1 I c)) -∗ AG I K c R (MX I c ro (Function.update f e 3) g) n o q s r)) ?_ ?_
  · unfold AG MX
    iintro ⟨HO, ⟨HR, Hf, Hg⟩, H4⟩
    ihave Hf := (fam_upd (Φm I c) f e) $$ Hf
    icases Hf with ⟨Hf, Hf'⟩
    rw [hs]
    ihave Hf := (show Φm I c e 2 ⊢ iprop(atPos ER (cell c (kM 0 e)) 0 ∅ 0 ∗ cred (tallyAt (cell c (kM 0 e)) 0 nM)) from BIBase.Entails.rfl) $$ Hf
    icases Hf with ⟨HA, HC⟩
    isplitl [HO]; · iexact HO
    isplitl [HC]; · iexact HC
    isplitl [HA]; · iexact HA
    iintro HO H
    isplitl [HO]; · iexact HO
    isplitl [HR Hf' Hg H]
    · isplitl [HR]; · iexact HR
      isplitl [Hf' H]
      · iapply Hf'
        iapply (show iprop(atPos ER (cell c (kM 0 e)) 1 ∅ 0 ∗ own' c (mM c) (amq e.val) (am1 I c)) ⊢ Φm I c e 3 from BIBase.Entails.rfl)
        iexact H
      iexact Hg
    iexact H4
  · iintro ⟨HO, HP, ⟨HA, -⟩, H⟩
    iapply hk
    iapply H $$ HO
    isplitl [HA]; · iexact HA
    iapply (show payK I c (kM 0 e) 0 false ⊢ own' c (mM c) (amq e.val) (am1 I c) from BIBase.Entails.rfl)
    iexact HP

/-- The wait for a row's arrival. -/
theorem am_recv {R : sProp 𝕄} {Q : α → sProp 𝕄} {sm : DmaSem sig} (e : Fin 7) (hc : g e = 0 ∧ 2 ≤ n ∧ lev (kM 1 e) 0 ≤ n)
    (hsm : (SemLoc.dma sm : SemLoc sig) = semOf (kM 1 e)) {sp sp' : Space} {s1 s2 : Shape} {e1 e2 : EltTy}
    {src : Memref sig .tc sp' s2 e2} {dst : Memref sig .tc sp s1 e1} {hsrc : src.view.WordExact} {hdst : dst.view.WordExact}
    (hN : dst.view.dmaCredit = nM)
    {k : PUnit → Prog (TpuEff nD τ sig (Elt F) Λ₀ .tc) α}
    (hk : AG I K c R (MX I c ro f (Function.update g e 1)) n o q s r ⊢ WP c (k ⟨⟩) Q) :
    AG I K c R (MX I c ro f g) n o q s r ⊢ WP c (.op (.waitDma2 sm src dst hsrc hdst) k) Q := by
  obtain ⟨hs, hn, hl⟩ := hc
  refine op_wait I K (kM 1 e) 0 n rfl (by decide) hl hn hsm hN
    (wpE_waitDma2_eq Variants.none (c : Thread nD τ) none Set.univ)
    (R := iprop((recs I K ∗ ow c n) -∗ (atPos ER (cell c (kM 1 e)) 1 ∅ 0 ∗ own' c (mM (ma e.val c)) fullShare (am1 I (ma e.val c))) -∗ AG I K c R (MX I c ro f (Function.update g e 1)) n o q s r)) ?_ ?_
  · unfold AG MX
    iintro ⟨HO, ⟨HR, Hf, Hg⟩, H4⟩
    ihave Hg := (fam_upd (Φn I c) g e) $$ Hg
    icases Hg with ⟨Hg, Hg'⟩
    rw [hs]
    ihave Hg := (show Φn I c e 0 ⊢ iprop(atPos ER (cell c (kM 1 e)) 0 ∅ 0 ∗ cred (tallyAt (cell c (kM 1 e)) 0 nM)) from BIBase.Entails.rfl) $$ Hg
    icases Hg with ⟨HA, HC⟩
    isplitl [HO]; · iexact HO
    isplitl [HC]; · iexact HC
    isplitl [HA]; · iexact HA
    iintro HO H
    isplitl [HO]; · iexact HO
    isplitl [HR Hf Hg' H]
    · isplitl [HR]; · iexact HR
      isplitl [Hf]; · iexact Hf
      iapply Hg'
      iapply (show iprop(atPos ER (cell c (kM 1 e)) 1 ∅ 0 ∗ own' c (mM (ma e.val c)) fullShare (am1 I (ma e.val c))) ⊢ Φn I c e 1 from BIBase.Entails.rfl)
      iexact H
    iexact H4
  · iintro ⟨HO, HP, ⟨HA, -⟩, H⟩
    iapply hk
    iapply H $$ HO
    isplitl [HA]; · iexact HA
    iapply (show payK I c (kM 1 e) 0 false ⊢ own' c (mM (ma e.val c)) fullShare (am1 I (ma e.val c)) from BIBase.Entails.rfl)
    iexact HP

/-- The exchange over: every row is here. -/
theorem MX_done : MX I c 1 (fun _ => 3) (fun _ => 1) ⊢ MXend I c := by
  unfold MX MXend
  rw [if_neg (by decide)]
  iintro ⟨HR, Hf, Hg⟩
  ihave Hf := (show (bigSep Finset.univ fun t : Fin 7 => Φm I c t 3) ⊢ iprop((bigSep Finset.univ fun o : Fin 7 => (atPos ER (cell c (kM 0 o)) 1 ∅ 0 : sProp 𝕄)) ∗ bigSep (Finset.univ : Finset (Fin 7)) fun o => own' c (mM c) (amq o.val) (am1 I c)) from by
    rw [← bigSep_sep']; exact BIBase.Entails.rfl) $$ Hf
  ihave Hg := (show (bigSep Finset.univ fun t : Fin 7 => Φn I c t 1) ⊢ iprop((bigSep Finset.univ fun o : Fin 7 => (atPos ER (cell c (kM 1 o)) 1 ∅ 0 : sProp 𝕄)) ∗ bigSep (Finset.univ : Finset (Fin 7)) fun o => own' c (mM (ma o.val c)) fullShare (am1 I (ma o.val c))) from by
    rw [← bigSep_sep']; exact BIBase.Entails.rfl) $$ Hg
  icases Hf with ⟨HA, Hf⟩
  icases Hg with ⟨HB, Hg⟩
  isplitl [HR Hf Hg]
  · iapply (rows_join I c)
    isplitl [HR Hf]
    · iapply (leaves8 c (mM c) (am1 I c)).2
      isplitl [HR]; · iexact HR
      iexact Hf
    iexact Hg
  isplitl [HA]; · iexact HA
  iexact HB

/-- The load of all the maxima. -/
theorem am_ldall {R : sProp 𝕄} {Q : α → sProp 𝕄} (hc : f = (fun _ => 3) ∧ g = fun _ => 1) {off : Fin 2 → Nat}
    {hin : ∀ a, off a + S8x128.size a ≤ S8x128.size a} (hoff : off = ![0, 0])
    {hl : aM.view.LoadsAt (Rect.unit (s := S8x128) off S8x128.size hin).toLoadRect}
    {k : Vec F S8x128 .f32 → Prog (TpuEff nD τ sig (Elt F) Λ₀ .tc) α}
    (hk : AG I K c R (MXend I c) n o q s r ⊢ WP c (k (AM I)) Q) :
    AG I K c R (MX I c 1 f g) n o q s r ⊢ WP c (.op (.load aM (Rect.unit (s := S8x128) off S8x128.size hin).toLoadRect hl) k) Q := by
  obtain ⟨rfl, rfl⟩ := hc
  subst hoff
  refine load_sub (m := aM) (r := Rect.unit (s := S8x128) ![0, 0] S8x128.size hin) (q := fullShare) (X := AM I) (R := iprop(own' c aM fullShare (AM I) -∗ AG I K c R (MXend I c) n o q s r)) ?_ ?_
  · have h1 : AG I K c R (MX I c 1 (fun _ => 3) (fun _ => 1)) n o q s r ⊢ AG I K c R (MXend I c) n o q s r := by
      unfold AG
      exact sep_mono_right (sep_mono_left MX_done)
    refine h1.trans ?_
    unfold AG MXend
    iintro ⟨H1, ⟨H, H2⟩, H3⟩
    isplitl [H]; · iexact H
    iintro H
    isplitl [H1]; · iexact H1
    isplitl [H H2]
    · isplitl [H]; · iexact H
      iexact H2
    iexact H3
  · have hx : (fun y => AM I ((Rect.unit (s := S8x128) ![0, 0] S8x128.size hin).emb y)) = AM I := by
      funext y
      congr 1
      funext a
      refine Fin.ext ?_
      rw [Rect.emb_apply]
      match a with
      | ⟨0, _⟩ => simp [Rect.unit]
      | ⟨1, _⟩ => simp [Rect.unit]
    rw [hx]
    refine BIBase.Entails.trans ?_ hk
    iintro ⟨H1, H2⟩
    iapply H2
    iexact H1

/-- One of the two positions of a lane at its cells of credits, and the last credit to come to it. -/
def Φc (c : Dev nD) (i : Fin 16) (s : ℕ) : sProp 𝕄 :=
  if s = 0 then iprop(atPos ER (cell c (kR 2 ⟨i.val / 8, by omega⟩ ⟨i.val % 8, by omega⟩)) (3 - i.val / 8) ∅ 0
    ∗ cred (tallyAt (cell c (kR 2 ⟨i.val / 8, by omega⟩ ⟨i.val % 8, by omega⟩)) (3 - i.val / 8) 1))
  else atPos ER (cell c (kR 2 ⟨i.val / 8, by omega⟩ ⟨i.val % 8, by omega⟩)) (3 - i.val / 8 + 1) ∅ 0

/-- The last credits. -/
def CW (c : Dev nD) (w : Fin 16 → ℕ) : sProp 𝕄 := bigSep Finset.univ fun i => Φc (F := F) c i (w i)

theorem CW_eq {M R : sProp 𝕄} {w w' : Fin 16 → ℕ} (h : w = w') {P : sProp 𝕄}
    (hk : AG I K c iprop(CW c w' ∗ R) M n o q s r ⊢ P) : AG I K c iprop(CW c w ∗ R) M n o q s r ⊢ P := by
  subst h; exact hk

theorem cw_dut : ∀ i : Fin 16, dutK (kR 2 ⟨i.val / 8, by omega⟩ ⟨i.val % 8, by omega⟩) (3 - i.val / 8) = {false} := by decide +kernel

/-- The wait for a last credit. -/
theorem cw_wait {R M : sProp 𝕄} {Q : α → sProp 𝕄} {sm : Sem sig} {w : Fin 16 → ℕ} (i : Fin 16)
    (hc : w i = 0 ∧ 2 ≤ n ∧ lev (kR 2 ⟨i.val / 8, by omega⟩ ⟨i.val % 8, by omega⟩) (3 - i.val / 8) ≤ n)
    (hsm : (SemLoc.reg sm : SemLoc sig) = semOf (kR 2 ⟨i.val / 8, by omega⟩ ⟨i.val % 8, by omega⟩)) {v : Int} (hv : v = (1 : ℕ))
    {k : PUnit → Prog (TpuEff nD τ sig (Elt F) Λ₀ .tc) α}
    (hk : AG I K c iprop(CW c (Function.update w i 1) ∗ R) M n o q s r ⊢ WP c (k ⟨⟩) Q) :
    AG I K c iprop(CW c w ∗ R) M n o q s r ⊢ WP c (.op (.semWait sm v) k) Q := by
  subst hv
  obtain ⟨hw, hn, hl⟩ := hc
  refine op_wait I K (kR 2 ⟨i.val / 8, by omega⟩ ⟨i.val % 8, by omega⟩) (3 - i.val / 8) n (cw_dut i) (by omega) hl hn hsm rfl
    (wpE_semWait_eq Variants.none (c : Thread nD τ) none Set.univ)
    (R := iprop((recs I K ∗ ow c n) -∗ atPos ER (cell c (kR 2 ⟨i.val / 8, by omega⟩ ⟨i.val % 8, by omega⟩)) (3 - i.val / 8 + 1) ∅ 0
      -∗ AG I K c iprop(CW c (Function.update w i 1) ∗ R) M n o q s r)) ?_ ?_
  · unfold AG CW
    iintro ⟨HO, H1, H2, H3, H4, H5, H, H6⟩
    ihave H := (fam_upd (Φc (F := F) c) w i) $$ H
    icases H with ⟨H, H'⟩
    rw [hw]
    ihave H := (show Φc (F := F) c i 0 ⊢ iprop(atPos ER (cell c (kR 2 ⟨i.val / 8, by omega⟩ ⟨i.val % 8, by omega⟩)) (3 - i.val / 8) ∅ 0
      ∗ cred (tallyAt (cell c (kR 2 ⟨i.val / 8, by omega⟩ ⟨i.val % 8, by omega⟩)) (3 - i.val / 8) 1)) from BIBase.Entails.rfl) $$ H
    icases H with ⟨HA, HC⟩
    isplitl [HO]; · iexact HO
    isplitl [HC]; · iexact HC
    isplitl [HA]; · iexact HA
    iintro HO H
    isplitl [HO]; · iexact HO
    isplitl [H1]; · iexact H1
    isplitl [H2]; · iexact H2
    isplitl [H3]; · iexact H3
    isplitl [H4]; · iexact H4
    isplitl [H5]; · iexact H5
    isplitl [H H']
    · iapply H'
      iapply (show atPos ER (cell c (kR 2 ⟨i.val / 8, by omega⟩ ⟨i.val % 8, by omega⟩)) (3 - i.val / 8 + 1) ∅ 0 ⊢ Φc (F := F) c i 1 from BIBase.Entails.rfl)
      iexact H
    iexact H6
  · iintro ⟨HO, -, ⟨HA, -⟩, H⟩
    iapply hk
    iapply H $$ HO HA

end Ops

end K
-- ==== Proof.K.ToAG.lean ====
module

public import proofs.«01_k».proof.Proof.K.AM

/-!
# From the lanes to the half chunks
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem bmono {J : Type} (S : Finset J) {Φ Ψ : J → sProp 𝕄} (h : ∀ i ∈ S, Φ i ⊢ Ψ i) : bigSep S Φ ⊢ bigSep S Ψ := bigSep_mono h

theorem reix {A B : Type} [Fintype A] [Fintype B] (f : A → B) (hf : Function.Bijective f) (Φ : B → sProp 𝕄) :
    bigSep Finset.univ Φ = bigSep Finset.univ fun a => Φ (f a) := bigSep_univ_equiv (Equiv.ofBijective f hf) Φ

/-- The hop at which chunk `h` of direction `X` passes device `c`. -/
def inv (X : Fin 2) (h c : Dev nD) : Dev nD := if X = 0 then ch 0 h.val c else ch 0 c.val h

/-- A piece of a lane, by direction, chunk and column group. -/
def pcIx (c : Dev nD) (p : (Fin 2 × Fin 8) × Fin 4) : Fin 8 × Fin 8 := (⟨2 * p.2.val + p.1.1.val, by omega⟩, inv p.1.1 p.1.2 c)
theorem pcIx_inj : ∀ c, Function.Injective (pcIx c) := by
  have h : ∀ c : Fin 8, ∀ p q : (Fin 2 × Fin 8) × Fin 4, pcIx c p = pcIx c q → p = q := by decide +kernel
  exact fun c p q => h c p q
theorem pcIx_bij (c : Dev nD) : Function.Bijective (pcIx c) :=
  (Fintype.bijective_iff_injective_and_card _).mpr ⟨pcIx_inj c, by simp [Fintype.card_prod]⟩
theorem ch_inv : ∀ (X : Fin 2) (g : Fin 4) (h c : Fin 8), ch (lx ⟨2 * g.val + X.val, by omega⟩) (inv X h c).val c = h := by decide +kernel
theorem inv_own : ∀ (X : Fin 2) (c : Fin 8), inv X (hc X 0 c) c = 7 := by decide +kernel

/-- A half chunk by the number of its piece. -/
def tIx (c : Dev nD) (t : Fin 16) : Fin 2 × Fin 8 := (pX t, hp t c)
theorem tIx_inj : ∀ c, Function.Injective (tIx c) := by
  have h : ∀ c : Fin 8, ∀ p q : Fin 16, tIx c p = tIx c q → p = q := by decide +kernel
  exact fun c p q => h c p q
theorem tIx_bij (c : Dev nD) : Function.Bijective (tIx c) :=
  (Fintype.bijective_iff_injective_and_card _).mpr ⟨tIx_inj c, by simp [Fintype.card_prod]⟩

theorem bigSep_range8 (Φ : ℕ → sProp 𝕄) : bigSep (Finset.range 8) Φ = bigSep (Finset.univ : Finset (Fin 8)) fun i => Φ i.val := by
  rw [show Finset.range 8 = (Finset.univ : Finset (Fin 8)).image Fin.val from by decide, bigSep_image_of_injOn (fun x _ y _ h => Fin.ext h)]

/-- The lanes' pieces are the half chunks. -/
theorem halves_of_pieces (Z : ℕ → Vec F S4096x2048 .bf16) (c : Dev nD) :
    (bigSep Finset.univ fun j : Fin 8 => bigSep (Finset.range 8) fun i => own' c (pM (ch (lx j) i c) j) fullShare (pcv (Z i) (ch (lx j) i c) j))
      ⊣⊢ bigSep Finset.univ fun t : Fin 16 => own' c (hM (pX t) (hp t c)) fullShare (fun y => Z (inv (pX t) (hp t c) c).val ((hR (pX t) (hp t c)).emb y)) := by
  have e1 : (bigSep Finset.univ fun j : Fin 8 => bigSep (Finset.range 8) fun i => own' c (pM (ch (lx j) i c) j) fullShare (pcv (Z i) (ch (lx j) i c) j))
      = bigSep Finset.univ fun j : Fin 8 => bigSep Finset.univ fun i : Fin 8 => own' c (pM (ch (lx j) i.val c) j) fullShare (pcv (Z i.val) (ch (lx j) i.val c) j) :=
    bigSep_congr fun j _ => bigSep_range8 _
  have e2 : (bigSep Finset.univ fun j : Fin 8 => bigSep Finset.univ fun i : Fin 8 => own' c (pM (ch (lx j) i.val c) j) fullShare (pcv (Z i.val) (ch (lx j) i.val c) j))
      = bigSep Finset.univ fun p : Fin 2 × Fin 8 => bigSep Finset.univ fun g : Fin 4 => own' c (pM p.2 ⟨2 * g.val + p.1.val, by omega⟩) fullShare (pcv (Z (inv p.1 p.2 c).val) p.2 ⟨2 * g.val + p.1.val, by omega⟩) := by
    rw [← bigSep_univ_prod (fun q : Fin 8 × Fin 8 => own' c (pM (ch (lx q.1) q.2.val c) q.1) fullShare (pcv (Z q.2.val) (ch (lx q.1) q.2.val c) q.1)), reix (pcIx c) (pcIx_bij c), bigSep_univ_prod]
    refine bigSep_congr fun p _ => bigSep_congr fun g _ => ?_
    show own' c (pM (ch (lx ⟨2 * g.val + p.1.val, _⟩) (inv p.1 p.2 c).val c) _) fullShare (pcv (Z (inv p.1 p.2 c).val) (ch (lx ⟨2 * g.val + p.1.val, _⟩) (inv p.1 p.2 c).val c) _) = _
    rw [ch_inv]
    rfl
  have hd (p : Fin 2 × Fin 8) (g g' : Fin 4) (hg : g ≠ g') : Disjoint (pR p.2 ⟨2 * g.val + p.1.val, by omega⟩).set (pR p.2 ⟨2 * g'.val + p.1.val, by omega⟩).set :=
    pR_disj (p.2, ⟨2 * g.val + p.1.val, by omega⟩) (p.2, ⟨2 * g'.val + p.1.val, by omega⟩) (by
      intro h
      apply hg
      have h2 := congrArg Fin.val (Prod.ext_iff.mp h).2
      dsimp only at h2
      exact Fin.ext (by omega))
  have e3 (p : Fin 2 × Fin 8) := slice_rects c aO fullShare (Finset.univ : Finset (Fin 4)) (fun g => pR p.2 ⟨2 * g.val + p.1.val, by omega⟩) (fun _ _ => rfl)
    (hR p.1 p.2) (fun _ => rfl) (hd p) (hR_lanes p.1 p.2) (Z (inv p.1 p.2 c).val)
  have e4 : (bigSep Finset.univ fun p : Fin 2 × Fin 8 => own' c (hM p.1 p.2) fullShare (fun y => Z (inv p.1 p.2 c).val ((hR p.1 p.2).emb y)))
      = bigSep Finset.univ fun t : Fin 16 => own' c (hM (pX t) (hp t c)) fullShare (fun y => Z (inv (pX t) (hp t c) c).val ((hR (pX t) (hp t c)).emb y)) :=
    reix (tIx c) (tIx_bij c) _
  rw [e1, e2, ← e4]
  exact ⟨bigSep_mono fun p _ => (e3 p).2, bigSep_mono fun p _ => (e3 p).1⟩

theorem collapse {J : Type} [DecidableEq J] (S : Finset J) (P : J → Prop) [DecidablePred P] (j0 : J) (h0 : j0 ∈ S) (h : ∀ j ∈ S, P j ↔ j = j0) (Φ : J → sProp 𝕄) :
    (bigSep S fun j => if P j then Φ j else iprop(emp)) = Φ j0 := by
  rw [bigSep_erase h0, if_pos ((h j0 h0).mpr rfl), show (bigSep (S.erase j0) fun j => if P j then Φ j else iprop(emp)) = iprop(emp) from
    (bigSep_congr fun j hj => if_neg fun hp => (Finset.mem_erase.mp hj).1 ((h j (Finset.mem_erase.mp hj).2).mp hp)).trans (bigSep_emp_const _)]
  exact equiv_iff.mp sep_emp

theorem bigSep_swap {A B : Type} [Fintype A] [Fintype B] [DecidableEq A] [DecidableEq B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), reix (Prod.swap : B × A → A × B) Prod.swap_bijective, bigSep_univ_prod]
  rfl

/-- The partner of transfer `e` among the other devices. -/
def eo (e : Fin 14) (c : Dev nD) : Fin 7 := ⟨((xr c (agW e)).val + 7 - c.val) % 8 % 7, Nat.mod_lt _ (by decide)⟩
theorem eo_iff : ∀ (e : Fin 14) (c : Fin 8) (o : Fin 7), xr c (agW e) = am o.val c ↔ o = eo e c := by decide +kernel
theorem am_eo : ∀ (e : Fin 14) (c : Fin 8), am (eo e c).val c = xr c (agW e) := by decide +kernel
theorem am_ch : ∀ (i : Fin 7) (c : Fin 8), ch 0 (i.val + 1) c = am (6 - i.val) c := by decide +kernel

/-- What the others let a device write. -/
def lent (c : Dev nD) : sProp 𝕄 :=
  iprop((bigSep Finset.univ fun o : Fin 7 => any' (F := F) (am o.val c) (mM c))
    ∗ bigSep Finset.univ fun e : Fin 14 => any' (F := F) (xr c (agW e)) (qM (agX e).val (hc (agX e) (agD e) (xr c (agW e)))))

theorem lent_eq (c : Dev nD) : (bigSep (Finset.range 7) fun i => bun (F := F) (ch 0 (i + 1) c) c) = lent c := by
  have hr : Finset.range 7 = (Finset.univ : Finset (Fin 7)).image (fun o => 6 - o.val) := by decide
  rw [hr, bigSep_image_of_injOn (fun (x : Fin 7) _ (y : Fin 7) _ (h : 6 - x.val = 6 - y.val) => Fin.ext (by omega))]
  have hcg : (bigSep (Finset.univ : Finset (Fin 7)) fun o => bun (F := F) (ch 0 (6 - o.val + 1) c) c) = bigSep Finset.univ fun o : Fin 7 => bun (F := F) (am o.val c) c :=
    bigSep_congr fun o _ => by
      have := am_ch ⟨6 - o.val, by omega⟩ c
      dsimp only at this
      rw [this, show 6 - (6 - o.val) = o.val by omega]
  rw [hcg]
  unfold bun lent
  rw [bigSep_sep', bigSep_swap]
  congr 1
  refine bigSep_congr fun e _ => ?_
  rw [collapse Finset.univ (fun o : Fin 7 => xr c (agW e) = am o.val c) (eo e c) (Finset.mem_univ _) (fun o _ => eo_iff e c o), am_eo]

/-- A lane when its chunk is summed. -/
def LnEnd (I : In F) (c : Dev nD) (j : Fin 8) : sProp 𝕄 :=
  iprop((bigSep (Finset.range 8) fun i => own' c (pM (ch (lx j) i c) j) fullShare (pcv (A I i c) (ch (lx j) i c) j))
    ∗ (slotAny (F := F) c 5 j ∗ slotAny (F := F) c 6 j ∗ ps c 1 j 4 3 ∗ ps c 0 j 4 3)
    ∗ (Φc c ⟨j.val, by omega⟩ 0 ∗ Φc c ⟨8 + j.val, by omega⟩ 0)
    ∗ if j = 0 then lent c else iprop(emp))

theorem phic0 (c : Dev nD) (j : Fin 8) : (Φc (F := F) c ⟨j.val, by omega⟩ 0) = iprop(atPos ER (cell c (kR 2 0 j)) 3 ∅ 0 ∗ cred (tallyAt (cell c (kR 2 0 j)) 3 1)) := by
  have h1 : (⟨j.val / 8, by omega⟩ : Fin 2) = 0 := Fin.ext (by show j.val / 8 = 0; omega)
  have h2 : (⟨j.val % 8, by omega⟩ : Fin 8) = j := Fin.ext (by show j.val % 8 = j.val; omega)
  have h3 : 3 - j.val / 8 = 3 := by omega
  unfold Φc; rw [if_pos rfl]; dsimp only; rw [h1, h2, h3]
theorem phic1 (c : Dev nD) (j : Fin 8) : (Φc (F := F) c ⟨8 + j.val, by omega⟩ 0) = iprop(atPos ER (cell c (kR 2 1 j)) 2 ∅ 0 ∗ cred (tallyAt (cell c (kR 2 1 j)) 2 1)) := by
  have h1 : (⟨(8 + j.val) / 8, by omega⟩ : Fin 2) = 1 := Fin.ext (by show (8 + j.val) / 8 = 1; omega)
  have h2 : (⟨(8 + j.val) % 8, by omega⟩ : Fin 8) = j := Fin.ext (by show (8 + j.val) % 8 = j.val; omega)
  have h3 : 3 - (8 + j.val) / 8 = 2 := by omega
  unfold Φc; rw [if_pos rfl]; dsimp only; rw [h1, h2, h3]

theorem fam_two {P : ℕ → Prop} [DecidablePred P] (Φ : ℕ → sProp 𝕄) (h : (Finset.range 8).filter P = {5, 6}) : fam P Φ = iprop(Φ 5 ∗ Φ 6) := by
  unfold fam
  rw [h, bigSep_insert (by decide), bigSep_singleton]; rfl

theorem lane_end (I : In F) (c : Dev nD) (f0 : Vec F S4096x2048 .bf16) (j : Fin 8) : Ln I c f0 8 j ⟨7, 7, 4, 3, 3, 2, 7, 7⟩ ⊢ LnEnd I c j := by
  unfold Ln LnEnd
  have e1 : fam (fun i => (⟨7, 7, 4, 3, 3, 2, 7, 7⟩ : LC).sN ≤ i ∨ i / 2 < (⟨7, 7, 4, 3, 3, 2, 7, 7⟩ : LC).w i) (Φout I c f0 8 (lx j) j 7)
      = bigSep (Finset.range 8) fun i => own' c (pM (ch (lx j) i c) j) fullShare (pcv (A I i c) (ch (lx j) i c) j) := by
    unfold fam
    rw [show (Finset.range 8).filter (fun i => (⟨7, 7, 4, 3, 3, 2, 7, 7⟩ : LC).sN ≤ i ∨ i / 2 < (⟨7, 7, 4, 3, 3, 2, 7, 7⟩ : LC).w i) = Finset.range 8 from by decide]
    refine bigSep_congr fun i hi => ?_
    unfold Φout Zc
    have hi' : i < 8 := Finset.mem_range.mp hi
    rw [if_pos (by omega : i ≤ 7)]
  have e3 := fam_two (P := fun i => 5 ≤ i ∧ i < (⟨7, 7, 4, 3, 3, 2, 7, 7⟩ : LC).g) (fun i => slotAny (F := F) c i j) (by decide)
  have e9 := fam_two (P := fun i => (⟨7, 7, 4, 3, 3, 2, 7, 7⟩ : LC).c i ≤ i / 2 ∧ i < 7) (fun i => (cred (tallyAt (cell c (kR 2 (sl i) j)) (i / 2) 1) : sProp 𝕄)) (by decide)
  have e12 : bunds (F := F) c ⟨7, 7, 4, 3, 3, 2, 7, 7⟩ ⊢ lent c := by
    unfold bunds
    rw [← lent_eq, fam, show (Finset.range 8).filter (fun i => i < (⟨7, 7, 4, 3, 3, 2, 7, 7⟩ : LC).r) = Finset.range 7 from by decide]
    exact sep_elim_left
  rw [e1, e3, e9, phic0, phic1]
  iintro ⟨Ho, -, ⟨H5, H6⟩, -, -, -, -, -, ⟨Hc5, Hc6⟩, -, ⟨Hp1, Hp0, Hp2⟩, Hb⟩
  ihave Hp2 := (show ps (F := F) c 2 j 3 2 ⊢ iprop(atPos ER (cell c (kR 2 0 j)) 3 ∅ 0 ∗ atPos ER (cell c (kR 2 1 j)) 2 ∅ 0) from BIBase.Entails.rfl) $$ Hp2
  icases Hp2 with ⟨Hq0, Hq1⟩
  isplitl [Ho]
  · iexact Ho
  isplitl [H5 H6 Hp1 Hp0]
  · isplitl [H5]
    · iexact H5
    isplitl [H6]
    · iexact H6
    isplitl [Hp1]
    · iexact Hp1
    · iexact Hp0
  isplitl [Hc5 Hc6 Hq0 Hq1]
  · isplitl [Hc6 Hq0]
    · isplitl [Hq0]
      · iexact Hq0
      · iapply (show (cred (tallyAt (cell c (kR 2 (sl 6) j)) (6 / 2) 1) : sProp 𝕄) ⊢ cred (tallyAt (cell c (kR 2 0 j)) 3 1) from BIBase.Entails.rfl)
        iexact Hc6
    · isplitl [Hq1]
      · iexact Hq1
      · iapply (show (cred (tallyAt (cell c (kR 2 (sl 5) j)) (5 / 2) 1) : sProp 𝕄) ⊢ cred (tallyAt (cell c (kR 2 1 j)) 2 1) from BIBase.Entails.rfl)
        iexact Hc5
  · iapply (show iprop(if j = 0 then bunds (F := F) c ⟨7, 7, 4, 3, 3, 2, 7, 7⟩ else emp) ⊢ iprop(if j = 0 then lent c else emp) from by
      split
      · exact e12
      · exact BIBase.Entails.rfl)
    iexact Hb

/-- What waits beside the lanes for the exchanges. -/
def Ext (I : In F) (c : Dev nD) : sProp 𝕄 :=
  iprop(any' (F := F) c (mM c) ∗ (any' (F := F) c (qM 0 (hc 0 0 c)) ∗ any' (F := F) c (qM 1 (hc 1 0 c)))
    ∗ (bigSep Finset.univ fun o : Fin 7 => iprop(atPos ER (cell c (kM 0 o)) 0 ∅ 0 ∗ dutyTok ER (cell c (kM 0 o)) 0 false ∗ dutyTok ER (cell (am o.val c) (kM 1 o)) 0 false))
    ∗ (bigSep Finset.univ fun o : Fin 7 => Φn I c o 0)
    ∗ (bigSep Finset.univ fun e : Fin 14 => iprop(atPos ER (cell c (kG 0 e)) 0 ∅ 0 ∗ dutyTok ER (cell c (kG 0 e)) 0 false ∗ dutyTok ER (cell (xr c (agW e)) (kG 1 e)) 0 false))
    ∗ bigSep Finset.univ fun e : Fin 14 => Φr (F := F) c e 0)

/-- What is left of the lanes. -/
def Left (I : In F) (c : Dev nD) : sProp 𝕄 :=
  iprop((own' c aX fullShare (I.x c) ∗ own' c aW fullShare (I.w c))
    ∗ bigSep Finset.univ fun j : Fin 8 => iprop(slotAny (F := F) c 5 j ∗ slotAny (F := F) c 6 j ∗ ps c 1 j 4 3 ∗ ps c 0 j 4 3))

theorem cw_lanes (c : Dev nD) : (bigSep Finset.univ fun j : Fin 8 => iprop(Φc (F := F) c ⟨j.val, by omega⟩ 0 ∗ Φc c ⟨8 + j.val, by omega⟩ 0))
    = CW c ![0, 0, 0, 0, 0, 0, 0, 0, 0, 0, 0, 0, 0, 0, 0, 0] := by
  unfold CW
  have hz : (![0, 0, 0, 0, 0, 0, 0, 0, 0, 0, 0, 0, 0, 0, 0, 0] : Fin 16 → ℕ) = fun _ => 0 := by decide +kernel
  rw [hz, bigSep_sep', show (Finset.univ : Finset (Fin 16)) = (Finset.univ.image fun j : Fin 8 => (⟨j.val, by omega⟩ : Fin 16)) ∪ (Finset.univ.image fun j : Fin 8 => (⟨8 + j.val, by omega⟩ : Fin 16)) from by decide,
    bigSep_union (by decide), bigSep_image_of_injOn (fun x _ y _ h => Fin.ext (by have := congrArg Fin.val h; dsimp only at this; omega)),
    bigSep_image_of_injOn (fun x _ y _ h => Fin.ext (by have := congrArg Fin.val h; dsimp only at this; omega))]
  rfl

theorem inv_t0 : ∀ c : Fin 8, inv (pX 0) (hp 0 c) c = 7 := by decide +kernel
theorem inv_t1 : ∀ c : Fin 8, inv (pX 1) (hp 1 c) c = 7 := by decide +kernel

theorem out_start (I : In F) (c : Dev nD) (t : Fin 16) :
    own' c (hM (pX t) (hp t c)) fullShare (fun y => A I (inv (pX t) (hp t c) c).val c ((hR (pX t) (hp t c)).emb y))
      ⊢ Φo I c t ((![1, 1, 0, 0, 0, 0, 0, 0, 0, 0, 0, 0, 0, 0, 0, 0] : Fin 16 → ℕ) t) := by
  by_cases h0 : t = 0
  · subst h0
    rw [inv_t0]
    exact Entails.of_eq (congrArg (fun Z => own' c (hM (pX 0) (hp 0 c)) fullShare Z) (A_own I 0 c))
  by_cases h1 : t = 1
  · subst h1
    rw [inv_t1]
    exact Entails.of_eq (congrArg (fun Z => own' c (hM (pX 1) (hp 1 c)) fullShare Z) (A_own I 1 c))
  have hz : ∀ t : Fin 16, t ≠ 0 → t ≠ 1 → (![1, 1, 0, 0, 0, 0, 0, 0, 0, 0, 0, 0, 0, 0, 0, 0] : Fin 16 → ℕ) t = 0 := by decide
  rw [hz t h0 h1]
  unfold Φo
  rw [if_pos rfl]
  exact any_intro _ _ _

theorem q_start (I : In F) (c : Dev nD) : iprop(any' (F := F) c (qM 0 (hc 0 0 c)) ∗ any' (F := F) c (qM 1 (hc 1 0 c)))
    ⊢ bigSep Finset.univ fun t => Φq I c t ((![1, 1, 0, 0, 0, 0, 0, 0, 0, 0, 0, 0, 0, 0, 0, 0] : Fin 16 → ℕ) t) := by
  rw [bigSep_erase (Finset.mem_univ (0 : Fin 16)), bigSep_erase (show (1 : Fin 16) ∈ Finset.univ.erase 0 from by decide),
    show (bigSep ((Finset.univ.erase (0 : Fin 16)).erase 1) fun t => Φq I c t ((![1, 1, 0, 0, 0, 0, 0, 0, 0, 0, 0, 0, 0, 0, 0, 0] : Fin 16 → ℕ) t)) = iprop(emp) from by
      refine (bigSep_congr fun t ht => ?_).trans (bigSep_emp_const _)
      have hz : ∀ t ∈ (Finset.univ.erase (0 : Fin 16)).erase 1, (![1, 1, 0, 0, 0, 0, 0, 0, 0, 0, 0, 0, 0, 0, 0, 0] : Fin 16 → ℕ) t = 0 := by decide
      rw [hz t ht]; unfold Φq; rw [if_pos rfl]; rfl]
  show _ ⊢ iprop(Φq I c 0 1 ∗ Φq I c 1 1 ∗ emp)
  iintro ⟨H0, H1⟩
  isplitl [H0]
  · iapply (show any' (F := F) c (qM 0 (hc 0 0 c)) ⊢ Φq I c 0 1 from BIBase.Entails.rfl); iexact H0
  isplitl [H1]
  · iapply (show any' (F := F) c (qM 1 (hc 1 0 c)) ⊢ Φq I c 1 1 from BIBase.Entails.rfl); iexact H1
  iempintro

theorem mx_start (I : In F) (c : Dev nD) : iprop(any' (F := F) c (mM c) ∗ (bigSep Finset.univ fun o : Fin 7 => any' (F := F) (am o.val c) (mM c))
    ∗ (bigSep Finset.univ fun o : Fin 7 => iprop(atPos ER (cell c (kM 0 o)) 0 ∅ 0 ∗ dutyTok ER (cell c (kM 0 o)) 0 false ∗ dutyTok ER (cell (am o.val c) (kM 1 o)) 0 false))
    ∗ bigSep Finset.univ fun o : Fin 7 => Φn I c o 0) ⊢ MX I c 0 ![0, 0, 0, 0, 0, 0, 0] ![0, 0, 0, 0, 0, 0, 0] := by
  unfold MX
  have hz : (![0, 0, 0, 0, 0, 0, 0] : Fin 7 → ℕ) = fun _ => 0 := by decide
  rw [hz, if_pos rfl]
  show _ ⊢ iprop(any' (F := F) c (mM c) ∗ (bigSep Finset.univ fun o : Fin 7 => Φm I c o 0) ∗ bigSep Finset.univ fun o : Fin 7 => Φn I c o 0)
  iintro ⟨Hm, Hl, Hp, Hn⟩
  isplitl [Hm]
  · iexact Hm
  isplitr [Hn]
  · have h : iprop((bigSep Finset.univ fun o : Fin 7 => any' (F := F) (am o.val c) (mM c))
      ∗ (bigSep Finset.univ fun o : Fin 7 => iprop(atPos ER (cell c (kM 0 o)) 0 ∅ 0 ∗ dutyTok ER (cell c (kM 0 o)) 0 false ∗ dutyTok ER (cell (am o.val c) (kM 1 o)) 0 false)))
      ⊢ bigSep Finset.univ fun o : Fin 7 => Φm I c o 0 := by
      rw [← bigSep_sep']
      refine bmono _ fun o _ => ?_
      unfold Φm
      rw [if_pos (by decide), if_pos rfl]
      iintro ⟨Ha, Hb, Hd⟩
      isplitl [Ha Hb Hd]
      · isplitl [Hb]
        · iexact Hb
        isplitl [Ha]
        · iexact Ha
        · iexact Hd
      · iempintro
    iapply h
    isplitl [Hl]
    · iexact Hl
    · iexact Hp
  · iexact Hn

theorem ge_start (I : In F) (c : Dev nD) : iprop((bigSep Finset.univ fun e : Fin 14 => any' (F := F) (xr c (agW e)) (qM (agX e).val (hc (agX e) (agD e) (xr c (agW e)))))
    ∗ (bigSep Finset.univ fun e : Fin 14 => iprop(atPos ER (cell c (kG 0 e)) 0 ∅ 0 ∗ dutyTok ER (cell c (kG 0 e)) 0 false ∗ dutyTok ER (cell (xr c (agW e)) (kG 1 e)) 0 false)))
    ⊢ bigSep Finset.univ fun e => Φe (F := F) c e ((![0, 0, 0, 0, 0, 0, 0, 0, 0, 0, 0, 0, 0, 0] : Fin 14 → ℕ) e) := by
  have hz : (![0, 0, 0, 0, 0, 0, 0, 0, 0, 0, 0, 0, 0, 0] : Fin 14 → ℕ) = fun _ => 0 := by decide
  rw [hz, ← bigSep_sep']
  refine bmono _ fun e _ => ?_
  unfold Φe
  rw [if_pos rfl]
  iintro ⟨Ha, Hb, Hd⟩
  isplitl [Hb]
  · iexact Hb
  isplitl [Ha]
  · iexact Ha
  · iexact Hd

theorem toAG {I : In F} {K : Dev nD × Kn → ℕ} {c : Dev nD} {f0 : Vec F S4096x2048 .bf16} {R : sProp 𝕄} :
    RS I K c f0 iprop(Ext I c ∗ R) 114 8 ![⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩]
      ⊢ AG I K c iprop(CW c ![0, 0, 0, 0, 0, 0, 0, 0, 0, 0, 0, 0, 0, 0, 0, 0] ∗ Left I c ∗ R) (MX I c 0 ![0, 0, 0, 0, 0, 0, 0] ![0, 0, 0, 0, 0, 0, 0]) 114
        ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] := by
  have hl : (![⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩] : Fin 8 → LC)
      = fun _ => ⟨7, 7, 4, 3, 3, 2, 7, 7⟩ := by decide +kernel
  have hz : (![0, 0, 0, 0, 0, 0, 0, 0, 0, 0, 0, 0, 0, 0] : Fin 14 → ℕ) = fun _ => 0 := by decide
  have hL : (bigSep Finset.univ fun j => Ln I c f0 8 j ⟨7, 7, 4, 3, 3, 2, 7, 7⟩) ⊢ bigSep Finset.univ fun j => LnEnd I c j := bigSep_mono fun j _ => lane_end I c f0 j
  have hS : (bigSep Finset.univ fun j => LnEnd I c j) = iprop((bigSep Finset.univ fun j : Fin 8 => bigSep (Finset.range 8) fun i => own' c (pM (ch (lx j) i c) j) fullShare (pcv (A I i c) (ch (lx j) i c) j))
      ∗ (bigSep Finset.univ fun j : Fin 8 => iprop(slotAny (F := F) c 5 j ∗ slotAny (F := F) c 6 j ∗ ps c 1 j 4 3 ∗ ps c 0 j 4 3))
      ∗ CW c ![0, 0, 0, 0, 0, 0, 0, 0, 0, 0, 0, 0, 0, 0, 0, 0]
      ∗ lent c) := by
    unfold LnEnd
    have hsep (a b x y : Fin 8 → sProp 𝕄) : (bigSep Finset.univ fun j => iprop(a j ∗ b j ∗ x j ∗ y j)) = iprop(bigSep Finset.univ a ∗ bigSep Finset.univ b ∗ bigSep Finset.univ x ∗ bigSep Finset.univ y) := by
      rw [bigSep_sep', bigSep_sep', bigSep_sep']
    rw [hsep (fun j => bigSep (Finset.range 8) fun i => own' c (pM (ch (lx j) i c) j) fullShare (pcv (A I i c) (ch (lx j) i c) j))
      (fun j => iprop(slotAny (F := F) c 5 j ∗ slotAny (F := F) c 6 j ∗ ps c 1 j 4 3 ∗ ps c 0 j 4 3))
      (fun j => iprop(Φc (F := F) c ⟨j.val, by omega⟩ 0 ∗ Φc c ⟨8 + j.val, by omega⟩ 0)) (fun j => iprop(if j = 0 then lent c else emp)), cw_lanes, collapse Finset.univ (fun j : Fin 8 => j = 0) 0 (Finset.mem_univ _) (fun _ _ => Iff.rfl) (fun _ => lent c)]
  unfold RS AG
  rw [hl]
  iintro ⟨Hrec, Hxw, HL, He, HR⟩
  ihave HL := (hL.trans (Entails.of_eq hS)) $$ HL
  icases HL with ⟨Ho, Hk, Hcw, Hlent⟩
  ihave Ho := ((halves_of_pieces (fun i => A I i c) c).1.trans (bigSep_mono fun t _ => out_start I c t)) $$ Ho
  ihave Hlent := (show lent (F := F) c ⊢ iprop((bigSep Finset.univ fun o : Fin 7 => any' (F := F) (am o.val c) (mM c))
    ∗ bigSep Finset.univ fun e : Fin 14 => any' (F := F) (xr c (agW e)) (qM (agX e).val (hc (agX e) (agD e) (xr c (agW e))))) from BIBase.Entails.rfl) $$ Hlent
  icases Hlent with ⟨Hlm, Hlq⟩
  ihave He := (show Ext I c ⊢ iprop(any' (F := F) c (mM c) ∗ (any' (F := F) c (qM 0 (hc 0 0 c)) ∗ any' (F := F) c (qM 1 (hc 1 0 c)))
    ∗ (bigSep Finset.univ fun o : Fin 7 => iprop(atPos ER (cell c (kM 0 o)) 0 ∅ 0 ∗ dutyTok ER (cell c (kM 0 o)) 0 false ∗ dutyTok ER (cell (am o.val c) (kM 1 o)) 0 false))
    ∗ (bigSep Finset.univ fun o : Fin 7 => Φn I c o 0)
    ∗ (bigSep Finset.univ fun e : Fin 14 => iprop(atPos ER (cell c (kG 0 e)) 0 ∅ 0 ∗ dutyTok ER (cell c (kG 0 e)) 0 false ∗ dutyTok ER (cell (xr c (agW e)) (kG 1 e)) 0 false))
    ∗ bigSep Finset.univ fun e : Fin 14 => Φr (F := F) c e 0) from BIBase.Entails.rfl) $$ He
  icases He with ⟨Hm, Hq, Htm, Hn, Htg, Hr⟩
  isplitl [Hrec]
  · iexact Hrec
  isplitl [Hm Hlm Htm Hn]
  · iapply (mx_start I c)
    isplitl [Hm]
    · iexact Hm
    isplitl [Hlm]
    · iexact Hlm
    isplitl [Htm]
    · iexact Htm
    · iexact Hn
  isplitl [Ho]
  · iexact Ho
  isplitl [Hq]
  · iapply (q_start I c)
    iexact Hq
  isplitl [Hlq Htg]
  · iapply (ge_start I c)
    isplitl [Hlq]
    · iexact Hlq
    · iexact Htg
  isplitl [Hr]
  · rw [hz]
    iexact Hr
  isplitl [Hcw]
  · iexact Hcw
  isplitr [HR]
  · iapply (show iprop((own' c aX fullShare (I.x c) ∗ own' c aW fullShare (I.w c))
      ∗ bigSep Finset.univ fun j : Fin 8 => iprop(slotAny (F := F) c 5 j ∗ slotAny (F := F) c 6 j ∗ ps c 1 j 4 3 ∗ ps c 0 j 4 3)) ⊢ Left I c from BIBase.Entails.rfl)
    isplitl [Hxw]
    · iexact Hxw
    · iexact Hk
  · iexact HR

end K
-- ==== Proof.K.Start.lean ====
module

public import proofs.«01_k».proof.Proof.K.ToAG

/-!
# The beginning
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The buffers in pieces -/

theorem squeeze_any (c : Dev nD) (X : ℕ) (s : Fin 2) (g : Fin 4) (V : S1x1x512x256.Idx → Elt F .bf16) :
    own' c (sM' X s g) fullShare V ⊢ any' (F := F) c (sM X s g) := by
  unfold any'
  iintro H
  ihave H' := (show own' c (sM' X s g) fullShare V ⊢ iprop(∃ f, ⌜(sM' X s g).view.read (Elt F) f = V⌝ ∗ (sM' X s g).view.loc (c : Thread nD τ) ↦[(sM' X s g).view.set]{fullShare} f) from .rfl) $$ H
  icases H' with ⟨%f, -, H⟩
  iexists ((sM X s g).view.read (Elt F) f)
  iapply (show iprop(∃ f', ⌜(sM X s g).view.read (Elt F) f' = (sM X s g).view.read (Elt F) f⌝ ∗ (sM X s g).view.loc (c : Thread nD τ) ↦[(sM X s g).view.set]{fullShare} f') ⊢ own' c (sM X s g) fullShare ((sM X s g).view.read (Elt F) f) from .rfl)
  iexists f
  isplitr
  · ipureintro; rfl
  · rw [show (sM X s g).view.set = (sM' X s g).view.set from View.set_reshape _ _]
    iexact H

theorem unsqueeze_any (c : Dev nD) (X : ℕ) (s : Fin 2) (g : Fin 4) : any' (F := F) c (sM X s g) ⊢ any' c (sM' X s g) := by
  unfold any'
  iintro ⟨%V, H⟩
  ihave H' := (show own' c (sM X s g) fullShare V ⊢ iprop(∃ f, ⌜(sM X s g).view.read (Elt F) f = V⌝ ∗ (sM X s g).view.loc (c : Thread nD τ) ↦[(sM X s g).view.set]{fullShare} f) from .rfl) $$ H
  icases H' with ⟨%f, -, H⟩
  iexists ((sM' X s g).view.read (Elt F) f)
  iapply (show iprop(∃ f', ⌜(sM' X s g).view.read (Elt F) f' = (sM' X s g).view.read (Elt F) f⌝ ∗ (sM' X s g).view.loc (c : Thread nD τ) ↦[(sM' X s g).view.set]{fullShare} f') ⊢ own' c (sM' X s g) fullShare ((sM' X s g).view.read (Elt F) f) from .rfl)
  iexists f
  isplitr
  · ipureintro; rfl
  · rw [show (sM X s g).view.set = (sM' X s g).view.set from View.set_reshape _ _]
    iexact H

theorem any_elim (c : Dev nD) {sp : Space} {s : Shape} {e : EltTy} (m : Memref sig .tc sp s e) {P : sProp 𝕄}
    (h : ∀ X, own' c m fullShare X ⊢ P) : any' (F := F) c m ⊢ P := BI.Laws.exists_elim fun X => h X

theorem comm_split (c : Dev nD) (X : ℕ) : any' (F := F) c (aC X) ⊢ bigSep Finset.univ fun p : Fin 2 × Fin 4 => any' c (sM X p.1 p.2) :=
  any_elim c _ fun V => (owns_rects (c : Thread nD τ) (aC X) fullShare (fun p : Fin 2 × Fin 4 => sR p.1 p.2) (fun _ _ => rfl) sR_disj sR_cov V).trans
    (bigSep_mono fun p _ => squeeze_any c X p.1 p.2 _)

theorem rows_split (c : Dev nD) : any' (F := F) c aM ⊢ bigSep Finset.univ fun q : Fin 8 => any' c (mM q) :=
  any_elim c _ fun V => (owns_rects (c : Thread nD τ) aM fullShare mR (fun _ _ => rfl) mR_disj mR_cov V).trans
    (bigSep_mono fun q _ => any_intro c (mM q) _)

theorem quant_split (c : Dev nD) (X : ℕ) : any' (F := F) c (aQ X) ⊢ bigSep Finset.univ fun q : Fin 8 => any' c (qM X q) :=
  any_elim c _ fun V => (owns_rects (c : Thread nD τ) (aQ X) fullShare qR (fun _ _ => rfl) qR_disj qR_cov V).trans
    (bigSep_mono fun q _ => any_intro c (qM X q) _)

/-! ## What is lent -/

theorem am_erase (c : Dev nD) : Finset.univ.erase c = (Finset.univ : Finset (Fin 7)).image fun o => am o.val c := by revert c; decide +kernel
theorem am_inj (c : Dev nD) : ∀ x y : Fin 7, am x.val c = am y.val c → x = y := by revert c; decide +kernel
theorem t_erase : (Finset.univ.erase (0 : Fin 16)).erase 1 = (Finset.univ : Finset (Fin 14)).image dP := by decide +kernel
theorem dP_inj : ∀ x y : Fin 14, dP x = dP y → x = y := by decide +kernel
theorem hp_dP : ∀ (e : Fin 14) (c : Fin 8), pX (dP e) = agX e ∧ hp (dP e) c = hc (agX e) (agD e) c := by decide +kernel
theorem ch_am : ∀ (o : Fin 7) (c : Fin 8), ch 1 (o.val + 1) (ch 0 0 c) = am o.val c := by decide +kernel
theorem am_xr : ∀ (e : Fin 14) (c : Fin 8) (o : Fin 7), xr (am o.val c) (agW e) = c ↔ o = eo e c := by decide +kernel
theorem ch0 : ∀ (X : Fin 2) (c : Fin 8), ch X.val 0 c = c := by decide +kernel

theorem fwd_make (c : Dev nD) : iprop((bigSep Finset.univ fun o : Fin 7 => any' (F := F) c (mM (am o.val c)))
    ∗ bigSep Finset.univ fun e : Fin 14 => any' (F := F) c (qM (agX e).val (hc (agX e) (agD e) c))) ⊢ fwd c 0 := by
  have hr : Finset.Ico (0 + 1) 8 = (Finset.univ : Finset (Fin 7)).image (fun o => o.val + 1) := by decide
  have e1 : fwd (F := F) c 0 = bigSep Finset.univ fun o : Fin 7 => bun (F := F) c (am o.val c) := by
    unfold fwd
    rw [hr, bigSep_image_of_injOn (fun (x : Fin 7) _ (y : Fin 7) _ (h : x.val + 1 = y.val + 1) => Fin.ext (by omega))]
    refine bigSep_congr fun o _ => ?_
    rw [ch_am, show ch 0 0 c = c from ch0 0 c]
  rw [e1]
  unfold bun
  rw [bigSep_sep', bigSep_swap]
  refine sep_mono_right (Entails.of_eq (bigSep_congr fun e _ => ?_))
  rw [collapse Finset.univ (fun o : Fin 7 => xr (am o.val c) (agW e) = c) (eo e c) (Finset.mem_univ _) (fun o _ => am_xr e c o)]

theorem quant_make (c : Dev nD) : iprop(any' (F := F) c (aQ 0) ∗ any' (F := F) c (aQ 1)) ⊢ iprop((any' (F := F) c (qM 0 (hc 0 0 c)) ∗ any' c (qM 1 (hc 1 0 c)))
    ∗ bigSep Finset.univ fun e : Fin 14 => any' (F := F) c (qM (agX e).val (hc (agX e) (agD e) c))) := by
  have e1 : iprop((bigSep Finset.univ fun q : Fin 8 => any' (F := F) c (qM 0 q)) ∗ (bigSep Finset.univ fun q : Fin 8 => any' (F := F) c (qM 1 q)))
      = bigSep Finset.univ fun X : Fin 2 => bigSep Finset.univ fun q : Fin 8 => any' (F := F) c (qM X.val q) := by rw [bigSep_fin_two]; rfl
  have e2 : (bigSep Finset.univ fun X : Fin 2 => bigSep Finset.univ fun q : Fin 8 => any' (F := F) c (qM X.val q))
      = iprop((any' (F := F) c (qM 0 (hc 0 0 c)) ∗ any' c (qM 1 (hc 1 0 c))) ∗ bigSep Finset.univ fun e : Fin 14 => any' (F := F) c (qM (agX e).val (hc (agX e) (agD e) c))) := by
    rw [← bigSep_univ_prod (fun p : Fin 2 × Fin 8 => any' (F := F) c (qM p.1.val p.2)), reix (tIx c) (tIx_bij c), bigSep_erase (Finset.mem_univ (0 : Fin 16)),
      bigSep_erase (show (1 : Fin 16) ∈ Finset.univ.erase 0 from by decide), t_erase, bigSep_image_of_injOn (fun x _ y _ h => dP_inj x y h)]
    have e3 : (bigSep Finset.univ fun e : Fin 14 => any' (F := F) c (qM (tIx c (dP e)).1.val (tIx c (dP e)).2))
        = bigSep Finset.univ fun e : Fin 14 => any' (F := F) c (qM (agX e).val (hc (agX e) (agD e) c)) := bigSep_congr fun e _ => by
      show any' (F := F) c (qM (pX (dP e)).val (hp (dP e) c)) = _
      rw [(hp_dP e c).1, (hp_dP e c).2]
    rw [e3]
    have e4 (a b d : sProp 𝕄) : iprop(a ∗ b ∗ d) = iprop((a ∗ b) ∗ d) := BI.Entails.antisymm
      (show iprop(a ∗ b ∗ d) ⊢ iprop((a ∗ b) ∗ d) from Laws.sep_assoc.2) (show iprop((a ∗ b) ∗ d) ⊢ iprop(a ∗ b ∗ d) from Laws.sep_assoc.1)
    exact e4 (any' (F := F) c (qM 0 (hc 0 0 c))) (any' (F := F) c (qM 1 (hc 1 0 c))) _
  exact (BIClass.sep_mono (quant_split c 0) (quant_split c 1)).trans (Entails.of_eq (e1.trans e2))

theorem rows_make (c : Dev nD) : any' (F := F) c aM ⊢ iprop(any' (F := F) c (mM c) ∗ bigSep Finset.univ fun o : Fin 7 => any' (F := F) c (mM (am o.val c))) := by
  refine (rows_split c).trans (Entails.of_eq ?_)
  rw [bigSep_univ_at _ c, am_erase, bigSep_image_of_injOn (fun x _ y _ h => am_inj c x y h)]

/-! ## The peers' slots by lane -/

/-- Direction, slot and column group of a lane's slot. -/
def slIx (p : Fin 8 × Fin 2) : Fin 2 × (Fin 2 × Fin 4) := (⟨lx p.1, Nat.mod_lt _ (by decide)⟩, p.2, gF p.1)
theorem slIx_bij : Function.Bijective slIx := by
  have h : Function.Injective slIx := by
    have h : ∀ p q : Fin 8 × Fin 2, slIx p = slIx q → p = q := by decide +kernel
    exact fun p q => h p q
  exact (Fintype.bijective_iff_injective_and_card _).mpr ⟨h, by simp [Fintype.card_prod]⟩

theorem peers_make (I : In F) (c : Dev nD) : iprop(payK I c kB 0 false ∗ payK I c kB 0 true)
    ⊢ bigSep Finset.univ fun j : Fin 8 => iprop(slotAny (F := F) (tgt (lx j) c) 0 j ∗ slotAny (tgt (lx j) c) 1 j) := by
  have e1 : iprop(payK I c kB 0 false ∗ payK I c kB 0 true)
      = bigSep Finset.univ fun X : Fin 2 => bigSep Finset.univ fun p : Fin 2 × Fin 4 => any' (F := F) (tgt X.val c) (sM X.val p.1 p.2) := by
    rw [bigSep_fin_two]; rfl
  rw [e1, ← bigSep_univ_prod (fun q : Fin 2 × (Fin 2 × Fin 4) => any' (F := F) (tgt q.1.val c) (sM q.1.val q.2.1 q.2.2)), reix slIx slIx_bij, bigSep_univ_prod]
  refine bmono _ fun j _ => ?_
  rw [bigSep_fin_two]
  exact BIBase.Entails.rfl

/-! ## The lanes -/

/-- The tokens and credits of a lane. -/
def LR (c : Dev nD) (j : Fin 8) : sProp 𝕄 :=
  iprop((bigSep Finset.univ fun h : Fin 7 => dutyTok ER (cell (tgt (lx j) c) (kR 1 (sl h.val) j)) (h.val / 2) false)
    ∗ (bigSep Finset.univ fun h : Fin 7 => dutyTok ER (cell c (kR 0 (sl h.val) j)) (h.val / 2) false)
    ∗ (bigSep Finset.univ fun h : Fin 7 => dutyTok ER (cell (up (lx j) c) (kR 2 (sl h.val) j)) (h.val / 2) false)
    ∗ (bigSep Finset.univ fun h : Fin 7 => cred (tallyAt (cell c (kR 1 (sl h.val) j)) (h.val / 2) nR))
    ∗ (bigSep Finset.univ fun h : Fin 7 => cred (tallyAt (cell c (kR 2 (sl h.val) j)) (h.val / 2) 1))
    ∗ (ps c 1 j 0 0 ∗ ps c 0 j 0 0 ∗ ps c 2 j 0 0))

theorem fam7 {P : ℕ → Prop} [DecidablePred P] (Φ : ℕ → sProp 𝕄) (h : (Finset.range 8).filter P = Finset.range 7) :
    fam P Φ = bigSep Finset.univ fun i : Fin 7 => Φ i.val := by
  unfold fam
  rw [h, show Finset.range 7 = (Finset.univ : Finset (Fin 7)).image Fin.val from by decide, bigSep_image_of_injOn (fun x _ y _ h => Fin.ext h)]

theorem fam01 {P : ℕ → Prop} [DecidablePred P] (Φ : ℕ → sProp 𝕄) (h : (Finset.range 8).filter P = {0, 1}) : fam P Φ = iprop(Φ 0 ∗ Φ 1) := by
  unfold fam
  rw [h, bigSep_insert (by decide), bigSep_singleton]; rfl

theorem lane_start (I : In F) (K : Dev nD × Kn → ℕ) (c : Dev nD) (f0 : Vec F S4096x2048 .bf16) (j : Fin 8) :
    iprop((bigSep (Finset.range 8) fun i => own' c (pM (ch (lx j) i c) j) fullShare (pcv (Zc I c f0 1 (lx j) 0 i) (ch (lx j) i c) j))
      ∗ recs I K ∗ (slotAny (F := F) (tgt (lx j) c) 0 j ∗ slotAny (tgt (lx j) c) 1 j) ∗ LR c j ∗ if j = 0 then fwd c 0 else emp)
      ⊢ Ln I c f0 1 j ⟨0, 0, 0, 0, 0, 0, 0, 0⟩ := by
  unfold Ln LR
  have e1 : fam (fun i => (⟨0, 0, 0, 0, 0, 0, 0, 0⟩ : LC).sN ≤ i ∨ i / 2 < (⟨0, 0, 0, 0, 0, 0, 0, 0⟩ : LC).w i) (Φout I c f0 1 (lx j) j 0)
      = bigSep (Finset.range 8) fun i => own' c (pM (ch (lx j) i c) j) fullShare (pcv (Zc I c f0 1 (lx j) 0 i) (ch (lx j) i c) j) := by
    unfold fam
    rw [show (Finset.range 8).filter (fun i => (⟨0, 0, 0, 0, 0, 0, 0, 0⟩ : LC).sN ≤ i ∨ i / 2 < (⟨0, 0, 0, 0, 0, 0, 0, 0⟩ : LC).w i) = Finset.range 8 from by decide]
  have e2 := fam_none (P := fun i => (⟨0, 0, 0, 0, 0, 0, 0, 0⟩ : LC).g ≤ i ∧ i < (⟨0, 0, 0, 0, 0, 0, 0, 0⟩ : LC).r) (by decide) (Φslot I c j)
  have e3 := fam_none (P := fun i => 5 ≤ i ∧ i < (⟨0, 0, 0, 0, 0, 0, 0, 0⟩ : LC).g) (by decide) (fun i => slotAny (F := F) c i j)
  have e4 := fam01 (P := fun i => (⟨0, 0, 0, 0, 0, 0, 0, 0⟩ : LC).sN ≤ i ∧ i < 7 ∧ i / 2 ≤ (⟨0, 0, 0, 0, 0, 0, 0, 0⟩ : LC).c i) (Φpeer (F := F) c j) (by decide)
  have e5 := fam01 (P := fun i => (⟨0, 0, 0, 0, 0, 0, 0, 0⟩ : LC).sN ≤ i ∧ i < 7 ∧ i / 2 ≤ (⟨0, 0, 0, 0, 0, 0, 0, 0⟩ : LC).w i)
    (fun i => (reached ER (cell c (kR 0 (sl i) j)) (i / 2) : sProp 𝕄)) (by decide)
  have e6 := fam7 (P := fun i => (⟨0, 0, 0, 0, 0, 0, 0, 0⟩ : LC).sN ≤ i ∧ i < 7) (Φtok (F := F) c j) (by decide)
  have e7 := fam7 (P := fun i => (⟨0, 0, 0, 0, 0, 0, 0, 0⟩ : LC).g ≤ i ∧ i < 7) (fun i => (dutyTok ER (cell (up (lx j) c) (kR 2 (sl i) j)) (i / 2) false : sProp 𝕄)) (by decide)
  have e8 := fam7 (P := fun i => (⟨0, 0, 0, 0, 0, 0, 0, 0⟩ : LC).r ≤ i ∧ i < 7) (fun i => (cred (tallyAt (cell c (kR 1 (sl i) j)) (i / 2) nR) : sProp 𝕄)) (by decide)
  have e9 := fam7 (P := fun i => (⟨0, 0, 0, 0, 0, 0, 0, 0⟩ : LC).c i ≤ i / 2 ∧ i < 7) (fun i => (cred (tallyAt (cell c (kR 2 (sl i) j)) (i / 2) 1) : sProp 𝕄)) (by decide)
  have e10 := fam_none (P := fun i => i < (⟨0, 0, 0, 0, 0, 0, 0, 0⟩ : LC).sN ∧ (⟨0, 0, 0, 0, 0, 0, 0, 0⟩ : LC).w i ≤ i / 2) (by decide) (fun i => (cred (tallyAt (cell c (kR 0 (sl i) j)) (i / 2) nR) : sProp 𝕄))
  have e12 : bunds (F := F) c ⟨0, 0, 0, 0, 0, 0, 0, 0⟩ = iprop(emp ∗ fwd c 0) := by
    unfold bunds
    rw [fam_none (by decide)]
    unfold fam
    rw [show (Finset.range 8).filter (fun i => (⟨0, 0, 0, 0, 0, 0, 0, 0⟩ : LC).sN ≤ i ∧ i ≤ (⟨0, 0, 0, 0, 0, 0, 0, 0⟩ : LC).r) = {0} from by decide, bigSep_singleton]
  have hb : iprop(if j = 0 then fwd (F := F) c 0 else emp) ⊢ iprop(if j = 0 then bunds (F := F) c ⟨0, 0, 0, 0, 0, 0, 0, 0⟩ else emp) := by
    split
    · rw [e12]; exact BIClass.emp_sep.2
    · exact BIBase.Entails.rfl
  have ht : iprop((bigSep Finset.univ fun h : Fin 7 => dutyTok ER (cell (tgt (lx j) c) (kR 1 (sl h.val) j)) (h.val / 2) false)
      ∗ (bigSep Finset.univ fun h : Fin 7 => dutyTok ER (cell c (kR 0 (sl h.val) j)) (h.val / 2) false)) ⊢ (bigSep Finset.univ fun h : Fin 7 => Φtok (F := F) c j h.val) := by
    rw [← bigSep_sep']
  rw [e1, e2, e3, e4, e5, e6, e7, e8, e9, e10]
  iintro ⟨Ho, #Hrec, ⟨Hs0, Hs1⟩, ⟨Ht1, Ht0, Ht2, Hc1, Hc2, Hps⟩, Hb⟩
  isplitl [Ho]
  · iexact Ho
  isplitr
  · iempintro
  isplitr
  · iempintro
  isplitl [Hs0 Hs1]
  · isplitl [Hs0]
    · isplitl [Hs0]
      · iexact Hs0
      isplitr
      · iapply (recs_r0 I K (tgt (lx j) c) (kR 1 (sl 0) j)); iexact Hrec
      · iapply (recs_r0 I K c (kR 2 (sl 0) j)); iexact Hrec
    · isplitl [Hs1]
      · iexact Hs1
      isplitr
      · iapply (recs_r0 I K (tgt (lx j) c) (kR 1 (sl 1) j)); iexact Hrec
      · iapply (recs_r0 I K c (kR 2 (sl 1) j)); iexact Hrec
  isplitr
  · isplitr
    · iapply (recs_r0 I K c (kR 0 (sl 0) j)); iexact Hrec
    · iapply (recs_r0 I K c (kR 0 (sl 1) j)); iexact Hrec
  isplitl [Ht1 Ht0]
  · iapply ht
    isplitl [Ht1]
    · iexact Ht1
    · iexact Ht0
  isplitl [Ht2]
  · iexact Ht2
  isplitl [Hc1]
  · iexact Hc1
  isplitl [Hc2]
  · iexact Hc2
  isplitr
  · iempintro
  isplitl [Hps]
  · iexact Hps
  · iapply hb
    iexact Hb

/-- The output in the lanes' pieces, the device's own row chunk at its local product. -/
theorem out_split (I : In F) (c : Dev nD) (Z : Vec F S4096x2048 .bf16) (hZ : (fun y => Z ((oR' c).emb y)) = fun y => G I c ((oR' c).emb y)) :
    own' c aO fullShare Z ⊢ bigSep Finset.univ fun j : Fin 8 => bigSep (Finset.range 8) fun i => own' c (pM (ch (lx j) i c) j) fullShare (pcv (Zc I c Z 1 (lx j) 0 i) (ch (lx j) i c) j) := by
  have h1 : own' c aO fullShare Z ⊢ bigSep Finset.univ fun p : Fin 2 × Fin 8 => own' c (hM p.1 p.2) fullShare (fun y => Z ((hR p.1 p.2).emb y)) :=
    owns_rects (c : Thread nD τ) aO fullShare (fun p : Fin 2 × Fin 8 => hR p.1 p.2) (fun _ _ => rfl) hR_disj hR_cov Z
  have h2 : (bigSep Finset.univ fun p : Fin 2 × Fin 8 => own' c (hM p.1 p.2) fullShare (fun y => Z ((hR p.1 p.2).emb y)))
      = bigSep Finset.univ fun t : Fin 16 => own' c (hM (pX t) (hp t c)) fullShare (fun y => Z ((hR (pX t) (hp t c)).emb y)) := reix (tIx c) (tIx_bij c) _
  refine h1.trans ((Entails.of_eq h2).trans ((halves_of_pieces (fun _ => Z) c).2.trans (bmono _ fun j _ => bmono _ fun i hi => ?_)))
  refine Entails.of_eq (congrArg (fun V => own' c (pM (ch (lx j) i c) j) fullShare V) ?_)
  have hi' : i < 8 := Finset.mem_range.mp hi
  funext y
  unfold pcv Zc
  by_cases h0 : i = 0
  · subst h0
    rw [if_pos (Nat.le_refl _)]
    have hc0 : ch (lx j) 0 c = c := ch0 ⟨lx j, Nat.mod_lt _ (by decide)⟩ c
    have hm : (pR (ch (lx j) 0 c) j).emb y ∈ (oR' c).set := by
      rw [hc0, oR_lanes c, Finset.mem_biUnion]
      exact ⟨j, Finset.mem_univ _, by rw [← Rect.map_emb_univ]; exact Finset.mem_map.mpr ⟨y, Finset.mem_univ _, rfl⟩⟩
    rw [← Rect.map_emb_univ, Finset.mem_map] at hm
    obtain ⟨z, -, hz⟩ := hm
    rw [← hz]
    exact congrFun hZ z
  · rw [if_neg (by omega), if_neg]
    have hn : ∀ (X : Fin 2) (i : Fin 8), i ≠ 0 → ¬ need X.val i.val ≤ 1 := by decide +kernel
    exact hn ⟨lx j, Nat.mod_lt _ (by decide)⟩ ⟨i, hi'⟩ (fun h => h0 (congrArg Fin.val h))

/-- The tokens and credits of the exchanges. -/
def ExtT (I : In F) (c : Dev nD) : sProp 𝕄 :=
  iprop((bigSep Finset.univ fun o : Fin 7 => iprop(atPos ER (cell c (kM 0 o)) 0 ∅ 0 ∗ dutyTok ER (cell c (kM 0 o)) 0 false ∗ dutyTok ER (cell (am o.val c) (kM 1 o)) 0 false))
    ∗ (bigSep Finset.univ fun o : Fin 7 => Φn I c o 0)
    ∗ (bigSep Finset.univ fun e : Fin 14 => iprop(atPos ER (cell c (kG 0 e)) 0 ∅ 0 ∗ dutyTok ER (cell c (kG 0 e)) 0 false ∗ dutyTok ER (cell (xr c (agW e)) (kG 1 e)) 0 false))
    ∗ bigSep Finset.univ fun e : Fin 14 => Φr (F := F) c e 0)

/-- What a device starts the two exchanges with beside its argument buffers. -/
def Beside (I : In F) (c : Dev nD) : sProp 𝕄 :=
  iprop((any' (F := F) c (aQ 0) ∗ any' (F := F) c (aQ 1)) ∗ any' (F := F) c aM ∗ (bigSep Finset.univ fun j : Fin 8 => LR (F := F) c j) ∗ ExtT I c)

theorem toRS (I : In F) (K : Dev nD × Kn → ℕ) (c : Dev nD) (Z : Vec F S4096x2048 .bf16) (hZ : (fun y => Z ((oR' c).emb y)) = fun y => G I c ((oR' c).emb y)) {R : sProp 𝕄} :
    iprop((recs I K ∗ ow c 2) ∗ (payK I c kB 0 false ∗ payK I c kB 0 true) ∗ (own' c aX fullShare (I.x c) ∗ own' c aW fullShare (I.w c)) ∗ own' c aO fullShare Z ∗ Beside I c ∗ R)
      ⊢ RS I K c Z iprop(Ext I c ∗ R) 2 1 ![⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩] := by
  have hl : (![⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩] : Fin 8 → LC)
      = fun _ => ⟨0, 0, 0, 0, 0, 0, 0, 0⟩ := by decide +kernel
  have hsep (a b x y z : Fin 8 → sProp 𝕄) : iprop(bigSep Finset.univ a ∗ bigSep Finset.univ b ∗ bigSep Finset.univ x ∗ bigSep Finset.univ y ∗ bigSep Finset.univ z)
      = bigSep Finset.univ fun j => iprop(a j ∗ b j ∗ x j ∗ y j ∗ z j) := by
    rw [bigSep_sep', bigSep_sep', bigSep_sep', bigSep_sep']
  have hL := (Entails.of_eq (hsep (fun j => bigSep (Finset.range 8) fun i => own' c (pM (ch (lx j) i c) j) fullShare (pcv (Zc I c Z 1 (lx j) 0 i) (ch (lx j) i c) j))
    (fun _ => recs I K) (fun j => iprop(slotAny (F := F) (tgt (lx j) c) 0 j ∗ slotAny (tgt (lx j) c) 1 j)) (fun j => LR (F := F) c j) (fun j => iprop(if j = 0 then fwd (F := F) c 0 else emp)))).trans
    (bmono _ fun j _ => lane_start I K c Z j)
  have hf : fwd (F := F) c 0 ⊢ bigSep Finset.univ fun j : Fin 8 => iprop(if j = 0 then fwd (F := F) c 0 else emp) :=
    Entails.of_eq (collapse Finset.univ (fun j : Fin 8 => j = 0) 0 (Finset.mem_univ _) (fun _ _ => Iff.rfl) (fun _ => fwd (F := F) c 0)).symm
  unfold RS Beside
  rw [hl]
  iintro ⟨⟨#Hrec, HO⟩, Hp, Hxw, Ho, ⟨Hq, Hm, HLR, HE⟩, HR⟩
  ihave Hq := (quant_make c) $$ Hq
  ihave Hm := (rows_make c) $$ Hm
  icases Hq with ⟨Hq, Hqe⟩
  icases Hm with ⟨Hm, Hmo⟩
  isplitl [HO]
  · isplitr
    · iexact Hrec
    · iexact HO
  isplitl [Hxw]
  · iexact Hxw
  isplitl [Hp Ho HLR Hqe Hmo]
  · iapply hL
    isplitl [Ho]
    · iapply (out_split I c Z hZ); iexact Ho
    isplitr
    · iapply (BI.bigSep_of_persistent (Finset.univ : Finset (Fin 8)) (recs I K)); iexact Hrec
    isplitl [Hp]
    · iapply (peers_make I c); iexact Hp
    isplitl [HLR]
    · iexact HLR
    · iapply hf
      iapply (fwd_make c)
      isplitl [Hmo]
      · iexact Hmo
      · iexact Hqe
  isplitr [HR]
  · iapply (show iprop(any' (F := F) c (mM c) ∗ (any' (F := F) c (qM 0 (hc 0 0 c)) ∗ any' (F := F) c (qM 1 (hc 1 0 c))) ∗ ExtT I c) ⊢ Ext I c from BIBase.Entails.rfl)
    isplitl [Hm]
    · iexact Hm
    isplitl [Hq]
    · iexact Hq
    · iexact HE
  · iexact HR

section Parts

variable {I : In F} {K : Dev nD × Kn → ℕ} {c : Dev nD} {f0 : Vec F S4096x2048 .bf16}

/-- What a device starts with. -/
def Init (I : In F) (K : Dev nD × Kn → ℕ) (c : Dev nD) (f0 : Vec F S4096x2048 .bf16) : sProp 𝕄 :=
  iprop((recs I K ∗ ow c 0) ∗ (any' (F := F) c (aC 0) ∗ any' (F := F) c (aC 1))
    ∗ (dutyTok ER (cell (up 0 c) kB) 0 false ∗ dutyTok ER (cell (up 1 c) kB) 0 true) ∗ (cred (tallyAt (cell c kB) 0 2) ∗ atPos ER (cell c kB) 0 ∅ 0)
    ∗ (own' c aX fullShare (I.x c) ∗ own' c aW fullShare (I.w c)) ∗ own' c aO fullShare f0 ∗ Beside I c)

/-- What a device holds after the barrier. -/
def Mid (I : In F) (K : Dev nD × Kn → ℕ) (c : Dev nD) (f0 : Vec F S4096x2048 .bf16) (R : sProp 𝕄) : sProp 𝕄 :=
  iprop((recs I K ∗ ow c 2) ∗ (payK I c kB 0 false ∗ payK I c kB 0 true) ∗ (own' c aX fullShare (I.x c) ∗ own' c aW fullShare (I.w c))
    ∗ own' c aO fullShare f0 ∗ Beside I c ∗ atPos ER (cell c kB) 1 ∅ 0 ∗ R)

theorem pay_bar (I : In F) (c : Dev nD) (X : Fin 2) (d : Bool) (hd : (if d then 1 else 0) = X.val) : any' (F := F) c (aC X.val) ⊢ payK I (up X.val c) kB 0 d := by
  refine (comm_split c X.val).trans ?_
  unfold payK
  dsimp only
  rw [hd, tgt_up]

theorem wp_dev {α : Type} {P : sProp 𝕄} {Q : α → sProp 𝕄} {k : Dev nD → Prog (TpuEff nD τ sig (Elt F) Λ₀ .tc) α} (h : P ⊢ WP c (k c) Q) :
    P ⊢ WP c (.op .deviceId k) Q := by
  unfold WP at h ⊢
  rw [wp_deviceId]
  exact h

theorem part1 {R : sProp 𝕄} {Q : (Σ' (d0 : Dev nD) (v2 : BitVec 32) (v13 : BitVec 32) (v24 : BitVec 32), BitVec 32) → sProp 𝕄}
    (hQ : ∀ u0 u1 u2 u3 : BitVec 32, Mid I K c f0 R ⊢ Q ⟨c, u0, u1, u2, u3⟩) :
    iprop(Init I K c f0 ∗ R) ⊢ WP c (k0_part1 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16) Q := by
  rw [k0_part1_eq_skeleton]
  unfold k0_part1_skel
  refine wp_dev (α := (Σ' (d0 : Dev nD) (v2 : BitVec 32) (v13 : BitVec 32) (v24 : BitVec 32), BitVec 32)) ?_
  refine op_signal (I := I) (K := K) (oB 0) 0 rfl rfl (dv1 c) rfl rfl (S := _)
    (R := iprop(any' (F := F) c (aC 1) ∗ dutyTok ER (cell (up 1 c) kB) 0 true ∗ (cred (tallyAt (cell c kB) 0 2) ∗ atPos ER (cell c kB) 0 ∅ 0)
      ∗ (own' c aX fullShare (I.x c) ∗ own' c aW fullShare (I.w c)) ∗ own' c aO fullShare f0 ∗ Beside I c ∗ R)) ?_ ?_
  · unfold Init
    iintro ⟨⟨⟨#Hrec, HO⟩, ⟨H0, H1⟩, ⟨Ht0, Ht1⟩, Hb, Hxw, Ho, HB⟩, HR⟩
    isplitl [HO]
    · isplitr
      · iexact Hrec
      · iexact HO
    isplitl [H0]
    · iapply (pay_bar I c 0 false rfl); iexact H0
    isplitl [Ht0]
    · isplitl [Ht0]
      · iexact Ht0
      · iapply (recs_r0 I K (up 0 c) kB); iexact Hrec
    isplitl [H1]
    · iexact H1
    isplitl [Ht1]
    · iexact Ht1
    isplitl [Hb]
    · iexact Hb
    isplitl [Hxw]
    · iexact Hxw
    isplitl [Ho]
    · iexact Ho
    isplitl [HB]
    · iexact HB
    · iexact HR
  refine op_signal (I := I) (K := K) (oB 1) 1 rfl rfl (dv2 c) rfl rfl (S := _)
    (R := iprop((cred (tallyAt (cell c kB) 0 2) ∗ atPos ER (cell c kB) 0 ∅ 0)
      ∗ (own' c aX fullShare (I.x c) ∗ own' c aW fullShare (I.w c)) ∗ own' c aO fullShare f0 ∗ Beside I c ∗ R)) ?_ ?_
  · iintro ⟨⟨#Hrec, HO⟩, H1, Ht1, HR⟩
    isplitl [HO]
    · isplitr
      · iexact Hrec
      · iexact HO
    isplitl [H1]
    · iapply (pay_bar I c 1 true rfl); iexact H1
    isplitl [Ht1]
    · isplitl [Ht1]
      · iexact Ht1
      · iapply (recs_r0 I K (up 1 c) kB); iexact Hrec
    · iexact HR
  refine op_bar (I := I) (K := K) rfl rfl (S := _) (R := iprop((own' c aX fullShare (I.x c) ∗ own' c aW fullShare (I.w c)) ∗ own' c aO fullShare f0 ∗ Beside I c ∗ R)) ?_ ?_
  · iintro ⟨HO, ⟨Hc, Ha⟩, HR⟩
    isplitl [HO]
    · iexact HO
    isplitl [Hc]
    · iexact Hc
    isplitl [Ha]
    · iexact Ha
    · iexact HR
  refine BIBase.Entails.trans ?_ ((hQ _ _ _ _).trans (wp_ret_intro _ _))
  unfold Mid
  iintro ⟨HO, Hp, Ha, Hxw, Ho, HB, HR⟩
  isplitl [HO]
  · iexact HO
  isplitl [Hp]
  · iexact Hp
  isplitl [Hxw]
  · iexact Hxw
  isplitl [Ho]
  · iexact Ho
  isplitl [HB]
  · iexact HB
  isplitl [Ha]
  · iexact Ha
  · iexact HR

theorem mid_rs {R : sProp 𝕄} {w : Vec F S512x2048 .bf16} (hw : w = k0_pay1 (fun y => I.x c ((xR c).emb y)) (fun y => I.w c (wR.emb y))) :
    Mid I K c ((oR' c).overlay f0 w) R ⊢ RS I K c ((oR' c).overlay f0 w) iprop(Ext I c ∗ atPos ER (cell c kB) 1 ∅ 0 ∗ R) 2 1 ![⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩] :=
  toRS I K c _ (by rw [G_row, ← hw]; funext y; exact Rect.overlay_emb _ _ _ _)

theorem part2 {R : sProp 𝕄} {Q : PUnit → sProp 𝕄} {v2 v24 v30 : BitVec 32}
    (hQ : ∀ f1, RS I K c f1 iprop(Ext I c ∗ atPos ER (cell c kB) 1 ∅ 0 ∗ R) 2 1 ![⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩] ⊢ Q ⟨⟩) :
    Mid I K c f0 R ⊢ WP c (k0_part2 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v30) Q := by
  rw [k0_part2_eq_skeleton]
  unfold k0_part2_skel
  have o1 : k0_off1 c = ![512 * c.val, 0] := by rw [of1, show ch 0 0 c = c from ch0 0 c]
  have o2 : k0_off2 c = ![512 * c.val, 0] := by rw [of2, show ch 0 0 c = c from ch0 0 c]
  have g1 {off : Fin 2 → Nat} {hin : ∀ a, off a + S512x512.size a ≤ S4096x512.size a} (hoff : off = ![512 * c.val, 0])
      {hl : aX.view.LoadsAt (Rect.unit (s := S4096x512) off S512x512.size hin).toLoadRect}
      {k : Vec F S512x512 .bf16 → Prog (TpuEff nD τ sig (Elt F) Λ₀ .tc) PUnit}
      (hk : Mid I K c f0 R ⊢ WP c (k (fun y => I.x c ((xR c).emb y))) Q) :
      Mid I K c f0 R ⊢ WP c (.op (.load aX (Rect.unit (s := S4096x512) off S512x512.size hin).toLoadRect hl) k) Q := by
    subst hoff
    refine load_sub (m := aX) (r := xR c) (q := fullShare) (X := I.x c)
      (R := iprop((recs I K ∗ ow c 2) ∗ (payK I c kB 0 false ∗ payK I c kB 0 true) ∗ own' c aW fullShare (I.w c)
        ∗ own' c aO fullShare f0 ∗ Beside I c ∗ atPos ER (cell c kB) 1 ∅ 0 ∗ R)) ?_ (BIBase.Entails.trans ?_ hk)
    · unfold Mid
      iintro ⟨HO, Hp, ⟨Hx, Hw⟩, HR⟩
      isplitl [Hx]
      · iexact Hx
      isplitl [HO]
      · iexact HO
      isplitl [Hp]
      · iexact Hp
      isplitl [Hw]
      · iexact Hw
      · iexact HR
    · unfold Mid
      iintro ⟨Hx, HO, Hp, Hw, HR⟩
      isplitl [HO]
      · iexact HO
      isplitl [Hp]
      · iexact Hp
      isplitl [Hx Hw]
      · isplitl [Hx]
        · iexact Hx
        · iexact Hw
      · iexact HR
  have g2 {hin : ∀ a, (![0, 0] : Fin 2 → Nat) a + S512x2048.size a ≤ S512x2048.size a}
      {hl : aW.view.LoadsAt (Rect.unit (s := S512x2048) ![0, 0] S512x2048.size hin).toLoadRect}
      {k : Vec F S512x2048 .bf16 → Prog (TpuEff nD τ sig (Elt F) Λ₀ .tc) PUnit}
      (hk : Mid I K c f0 R ⊢ WP c (k (fun y => I.w c (wR.emb y))) Q) :
      Mid I K c f0 R ⊢ WP c (.op (.load aW (Rect.unit (s := S512x2048) ![0, 0] S512x2048.size hin).toLoadRect hl) k) Q := by
    refine load_sub (m := aW) (r := wR) (q := fullShare) (X := I.w c)
      (R := iprop((recs I K ∗ ow c 2) ∗ (payK I c kB 0 false ∗ payK I c kB 0 true) ∗ own' c aX fullShare (I.x c)
        ∗ own' c aO fullShare f0 ∗ Beside I c ∗ atPos ER (cell c kB) 1 ∅ 0 ∗ R)) ?_ (BIBase.Entails.trans ?_ hk)
    · unfold Mid
      iintro ⟨HO, Hp, ⟨Hx, Hw⟩, HR⟩
      isplitl [Hw]
      · iexact Hw
      isplitl [HO]
      · iexact HO
      isplitl [Hp]
      · iexact Hp
      isplitl [Hx]
      · iexact Hx
      · iexact HR
    · unfold Mid
      iintro ⟨Hw, HO, Hp, Hx, HR⟩
      isplitl [HO]
      · iexact HO
      isplitl [Hp]
      · iexact Hp
      isplitl [Hx Hw]
      · isplitl [Hx]
        · iexact Hx
        · iexact Hw
      · iexact HR
  have s1 (Z : Vec F S4096x2048 .bf16) : Mid I K c Z R ⊢ iprop(own' c aO fullShare Z ∗ (recs I K ∗ ow c 2) ∗ (payK I c kB 0 false ∗ payK I c kB 0 true)
      ∗ (own' c aX fullShare (I.x c) ∗ own' c aW fullShare (I.w c)) ∗ Beside I c ∗ atPos ER (cell c kB) 1 ∅ 0 ∗ R) := by
    unfold Mid
    iintro ⟨HO, Hp, Hxw, Ho, HR⟩
    isplitl [Ho]
    · iexact Ho
    isplitl [HO]
    · iexact HO
    isplitl [Hp]
    · iexact Hp
    isplitl [Hxw]
    · iexact Hxw
    · iexact HR
  have s2 (Z : Vec F S4096x2048 .bf16) : iprop(own' c aO fullShare Z ∗ (recs I K ∗ ow c 2) ∗ (payK I c kB 0 false ∗ payK I c kB 0 true)
      ∗ (own' c aX fullShare (I.x c) ∗ own' c aW fullShare (I.w c)) ∗ Beside I c ∗ atPos ER (cell c kB) 1 ∅ 0 ∗ R) ⊢ Mid I K c Z R := by
    unfold Mid
    iintro ⟨Ho, HO, Hp, Hxw, HR⟩
    isplitl [HO]
    · iexact HO
    isplitl [Hp]
    · iexact Hp
    isplitl [Hxw]
    · iexact Hxw
    isplitl [Ho]
    · iexact Ho
    · iexact HR
  have g3 {off : Fin 2 → Nat} {hin : ∀ a, off a + S512x2048.size a ≤ S4096x2048.size a} (hoff : off = ![512 * c.val, 0])
      {hl : aO.view.LoadsAt (Rect.unit (s := S4096x2048) off S512x2048.size hin).toLoadRect}
      {k : Vec F S512x2048 .bf16 → Prog (TpuEff nD τ sig (Elt F) Λ₀ .tc) PUnit}
      (hk : ∀ v, Mid I K c f0 R ⊢ WP c (k v) Q) :
      Mid I K c f0 R ⊢ WP c (.op (.load aO (Rect.unit (s := S4096x2048) off S512x2048.size hin).toLoadRect hl) k) Q := by
    subst hoff
    exact load_sub (m := aO) (r := oR' c) (q := fullShare) (X := f0) (s1 f0) ((s2 f0).trans (hk _))
  have g4 {off : Fin 2 → Nat} {hin : ∀ a, off a + S512x2048.size a ≤ S4096x2048.size a} (hoff : off = ![512 * c.val, 0])
      {w : Vec F S512x2048 .bf16} (hw : w = k0_pay1 (fun y => I.x c ((xR c).emb y)) (fun y => I.w c (wR.emb y)))
      {hx : (aO.access (Rect.unit (s := S4096x2048) off S512x2048.size hin)).Stores Finset.univ}
      {hmm : (Finset.univ : Finset (Rect.unit (s := S4096x2048) off S512x2048.size hin).shape.Idx) = Finset.univ ∨ ∀ a, (Rect.unit (s := S4096x2048) off S512x2048.size hin).stride a = 1}
      {k : PUnit → Prog (TpuEff nD τ sig (Elt F) Λ₀ .tc) PUnit} (hk : Mid I K c ((oR' c).overlay f0 w) R ⊢ WP c (k ⟨⟩) Q) :
      Mid I K c f0 R ⊢ WP c (.op (.store aO (Rect.unit (s := S4096x2048) off S512x2048.size hin) w Finset.univ hx hmm) k) Q := by
    subst hoff
    exact store_sub (m := aO) (r := oR' c) (fun _ => rfl) (X := f0) (s1 f0) ((s2 _).trans hk)
  refine g1 o1 (g2 (g3 o2 fun _ => g4 o2 rfl ?_))
  exact (mid_rs rfl).trans ((hQ _).trans (wp_ret_intro _ _))

end Parts

end K
-- ==== Proof.K.Rs1.lean ====
module

public import proofs.«01_k».proof.Proof.K.Pre

/-!
# The pieces of the reduce-scatter, 1
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Parts

variable {I : In F} {K : Dev nD × Kn → ℕ} {c : Dev nD} {f0 : Vec F S4096x2048 .bf16}

theorem part3 {R : sProp 𝕄} {Q : (Σ' (v90 : BitVec 32) (v95 : BitVec 1), BitVec 32) → sProp 𝕄} {v2 : BitVec 32} {v13 : BitVec 32}
    (hQ : ∀ (u0 : BitVec 32) (u1 : BitVec 1) (u2 : BitVec 32), RS I K c f0 R 4 1 ![⟨0, 0, 0, 0, 0, 0, 1, 0⟩, ⟨0, 0, 0, 0, 0, 0, 1, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩] ⊢ Q ⟨u0, u1, u2⟩) :
    RS I K c f0 R 2 1 ![⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩] ⊢ WP c (k0_part3 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part3_eq_skeleton]
  unfold k0_part3_skel
  refine rs_send 0 0 (by decide +kernel) (dv3 c) (of3 c 0) rfl rfl rfl rfl ?_
  refine rs_send 1 0 (by decide +kernel) (dv4 c) (of4 c 0) rfl rfl rfl rfl ?_
  exact RS_eq (by decide +kernel) ((hQ _ _ _).trans (wp_ret_intro _ _))

theorem part4 {R : sProp 𝕄} {Q : (PUnit) → sProp 𝕄} {v2 : BitVec 32} {v13 : BitVec 32} {v24 : BitVec 32} {v90 : BitVec 32} {v95 : BitVec 1} {v96 : BitVec 32}
    (hQ : RS I K c f0 R 5 1 ![⟨0, 0, 0, 0, 0, 0, 1, 0⟩, ⟨0, 0, 0, 0, 0, 0, 1, 0⟩, ⟨0, 0, 0, 0, 0, 0, 1, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩] ⊢ Q ⟨⟩) :
    RS I K c f0 R 4 1 ![⟨0, 0, 0, 0, 0, 0, 1, 0⟩, ⟨0, 0, 0, 0, 0, 0, 1, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩] ⊢ WP c (k0_part4 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v90 v95 v96) Q := by
  rw [k0_part4_eq_skeleton]
  unfold k0_part4_skel
  refine rs_send 2 0 (by decide +kernel) (dv5 c) (of5 c 0) rfl rfl rfl rfl ?_
  exact RS_eq (by decide +kernel) ((hQ).trans (wp_ret_intro _ _))

theorem part5 {R : sProp 𝕄} {Q : (Σ' (v155 : BitVec 32) (v156 : BitVec 32) (v157 : BitVec 1), BitVec 32) → sProp 𝕄} {v2 : BitVec 32} {v24 : BitVec 32}
    (hQ : ∀ (u0 : BitVec 32) (u1 : BitVec 32) (u2 : BitVec 1) (u3 : BitVec 32), RS I K c f0 R 7 1 ![⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 0, 0⟩, ⟨0, 0, 0, 0, 0, 0, 0, 0⟩, ⟨0, 0, 0, 0, 0, 0, 0, 0⟩] ⊢ Q ⟨u0, u1, u2, u3⟩) :
    RS I K c f0 R 5 1 ![⟨0, 0, 0, 0, 0, 0, 1, 0⟩, ⟨0, 0, 0, 0, 0, 0, 1, 0⟩, ⟨0, 0, 0, 0, 0, 0, 1, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩, ⟨0, 0, 0, 0, 0, 0, 0, 0⟩] ⊢ WP c (k0_part5 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24) Q := by
  rw [k0_part5_eq_skeleton]
  unfold k0_part5_skel
  refine rs_send 3 0 (by decide +kernel) (dv6 c) (of6 c 0) rfl rfl rfl rfl ?_
  refine rs_send 4 0 (by decide +kernel) (dv7 c) (of7 c 0) rfl rfl rfl rfl ?_
  exact RS_eq (by decide +kernel) ((hQ _ _ _ _).trans (wp_ret_intro _ _))

theorem part6 {R : sProp 𝕄} {Q : (BitVec 32) → sProp 𝕄} {v2 : BitVec 32} {v13 : BitVec 32} {v24 : BitVec 32} {v155 : BitVec 32} {v156 : BitVec 32} {v157 : BitVec 1} {c0_i32_120 : BitVec 32}
    (hQ : ∀ (u0 : BitVec 32), RS I K c f0 R 8 1 ![⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 0, 0⟩, ⟨0, 0, 0, 0, 0, 0, 0, 0⟩] ⊢ Q u0) :
    RS I K c f0 R 7 1 ![⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 0, 0⟩, ⟨0, 0, 0, 0, 0, 0, 0, 0⟩, ⟨0, 0, 0, 0, 0, 0, 0, 0⟩] ⊢ WP c (k0_part6 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v155 v156 v157 c0_i32_120) Q := by
  rw [k0_part6_eq_skeleton]
  unfold k0_part6_skel
  refine rs_send 5 0 (by decide +kernel) (dv8 c) (of8 c 0) rfl rfl rfl rfl ?_
  exact RS_eq (by decide +kernel) ((hQ _).trans (wp_ret_intro _ _))

theorem part7 {R : sProp 𝕄} {Q : (Σ' (v220 : BitVec 32), BitVec 32) → sProp 𝕄} {v2 : BitVec 32} {v13 : BitVec 32} {v188 : BitVec 32}
    (hQ : ∀ (u0 : BitVec 32) (u1 : BitVec 32), RS I K c f0 R 10 1 ![⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ Q ⟨u0, u1⟩) :
    RS I K c f0 R 8 1 ![⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 0, 0⟩, ⟨0, 0, 0, 0, 0, 0, 0, 0⟩] ⊢ WP c (k0_part7 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v188) Q := by
  rw [k0_part7_eq_skeleton]
  unfold k0_part7_skel
  refine rs_send 6 0 (by decide +kernel) (dv9 c) (of9 c 0) rfl rfl rfl rfl ?_
  refine rs_send 7 0 (by decide +kernel) (dv10 c) (of10 c 0) rfl rfl rfl rfl ?_
  exact RS_eq (by decide +kernel) ((hQ _ _).trans (wp_ret_intro _ _))

theorem part8 {R : sProp 𝕄} {Q : (BitVec 32) → sProp 𝕄} {v2 : BitVec 32} {v220 : BitVec 32} {c8_i32_170 : BitVec 32}
    (hQ : ∀ (u0 : BitVec 32), RS I K c f0 R 10 2 ![⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ Q u0) :
    RS I K c f0 R 10 1 ![⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ WP c (k0_part8 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v220 c8_i32_170) Q := by
  rw [k0_part8_eq_skeleton]
  unfold k0_part8_skel
  refine rs_ldx (i := ch 0 1 c) (of11 c 0) ?_
  refine rs_ldw ?_
  refine rs_ldrow (by decide) (by decide +kernel) (of12 c 0) (fun _ => ?_)
  refine rs_strow (by decide) (by decide +kernel) (of12 c 0) rfl ?_
  exact RS_eq (by decide +kernel) ((hQ _).trans (wp_ret_intro _ _))

theorem part9 {R : sProp 𝕄} {Q : (BitVec 32) → sProp 𝕄} {v2 : BitVec 32} {v24 : BitVec 32} {v255 : BitVec 32}
    (hQ : ∀ (u0 : BitVec 32), RS I K c f0 R 10 3 ![⟨1, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ Q u0) :
    RS I K c f0 R 10 2 ![⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ WP c (k0_part9 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v255) Q := by
  rw [k0_part9_eq_skeleton]
  unfold k0_part9_skel
  refine rs_ldx (i := ch 0 7 c) (of13' c 0) ?_
  refine rs_ldw ?_
  refine rs_ldrow (by decide) (by decide +kernel) (of14' c 0) (fun _ => ?_)
  refine rs_strow (by decide) (by decide +kernel) (of14' c 0) rfl ?_
  refine rs_recv 0 0 (by decide +kernel) rfl rfl ?_
  exact RS_eq (by decide +kernel) ((hQ _).trans (wp_ret_intro _ _))

theorem part10 {R : sProp 𝕄} {Q : (PUnit) → sProp 𝕄} {v2 : BitVec 32} {v24 : BitVec 32} {v280 : BitVec 32}
    (hQ : RS I K c f0 R 11 3 ![⟨1, 1, 0, 0, 0, 0, 2, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ Q ⟨⟩) :
    RS I K c f0 R 10 3 ![⟨1, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ WP c (k0_part10 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v280) Q := by
  rw [k0_part10_eq_skeleton]
  unfold k0_part10_skel
  refine rs_ldacc 0 0 (by decide +kernel) (of15 c 0) ?_
  refine rs_ldcomm 0 0 (by decide +kernel) rfl rfl ?_
  refine rs_ldacc 0 0 (by decide +kernel) (of15 c 0) ?_
  refine rs_store 0 0 (by decide +kernel) (of15 c 0) rfl ?_
  refine rs_send 0 1 (by decide +kernel) (dv11 c) (of3 c 1) rfl rfl rfl rfl ?_
  exact RS_eq (by decide +kernel) ((hQ).trans (wp_ret_intro _ _))

theorem part11 {R : sProp 𝕄} {Q : (Σ' (v337 : BitVec 32) (v349 : FVec F S512x256 .bf16), Vec F S1x1x512x256 .bf16) → sProp 𝕄} {v2 : BitVec 32} {v13 : BitVec 32}
    (hQ : ∀ (u0 : BitVec 32), RS I K c f0 R 12 3 ![⟨1, 1, 0, 0, 0, 0, 2, 1⟩, ⟨1, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ Q ⟨u0, (k0_pay5 (gv I c 1 1)), (cv I c 0 1)⟩) :
    RS I K c f0 R 11 3 ![⟨1, 1, 0, 0, 0, 0, 2, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ WP c (k0_part11 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part11_eq_skeleton]
  unfold k0_part11_skel
  refine rs_signal 0 0 (by decide +kernel) (dv12 c) rfl rfl ?_
  refine rs_recv 1 0 (by decide +kernel) rfl rfl ?_
  refine rs_ldacc 1 0 (by decide +kernel) (of16 c 0) ?_
  refine rs_ldcomm 1 0 (by decide +kernel) rfl rfl ?_
  exact RS_eq (by decide +kernel) ((hQ _).trans (wp_ret_intro _ _))

theorem part12 {R : sProp 𝕄} {Q : (PUnit) → sProp 𝕄} {v2 : BitVec 32} {v13 : BitVec 32} {v24 : BitVec 32} {v337 : BitVec 32}
    (hQ : RS I K c f0 R 13 3 ![⟨1, 1, 0, 0, 0, 0, 2, 1⟩, ⟨1, 1, 0, 0, 0, 0, 2, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ Q ⟨⟩) :
    RS I K c f0 R 12 3 ![⟨1, 1, 0, 0, 0, 0, 2, 1⟩, ⟨1, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ WP c (k0_part12 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v337 (k0_pay5 (gv I c 1 1)) (cv I c 0 1)) Q := by
  rw [k0_part12_eq_skeleton]
  unfold k0_part12_skel
  refine rs_ldacc 1 0 (by decide +kernel) (of16 c 0) ?_
  refine rs_store 1 0 (by decide +kernel) (of16 c 0) rfl ?_
  refine rs_send 1 1 (by decide +kernel) (dv13 c) (of4 c 1) rfl rfl rfl rfl ?_
  exact RS_eq (by decide +kernel) ((hQ).trans (wp_ret_intro _ _))

theorem part13 {R : sProp 𝕄} {Q : (FVec F S512x256 .bf16) → sProp 𝕄} {v2 : BitVec 32} {v24 : BitVec 32}
    (hQ : RS I K c f0 R 14 3 ![⟨1, 1, 0, 0, 0, 0, 2, 1⟩, ⟨1, 1, 0, 0, 0, 0, 2, 1⟩, ⟨1, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ Q (k0_pay7 (gv I c 1 2) (cv I c 0 2))) :
    RS I K c f0 R 13 3 ![⟨1, 1, 0, 0, 0, 0, 2, 1⟩, ⟨1, 1, 0, 0, 0, 0, 2, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ WP c (k0_part13 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24) Q := by
  rw [k0_part13_eq_skeleton]
  unfold k0_part13_skel
  refine rs_signal 1 0 (by decide +kernel) (dv14 c) rfl rfl ?_
  refine rs_recv 2 0 (by decide +kernel) rfl rfl ?_
  refine rs_ldacc 2 0 (by decide +kernel) (of17 c 0) ?_
  refine rs_ldcomm 2 0 (by decide +kernel) rfl rfl ?_
  refine rs_ldacc 2 0 (by decide +kernel) (of17 c 0) ?_
  exact RS_eq (by decide +kernel) ((hQ).trans (wp_ret_intro _ _))

theorem part14 {R : sProp 𝕄} {Q : (Σ' (v441 : BitVec 32) (c8_i32_350 : BitVec 32), BitVec 1) → sProp 𝕄} {v2 : BitVec 32} {v13 : BitVec 32} {v24 : BitVec 32}
    (hQ : ∀ (u0 : BitVec 32) (u1 : BitVec 32) (u2 : BitVec 1), RS I K c f0 R 16 3 ![⟨1, 1, 0, 0, 0, 0, 2, 1⟩, ⟨1, 1, 0, 0, 0, 0, 2, 1⟩, ⟨1, 1, 0, 0, 0, 0, 2, 1⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ Q ⟨u0, u1, u2⟩) :
    RS I K c f0 R 14 3 ![⟨1, 1, 0, 0, 0, 0, 2, 1⟩, ⟨1, 1, 0, 0, 0, 0, 2, 1⟩, ⟨1, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ WP c (k0_part14 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 (k0_pay7 (gv I c 1 2) (cv I c 0 2))) Q := by
  rw [k0_part14_eq_skeleton]
  unfold k0_part14_skel
  refine rs_store 2 0 (by decide +kernel) (of17 c 0) rfl ?_
  refine rs_send 2 1 (by decide +kernel) (dv15 c) (of5 c 1) rfl rfl rfl rfl ?_
  refine rs_signal 2 0 (by decide +kernel) (dv16 c) rfl rfl ?_
  exact RS_eq (by decide +kernel) ((hQ _ _ _).trans (wp_ret_intro _ _))

theorem part15 {R : sProp 𝕄} {Q : (Σ' (v471 : BitVec 32), BitVec 32) → sProp 𝕄} {v2 : BitVec 32} {v13 : BitVec 32} {v441 : BitVec 32} {c8_i32_350 : BitVec 32} {v442 : BitVec 1}
    (hQ : ∀ (u0 : BitVec 32) (u1 : BitVec 32), RS I K c f0 R 16 3 ![⟨1, 1, 0, 0, 0, 0, 2, 1⟩, ⟨1, 1, 0, 0, 0, 0, 2, 1⟩, ⟨1, 1, 0, 0, 0, 0, 2, 1⟩, ⟨1, 1, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ Q ⟨u0, u1⟩) :
    RS I K c f0 R 16 3 ![⟨1, 1, 0, 0, 0, 0, 2, 1⟩, ⟨1, 1, 0, 0, 0, 0, 2, 1⟩, ⟨1, 1, 0, 0, 0, 0, 2, 1⟩, ⟨0, 0, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ WP c (k0_part15 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v441 c8_i32_350 v442) Q := by
  rw [k0_part15_eq_skeleton]
  unfold k0_part15_skel
  refine rs_recv 3 0 (by decide +kernel) rfl rfl ?_
  refine rs_ldacc 3 0 (by decide +kernel) (of18 c 0) ?_
  refine rs_ldcomm 3 0 (by decide +kernel) rfl rfl ?_
  refine rs_ldacc 3 0 (by decide +kernel) (of18 c 0) ?_
  refine rs_store 3 0 (by decide +kernel) (of18 c 0) rfl ?_
  exact RS_eq (by decide +kernel) ((hQ _ _).trans (wp_ret_intro _ _))

theorem part16 {R : sProp 𝕄} {Q : (Σ' (v500 : BitVec 32) (v501 : BitVec 32) (v502 : BitVec 1) (v503 : BitVec 1), BitVec 32) → sProp 𝕄} {v2 : BitVec 32} {v13 : BitVec 32} {v24 : BitVec 32} {v471 : BitVec 32} {v473 : BitVec 32}
    (hQ : ∀ (u0 : BitVec 32) (u1 : BitVec 32) (u2 : BitVec 1) (u3 : BitVec 1) (u4 : BitVec 32), RS I K c f0 R 18 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ Q ⟨u0, u1, u2, u3, u4⟩) :
    RS I K c f0 R 16 3 ![⟨1, 1, 0, 0, 0, 0, 2, 1⟩, ⟨1, 1, 0, 0, 0, 0, 2, 1⟩, ⟨1, 1, 0, 0, 0, 0, 2, 1⟩, ⟨1, 1, 0, 0, 0, 0, 1, 0⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ WP c (k0_part16 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v471 v473) Q := by
  rw [k0_part16_eq_skeleton]
  unfold k0_part16_skel
  refine rs_send 3 1 (by decide +kernel) (dv17 c) (of6 c 1) rfl rfl rfl rfl ?_
  refine rs_signal 3 0 (by decide +kernel) (dv18 c) rfl rfl ?_
  exact RS_eq (by decide +kernel) ((hQ _ _ _ _ _).trans (wp_ret_intro _ _))

theorem part17 {R : sProp 𝕄} {Q : (Σ' (v530 : BitVec 32) (v531 : BitVec 32) (v532 : BitVec 1), BitVec 1) → sProp 𝕄} {v2 : BitVec 32} {v24 : BitVec 32} {v500 : BitVec 32} {v501 : BitVec 32} {v502 : BitVec 1} {v503 : BitVec 1} {c0_i32_405 : BitVec 32}
    (hQ : ∀ (u0 : BitVec 32) (u1 : BitVec 32) (u2 : BitVec 1) (u3 : BitVec 1), RS I K c f0 R 18 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 1, 0⟩, ⟨0, 0, 0, 0, 0, 0, 1, 0⟩, ⟨0, 0, 0, 0, 0, 0, 1, 0⟩, ⟨0, 0, 0, 0, 0, 0, 1, 0⟩] ⊢ Q ⟨u0, u1, u2, u3⟩) :
    RS I K c f0 R 18 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨0, 0, 0, 0, 0, 0, 1, 0⟩, ⟨0, 0, 0, 0, 0, 0, 1, 0⟩, ⟨0, 0, 0, 0, 0, 0, 1, 0⟩, ⟨0, 0, 0, 0, 0, 0, 1, 0⟩] ⊢ WP c (k0_part17 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v500 v501 v502 v503 c0_i32_405) Q := by
  rw [k0_part17_eq_skeleton]
  unfold k0_part17_skel
  refine rs_recv 4 0 (by decide +kernel) rfl rfl ?_
  refine rs_ldacc 4 0 (by decide +kernel) (of19 c 0) ?_
  refine rs_ldcomm 4 0 (by decide +kernel) rfl rfl ?_
  refine rs_ldacc 4 0 (by decide +kernel) (of19 c 0) ?_
  refine rs_store 4 0 (by decide +kernel) (of19 c 0) rfl ?_
  exact RS_eq (by decide +kernel) ((hQ _ _ _ _).trans (wp_ret_intro _ _))

theorem part18 {R : sProp 𝕄} {Q : (BitVec 32) → sProp 𝕄} {v2 : BitVec 32} {v13 : BitVec 32} {v24 : BitVec 32} {v530 : BitVec 32} {v531 : BitVec 32} {v532 : BitVec 1} {v535 : BitVec 1}
    (hQ : ∀ (u0 : BitVec 32), RS I K c f0 R 20 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨0, 0, 0, 0, 0, 0, 1, 0⟩, ⟨0, 0, 0, 0, 0, 0, 1, 0⟩, ⟨0, 0, 0, 0, 0, 0, 1, 0⟩] ⊢ Q u0) :
    RS I K c f0 R 18 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 1, 0⟩, ⟨0, 0, 0, 0, 0, 0, 1, 0⟩, ⟨0, 0, 0, 0, 0, 0, 1, 0⟩, ⟨0, 0, 0, 0, 0, 0, 1, 0⟩] ⊢ WP c (k0_part18 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v530 v531 v532 v535) Q := by
  rw [k0_part18_eq_skeleton]
  unfold k0_part18_skel
  refine rs_send 4 1 (by decide +kernel) (dv19 c) (of7 c 1) rfl rfl rfl rfl ?_
  refine rs_signal 4 0 (by decide +kernel) (dv20 c) rfl rfl ?_
  exact RS_eq (by decide +kernel) ((hQ _).trans (wp_ret_intro _ _))

theorem part19 {R : sProp 𝕄} {Q : (PUnit) → sProp 𝕄} {v2 : BitVec 32} {v13 : BitVec 32} {v565 : BitVec 32}
    (hQ : RS I K c f0 R 20 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 1, 0⟩, ⟨0, 0, 0, 0, 0, 0, 1, 0⟩, ⟨0, 0, 0, 0, 0, 0, 1, 0⟩] ⊢ Q ⟨⟩) :
    RS I K c f0 R 20 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨0, 0, 0, 0, 0, 0, 1, 0⟩, ⟨0, 0, 0, 0, 0, 0, 1, 0⟩, ⟨0, 0, 0, 0, 0, 0, 1, 0⟩] ⊢ WP c (k0_part19 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v565) Q := by
  rw [k0_part19_eq_skeleton]
  unfold k0_part19_skel
  refine rs_recv 5 0 (by decide +kernel) rfl rfl ?_
  refine rs_ldacc 5 0 (by decide +kernel) (of20 c 0) ?_
  refine rs_ldcomm 5 0 (by decide +kernel) rfl rfl ?_
  refine rs_ldacc 5 0 (by decide +kernel) (of20 c 0) ?_
  refine rs_store 5 0 (by decide +kernel) (of20 c 0) rfl ?_
  exact RS_eq (by decide +kernel) ((hQ).trans (wp_ret_intro _ _))

theorem part20 {R : sProp 𝕄} {Q : (BitVec 32) → sProp 𝕄} {v2 : BitVec 32} {v13 : BitVec 32} {v24 : BitVec 32}
    (hQ : ∀ (u0 : BitVec 32), RS I K c f0 R 22 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨0, 0, 0, 0, 0, 0, 1, 0⟩, ⟨0, 0, 0, 0, 0, 0, 1, 0⟩] ⊢ Q u0) :
    RS I K c f0 R 20 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 1, 0⟩, ⟨0, 0, 0, 0, 0, 0, 1, 0⟩, ⟨0, 0, 0, 0, 0, 0, 1, 0⟩] ⊢ WP c (k0_part20 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24) Q := by
  rw [k0_part20_eq_skeleton]
  unfold k0_part20_skel
  refine rs_send 5 1 (by decide +kernel) (dv21 c) (of8 c 1) rfl rfl rfl rfl ?_
  refine rs_signal 5 0 (by decide +kernel) (dv22 c) rfl rfl ?_
  exact RS_eq (by decide +kernel) ((hQ _).trans (wp_ret_intro _ _))

theorem part21 {R : sProp 𝕄} {Q : (PUnit) → sProp 𝕄} {v2 : BitVec 32} {v24 : BitVec 32} {v622 : BitVec 32}
    (hQ : RS I K c f0 R 22 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 1, 0⟩, ⟨0, 0, 0, 0, 0, 0, 1, 0⟩] ⊢ Q ⟨⟩) :
    RS I K c f0 R 22 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨0, 0, 0, 0, 0, 0, 1, 0⟩, ⟨0, 0, 0, 0, 0, 0, 1, 0⟩] ⊢ WP c (k0_part21 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v622) Q := by
  rw [k0_part21_eq_skeleton]
  unfold k0_part21_skel
  refine rs_recv 6 0 (by decide +kernel) rfl rfl ?_
  refine rs_ldacc 6 0 (by decide +kernel) (of21 c 0) ?_
  refine rs_ldcomm 6 0 (by decide +kernel) rfl rfl ?_
  refine rs_ldacc 6 0 (by decide +kernel) (of21 c 0) ?_
  refine rs_store 6 0 (by decide +kernel) (of21 c 0) rfl ?_
  exact RS_eq (by decide +kernel) ((hQ).trans (wp_ret_intro _ _))

theorem part22 {R : sProp 𝕄} {Q : (BitVec 32) → sProp 𝕄} {v2 : BitVec 32} {v13 : BitVec 32}
    (hQ : ∀ (u0 : BitVec 32), RS I K c f0 R 24 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 0, 0, 0, 0, 0, 1, 0⟩] ⊢ Q u0) :
    RS I K c f0 R 22 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 1, 0⟩, ⟨0, 0, 0, 0, 0, 0, 1, 0⟩] ⊢ WP c (k0_part22 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part22_eq_skeleton]
  unfold k0_part22_skel
  refine rs_send 6 1 (by decide +kernel) (dv23 c) (of9 c 1) rfl rfl rfl rfl ?_
  refine rs_signal 6 0 (by decide +kernel) (dv24 c) rfl rfl ?_
  refine rs_recv 7 0 (by decide +kernel) rfl rfl ?_
  exact RS_eq (by decide +kernel) ((hQ _).trans (wp_ret_intro _ _))

theorem part23 {R : sProp 𝕄} {Q : (PUnit) → sProp 𝕄} {v2 : BitVec 32} {v13 : BitVec 32} {v679 : BitVec 32}
    (hQ : RS I K c f0 R 24 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 1, 0⟩] ⊢ Q ⟨⟩) :
    RS I K c f0 R 24 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 0, 0, 0, 0, 0, 1, 0⟩] ⊢ WP c (k0_part23 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v679) Q := by
  rw [k0_part23_eq_skeleton]
  unfold k0_part23_skel
  refine rs_ldacc 7 0 (by decide +kernel) (of22 c 0) ?_
  refine rs_ldcomm 7 0 (by decide +kernel) rfl rfl ?_
  refine rs_ldacc 7 0 (by decide +kernel) (of22 c 0) ?_
  refine rs_store 7 0 (by decide +kernel) (of22 c 0) rfl ?_
  exact RS_eq (by decide +kernel) ((hQ).trans (wp_ret_intro _ _))

theorem part24 {R : sProp 𝕄} {Q : (Σ' (v751 : BitVec 32) (c8_i32_613 : BitVec 32), BitVec 32) → sProp 𝕄} {v2 : BitVec 32} {v24 : BitVec 32}
    (hQ : ∀ (u0 : BitVec 32) (u1 : BitVec 32) (u2 : BitVec 32), RS I K c f0 R 26 4 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ Q ⟨u0, u1, u2⟩) :
    RS I K c f0 R 24 3 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 1, 0⟩] ⊢ WP c (k0_part24 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24) Q := by
  rw [k0_part24_eq_skeleton]
  unfold k0_part24_skel
  refine rs_send 7 1 (by decide +kernel) (dv25 c) (of10 c 1) rfl rfl rfl rfl ?_
  refine rs_signal 7 0 (by decide +kernel) (dv26 c) rfl rfl ?_
  refine rs_ldx (i := ch 0 2 c) (of11 c 1) ?_
  refine rs_ldw ?_
  refine rs_ldrow (by decide) (by decide +kernel) (of12 c 1) (fun _ => ?_)
  refine rs_strow (by decide) (by decide +kernel) (of12 c 1) rfl ?_
  exact RS_eq (by decide +kernel) ((hQ _ _ _).trans (wp_ret_intro _ _))

end Parts

end K
-- ==== Proof.K.Rs2.lean ====
module

public import proofs.«01_k».proof.Proof.K.Pre

/-!
# The pieces of the reduce-scatter, 2
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Parts

variable {I : In F} {K : Dev nD × Kn → ℕ} {c : Dev nD} {f0 : Vec F S4096x2048 .bf16}

theorem part25 {R : sProp 𝕄} {Q : (BitVec 32) → sProp 𝕄} {v2 : BitVec 32} {v751 : BitVec 32} {c8_i32_613 : BitVec 32} {c0_i32_614 : BitVec 32}
    (hQ : ∀ (u0 : BitVec 32), RS I K c f0 R 26 5 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ Q u0) :
    RS I K c f0 R 26 4 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ WP c (k0_part25 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v751 c8_i32_613 c0_i32_614) Q := by
  rw [k0_part25_eq_skeleton]
  unfold k0_part25_skel
  refine rs_ldx (i := ch 0 6 c) (of13' c 1) ?_
  refine rs_ldw ?_
  refine rs_ldrow (by decide) (by decide +kernel) (of14' c 1) (fun _ => ?_)
  refine rs_strow (by decide) (by decide +kernel) (of14' c 1) rfl ?_
  exact RS_eq (by decide +kernel) ((hQ _).trans (wp_ret_intro _ _))

theorem part26 {R : sProp 𝕄} {Q : (BitVec 32) → sProp 𝕄} {v2 : BitVec 32} {v24 : BitVec 32} {v786 : BitVec 32}
    (hQ : ∀ (u0 : BitVec 32), RS I K c f0 R 26 5 ![⟨2, 2, 1, 0, 1, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ Q u0) :
    RS I K c f0 R 26 5 ![⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ WP c (k0_part26 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v786) Q := by
  rw [k0_part26_eq_skeleton]
  unfold k0_part26_skel
  refine rs_recv 0 1 (by decide +kernel) rfl rfl ?_
  refine rs_ldacc 0 1 (by decide +kernel) (of15 c 1) ?_
  refine rs_ldcomm 0 1 (by decide +kernel) rfl rfl ?_
  refine rs_ldacc 0 1 (by decide +kernel) (of15 c 1) ?_
  refine rs_store 0 1 (by decide +kernel) (of15 c 1) rfl ?_
  refine rs_sendwait 0 0 (by decide +kernel) rfl rfl ?_
  refine rs_credwait 0 0 (by decide +kernel) rfl rfl ?_
  exact RS_eq (by decide +kernel) ((hQ _).trans (wp_ret_intro _ _))

theorem part27 {R : sProp 𝕄} {Q : (Σ' (v842 : BitVec 32), BitVec 32) → sProp 𝕄} {v2 : BitVec 32} {v13 : BitVec 32} {v24 : BitVec 32} {v813 : BitVec 32}
    (hQ : ∀ (u0 : BitVec 32) (u1 : BitVec 32), RS I K c f0 R 28 5 ![⟨2, 2, 1, 0, 1, 0, 3, 2⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ Q ⟨u0, u1⟩) :
    RS I K c f0 R 26 5 ![⟨2, 2, 1, 0, 1, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ WP c (k0_part27 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v813) Q := by
  rw [k0_part27_eq_skeleton]
  unfold k0_part27_skel
  refine rs_send 0 2 (by decide +kernel) (dv27 c) (of3 c 2) rfl rfl rfl rfl ?_
  refine rs_signal 0 1 (by decide +kernel) (dv28 c) rfl rfl ?_
  exact RS_eq (by decide +kernel) ((hQ _ _).trans (wp_ret_intro _ _))

theorem part28 {R : sProp 𝕄} {Q : (PUnit) → sProp 𝕄} {v13 : BitVec 32} {v842 : BitVec 32} {v843 : BitVec 32}
    (hQ : RS I K c f0 R 28 5 ![⟨2, 2, 1, 0, 1, 0, 3, 2⟩, ⟨2, 2, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ Q ⟨⟩) :
    RS I K c f0 R 28 5 ![⟨2, 2, 1, 0, 1, 0, 3, 2⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ WP c (k0_part28 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v13 v842 v843) Q := by
  rw [k0_part28_eq_skeleton]
  unfold k0_part28_skel
  refine rs_recv 1 1 (by decide +kernel) rfl rfl ?_
  refine rs_ldacc 1 1 (by decide +kernel) (of16 c 1) ?_
  refine rs_ldcomm 1 1 (by decide +kernel) rfl rfl ?_
  refine rs_ldacc 1 1 (by decide +kernel) (of16 c 1) ?_
  refine rs_store 1 1 (by decide +kernel) (of16 c 1) rfl ?_
  exact RS_eq (by decide +kernel) ((hQ).trans (wp_ret_intro _ _))

theorem part29 {R : sProp 𝕄} {Q : (PUnit) → sProp 𝕄} {v2 : BitVec 32} {v13 : BitVec 32}
    (hQ : RS I K c f0 R 29 5 ![⟨2, 2, 1, 0, 1, 0, 3, 2⟩, ⟨2, 2, 1, 0, 1, 0, 3, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ Q ⟨⟩) :
    RS I K c f0 R 28 5 ![⟨2, 2, 1, 0, 1, 0, 3, 2⟩, ⟨2, 2, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ WP c (k0_part29 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part29_eq_skeleton]
  unfold k0_part29_skel
  refine rs_sendwait 1 0 (by decide +kernel) rfl rfl ?_
  refine rs_credwait 1 0 (by decide +kernel) rfl rfl ?_
  refine rs_send 1 2 (by decide +kernel) (dv29 c) (of4 c 2) rfl rfl rfl rfl ?_
  exact RS_eq (by decide +kernel) ((hQ).trans (wp_ret_intro _ _))

theorem part30 {R : sProp 𝕄} {Q : (Σ' (v929 : FVec F S512x256 .bf16), BitVec 32) → sProp 𝕄} {v2 : BitVec 32} {v24 : BitVec 32}
    (hQ : ∀ (u1 : BitVec 32), RS I K c f0 R 30 5 ![⟨2, 2, 1, 0, 1, 0, 3, 2⟩, ⟨2, 2, 1, 0, 1, 0, 3, 2⟩, ⟨2, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ Q ⟨(k0_pay17 (gv I c 2 2) (cv I c 1 2)), u1⟩) :
    RS I K c f0 R 29 5 ![⟨2, 2, 1, 0, 1, 0, 3, 2⟩, ⟨2, 2, 1, 0, 1, 0, 3, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ WP c (k0_part30 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24) Q := by
  rw [k0_part30_eq_skeleton]
  unfold k0_part30_skel
  refine rs_signal 1 1 (by decide +kernel) (dv30 c) rfl rfl ?_
  refine rs_recv 2 1 (by decide +kernel) rfl rfl ?_
  refine rs_ldacc 2 1 (by decide +kernel) (of17 c 1) ?_
  refine rs_ldcomm 2 1 (by decide +kernel) rfl rfl ?_
  exact RS_eq (by decide +kernel) ((hQ _).trans (wp_ret_intro _ _))

theorem part31 {R : sProp 𝕄} {Q : (PUnit) → sProp 𝕄} {v2 : BitVec 32} {v24 : BitVec 32} {v930 : BitVec 32}
    (hQ : RS I K c f0 R 30 5 ![⟨2, 2, 1, 0, 1, 0, 3, 2⟩, ⟨2, 2, 1, 0, 1, 0, 3, 2⟩, ⟨2, 2, 1, 0, 1, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ Q ⟨⟩) :
    RS I K c f0 R 30 5 ![⟨2, 2, 1, 0, 1, 0, 3, 2⟩, ⟨2, 2, 1, 0, 1, 0, 3, 2⟩, ⟨2, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ WP c (k0_part31 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 (k0_pay17 (gv I c 2 2) (cv I c 1 2)) v930) Q := by
  rw [k0_part31_eq_skeleton]
  unfold k0_part31_skel
  refine rs_ldacc 2 1 (by decide +kernel) (of17 c 1) ?_
  refine rs_store 2 1 (by decide +kernel) (of17 c 1) rfl ?_
  refine rs_sendwait 2 0 (by decide +kernel) rfl rfl ?_
  refine rs_credwait 2 0 (by decide +kernel) rfl rfl ?_
  exact RS_eq (by decide +kernel) ((hQ).trans (wp_ret_intro _ _))

theorem part32 {R : sProp 𝕄} {Q : (Σ' (v978 : BitVec 32), BitVec 32) → sProp 𝕄} {v2 : BitVec 32} {v13 : BitVec 32}
    (hQ : ∀ (u0 : BitVec 32) (u1 : BitVec 32), RS I K c f0 R 32 5 ![⟨2, 2, 1, 0, 1, 0, 3, 2⟩, ⟨2, 2, 1, 0, 1, 0, 3, 2⟩, ⟨2, 2, 1, 0, 1, 0, 3, 2⟩, ⟨2, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ Q ⟨u0, u1⟩) :
    RS I K c f0 R 30 5 ![⟨2, 2, 1, 0, 1, 0, 3, 2⟩, ⟨2, 2, 1, 0, 1, 0, 3, 2⟩, ⟨2, 2, 1, 0, 1, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ WP c (k0_part32 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part32_eq_skeleton]
  unfold k0_part32_skel
  refine rs_send 2 2 (by decide +kernel) (dv31 c) (of5 c 2) rfl rfl rfl rfl ?_
  refine rs_signal 2 1 (by decide +kernel) (dv32 c) rfl rfl ?_
  refine rs_recv 3 1 (by decide +kernel) rfl rfl ?_
  exact RS_eq (by decide +kernel) ((hQ _ _).trans (wp_ret_intro _ _))

theorem part33 {R : sProp 𝕄} {Q : (Σ' (v1008 : BitVec 32) (v1013 : BitVec 1), BitVec 32) → sProp 𝕄} {v2 : BitVec 32} {v978 : BitVec 32} {c512_i32_840 : BitVec 32}
    (hQ : ∀ (u0 : BitVec 32) (u1 : BitVec 1) (u2 : BitVec 32), RS I K c f0 R 32 5 ![⟨2, 2, 1, 0, 1, 0, 3, 2⟩, ⟨2, 2, 1, 0, 1, 0, 3, 2⟩, ⟨2, 2, 1, 0, 1, 0, 3, 2⟩, ⟨2, 2, 1, 0, 1, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ Q ⟨u0, u1, u2⟩) :
    RS I K c f0 R 32 5 ![⟨2, 2, 1, 0, 1, 0, 3, 2⟩, ⟨2, 2, 1, 0, 1, 0, 3, 2⟩, ⟨2, 2, 1, 0, 1, 0, 3, 2⟩, ⟨2, 1, 0, 0, 0, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ WP c (k0_part33 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v978 c512_i32_840) Q := by
  rw [k0_part33_eq_skeleton]
  unfold k0_part33_skel
  refine rs_ldacc 3 1 (by decide +kernel) (of18 c 1) ?_
  refine rs_ldcomm 3 1 (by decide +kernel) rfl rfl ?_
  refine rs_ldacc 3 1 (by decide +kernel) (of18 c 1) ?_
  refine rs_store 3 1 (by decide +kernel) (of18 c 1) rfl ?_
  refine rs_sendwait 3 0 (by decide +kernel) rfl rfl ?_
  refine rs_credwait 3 0 (by decide +kernel) rfl rfl ?_
  exact RS_eq (by decide +kernel) ((hQ _ _ _).trans (wp_ret_intro _ _))

theorem part34 {R : sProp 𝕄} {Q : (BitVec 32) → sProp 𝕄} {v2 : BitVec 32} {v13 : BitVec 32} {v24 : BitVec 32} {v1008 : BitVec 32} {v1013 : BitVec 1} {v1014 : BitVec 32}
    (hQ : ∀ (u0 : BitVec 32), RS I K c f0 R 34 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ Q u0) :
    RS I K c f0 R 32 5 ![⟨2, 2, 1, 0, 1, 0, 3, 2⟩, ⟨2, 2, 1, 0, 1, 0, 3, 2⟩, ⟨2, 2, 1, 0, 1, 0, 3, 2⟩, ⟨2, 2, 1, 0, 1, 0, 2, 1⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ WP c (k0_part34 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v1008 v1013 v1014) Q := by
  rw [k0_part34_eq_skeleton]
  unfold k0_part34_skel
  refine rs_send 3 2 (by decide +kernel) (dv33 c) (of6 c 2) rfl rfl rfl rfl ?_
  refine rs_signal 3 1 (by decide +kernel) (dv34 c) rfl rfl ?_
  exact RS_eq (by decide +kernel) ((hQ _).trans (wp_ret_intro _ _))

theorem part35 {R : sProp 𝕄} {Q : (BitVec 32) → sProp 𝕄} {v2 : BitVec 32} {v24 : BitVec 32} {v1042 : BitVec 32}
    (hQ : ∀ (u0 : BitVec 32), RS I K c f0 R 34 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 2, 1⟩, ⟨1, 1, 0, 0, 0, 0, 2, 1⟩, ⟨1, 1, 0, 0, 0, 0, 2, 1⟩, ⟨1, 1, 0, 0, 0, 0, 2, 1⟩] ⊢ Q u0) :
    RS I K c f0 R 34 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨1, 1, 0, 0, 0, 0, 2, 1⟩, ⟨1, 1, 0, 0, 0, 0, 2, 1⟩, ⟨1, 1, 0, 0, 0, 0, 2, 1⟩, ⟨1, 1, 0, 0, 0, 0, 2, 1⟩] ⊢ WP c (k0_part35 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v1042) Q := by
  rw [k0_part35_eq_skeleton]
  unfold k0_part35_skel
  refine rs_recv 4 1 (by decide +kernel) rfl rfl ?_
  refine rs_ldacc 4 1 (by decide +kernel) (of19 c 1) ?_
  refine rs_ldcomm 4 1 (by decide +kernel) rfl rfl ?_
  refine rs_ldacc 4 1 (by decide +kernel) (of19 c 1) ?_
  refine rs_store 4 1 (by decide +kernel) (of19 c 1) rfl ?_
  refine rs_sendwait 4 0 (by decide +kernel) rfl rfl ?_
  refine rs_credwait 4 0 (by decide +kernel) rfl rfl ?_
  exact RS_eq (by decide +kernel) ((hQ _).trans (wp_ret_intro _ _))

theorem part36 {R : sProp 𝕄} {Q : (Σ' (v1098 : BitVec 32), BitVec 32) → sProp 𝕄} {v2 : BitVec 32} {v13 : BitVec 32} {v24 : BitVec 32} {v1069 : BitVec 32}
    (hQ : ∀ (u0 : BitVec 32) (u1 : BitVec 32), RS I K c f0 R 36 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨1, 1, 0, 0, 0, 0, 2, 1⟩, ⟨1, 1, 0, 0, 0, 0, 2, 1⟩, ⟨1, 1, 0, 0, 0, 0, 2, 1⟩] ⊢ Q ⟨u0, u1⟩) :
    RS I K c f0 R 34 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 2, 1⟩, ⟨1, 1, 0, 0, 0, 0, 2, 1⟩, ⟨1, 1, 0, 0, 0, 0, 2, 1⟩, ⟨1, 1, 0, 0, 0, 0, 2, 1⟩] ⊢ WP c (k0_part36 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v1069) Q := by
  rw [k0_part36_eq_skeleton]
  unfold k0_part36_skel
  refine rs_send 4 2 (by decide +kernel) (dv35 c) (of7 c 2) rfl rfl rfl rfl ?_
  refine rs_signal 4 1 (by decide +kernel) (dv36 c) rfl rfl ?_
  exact RS_eq (by decide +kernel) ((hQ _ _).trans (wp_ret_intro _ _))

theorem part37 {R : sProp 𝕄} {Q : (PUnit) → sProp 𝕄} {v13 : BitVec 32} {v1098 : BitVec 32} {v1099 : BitVec 32}
    (hQ : RS I K c f0 R 36 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 0, 0, 0, 0, 2, 1⟩, ⟨1, 1, 0, 0, 0, 0, 2, 1⟩, ⟨1, 1, 0, 0, 0, 0, 2, 1⟩] ⊢ Q ⟨⟩) :
    RS I K c f0 R 36 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨1, 1, 0, 0, 0, 0, 2, 1⟩, ⟨1, 1, 0, 0, 0, 0, 2, 1⟩, ⟨1, 1, 0, 0, 0, 0, 2, 1⟩] ⊢ WP c (k0_part37 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v13 v1098 v1099) Q := by
  rw [k0_part37_eq_skeleton]
  unfold k0_part37_skel
  refine rs_recv 5 1 (by decide +kernel) rfl rfl ?_
  refine rs_ldacc 5 1 (by decide +kernel) (of20 c 1) ?_
  refine rs_ldcomm 5 1 (by decide +kernel) rfl rfl ?_
  refine rs_ldacc 5 1 (by decide +kernel) (of20 c 1) ?_
  refine rs_store 5 1 (by decide +kernel) (of20 c 1) rfl ?_
  exact RS_eq (by decide +kernel) ((hQ).trans (wp_ret_intro _ _))

theorem part38 {R : sProp 𝕄} {Q : (PUnit) → sProp 𝕄} {v2 : BitVec 32} {v13 : BitVec 32}
    (hQ : RS I K c f0 R 37 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 1⟩, ⟨1, 1, 0, 0, 0, 0, 2, 1⟩, ⟨1, 1, 0, 0, 0, 0, 2, 1⟩] ⊢ Q ⟨⟩) :
    RS I K c f0 R 36 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 0, 0, 0, 0, 2, 1⟩, ⟨1, 1, 0, 0, 0, 0, 2, 1⟩, ⟨1, 1, 0, 0, 0, 0, 2, 1⟩] ⊢ WP c (k0_part38 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part38_eq_skeleton]
  unfold k0_part38_skel
  refine rs_sendwait 5 0 (by decide +kernel) rfl rfl ?_
  refine rs_credwait 5 0 (by decide +kernel) rfl rfl ?_
  refine rs_send 5 2 (by decide +kernel) (dv37 c) (of8 c 2) rfl rfl rfl rfl ?_
  exact RS_eq (by decide +kernel) ((hQ).trans (wp_ret_intro _ _))

theorem part39 {R : sProp 𝕄} {Q : (Σ' (v1185 : FVec F S512x256 .bf16), BitVec 32) → sProp 𝕄} {v2 : BitVec 32} {v24 : BitVec 32}
    (hQ : ∀ (u1 : BitVec 32), RS I K c f0 R 38 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 1, 0, 0, 0, 0, 2, 1⟩, ⟨1, 1, 0, 0, 0, 0, 2, 1⟩] ⊢ Q ⟨(k0_pay21 (gv I c 2 6) (cv I c 1 6)), u1⟩) :
    RS I K c f0 R 37 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 1⟩, ⟨1, 1, 0, 0, 0, 0, 2, 1⟩, ⟨1, 1, 0, 0, 0, 0, 2, 1⟩] ⊢ WP c (k0_part39 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24) Q := by
  rw [k0_part39_eq_skeleton]
  unfold k0_part39_skel
  refine rs_signal 5 1 (by decide +kernel) (dv38 c) rfl rfl ?_
  refine rs_recv 6 1 (by decide +kernel) rfl rfl ?_
  refine rs_ldacc 6 1 (by decide +kernel) (of21 c 1) ?_
  refine rs_ldcomm 6 1 (by decide +kernel) rfl rfl ?_
  exact RS_eq (by decide +kernel) ((hQ _).trans (wp_ret_intro _ _))

theorem part40 {R : sProp 𝕄} {Q : (PUnit) → sProp 𝕄} {v2 : BitVec 32} {v24 : BitVec 32} {v1186 : BitVec 32}
    (hQ : RS I K c f0 R 38 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 2, 1⟩, ⟨1, 1, 0, 0, 0, 0, 2, 1⟩] ⊢ Q ⟨⟩) :
    RS I K c f0 R 38 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 1, 0, 0, 0, 0, 2, 1⟩, ⟨1, 1, 0, 0, 0, 0, 2, 1⟩] ⊢ WP c (k0_part40 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 (k0_pay21 (gv I c 2 6) (cv I c 1 6)) v1186) Q := by
  rw [k0_part40_eq_skeleton]
  unfold k0_part40_skel
  refine rs_ldacc 6 1 (by decide +kernel) (of21 c 1) ?_
  refine rs_store 6 1 (by decide +kernel) (of21 c 1) rfl ?_
  refine rs_sendwait 6 0 (by decide +kernel) rfl rfl ?_
  refine rs_credwait 6 0 (by decide +kernel) rfl rfl ?_
  exact RS_eq (by decide +kernel) ((hQ).trans (wp_ret_intro _ _))

theorem part41 {R : sProp 𝕄} {Q : (Σ' (v1234 : BitVec 32), BitVec 32) → sProp 𝕄} {v2 : BitVec 32} {v13 : BitVec 32}
    (hQ : ∀ (u0 : BitVec 32) (u1 : BitVec 32), RS I K c f0 R 40 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 1, 0, 0, 0, 0, 2, 1⟩] ⊢ Q ⟨u0, u1⟩) :
    RS I K c f0 R 38 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 2, 1⟩, ⟨1, 1, 0, 0, 0, 0, 2, 1⟩] ⊢ WP c (k0_part41 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part41_eq_skeleton]
  unfold k0_part41_skel
  refine rs_send 6 2 (by decide +kernel) (dv39 c) (of9 c 2) rfl rfl rfl rfl ?_
  refine rs_signal 6 1 (by decide +kernel) (dv40 c) rfl rfl ?_
  refine rs_recv 7 1 (by decide +kernel) rfl rfl ?_
  exact RS_eq (by decide +kernel) ((hQ _ _).trans (wp_ret_intro _ _))

theorem part42 {R : sProp 𝕄} {Q : (Σ' (v1264 : BitVec 32) (v1269 : BitVec 1), BitVec 32) → sProp 𝕄} {v2 : BitVec 32} {v1234 : BitVec 32} {c512_i32_1100 : BitVec 32}
    (hQ : ∀ (u0 : BitVec 32) (u1 : BitVec 1) (u2 : BitVec 32), RS I K c f0 R 40 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 2, 1⟩] ⊢ Q ⟨u0, u1, u2⟩) :
    RS I K c f0 R 40 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 1, 0, 0, 0, 0, 2, 1⟩] ⊢ WP c (k0_part42 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v1234 c512_i32_1100) Q := by
  rw [k0_part42_eq_skeleton]
  unfold k0_part42_skel
  refine rs_ldacc 7 1 (by decide +kernel) (of22 c 1) ?_
  refine rs_ldcomm 7 1 (by decide +kernel) rfl rfl ?_
  refine rs_ldacc 7 1 (by decide +kernel) (of22 c 1) ?_
  refine rs_store 7 1 (by decide +kernel) (of22 c 1) rfl ?_
  refine rs_sendwait 7 0 (by decide +kernel) rfl rfl ?_
  refine rs_credwait 7 0 (by decide +kernel) rfl rfl ?_
  exact RS_eq (by decide +kernel) ((hQ _ _ _).trans (wp_ret_intro _ _))

theorem part43 {R : sProp 𝕄} {Q : (BitVec 32) → sProp 𝕄} {v2 : BitVec 32} {v13 : BitVec 32} {v24 : BitVec 32} {v1264 : BitVec 32} {v1269 : BitVec 1} {v1270 : BitVec 32}
    (hQ : ∀ (u0 : BitVec 32), RS I K c f0 R 42 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ Q u0) :
    RS I K c f0 R 40 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 2, 1⟩] ⊢ WP c (k0_part43 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v1264 v1269 v1270) Q := by
  rw [k0_part43_eq_skeleton]
  unfold k0_part43_skel
  refine rs_send 7 2 (by decide +kernel) (dv41 c) (of10 c 2) rfl rfl rfl rfl ?_
  refine rs_signal 7 1 (by decide +kernel) (dv42 c) rfl rfl ?_
  exact RS_eq (by decide +kernel) ((hQ _).trans (wp_ret_intro _ _))

theorem part44 {R : sProp 𝕄} {Q : (Σ' (v1337 : BitVec 32), BitVec 32) → sProp 𝕄} {v2 : BitVec 32} {v1298 : BitVec 32}
    (hQ : ∀ (u0 : BitVec 32) (u1 : BitVec 32), RS I K c f0 R 42 7 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ Q ⟨u0, u1⟩) :
    RS I K c f0 R 42 5 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ WP c (k0_part44 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v1298) Q := by
  rw [k0_part44_eq_skeleton]
  unfold k0_part44_skel
  refine rs_ldx (i := ch 0 3 c) (of11 c 2) ?_
  refine rs_ldw ?_
  refine rs_ldrow (by decide) (by decide +kernel) (of12 c 2) (fun _ => ?_)
  refine rs_strow (by decide) (by decide +kernel) (of12 c 2) rfl ?_
  refine rs_ldx (i := ch 0 5 c) (of13' c 2) ?_
  refine rs_ldw ?_
  refine rs_ldrow (by decide) (by decide +kernel) (of14' c 2) (fun _ => ?_)
  refine rs_strow (by decide) (by decide +kernel) (of14' c 2) rfl ?_
  exact RS_eq (by decide +kernel) ((hQ _ _).trans (wp_ret_intro _ _))

theorem part45 {R : sProp 𝕄} {Q : (PUnit) → sProp 𝕄} {v24 : BitVec 32} {v1337 : BitVec 32} {c1_i32_1177 : BitVec 32}
    (hQ : RS I K c f0 R 42 7 ![⟨3, 3, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ Q ⟨⟩) :
    RS I K c f0 R 42 7 ![⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ WP c (k0_part45 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v24 v1337 c1_i32_1177) Q := by
  rw [k0_part45_eq_skeleton]
  unfold k0_part45_skel
  refine rs_recv 0 2 (by decide +kernel) rfl rfl ?_
  refine rs_ldacc 0 2 (by decide +kernel) (of15 c 2) ?_
  refine rs_ldcomm 0 2 (by decide +kernel) rfl rfl ?_
  refine rs_ldacc 0 2 (by decide +kernel) (of15 c 2) ?_
  refine rs_store 0 2 (by decide +kernel) (of15 c 2) rfl ?_
  exact RS_eq (by decide +kernel) ((hQ).trans (wp_ret_intro _ _))

theorem part46 {R : sProp 𝕄} {Q : (PUnit) → sProp 𝕄} {v2 : BitVec 32} {v24 : BitVec 32}
    (hQ : RS I K c f0 R 42 7 ![⟨3, 3, 1, 1, 1, 1, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ Q ⟨⟩) :
    RS I K c f0 R 42 7 ![⟨3, 3, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ WP c (k0_part46 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24) Q := by
  rw [k0_part46_eq_skeleton]
  unfold k0_part46_skel
  refine rs_sendwait 0 1 (by decide +kernel) rfl rfl ?_
  refine rs_credwait 0 1 (by decide +kernel) rfl rfl ?_
  exact RS_eq (by decide +kernel) ((hQ).trans (wp_ret_intro _ _))

end Parts

end K
-- ==== Proof.K.Rs3.lean ====
module

public import proofs.«01_k».proof.Proof.K.Pre

/-!
# The pieces of the reduce-scatter, 3
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Parts

variable {I : In F} {K : Dev nD × Kn → ℕ} {c : Dev nD} {f0 : Vec F S4096x2048 .bf16}

theorem part47 {R : sProp 𝕄} {Q : (Σ' (v1412 : BitVec 32), FVec F S512x256 .bf16) → sProp 𝕄} {v2 : BitVec 32} {v13 : BitVec 32}
    (hQ : ∀ (u0 : BitVec 32), RS I K c f0 R 44 7 ![⟨3, 3, 1, 1, 1, 1, 4, 3⟩, ⟨3, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ Q ⟨u0, (k0_pay26 (gv I c 3 1))⟩) :
    RS I K c f0 R 42 7 ![⟨3, 3, 1, 1, 1, 1, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ WP c (k0_part47 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part47_eq_skeleton]
  unfold k0_part47_skel
  refine rs_send 0 3 (by decide +kernel) (dv43 c) (of3 c 3) rfl rfl rfl rfl ?_
  refine rs_signal 0 2 (by decide +kernel) (dv44 c) rfl rfl ?_
  refine rs_recv 1 2 (by decide +kernel) rfl rfl ?_
  refine rs_ldacc 1 2 (by decide +kernel) (of16 c 2) ?_
  exact RS_eq (by decide +kernel) ((hQ _).trans (wp_ret_intro _ _))

theorem part48 {R : sProp 𝕄} {Q : (PUnit) → sProp 𝕄} {v2 : BitVec 32} {v1412 : BitVec 32}
    (hQ : RS I K c f0 R 44 7 ![⟨3, 3, 1, 1, 1, 1, 4, 3⟩, ⟨3, 3, 1, 1, 1, 1, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ Q ⟨⟩) :
    RS I K c f0 R 44 7 ![⟨3, 3, 1, 1, 1, 1, 4, 3⟩, ⟨3, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ WP c (k0_part48 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v1412 (k0_pay26 (gv I c 3 1))) Q := by
  rw [k0_part48_eq_skeleton]
  unfold k0_part48_skel
  refine rs_ldcomm 1 2 (by decide +kernel) rfl rfl ?_
  refine rs_ldacc 1 2 (by decide +kernel) (of16 c 2) ?_
  refine rs_store 1 2 (by decide +kernel) (of16 c 2) rfl ?_
  refine rs_sendwait 1 1 (by decide +kernel) rfl rfl ?_
  refine rs_credwait 1 1 (by decide +kernel) rfl rfl ?_
  exact RS_eq (by decide +kernel) ((hQ).trans (wp_ret_intro _ _))

theorem part49 {R : sProp 𝕄} {Q : (BitVec 32) → sProp 𝕄} {v2 : BitVec 32} {v13 : BitVec 32} {v24 : BitVec 32}
    (hQ : ∀ (u0 : BitVec 32), RS I K c f0 R 46 7 ![⟨3, 3, 1, 1, 1, 1, 4, 3⟩, ⟨3, 3, 1, 1, 1, 1, 4, 3⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ Q u0) :
    RS I K c f0 R 44 7 ![⟨3, 3, 1, 1, 1, 1, 4, 3⟩, ⟨3, 3, 1, 1, 1, 1, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ WP c (k0_part49 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24) Q := by
  rw [k0_part49_eq_skeleton]
  unfold k0_part49_skel
  refine rs_send 1 3 (by decide +kernel) (dv45 c) (of4 c 3) rfl rfl rfl rfl ?_
  refine rs_signal 1 2 (by decide +kernel) (dv46 c) rfl rfl ?_
  exact RS_eq (by decide +kernel) ((hQ _).trans (wp_ret_intro _ _))

theorem part50 {R : sProp 𝕄} {Q : (Σ' (v1505 : BitVec 32) (v1506 : BitVec 32), BitVec 1) → sProp 𝕄} {v2 : BitVec 32} {v1476 : BitVec 32}
    (hQ : ∀ (u0 : BitVec 32) (u1 : BitVec 32) (u2 : BitVec 1), RS I K c f0 R 46 7 ![⟨3, 3, 1, 1, 1, 1, 4, 3⟩, ⟨3, 3, 1, 1, 1, 1, 4, 3⟩, ⟨3, 3, 1, 1, 1, 1, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ Q ⟨u0, u1, u2⟩) :
    RS I K c f0 R 46 7 ![⟨3, 3, 1, 1, 1, 1, 4, 3⟩, ⟨3, 3, 1, 1, 1, 1, 4, 3⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ WP c (k0_part50 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v1476) Q := by
  rw [k0_part50_eq_skeleton]
  unfold k0_part50_skel
  refine rs_recv 2 2 (by decide +kernel) rfl rfl ?_
  refine rs_ldacc 2 2 (by decide +kernel) (of17 c 2) ?_
  refine rs_ldcomm 2 2 (by decide +kernel) rfl rfl ?_
  refine rs_ldacc 2 2 (by decide +kernel) (of17 c 2) ?_
  refine rs_store 2 2 (by decide +kernel) (of17 c 2) rfl ?_
  refine rs_sendwait 2 1 (by decide +kernel) rfl rfl ?_
  refine rs_credwait 2 1 (by decide +kernel) rfl rfl ?_
  exact RS_eq (by decide +kernel) ((hQ _ _ _).trans (wp_ret_intro _ _))

theorem part51 {R : sProp 𝕄} {Q : (Σ' (v1532 : BitVec 32) (v1533 : BitVec 32), BitVec 1) → sProp 𝕄} {v2 : BitVec 32} {v13 : BitVec 32} {v24 : BitVec 32} {v1505 : BitVec 32} {v1506 : BitVec 32} {v1507 : BitVec 1}
    (hQ : ∀ (u0 : BitVec 32) (u1 : BitVec 32) (u2 : BitVec 1), RS I K c f0 R 48 7 ![⟨3, 3, 1, 1, 1, 1, 4, 3⟩, ⟨3, 3, 1, 1, 1, 1, 4, 3⟩, ⟨3, 3, 1, 1, 1, 1, 4, 3⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ Q ⟨u0, u1, u2⟩) :
    RS I K c f0 R 46 7 ![⟨3, 3, 1, 1, 1, 1, 4, 3⟩, ⟨3, 3, 1, 1, 1, 1, 4, 3⟩, ⟨3, 3, 1, 1, 1, 1, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ WP c (k0_part51 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v1505 v1506 v1507) Q := by
  rw [k0_part51_eq_skeleton]
  unfold k0_part51_skel
  refine rs_send 2 3 (by decide +kernel) (dv47 c) (of5 c 3) rfl rfl rfl rfl ?_
  refine rs_signal 2 2 (by decide +kernel) (dv48 c) rfl rfl ?_
  exact RS_eq (by decide +kernel) ((hQ _ _ _).trans (wp_ret_intro _ _))

theorem part52 {R : sProp 𝕄} {Q : (PUnit) → sProp 𝕄} {v13 : BitVec 32} {v1532 : BitVec 32} {v1533 : BitVec 32} {v1538 : BitVec 1}
    (hQ : RS I K c f0 R 48 7 ![⟨3, 3, 1, 1, 1, 1, 4, 3⟩, ⟨3, 3, 1, 1, 1, 1, 4, 3⟩, ⟨3, 3, 1, 1, 1, 1, 4, 3⟩, ⟨3, 3, 1, 1, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ Q ⟨⟩) :
    RS I K c f0 R 48 7 ![⟨3, 3, 1, 1, 1, 1, 4, 3⟩, ⟨3, 3, 1, 1, 1, 1, 4, 3⟩, ⟨3, 3, 1, 1, 1, 1, 4, 3⟩, ⟨2, 2, 1, 0, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ WP c (k0_part52 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v13 v1532 v1533 v1538) Q := by
  rw [k0_part52_eq_skeleton]
  unfold k0_part52_skel
  refine rs_recv 3 2 (by decide +kernel) rfl rfl ?_
  refine rs_ldacc 3 2 (by decide +kernel) (of18 c 2) ?_
  refine rs_ldcomm 3 2 (by decide +kernel) rfl rfl ?_
  refine rs_ldacc 3 2 (by decide +kernel) (of18 c 2) ?_
  refine rs_store 3 2 (by decide +kernel) (of18 c 2) rfl ?_
  refine rs_sendwait 3 1 (by decide +kernel) rfl rfl ?_
  exact RS_eq (by decide +kernel) ((hQ).trans (wp_ret_intro _ _))

theorem part53 {R : sProp 𝕄} {Q : (Σ' (v1593 : BitVec 32), BitVec 32) → sProp 𝕄} {v2 : BitVec 32} {v13 : BitVec 32} {v24 : BitVec 32}
    (hQ : ∀ (u0 : BitVec 32) (u1 : BitVec 32), RS I K c f0 R 50 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ Q ⟨u0, u1⟩) :
    RS I K c f0 R 48 7 ![⟨3, 3, 1, 1, 1, 1, 4, 3⟩, ⟨3, 3, 1, 1, 1, 1, 4, 3⟩, ⟨3, 3, 1, 1, 1, 1, 4, 3⟩, ⟨3, 3, 1, 1, 1, 0, 3, 2⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ WP c (k0_part53 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24) Q := by
  rw [k0_part53_eq_skeleton]
  unfold k0_part53_skel
  refine rs_credwait 3 1 (by decide +kernel) rfl rfl ?_
  refine rs_send 3 3 (by decide +kernel) (dv49 c) (of6 c 3) rfl rfl rfl rfl ?_
  refine rs_signal 3 2 (by decide +kernel) (dv50 c) rfl rfl ?_
  exact RS_eq (by decide +kernel) ((hQ _ _).trans (wp_ret_intro _ _))

theorem part54 {R : sProp 𝕄} {Q : (PUnit) → sProp 𝕄} {v24 : BitVec 32} {v1593 : BitVec 32} {c1_i32_1437 : BitVec 32}
    (hQ : RS I K c f0 R 50 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 0, 1, 0, 3, 2⟩, ⟨2, 2, 1, 0, 1, 0, 3, 2⟩, ⟨2, 2, 1, 0, 1, 0, 3, 2⟩, ⟨2, 2, 1, 0, 1, 0, 3, 2⟩] ⊢ Q ⟨⟩) :
    RS I K c f0 R 50 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨2, 2, 1, 0, 1, 0, 3, 2⟩, ⟨2, 2, 1, 0, 1, 0, 3, 2⟩, ⟨2, 2, 1, 0, 1, 0, 3, 2⟩, ⟨2, 2, 1, 0, 1, 0, 3, 2⟩] ⊢ WP c (k0_part54 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v24 v1593 c1_i32_1437) Q := by
  rw [k0_part54_eq_skeleton]
  unfold k0_part54_skel
  refine rs_recv 4 2 (by decide +kernel) rfl rfl ?_
  refine rs_ldacc 4 2 (by decide +kernel) (of19 c 2) ?_
  refine rs_ldcomm 4 2 (by decide +kernel) rfl rfl ?_
  refine rs_ldacc 4 2 (by decide +kernel) (of19 c 2) ?_
  refine rs_store 4 2 (by decide +kernel) (of19 c 2) rfl ?_
  exact RS_eq (by decide +kernel) ((hQ).trans (wp_ret_intro _ _))

theorem part55 {R : sProp 𝕄} {Q : (PUnit) → sProp 𝕄} {v2 : BitVec 32} {v24 : BitVec 32}
    (hQ : RS I K c f0 R 50 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 3, 2⟩, ⟨2, 2, 1, 0, 1, 0, 3, 2⟩, ⟨2, 2, 1, 0, 1, 0, 3, 2⟩, ⟨2, 2, 1, 0, 1, 0, 3, 2⟩] ⊢ Q ⟨⟩) :
    RS I K c f0 R 50 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 0, 1, 0, 3, 2⟩, ⟨2, 2, 1, 0, 1, 0, 3, 2⟩, ⟨2, 2, 1, 0, 1, 0, 3, 2⟩, ⟨2, 2, 1, 0, 1, 0, 3, 2⟩] ⊢ WP c (k0_part55 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24) Q := by
  rw [k0_part55_eq_skeleton]
  unfold k0_part55_skel
  refine rs_sendwait 4 1 (by decide +kernel) rfl rfl ?_
  refine rs_credwait 4 1 (by decide +kernel) rfl rfl ?_
  exact RS_eq (by decide +kernel) ((hQ).trans (wp_ret_intro _ _))

theorem part56 {R : sProp 𝕄} {Q : (Σ' (v1668 : BitVec 32), FVec F S512x256 .bf16) → sProp 𝕄} {v2 : BitVec 32} {v13 : BitVec 32}
    (hQ : ∀ (u0 : BitVec 32), RS I K c f0 R 52 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 2, 1, 0, 1, 0, 3, 2⟩, ⟨2, 2, 1, 0, 1, 0, 3, 2⟩, ⟨2, 2, 1, 0, 1, 0, 3, 2⟩] ⊢ Q ⟨u0, (k0_pay31 (gv I c 3 5))⟩) :
    RS I K c f0 R 50 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 3, 2⟩, ⟨2, 2, 1, 0, 1, 0, 3, 2⟩, ⟨2, 2, 1, 0, 1, 0, 3, 2⟩, ⟨2, 2, 1, 0, 1, 0, 3, 2⟩] ⊢ WP c (k0_part56 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part56_eq_skeleton]
  unfold k0_part56_skel
  refine rs_send 4 3 (by decide +kernel) (dv51 c) (of7 c 3) rfl rfl rfl rfl ?_
  refine rs_signal 4 2 (by decide +kernel) (dv52 c) rfl rfl ?_
  refine rs_recv 5 2 (by decide +kernel) rfl rfl ?_
  refine rs_ldacc 5 2 (by decide +kernel) (of20 c 2) ?_
  exact RS_eq (by decide +kernel) ((hQ _).trans (wp_ret_intro _ _))

theorem part57 {R : sProp 𝕄} {Q : (PUnit) → sProp 𝕄} {v2 : BitVec 32} {v1668 : BitVec 32}
    (hQ : RS I K c f0 R 52 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 3, 2⟩, ⟨2, 2, 1, 0, 1, 0, 3, 2⟩, ⟨2, 2, 1, 0, 1, 0, 3, 2⟩] ⊢ Q ⟨⟩) :
    RS I K c f0 R 52 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 2, 1, 0, 1, 0, 3, 2⟩, ⟨2, 2, 1, 0, 1, 0, 3, 2⟩, ⟨2, 2, 1, 0, 1, 0, 3, 2⟩] ⊢ WP c (k0_part57 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v1668 (k0_pay31 (gv I c 3 5))) Q := by
  rw [k0_part57_eq_skeleton]
  unfold k0_part57_skel
  refine rs_ldcomm 5 2 (by decide +kernel) rfl rfl ?_
  refine rs_ldacc 5 2 (by decide +kernel) (of20 c 2) ?_
  refine rs_store 5 2 (by decide +kernel) (of20 c 2) rfl ?_
  refine rs_sendwait 5 1 (by decide +kernel) rfl rfl ?_
  refine rs_credwait 5 1 (by decide +kernel) rfl rfl ?_
  exact RS_eq (by decide +kernel) ((hQ).trans (wp_ret_intro _ _))

theorem part58 {R : sProp 𝕄} {Q : (BitVec 32) → sProp 𝕄} {v2 : BitVec 32} {v13 : BitVec 32} {v24 : BitVec 32}
    (hQ : ∀ (u0 : BitVec 32), RS I K c f0 R 54 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨2, 2, 1, 0, 1, 0, 3, 2⟩, ⟨2, 2, 1, 0, 1, 0, 3, 2⟩] ⊢ Q u0) :
    RS I K c f0 R 52 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 3, 2⟩, ⟨2, 2, 1, 0, 1, 0, 3, 2⟩, ⟨2, 2, 1, 0, 1, 0, 3, 2⟩] ⊢ WP c (k0_part58 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24) Q := by
  rw [k0_part58_eq_skeleton]
  unfold k0_part58_skel
  refine rs_send 5 3 (by decide +kernel) (dv53 c) (of8 c 3) rfl rfl rfl rfl ?_
  refine rs_signal 5 2 (by decide +kernel) (dv54 c) rfl rfl ?_
  exact RS_eq (by decide +kernel) ((hQ _).trans (wp_ret_intro _ _))

theorem part59 {R : sProp 𝕄} {Q : (Σ' (v1761 : BitVec 32) (v1762 : BitVec 32), BitVec 1) → sProp 𝕄} {v2 : BitVec 32} {v1732 : BitVec 32}
    (hQ : ∀ (u0 : BitVec 32) (u1 : BitVec 32) (u2 : BitVec 1), RS I K c f0 R 54 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 3, 2⟩, ⟨2, 2, 1, 0, 1, 0, 3, 2⟩] ⊢ Q ⟨u0, u1, u2⟩) :
    RS I K c f0 R 54 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨2, 2, 1, 0, 1, 0, 3, 2⟩, ⟨2, 2, 1, 0, 1, 0, 3, 2⟩] ⊢ WP c (k0_part59 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v1732) Q := by
  rw [k0_part59_eq_skeleton]
  unfold k0_part59_skel
  refine rs_recv 6 2 (by decide +kernel) rfl rfl ?_
  refine rs_ldacc 6 2 (by decide +kernel) (of21 c 2) ?_
  refine rs_ldcomm 6 2 (by decide +kernel) rfl rfl ?_
  refine rs_ldacc 6 2 (by decide +kernel) (of21 c 2) ?_
  refine rs_store 6 2 (by decide +kernel) (of21 c 2) rfl ?_
  refine rs_sendwait 6 1 (by decide +kernel) rfl rfl ?_
  refine rs_credwait 6 1 (by decide +kernel) rfl rfl ?_
  exact RS_eq (by decide +kernel) ((hQ _ _ _).trans (wp_ret_intro _ _))

theorem part60 {R : sProp 𝕄} {Q : (Σ' (v1788 : BitVec 32) (v1789 : BitVec 32), BitVec 1) → sProp 𝕄} {v2 : BitVec 32} {v13 : BitVec 32} {v24 : BitVec 32} {v1761 : BitVec 32} {v1762 : BitVec 32} {v1763 : BitVec 1}
    (hQ : ∀ (u0 : BitVec 32) (u1 : BitVec 32) (u2 : BitVec 1), RS I K c f0 R 56 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨2, 2, 1, 0, 1, 0, 3, 2⟩] ⊢ Q ⟨u0, u1, u2⟩) :
    RS I K c f0 R 54 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 3, 2⟩, ⟨2, 2, 1, 0, 1, 0, 3, 2⟩] ⊢ WP c (k0_part60 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v1761 v1762 v1763) Q := by
  rw [k0_part60_eq_skeleton]
  unfold k0_part60_skel
  refine rs_send 6 3 (by decide +kernel) (dv55 c) (of9 c 3) rfl rfl rfl rfl ?_
  refine rs_signal 6 2 (by decide +kernel) (dv56 c) rfl rfl ?_
  exact RS_eq (by decide +kernel) ((hQ _ _ _).trans (wp_ret_intro _ _))

theorem part61 {R : sProp 𝕄} {Q : (PUnit) → sProp 𝕄} {v13 : BitVec 32} {v1788 : BitVec 32} {v1789 : BitVec 32} {v1794 : BitVec 1}
    (hQ : RS I K c f0 R 56 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 0, 3, 2⟩] ⊢ Q ⟨⟩) :
    RS I K c f0 R 56 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨2, 2, 1, 0, 1, 0, 3, 2⟩] ⊢ WP c (k0_part61 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v13 v1788 v1789 v1794) Q := by
  rw [k0_part61_eq_skeleton]
  unfold k0_part61_skel
  refine rs_recv 7 2 (by decide +kernel) rfl rfl ?_
  refine rs_ldacc 7 2 (by decide +kernel) (of22 c 2) ?_
  refine rs_ldcomm 7 2 (by decide +kernel) rfl rfl ?_
  refine rs_ldacc 7 2 (by decide +kernel) (of22 c 2) ?_
  refine rs_store 7 2 (by decide +kernel) (of22 c 2) rfl ?_
  refine rs_sendwait 7 1 (by decide +kernel) rfl rfl ?_
  exact RS_eq (by decide +kernel) ((hQ).trans (wp_ret_intro _ _))

theorem part62 {R : sProp 𝕄} {Q : (Σ' (v1849 : BitVec 32), BitVec 32) → sProp 𝕄} {v2 : BitVec 32} {v13 : BitVec 32} {v24 : BitVec 32}
    (hQ : ∀ (u0 : BitVec 32) (u1 : BitVec 32), RS I K c f0 R 58 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ Q ⟨u0, u1⟩) :
    RS I K c f0 R 56 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 0, 3, 2⟩] ⊢ WP c (k0_part62 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24) Q := by
  rw [k0_part62_eq_skeleton]
  unfold k0_part62_skel
  refine rs_credwait 7 1 (by decide +kernel) rfl rfl ?_
  refine rs_send 7 3 (by decide +kernel) (dv57 c) (of10 c 3) rfl rfl rfl rfl ?_
  refine rs_signal 7 2 (by decide +kernel) (dv58 c) rfl rfl ?_
  exact RS_eq (by decide +kernel) ((hQ _ _).trans (wp_ret_intro _ _))

theorem part63 {R : sProp 𝕄} {Q : (BitVec 32) → sProp 𝕄} {v2 : BitVec 32} {v1849 : BitVec 32} {c8_i32_1696 : BitVec 32}
    (hQ : ∀ (u0 : BitVec 32), RS I K c f0 R 58 8 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ Q u0) :
    RS I K c f0 R 58 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ WP c (k0_part63 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v1849 c8_i32_1696) Q := by
  rw [k0_part63_eq_skeleton]
  unfold k0_part63_skel
  refine rs_ldx (i := ch 0 4 c) (of23 c) ?_
  refine rs_ldw ?_
  refine rs_ldrow (by decide) (by decide +kernel) (of24 c) (fun _ => ?_)
  refine rs_strow (by decide) (by decide +kernel) (of24 c) rfl ?_
  exact RS_eq (by decide +kernel) ((hQ _).trans (wp_ret_intro _ _))

theorem part64 {R : sProp 𝕄} {Q : (BitVec 32) → sProp 𝕄} {v24 : BitVec 32} {v1884 : BitVec 32}
    (hQ : ∀ (u0 : BitVec 32), RS I K c f0 R 58 8 ![⟨4, 4, 2, 1, 2, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ Q u0) :
    RS I K c f0 R 58 8 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ WP c (k0_part64 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v24 v1884) Q := by
  rw [k0_part64_eq_skeleton]
  unfold k0_part64_skel
  refine rs_recv 0 3 (by decide +kernel) rfl rfl ?_
  refine rs_ldacc 0 3 (by decide +kernel) (of15 c 3) ?_
  refine rs_ldcomm 0 3 (by decide +kernel) rfl rfl ?_
  refine rs_ldacc 0 3 (by decide +kernel) (of15 c 3) ?_
  refine rs_store 0 3 (by decide +kernel) (of15 c 3) rfl ?_
  refine rs_sendwait 0 2 (by decide +kernel) rfl rfl ?_
  refine rs_credwait 0 2 (by decide +kernel) rfl rfl ?_
  exact RS_eq (by decide +kernel) ((hQ _).trans (wp_ret_intro _ _))

theorem part65 {R : sProp 𝕄} {Q : (Σ' (v1938 : BitVec 32), BitVec 32) → sProp 𝕄} {v2 : BitVec 32} {v13 : BitVec 32} {v24 : BitVec 32} {c4_i32_1750 : BitVec 32}
    (hQ : ∀ (u0 : BitVec 32) (u1 : BitVec 32), RS I K c f0 R 60 8 ![⟨4, 4, 2, 1, 2, 1, 5, 4⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ Q ⟨u0, u1⟩) :
    RS I K c f0 R 58 8 ![⟨4, 4, 2, 1, 2, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ WP c (k0_part65 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 c4_i32_1750) Q := by
  rw [k0_part65_eq_skeleton]
  unfold k0_part65_skel
  refine rs_send 0 4 (by decide +kernel) (dv59 c) (of3 c 4) rfl rfl rfl rfl ?_
  refine rs_signal 0 3 (by decide +kernel) (dv60 c) rfl rfl ?_
  exact RS_eq (by decide +kernel) ((hQ _ _).trans (wp_ret_intro _ _))

theorem part66 {R : sProp 𝕄} {Q : (PUnit) → sProp 𝕄} {v13 : BitVec 32} {v1938 : BitVec 32} {v1940 : BitVec 32}
    (hQ : RS I K c f0 R 60 8 ![⟨4, 4, 2, 1, 2, 1, 5, 4⟩, ⟨4, 4, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ Q ⟨⟩) :
    RS I K c f0 R 60 8 ![⟨4, 4, 2, 1, 2, 1, 5, 4⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ WP c (k0_part66 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v13 v1938 v1940) Q := by
  rw [k0_part66_eq_skeleton]
  unfold k0_part66_skel
  refine rs_recv 1 3 (by decide +kernel) rfl rfl ?_
  refine rs_ldacc 1 3 (by decide +kernel) (of16 c 3) ?_
  refine rs_ldcomm 1 3 (by decide +kernel) rfl rfl ?_
  refine rs_ldacc 1 3 (by decide +kernel) (of16 c 3) ?_
  refine rs_store 1 3 (by decide +kernel) (of16 c 3) rfl ?_
  exact RS_eq (by decide +kernel) ((hQ).trans (wp_ret_intro _ _))

theorem part67 {R : sProp 𝕄} {Q : (PUnit) → sProp 𝕄} {v2 : BitVec 32} {v13 : BitVec 32}
    (hQ : RS I K c f0 R 61 8 ![⟨4, 4, 2, 1, 2, 1, 5, 4⟩, ⟨4, 4, 2, 1, 2, 1, 5, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ Q ⟨⟩) :
    RS I K c f0 R 60 8 ![⟨4, 4, 2, 1, 2, 1, 5, 4⟩, ⟨4, 4, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ WP c (k0_part67 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part67_eq_skeleton]
  unfold k0_part67_skel
  refine rs_sendwait 1 2 (by decide +kernel) rfl rfl ?_
  refine rs_credwait 1 2 (by decide +kernel) rfl rfl ?_
  refine rs_send 1 4 (by decide +kernel) (dv61 c) (of4 c 4) rfl rfl rfl rfl ?_
  exact RS_eq (by decide +kernel) ((hQ).trans (wp_ret_intro _ _))

theorem part68 {R : sProp 𝕄} {Q : (Σ' (v2012 : BitVec 32) (v2027 : FVec F S512x256 .bf16), BitVec 32) → sProp 𝕄} {v2 : BitVec 32} {v24 : BitVec 32}
    (hQ : ∀ (u0 : BitVec 32) (u2 : BitVec 32), RS I K c f0 R 62 8 ![⟨4, 4, 2, 1, 2, 1, 5, 4⟩, ⟨4, 4, 2, 1, 2, 1, 5, 4⟩, ⟨4, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ Q ⟨u0, (k0_pay38 (gv I c 4 2) (cv I c 3 2)), u2⟩) :
    RS I K c f0 R 61 8 ![⟨4, 4, 2, 1, 2, 1, 5, 4⟩, ⟨4, 4, 2, 1, 2, 1, 5, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ WP c (k0_part68 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24) Q := by
  rw [k0_part68_eq_skeleton]
  unfold k0_part68_skel
  refine rs_signal 1 3 (by decide +kernel) (dv62 c) rfl rfl ?_
  refine rs_recv 2 3 (by decide +kernel) rfl rfl ?_
  refine rs_ldacc 2 3 (by decide +kernel) (of17 c 3) ?_
  refine rs_ldcomm 2 3 (by decide +kernel) rfl rfl ?_
  exact RS_eq (by decide +kernel) ((hQ _ _).trans (wp_ret_intro _ _))

end Parts

end K
-- ==== Proof.K.Rs4.lean ====
module

public import proofs.«01_k».proof.Proof.K.Pre

/-!
# The pieces of the reduce-scatter, 4
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Parts

variable {I : In F} {K : Dev nD × Kn → ℕ} {c : Dev nD} {f0 : Vec F S4096x2048 .bf16}

theorem part69 {R : sProp 𝕄} {Q : (PUnit) → sProp 𝕄} {v2 : BitVec 32} {v24 : BitVec 32} {v2012 : BitVec 32} {c512_i32_1864 : BitVec 32}
    (hQ : RS I K c f0 R 62 8 ![⟨4, 4, 2, 1, 2, 1, 5, 4⟩, ⟨4, 4, 2, 1, 2, 1, 5, 4⟩, ⟨4, 4, 2, 1, 2, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ Q ⟨⟩) :
    RS I K c f0 R 62 8 ![⟨4, 4, 2, 1, 2, 1, 5, 4⟩, ⟨4, 4, 2, 1, 2, 1, 5, 4⟩, ⟨4, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ WP c (k0_part69 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v2012 (k0_pay38 (gv I c 4 2) (cv I c 3 2)) c512_i32_1864) Q := by
  rw [k0_part69_eq_skeleton]
  unfold k0_part69_skel
  refine rs_ldacc 2 3 (by decide +kernel) (of17 c 3) ?_
  refine rs_store 2 3 (by decide +kernel) (of17 c 3) rfl ?_
  refine rs_sendwait 2 2 (by decide +kernel) rfl rfl ?_
  refine rs_credwait 2 2 (by decide +kernel) rfl rfl ?_
  exact RS_eq (by decide +kernel) ((hQ).trans (wp_ret_intro _ _))

theorem part70 {R : sProp 𝕄} {Q : (BitVec 32) → sProp 𝕄} {v2 : BitVec 32} {v13 : BitVec 32}
    (hQ : ∀ (u0 : BitVec 32), RS I K c f0 R 64 8 ![⟨4, 4, 2, 1, 2, 1, 5, 4⟩, ⟨4, 4, 2, 1, 2, 1, 5, 4⟩, ⟨4, 4, 2, 1, 2, 1, 5, 4⟩, ⟨4, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ Q u0) :
    RS I K c f0 R 62 8 ![⟨4, 4, 2, 1, 2, 1, 5, 4⟩, ⟨4, 4, 2, 1, 2, 1, 5, 4⟩, ⟨4, 4, 2, 1, 2, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ WP c (k0_part70 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part70_eq_skeleton]
  unfold k0_part70_skel
  refine rs_send 2 4 (by decide +kernel) (dv63 c) (of5 c 4) rfl rfl rfl rfl ?_
  refine rs_signal 2 3 (by decide +kernel) (dv64 c) rfl rfl ?_
  refine rs_recv 3 3 (by decide +kernel) rfl rfl ?_
  exact RS_eq (by decide +kernel) ((hQ _).trans (wp_ret_intro _ _))

theorem part71 {R : sProp 𝕄} {Q : (Σ' (v2105 : BitVec 32) (v2106 : BitVec 32), BitVec 1) → sProp 𝕄} {v2 : BitVec 32} {v2076 : BitVec 32}
    (hQ : ∀ (u0 : BitVec 32) (u1 : BitVec 32) (u2 : BitVec 1), RS I K c f0 R 64 8 ![⟨4, 4, 2, 1, 2, 1, 5, 4⟩, ⟨4, 4, 2, 1, 2, 1, 5, 4⟩, ⟨4, 4, 2, 1, 2, 1, 5, 4⟩, ⟨4, 4, 2, 1, 2, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ Q ⟨u0, u1, u2⟩) :
    RS I K c f0 R 64 8 ![⟨4, 4, 2, 1, 2, 1, 5, 4⟩, ⟨4, 4, 2, 1, 2, 1, 5, 4⟩, ⟨4, 4, 2, 1, 2, 1, 5, 4⟩, ⟨4, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ WP c (k0_part71 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v2076) Q := by
  rw [k0_part71_eq_skeleton]
  unfold k0_part71_skel
  refine rs_ldacc 3 3 (by decide +kernel) (of18 c 3) ?_
  refine rs_ldcomm 3 3 (by decide +kernel) rfl rfl ?_
  refine rs_ldacc 3 3 (by decide +kernel) (of18 c 3) ?_
  refine rs_store 3 3 (by decide +kernel) (of18 c 3) rfl ?_
  refine rs_sendwait 3 2 (by decide +kernel) rfl rfl ?_
  refine rs_credwait 3 2 (by decide +kernel) rfl rfl ?_
  exact RS_eq (by decide +kernel) ((hQ _ _ _).trans (wp_ret_intro _ _))

theorem part72 {R : sProp 𝕄} {Q : (BitVec 32) → sProp 𝕄} {v2 : BitVec 32} {v13 : BitVec 32} {v24 : BitVec 32} {v2105 : BitVec 32} {v2106 : BitVec 32} {v2111 : BitVec 1}
    (hQ : ∀ (u0 : BitVec 32), RS I K c f0 R 66 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ Q u0) :
    RS I K c f0 R 64 8 ![⟨4, 4, 2, 1, 2, 1, 5, 4⟩, ⟨4, 4, 2, 1, 2, 1, 5, 4⟩, ⟨4, 4, 2, 1, 2, 1, 5, 4⟩, ⟨4, 4, 2, 1, 2, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ WP c (k0_part72 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v2105 v2106 v2111) Q := by
  rw [k0_part72_eq_skeleton]
  unfold k0_part72_skel
  refine rs_send 3 4 (by decide +kernel) (dv65 c) (of6 c 4) rfl rfl rfl rfl ?_
  refine rs_signal 3 3 (by decide +kernel) (dv66 c) rfl rfl ?_
  exact RS_eq (by decide +kernel) ((hQ _).trans (wp_ret_intro _ _))

theorem part73 {R : sProp 𝕄} {Q : (BitVec 32) → sProp 𝕄} {v24 : BitVec 32} {v2140 : BitVec 32}
    (hQ : ∀ (u0 : BitVec 32), RS I K c f0 R 66 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 4, 3⟩, ⟨3, 3, 1, 1, 1, 1, 4, 3⟩, ⟨3, 3, 1, 1, 1, 1, 4, 3⟩, ⟨3, 3, 1, 1, 1, 1, 4, 3⟩] ⊢ Q u0) :
    RS I K c f0 R 66 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨3, 3, 1, 1, 1, 1, 4, 3⟩, ⟨3, 3, 1, 1, 1, 1, 4, 3⟩, ⟨3, 3, 1, 1, 1, 1, 4, 3⟩, ⟨3, 3, 1, 1, 1, 1, 4, 3⟩] ⊢ WP c (k0_part73 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v24 v2140) Q := by
  rw [k0_part73_eq_skeleton]
  unfold k0_part73_skel
  refine rs_recv 4 3 (by decide +kernel) rfl rfl ?_
  refine rs_ldacc 4 3 (by decide +kernel) (of19 c 3) ?_
  refine rs_ldcomm 4 3 (by decide +kernel) rfl rfl ?_
  refine rs_ldacc 4 3 (by decide +kernel) (of19 c 3) ?_
  refine rs_store 4 3 (by decide +kernel) (of19 c 3) rfl ?_
  refine rs_sendwait 4 2 (by decide +kernel) rfl rfl ?_
  refine rs_credwait 4 2 (by decide +kernel) rfl rfl ?_
  exact RS_eq (by decide +kernel) ((hQ _).trans (wp_ret_intro _ _))

theorem part74 {R : sProp 𝕄} {Q : (Σ' (v2194 : BitVec 32), BitVec 32) → sProp 𝕄} {v2 : BitVec 32} {v13 : BitVec 32} {v24 : BitVec 32} {c4_i32_2010 : BitVec 32}
    (hQ : ∀ (u0 : BitVec 32) (u1 : BitVec 32), RS I K c f0 R 68 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨3, 3, 1, 1, 1, 1, 4, 3⟩, ⟨3, 3, 1, 1, 1, 1, 4, 3⟩, ⟨3, 3, 1, 1, 1, 1, 4, 3⟩] ⊢ Q ⟨u0, u1⟩) :
    RS I K c f0 R 66 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 4, 3⟩, ⟨3, 3, 1, 1, 1, 1, 4, 3⟩, ⟨3, 3, 1, 1, 1, 1, 4, 3⟩, ⟨3, 3, 1, 1, 1, 1, 4, 3⟩] ⊢ WP c (k0_part74 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 c4_i32_2010) Q := by
  rw [k0_part74_eq_skeleton]
  unfold k0_part74_skel
  refine rs_send 4 4 (by decide +kernel) (dv67 c) (of7 c 4) rfl rfl rfl rfl ?_
  refine rs_signal 4 3 (by decide +kernel) (dv68 c) rfl rfl ?_
  exact RS_eq (by decide +kernel) ((hQ _ _).trans (wp_ret_intro _ _))

theorem part75 {R : sProp 𝕄} {Q : (PUnit) → sProp 𝕄} {v13 : BitVec 32} {v2194 : BitVec 32} {v2196 : BitVec 32}
    (hQ : RS I K c f0 R 68 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 1, 1, 1, 1, 4, 3⟩, ⟨3, 3, 1, 1, 1, 1, 4, 3⟩, ⟨3, 3, 1, 1, 1, 1, 4, 3⟩] ⊢ Q ⟨⟩) :
    RS I K c f0 R 68 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨3, 3, 1, 1, 1, 1, 4, 3⟩, ⟨3, 3, 1, 1, 1, 1, 4, 3⟩, ⟨3, 3, 1, 1, 1, 1, 4, 3⟩] ⊢ WP c (k0_part75 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v13 v2194 v2196) Q := by
  rw [k0_part75_eq_skeleton]
  unfold k0_part75_skel
  refine rs_recv 5 3 (by decide +kernel) rfl rfl ?_
  refine rs_ldacc 5 3 (by decide +kernel) (of20 c 3) ?_
  refine rs_ldcomm 5 3 (by decide +kernel) rfl rfl ?_
  refine rs_ldacc 5 3 (by decide +kernel) (of20 c 3) ?_
  refine rs_store 5 3 (by decide +kernel) (of20 c 3) rfl ?_
  exact RS_eq (by decide +kernel) ((hQ).trans (wp_ret_intro _ _))

theorem part76 {R : sProp 𝕄} {Q : (PUnit) → sProp 𝕄} {v2 : BitVec 32} {v13 : BitVec 32}
    (hQ : RS I K c f0 R 69 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 3⟩, ⟨3, 3, 1, 1, 1, 1, 4, 3⟩, ⟨3, 3, 1, 1, 1, 1, 4, 3⟩] ⊢ Q ⟨⟩) :
    RS I K c f0 R 68 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 1, 1, 1, 1, 4, 3⟩, ⟨3, 3, 1, 1, 1, 1, 4, 3⟩, ⟨3, 3, 1, 1, 1, 1, 4, 3⟩] ⊢ WP c (k0_part76 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part76_eq_skeleton]
  unfold k0_part76_skel
  refine rs_sendwait 5 2 (by decide +kernel) rfl rfl ?_
  refine rs_credwait 5 2 (by decide +kernel) rfl rfl ?_
  refine rs_send 5 4 (by decide +kernel) (dv69 c) (of8 c 4) rfl rfl rfl rfl ?_
  exact RS_eq (by decide +kernel) ((hQ).trans (wp_ret_intro _ _))

theorem part77 {R : sProp 𝕄} {Q : (Σ' (v2268 : BitVec 32) (v2283 : FVec F S512x256 .bf16), BitVec 32) → sProp 𝕄} {v2 : BitVec 32} {v24 : BitVec 32}
    (hQ : ∀ (u0 : BitVec 32) (u2 : BitVec 32), RS I K c f0 R 70 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 3, 1, 1, 1, 1, 4, 3⟩, ⟨3, 3, 1, 1, 1, 1, 4, 3⟩] ⊢ Q ⟨u0, (k0_pay42 (gv I c 4 6) (cv I c 3 6)), u2⟩) :
    RS I K c f0 R 69 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 3⟩, ⟨3, 3, 1, 1, 1, 1, 4, 3⟩, ⟨3, 3, 1, 1, 1, 1, 4, 3⟩] ⊢ WP c (k0_part77 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24) Q := by
  rw [k0_part77_eq_skeleton]
  unfold k0_part77_skel
  refine rs_signal 5 3 (by decide +kernel) (dv70 c) rfl rfl ?_
  refine rs_recv 6 3 (by decide +kernel) rfl rfl ?_
  refine rs_ldacc 6 3 (by decide +kernel) (of21 c 3) ?_
  refine rs_ldcomm 6 3 (by decide +kernel) rfl rfl ?_
  exact RS_eq (by decide +kernel) ((hQ _ _).trans (wp_ret_intro _ _))

theorem part78 {R : sProp 𝕄} {Q : (PUnit) → sProp 𝕄} {v2 : BitVec 32} {v24 : BitVec 32} {v2268 : BitVec 32} {c512_i32_2124 : BitVec 32}
    (hQ : RS I K c f0 R 70 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 4, 3⟩, ⟨3, 3, 1, 1, 1, 1, 4, 3⟩] ⊢ Q ⟨⟩) :
    RS I K c f0 R 70 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 3, 1, 1, 1, 1, 4, 3⟩, ⟨3, 3, 1, 1, 1, 1, 4, 3⟩] ⊢ WP c (k0_part78 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v2268 (k0_pay42 (gv I c 4 6) (cv I c 3 6)) c512_i32_2124) Q := by
  rw [k0_part78_eq_skeleton]
  unfold k0_part78_skel
  refine rs_ldacc 6 3 (by decide +kernel) (of21 c 3) ?_
  refine rs_store 6 3 (by decide +kernel) (of21 c 3) rfl ?_
  refine rs_sendwait 6 2 (by decide +kernel) rfl rfl ?_
  refine rs_credwait 6 2 (by decide +kernel) rfl rfl ?_
  exact RS_eq (by decide +kernel) ((hQ).trans (wp_ret_intro _ _))

theorem part79 {R : sProp 𝕄} {Q : (BitVec 32) → sProp 𝕄} {v2 : BitVec 32} {v13 : BitVec 32}
    (hQ : ∀ (u0 : BitVec 32), RS I K c f0 R 72 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 3, 1, 1, 1, 1, 4, 3⟩] ⊢ Q u0) :
    RS I K c f0 R 70 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 4, 3⟩, ⟨3, 3, 1, 1, 1, 1, 4, 3⟩] ⊢ WP c (k0_part79 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part79_eq_skeleton]
  unfold k0_part79_skel
  refine rs_send 6 4 (by decide +kernel) (dv71 c) (of9 c 4) rfl rfl rfl rfl ?_
  refine rs_signal 6 3 (by decide +kernel) (dv72 c) rfl rfl ?_
  refine rs_recv 7 3 (by decide +kernel) rfl rfl ?_
  exact RS_eq (by decide +kernel) ((hQ _).trans (wp_ret_intro _ _))

theorem part80 {R : sProp 𝕄} {Q : (Σ' (v2361 : BitVec 32) (v2362 : BitVec 32), BitVec 1) → sProp 𝕄} {v2 : BitVec 32} {v2332 : BitVec 32}
    (hQ : ∀ (u0 : BitVec 32) (u1 : BitVec 32) (u2 : BitVec 1), RS I K c f0 R 72 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 4, 3⟩] ⊢ Q ⟨u0, u1, u2⟩) :
    RS I K c f0 R 72 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 3, 1, 1, 1, 1, 4, 3⟩] ⊢ WP c (k0_part80 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v2332) Q := by
  rw [k0_part80_eq_skeleton]
  unfold k0_part80_skel
  refine rs_ldacc 7 3 (by decide +kernel) (of22 c 3) ?_
  refine rs_ldcomm 7 3 (by decide +kernel) rfl rfl ?_
  refine rs_ldacc 7 3 (by decide +kernel) (of22 c 3) ?_
  refine rs_store 7 3 (by decide +kernel) (of22 c 3) rfl ?_
  refine rs_sendwait 7 2 (by decide +kernel) rfl rfl ?_
  refine rs_credwait 7 2 (by decide +kernel) rfl rfl ?_
  exact RS_eq (by decide +kernel) ((hQ _ _ _).trans (wp_ret_intro _ _))

theorem part81 {R : sProp 𝕄} {Q : (BitVec 32) → sProp 𝕄} {v2 : BitVec 32} {v13 : BitVec 32} {v24 : BitVec 32} {v2361 : BitVec 32} {v2362 : BitVec 32} {v2367 : BitVec 1}
    (hQ : ∀ (u0 : BitVec 32), RS I K c f0 R 74 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ Q u0) :
    RS I K c f0 R 72 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 4, 3⟩] ⊢ WP c (k0_part81 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v2361 v2362 v2367) Q := by
  rw [k0_part81_eq_skeleton]
  unfold k0_part81_skel
  refine rs_send 7 4 (by decide +kernel) (dv73 c) (of10 c 4) rfl rfl rfl rfl ?_
  refine rs_signal 7 3 (by decide +kernel) (dv74 c) rfl rfl ?_
  exact RS_eq (by decide +kernel) ((hQ _).trans (wp_ret_intro _ _))

theorem part82 {R : sProp 𝕄} {Q : (BitVec 32) → sProp 𝕄} {v24 : BitVec 32} {v2396 : BitVec 32}
    (hQ : ∀ (u0 : BitVec 32), RS I K c f0 R 74 8 ![⟨5, 5, 2, 2, 2, 2, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ Q u0) :
    RS I K c f0 R 74 8 ![⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ WP c (k0_part82 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v24 v2396) Q := by
  rw [k0_part82_eq_skeleton]
  unfold k0_part82_skel
  refine rs_recv 0 4 (by decide +kernel) rfl rfl ?_
  refine rs_ldacc 0 4 (by decide +kernel) (of15 c 4) ?_
  refine rs_ldcomm 0 4 (by decide +kernel) rfl rfl ?_
  refine rs_ldacc 0 4 (by decide +kernel) (of15 c 4) ?_
  refine rs_store 0 4 (by decide +kernel) (of15 c 4) rfl ?_
  refine rs_sendwait 0 3 (by decide +kernel) rfl rfl ?_
  refine rs_credwait 0 3 (by decide +kernel) rfl rfl ?_
  exact RS_eq (by decide +kernel) ((hQ _).trans (wp_ret_intro _ _))

theorem part83 {R : sProp 𝕄} {Q : (Σ' (v2450 : BitVec 32), BitVec 32) → sProp 𝕄} {v2 : BitVec 32} {v13 : BitVec 32} {v24 : BitVec 32} {c5_i32 : BitVec 32}
    (hQ : ∀ (u0 : BitVec 32) (u1 : BitVec 32), RS I K c f0 R 76 8 ![⟨5, 5, 2, 2, 2, 2, 6, 5⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ Q ⟨u0, u1⟩) :
    RS I K c f0 R 74 8 ![⟨5, 5, 2, 2, 2, 2, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ WP c (k0_part83 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 c5_i32) Q := by
  rw [k0_part83_eq_skeleton]
  unfold k0_part83_skel
  refine rs_send 0 5 (by decide +kernel) (dv75 c) (of3 c 5) rfl rfl rfl rfl ?_
  refine rs_signal 0 4 (by decide +kernel) (dv76 c) rfl rfl ?_
  exact RS_eq (by decide +kernel) ((hQ _ _).trans (wp_ret_intro _ _))

theorem part84 {R : sProp 𝕄} {Q : (PUnit) → sProp 𝕄} {v13 : BitVec 32} {v2450 : BitVec 32} {v2452 : BitVec 32}
    (hQ : RS I K c f0 R 76 8 ![⟨5, 5, 2, 2, 2, 2, 6, 5⟩, ⟨5, 5, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ Q ⟨⟩) :
    RS I K c f0 R 76 8 ![⟨5, 5, 2, 2, 2, 2, 6, 5⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ WP c (k0_part84 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v13 v2450 v2452) Q := by
  rw [k0_part84_eq_skeleton]
  unfold k0_part84_skel
  refine rs_recv 1 4 (by decide +kernel) rfl rfl ?_
  refine rs_ldacc 1 4 (by decide +kernel) (of16 c 4) ?_
  refine rs_ldcomm 1 4 (by decide +kernel) rfl rfl ?_
  refine rs_ldacc 1 4 (by decide +kernel) (of16 c 4) ?_
  refine rs_store 1 4 (by decide +kernel) (of16 c 4) rfl ?_
  exact RS_eq (by decide +kernel) ((hQ).trans (wp_ret_intro _ _))

theorem part85 {R : sProp 𝕄} {Q : (PUnit) → sProp 𝕄} {v2 : BitVec 32} {v13 : BitVec 32}
    (hQ : RS I K c f0 R 77 8 ![⟨5, 5, 2, 2, 2, 2, 6, 5⟩, ⟨5, 5, 2, 2, 2, 2, 6, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ Q ⟨⟩) :
    RS I K c f0 R 76 8 ![⟨5, 5, 2, 2, 2, 2, 6, 5⟩, ⟨5, 5, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ WP c (k0_part85 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part85_eq_skeleton]
  unfold k0_part85_skel
  refine rs_sendwait 1 3 (by decide +kernel) rfl rfl ?_
  refine rs_credwait 1 3 (by decide +kernel) rfl rfl ?_
  refine rs_send 1 5 (by decide +kernel) (dv77 c) (of4 c 5) rfl rfl rfl rfl ?_
  exact RS_eq (by decide +kernel) ((hQ).trans (wp_ret_intro _ _))

theorem part86 {R : sProp 𝕄} {Q : (Σ' (v2524 : BitVec 32) (v2539 : FVec F S512x256 .bf16), BitVec 32) → sProp 𝕄} {v2 : BitVec 32} {v24 : BitVec 32}
    (hQ : ∀ (u0 : BitVec 32) (u2 : BitVec 32), RS I K c f0 R 78 8 ![⟨5, 5, 2, 2, 2, 2, 6, 5⟩, ⟨5, 5, 2, 2, 2, 2, 6, 5⟩, ⟨5, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ Q ⟨u0, (k0_pay46 (gv I c 5 2) (cv I c 4 2)), u2⟩) :
    RS I K c f0 R 77 8 ![⟨5, 5, 2, 2, 2, 2, 6, 5⟩, ⟨5, 5, 2, 2, 2, 2, 6, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ WP c (k0_part86 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24) Q := by
  rw [k0_part86_eq_skeleton]
  unfold k0_part86_skel
  refine rs_signal 1 4 (by decide +kernel) (dv78 c) rfl rfl ?_
  refine rs_recv 2 4 (by decide +kernel) rfl rfl ?_
  refine rs_ldacc 2 4 (by decide +kernel) (of17 c 4) ?_
  refine rs_ldcomm 2 4 (by decide +kernel) rfl rfl ?_
  exact RS_eq (by decide +kernel) ((hQ _ _).trans (wp_ret_intro _ _))

theorem part87 {R : sProp 𝕄} {Q : (PUnit) → sProp 𝕄} {v2 : BitVec 32} {v24 : BitVec 32} {v2524 : BitVec 32} {c512_i32_2383 : BitVec 32}
    (hQ : RS I K c f0 R 78 8 ![⟨5, 5, 2, 2, 2, 2, 6, 5⟩, ⟨5, 5, 2, 2, 2, 2, 6, 5⟩, ⟨5, 5, 2, 2, 2, 2, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ Q ⟨⟩) :
    RS I K c f0 R 78 8 ![⟨5, 5, 2, 2, 2, 2, 6, 5⟩, ⟨5, 5, 2, 2, 2, 2, 6, 5⟩, ⟨5, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ WP c (k0_part87 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v2524 (k0_pay46 (gv I c 5 2) (cv I c 4 2)) c512_i32_2383) Q := by
  rw [k0_part87_eq_skeleton]
  unfold k0_part87_skel
  refine rs_ldacc 2 4 (by decide +kernel) (of17 c 4) ?_
  refine rs_store 2 4 (by decide +kernel) (of17 c 4) rfl ?_
  refine rs_sendwait 2 3 (by decide +kernel) rfl rfl ?_
  refine rs_credwait 2 3 (by decide +kernel) rfl rfl ?_
  exact RS_eq (by decide +kernel) ((hQ).trans (wp_ret_intro _ _))

theorem part88 {R : sProp 𝕄} {Q : (BitVec 32) → sProp 𝕄} {v2 : BitVec 32} {v13 : BitVec 32}
    (hQ : ∀ (u0 : BitVec 32), RS I K c f0 R 80 8 ![⟨5, 5, 2, 2, 2, 2, 6, 5⟩, ⟨5, 5, 2, 2, 2, 2, 6, 5⟩, ⟨5, 5, 2, 2, 2, 2, 6, 5⟩, ⟨5, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ Q u0) :
    RS I K c f0 R 78 8 ![⟨5, 5, 2, 2, 2, 2, 6, 5⟩, ⟨5, 5, 2, 2, 2, 2, 6, 5⟩, ⟨5, 5, 2, 2, 2, 2, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ WP c (k0_part88 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part88_eq_skeleton]
  unfold k0_part88_skel
  refine rs_send 2 5 (by decide +kernel) (dv79 c) (of5 c 5) rfl rfl rfl rfl ?_
  refine rs_signal 2 4 (by decide +kernel) (dv80 c) rfl rfl ?_
  refine rs_recv 3 4 (by decide +kernel) rfl rfl ?_
  exact RS_eq (by decide +kernel) ((hQ _).trans (wp_ret_intro _ _))

theorem part89 {R : sProp 𝕄} {Q : (Σ' (v2617 : BitVec 32) (v2618 : BitVec 32), BitVec 1) → sProp 𝕄} {v2 : BitVec 32} {v2588 : BitVec 32}
    (hQ : ∀ (u0 : BitVec 32) (u1 : BitVec 32) (u2 : BitVec 1), RS I K c f0 R 80 8 ![⟨5, 5, 2, 2, 2, 2, 6, 5⟩, ⟨5, 5, 2, 2, 2, 2, 6, 5⟩, ⟨5, 5, 2, 2, 2, 2, 6, 5⟩, ⟨5, 5, 2, 2, 2, 2, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ Q ⟨u0, u1, u2⟩) :
    RS I K c f0 R 80 8 ![⟨5, 5, 2, 2, 2, 2, 6, 5⟩, ⟨5, 5, 2, 2, 2, 2, 6, 5⟩, ⟨5, 5, 2, 2, 2, 2, 6, 5⟩, ⟨5, 4, 2, 1, 2, 1, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ WP c (k0_part89 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v2588) Q := by
  rw [k0_part89_eq_skeleton]
  unfold k0_part89_skel
  refine rs_ldacc 3 4 (by decide +kernel) (of18 c 4) ?_
  refine rs_ldcomm 3 4 (by decide +kernel) rfl rfl ?_
  refine rs_ldacc 3 4 (by decide +kernel) (of18 c 4) ?_
  refine rs_store 3 4 (by decide +kernel) (of18 c 4) rfl ?_
  refine rs_sendwait 3 3 (by decide +kernel) rfl rfl ?_
  refine rs_credwait 3 3 (by decide +kernel) rfl rfl ?_
  exact RS_eq (by decide +kernel) ((hQ _ _ _).trans (wp_ret_intro _ _))

theorem part90 {R : sProp 𝕄} {Q : (BitVec 32) → sProp 𝕄} {v2 : BitVec 32} {v13 : BitVec 32} {v24 : BitVec 32} {v2617 : BitVec 32} {v2618 : BitVec 32} {v2623 : BitVec 1}
    (hQ : ∀ (u0 : BitVec 32), RS I K c f0 R 82 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ Q u0) :
    RS I K c f0 R 80 8 ![⟨5, 5, 2, 2, 2, 2, 6, 5⟩, ⟨5, 5, 2, 2, 2, 2, 6, 5⟩, ⟨5, 5, 2, 2, 2, 2, 6, 5⟩, ⟨5, 5, 2, 2, 2, 2, 5, 4⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ WP c (k0_part90 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v2617 v2618 v2623) Q := by
  rw [k0_part90_eq_skeleton]
  unfold k0_part90_skel
  refine rs_send 3 5 (by decide +kernel) (dv81 c) (of6 c 5) rfl rfl rfl rfl ?_
  refine rs_signal 3 4 (by decide +kernel) (dv82 c) rfl rfl ?_
  exact RS_eq (by decide +kernel) ((hQ _).trans (wp_ret_intro _ _))

end Parts

end K
-- ==== Proof.K.Rs5.lean ====
module

public import proofs.«01_k».proof.Proof.K.Pre

/-!
# The pieces of the reduce-scatter, 5
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Parts

variable {I : In F} {K : Dev nD × Kn → ℕ} {c : Dev nD} {f0 : Vec F S4096x2048 .bf16}

theorem part91 {R : sProp 𝕄} {Q : (BitVec 32) → sProp 𝕄} {v24 : BitVec 32} {v2652 : BitVec 32}
    (hQ : ∀ (u0 : BitVec 32), RS I K c f0 R 82 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 5, 4⟩, ⟨4, 4, 2, 1, 2, 1, 5, 4⟩, ⟨4, 4, 2, 1, 2, 1, 5, 4⟩, ⟨4, 4, 2, 1, 2, 1, 5, 4⟩] ⊢ Q u0) :
    RS I K c f0 R 82 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨4, 4, 2, 1, 2, 1, 5, 4⟩, ⟨4, 4, 2, 1, 2, 1, 5, 4⟩, ⟨4, 4, 2, 1, 2, 1, 5, 4⟩, ⟨4, 4, 2, 1, 2, 1, 5, 4⟩] ⊢ WP c (k0_part91 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v24 v2652) Q := by
  rw [k0_part91_eq_skeleton]
  unfold k0_part91_skel
  refine rs_recv 4 4 (by decide +kernel) rfl rfl ?_
  refine rs_ldacc 4 4 (by decide +kernel) (of19 c 4) ?_
  refine rs_ldcomm 4 4 (by decide +kernel) rfl rfl ?_
  refine rs_ldacc 4 4 (by decide +kernel) (of19 c 4) ?_
  refine rs_store 4 4 (by decide +kernel) (of19 c 4) rfl ?_
  refine rs_sendwait 4 3 (by decide +kernel) rfl rfl ?_
  refine rs_credwait 4 3 (by decide +kernel) rfl rfl ?_
  exact RS_eq (by decide +kernel) ((hQ _).trans (wp_ret_intro _ _))

theorem part92 {R : sProp 𝕄} {Q : (Σ' (v2706 : BitVec 32), BitVec 32) → sProp 𝕄} {v2 : BitVec 32} {v13 : BitVec 32} {v24 : BitVec 32} {c5_i32_2529 : BitVec 32}
    (hQ : ∀ (u0 : BitVec 32) (u1 : BitVec 32), RS I K c f0 R 84 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨4, 4, 2, 1, 2, 1, 5, 4⟩, ⟨4, 4, 2, 1, 2, 1, 5, 4⟩, ⟨4, 4, 2, 1, 2, 1, 5, 4⟩] ⊢ Q ⟨u0, u1⟩) :
    RS I K c f0 R 82 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 5, 4⟩, ⟨4, 4, 2, 1, 2, 1, 5, 4⟩, ⟨4, 4, 2, 1, 2, 1, 5, 4⟩, ⟨4, 4, 2, 1, 2, 1, 5, 4⟩] ⊢ WP c (k0_part92 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 c5_i32_2529) Q := by
  rw [k0_part92_eq_skeleton]
  unfold k0_part92_skel
  refine rs_send 4 5 (by decide +kernel) (dv83 c) (of7 c 5) rfl rfl rfl rfl ?_
  refine rs_signal 4 4 (by decide +kernel) (dv84 c) rfl rfl ?_
  exact RS_eq (by decide +kernel) ((hQ _ _).trans (wp_ret_intro _ _))

theorem part93 {R : sProp 𝕄} {Q : (PUnit) → sProp 𝕄} {v13 : BitVec 32} {v2706 : BitVec 32} {v2708 : BitVec 32}
    (hQ : RS I K c f0 R 84 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 1, 2, 1, 5, 4⟩, ⟨4, 4, 2, 1, 2, 1, 5, 4⟩, ⟨4, 4, 2, 1, 2, 1, 5, 4⟩] ⊢ Q ⟨⟩) :
    RS I K c f0 R 84 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨4, 4, 2, 1, 2, 1, 5, 4⟩, ⟨4, 4, 2, 1, 2, 1, 5, 4⟩, ⟨4, 4, 2, 1, 2, 1, 5, 4⟩] ⊢ WP c (k0_part93 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v13 v2706 v2708) Q := by
  rw [k0_part93_eq_skeleton]
  unfold k0_part93_skel
  refine rs_recv 5 4 (by decide +kernel) rfl rfl ?_
  refine rs_ldacc 5 4 (by decide +kernel) (of20 c 4) ?_
  refine rs_ldcomm 5 4 (by decide +kernel) rfl rfl ?_
  refine rs_ldacc 5 4 (by decide +kernel) (of20 c 4) ?_
  refine rs_store 5 4 (by decide +kernel) (of20 c 4) rfl ?_
  exact RS_eq (by decide +kernel) ((hQ).trans (wp_ret_intro _ _))

theorem part94 {R : sProp 𝕄} {Q : (PUnit) → sProp 𝕄} {v2 : BitVec 32} {v13 : BitVec 32}
    (hQ : RS I K c f0 R 85 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 4⟩, ⟨4, 4, 2, 1, 2, 1, 5, 4⟩, ⟨4, 4, 2, 1, 2, 1, 5, 4⟩] ⊢ Q ⟨⟩) :
    RS I K c f0 R 84 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 1, 2, 1, 5, 4⟩, ⟨4, 4, 2, 1, 2, 1, 5, 4⟩, ⟨4, 4, 2, 1, 2, 1, 5, 4⟩] ⊢ WP c (k0_part94 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part94_eq_skeleton]
  unfold k0_part94_skel
  refine rs_sendwait 5 3 (by decide +kernel) rfl rfl ?_
  refine rs_credwait 5 3 (by decide +kernel) rfl rfl ?_
  refine rs_send 5 5 (by decide +kernel) (dv85 c) (of8 c 5) rfl rfl rfl rfl ?_
  exact RS_eq (by decide +kernel) ((hQ).trans (wp_ret_intro _ _))

theorem part95 {R : sProp 𝕄} {Q : (Σ' (v2780 : BitVec 32) (v2795 : FVec F S512x256 .bf16), BitVec 32) → sProp 𝕄} {v2 : BitVec 32} {v24 : BitVec 32}
    (hQ : ∀ (u0 : BitVec 32) (u2 : BitVec 32), RS I K c f0 R 86 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 4, 2, 1, 2, 1, 5, 4⟩, ⟨4, 4, 2, 1, 2, 1, 5, 4⟩] ⊢ Q ⟨u0, (k0_pay50 (gv I c 5 6) (cv I c 4 6)), u2⟩) :
    RS I K c f0 R 85 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 4⟩, ⟨4, 4, 2, 1, 2, 1, 5, 4⟩, ⟨4, 4, 2, 1, 2, 1, 5, 4⟩] ⊢ WP c (k0_part95 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24) Q := by
  rw [k0_part95_eq_skeleton]
  unfold k0_part95_skel
  refine rs_signal 5 4 (by decide +kernel) (dv86 c) rfl rfl ?_
  refine rs_recv 6 4 (by decide +kernel) rfl rfl ?_
  refine rs_ldacc 6 4 (by decide +kernel) (of21 c 4) ?_
  refine rs_ldcomm 6 4 (by decide +kernel) rfl rfl ?_
  exact RS_eq (by decide +kernel) ((hQ _ _).trans (wp_ret_intro _ _))

theorem part96 {R : sProp 𝕄} {Q : (PUnit) → sProp 𝕄} {v2 : BitVec 32} {v24 : BitVec 32} {v2780 : BitVec 32} {c512_i32_2643 : BitVec 32}
    (hQ : RS I K c f0 R 86 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 5, 4⟩, ⟨4, 4, 2, 1, 2, 1, 5, 4⟩] ⊢ Q ⟨⟩) :
    RS I K c f0 R 86 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 4, 2, 1, 2, 1, 5, 4⟩, ⟨4, 4, 2, 1, 2, 1, 5, 4⟩] ⊢ WP c (k0_part96 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v2780 (k0_pay50 (gv I c 5 6) (cv I c 4 6)) c512_i32_2643) Q := by
  rw [k0_part96_eq_skeleton]
  unfold k0_part96_skel
  refine rs_ldacc 6 4 (by decide +kernel) (of21 c 4) ?_
  refine rs_store 6 4 (by decide +kernel) (of21 c 4) rfl ?_
  refine rs_sendwait 6 3 (by decide +kernel) rfl rfl ?_
  refine rs_credwait 6 3 (by decide +kernel) rfl rfl ?_
  exact RS_eq (by decide +kernel) ((hQ).trans (wp_ret_intro _ _))

theorem part97 {R : sProp 𝕄} {Q : (BitVec 32) → sProp 𝕄} {v2 : BitVec 32} {v13 : BitVec 32}
    (hQ : ∀ (u0 : BitVec 32), RS I K c f0 R 88 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 4, 2, 1, 2, 1, 5, 4⟩] ⊢ Q u0) :
    RS I K c f0 R 86 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 5, 4⟩, ⟨4, 4, 2, 1, 2, 1, 5, 4⟩] ⊢ WP c (k0_part97 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part97_eq_skeleton]
  unfold k0_part97_skel
  refine rs_send 6 5 (by decide +kernel) (dv87 c) (of9 c 5) rfl rfl rfl rfl ?_
  refine rs_signal 6 4 (by decide +kernel) (dv88 c) rfl rfl ?_
  refine rs_recv 7 4 (by decide +kernel) rfl rfl ?_
  exact RS_eq (by decide +kernel) ((hQ _).trans (wp_ret_intro _ _))

theorem part98 {R : sProp 𝕄} {Q : (Σ' (v2873 : BitVec 32) (v2874 : BitVec 32), BitVec 1) → sProp 𝕄} {v2 : BitVec 32} {v2844 : BitVec 32}
    (hQ : ∀ (u0 : BitVec 32) (u1 : BitVec 32) (u2 : BitVec 1), RS I K c f0 R 88 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 5, 4⟩] ⊢ Q ⟨u0, u1, u2⟩) :
    RS I K c f0 R 88 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 4, 2, 1, 2, 1, 5, 4⟩] ⊢ WP c (k0_part98 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v2844) Q := by
  rw [k0_part98_eq_skeleton]
  unfold k0_part98_skel
  refine rs_ldacc 7 4 (by decide +kernel) (of22 c 4) ?_
  refine rs_ldcomm 7 4 (by decide +kernel) rfl rfl ?_
  refine rs_ldacc 7 4 (by decide +kernel) (of22 c 4) ?_
  refine rs_store 7 4 (by decide +kernel) (of22 c 4) rfl ?_
  refine rs_sendwait 7 3 (by decide +kernel) rfl rfl ?_
  refine rs_credwait 7 3 (by decide +kernel) rfl rfl ?_
  exact RS_eq (by decide +kernel) ((hQ _ _ _).trans (wp_ret_intro _ _))

theorem part99 {R : sProp 𝕄} {Q : (BitVec 32) → sProp 𝕄} {v2 : BitVec 32} {v13 : BitVec 32} {v24 : BitVec 32} {v2873 : BitVec 32} {v2874 : BitVec 32} {v2879 : BitVec 1}
    (hQ : ∀ (u0 : BitVec 32), RS I K c f0 R 90 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ Q u0) :
    RS I K c f0 R 88 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 5, 4⟩] ⊢ WP c (k0_part99 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v2873 v2874 v2879) Q := by
  rw [k0_part99_eq_skeleton]
  unfold k0_part99_skel
  refine rs_send 7 5 (by decide +kernel) (dv89 c) (of10 c 5) rfl rfl rfl rfl ?_
  refine rs_signal 7 4 (by decide +kernel) (dv90 c) rfl rfl ?_
  exact RS_eq (by decide +kernel) ((hQ _).trans (wp_ret_intro _ _))

theorem part100 {R : sProp 𝕄} {Q : (BitVec 32) → sProp 𝕄} {v24 : BitVec 32} {v2908 : BitVec 32}
    (hQ : ∀ (u0 : BitVec 32), RS I K c f0 R 90 8 ![⟨6, 6, 3, 2, 3, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ Q u0) :
    RS I K c f0 R 90 8 ![⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ WP c (k0_part100 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v24 v2908) Q := by
  rw [k0_part100_eq_skeleton]
  unfold k0_part100_skel
  refine rs_recv 0 5 (by decide +kernel) rfl rfl ?_
  refine rs_ldacc 0 5 (by decide +kernel) (of15 c 5) ?_
  refine rs_ldcomm 0 5 (by decide +kernel) rfl rfl ?_
  refine rs_ldacc 0 5 (by decide +kernel) (of15 c 5) ?_
  refine rs_store 0 5 (by decide +kernel) (of15 c 5) rfl ?_
  refine rs_sendwait 0 4 (by decide +kernel) rfl rfl ?_
  refine rs_credwait 0 4 (by decide +kernel) rfl rfl ?_
  exact RS_eq (by decide +kernel) ((hQ _).trans (wp_ret_intro _ _))

theorem part101 {R : sProp 𝕄} {Q : (Σ' (v2962 : BitVec 32), BitVec 32) → sProp 𝕄} {v2 : BitVec 32} {v13 : BitVec 32} {v24 : BitVec 32} {c6_i32 : BitVec 32}
    (hQ : ∀ (u0 : BitVec 32) (u1 : BitVec 32), RS I K c f0 R 92 8 ![⟨6, 6, 3, 2, 3, 2, 7, 6⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ Q ⟨u0, u1⟩) :
    RS I K c f0 R 90 8 ![⟨6, 6, 3, 2, 3, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ WP c (k0_part101 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 c6_i32) Q := by
  rw [k0_part101_eq_skeleton]
  unfold k0_part101_skel
  refine rs_send 0 6 (by decide +kernel) (dv91 c) (of3 c 6) rfl rfl rfl rfl ?_
  refine rs_signal 0 5 (by decide +kernel) (dv92 c) rfl rfl ?_
  exact RS_eq (by decide +kernel) ((hQ _ _).trans (wp_ret_intro _ _))

theorem part102 {R : sProp 𝕄} {Q : (PUnit) → sProp 𝕄} {v13 : BitVec 32} {v2962 : BitVec 32} {v2964 : BitVec 32}
    (hQ : RS I K c f0 R 92 8 ![⟨6, 6, 3, 2, 3, 2, 7, 6⟩, ⟨6, 6, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ Q ⟨⟩) :
    RS I K c f0 R 92 8 ![⟨6, 6, 3, 2, 3, 2, 7, 6⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ WP c (k0_part102 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v13 v2962 v2964) Q := by
  rw [k0_part102_eq_skeleton]
  unfold k0_part102_skel
  refine rs_recv 1 5 (by decide +kernel) rfl rfl ?_
  refine rs_ldacc 1 5 (by decide +kernel) (of16 c 5) ?_
  refine rs_ldcomm 1 5 (by decide +kernel) rfl rfl ?_
  refine rs_ldacc 1 5 (by decide +kernel) (of16 c 5) ?_
  refine rs_store 1 5 (by decide +kernel) (of16 c 5) rfl ?_
  exact RS_eq (by decide +kernel) ((hQ).trans (wp_ret_intro _ _))

theorem part103 {R : sProp 𝕄} {Q : (PUnit) → sProp 𝕄} {v2 : BitVec 32} {v13 : BitVec 32}
    (hQ : RS I K c f0 R 93 8 ![⟨6, 6, 3, 2, 3, 2, 7, 6⟩, ⟨6, 6, 3, 2, 3, 2, 7, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ Q ⟨⟩) :
    RS I K c f0 R 92 8 ![⟨6, 6, 3, 2, 3, 2, 7, 6⟩, ⟨6, 6, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ WP c (k0_part103 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part103_eq_skeleton]
  unfold k0_part103_skel
  refine rs_sendwait 1 4 (by decide +kernel) rfl rfl ?_
  refine rs_credwait 1 4 (by decide +kernel) rfl rfl ?_
  refine rs_send 1 6 (by decide +kernel) (dv93 c) (of4 c 6) rfl rfl rfl rfl ?_
  exact RS_eq (by decide +kernel) ((hQ).trans (wp_ret_intro _ _))

theorem part104 {R : sProp 𝕄} {Q : (Σ' (v3036 : BitVec 32) (v3051 : FVec F S512x256 .bf16), BitVec 32) → sProp 𝕄} {v2 : BitVec 32} {v24 : BitVec 32}
    (hQ : ∀ (u0 : BitVec 32) (u2 : BitVec 32), RS I K c f0 R 94 8 ![⟨6, 6, 3, 2, 3, 2, 7, 6⟩, ⟨6, 6, 3, 2, 3, 2, 7, 6⟩, ⟨6, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ Q ⟨u0, (k0_pay54 (gv I c 6 2) (cv I c 5 2)), u2⟩) :
    RS I K c f0 R 93 8 ![⟨6, 6, 3, 2, 3, 2, 7, 6⟩, ⟨6, 6, 3, 2, 3, 2, 7, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ WP c (k0_part104 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24) Q := by
  rw [k0_part104_eq_skeleton]
  unfold k0_part104_skel
  refine rs_signal 1 5 (by decide +kernel) (dv94 c) rfl rfl ?_
  refine rs_recv 2 5 (by decide +kernel) rfl rfl ?_
  refine rs_ldacc 2 5 (by decide +kernel) (of17 c 5) ?_
  refine rs_ldcomm 2 5 (by decide +kernel) rfl rfl ?_
  exact RS_eq (by decide +kernel) ((hQ _ _).trans (wp_ret_intro _ _))

theorem part105 {R : sProp 𝕄} {Q : (PUnit) → sProp 𝕄} {v2 : BitVec 32} {v24 : BitVec 32} {v3036 : BitVec 32} {c512_i32_2902 : BitVec 32}
    (hQ : RS I K c f0 R 94 8 ![⟨6, 6, 3, 2, 3, 2, 7, 6⟩, ⟨6, 6, 3, 2, 3, 2, 7, 6⟩, ⟨6, 6, 3, 2, 3, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ Q ⟨⟩) :
    RS I K c f0 R 94 8 ![⟨6, 6, 3, 2, 3, 2, 7, 6⟩, ⟨6, 6, 3, 2, 3, 2, 7, 6⟩, ⟨6, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ WP c (k0_part105 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v3036 (k0_pay54 (gv I c 6 2) (cv I c 5 2)) c512_i32_2902) Q := by
  rw [k0_part105_eq_skeleton]
  unfold k0_part105_skel
  refine rs_ldacc 2 5 (by decide +kernel) (of17 c 5) ?_
  refine rs_store 2 5 (by decide +kernel) (of17 c 5) rfl ?_
  refine rs_sendwait 2 4 (by decide +kernel) rfl rfl ?_
  refine rs_credwait 2 4 (by decide +kernel) rfl rfl ?_
  exact RS_eq (by decide +kernel) ((hQ).trans (wp_ret_intro _ _))

theorem part106 {R : sProp 𝕄} {Q : (BitVec 32) → sProp 𝕄} {v2 : BitVec 32} {v13 : BitVec 32}
    (hQ : ∀ (u0 : BitVec 32), RS I K c f0 R 96 8 ![⟨6, 6, 3, 2, 3, 2, 7, 6⟩, ⟨6, 6, 3, 2, 3, 2, 7, 6⟩, ⟨6, 6, 3, 2, 3, 2, 7, 6⟩, ⟨6, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ Q u0) :
    RS I K c f0 R 94 8 ![⟨6, 6, 3, 2, 3, 2, 7, 6⟩, ⟨6, 6, 3, 2, 3, 2, 7, 6⟩, ⟨6, 6, 3, 2, 3, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ WP c (k0_part106 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part106_eq_skeleton]
  unfold k0_part106_skel
  refine rs_send 2 6 (by decide +kernel) (dv95 c) (of5 c 6) rfl rfl rfl rfl ?_
  refine rs_signal 2 5 (by decide +kernel) (dv96 c) rfl rfl ?_
  refine rs_recv 3 5 (by decide +kernel) rfl rfl ?_
  exact RS_eq (by decide +kernel) ((hQ _).trans (wp_ret_intro _ _))

theorem part107 {R : sProp 𝕄} {Q : (Σ' (v3129 : BitVec 32) (v3130 : BitVec 32), BitVec 1) → sProp 𝕄} {v2 : BitVec 32} {v3100 : BitVec 32}
    (hQ : ∀ (u0 : BitVec 32) (u1 : BitVec 32) (u2 : BitVec 1), RS I K c f0 R 96 8 ![⟨6, 6, 3, 2, 3, 2, 7, 6⟩, ⟨6, 6, 3, 2, 3, 2, 7, 6⟩, ⟨6, 6, 3, 2, 3, 2, 7, 6⟩, ⟨6, 6, 3, 2, 3, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ Q ⟨u0, u1, u2⟩) :
    RS I K c f0 R 96 8 ![⟨6, 6, 3, 2, 3, 2, 7, 6⟩, ⟨6, 6, 3, 2, 3, 2, 7, 6⟩, ⟨6, 6, 3, 2, 3, 2, 7, 6⟩, ⟨6, 5, 2, 2, 2, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ WP c (k0_part107 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v3100) Q := by
  rw [k0_part107_eq_skeleton]
  unfold k0_part107_skel
  refine rs_ldacc 3 5 (by decide +kernel) (of18 c 5) ?_
  refine rs_ldcomm 3 5 (by decide +kernel) rfl rfl ?_
  refine rs_ldacc 3 5 (by decide +kernel) (of18 c 5) ?_
  refine rs_store 3 5 (by decide +kernel) (of18 c 5) rfl ?_
  refine rs_sendwait 3 4 (by decide +kernel) rfl rfl ?_
  refine rs_credwait 3 4 (by decide +kernel) rfl rfl ?_
  exact RS_eq (by decide +kernel) ((hQ _ _ _).trans (wp_ret_intro _ _))

theorem part108 {R : sProp 𝕄} {Q : (BitVec 32) → sProp 𝕄} {v2 : BitVec 32} {v13 : BitVec 32} {v24 : BitVec 32} {v3129 : BitVec 32} {v3130 : BitVec 32} {v3135 : BitVec 1}
    (hQ : ∀ (u0 : BitVec 32), RS I K c f0 R 98 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ Q u0) :
    RS I K c f0 R 96 8 ![⟨6, 6, 3, 2, 3, 2, 7, 6⟩, ⟨6, 6, 3, 2, 3, 2, 7, 6⟩, ⟨6, 6, 3, 2, 3, 2, 7, 6⟩, ⟨6, 6, 3, 2, 3, 2, 6, 5⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ WP c (k0_part108 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v3129 v3130 v3135) Q := by
  rw [k0_part108_eq_skeleton]
  unfold k0_part108_skel
  refine rs_send 3 6 (by decide +kernel) (dv97 c) (of6 c 6) rfl rfl rfl rfl ?_
  refine rs_signal 3 5 (by decide +kernel) (dv98 c) rfl rfl ?_
  exact RS_eq (by decide +kernel) ((hQ _).trans (wp_ret_intro _ _))

theorem part109 {R : sProp 𝕄} {Q : (BitVec 32) → sProp 𝕄} {v24 : BitVec 32} {v3164 : BitVec 32}
    (hQ : ∀ (u0 : BitVec 32), RS I K c f0 R 98 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 6, 5⟩, ⟨5, 5, 2, 2, 2, 2, 6, 5⟩, ⟨5, 5, 2, 2, 2, 2, 6, 5⟩, ⟨5, 5, 2, 2, 2, 2, 6, 5⟩] ⊢ Q u0) :
    RS I K c f0 R 98 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨5, 5, 2, 2, 2, 2, 6, 5⟩, ⟨5, 5, 2, 2, 2, 2, 6, 5⟩, ⟨5, 5, 2, 2, 2, 2, 6, 5⟩, ⟨5, 5, 2, 2, 2, 2, 6, 5⟩] ⊢ WP c (k0_part109 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v24 v3164) Q := by
  rw [k0_part109_eq_skeleton]
  unfold k0_part109_skel
  refine rs_recv 4 5 (by decide +kernel) rfl rfl ?_
  refine rs_ldacc 4 5 (by decide +kernel) (of19 c 5) ?_
  refine rs_ldcomm 4 5 (by decide +kernel) rfl rfl ?_
  refine rs_ldacc 4 5 (by decide +kernel) (of19 c 5) ?_
  refine rs_store 4 5 (by decide +kernel) (of19 c 5) rfl ?_
  refine rs_sendwait 4 4 (by decide +kernel) rfl rfl ?_
  refine rs_credwait 4 4 (by decide +kernel) rfl rfl ?_
  exact RS_eq (by decide +kernel) ((hQ _).trans (wp_ret_intro _ _))

theorem part110 {R : sProp 𝕄} {Q : (Σ' (v3218 : BitVec 32), BitVec 32) → sProp 𝕄} {v2 : BitVec 32} {v13 : BitVec 32} {v24 : BitVec 32} {c6_i32_3048 : BitVec 32}
    (hQ : ∀ (u0 : BitVec 32) (u1 : BitVec 32), RS I K c f0 R 100 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨5, 5, 2, 2, 2, 2, 6, 5⟩, ⟨5, 5, 2, 2, 2, 2, 6, 5⟩, ⟨5, 5, 2, 2, 2, 2, 6, 5⟩] ⊢ Q ⟨u0, u1⟩) :
    RS I K c f0 R 98 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 6, 5⟩, ⟨5, 5, 2, 2, 2, 2, 6, 5⟩, ⟨5, 5, 2, 2, 2, 2, 6, 5⟩, ⟨5, 5, 2, 2, 2, 2, 6, 5⟩] ⊢ WP c (k0_part110 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 c6_i32_3048) Q := by
  rw [k0_part110_eq_skeleton]
  unfold k0_part110_skel
  refine rs_send 4 6 (by decide +kernel) (dv99 c) (of7 c 6) rfl rfl rfl rfl ?_
  refine rs_signal 4 5 (by decide +kernel) (dv100 c) rfl rfl ?_
  exact RS_eq (by decide +kernel) ((hQ _ _).trans (wp_ret_intro _ _))

theorem part111 {R : sProp 𝕄} {Q : (PUnit) → sProp 𝕄} {v13 : BitVec 32} {v3218 : BitVec 32} {v3220 : BitVec 32}
    (hQ : RS I K c f0 R 100 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 2, 2, 2, 2, 6, 5⟩, ⟨5, 5, 2, 2, 2, 2, 6, 5⟩, ⟨5, 5, 2, 2, 2, 2, 6, 5⟩] ⊢ Q ⟨⟩) :
    RS I K c f0 R 100 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨5, 5, 2, 2, 2, 2, 6, 5⟩, ⟨5, 5, 2, 2, 2, 2, 6, 5⟩, ⟨5, 5, 2, 2, 2, 2, 6, 5⟩] ⊢ WP c (k0_part111 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v13 v3218 v3220) Q := by
  rw [k0_part111_eq_skeleton]
  unfold k0_part111_skel
  refine rs_recv 5 5 (by decide +kernel) rfl rfl ?_
  refine rs_ldacc 5 5 (by decide +kernel) (of20 c 5) ?_
  refine rs_ldcomm 5 5 (by decide +kernel) rfl rfl ?_
  refine rs_ldacc 5 5 (by decide +kernel) (of20 c 5) ?_
  refine rs_store 5 5 (by decide +kernel) (of20 c 5) rfl ?_
  exact RS_eq (by decide +kernel) ((hQ).trans (wp_ret_intro _ _))

theorem part112 {R : sProp 𝕄} {Q : (PUnit) → sProp 𝕄} {v2 : BitVec 32} {v13 : BitVec 32}
    (hQ : RS I K c f0 R 101 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 5⟩, ⟨5, 5, 2, 2, 2, 2, 6, 5⟩, ⟨5, 5, 2, 2, 2, 2, 6, 5⟩] ⊢ Q ⟨⟩) :
    RS I K c f0 R 100 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 2, 2, 2, 2, 6, 5⟩, ⟨5, 5, 2, 2, 2, 2, 6, 5⟩, ⟨5, 5, 2, 2, 2, 2, 6, 5⟩] ⊢ WP c (k0_part112 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part112_eq_skeleton]
  unfold k0_part112_skel
  refine rs_sendwait 5 4 (by decide +kernel) rfl rfl ?_
  refine rs_credwait 5 4 (by decide +kernel) rfl rfl ?_
  refine rs_send 5 6 (by decide +kernel) (dv101 c) (of8 c 6) rfl rfl rfl rfl ?_
  exact RS_eq (by decide +kernel) ((hQ).trans (wp_ret_intro _ _))

end Parts

end K
-- ==== Proof.K.Rs6.lean ====
module

public import proofs.«01_k».proof.Proof.K.Pre

/-!
# The pieces of the reduce-scatter, 6
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Parts

variable {I : In F} {K : Dev nD × Kn → ℕ} {c : Dev nD} {f0 : Vec F S4096x2048 .bf16}

theorem part113 {R : sProp 𝕄} {Q : (Σ' (v3292 : BitVec 32) (v3307 : FVec F S512x256 .bf16), BitVec 32) → sProp 𝕄} {v2 : BitVec 32} {v24 : BitVec 32}
    (hQ : ∀ (u0 : BitVec 32) (u2 : BitVec 32), RS I K c f0 R 102 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 5, 2, 2, 2, 2, 6, 5⟩, ⟨5, 5, 2, 2, 2, 2, 6, 5⟩] ⊢ Q ⟨u0, (k0_pay58 (gv I c 6 6) (cv I c 5 6)), u2⟩) :
    RS I K c f0 R 101 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 5⟩, ⟨5, 5, 2, 2, 2, 2, 6, 5⟩, ⟨5, 5, 2, 2, 2, 2, 6, 5⟩] ⊢ WP c (k0_part113 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24) Q := by
  rw [k0_part113_eq_skeleton]
  unfold k0_part113_skel
  refine rs_signal 5 5 (by decide +kernel) (dv102 c) rfl rfl ?_
  refine rs_recv 6 5 (by decide +kernel) rfl rfl ?_
  refine rs_ldacc 6 5 (by decide +kernel) (of21 c 5) ?_
  refine rs_ldcomm 6 5 (by decide +kernel) rfl rfl ?_
  exact RS_eq (by decide +kernel) ((hQ _ _).trans (wp_ret_intro _ _))

theorem part114 {R : sProp 𝕄} {Q : (PUnit) → sProp 𝕄} {v2 : BitVec 32} {v24 : BitVec 32} {v3292 : BitVec 32} {c512_i32_3162 : BitVec 32}
    (hQ : RS I K c f0 R 102 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 6, 5⟩, ⟨5, 5, 2, 2, 2, 2, 6, 5⟩] ⊢ Q ⟨⟩) :
    RS I K c f0 R 102 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 5, 2, 2, 2, 2, 6, 5⟩, ⟨5, 5, 2, 2, 2, 2, 6, 5⟩] ⊢ WP c (k0_part114 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v3292 (k0_pay58 (gv I c 6 6) (cv I c 5 6)) c512_i32_3162) Q := by
  rw [k0_part114_eq_skeleton]
  unfold k0_part114_skel
  refine rs_ldacc 6 5 (by decide +kernel) (of21 c 5) ?_
  refine rs_store 6 5 (by decide +kernel) (of21 c 5) rfl ?_
  refine rs_sendwait 6 4 (by decide +kernel) rfl rfl ?_
  refine rs_credwait 6 4 (by decide +kernel) rfl rfl ?_
  exact RS_eq (by decide +kernel) ((hQ).trans (wp_ret_intro _ _))

theorem part115 {R : sProp 𝕄} {Q : (BitVec 32) → sProp 𝕄} {v2 : BitVec 32} {v13 : BitVec 32}
    (hQ : ∀ (u0 : BitVec 32), RS I K c f0 R 104 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 5, 2, 2, 2, 2, 6, 5⟩] ⊢ Q u0) :
    RS I K c f0 R 102 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 6, 5⟩, ⟨5, 5, 2, 2, 2, 2, 6, 5⟩] ⊢ WP c (k0_part115 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part115_eq_skeleton]
  unfold k0_part115_skel
  refine rs_send 6 6 (by decide +kernel) (dv103 c) (of9 c 6) rfl rfl rfl rfl ?_
  refine rs_signal 6 5 (by decide +kernel) (dv104 c) rfl rfl ?_
  refine rs_recv 7 5 (by decide +kernel) rfl rfl ?_
  exact RS_eq (by decide +kernel) ((hQ _).trans (wp_ret_intro _ _))

theorem part116 {R : sProp 𝕄} {Q : (Σ' (v3385 : BitVec 32) (v3386 : BitVec 32), BitVec 1) → sProp 𝕄} {v2 : BitVec 32} {v3356 : BitVec 32}
    (hQ : ∀ (u0 : BitVec 32) (u1 : BitVec 32) (u2 : BitVec 1), RS I K c f0 R 104 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 6, 5⟩] ⊢ Q ⟨u0, u1, u2⟩) :
    RS I K c f0 R 104 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 5, 2, 2, 2, 2, 6, 5⟩] ⊢ WP c (k0_part116 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v3356) Q := by
  rw [k0_part116_eq_skeleton]
  unfold k0_part116_skel
  refine rs_ldacc 7 5 (by decide +kernel) (of22 c 5) ?_
  refine rs_ldcomm 7 5 (by decide +kernel) rfl rfl ?_
  refine rs_ldacc 7 5 (by decide +kernel) (of22 c 5) ?_
  refine rs_store 7 5 (by decide +kernel) (of22 c 5) rfl ?_
  refine rs_sendwait 7 4 (by decide +kernel) rfl rfl ?_
  refine rs_credwait 7 4 (by decide +kernel) rfl rfl ?_
  exact RS_eq (by decide +kernel) ((hQ _ _ _).trans (wp_ret_intro _ _))

theorem part117 {R : sProp 𝕄} {Q : (BitVec 32) → sProp 𝕄} {v2 : BitVec 32} {v13 : BitVec 32} {v24 : BitVec 32} {v3385 : BitVec 32} {v3386 : BitVec 32} {v3391 : BitVec 1}
    (hQ : ∀ (u0 : BitVec 32), RS I K c f0 R 106 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩] ⊢ Q u0) :
    RS I K c f0 R 104 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 6, 5⟩] ⊢ WP c (k0_part117 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v3385 v3386 v3391) Q := by
  rw [k0_part117_eq_skeleton]
  unfold k0_part117_skel
  refine rs_send 7 6 (by decide +kernel) (dv105 c) (of10 c 6) rfl rfl rfl rfl ?_
  refine rs_signal 7 5 (by decide +kernel) (dv106 c) rfl rfl ?_
  exact RS_eq (by decide +kernel) ((hQ _).trans (wp_ret_intro _ _))

theorem part118 {R : sProp 𝕄} {Q : (Σ' (v3447 : BitVec 32) (v3448 : BitVec 32) (v3449 : BitVec 1), BitVec 1) → sProp 𝕄} {v2 : BitVec 32} {v13 : BitVec 32} {v24 : BitVec 32} {v3420 : BitVec 32}
    (hQ : ∀ (u0 : BitVec 32) (u1 : BitVec 32) (u2 : BitVec 1) (u3 : BitVec 1), RS I K c f0 R 107 8 ![⟨7, 7, 3, 2, 3, 2, 7, 7⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩] ⊢ Q ⟨u0, u1, u2, u3⟩) :
    RS I K c f0 R 106 8 ![⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩] ⊢ WP c (k0_part118 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v3420) Q := by
  rw [k0_part118_eq_skeleton]
  unfold k0_part118_skel
  refine rs_recv 0 6 (by decide +kernel) rfl rfl ?_
  refine rs_ldacc 0 6 (by decide +kernel) (of15 c 6) ?_
  refine rs_ldcomm 0 6 (by decide +kernel) rfl rfl ?_
  refine rs_ldacc 0 6 (by decide +kernel) (of15 c 6) ?_
  refine rs_store 0 6 (by decide +kernel) (of15 c 6) rfl ?_
  refine rs_signal 0 6 (by decide +kernel) (dv107 c) rfl rfl ?_
  exact RS_eq (by decide +kernel) ((hQ _ _ _ _).trans (wp_ret_intro _ _))

theorem part119 {R : sProp 𝕄} {Q : (BitVec 32) → sProp 𝕄} {v2 : BitVec 32} {v13 : BitVec 32} {v24 : BitVec 32} {v3447 : BitVec 32} {v3448 : BitVec 32} {v3449 : BitVec 1} {v3450 : BitVec 1}
    (hQ : ∀ (u0 : BitVec 32), RS I K c f0 R 108 8 ![⟨7, 7, 3, 2, 3, 2, 7, 7⟩, ⟨7, 7, 3, 2, 3, 2, 7, 7⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩] ⊢ Q u0) :
    RS I K c f0 R 107 8 ![⟨7, 7, 3, 2, 3, 2, 7, 7⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩] ⊢ WP c (k0_part119 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v3447 v3448 v3449 v3450) Q := by
  rw [k0_part119_eq_skeleton]
  unfold k0_part119_skel
  refine rs_recv 1 6 (by decide +kernel) rfl rfl ?_
  refine rs_ldacc 1 6 (by decide +kernel) (of16 c 6) ?_
  refine rs_ldcomm 1 6 (by decide +kernel) rfl rfl ?_
  refine rs_ldacc 1 6 (by decide +kernel) (of16 c 6) ?_
  refine rs_store 1 6 (by decide +kernel) (of16 c 6) rfl ?_
  refine rs_signal 1 6 (by decide +kernel) (dv108 c) rfl rfl ?_
  exact RS_eq (by decide +kernel) ((hQ _).trans (wp_ret_intro _ _))

theorem part120 {R : sProp 𝕄} {Q : (PUnit) → sProp 𝕄} {v24 : BitVec 32} {v3480 : BitVec 32}
    (hQ : RS I K c f0 R 108 8 ![⟨7, 7, 3, 2, 3, 2, 7, 7⟩, ⟨7, 7, 3, 2, 3, 2, 7, 7⟩, ⟨7, 7, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩] ⊢ Q ⟨⟩) :
    RS I K c f0 R 108 8 ![⟨7, 7, 3, 2, 3, 2, 7, 7⟩, ⟨7, 7, 3, 2, 3, 2, 7, 7⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩] ⊢ WP c (k0_part120 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v24 v3480) Q := by
  rw [k0_part120_eq_skeleton]
  unfold k0_part120_skel
  refine rs_recv 2 6 (by decide +kernel) rfl rfl ?_
  refine rs_ldacc 2 6 (by decide +kernel) (of17 c 6) ?_
  refine rs_ldcomm 2 6 (by decide +kernel) rfl rfl ?_
  refine rs_ldacc 2 6 (by decide +kernel) (of17 c 6) ?_
  refine rs_store 2 6 (by decide +kernel) (of17 c 6) rfl ?_
  exact RS_eq (by decide +kernel) ((hQ).trans (wp_ret_intro _ _))

theorem part121 {R : sProp 𝕄} {Q : (Σ' (v3525 : BitVec 32) (v3540 : FVec F S512x256 .bf16), BitVec 32) → sProp 𝕄} {v2 : BitVec 32} {v13 : BitVec 32}
    (hQ : ∀ (u0 : BitVec 32) (u2 : BitVec 32), RS I K c f0 R 109 8 ![⟨7, 7, 3, 2, 3, 2, 7, 7⟩, ⟨7, 7, 3, 2, 3, 2, 7, 7⟩, ⟨7, 7, 3, 2, 3, 2, 7, 7⟩, ⟨7, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩] ⊢ Q ⟨u0, (k0_pay63 (gv I c 7 3) (cv I c 6 3)), u2⟩) :
    RS I K c f0 R 108 8 ![⟨7, 7, 3, 2, 3, 2, 7, 7⟩, ⟨7, 7, 3, 2, 3, 2, 7, 7⟩, ⟨7, 7, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩] ⊢ WP c (k0_part121 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13) Q := by
  rw [k0_part121_eq_skeleton]
  unfold k0_part121_skel
  refine rs_signal 2 6 (by decide +kernel) (dv109 c) rfl rfl ?_
  refine rs_recv 3 6 (by decide +kernel) rfl rfl ?_
  refine rs_ldacc 3 6 (by decide +kernel) (of18 c 6) ?_
  refine rs_ldcomm 3 6 (by decide +kernel) rfl rfl ?_
  exact RS_eq (by decide +kernel) ((hQ _ _).trans (wp_ret_intro _ _))

theorem part122 {R : sProp 𝕄} {Q : (BitVec 32) → sProp 𝕄} {v2 : BitVec 32} {v24 : BitVec 32} {v3525 : BitVec 32} {c512_i32_3388 : BitVec 32}
    (hQ : ∀ (u0 : BitVec 32), RS I K c f0 R 110 8 ![⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 6, 3, 2, 3, 2, 7, 6⟩, ⟨6, 6, 3, 2, 3, 2, 7, 6⟩, ⟨6, 6, 3, 2, 3, 2, 7, 6⟩, ⟨6, 6, 3, 2, 3, 2, 7, 6⟩] ⊢ Q u0) :
    RS I K c f0 R 109 8 ![⟨7, 7, 3, 2, 3, 2, 7, 7⟩, ⟨7, 7, 3, 2, 3, 2, 7, 7⟩, ⟨7, 7, 3, 2, 3, 2, 7, 7⟩, ⟨7, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩] ⊢ WP c (k0_part122 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v3525 (k0_pay63 (gv I c 7 3) (cv I c 6 3)) c512_i32_3388) Q := by
  rw [k0_part122_eq_skeleton]
  unfold k0_part122_skel
  refine rs_ldacc 3 6 (by decide +kernel) (of18 c 6) ?_
  refine rs_store 3 6 (by decide +kernel) (of18 c 6) rfl ?_
  refine rs_signal 3 6 (by decide +kernel) (dv110 c) rfl rfl ?_
  refine rs_recv 4 6 (by decide +kernel) rfl rfl ?_
  exact RS_eq (by decide +kernel) ((hQ _).trans (wp_ret_intro _ _))

theorem part123 {R : sProp 𝕄} {Q : (BitVec 32) → sProp 𝕄} {v2 : BitVec 32} {v13 : BitVec 32} {v3560 : BitVec 32}
    (hQ : ∀ (u0 : BitVec 32), RS I K c f0 R 111 8 ![⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨6, 6, 3, 2, 3, 2, 7, 6⟩, ⟨6, 6, 3, 2, 3, 2, 7, 6⟩, ⟨6, 6, 3, 2, 3, 2, 7, 6⟩] ⊢ Q u0) :
    RS I K c f0 R 110 8 ![⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 6, 3, 2, 3, 2, 7, 6⟩, ⟨6, 6, 3, 2, 3, 2, 7, 6⟩, ⟨6, 6, 3, 2, 3, 2, 7, 6⟩, ⟨6, 6, 3, 2, 3, 2, 7, 6⟩] ⊢ WP c (k0_part123 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v3560) Q := by
  rw [k0_part123_eq_skeleton]
  unfold k0_part123_skel
  refine rs_ldacc 4 6 (by decide +kernel) (of19 c 6) ?_
  refine rs_ldcomm 4 6 (by decide +kernel) rfl rfl ?_
  refine rs_ldacc 4 6 (by decide +kernel) (of19 c 6) ?_
  refine rs_store 4 6 (by decide +kernel) (of19 c 6) rfl ?_
  refine rs_signal 4 6 (by decide +kernel) (dv111 c) rfl rfl ?_
  exact RS_eq (by decide +kernel) ((hQ _).trans (wp_ret_intro _ _))

theorem part124 {R : sProp 𝕄} {Q : (BitVec 32) → sProp 𝕄} {v2 : BitVec 32} {v24 : BitVec 32} {v3595 : BitVec 32}
    (hQ : ∀ (u0 : BitVec 32), RS I K c f0 R 112 8 ![⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨6, 6, 3, 2, 3, 2, 7, 6⟩, ⟨6, 6, 3, 2, 3, 2, 7, 6⟩] ⊢ Q u0) :
    RS I K c f0 R 111 8 ![⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨6, 6, 3, 2, 3, 2, 7, 6⟩, ⟨6, 6, 3, 2, 3, 2, 7, 6⟩, ⟨6, 6, 3, 2, 3, 2, 7, 6⟩] ⊢ WP c (k0_part124 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v24 v3595) Q := by
  rw [k0_part124_eq_skeleton]
  unfold k0_part124_skel
  refine rs_recv 5 6 (by decide +kernel) rfl rfl ?_
  refine rs_ldacc 5 6 (by decide +kernel) (of20 c 6) ?_
  refine rs_ldcomm 5 6 (by decide +kernel) rfl rfl ?_
  refine rs_ldacc 5 6 (by decide +kernel) (of20 c 6) ?_
  refine rs_store 5 6 (by decide +kernel) (of20 c 6) rfl ?_
  refine rs_signal 5 6 (by decide +kernel) (dv112 c) rfl rfl ?_
  exact RS_eq (by decide +kernel) ((hQ _).trans (wp_ret_intro _ _))

theorem part125 {R : sProp 𝕄} {Q : (Σ' (v3657 : BitVec 32) (v3658 : BitVec 32) (v3659 : BitVec 1), BitVec 1) → sProp 𝕄} {v2 : BitVec 32} {v13 : BitVec 32} {v24 : BitVec 32} {v3630 : BitVec 32}
    (hQ : ∀ (u0 : BitVec 32) (u1 : BitVec 32) (u2 : BitVec 1) (u3 : BitVec 1), RS I K c f0 R 113 8 ![⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨6, 6, 3, 2, 3, 2, 7, 6⟩] ⊢ Q ⟨u0, u1, u2, u3⟩) :
    RS I K c f0 R 112 8 ![⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨6, 6, 3, 2, 3, 2, 7, 6⟩, ⟨6, 6, 3, 2, 3, 2, 7, 6⟩] ⊢ WP c (k0_part125 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v3630) Q := by
  rw [k0_part125_eq_skeleton]
  unfold k0_part125_skel
  refine rs_recv 6 6 (by decide +kernel) rfl rfl ?_
  refine rs_ldacc 6 6 (by decide +kernel) (of21 c 6) ?_
  refine rs_ldcomm 6 6 (by decide +kernel) rfl rfl ?_
  refine rs_ldacc 6 6 (by decide +kernel) (of21 c 6) ?_
  refine rs_store 6 6 (by decide +kernel) (of21 c 6) rfl ?_
  refine rs_signal 6 6 (by decide +kernel) (dv113 c) rfl rfl ?_
  exact RS_eq (by decide +kernel) ((hQ _ _ _ _).trans (wp_ret_intro _ _))

theorem part126 {R : sProp 𝕄} {Q : (PUnit) → sProp 𝕄} {v13 : BitVec 32} {v24 : BitVec 32} {v3657 : BitVec 32} {v3658 : BitVec 32} {v3659 : BitVec 1} {v3660 : BitVec 1}
    (hQ : RS I K c f0 R 114 8 ![⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩] ⊢ Q ⟨⟩) :
    RS I K c f0 R 113 8 ![⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨6, 6, 3, 2, 3, 2, 7, 6⟩] ⊢ WP c (k0_part126 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v13 v24 v3657 v3658 v3659 v3660) Q := by
  rw [k0_part126_eq_skeleton]
  unfold k0_part126_skel
  refine rs_recv 7 6 (by decide +kernel) rfl rfl ?_
  refine rs_ldacc 7 6 (by decide +kernel) (of22 c 6) ?_
  refine rs_ldcomm 7 6 (by decide +kernel) rfl rfl ?_
  refine rs_ldacc 7 6 (by decide +kernel) (of22 c 6) ?_
  refine rs_store 7 6 (by decide +kernel) (of22 c 6) rfl ?_
  refine rs_signal 7 6 (by decide +kernel) (dv114 c) rfl rfl ?_
  exact RS_eq (by decide +kernel) ((hQ).trans (wp_ret_intro _ _))

theorem part127 {R : sProp 𝕄} {Q : (PUnit) → sProp 𝕄}
    (hQ : RS I K c f0 R 114 8 ![⟨7, 7, 4, 3, 3, 2, 7, 7⟩, ⟨7, 7, 4, 3, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩] ⊢ Q ⟨⟩) :
    RS I K c f0 R 114 8 ![⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩] ⊢ WP c (k0_part127 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c) Q := by
  rw [k0_part127_eq_skeleton]
  unfold k0_part127_skel
  refine rs_sendwait 0 6 (by decide +kernel) rfl rfl ?_
  refine rs_sendwait 0 5 (by decide +kernel) rfl rfl ?_
  refine rs_sendwait 1 6 (by decide +kernel) rfl rfl ?_
  refine rs_sendwait 1 5 (by decide +kernel) rfl rfl ?_
  exact RS_eq (by decide +kernel) ((hQ).trans (wp_ret_intro _ _))

theorem part128 {R : sProp 𝕄} {Q : (PUnit) → sProp 𝕄}
    (hQ : RS I K c f0 R 114 8 ![⟨7, 7, 4, 3, 3, 2, 7, 7⟩, ⟨7, 7, 4, 3, 3, 2, 7, 7⟩, ⟨7, 7, 4, 3, 3, 2, 7, 7⟩, ⟨7, 7, 4, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩] ⊢ Q ⟨⟩) :
    RS I K c f0 R 114 8 ![⟨7, 7, 4, 3, 3, 2, 7, 7⟩, ⟨7, 7, 4, 3, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩] ⊢ WP c (k0_part128 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c) Q := by
  rw [k0_part128_eq_skeleton]
  unfold k0_part128_skel
  refine rs_sendwait 2 6 (by decide +kernel) rfl rfl ?_
  refine rs_sendwait 2 5 (by decide +kernel) rfl rfl ?_
  refine rs_sendwait 3 6 (by decide +kernel) rfl rfl ?_
  exact RS_eq (by decide +kernel) ((hQ).trans (wp_ret_intro _ _))

theorem part129 {R : sProp 𝕄} {Q : (PUnit) → sProp 𝕄}
    (hQ : RS I K c f0 R 114 8 ![⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 2, 3, 2, 7, 7⟩, ⟨7, 7, 3, 2, 3, 2, 7, 7⟩, ⟨7, 7, 3, 2, 3, 2, 7, 7⟩] ⊢ Q ⟨⟩) :
    RS I K c f0 R 114 8 ![⟨7, 7, 4, 3, 3, 2, 7, 7⟩, ⟨7, 7, 4, 3, 3, 2, 7, 7⟩, ⟨7, 7, 4, 3, 3, 2, 7, 7⟩, ⟨7, 7, 4, 2, 3, 2, 7, 7⟩, ⟨7, 7, 3, 2, 3, 2, 7, 7⟩, ⟨7, 7, 3, 2, 3, 2, 7, 7⟩, ⟨7, 7, 3, 2, 3, 2, 7, 7⟩, ⟨7, 7, 3, 2, 3, 2, 7, 7⟩] ⊢ WP c (k0_part129 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c) Q := by
  rw [k0_part129_eq_skeleton]
  unfold k0_part129_skel
  refine rs_sendwait 3 5 (by decide +kernel) rfl rfl ?_
  refine rs_sendwait 4 6 (by decide +kernel) rfl rfl ?_
  refine rs_sendwait 4 5 (by decide +kernel) rfl rfl ?_
  refine rs_sendwait 5 6 (by decide +kernel) rfl rfl ?_
  exact RS_eq (by decide +kernel) ((hQ).trans (wp_ret_intro _ _))

theorem part130 {R : sProp 𝕄} {Q : (PUnit) → sProp 𝕄}
    (hQ : RS I K c f0 R 114 8 ![⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 2, 3, 2, 7, 7⟩] ⊢ Q ⟨⟩) :
    RS I K c f0 R 114 8 ![⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 2, 3, 2, 7, 7⟩, ⟨7, 7, 3, 2, 3, 2, 7, 7⟩, ⟨7, 7, 3, 2, 3, 2, 7, 7⟩] ⊢ WP c (k0_part130 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c) Q := by
  rw [k0_part130_eq_skeleton]
  unfold k0_part130_skel
  refine rs_sendwait 5 5 (by decide +kernel) rfl rfl ?_
  refine rs_sendwait 6 6 (by decide +kernel) rfl rfl ?_
  refine rs_sendwait 6 5 (by decide +kernel) rfl rfl ?_
  refine rs_sendwait 7 6 (by decide +kernel) rfl rfl ?_
  exact RS_eq (by decide +kernel) ((hQ).trans (wp_ret_intro _ _))

end Parts

end K
-- ==== Proof.K.Ag1.lean ====
module

public import proofs.«01_k».proof.Proof.K.ToAG

/-!
# From the reduce-scatter to the exchange of the maxima
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Parts

variable {I : In F} {K : Dev nD × Kn → ℕ} {c : Dev nD} {f0 : Vec F S4096x2048 .bf16}

theorem part131 {R : sProp 𝕄} {Q : (Σ' (v3779 : BitVec 32) (v3790 : BitVec 32), FVec F S1 .f32) → sProp 𝕄} {v2 : BitVec 32}
    (hQ : ∀ (u0 : BitVec 32) (u1 : BitVec 32), AG I K c iprop(CW c ![0, 0, 0, 0, 0, 0, 0, 0, 0, 0, 0, 0, 0, 0, 0, 0] ∗ Left I c ∗ R) (MX I c 0 ![0, 0, 0, 0, 0, 0, 0] ![0, 0, 0, 0, 0, 0, 0]) 114 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ Q ⟨u0, u1, (k0_pay68 (tV I 0 c))⟩) :
    RS I K c f0 iprop(Ext I c ∗ R) 114 8 ![⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 3, 3, 2, 7, 7⟩, ⟨7, 7, 4, 2, 3, 2, 7, 7⟩] ⊢ WP c (k0_part131 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2) Q := by
  rw [k0_part131_eq_skeleton]
  unfold k0_part131_skel
  refine rs_sendwait 7 5 (by decide +kernel) rfl rfl ?_
  refine RS_eq (by decide +kernel) (toAG.trans ?_)
  refine ag_ldsum 0 rfl (of25 c) ?_
  exact CW_eq (by decide +kernel) (MX_eq (by decide +kernel) (AG_eq (by decide +kernel) ((hQ _ _).trans (wp_ret_intro _ _))))

end Parts

end K
-- ==== Proof.K.Ag2.lean ====
module

public import proofs.«01_k».proof.Proof.K.AM

/-!
# The pieces of the all-gather, 1
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Parts

variable {I : In F} {K : Dev nD × Kn → ℕ} {c : Dev nD} {f0 : Vec F S4096x2048 .bf16}

theorem part132 {R : sProp 𝕄} {Q : (Σ' (v3829 : BitVec 32) (v3838 : BitVec 32), BitVec 32) → sProp 𝕄} {v2 : BitVec 32} {v3790 : BitVec 32}
    (hQ : ∀ (u0 : BitVec 32) (u1 : BitVec 32) (u2 : BitVec 32), AG I K c iprop(CW c ![0, 0, 0, 0, 0, 0, 0, 0, 0, 0, 0, 0, 0, 0, 0, 0] ∗ R) (MX I c 1 ![2, 1, 1, 1, 1, 1, 1] ![0, 0, 0, 0, 0, 0, 0]) 115 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ Q ⟨u0, u1, u2⟩) :
    AG I K c iprop(CW c ![0, 0, 0, 0, 0, 0, 0, 0, 0, 0, 0, 0, 0, 0, 0, 0] ∗ R) (MX I c 0 ![0, 0, 0, 0, 0, 0, 0] ![0, 0, 0, 0, 0, 0, 0]) 114 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ WP c (k0_part132 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v3790 (k0_pay68 (tV I 0 c))) Q := by
  rw [k0_part132_eq_skeleton]
  unfold k0_part132_skel
  refine ag_ldsum 1 rfl (of26 c) ?_
  refine am_ldrow (of27 c) (fun _ => ?_)
  refine am_strow (by decide +kernel) (of27 c) rfl ?_
  refine am_send 0 (by decide +kernel) (dv115 c) (of28 c) rfl rfl rfl ?_
  exact CW_eq (by decide +kernel) (MX_eq (by decide +kernel) (AG_eq (by decide +kernel) ((hQ _ _ _).trans (wp_ret_intro _ _))))

theorem part133 {R : sProp 𝕄} {Q : (Σ' (v3848 : BitVec 32), BitVec 32) → sProp 𝕄} {v2 : BitVec 32} {v3838 : BitVec 32} {c8_i32_3718 : BitVec 32}
    (hQ : ∀ (u0 : BitVec 32) (u1 : BitVec 32), AG I K c iprop(CW c ![0, 0, 0, 0, 0, 0, 0, 0, 0, 0, 0, 0, 0, 0, 0, 0] ∗ R) (MX I c 1 ![2, 2, 1, 1, 1, 1, 1] ![0, 0, 0, 0, 0, 0, 0]) 116 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ Q ⟨u0, u1⟩) :
    AG I K c iprop(CW c ![0, 0, 0, 0, 0, 0, 0, 0, 0, 0, 0, 0, 0, 0, 0, 0] ∗ R) (MX I c 1 ![2, 1, 1, 1, 1, 1, 1] ![0, 0, 0, 0, 0, 0, 0]) 115 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ WP c (k0_part133 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v3838 c8_i32_3718) Q := by
  rw [k0_part133_eq_skeleton]
  unfold k0_part133_skel
  refine am_send 1 (by decide +kernel) (dv116 c) (of28 c) rfl rfl rfl ?_
  exact CW_eq (by decide +kernel) (MX_eq (by decide +kernel) (AG_eq (by decide +kernel) ((hQ _ _).trans (wp_ret_intro _ _))))

theorem part134 {R : sProp 𝕄} {Q : (Σ' (v3886 : BitVec 32), BitVec 32) → sProp 𝕄} {v2 : BitVec 32}
    (hQ : ∀ (u0 : BitVec 32) (u1 : BitVec 32), AG I K c iprop(CW c ![0, 0, 0, 0, 0, 0, 0, 0, 0, 0, 0, 0, 0, 0, 0, 0] ∗ R) (MX I c 1 ![2, 2, 2, 2, 1, 1, 1] ![0, 0, 0, 0, 0, 0, 0]) 118 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ Q ⟨u0, u1⟩) :
    AG I K c iprop(CW c ![0, 0, 0, 0, 0, 0, 0, 0, 0, 0, 0, 0, 0, 0, 0, 0] ∗ R) (MX I c 1 ![2, 2, 1, 1, 1, 1, 1] ![0, 0, 0, 0, 0, 0, 0]) 116 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ WP c (k0_part134 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2) Q := by
  rw [k0_part134_eq_skeleton]
  unfold k0_part134_skel
  refine am_send 2 (by decide +kernel) (dv117 c) (of28 c) rfl rfl rfl ?_
  refine am_send 3 (by decide +kernel) (dv118 c) (of28 c) rfl rfl rfl ?_
  exact CW_eq (by decide +kernel) (MX_eq (by decide +kernel) (AG_eq (by decide +kernel) ((hQ _ _).trans (wp_ret_intro _ _))))

theorem part135 {R : sProp 𝕄} {Q : (Σ' (v3924 : BitVec 32), BitVec 32) → sProp 𝕄} {v2 : BitVec 32}
    (hQ : ∀ (u0 : BitVec 32) (u1 : BitVec 32), AG I K c iprop(CW c ![0, 0, 0, 0, 0, 0, 0, 0, 0, 0, 0, 0, 0, 0, 0, 0] ∗ R) (MX I c 1 ![2, 2, 2, 2, 2, 2, 1] ![0, 0, 0, 0, 0, 0, 0]) 120 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ Q ⟨u0, u1⟩) :
    AG I K c iprop(CW c ![0, 0, 0, 0, 0, 0, 0, 0, 0, 0, 0, 0, 0, 0, 0, 0] ∗ R) (MX I c 1 ![2, 2, 2, 2, 1, 1, 1] ![0, 0, 0, 0, 0, 0, 0]) 118 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ WP c (k0_part135 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2) Q := by
  rw [k0_part135_eq_skeleton]
  unfold k0_part135_skel
  refine am_send 4 (by decide +kernel) (dv119 c) (of28 c) rfl rfl rfl ?_
  refine am_send 5 (by decide +kernel) (dv120 c) (of28 c) rfl rfl rfl ?_
  exact CW_eq (by decide +kernel) (MX_eq (by decide +kernel) (AG_eq (by decide +kernel) ((hQ _ _).trans (wp_ret_intro _ _))))

theorem part136 {R : sProp 𝕄} {Q : (PUnit) → sProp 𝕄} {v3829 : BitVec 32} {v3848 : BitVec 32} {v3943 : BitVec 32}
    (hQ : AG I K c iprop(CW c ![0, 0, 0, 0, 0, 0, 0, 0, 0, 0, 0, 0, 0, 0, 0, 0] ∗ R) (MX I c 1 ![3, 3, 2, 2, 2, 2, 2] ![1, 0, 0, 0, 0, 0, 0]) 121 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ Q ⟨⟩) :
    AG I K c iprop(CW c ![0, 0, 0, 0, 0, 0, 0, 0, 0, 0, 0, 0, 0, 0, 0, 0] ∗ R) (MX I c 1 ![2, 2, 2, 2, 2, 2, 1] ![0, 0, 0, 0, 0, 0, 0]) 120 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ WP c (k0_part136 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v3829 v3848 v3943) Q := by
  rw [k0_part136_eq_skeleton]
  unfold k0_part136_skel
  refine am_send 6 (by decide +kernel) (dv121 c) (of28 c) rfl rfl rfl ?_
  refine am_wait 0 (by decide +kernel) rfl rfl ?_
  refine am_recv 0 (by decide +kernel) rfl rfl ?_
  refine am_wait 1 (by decide +kernel) rfl rfl ?_
  exact CW_eq (by decide +kernel) (MX_eq (by decide +kernel) (AG_eq (by decide +kernel) ((hQ).trans (wp_ret_intro _ _))))

theorem part137 {R : sProp 𝕄} {Q : (BitVec 32) → sProp 𝕄} {v3867 : BitVec 32} {v3886 : BitVec 32}
    (hQ : ∀ (u0 : BitVec 32), AG I K c iprop(CW c ![0, 0, 0, 0, 0, 0, 0, 0, 0, 0, 0, 0, 0, 0, 0, 0] ∗ R) (MX I c 1 ![3, 3, 3, 3, 3, 2, 2] ![1, 1, 1, 1, 0, 0, 0]) 121 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ Q u0) :
    AG I K c iprop(CW c ![0, 0, 0, 0, 0, 0, 0, 0, 0, 0, 0, 0, 0, 0, 0, 0] ∗ R) (MX I c 1 ![3, 3, 2, 2, 2, 2, 2] ![1, 0, 0, 0, 0, 0, 0]) 121 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ WP c (k0_part137 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v3867 v3886) Q := by
  rw [k0_part137_eq_skeleton]
  unfold k0_part137_skel
  refine am_recv 1 (by decide +kernel) rfl rfl ?_
  refine am_wait 2 (by decide +kernel) rfl rfl ?_
  refine am_recv 2 (by decide +kernel) rfl rfl ?_
  refine am_wait 3 (by decide +kernel) rfl rfl ?_
  refine am_recv 3 (by decide +kernel) rfl rfl ?_
  refine am_wait 4 (by decide +kernel) rfl rfl ?_
  exact CW_eq (by decide +kernel) (MX_eq (by decide +kernel) (AG_eq (by decide +kernel) ((hQ _).trans (wp_ret_intro _ _))))

theorem part138 {R : sProp 𝕄} {Q : (FVec F S1x8x128 .f32) → sProp 𝕄} {v3905 : BitVec 32} {v3924 : BitVec 32} {v3943 : BitVec 32} {c1_i32_3845 : BitVec 32}
    (hQ : AG I K c iprop(CW c ![0, 0, 0, 0, 0, 0, 0, 0, 0, 0, 0, 0, 0, 0, 0, 0] ∗ R) (MXend I c) 121 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ Q (k0_pay70 (AM I))) :
    AG I K c iprop(CW c ![0, 0, 0, 0, 0, 0, 0, 0, 0, 0, 0, 0, 0, 0, 0, 0] ∗ R) (MX I c 1 ![3, 3, 3, 3, 3, 2, 2] ![1, 1, 1, 1, 0, 0, 0]) 121 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ WP c (k0_part138 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v3905 v3924 v3943 c1_i32_3845) Q := by
  rw [k0_part138_eq_skeleton]
  unfold k0_part138_skel
  refine am_recv 4 (by decide +kernel) rfl rfl ?_
  refine am_wait 5 (by decide +kernel) rfl rfl ?_
  refine am_recv 5 (by decide +kernel) rfl rfl ?_
  refine am_wait 6 (by decide +kernel) rfl rfl ?_
  refine am_recv 6 (by decide +kernel) rfl rfl ?_
  refine am_ldall (by decide +kernel) rfl ?_
  exact CW_eq (by decide +kernel) (AG_eq (by decide +kernel) ((hQ).trans (wp_ret_intro _ _)))

theorem part139 {R : sProp 𝕄} {Q : (Σ' (v4029 : F .bf16) (v4063 : IVec S512x1024 8), Vec F S512x1024 .i8) → sProp 𝕄} {v3779 : BitVec 32} {v3790 : BitVec 32}
    (hQ : ∀ (u2 : Vec F S512x1024 .i8), AG I K c iprop(CW c ![0, 0, 0, 0, 0, 0, 0, 0, 0, 0, 0, 0, 0, 0, 0, 0] ∗ R) (MXend I c) 121 ![1, 1, 0, 0, 0, 0, 0, 0, 0, 0, 0, 0, 0, 0, 0, 0] ![2, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ Q ⟨(k0_pay73 (k0_pay70 (AM I))), (k0_pay75 (k0_pay70 (AM I)) (tV I 1 c)), u2⟩) :
    AG I K c iprop(CW c ![0, 0, 0, 0, 0, 0, 0, 0, 0, 0, 0, 0, 0, 0, 0, 0] ∗ R) (MXend I c) 121 ![1, 1, 0, 0, 0, 0, 0, 0, 0, 0, 0, 0, 0, 0, 0, 0] ![1, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ WP c (k0_part139 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v3779 v3790 (k0_pay70 (AM I))) Q := by
  rw [k0_part139_eq_skeleton]
  unfold k0_part139_skel
  refine ag_ldsum 0 rfl (of25 c) ?_
  refine ag_ldqany 0 rfl rfl (of29 c) (fun u => ?_)
  refine ag_stq 0 rfl rfl (of29 c) rfl ?_
  refine ag_ldsum 1 rfl (of26 c) ?_
  refine ag_ldqany 1 rfl rfl (of30 c) (fun u => ?_)
  exact CW_eq (by decide +kernel) (AG_eq (by decide +kernel) ((hQ _).trans (wp_ret_intro _ _)))

theorem part140 {R : sProp 𝕄} {Q : (Σ' (v4070 : BitVec 32) (v4095 : BitVec 32) (v4099 : BitVec 32), BitVec 32) → sProp 𝕄} {v2 : BitVec 32} {v4067 : Vec F S512x1024 .i8}
    (hQ : ∀ (u0 : BitVec 32) (u1 : BitVec 32) (u2 : BitVec 32) (u3 : BitVec 32), AG I K c iprop(CW c ![0, 0, 0, 0, 0, 0, 0, 0, 0, 0, 0, 0, 0, 0, 0, 0] ∗ R) (MXend I c) 122 ![1, 1, 0, 0, 0, 0, 0, 0, 0, 0, 0, 0, 0, 0, 0, 0] ![3, 2, 0, 0, 0, 0, 0, 0, 0, 0, 0, 0, 0, 0, 0, 0] ![1, 0, 0, 0, 0, 0, 0, 0, 0, 0, 0, 0, 0, 0] ![0, 0, 0, 0, 0, 0, 0, 0, 0, 0, 0, 0, 0, 0] ⊢ Q ⟨u0, u1, u2, u3⟩) :
    AG I K c iprop(CW c ![0, 0, 0, 0, 0, 0, 0, 0, 0, 0, 0, 0, 0, 0, 0, 0] ∗ R) (MXend I c) 121 ![1, 1, 0, 0, 0, 0, 0, 0, 0, 0, 0, 0, 0, 0, 0, 0] ![2, 1, 0, 0, 0, 0, 0, 0, 0, 0, 0, 0, 0, 0, 0, 0] ![0, 0, 0, 0, 0, 0, 0, 0, 0, 0, 0, 0, 0, 0] ![0, 0, 0, 0, 0, 0, 0, 0, 0, 0, 0, 0, 0, 0] ⊢ WP c (k0_part140 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 (k0_pay75 (k0_pay70 (AM I)) (tV I 1 c)) v4067) Q := by
  rw [k0_part140_eq_skeleton]
  unfold k0_part140_skel
  refine ag_stq 1 rfl rfl (of30 c) rfl ?_
  refine ag_send 0 (by decide +kernel) (dv122 c) rfl (of31r c 0) rfl rfl ?_
  exact CW_eq (by decide +kernel) (AG_eq (by decide +kernel) ((hQ _ _ _ _).trans (wp_ret_intro _ _)))

theorem part141 {R : sProp 𝕄} {Q : (Σ' (v4137 : FVec F S512x1024 .bf16), BitVec 32) → sProp 𝕄} {v3779 : BitVec 32} {v3790 : BitVec 32} {v4095 : BitVec 32} {v4099 : BitVec 32} {v4100 : BitVec 32}
    (hQ : ∀ (u1 : BitVec 32), AG I K c iprop(CW c ![0, 0, 0, 0, 0, 0, 0, 0, 0, 0, 0, 0, 0, 0, 0, 0] ∗ R) (MXend I c) 123 ![2, 1, 0, 0, 0, 0, 0, 0, 0, 0, 0, 0, 0, 0, 0, 0] ![3, 3, 0, 0, 0, 0, 0, 0, 0, 0, 0, 0, 0, 0, 0, 0] ![1, 1, 0, 0, 0, 0, 0, 0, 0, 0, 0, 0, 0, 0] ![0, 0, 0, 0, 0, 0, 0, 0, 0, 0, 0, 0, 0, 0] ⊢ Q ⟨(k0_pay78 (k0_pay73 (k0_pay70 (AM I))) (qV I 1 c)), u1⟩) :
    AG I K c iprop(CW c ![0, 0, 0, 0, 0, 0, 0, 0, 0, 0, 0, 0, 0, 0, 0, 0] ∗ R) (MXend I c) 122 ![1, 1, 0, 0, 0, 0, 0, 0, 0, 0, 0, 0, 0, 0, 0, 0] ![3, 2, 0, 0, 0, 0, 0, 0, 0, 0, 0, 0, 0, 0, 0, 0] ![1, 0, 0, 0, 0, 0, 0, 0, 0, 0, 0, 0, 0, 0] ![0, 0, 0, 0, 0, 0, 0, 0, 0, 0, 0, 0, 0, 0] ⊢ WP c (k0_part141 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v3779 v3790 (k0_pay73 (k0_pay70 (AM I))) v4095 v4099 v4100) Q := by
  rw [k0_part141_eq_skeleton]
  unfold k0_part141_skel
  refine ag_send 1 (by decide +kernel) (dv123 c) rfl (of31l c 0) rfl rfl ?_
  refine ag_ldq 0 (by decide +kernel) rfl (of29 c) ?_
  refine ag_ldout 0 (of25 c) (fun _ => ?_)
  refine ag_stout 0 (of25 c) rfl ?_
  refine ag_ldq 1 (by decide +kernel) rfl (of30 c) ?_
  exact CW_eq (by decide +kernel) (AG_eq (by decide +kernel) ((hQ _).trans (wp_ret_intro _ _)))

theorem part142 {R : sProp 𝕄} {Q : (BitVec 32) → sProp 𝕄} {v4070 : BitVec 32} {v4095 : BitVec 32} {v4138 : BitVec 32}
    (hQ : ∀ (u0 : BitVec 32), AG I K c iprop(CW c ![0, 0, 0, 0, 0, 0, 0, 0, 0, 0, 0, 0, 0, 0, 0, 0] ∗ R) (MXend I c) 123 ![2, 2, 0, 0, 0, 0, 0, 0, 0, 0, 0, 0, 0, 0, 0, 0] ![2, 2, 2, 2, 0, 0, 0, 0, 0, 0, 0, 0, 0, 0, 0, 0] ![2, 2, 0, 0, 0, 0, 0, 0, 0, 0, 0, 0, 0, 0] ![1, 1, 0, 0, 0, 0, 0, 0, 0, 0, 0, 0, 0, 0] ⊢ Q u0) :
    AG I K c iprop(CW c ![0, 0, 0, 0, 0, 0, 0, 0, 0, 0, 0, 0, 0, 0, 0, 0] ∗ R) (MXend I c) 123 ![2, 1, 0, 0, 0, 0, 0, 0, 0, 0, 0, 0, 0, 0, 0, 0] ![3, 3, 0, 0, 0, 0, 0, 0, 0, 0, 0, 0, 0, 0, 0, 0] ![1, 1, 0, 0, 0, 0, 0, 0, 0, 0, 0, 0, 0, 0] ![0, 0, 0, 0, 0, 0, 0, 0, 0, 0, 0, 0, 0, 0] ⊢ WP c (k0_part142 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v4070 v4095 (k0_pay78 (k0_pay73 (k0_pay70 (AM I))) (qV I 1 c)) v4138) Q := by
  rw [k0_part142_eq_skeleton]
  unfold k0_part142_skel
  refine ag_ldout 1 (of26 c) (fun _ => ?_)
  refine ag_stout 1 (of26 c) rfl ?_
  refine ag_recv 0 (by decide +kernel) rfl rfl ?_
  refine ag_recv 1 (by decide +kernel) rfl rfl ?_
  refine ag_wait 0 (by decide +kernel) rfl rfl ?_
  refine ag_wait 1 (by decide +kernel) rfl rfl ?_
  exact CW_eq (by decide +kernel) (AG_eq (by decide +kernel) ((hQ _).trans (wp_ret_intro _ _)))

theorem part143 {R : sProp 𝕄} {Q : (Σ' (v4162 : BitVec 32) (v4190 : BitVec 32) (v4191 : BitVec 32) (v4192 : BitVec 1) (v4193 : BitVec 1), BitVec 1) → sProp 𝕄} {v2 : BitVec 32} {c2_i32_3963 : BitVec 32}
    (hQ : ∀ (u0 : BitVec 32) (u1 : BitVec 32) (u2 : BitVec 32) (u3 : BitVec 1) (u4 : BitVec 1) (u5 : BitVec 1), AG I K c iprop(CW c ![0, 0, 0, 0, 0, 0, 0, 0, 0, 0, 0, 0, 0, 0, 0, 0] ∗ R) (MXend I c) 124 ![2, 2, 0, 0, 0, 0, 0, 0, 0, 0, 0, 0, 0, 0, 0, 0] ![3, 2, 2, 2, 0, 0, 0, 0, 0, 0, 0, 0, 0, 0, 0, 0] ![2, 2, 1, 0, 0, 0, 0, 0, 0, 0, 0, 0, 0, 0] ![1, 1, 0, 0, 0, 0, 0, 0, 0, 0, 0, 0, 0, 0] ⊢ Q ⟨u0, u1, u2, u3, u4, u5⟩) :
    AG I K c iprop(CW c ![0, 0, 0, 0, 0, 0, 0, 0, 0, 0, 0, 0, 0, 0, 0, 0] ∗ R) (MXend I c) 123 ![2, 2, 0, 0, 0, 0, 0, 0, 0, 0, 0, 0, 0, 0, 0, 0] ![2, 2, 2, 2, 0, 0, 0, 0, 0, 0, 0, 0, 0, 0, 0, 0] ![2, 2, 0, 0, 0, 0, 0, 0, 0, 0, 0, 0, 0, 0] ![1, 1, 0, 0, 0, 0, 0, 0, 0, 0, 0, 0, 0, 0] ⊢ WP c (k0_part143 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 c2_i32_3963) Q := by
  rw [k0_part143_eq_skeleton]
  unfold k0_part143_skel
  refine ag_send 2 (by decide +kernel) (dv124 c) rfl (of31r c 0) rfl rfl ?_
  exact CW_eq (by decide +kernel) (AG_eq (by decide +kernel) ((hQ _ _ _ _ _ _).trans (wp_ret_intro _ _)))

theorem part144 {R : sProp 𝕄} {Q : (Σ' (v4211 : BitVec 32), BitVec 32) → sProp 𝕄} {v2 : BitVec 32} {v4162 : BitVec 32} {v4190 : BitVec 32} {v4191 : BitVec 32} {v4192 : BitVec 1} {v4193 : BitVec 1} {v4194 : BitVec 1}
    (hQ : ∀ (u0 : BitVec 32) (u1 : BitVec 32), AG I K c iprop(CW c ![0, 0, 0, 0, 0, 0, 0, 0, 0, 0, 0, 0, 0, 0, 0, 0] ∗ R) (MXend I c) 125 ![2, 2, 0, 0, 0, 0, 0, 0, 0, 0, 0, 0, 0, 0, 0, 0] ![3, 2, 3, 2, 0, 0, 0, 0, 0, 0, 0, 0, 0, 0, 0, 0] ![2, 2, 1, 1, 0, 0, 0, 0, 0, 0, 0, 0, 0, 0] ![1, 1, 0, 0, 0, 0, 0, 0, 0, 0, 0, 0, 0, 0] ⊢ Q ⟨u0, u1⟩) :
    AG I K c iprop(CW c ![0, 0, 0, 0, 0, 0, 0, 0, 0, 0, 0, 0, 0, 0, 0, 0] ∗ R) (MXend I c) 124 ![2, 2, 0, 0, 0, 0, 0, 0, 0, 0, 0, 0, 0, 0, 0, 0] ![3, 2, 2, 2, 0, 0, 0, 0, 0, 0, 0, 0, 0, 0, 0, 0] ![2, 2, 1, 0, 0, 0, 0, 0, 0, 0, 0, 0, 0, 0] ![1, 1, 0, 0, 0, 0, 0, 0, 0, 0, 0, 0, 0, 0] ⊢ WP c (k0_part144 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v4162 v4190 v4191 v4192 v4193 v4194) Q := by
  rw [k0_part144_eq_skeleton]
  unfold k0_part144_skel
  refine ag_send 3 (by decide +kernel) (dv125 c) rfl (of31r c 1) rfl rfl ?_
  exact CW_eq (by decide +kernel) (AG_eq (by decide +kernel) ((hQ _ _).trans (wp_ret_intro _ _)))

theorem part145 {R : sProp 𝕄} {Q : (Σ' (v4261 : BitVec 32), BitVec 32) → sProp 𝕄} {v2 : BitVec 32} {v4211 : BitVec 32} {c1_i32_4015 : BitVec 32}
    (hQ : ∀ (u0 : BitVec 32) (u1 : BitVec 32), AG I K c iprop(CW c ![0, 0, 0, 0, 0, 0, 0, 0, 0, 0, 0, 0, 0, 0, 0, 0] ∗ R) (MXend I c) 127 ![2, 2, 0, 0, 0, 0, 0, 0, 0, 0, 0, 0, 0, 0, 0, 0] ![3, 3, 3, 3, 0, 0, 0, 0, 0, 0, 0, 0, 0, 0, 0, 0] ![2, 2, 1, 1, 1, 1, 0, 0, 0, 0, 0, 0, 0, 0] ![1, 1, 0, 0, 0, 0, 0, 0, 0, 0, 0, 0, 0, 0] ⊢ Q ⟨u0, u1⟩) :
    AG I K c iprop(CW c ![0, 0, 0, 0, 0, 0, 0, 0, 0, 0, 0, 0, 0, 0, 0, 0] ∗ R) (MXend I c) 125 ![2, 2, 0, 0, 0, 0, 0, 0, 0, 0, 0, 0, 0, 0, 0, 0] ![3, 2, 3, 2, 0, 0, 0, 0, 0, 0, 0, 0, 0, 0, 0, 0] ![2, 2, 1, 1, 0, 0, 0, 0, 0, 0, 0, 0, 0, 0] ![1, 1, 0, 0, 0, 0, 0, 0, 0, 0, 0, 0, 0, 0] ⊢ WP c (k0_part145 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v4211 c1_i32_4015) Q := by
  rw [k0_part145_eq_skeleton]
  unfold k0_part145_skel
  refine ag_send 4 (by decide +kernel) (dv126 c) rfl (of31l c 0) rfl rfl ?_
  refine ag_send 5 (by decide +kernel) (dv127 c) rfl (of31l c 2) rfl rfl ?_
  exact CW_eq (by decide +kernel) (AG_eq (by decide +kernel) ((hQ _ _).trans (wp_ret_intro _ _)))

theorem part146 {R : sProp 𝕄} {Q : (Σ' (v4294 : BitVec 32), FVec F S512x1024 .bf16) → sProp 𝕄} {v2 : BitVec 32} {v4261 : BitVec 32} {c8_i32_4039 : BitVec 32}
    (hQ : ∀ (u0 : BitVec 32), AG I K c iprop(CW c ![0, 0, 0, 0, 0, 0, 0, 0, 0, 0, 0, 0, 0, 0, 0, 0] ∗ R) (MXend I c) 127 ![2, 2, 2, 0, 0, 0, 0, 0, 0, 0, 0, 0, 0, 0, 0, 0] ![3, 3, 3, 3, 0, 0, 0, 0, 0, 0, 0, 0, 0, 0, 0, 0] ![2, 2, 1, 1, 1, 1, 0, 0, 0, 0, 0, 0, 0, 0] ![1, 1, 0, 0, 0, 0, 0, 0, 0, 0, 0, 0, 0, 0] ⊢ Q ⟨u0, (k0_pay80 (k0_pay73 (k0_pay70 (AM I))) (qV I 3 c))⟩) :
    AG I K c iprop(CW c ![0, 0, 0, 0, 0, 0, 0, 0, 0, 0, 0, 0, 0, 0, 0, 0] ∗ R) (MXend I c) 127 ![2, 2, 0, 0, 0, 0, 0, 0, 0, 0, 0, 0, 0, 0, 0, 0] ![3, 3, 3, 3, 0, 0, 0, 0, 0, 0, 0, 0, 0, 0, 0, 0] ![2, 2, 1, 1, 1, 1, 0, 0, 0, 0, 0, 0, 0, 0] ![1, 1, 0, 0, 0, 0, 0, 0, 0, 0, 0, 0, 0, 0] ⊢ WP c (k0_part146 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 (k0_pay73 (k0_pay70 (AM I))) v4261 c8_i32_4039) Q := by
  rw [k0_part146_eq_skeleton]
  unfold k0_part146_skel
  refine ag_ldq 2 (by decide +kernel) rfl (of32r c 1) ?_
  refine ag_ldout 2 (of33 c 1) (fun _ => ?_)
  refine ag_stout 2 (of33 c 1) rfl ?_
  refine ag_ldq 3 (by decide +kernel) rfl (of32l c 2) ?_
  exact CW_eq (by decide +kernel) (AG_eq (by decide +kernel) ((hQ _).trans (wp_ret_intro _ _)))

theorem part147 {R : sProp 𝕄} {Q : (PUnit) → sProp 𝕄} {v4162 : BitVec 32} {v4211 : BitVec 32} {v4294 : BitVec 32}
    (hQ : AG I K c iprop(CW c ![0, 0, 0, 0, 0, 0, 0, 0, 0, 0, 0, 0, 0, 0, 0, 0] ∗ R) (MXend I c) 127 ![2, 2, 2, 2, 0, 0, 0, 0, 0, 0, 0, 0, 0, 0, 0, 0] ![3, 3, 3, 3, 2, 2, 2, 0, 0, 0, 0, 0, 0, 0, 0, 0] ![2, 2, 1, 1, 1, 1, 0, 0, 0, 0, 0, 0, 0, 0] ![1, 1, 1, 1, 1, 0, 0, 0, 0, 0, 0, 0, 0, 0] ⊢ Q ⟨⟩) :
    AG I K c iprop(CW c ![0, 0, 0, 0, 0, 0, 0, 0, 0, 0, 0, 0, 0, 0, 0, 0] ∗ R) (MXend I c) 127 ![2, 2, 2, 0, 0, 0, 0, 0, 0, 0, 0, 0, 0, 0, 0, 0] ![3, 3, 3, 3, 0, 0, 0, 0, 0, 0, 0, 0, 0, 0, 0, 0] ![2, 2, 1, 1, 1, 1, 0, 0, 0, 0, 0, 0, 0, 0] ![1, 1, 0, 0, 0, 0, 0, 0, 0, 0, 0, 0, 0, 0] ⊢ WP c (k0_part147 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v4162 v4211 v4294 (k0_pay80 (k0_pay73 (k0_pay70 (AM I))) (qV I 3 c))) Q := by
  rw [k0_part147_eq_skeleton]
  unfold k0_part147_skel
  refine ag_ldout 3 (of34 c 2) (fun _ => ?_)
  refine ag_stout 3 (of34 c 2) rfl ?_
  refine ag_recv 2 (by decide +kernel) rfl rfl ?_
  refine ag_recv 3 (by decide +kernel) rfl rfl ?_
  refine ag_recv 4 (by decide +kernel) rfl rfl ?_
  exact CW_eq (by decide +kernel) (AG_eq (by decide +kernel) ((hQ).trans (wp_ret_intro _ _)))

theorem part148 {R : sProp 𝕄} {Q : (Σ' (v4346 : BitVec 32) (v4347 : BitVec 32), BitVec 32) → sProp 𝕄} {v2 : BitVec 32}
    (hQ : ∀ (u0 : BitVec 32) (u1 : BitVec 32) (u2 : BitVec 32), AG I K c iprop(CW c ![0, 0, 0, 0, 0, 0, 0, 0, 0, 0, 0, 0, 0, 0, 0, 0] ∗ R) (MXend I c) 127 ![2, 2, 2, 2, 0, 0, 0, 0, 0, 0, 0, 0, 0, 0, 0, 0] ![2, 2, 2, 2, 2, 2, 2, 2, 0, 0, 0, 0, 0, 0, 0, 0] ![2, 2, 2, 2, 2, 2, 0, 0, 0, 0, 0, 0, 0, 0] ![1, 1, 1, 1, 1, 1, 0, 0, 0, 0, 0, 0, 0, 0] ⊢ Q ⟨u0, u1, u2⟩) :
    AG I K c iprop(CW c ![0, 0, 0, 0, 0, 0, 0, 0, 0, 0, 0, 0, 0, 0, 0, 0] ∗ R) (MXend I c) 127 ![2, 2, 2, 2, 0, 0, 0, 0, 0, 0, 0, 0, 0, 0, 0, 0] ![3, 3, 3, 3, 2, 2, 2, 0, 0, 0, 0, 0, 0, 0, 0, 0] ![2, 2, 1, 1, 1, 1, 0, 0, 0, 0, 0, 0, 0, 0] ![1, 1, 1, 1, 1, 0, 0, 0, 0, 0, 0, 0, 0, 0] ⊢ WP c (k0_part148 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2) Q := by
  rw [k0_part148_eq_skeleton]
  unfold k0_part148_skel
  refine ag_recv 5 (by decide +kernel) rfl rfl ?_
  refine ag_wait 2 (by decide +kernel) rfl rfl ?_
  refine ag_wait 3 (by decide +kernel) rfl rfl ?_
  refine ag_wait 4 (by decide +kernel) rfl rfl ?_
  refine ag_wait 5 (by decide +kernel) rfl rfl ?_
  exact CW_eq (by decide +kernel) (AG_eq (by decide +kernel) ((hQ _ _ _).trans (wp_ret_intro _ _)))

theorem part149 {R : sProp 𝕄} {Q : (BitVec 32) → sProp 𝕄} {v2 : BitVec 32} {v4346 : BitVec 32} {v4347 : BitVec 32} {c1_i32_4123 : BitVec 32}
    (hQ : ∀ (u0 : BitVec 32), AG I K c iprop(CW c ![0, 0, 0, 0, 0, 0, 0, 0, 0, 0, 0, 0, 0, 0, 0, 0] ∗ R) (MXend I c) 128 ![2, 2, 2, 2, 0, 0, 0, 0, 0, 0, 0, 0, 0, 0, 0, 0] ![3, 2, 2, 2, 2, 2, 2, 2, 0, 0, 0, 0, 0, 0, 0, 0] ![2, 2, 2, 2, 2, 2, 1, 0, 0, 0, 0, 0, 0, 0] ![1, 1, 1, 1, 1, 1, 0, 0, 0, 0, 0, 0, 0, 0] ⊢ Q u0) :
    AG I K c iprop(CW c ![0, 0, 0, 0, 0, 0, 0, 0, 0, 0, 0, 0, 0, 0, 0, 0] ∗ R) (MXend I c) 127 ![2, 2, 2, 2, 0, 0, 0, 0, 0, 0, 0, 0, 0, 0, 0, 0] ![2, 2, 2, 2, 2, 2, 2, 2, 0, 0, 0, 0, 0, 0, 0, 0] ![2, 2, 2, 2, 2, 2, 0, 0, 0, 0, 0, 0, 0, 0] ![1, 1, 1, 1, 1, 1, 0, 0, 0, 0, 0, 0, 0, 0] ⊢ WP c (k0_part149 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v4346 v4347 c1_i32_4123) Q := by
  rw [k0_part149_eq_skeleton]
  unfold k0_part149_skel
  refine ag_send 6 (by decide +kernel) (dv128 c) rfl (of31r c 0) rfl rfl ?_
  exact CW_eq (by decide +kernel) (AG_eq (by decide +kernel) ((hQ _).trans (wp_ret_intro _ _)))

end Parts

end K
-- ==== Proof.K.Ag3.lean ====
module

public import proofs.«01_k».proof.Proof.K.AM

/-!
# The pieces of the all-gather, 2
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Parts

variable {I : In F} {K : Dev nD × Kn → ℕ} {c : Dev nD} {f0 : Vec F S4096x2048 .bf16}

theorem part150 {R : sProp 𝕄} {Q : (PUnit) → sProp 𝕄} {v2 : BitVec 32} {v4346 : BitVec 32} {v4382 : BitVec 32}
    (hQ : AG I K c iprop(CW c ![0, 0, 0, 0, 0, 0, 0, 0, 0, 0, 0, 0, 0, 0, 0, 0] ∗ R) (MXend I c) 129 ![2, 2, 2, 2, 0, 0, 0, 0, 0, 0, 0, 0, 0, 0, 0, 0] ![3, 2, 3, 2, 2, 2, 2, 2, 0, 0, 0, 0, 0, 0, 0, 0] ![2, 2, 2, 2, 2, 2, 1, 1, 0, 0, 0, 0, 0, 0] ![1, 1, 1, 1, 1, 1, 0, 0, 0, 0, 0, 0, 0, 0] ⊢ Q ⟨⟩) :
    AG I K c iprop(CW c ![0, 0, 0, 0, 0, 0, 0, 0, 0, 0, 0, 0, 0, 0, 0, 0] ∗ R) (MXend I c) 128 ![2, 2, 2, 2, 0, 0, 0, 0, 0, 0, 0, 0, 0, 0, 0, 0] ![3, 2, 2, 2, 2, 2, 2, 2, 0, 0, 0, 0, 0, 0, 0, 0] ![2, 2, 2, 2, 2, 2, 1, 0, 0, 0, 0, 0, 0, 0] ![1, 1, 1, 1, 1, 1, 0, 0, 0, 0, 0, 0, 0, 0] ⊢ WP c (k0_part150 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v4346 v4382) Q := by
  rw [k0_part150_eq_skeleton]
  unfold k0_part150_skel
  refine ag_send 7 (by decide +kernel) (dv129 c) rfl (of31r c 1) rfl rfl ?_
  exact CW_eq (by decide +kernel) (AG_eq (by decide +kernel) ((hQ).trans (wp_ret_intro _ _)))

theorem part151 {R : sProp 𝕄} {Q : (Σ' (v4443 : BitVec 32) (v4445 : BitVec 32), BitVec 32) → sProp 𝕄} {v2 : BitVec 32} {v4346 : BitVec 32}
    (hQ : ∀ (u0 : BitVec 32) (u1 : BitVec 32) (u2 : BitVec 32), AG I K c iprop(CW c ![0, 0, 0, 0, 0, 0, 0, 0, 0, 0, 0, 0, 0, 0, 0, 0] ∗ R) (MXend I c) 131 ![2, 2, 2, 2, 0, 0, 0, 0, 0, 0, 0, 0, 0, 0, 0, 0] ![3, 2, 3, 2, 3, 3, 2, 2, 0, 0, 0, 0, 0, 0, 0, 0] ![2, 2, 2, 2, 2, 2, 1, 1, 1, 1, 0, 0, 0, 0] ![1, 1, 1, 1, 1, 1, 0, 0, 0, 0, 0, 0, 0, 0] ⊢ Q ⟨u0, u1, u2⟩) :
    AG I K c iprop(CW c ![0, 0, 0, 0, 0, 0, 0, 0, 0, 0, 0, 0, 0, 0, 0, 0] ∗ R) (MXend I c) 129 ![2, 2, 2, 2, 0, 0, 0, 0, 0, 0, 0, 0, 0, 0, 0, 0] ![3, 2, 3, 2, 2, 2, 2, 2, 0, 0, 0, 0, 0, 0, 0, 0] ![2, 2, 2, 2, 2, 2, 1, 1, 0, 0, 0, 0, 0, 0] ![1, 1, 1, 1, 1, 1, 0, 0, 0, 0, 0, 0, 0, 0] ⊢ WP c (k0_part151 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v4346) Q := by
  rw [k0_part151_eq_skeleton]
  unfold k0_part151_skel
  refine ag_send 8 (by decide +kernel) (dv130 c) rfl (of31r c 2) rfl rfl ?_
  refine ag_send 9 (by decide +kernel) (dv131 c) rfl (of31r c 3) rfl rfl ?_
  exact CW_eq (by decide +kernel) (AG_eq (by decide +kernel) ((hQ _ _ _).trans (wp_ret_intro _ _)))

theorem part152 {R : sProp 𝕄} {Q : (PUnit) → sProp 𝕄} {v2 : BitVec 32} {v4443 : BitVec 32} {v4445 : BitVec 32} {v4447 : BitVec 32}
    (hQ : AG I K c iprop(CW c ![0, 0, 0, 0, 0, 0, 0, 0, 0, 0, 0, 0, 0, 0, 0, 0] ∗ R) (MXend I c) 132 ![2, 2, 2, 2, 0, 0, 0, 0, 0, 0, 0, 0, 0, 0, 0, 0] ![3, 3, 3, 2, 3, 3, 2, 2, 0, 0, 0, 0, 0, 0, 0, 0] ![2, 2, 2, 2, 2, 2, 1, 1, 1, 1, 1, 0, 0, 0] ![1, 1, 1, 1, 1, 1, 0, 0, 0, 0, 0, 0, 0, 0] ⊢ Q ⟨⟩) :
    AG I K c iprop(CW c ![0, 0, 0, 0, 0, 0, 0, 0, 0, 0, 0, 0, 0, 0, 0, 0] ∗ R) (MXend I c) 131 ![2, 2, 2, 2, 0, 0, 0, 0, 0, 0, 0, 0, 0, 0, 0, 0] ![3, 2, 3, 2, 3, 3, 2, 2, 0, 0, 0, 0, 0, 0, 0, 0] ![2, 2, 2, 2, 2, 2, 1, 1, 1, 1, 0, 0, 0, 0] ![1, 1, 1, 1, 1, 1, 0, 0, 0, 0, 0, 0, 0, 0] ⊢ WP c (k0_part152 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v4443 v4445 v4447) Q := by
  rw [k0_part152_eq_skeleton]
  unfold k0_part152_skel
  refine ag_send 10 (by decide +kernel) (dv132 c) rfl (of31l c 0) rfl rfl ?_
  exact CW_eq (by decide +kernel) (AG_eq (by decide +kernel) ((hQ).trans (wp_ret_intro _ _)))

theorem part153 {R : sProp 𝕄} {Q : (PUnit) → sProp 𝕄} {v2 : BitVec 32} {v4443 : BitVec 32}
    (hQ : AG I K c iprop(CW c ![0, 0, 0, 0, 0, 0, 0, 0, 0, 0, 0, 0, 0, 0, 0, 0] ∗ R) (MXend I c) 134 ![2, 2, 2, 2, 0, 0, 0, 0, 0, 0, 0, 0, 0, 0, 0, 0] ![3, 3, 3, 3, 3, 3, 3, 2, 0, 0, 0, 0, 0, 0, 0, 0] ![2, 2, 2, 2, 2, 2, 1, 1, 1, 1, 1, 1, 1, 0] ![1, 1, 1, 1, 1, 1, 0, 0, 0, 0, 0, 0, 0, 0] ⊢ Q ⟨⟩) :
    AG I K c iprop(CW c ![0, 0, 0, 0, 0, 0, 0, 0, 0, 0, 0, 0, 0, 0, 0, 0] ∗ R) (MXend I c) 132 ![2, 2, 2, 2, 0, 0, 0, 0, 0, 0, 0, 0, 0, 0, 0, 0] ![3, 3, 3, 2, 3, 3, 2, 2, 0, 0, 0, 0, 0, 0, 0, 0] ![2, 2, 2, 2, 2, 2, 1, 1, 1, 1, 1, 0, 0, 0] ![1, 1, 1, 1, 1, 1, 0, 0, 0, 0, 0, 0, 0, 0] ⊢ WP c (k0_part153 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v4443) Q := by
  rw [k0_part153_eq_skeleton]
  unfold k0_part153_skel
  refine ag_send 11 (by decide +kernel) (dv133 c) rfl (of31l c 2) rfl rfl ?_
  refine ag_send 12 (by decide +kernel) (dv134 c) rfl (of31l c 4) rfl rfl ?_
  exact CW_eq (by decide +kernel) (AG_eq (by decide +kernel) ((hQ).trans (wp_ret_intro _ _)))

theorem part154 {R : sProp 𝕄} {Q : (Σ' (v4543 : BitVec 32) (v4544 : BitVec 32) (v4545 : BitVec 1), BitVec 1) → sProp 𝕄} {v2 : BitVec 32} {v4443 : BitVec 32}
    (hQ : ∀ (u0 : BitVec 32) (u1 : BitVec 32) (u2 : BitVec 1) (u3 : BitVec 1), AG I K c iprop(CW c ![0, 0, 0, 0, 0, 0, 0, 0, 0, 0, 0, 0, 0, 0, 0, 0] ∗ R) (MXend I c) 135 ![2, 2, 2, 2, 0, 0, 0, 0, 0, 0, 0, 0, 0, 0, 0, 0] ![3, 3, 3, 3, 3, 3, 3, 3, 0, 0, 0, 0, 0, 0, 0, 0] ![2, 2, 2, 2, 2, 2, 1, 1, 1, 1, 1, 1, 1, 1] ![1, 1, 1, 1, 1, 1, 0, 0, 0, 0, 0, 0, 0, 0] ⊢ Q ⟨u0, u1, u2, u3⟩) :
    AG I K c iprop(CW c ![0, 0, 0, 0, 0, 0, 0, 0, 0, 0, 0, 0, 0, 0, 0, 0] ∗ R) (MXend I c) 134 ![2, 2, 2, 2, 0, 0, 0, 0, 0, 0, 0, 0, 0, 0, 0, 0] ![3, 3, 3, 3, 3, 3, 3, 2, 0, 0, 0, 0, 0, 0, 0, 0] ![2, 2, 2, 2, 2, 2, 1, 1, 1, 1, 1, 1, 1, 0] ![1, 1, 1, 1, 1, 1, 0, 0, 0, 0, 0, 0, 0, 0] ⊢ WP c (k0_part154 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v4443) Q := by
  rw [k0_part154_eq_skeleton]
  unfold k0_part154_skel
  refine ag_send 13 (by decide +kernel) (dv135 c) rfl (of31l c 6) rfl rfl ?_
  exact CW_eq (by decide +kernel) (AG_eq (by decide +kernel) ((hQ _ _ _ _).trans (wp_ret_intro _ _)))

theorem part155 {R : sProp 𝕄} {Q : (Σ' (v4587 : BitVec 32), BitVec 32) → sProp 𝕄} {v2 : BitVec 32} {v4543 : BitVec 32} {v4544 : BitVec 32} {v4545 : BitVec 1} {v4548 : BitVec 1}
    (hQ : ∀ (u0 : BitVec 32) (u1 : BitVec 32), AG I K c iprop(CW c ![0, 0, 0, 0, 0, 0, 0, 0, 0, 0, 0, 0, 0, 0, 0, 0] ∗ R) (MXend I c) 135 ![2, 2, 2, 2, 2, 2, 0, 0, 0, 0, 0, 0, 0, 0, 0, 0] ![3, 3, 3, 3, 3, 3, 3, 3, 0, 0, 0, 0, 0, 0, 0, 0] ![2, 2, 2, 2, 2, 2, 1, 1, 1, 1, 1, 1, 1, 1] ![1, 1, 1, 1, 1, 1, 0, 0, 0, 0, 0, 0, 0, 0] ⊢ Q ⟨u0, u1⟩) :
    AG I K c iprop(CW c ![0, 0, 0, 0, 0, 0, 0, 0, 0, 0, 0, 0, 0, 0, 0, 0] ∗ R) (MXend I c) 135 ![2, 2, 2, 2, 0, 0, 0, 0, 0, 0, 0, 0, 0, 0, 0, 0] ![3, 3, 3, 3, 3, 3, 3, 3, 0, 0, 0, 0, 0, 0, 0, 0] ![2, 2, 2, 2, 2, 2, 1, 1, 1, 1, 1, 1, 1, 1] ![1, 1, 1, 1, 1, 1, 0, 0, 0, 0, 0, 0, 0, 0] ⊢ WP c (k0_part155 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 (k0_pay73 (k0_pay70 (AM I))) v4543 v4544 v4545 v4548) Q := by
  rw [k0_part155_eq_skeleton]
  unfold k0_part155_skel
  refine ag_ldq 4 (by decide +kernel) rfl (of32r c 2) ?_
  refine ag_ldout 4 (of33 c 2) (fun _ => ?_)
  refine ag_stout 4 (of33 c 2) rfl ?_
  refine ag_ldq 5 (by decide +kernel) rfl (of32r c 3) ?_
  refine ag_ldout 5 (of33 c 3) (fun _ => ?_)
  refine ag_stout 5 (of33 c 3) rfl ?_
  exact CW_eq (by decide +kernel) (AG_eq (by decide +kernel) ((hQ _ _).trans (wp_ret_intro _ _)))

theorem part156 {R : sProp 𝕄} {Q : (Σ' (v4620 : BitVec 32), FVec F S512x1024 .bf16) → sProp 𝕄} {v2 : BitVec 32} {v4587 : BitVec 32} {c8_i32_4293 : BitVec 32}
    (hQ : ∀ (u0 : BitVec 32), AG I K c iprop(CW c ![0, 0, 0, 0, 0, 0, 0, 0, 0, 0, 0, 0, 0, 0, 0, 0] ∗ R) (MXend I c) 135 ![2, 2, 2, 2, 2, 2, 2, 0, 0, 0, 0, 0, 0, 0, 0, 0] ![3, 3, 3, 3, 3, 3, 3, 3, 0, 0, 0, 0, 0, 0, 0, 0] ![2, 2, 2, 2, 2, 2, 1, 1, 1, 1, 1, 1, 1, 1] ![1, 1, 1, 1, 1, 1, 0, 0, 0, 0, 0, 0, 0, 0] ⊢ Q ⟨u0, (k0_pay84 (k0_pay73 (k0_pay70 (AM I))) (qV I 7 c))⟩) :
    AG I K c iprop(CW c ![0, 0, 0, 0, 0, 0, 0, 0, 0, 0, 0, 0, 0, 0, 0, 0] ∗ R) (MXend I c) 135 ![2, 2, 2, 2, 2, 2, 0, 0, 0, 0, 0, 0, 0, 0, 0, 0] ![3, 3, 3, 3, 3, 3, 3, 3, 0, 0, 0, 0, 0, 0, 0, 0] ![2, 2, 2, 2, 2, 2, 1, 1, 1, 1, 1, 1, 1, 1] ![1, 1, 1, 1, 1, 1, 0, 0, 0, 0, 0, 0, 0, 0] ⊢ WP c (k0_part156 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 (k0_pay73 (k0_pay70 (AM I))) v4587 c8_i32_4293) Q := by
  rw [k0_part156_eq_skeleton]
  unfold k0_part156_skel
  refine ag_ldq 6 (by decide +kernel) rfl (of32l c 4) ?_
  refine ag_ldout 6 (of34 c 4) (fun _ => ?_)
  refine ag_stout 6 (of34 c 4) rfl ?_
  refine ag_ldq 7 (by decide +kernel) rfl (of32l c 6) ?_
  exact CW_eq (by decide +kernel) (AG_eq (by decide +kernel) ((hQ _).trans (wp_ret_intro _ _)))

theorem part157 {R : sProp 𝕄} {Q : (PUnit) → sProp 𝕄} {v2 : BitVec 32} {v4346 : BitVec 32} {v4620 : BitVec 32}
    (hQ : AG I K c iprop(CW c ![0, 0, 0, 0, 0, 0, 0, 0, 0, 0, 0, 0, 0, 0, 0, 0] ∗ R) (MXend I c) 135 ![2, 2, 2, 2, 2, 2, 2, 2, 2, 0, 0, 0, 0, 0, 0, 0] ![3, 3, 3, 3, 3, 3, 3, 3, 2, 0, 0, 0, 0, 0, 0, 0] ![2, 2, 2, 2, 2, 2, 1, 1, 1, 1, 1, 1, 1, 1] ![1, 1, 1, 1, 1, 1, 1, 0, 0, 0, 0, 0, 0, 0] ⊢ Q ⟨⟩) :
    AG I K c iprop(CW c ![0, 0, 0, 0, 0, 0, 0, 0, 0, 0, 0, 0, 0, 0, 0, 0] ∗ R) (MXend I c) 135 ![2, 2, 2, 2, 2, 2, 2, 0, 0, 0, 0, 0, 0, 0, 0, 0] ![3, 3, 3, 3, 3, 3, 3, 3, 0, 0, 0, 0, 0, 0, 0, 0] ![2, 2, 2, 2, 2, 2, 1, 1, 1, 1, 1, 1, 1, 1] ![1, 1, 1, 1, 1, 1, 0, 0, 0, 0, 0, 0, 0, 0] ⊢ WP c (k0_part157 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 (k0_pay73 (k0_pay70 (AM I))) v4346 v4620 (k0_pay84 (k0_pay73 (k0_pay70 (AM I))) (qV I 7 c))) Q := by
  rw [k0_part157_eq_skeleton]
  unfold k0_part157_skel
  refine ag_ldout 7 (of34 c 6) (fun _ => ?_)
  refine ag_stout 7 (of34 c 6) rfl ?_
  refine ag_recv 6 (by decide +kernel) rfl rfl ?_
  refine ag_ldq 8 (by decide +kernel) rfl (of32r c 4) ?_
  refine ag_ldout 8 (of33 c 4) (fun _ => ?_)
  refine ag_stout 8 (of33 c 4) rfl ?_
  exact CW_eq (by decide +kernel) (AG_eq (by decide +kernel) ((hQ).trans (wp_ret_intro _ _)))

theorem part158 {R : sProp 𝕄} {Q : (PUnit) → sProp 𝕄} {v2 : BitVec 32} {v4346 : BitVec 32}
    (hQ : AG I K c iprop(CW c ![0, 0, 0, 0, 0, 0, 0, 0, 0, 0, 0, 0, 0, 0, 0, 0] ∗ R) (MXend I c) 135 ![2, 2, 2, 2, 2, 2, 2, 2, 2, 2, 0, 0, 0, 0, 0, 0] ![3, 3, 3, 3, 3, 3, 3, 3, 2, 2, 0, 0, 0, 0, 0, 0] ![2, 2, 2, 2, 2, 2, 1, 1, 1, 1, 1, 1, 1, 1] ![1, 1, 1, 1, 1, 1, 1, 1, 0, 0, 0, 0, 0, 0] ⊢ Q ⟨⟩) :
    AG I K c iprop(CW c ![0, 0, 0, 0, 0, 0, 0, 0, 0, 0, 0, 0, 0, 0, 0, 0] ∗ R) (MXend I c) 135 ![2, 2, 2, 2, 2, 2, 2, 2, 2, 0, 0, 0, 0, 0, 0, 0] ![3, 3, 3, 3, 3, 3, 3, 3, 2, 0, 0, 0, 0, 0, 0, 0] ![2, 2, 2, 2, 2, 2, 1, 1, 1, 1, 1, 1, 1, 1] ![1, 1, 1, 1, 1, 1, 1, 0, 0, 0, 0, 0, 0, 0] ⊢ WP c (k0_part158 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 (k0_pay73 (k0_pay70 (AM I))) v4346) Q := by
  rw [k0_part158_eq_skeleton]
  unfold k0_part158_skel
  refine ag_recv 7 (by decide +kernel) rfl rfl ?_
  refine ag_ldq 9 (by decide +kernel) rfl (of32r c 5) ?_
  refine ag_ldout 9 (of33 c 5) (fun _ => ?_)
  refine ag_stout 9 (of33 c 5) rfl ?_
  exact CW_eq (by decide +kernel) (AG_eq (by decide +kernel) ((hQ).trans (wp_ret_intro _ _)))

theorem part159 {R : sProp 𝕄} {Q : (Σ' (v4726 : BitVec 32), BitVec 32) → sProp 𝕄} {v2 : BitVec 32} {v4346 : BitVec 32}
    (hQ : ∀ (u0 : BitVec 32) (u1 : BitVec 32), AG I K c iprop(CW c ![0, 0, 0, 0, 0, 0, 0, 0, 0, 0, 0, 0, 0, 0, 0, 0] ∗ R) (MXend I c) 135 ![2, 2, 2, 2, 2, 2, 2, 2, 2, 2, 2, 0, 0, 0, 0, 0] ![3, 3, 3, 3, 3, 3, 3, 3, 2, 2, 2, 2, 0, 0, 0, 0] ![2, 2, 2, 2, 2, 2, 1, 1, 1, 1, 1, 1, 1, 1] ![1, 1, 1, 1, 1, 1, 1, 1, 1, 1, 0, 0, 0, 0] ⊢ Q ⟨u0, u1⟩) :
    AG I K c iprop(CW c ![0, 0, 0, 0, 0, 0, 0, 0, 0, 0, 0, 0, 0, 0, 0, 0] ∗ R) (MXend I c) 135 ![2, 2, 2, 2, 2, 2, 2, 2, 2, 2, 0, 0, 0, 0, 0, 0] ![3, 3, 3, 3, 3, 3, 3, 3, 2, 2, 0, 0, 0, 0, 0, 0] ![2, 2, 2, 2, 2, 2, 1, 1, 1, 1, 1, 1, 1, 1] ![1, 1, 1, 1, 1, 1, 1, 1, 0, 0, 0, 0, 0, 0] ⊢ WP c (k0_part159 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 (k0_pay73 (k0_pay70 (AM I))) v4346) Q := by
  rw [k0_part159_eq_skeleton]
  unfold k0_part159_skel
  refine ag_recv 8 (by decide +kernel) rfl rfl ?_
  refine ag_ldq 10 (by decide +kernel) rfl (of32r c 6) ?_
  refine ag_ldout 10 (of33 c 6) (fun _ => ?_)
  refine ag_stout 10 (of33 c 6) rfl ?_
  refine ag_recv 9 (by decide +kernel) rfl rfl ?_
  exact CW_eq (by decide +kernel) (AG_eq (by decide +kernel) ((hQ _ _).trans (wp_ret_intro _ _)))

theorem part160 {R : sProp 𝕄} {Q : (Σ' (v4757 : BitVec 32) (v4758 : BitVec 32) (v4759 : BitVec 1), BitVec 1) → sProp 𝕄} {v2 : BitVec 32} {v4443 : BitVec 32} {v4726 : BitVec 32} {c8_i32_4385 : BitVec 32}
    (hQ : ∀ (u0 : BitVec 32) (u1 : BitVec 32) (u2 : BitVec 1) (u3 : BitVec 1), AG I K c iprop(CW c ![0, 0, 0, 0, 0, 0, 0, 0, 0, 0, 0, 0, 0, 0, 0, 0] ∗ R) (MXend I c) 135 ![2, 2, 2, 2, 2, 2, 2, 2, 2, 2, 2, 2, 0, 0, 0, 0] ![3, 3, 3, 3, 3, 3, 3, 3, 2, 2, 2, 2, 2, 0, 0, 0] ![2, 2, 2, 2, 2, 2, 1, 1, 1, 1, 1, 1, 1, 1] ![1, 1, 1, 1, 1, 1, 1, 1, 1, 1, 1, 0, 0, 0] ⊢ Q ⟨u0, u1, u2, u3⟩) :
    AG I K c iprop(CW c ![0, 0, 0, 0, 0, 0, 0, 0, 0, 0, 0, 0, 0, 0, 0, 0] ∗ R) (MXend I c) 135 ![2, 2, 2, 2, 2, 2, 2, 2, 2, 2, 2, 0, 0, 0, 0, 0] ![3, 3, 3, 3, 3, 3, 3, 3, 2, 2, 2, 2, 0, 0, 0, 0] ![2, 2, 2, 2, 2, 2, 1, 1, 1, 1, 1, 1, 1, 1] ![1, 1, 1, 1, 1, 1, 1, 1, 1, 1, 0, 0, 0, 0] ⊢ WP c (k0_part160 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 (k0_pay73 (k0_pay70 (AM I))) v4443 v4726 c8_i32_4385) Q := by
  rw [k0_part160_eq_skeleton]
  unfold k0_part160_skel
  refine ag_ldq 11 (by decide +kernel) rfl (of32r c 7) ?_
  refine ag_ldout 11 (of33 c 7) (fun _ => ?_)
  refine ag_stout 11 (of33 c 7) rfl ?_
  refine ag_recv 10 (by decide +kernel) rfl rfl ?_
  exact CW_eq (by decide +kernel) (AG_eq (by decide +kernel) ((hQ _ _ _ _).trans (wp_ret_intro _ _)))

theorem part161 {R : sProp 𝕄} {Q : (Σ' (v4794 : BitVec 32), BitVec 32) → sProp 𝕄} {v2 : BitVec 32} {v4443 : BitVec 32} {v4757 : BitVec 32} {v4758 : BitVec 32} {v4759 : BitVec 1} {v4760 : BitVec 1}
    (hQ : ∀ (u0 : BitVec 32) (u1 : BitVec 32), AG I K c iprop(CW c ![0, 0, 0, 0, 0, 0, 0, 0, 0, 0, 0, 0, 0, 0, 0, 0] ∗ R) (MXend I c) 135 ![2, 2, 2, 2, 2, 2, 2, 2, 2, 2, 2, 2, 2, 0, 0, 0] ![3, 3, 3, 3, 3, 3, 3, 3, 2, 2, 2, 2, 2, 2, 0, 0] ![2, 2, 2, 2, 2, 2, 1, 1, 1, 1, 1, 1, 1, 1] ![1, 1, 1, 1, 1, 1, 1, 1, 1, 1, 1, 1, 0, 0] ⊢ Q ⟨u0, u1⟩) :
    AG I K c iprop(CW c ![0, 0, 0, 0, 0, 0, 0, 0, 0, 0, 0, 0, 0, 0, 0, 0] ∗ R) (MXend I c) 135 ![2, 2, 2, 2, 2, 2, 2, 2, 2, 2, 2, 2, 0, 0, 0, 0] ![3, 3, 3, 3, 3, 3, 3, 3, 2, 2, 2, 2, 2, 0, 0, 0] ![2, 2, 2, 2, 2, 2, 1, 1, 1, 1, 1, 1, 1, 1] ![1, 1, 1, 1, 1, 1, 1, 1, 1, 1, 1, 0, 0, 0] ⊢ WP c (k0_part161 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 (k0_pay73 (k0_pay70 (AM I))) v4443 v4757 v4758 v4759 v4760) Q := by
  rw [k0_part161_eq_skeleton]
  unfold k0_part161_skel
  refine ag_ldq 12 (by decide +kernel) rfl (of32l c 1) ?_
  refine ag_ldout 12 (of34 c 1) (fun _ => ?_)
  refine ag_stout 12 (of34 c 1) rfl ?_
  refine ag_recv 11 (by decide +kernel) rfl rfl ?_
  exact CW_eq (by decide +kernel) (AG_eq (by decide +kernel) ((hQ _ _).trans (wp_ret_intro _ _)))

theorem part162 {R : sProp 𝕄} {Q : (Σ' (v4830 : FVec F S512x1024 .bf16), BitVec 32) → sProp 𝕄} {v2 : BitVec 32} {v4443 : BitVec 32} {v4794 : BitVec 32} {v4796 : BitVec 32}
    (hQ : ∀ (u1 : BitVec 32), AG I K c iprop(CW c ![0, 0, 0, 0, 0, 0, 0, 0, 0, 0, 0, 0, 0, 0, 0, 0] ∗ R) (MXend I c) 135 ![2, 2, 2, 2, 2, 2, 2, 2, 2, 2, 2, 2, 2, 2, 0, 0] ![3, 3, 3, 3, 3, 3, 3, 3, 2, 2, 2, 2, 2, 2, 2, 0] ![2, 2, 2, 2, 2, 2, 1, 1, 1, 1, 1, 1, 1, 1] ![1, 1, 1, 1, 1, 1, 1, 1, 1, 1, 1, 1, 1, 0] ⊢ Q ⟨(k0_pay91 (k0_pay73 (k0_pay70 (AM I))) (qV I 14 c)), u1⟩) :
    AG I K c iprop(CW c ![0, 0, 0, 0, 0, 0, 0, 0, 0, 0, 0, 0, 0, 0, 0, 0] ∗ R) (MXend I c) 135 ![2, 2, 2, 2, 2, 2, 2, 2, 2, 2, 2, 2, 2, 0, 0, 0] ![3, 3, 3, 3, 3, 3, 3, 3, 2, 2, 2, 2, 2, 2, 0, 0] ![2, 2, 2, 2, 2, 2, 1, 1, 1, 1, 1, 1, 1, 1] ![1, 1, 1, 1, 1, 1, 1, 1, 1, 1, 1, 1, 0, 0] ⊢ WP c (k0_part162 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 (k0_pay73 (k0_pay70 (AM I))) v4443 v4794 v4796) Q := by
  rw [k0_part162_eq_skeleton]
  unfold k0_part162_skel
  refine ag_ldq 13 (by decide +kernel) rfl (of32l c 3) ?_
  refine ag_ldout 13 (of34 c 3) (fun _ => ?_)
  refine ag_stout 13 (of34 c 3) rfl ?_
  refine ag_recv 12 (by decide +kernel) rfl rfl ?_
  refine ag_ldq 14 (by decide +kernel) rfl (of32l c 5) ?_
  exact CW_eq (by decide +kernel) (AG_eq (by decide +kernel) ((hQ _).trans (wp_ret_intro _ _)))

theorem part163 {R : sProp 𝕄} {Q : (PUnit) → sProp 𝕄} {v2 : BitVec 32} {v4443 : BitVec 32} {v4832 : BitVec 32}
    (hQ : AG I K c iprop(CW c ![0, 0, 0, 0, 0, 0, 0, 0, 0, 0, 0, 0, 0, 0, 0, 0] ∗ R) (MXend I c) 135 ![2, 2, 2, 2, 2, 2, 2, 2, 2, 2, 2, 2, 2, 2, 2, 2] ![3, 3, 3, 3, 3, 3, 3, 3, 2, 2, 2, 2, 2, 2, 2, 2] ![2, 2, 2, 2, 2, 2, 1, 1, 1, 1, 1, 1, 1, 1] ![1, 1, 1, 1, 1, 1, 1, 1, 1, 1, 1, 1, 1, 1] ⊢ Q ⟨⟩) :
    AG I K c iprop(CW c ![0, 0, 0, 0, 0, 0, 0, 0, 0, 0, 0, 0, 0, 0, 0, 0] ∗ R) (MXend I c) 135 ![2, 2, 2, 2, 2, 2, 2, 2, 2, 2, 2, 2, 2, 2, 0, 0] ![3, 3, 3, 3, 3, 3, 3, 3, 2, 2, 2, 2, 2, 2, 2, 0] ![2, 2, 2, 2, 2, 2, 1, 1, 1, 1, 1, 1, 1, 1] ![1, 1, 1, 1, 1, 1, 1, 1, 1, 1, 1, 1, 1, 0] ⊢ WP c (k0_part163 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 (k0_pay73 (k0_pay70 (AM I))) v4443 (k0_pay91 (k0_pay73 (k0_pay70 (AM I))) (qV I 14 c)) v4832) Q := by
  rw [k0_part163_eq_skeleton]
  unfold k0_part163_skel
  refine ag_ldout 14 (of34 c 5) (fun _ => ?_)
  refine ag_stout 14 (of34 c 5) rfl ?_
  refine ag_recv 13 (by decide +kernel) rfl rfl ?_
  refine ag_ldq 15 (by decide +kernel) rfl (of32l c 7) ?_
  refine ag_ldout 15 (of34 c 7) (fun _ => ?_)
  refine ag_stout 15 (of34 c 7) rfl ?_
  exact CW_eq (by decide +kernel) (AG_eq (by decide +kernel) ((hQ).trans (wp_ret_intro _ _)))

theorem part164 {R : sProp 𝕄} {Q : (PUnit) → sProp 𝕄}
    (hQ : AG I K c iprop(CW c ![0, 0, 0, 0, 0, 0, 0, 0, 0, 0, 0, 0, 0, 0, 0, 0] ∗ R) (MXend I c) 135 ![2, 2, 2, 2, 2, 2, 2, 2, 2, 2, 2, 2, 2, 2, 2, 2] ![2, 2, 2, 3, 2, 2, 3, 3, 2, 2, 2, 2, 2, 2, 2, 2] ![2, 2, 2, 2, 2, 2, 2, 2, 2, 2, 2, 1, 1, 1] ![1, 1, 1, 1, 1, 1, 1, 1, 1, 1, 1, 1, 1, 1] ⊢ Q ⟨⟩) :
    AG I K c iprop(CW c ![0, 0, 0, 0, 0, 0, 0, 0, 0, 0, 0, 0, 0, 0, 0, 0] ∗ R) (MXend I c) 135 ![2, 2, 2, 2, 2, 2, 2, 2, 2, 2, 2, 2, 2, 2, 2, 2] ![3, 3, 3, 3, 3, 3, 3, 3, 2, 2, 2, 2, 2, 2, 2, 2] ![2, 2, 2, 2, 2, 2, 1, 1, 1, 1, 1, 1, 1, 1] ![1, 1, 1, 1, 1, 1, 1, 1, 1, 1, 1, 1, 1, 1] ⊢ WP c (k0_part164 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c) Q := by
  rw [k0_part164_eq_skeleton]
  unfold k0_part164_skel
  refine ag_wait 6 (by decide +kernel) rfl rfl ?_
  refine ag_wait 7 (by decide +kernel) rfl rfl ?_
  refine ag_wait 8 (by decide +kernel) rfl rfl ?_
  refine ag_wait 9 (by decide +kernel) rfl rfl ?_
  refine ag_wait 10 (by decide +kernel) rfl rfl ?_
  exact CW_eq (by decide +kernel) (AG_eq (by decide +kernel) ((hQ).trans (wp_ret_intro _ _)))

theorem part165 {R : sProp 𝕄} {Q : (PUnit) → sProp 𝕄}
    (hQ : AG I K c iprop(CW c ![1, 0, 1, 0, 0, 0, 0, 0, 1, 0, 1, 0, 0, 0, 0, 0] ∗ R) (MXend I c) 135 ![2, 2, 2, 2, 2, 2, 2, 2, 2, 2, 2, 2, 2, 2, 2, 2] ![2, 2, 2, 2, 2, 2, 2, 2, 2, 2, 2, 2, 2, 2, 2, 2] ![2, 2, 2, 2, 2, 2, 2, 2, 2, 2, 2, 2, 2, 2] ![1, 1, 1, 1, 1, 1, 1, 1, 1, 1, 1, 1, 1, 1] ⊢ Q ⟨⟩) :
    AG I K c iprop(CW c ![0, 0, 0, 0, 0, 0, 0, 0, 0, 0, 0, 0, 0, 0, 0, 0] ∗ R) (MXend I c) 135 ![2, 2, 2, 2, 2, 2, 2, 2, 2, 2, 2, 2, 2, 2, 2, 2] ![2, 2, 2, 3, 2, 2, 3, 3, 2, 2, 2, 2, 2, 2, 2, 2] ![2, 2, 2, 2, 2, 2, 2, 2, 2, 2, 2, 1, 1, 1] ![1, 1, 1, 1, 1, 1, 1, 1, 1, 1, 1, 1, 1, 1] ⊢ WP c (k0_part165 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c) Q := by
  rw [k0_part165_eq_skeleton]
  unfold k0_part165_skel
  refine ag_wait 11 (by decide +kernel) rfl rfl ?_
  refine ag_wait 12 (by decide +kernel) rfl rfl ?_
  refine ag_wait 13 (by decide +kernel) rfl rfl ?_
  refine cw_wait 0 (by decide +kernel) rfl rfl ?_
  refine cw_wait 8 (by decide +kernel) rfl rfl ?_
  refine cw_wait 2 (by decide +kernel) rfl rfl ?_
  refine cw_wait 10 (by decide +kernel) rfl rfl ?_
  exact CW_eq (by decide +kernel) (AG_eq (by decide +kernel) ((hQ).trans (wp_ret_intro _ _)))

theorem part166 {R : sProp 𝕄} {Q : (PUnit) → sProp 𝕄}
    (hQ : AG I K c iprop(CW c ![1, 1, 1, 1, 1, 0, 1, 0, 1, 1, 1, 1, 1, 0, 1, 0] ∗ R) (MXend I c) 135 ![2, 2, 2, 2, 2, 2, 2, 2, 2, 2, 2, 2, 2, 2, 2, 2] ![2, 2, 2, 2, 2, 2, 2, 2, 2, 2, 2, 2, 2, 2, 2, 2] ![2, 2, 2, 2, 2, 2, 2, 2, 2, 2, 2, 2, 2, 2] ![1, 1, 1, 1, 1, 1, 1, 1, 1, 1, 1, 1, 1, 1] ⊢ Q ⟨⟩) :
    AG I K c iprop(CW c ![1, 0, 1, 0, 0, 0, 0, 0, 1, 0, 1, 0, 0, 0, 0, 0] ∗ R) (MXend I c) 135 ![2, 2, 2, 2, 2, 2, 2, 2, 2, 2, 2, 2, 2, 2, 2, 2] ![2, 2, 2, 2, 2, 2, 2, 2, 2, 2, 2, 2, 2, 2, 2, 2] ![2, 2, 2, 2, 2, 2, 2, 2, 2, 2, 2, 2, 2, 2] ![1, 1, 1, 1, 1, 1, 1, 1, 1, 1, 1, 1, 1, 1] ⊢ WP c (k0_part166 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 ) Q := by
  rw [k0_part166_eq_skeleton]
  unfold k0_part166_skel
  refine cw_wait 4 (by decide +kernel) rfl rfl ?_
  refine cw_wait 12 (by decide +kernel) rfl rfl ?_
  refine cw_wait 6 (by decide +kernel) rfl rfl ?_
  refine cw_wait 14 (by decide +kernel) rfl rfl ?_
  refine cw_wait 1 (by decide +kernel) rfl rfl ?_
  refine cw_wait 9 (by decide +kernel) rfl rfl ?_
  refine cw_wait 3 (by decide +kernel) rfl rfl ?_
  refine cw_wait 11 (by decide +kernel) rfl rfl ?_
  exact CW_eq (by decide +kernel) (AG_eq (by decide +kernel) ((hQ).trans (wp_ret_intro _ _)))

end Parts

end K
-- ==== Proof.K.Chain.lean ====
module

public import proofs.«01_k».proof.Proof.K.Start
public import proofs.«01_k».proof.Proof.K.Rs1
public import proofs.«01_k».proof.Proof.K.Rs2
public import proofs.«01_k».proof.Proof.K.Rs3
public import proofs.«01_k».proof.Proof.K.Rs4
public import proofs.«01_k».proof.Proof.K.Rs5
public import proofs.«01_k».proof.Proof.K.Rs6
public import proofs.«01_k».proof.Proof.K.Ag1
public import proofs.«01_k».proof.Proof.K.Ag2
public import proofs.«01_k».proof.Proof.K.Ag3

/-!
# The whole program
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Chain

variable {I : In F} {K : Dev nD × Kn → ℕ} {c : Dev nD} {f0 : Vec F S4096x2048 .bf16}

set_option maxRecDepth 100000 in
theorem part167 {R : sProp 𝕄} {Q : (Σ' (d0 : Dev nD) (v2 : BitVec 32) (v13 : BitVec 32) (v24 : BitVec 32) (v1788 : BitVec 32) (v1789 : BitVec 32), BitVec 1) → sProp 𝕄}
    (hQ : ∀ (f0 : Vec F S4096x2048 .bf16) (u0 u1 u2 u3 u4 : BitVec 32) (u5 : BitVec 1), RS I K c f0 iprop(Ext I c ∗ atPos ER (cell c kB) 1 ∅ 0 ∗ R) 56 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨2, 2, 1, 0, 1, 0, 3, 2⟩] ⊢ Q ⟨c, u0, u1, u2, u3, u4, u5⟩) :
    iprop(Init I K c f0 ∗ R) ⊢ WP c (k0_part167 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16) Q := by
  rw [k0_part167_eq_skeleton]
  unfold k0_part167_skel
  refine wp_seq (part1 fun _ _ _ _ => ?_)
  refine wp_seq (part2 fun f1 => ?_)
  refine wp_seq (part3 fun _ _ _ => ?_)
  refine wp_seq (part4 ?_)
  refine wp_seq (part5 fun _ _ _ _ => ?_)
  refine wp_seq (part6 fun _ => ?_)
  refine wp_seq (part7 fun _ _ => ?_)
  refine wp_seq (part8 fun _ => ?_)
  refine wp_seq (part9 fun _ => ?_)
  refine wp_seq (part10 ?_)
  refine wp_seq (part11 fun _ => ?_)
  refine wp_seq (part12 ?_)
  refine wp_seq (part13 ?_)
  refine wp_seq (part14 fun _ _ _ => ?_)
  refine wp_seq (part15 fun _ _ => ?_)
  refine wp_seq (part16 fun _ _ _ _ _ => ?_)
  refine wp_seq (part17 fun _ _ _ _ => ?_)
  refine wp_seq (part18 fun _ => ?_)
  refine wp_seq (part19 ?_)
  refine wp_seq (part20 fun _ => ?_)
  refine wp_seq (part21 ?_)
  refine wp_seq (part22 fun _ => ?_)
  refine wp_seq (part23 ?_)
  refine wp_seq (part24 fun _ _ _ => ?_)
  refine wp_seq (part25 fun _ => ?_)
  refine wp_seq (part26 fun _ => ?_)
  refine wp_seq (part27 fun _ _ => ?_)
  refine wp_seq (part28 ?_)
  refine wp_seq (part29 ?_)
  refine wp_seq (part30 fun _ => ?_)
  refine wp_seq (part31 ?_)
  refine wp_seq (part32 fun _ _ => ?_)
  refine wp_seq (part33 fun _ _ _ => ?_)
  refine wp_seq (part34 fun _ => ?_)
  refine wp_seq (part35 fun _ => ?_)
  refine wp_seq (part36 fun _ _ => ?_)
  refine wp_seq (part37 ?_)
  refine wp_seq (part38 ?_)
  refine wp_seq (part39 fun _ => ?_)
  refine wp_seq (part40 ?_)
  refine wp_seq (part41 fun _ _ => ?_)
  refine wp_seq (part42 fun _ _ _ => ?_)
  refine wp_seq (part43 fun _ => ?_)
  refine wp_seq (part44 fun _ _ => ?_)
  refine wp_seq (part45 ?_)
  refine wp_seq (part46 ?_)
  refine wp_seq (part47 fun _ => ?_)
  refine wp_seq (part48 ?_)
  refine wp_seq (part49 fun _ => ?_)
  refine wp_seq (part50 fun _ _ _ => ?_)
  refine wp_seq (part51 fun _ _ _ => ?_)
  refine wp_seq (part52 ?_)
  refine wp_seq (part53 fun _ _ => ?_)
  refine wp_seq (part54 ?_)
  refine wp_seq (part55 ?_)
  refine wp_seq (part56 fun _ => ?_)
  refine wp_seq (part57 ?_)
  refine wp_seq (part58 fun _ => ?_)
  refine wp_seq (part59 fun _ _ _ => ?_)
  refine wp_seq (part60 fun _ _ _ => ?_)
  exact (hQ f1 _ _ _ _ _ _).trans (wp_ret_intro _ _)

set_option maxRecDepth 100000 in
theorem part168 {R : sProp 𝕄} {Q : PUnit → sProp 𝕄} {v2 v13 v24 v1788 v1789 : BitVec 32} {v1794 : BitVec 1}
    (hQ : RS I K c f0 R 108 8 ![⟨7, 7, 3, 2, 3, 2, 7, 7⟩, ⟨7, 7, 3, 2, 3, 2, 7, 7⟩, ⟨7, 7, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩] ⊢ Q ⟨⟩) :
    RS I K c f0 R 56 7 ![⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨3, 3, 1, 1, 1, 1, 4, 3⟩, ⟨2, 2, 1, 0, 1, 0, 3, 2⟩] ⊢ WP c (k0_part168 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24 v1788 v1789 v1794) Q := by
  rw [k0_part168_eq_skeleton]
  unfold k0_part168_skel
  refine wp_seq (part61 ?_)
  refine wp_seq (part62 fun _ _ => ?_)
  refine wp_seq (part63 fun _ => ?_)
  refine wp_seq (part64 fun _ => ?_)
  refine wp_seq (part65 fun _ _ => ?_)
  refine wp_seq (part66 ?_)
  refine wp_seq (part67 ?_)
  refine wp_seq (part68 fun _ _ => ?_)
  refine wp_seq (part69 ?_)
  refine wp_seq (part70 fun _ => ?_)
  refine wp_seq (part71 fun _ _ _ => ?_)
  refine wp_seq (part72 fun _ => ?_)
  refine wp_seq (part73 fun _ => ?_)
  refine wp_seq (part74 fun _ _ => ?_)
  refine wp_seq (part75 ?_)
  refine wp_seq (part76 ?_)
  refine wp_seq (part77 fun _ _ => ?_)
  refine wp_seq (part78 ?_)
  refine wp_seq (part79 fun _ => ?_)
  refine wp_seq (part80 fun _ _ _ => ?_)
  refine wp_seq (part81 fun _ => ?_)
  refine wp_seq (part82 fun _ => ?_)
  refine wp_seq (part83 fun _ _ => ?_)
  refine wp_seq (part84 ?_)
  refine wp_seq (part85 ?_)
  refine wp_seq (part86 fun _ _ => ?_)
  refine wp_seq (part87 ?_)
  refine wp_seq (part88 fun _ => ?_)
  refine wp_seq (part89 fun _ _ _ => ?_)
  refine wp_seq (part90 fun _ => ?_)
  refine wp_seq (part91 fun _ => ?_)
  refine wp_seq (part92 fun _ _ => ?_)
  refine wp_seq (part93 ?_)
  refine wp_seq (part94 ?_)
  refine wp_seq (part95 fun _ _ => ?_)
  refine wp_seq (part96 ?_)
  refine wp_seq (part97 fun _ => ?_)
  refine wp_seq (part98 fun _ _ _ => ?_)
  refine wp_seq (part99 fun _ => ?_)
  refine wp_seq (part100 fun _ => ?_)
  refine wp_seq (part101 fun _ _ => ?_)
  refine wp_seq (part102 ?_)
  refine wp_seq (part103 ?_)
  refine wp_seq (part104 fun _ _ => ?_)
  refine wp_seq (part105 ?_)
  refine wp_seq (part106 fun _ => ?_)
  refine wp_seq (part107 fun _ _ _ => ?_)
  refine wp_seq (part108 fun _ => ?_)
  refine wp_seq (part109 fun _ => ?_)
  refine wp_seq (part110 fun _ _ => ?_)
  refine wp_seq (part111 ?_)
  refine wp_seq (part112 ?_)
  refine wp_seq (part113 fun _ _ => ?_)
  refine wp_seq (part114 ?_)
  refine wp_seq (part115 fun _ => ?_)
  refine wp_seq (part116 fun _ _ _ => ?_)
  refine wp_seq (part117 fun _ => ?_)
  refine wp_seq (part118 fun _ _ _ _ => ?_)
  refine wp_seq (part119 fun _ => ?_)
  refine wp_seq (part120 ?_)
  exact hQ.trans (wp_ret_intro _ _)

set_option maxRecDepth 100000 in
theorem part169 {R : sProp 𝕄} {Q : PUnit → sProp 𝕄} {v2 v13 v24 : BitVec 32}
    (hQ : AG I K c iprop(CW c ![1, 1, 1, 1, 1, 1, 1, 0, 1, 1, 1, 1, 1, 1, 1, 0] ∗ Left I c ∗ atPos ER (cell c kB) 1 ∅ 0 ∗ R) (MXend I c) 135 ![2, 2, 2, 2, 2, 2, 2, 2, 2, 2, 2, 2, 2, 2, 2, 2] ![2, 2, 2, 2, 2, 2, 2, 2, 2, 2, 2, 2, 2, 2, 2, 2] ![2, 2, 2, 2, 2, 2, 2, 2, 2, 2, 2, 2, 2, 2] ![1, 1, 1, 1, 1, 1, 1, 1, 1, 1, 1, 1, 1, 1] ⊢ Q ⟨⟩) :
    RS I K c f0 iprop(Ext I c ∗ atPos ER (cell c kB) 1 ∅ 0 ∗ R) 108 8 ![⟨7, 7, 3, 2, 3, 2, 7, 7⟩, ⟨7, 7, 3, 2, 3, 2, 7, 7⟩, ⟨7, 7, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩, ⟨6, 6, 3, 2, 3, 2, 7, 6⟩] ⊢ WP c (k0_part169 (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16 c v2 v13 v24) Q := by
  rw [k0_part169_eq_skeleton]
  unfold k0_part169_skel
  refine wp_seq (part121 fun _ _ => ?_)
  refine wp_seq (part122 fun _ => ?_)
  refine wp_seq (part123 fun _ => ?_)
  refine wp_seq (part124 fun _ => ?_)
  refine wp_seq (part125 fun _ _ _ _ => ?_)
  refine wp_seq (part126 ?_)
  refine wp_seq (part127 ?_)
  refine wp_seq (part128 ?_)
  refine wp_seq (part129 ?_)
  refine wp_seq (part130 ?_)
  refine wp_seq (part131 fun _ _ => ?_)
  refine wp_seq (part132 fun _ _ _ => ?_)
  refine wp_seq (part133 fun _ _ => ?_)
  refine wp_seq (part134 fun _ _ => ?_)
  refine wp_seq (part135 fun _ _ => ?_)
  refine wp_seq (part136 ?_)
  refine wp_seq (part137 fun _ => ?_)
  refine wp_seq (part138 ?_)
  refine wp_seq (part139 fun _ => ?_)
  refine wp_seq (part140 fun _ _ _ _ => ?_)
  refine wp_seq (part141 fun _ => ?_)
  refine wp_seq (part142 fun _ => ?_)
  refine wp_seq (part143 fun _ _ _ _ _ _ => ?_)
  refine wp_seq (part144 fun _ _ => ?_)
  refine wp_seq (part145 fun _ _ => ?_)
  refine wp_seq (part146 fun _ => ?_)
  refine wp_seq (part147 ?_)
  refine wp_seq (part148 fun _ _ _ => ?_)
  refine wp_seq (part149 fun _ => ?_)
  refine wp_seq (part150 ?_)
  refine wp_seq (part151 fun _ _ _ => ?_)
  refine wp_seq (part152 ?_)
  refine wp_seq (part153 ?_)
  refine wp_seq (part154 fun _ _ _ _ => ?_)
  refine wp_seq (part155 fun _ _ => ?_)
  refine wp_seq (part156 fun _ => ?_)
  refine wp_seq (part157 ?_)
  refine wp_seq (part158 ?_)
  refine wp_seq (part159 fun _ _ => ?_)
  refine wp_seq (part160 fun _ _ _ _ => ?_)
  refine wp_seq (part161 fun _ _ => ?_)
  refine wp_seq (part162 fun _ => ?_)
  refine wp_seq (part163 ?_)
  refine wp_seq (part164 ?_)
  refine wp_seq (part165 ?_)
  refine wp_seq (part166 ?_)
  refine cw_wait 5 (by decide +kernel) rfl rfl ?_
  refine cw_wait 13 (by decide +kernel) rfl rfl ?_
  exact CW_eq (by decide +kernel) (hQ.trans (wp_ret_intro _ _))

set_option maxRecDepth 100000 in
theorem body {R : sProp 𝕄} {Q : PUnit → sProp 𝕄}
    (hQ : AG I K c iprop(CW c ![1, 1, 1, 1, 1, 1, 1, 1, 1, 1, 1, 1, 1, 1, 1, 1] ∗ Left I c ∗ atPos ER (cell c kB) 1 ∅ 0 ∗ R) (MXend I c) 135 ![2, 2, 2, 2, 2, 2, 2, 2, 2, 2, 2, 2, 2, 2, 2, 2] ![2, 2, 2, 2, 2, 2, 2, 2, 2, 2, 2, 2, 2, 2, 2, 2] ![2, 2, 2, 2, 2, 2, 2, 2, 2, 2, 2, 2, 2, 2] ![1, 1, 1, 1, 1, 1, 1, 1, 1, 1, 1, 1, 1, 1] ⊢ Q ⟨⟩) :
    iprop(Init I K c f0 ∗ R) ⊢ WP c (cc0_body (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16) Q := by
  rw [cc0_body_eq_skeleton]
  unfold cc0_body_skel
  refine wp_seq (part167 fun _ _ _ _ _ _ _ => ?_)
  refine wp_seq (part168 ?_)
  refine wp_seq (part169 ?_)
  refine cw_wait 7 (by decide +kernel) rfl rfl ?_
  refine cw_wait 15 (by decide +kernel) rfl rfl ?_
  exact CW_eq (by decide +kernel) (hQ.trans (wp_ret_intro _ _))

end Chain

end K
-- ==== Proof.K.End.lean ====
module

public import proofs.«01_k».proof.Proof.K.Chain

/-!
# The end
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The cells of a device, in families -/

/-- A family over the cells of a device, cut as the protocol cuts it. -/
theorem kn_split (P : Kn → sProp 𝕄) : bigSep Finset.univ P
    = iprop(P kB ∗ (bigSep Finset.univ fun j : Fin 8 => iprop((P (kR 1 0 j) ∗ P (kR 1 1 j)) ∗ (P (kR 0 0 j) ∗ P (kR 0 1 j)) ∗ (P (kR 2 0 j) ∗ P (kR 2 1 j))))
      ∗ ((bigSep Finset.univ fun o : Fin 7 => P (kM 0 o)) ∗ (bigSep Finset.univ fun o : Fin 7 => P (kM 1 o)))
      ∗ ((bigSep Finset.univ fun e : Fin 14 => P (kG 0 e)) ∗ (bigSep Finset.univ fun e : Fin 14 => P (kG 1 e)))) := by
  have h1 : (bigSep Finset.univ fun p : Fin 3 × Fin 2 × Fin 8 => P (.inr (.inl p)))
      = bigSep Finset.univ fun j : Fin 8 => iprop((P (kR 1 0 j) ∗ P (kR 1 1 j)) ∗ (P (kR 0 0 j) ∗ P (kR 0 1 j)) ∗ (P (kR 2 0 j) ∗ P (kR 2 1 j))) := by
    rw [bigSep_univ_prod, bigSep_univ_eq_bigSepL [(1 : Fin 3), 0, 2] (by decide) (by decide)]
    have h (w : Fin 3) : (bigSep Finset.univ fun q : Fin 2 × Fin 8 => P (.inr (.inl (w, q)))) = bigSep Finset.univ fun j : Fin 8 => iprop(P (kR w 0 j) ∗ P (kR w 1 j)) := by
      rw [bigSep_univ_prod, bigSep_fin_two, bigSep_sep']
      rfl
    show iprop((bigSep Finset.univ fun q : Fin 2 × Fin 8 => P (.inr (.inl (1, q)))) ∗ (bigSep Finset.univ fun q : Fin 2 × Fin 8 => P (.inr (.inl (0, q)))) ∗ (bigSep Finset.univ fun q : Fin 2 × Fin 8 => P (.inr (.inl (2, q))))) = _
    have hs (a b x : Fin 8 → sProp 𝕄) : iprop(bigSep Finset.univ a ∗ bigSep Finset.univ b ∗ bigSep Finset.univ x) = bigSep Finset.univ fun j => iprop(a j ∗ b j ∗ x j) := by
      rw [bigSep_sep', bigSep_sep']
    rw [h, h, h]
    exact hs (fun j => iprop(P (kR 1 0 j) ∗ P (kR 1 1 j))) (fun j => iprop(P (kR 0 0 j) ∗ P (kR 0 1 j))) (fun j => iprop(P (kR 2 0 j) ∗ P (kR 2 1 j)))
  have h2 : (bigSep Finset.univ fun p : Fin 2 × Fin 7 => P (.inr (.inr (.inl p)))) = iprop((bigSep Finset.univ fun o : Fin 7 => P (kM 0 o)) ∗ (bigSep Finset.univ fun o : Fin 7 => P (kM 1 o))) := by
    rw [bigSep_univ_prod, bigSep_fin_two]
    rfl
  have h3 : (bigSep Finset.univ fun p : Fin 2 × Fin 14 => P (.inr (.inr (.inr p)))) = iprop((bigSep Finset.univ fun e : Fin 14 => P (kG 0 e)) ∗ (bigSep Finset.univ fun e : Fin 14 => P (kG 1 e))) := by
    rw [bigSep_univ_prod, bigSep_fin_two]
    rfl
  rw [bigSep_univ_sum, bigSep_univ_sum, bigSep_univ_sum, h1, h2, h3, bigSep_univ_of_subsingleton ()]
  rfl

/-- The round at which a cell is left. -/
def er : Kn → ℕ
  | .inr (.inl (_, s, _)) => 4 - s.val
  | _ => 1

theorem er_dut (k : Kn) (r : ℕ) (h : er k ≤ r) : dutK k r = ∅ := by
  match k with
  | .inl _ => exact if_neg (by have : 1 ≤ r := h; omega)
  | .inr (.inl (w, s, j)) => exact if_neg (by have : 4 - s.val ≤ r := h; have := s.isLt; omega)
  | .inr (.inr (.inl _)) => exact if_neg (by have : 1 ≤ r := h; omega)
  | .inr (.inr (.inr _)) => exact if_neg (by have : 1 ≤ r := h; omega)

/-- Every cell of a device is closed. -/
theorem close_all (I : In F) (K : Dev nD × Kn → ℕ) (c : Dev nD) :
    iprop(recs I K ∗ bigSep Finset.univ fun k : Kn => atPos ER (cell c k) (er k) ∅ 0)
      ⊢ |={Set.univ}=> (bigSep Finset.univ fun k : Kn => semVal (cell c k) 0 : sProp 𝕄) := by
  have h1 : iprop(recs I K ∗ bigSep Finset.univ fun k : Kn => atPos ER (cell c k) (er k) ∅ 0)
      ⊢ bigSep Finset.univ fun k : Kn => iprop(recs I K ∗ atPos ER (cell c k) (er k) ∅ 0) := by
    rw [bigSep_sep']
    exact sep_mono_left (BI.bigSep_of_persistent _ _)
  refine h1.trans ((bmono _ fun k _ => ?_).trans (bigSep_fupd _ _))
  iintro ⟨#Hr, Ha⟩
  iapply (Rounds.cell_close ER (Rd I) (Set.mem_univ (K (c, k))) (fun h => h) (R := er k) (fun r hr => by rw [Rd_duties]; exact er_dut k r hr))
  isplitr
  · iapply (recs_inv I K c k); iexact Hr
  · iexact Ha

theorem cw_lanes' (c : Dev nD) (v : ℕ) : CW c (fun _ => v) = bigSep Finset.univ fun j : Fin 8 => iprop(Φc (F := F) c ⟨j.val, by omega⟩ v ∗ Φc c ⟨8 + j.val, by omega⟩ v) := by
  unfold CW
  rw [bigSep_sep', show (Finset.univ : Finset (Fin 16)) = (Finset.univ.image fun j : Fin 8 => (⟨j.val, by omega⟩ : Fin 16)) ∪ (Finset.univ.image fun j : Fin 8 => (⟨8 + j.val, by omega⟩ : Fin 16)) from by decide,
    bigSep_union (by decide), bigSep_image_of_injOn (fun x _ y _ h => Fin.ext (by have := congrArg Fin.val h; dsimp only at this; omega)),
    bigSep_image_of_injOn (fun x _ y _ h => Fin.ext (by have := congrArg Fin.val h; dsimp only at this; omega))]
  rfl

theorem cw_pos (c : Dev nD) : CW (F := F) c ![1, 1, 1, 1, 1, 1, 1, 1, 1, 1, 1, 1, 1, 1, 1, 1] = bigSep Finset.univ fun j : Fin 8 => ps c 2 j 4 3 := by
  rw [show (![1, 1, 1, 1, 1, 1, 1, 1, 1, 1, 1, 1, 1, 1, 1, 1] : Fin 16 → ℕ) = fun _ => 1 from by decide +kernel, cw_lanes']
  refine bigSep_congr fun j _ => ?_
  have h1 : (⟨j.val / 8, by omega⟩ : Fin 2) = 0 := Fin.ext (by show j.val / 8 = 0; omega)
  have h2 : (⟨j.val % 8, by omega⟩ : Fin 8) = j := Fin.ext (by show j.val % 8 = j.val; omega)
  have h3 : 3 - j.val / 8 = 3 := by omega
  have g1 : (⟨(8 + j.val) / 8, by omega⟩ : Fin 2) = 1 := Fin.ext (by show (8 + j.val) / 8 = 1; omega)
  have g2 : (⟨(8 + j.val) % 8, by omega⟩ : Fin 8) = j := Fin.ext (by show (8 + j.val) % 8 = j.val; omega)
  have g3 : 3 - (8 + j.val) / 8 = 2 := by omega
  unfold Φc ps
  rw [if_neg (by decide)]
  dsimp only
  rw [h1, h2, h3, g1, g2, g3]
  rfl

/-! ## The buffers, whole again -/

theorem comm_join (c : Dev nD) (X : ℕ) : (bigSep Finset.univ fun p : Fin 2 × Fin 4 => any' (F := F) c (sM X p.1 p.2)) ⊢ any' c (aC X) := by
  haveI : Nonempty (S1x1x512x256.Idx → Elt F .bf16) := ⟨fun _ => Classical.choice (neE _)⟩
  refine (bmono _ fun p _ => unsqueeze_any c X p.1 p.2).trans ?_
  refine BIBase.Entails.trans (show (bigSep Finset.univ fun p : Fin 2 × Fin 4 => any' (F := F) c (sM' X p.1 p.2))
    ⊢ iprop(∃ V : Fin 2 × Fin 4 → (S1x1x512x256.Idx → Elt F .bf16), bigSep Finset.univ fun p : Fin 2 × Fin 4 => own' c (sM' X p.1 p.2) fullShare (V p)) from
      BI.bigSep_exists_pi Finset.univ (fun (p : Fin 2 × Fin 4) (V : S1x1x512x256.Idx → Elt F .bf16) => own' c (sM' X p.1 p.2) fullShare V)) ?_
  refine BI.Laws.exists_elim fun V => ?_
  have h : (bigSep Finset.univ fun p : Fin 2 × Fin 4 => own' c ((aC X).slice (sR p.1 p.2) (fun _ => rfl)) fullShare
      (fun y => Rect.glue (fun p : Fin 2 × Fin 4 => sR p.1 p.2) sR_cov V ((sR p.1 p.2).emb y))) ⊢ own' c (aC X) fullShare (Rect.glue (fun p : Fin 2 × Fin 4 => sR p.1 p.2) sR_cov V) :=
    owns_of_rects (c : Thread nD τ) (aC X) fullShare (fun p : Fin 2 × Fin 4 => sR p.1 p.2) (fun _ _ => rfl) sR_disj sR_cov _
  refine BIBase.Entails.trans (Entails.of_eq (bigSep_congr fun p _ => ?_)) (h.trans (any_intro c (aC X) _))
  rw [show (fun y => Rect.glue (fun p : Fin 2 × Fin 4 => sR p.1 p.2) sR_cov V ((sR p.1 p.2).emb y)) = V p from
    funext fun y => Rect.glue_emb (fun p : Fin 2 × Fin 4 => sR p.1 p.2) sR_cov sR_disj V p y]

theorem comms_join (c : Dev nD) : (bigSep Finset.univ fun j : Fin 8 => iprop(slotAny (F := F) c 6 j ∗ slotAny c 5 j)) ⊢ iprop(any' (F := F) c (aC 0) ∗ any' c (aC 1)) := by
  have e1 : (bigSep Finset.univ fun j : Fin 8 => iprop(slotAny (F := F) c 6 j ∗ slotAny c 5 j))
      = bigSep Finset.univ fun X : Fin 2 => bigSep Finset.univ fun p : Fin 2 × Fin 4 => any' (F := F) c (sM X.val p.1 p.2) := by
    rw [← bigSep_univ_prod (fun q : Fin 2 × (Fin 2 × Fin 4) => any' (F := F) c (sM q.1.val q.2.1 q.2.2)), reix slIx slIx_bij, bigSep_univ_prod]
    refine bigSep_congr fun j _ => ?_
    rw [bigSep_fin_two]
    rfl
  rw [e1, bigSep_fin_two]
  exact BIClass.sep_mono (comm_join c 0) (comm_join c 1)

theorem out_join (I : In F) (c : Dev nD) : (bigSep Finset.univ fun t => Φo I c t (![2, 2, 2, 2, 2, 2, 2, 2, 2, 2, 2, 2, 2, 2, 2, 2] t)) ⊢ own' c aO fullShare (RV I) := by
  have h : (bigSep Finset.univ fun p : Fin 2 × Fin 8 => own' c (hM p.1 p.2) fullShare (fun y => RV I ((hR p.1 p.2).emb y))) ⊢ own' c aO fullShare (RV I) :=
    owns_of_rects (c : Thread nD τ) aO fullShare (fun p : Fin 2 × Fin 8 => hR p.1 p.2) (fun _ _ => rfl) hR_disj hR_cov (RV I)
  refine BIBase.Entails.trans (Entails.of_eq ?_) h
  rw [reix (tIx c) (tIx_bij c), show (![2, 2, 2, 2, 2, 2, 2, 2, 2, 2, 2, 2, 2, 2, 2, 2] : Fin 16 → ℕ) = fun _ => 2 from by decide +kernel]
  rfl

theorem quant_join (I : In F) (c : Dev nD) : (bigSep Finset.univ fun t => Φq I c t (![2, 2, 2, 2, 2, 2, 2, 2, 2, 2, 2, 2, 2, 2, 2, 2] t)) ⊢ iprop(any' (F := F) c (aQ 0) ∗ any' c (aQ 1)) := by
  have h (X : Fin 2) : (bigSep Finset.univ fun q : Fin 8 => own' c (qM X.val q) fullShare (fun y => QV I X.val ((qR q).emb y))) ⊢ own' c (aQ X.val) fullShare (QV I X.val) :=
    owns_of_rects (c : Thread nD τ) (aQ X.val) fullShare qR (fun _ _ => rfl) qR_disj qR_cov (QV I X.val)
  have e : (bigSep Finset.univ fun t : Fin 16 => own' c (qM (pX t).val (hp t c)) fullShare (qV I t c))
      = bigSep Finset.univ fun X : Fin 2 => bigSep Finset.univ fun q : Fin 8 => own' c (qM X.val q) fullShare (fun y => QV I X.val ((qR q).emb y)) := by
    rw [← bigSep_univ_prod (fun p : Fin 2 × Fin 8 => own' c (qM p.1.val p.2) fullShare (fun y => QV I p.1.val ((qR p.2).emb y))), reix (tIx c) (tIx_bij c)]
    rfl
  have e2 : (bigSep Finset.univ fun t => Φq I c t (![2, 2, 2, 2, 2, 2, 2, 2, 2, 2, 2, 2, 2, 2, 2, 2] t)) ⊢ bigSep Finset.univ fun t : Fin 16 => own' c (qM (pX t).val (hp t c)) fullShare (qV I t c) := by
    rw [show (![2, 2, 2, 2, 2, 2, 2, 2, 2, 2, 2, 2, 2, 2, 2, 2] : Fin 16 → ℕ) = fun _ => 2 from by decide +kernel]
    refine bmono _ fun t _ => ?_
    exact (owns_halves (c : Thread nD τ) (qM (pX t).val (hp t c)) fullShare (qV I t c)).2
  refine e2.trans ((Entails.of_eq e).trans ((bmono _ fun X _ => (h X).trans (any_intro c (aQ X.val) _)).trans ?_))
  rw [bigSep_fin_two]
  exact BIBase.Entails.rfl

/-- What a device ends with. -/
def Fin' (I : In F) (c : Dev nD) : sProp 𝕄 :=
  iprop(ow c 135 ∗ (own' c aX fullShare (I.x c) ∗ own' c aW fullShare (I.w c)) ∗ own' c aO fullShare (RV I)
    ∗ ((any' (F := F) c (aC 0) ∗ any' c (aC 1)) ∗ (any' (F := F) c (aQ 0) ∗ any' c (aQ 1)) ∗ any' (F := F) c aM)
    ∗ bigSep Finset.univ fun k : Kn => semVal (cell c k) 0)

theorem left_eq (I : In F) (c : Dev nD) : Left I c ⊢ iprop((own' c aX fullShare (I.x c) ∗ own' c aW fullShare (I.w c))
    ∗ (bigSep Finset.univ fun j : Fin 8 => iprop(slotAny (F := F) c 6 j ∗ slotAny c 5 j)) ∗ (bigSep Finset.univ fun j : Fin 8 => ps c 1 j 4 3) ∗ (bigSep Finset.univ fun j : Fin 8 => ps c 0 j 4 3)) := by
  unfold Left
  have hsep (a b x y : Fin 8 → sProp 𝕄) : (bigSep Finset.univ fun j => iprop(a j ∗ b j ∗ x j ∗ y j)) = iprop(bigSep Finset.univ a ∗ bigSep Finset.univ b ∗ bigSep Finset.univ x ∗ bigSep Finset.univ y) := by
    rw [bigSep_sep', bigSep_sep', bigSep_sep']
  rw [hsep (fun j => slotAny (F := F) c 5 j) (fun j => slotAny (F := F) c 6 j) (fun j => ps c 1 j 4 3) (fun j => ps c 0 j 4 3), bigSep_sep']
  iintro ⟨H, H5, H6, Hp, Hq⟩
  isplitl [H]
  · iexact H
  isplitl [H5 H6]
  · isplitl [H6]
    · iexact H6
    · iexact H5
  isplitl [Hp]
  · iexact Hp
  · iexact Hq

theorem finish (I : In F) (K : Dev nD × Kn → ℕ) (c : Dev nD) {R : sProp 𝕄} :
    AG I K c iprop(CW c ![1, 1, 1, 1, 1, 1, 1, 1, 1, 1, 1, 1, 1, 1, 1, 1] ∗ Left I c ∗ atPos ER (cell c kB) 1 ∅ 0 ∗ R) (MXend I c) 135 ![2, 2, 2, 2, 2, 2, 2, 2, 2, 2, 2, 2, 2, 2, 2, 2] ![2, 2, 2, 2, 2, 2, 2, 2, 2, 2, 2, 2, 2, 2, 2, 2] ![2, 2, 2, 2, 2, 2, 2, 2, 2, 2, 2, 2, 2, 2] ![1, 1, 1, 1, 1, 1, 1, 1, 1, 1, 1, 1, 1, 1]
      ⊢ |={Set.univ}=> iprop(Fin' I c ∗ R) := by
  have hE : (bigSep Finset.univ fun e => Φe (F := F) c e (![2, 2, 2, 2, 2, 2, 2, 2, 2, 2, 2, 2, 2, 2] e)) = bigSep Finset.univ fun e : Fin 14 => (atPos ER (cell c (kG 0 e)) 1 ∅ 0 : sProp 𝕄) := by
    rw [show (![2, 2, 2, 2, 2, 2, 2, 2, 2, 2, 2, 2, 2, 2] : Fin 14 → ℕ) = fun _ => 2 from by decide +kernel]; rfl
  have hR : (bigSep Finset.univ fun e => Φr (F := F) c e (![1, 1, 1, 1, 1, 1, 1, 1, 1, 1, 1, 1, 1, 1] e)) = bigSep Finset.univ fun e : Fin 14 => (atPos ER (cell c (kG 1 e)) 1 ∅ 0 : sProp 𝕄) := by
    rw [show (![1, 1, 1, 1, 1, 1, 1, 1, 1, 1, 1, 1, 1, 1] : Fin 14 → ℕ) = fun _ => 1 from by decide +kernel]; rfl
  have hsep (a b x : Fin 8 → sProp 𝕄) : iprop(bigSep Finset.univ a ∗ bigSep Finset.univ b ∗ bigSep Finset.univ x) = bigSep Finset.univ fun j => iprop(a j ∗ b j ∗ x j) := by
    rw [bigSep_sep', bigSep_sep']
  have hK := (Entails.of_eq (kn_split fun k => (atPos ER (cell c k) (er k) ∅ 0 : sProp 𝕄)).symm)
  unfold AG MXend
  rw [hE, hR, cw_pos]
  iintro ⟨⟨#Hrec, HO⟩, ⟨Hm, Hm0, Hm1⟩, Ho, Hq, Hg0, Hg1, Hp2, HL, HB, HR⟩
  ihave HL := (left_eq I c) $$ HL
  icases HL with ⟨Hxw, Hs, Hp1, Hp0⟩
  imod (close_all I K c) $$ [Hm0 Hm1 Hg0 Hg1 Hp0 Hp1 Hp2 HB] with Hz
  · isplitr
    · iexact Hrec
    · iapply hK
      isplitl [HB]
      · iexact HB
      isplitl [Hp0 Hp1 Hp2]
      · iapply (Entails.of_eq (hsep (fun j => ps (F := F) c 1 j 4 3) (fun j => ps c 0 j 4 3) (fun j => ps c 2 j 4 3)))
        isplitl [Hp1]
        · iexact Hp1
        isplitl [Hp0]
        · iexact Hp0
        · iexact Hp2
      isplitl [Hm0 Hm1]
      · isplitl [Hm0]
        · iexact Hm0
        · iexact Hm1
      · isplitl [Hg0]
        · iexact Hg0
        · iexact Hg1
  imodintro
  isplitr [HR]
  · unfold Fin'
    isplitl [HO]
    · iexact HO
    isplitl [Hxw]
    · iexact Hxw
    isplitl [Ho]
    · iapply (out_join I c); iexact Ho
    isplitl [Hs Hq Hm]
    · isplitl [Hs]
      · iapply (comms_join c); iexact Hs
      isplitl [Hq]
      · iapply (quant_join I c); iexact Hq
      · iapply (any_intro c aM _); iexact Hm
    · iexact Hz
  · iexact HR

set_option maxRecDepth 100000 in
/-- A device's program, whole. -/
theorem device (I : In F) (K : Dev nD × Kn → ℕ) (c : Dev nD) (f0 : Vec F S4096x2048 .bf16) {R : sProp 𝕄} {Q : PUnit → sProp 𝕄} (hQ : iprop(Fin' I c ∗ R) ⊢ Q ⟨⟩) :
    iprop(Init I K c f0 ∗ R) ⊢ WP c (cc0_body (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16) Q :=
  (body (Q := fun a => iprop(|={Set.univ}=> Q a)) ((finish I K c).trans (fupd_mono hQ))).trans (wp_fupd _ _ _ _ _)

end K
-- ==== Proof.K.Deal.lean ====
module

public import proofs.«01_k».proof.Proof.K.End

/-!
# Dealing the tokens and the credits
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The dues of a device, in families -/

/-- A family over the dues of a device, cut as the program pays them. -/
theorem ob_split (P : Ob → sProp 𝕄) : bigSep Finset.univ P
    = iprop((P (oB 0) ∗ P (oB 1)) ∗ (bigSep Finset.univ fun j : Fin 8 => bigSep Finset.univ fun h : Fin 7 => P (oR h j))
      ∗ (bigSep Finset.univ fun j : Fin 8 => bigSep Finset.univ fun h : Fin 7 => P (oC h j))
      ∗ (bigSep Finset.univ fun o : Fin 7 => P (oM o)) ∗ (bigSep Finset.univ fun e : Fin 14 => P (oG e))) := by
  rw [bigSep_univ_sum, bigSep_univ_sum, bigSep_univ_sum, bigSep_univ_sum, bigSep_fin_two, bigSep_univ_prod, bigSep_univ_prod,
    bigSep_swap (fun (h : Fin 7) (j : Fin 8) => P (.inr (.inl (h, j)))), bigSep_swap (fun (h : Fin 7) (j : Fin 8) => P (.inr (.inr (.inl (h, j)))))]
  rfl

/-- What a device pays itself when a copy of its own has been read: a hop of a lane, a row of maxima, a piece gathered. -/
abbrev Sk := (Fin 7 × Fin 8) ⊕ Fin 7 ⊕ Fin 14

def skK : Sk → Kn
  | .inl (h, j) => kR 0 (sl h) j
  | .inr (.inl o) => kM 0 o
  | .inr (.inr e) => kG 0 e
def skR : Sk → ℕ
  | .inl (h, _) => h.val / 2
  | _ => 0

theorem sk_split (P : Sk → sProp 𝕄) : bigSep Finset.univ P
    = iprop((bigSep Finset.univ fun j : Fin 8 => bigSep Finset.univ fun h : Fin 7 => P (.inl (h, j)))
      ∗ (bigSep Finset.univ fun o : Fin 7 => P (.inr (.inl o))) ∗ (bigSep Finset.univ fun e : Fin 14 => P (.inr (.inr e)))) := by
  rw [bigSep_univ_sum, bigSep_univ_sum, bigSep_univ_prod, bigSep_swap (fun (h : Fin 7) (j : Fin 8) => P (.inl (h, j)))]
  rfl

/-- Every duty of a device's cells: the cell, the round, the name. -/
def tkOf : Sk ⊕ Ob → Kn × ℕ × Bool
  | .inl x => (skK x, skR x, false)
  | .inr b => (obK b, obR b, obD b)

set_option synthInstance.maxSize 10000 in
set_option synthInstance.maxHeartbeats 400000 in
theorem sk_inj : ∀ p : Sk × Sk, (skK p.1, skR p.1) = (skK p.2, skR p.2) → p.1 = p.2 := by decide +kernel

/-- Whether a cell is one its own device pays on. -/
def ownK : Kn → Bool
  | .inl _ => false
  | .inr (.inl (w, _)) => w = 0
  | .inr (.inr (.inl (w, _))) => w = 0
  | .inr (.inr (.inr (w, _))) => w = 0

theorem sk_own : ∀ x : Sk, ownK (skK x) = true := by decide +kernel
theorem ob_own : ∀ b : Ob, ownK (obK b) = false := by decide +kernel

theorem tkOf_inj : Function.Injective tkOf := by
  rintro (x | b) (y | d) h
  · have h1 : skK x = skK y := congrArg Prod.fst h
    have h2 : skR x = skR y := congrArg (fun p => p.2.1) h
    exact congrArg Sum.inl (sk_inj (x, y) (Prod.ext h1 h2))
  · have h1 : skK x = obK d := congrArg Prod.fst h
    exact absurd ((sk_own x).symm.trans ((congrArg ownK h1).trans (ob_own d))) (by decide)
  · have h1 : obK b = skK y := congrArg Prod.fst h
    exact absurd ((sk_own y).symm.trans ((congrArg ownK h1.symm).trans (ob_own b))) (by decide)
  · exact congrArg Sum.inr (obKD_inj h)

/-- A device's duty, as the ghost state is minted. -/
def tok (p : Dev nD × (Sk ⊕ Ob)) : GSem nD τ sig × ℕ × Bool := (cell p.1 (tkOf p.2).1, (tkOf p.2).2.1, (tkOf p.2).2.2)

theorem tok_inj : Function.Injective tok := by
  rintro ⟨c, x⟩ ⟨d, y⟩ h
  have h1 : cell c (tkOf x).1 = cell d (tkOf y).1 := congrArg Prod.fst h
  have h2 : (tkOf x).2 = (tkOf y).2 := congrArg (fun p : GSem nD τ sig × ℕ × Bool => p.2) h
  have h3 : (c, (tkOf x).1) = (d, (tkOf y).1) := cell_inj (a₁ := (c, (tkOf x).1)) (a₂ := (d, (tkOf y).1)) h1
  have h4 : tkOf x = tkOf y := Prod.ext (congrArg Prod.snd h3) h2
  have h5 : c = d := congrArg Prod.fst h3
  rw [h5, tkOf_inj h4]

def allCells : Finset (GSem nD τ sig) := Finset.univ.map ⟨fun p : Dev nD × Kn => cell p.1 p.2, cell_inj⟩
def allToks : Finset (GSem nD τ sig × ℕ × Bool) := Finset.univ.map ⟨tok, tok_inj⟩

/-- The tokens of the duties on a device's own cells; -/
def toksAt (c : Dev nD) : sProp 𝕄 :=
  iprop((bigSep Finset.univ fun x : Sk => dutyTok ER (cell c (skK x)) (skR x) false)
    ∗ bigSep Finset.univ fun b : Ob => dutyTok ER (cell c (obK b)) (obR b) (obD b))
/-- those of the duties the device pays. -/
def toksOf (c : Dev nD) : sProp 𝕄 :=
  iprop((bigSep Finset.univ fun x : Sk => dutyTok ER (cell c (skK x)) (skR x) false)
    ∗ bigSep Finset.univ fun b : Ob => dutyTok ER (cell (obT c b) (obK b)) (obR b) (obD b))

theorem toks_around : (bigSep Finset.univ fun c : Dev nD => toksAt (F := F) c) ⊢ bigSep Finset.univ fun c : Dev nD => toksOf (F := F) c := by
  unfold toksAt toksOf
  rw [bigSep_sep', bigSep_sep', bigSep_swap (fun (c : Dev nD) (b : Ob) => (dutyTok ER (cell c (obK b)) (obR b) (obD b) : sProp 𝕄)),
    bigSep_swap (fun (c : Dev nD) (b : Ob) => (dutyTok ER (cell (obT c b) (obK b)) (obR b) (obD b) : sProp 𝕄))]
  refine sep_mono_right (Entails.of_eq (bigSep_congr fun b _ => ?_))
  exact bigSep_univ_equiv ⟨fun c => obT c b, fun c => obS c b, fun c => obS_obT c b, fun c => obT_obS c b⟩ (fun c : Dev nD => (dutyTok ER (cell c (obK b)) (obR b) (obD b) : sProp 𝕄))

/-- What is minted, by device. -/
def G0 (I : In F) (c : Dev nD) : sProp 𝕄 :=
  iprop((bigSep Finset.univ fun k : Kn => roundState ER (Rd I) (cell c k) 0)
    ∗ (bigSep Finset.univ fun k : Kn => atPos ER (cell c k) 0 ∅ 0) ∗ (bigSep Finset.univ fun k : Kn => reached ER (cell c k) 0) ∗ toksAt c)

theorem fund (I : In F) : BI.own (ER (F := F) (initOf allCells allToks)) ⊢ (|==> bigSep Finset.univ (G0 I) : sProp 𝕄) := by
  have hX (Φ : GSem nD τ sig → sProp 𝕄) : bigSep allCells Φ = bigSep Finset.univ fun c : Dev nD => bigSep Finset.univ fun k : Kn => Φ (cell c k) := by
    unfold allCells; rw [bigSep_map, bigSep_univ_prod]; rfl
  have hT : bigSep allToks (fun x => (dutyTok ER x.1 x.2.1 x.2.2 : sProp 𝕄)) = bigSep Finset.univ fun c : Dev nD => toksAt c := by
    unfold allToks; rw [bigSep_map, bigSep_univ_prod]
    exact bigSep_congr fun c _ => by unfold toksAt; rw [bigSep_univ_sum]; rfl
  have hG : bigSep Finset.univ (G0 I) = iprop((bigSep Finset.univ fun c : Dev nD => bigSep Finset.univ fun k : Kn => roundState ER (Rd I) (cell c k) 0)
      ∗ (bigSep Finset.univ fun c : Dev nD => bigSep Finset.univ fun k : Kn => atPos ER (cell c k) 0 ∅ 0)
      ∗ (bigSep Finset.univ fun c : Dev nD => bigSep Finset.univ fun k : Kn => reached ER (cell c k) 0) ∗ bigSep Finset.univ fun c : Dev nD => toksAt c) := by
    rw [← bigSep_sep', ← bigSep_sep', ← bigSep_sep']; rfl
  rw [hG]
  iintro HX
  imod (Rounds.fund ER (Rd I) allCells allToks) $$ HX with ⟨Hst, Hr, Hat, Htok⟩
  imodintro
  ihave Hst := (Entails.of_eq (hX fun g => roundState ER (Rd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  isplitl [Hst]
  · iexact Hst
  isplitl [Hat]
  · iexact Hat
  isplitl [Hr]
  · iexact Hr
  · iexact Htok

/-- What each device is dealt: the records of every cell, its positions, the tokens of what it pays. -/
def G1 (I : In F) (c : Dev nD) : sProp 𝕄 :=
  iprop(∃ K : Dev nD × Kn → ℕ, ((bigSep Finset.univ fun p : Dev nD × Kn => cellInv ER (Rd I) (K p) (cell p.1 p.2)) ∗ (bigSep Finset.univ fun p : Dev nD × Kn => reached ER (cell p.1 p.2) 0))
    ∗ (bigSep Finset.univ fun k : Kn => atPos ER (cell c k) 0 ∅ 0) ∗ toksOf c)

theorem alloc (I : In F) (c : Dev nD) : iprop((bigSep Finset.univ fun k : Kn => semVal (cell c k) 0) ∗ G0 I c)
    ⊢ |={Set.univ}=> iprop((bigSep Finset.univ fun k : Kn => iprop(∃ κ : ℕ, cellInv ER (Rd I) κ (cell c k)))
      ∗ (bigSep Finset.univ fun k : Kn => atPos ER (cell c k) 0 ∅ 0) ∗ (bigSep Finset.univ fun k : Kn => reached ER (cell c k) 0) ∗ toksAt (F := F) c) := by
  unfold G0
  iintro ⟨Hv, Hst, Hrest⟩
  imod (show iprop((bigSep Finset.univ fun k : Kn => semVal (cell c k) 0) ∗ bigSep Finset.univ fun k : Kn => roundState ER (Rd I) (cell c k) 0)
      ⊢ (|={Set.univ}=> bigSep Finset.univ fun k : Kn => iprop(∃ κ : ℕ, cellInv ER (Rd I) κ (cell c k)) : sProp 𝕄) from by
        rw [← bigSep_sep']
        exact (bigSep_mono fun k _ => (Rounds.body_intro ER (Rd I) (cell c k)).trans inv_alloc).trans (bigSep_fupd _ _)) $$ [Hv Hst] with Hinv
  · isplitl [Hv] <;> iassumption
  imodintro
  isplitl [Hinv]
  · iexact Hinv
  · iexact Hrest

theorem regroup (I : In F) : (bigSep Finset.univ fun c : Dev nD => iprop((bigSep Finset.univ fun k : Kn => iprop(∃ κ : ℕ, cellInv ER (Rd I) κ (cell c k)))
      ∗ (bigSep Finset.univ fun k : Kn => atPos ER (cell c k) 0 ∅ 0) ∗ (bigSep Finset.univ fun k : Kn => reached ER (cell c k) 0) ∗ toksAt (F := F) c))
    ⊢ bigSep Finset.univ (G1 I) := by
  classical
  rw [bigSep_sep', bigSep_sep', bigSep_sep', ← bigSep_univ_prod (fun p : Dev nD × Kn => iprop(∃ κ : ℕ, cellInv ER (Rd I) κ (cell p.1 p.2))),
    ← bigSep_univ_prod (fun p : Dev nD × Kn => (reached ER (cell p.1 p.2) 0 : sProp 𝕄))]
  iintro ⟨HI, Hat, #HR, Htok⟩
  ihave HK := (BI.bigSep_exists_pi Finset.univ (fun (p : Dev nD × Kn) (κ : ℕ) => (cellInv ER (Rd I) κ (cell p.1 p.2) : sProp 𝕄))) $$ HI
  icases HK with ⟨%K, #HI⟩
  ihave Htok := (toks_around (F := F)) $$ Htok
  have hd : iprop(((bigSep Finset.univ fun p : Dev nD × Kn => cellInv ER (Rd I) (K p) (cell p.1 p.2)) ∗ (bigSep Finset.univ fun p : Dev nD × Kn => reached ER (cell p.1 p.2) 0))
      ∗ (bigSep Finset.univ fun c : Dev nD => bigSep Finset.univ fun k : Kn => atPos ER (cell c k) 0 ∅ 0) ∗ bigSep Finset.univ fun c : Dev nD => toksOf c)
      ⊢ bigSep Finset.univ (G1 I) := by
    have hg (R : sProp 𝕄) (A B : Dev nD → sProp 𝕄) [BI.Persistent R] : iprop(R ∗ bigSep Finset.univ A ∗ bigSep Finset.univ B) ⊢ bigSep Finset.univ fun c => iprop(R ∗ A c ∗ B c) := by
      rw [bigSep_sep', bigSep_sep']
      exact sep_mono_left (BI.bigSep_of_persistent _ _)
    refine (hg _ _ _).trans (bigSep_mono fun c _ => ?_)
    unfold G1
    exact BI.Laws.exists_intro (Φ := fun K : Dev nD × Kn → ℕ => iprop(((bigSep Finset.univ fun p : Dev nD × Kn => cellInv ER (Rd I) (K p) (cell p.1 p.2)) ∗ (bigSep Finset.univ fun p : Dev nD × Kn => reached ER (cell p.1 p.2) 0))
      ∗ (bigSep Finset.univ fun k : Kn => atPos ER (cell c k) 0 ∅ 0) ∗ toksOf c)) K
  iapply hd
  isplitr
  · isplitr
    · iexact HI
    · iexact HR
  isplitl [Hat]
  · iexact Hat
  · iexact Htok

/-! ## The credits -/

theorem creds (c : Dev nD) : (Pipeline.launchCred (fun d => Orem d 0) c : sProp 𝕄) ⊢ bigSep Finset.univ fun b : Ob => cred (tallyAt (cell c (obK b)) (obR b) (obN b)) := by
  have h : (fun d : Dev nD => Orem d 0) = fun d => ∑ b ∈ (Finset.univ : Finset Ob), (fun (b : Ob) (d : Dev nD) => tal d b) b d := by
    funext d
    unfold Orem
    rw [Finset.filter_true_of_mem fun b _ => Nat.zero_le _]
  rw [h, Pipeline.launchCred_sum]
  exact bigSep_mono fun b _ => Pipeline.launchCred_tallyAt (semOf (obK b)) (fun d => obT d b) (fun d => obS d b) (fun d => obT_obS d b) (fun d => obS_obT d b) (obR b) (obN b) c

/-! ## What a device's program starts from -/

set_option maxHeartbeats 1000000 in
theorem init_intro (I : In F) (K : Dev nD × Kn → ℕ) (c : Dev nD) (f0 : Vec F S4096x2048 .bf16) :
    iprop((recs I K ∗ ow c 0) ∗ ((any' (F := F) c (aC 0) ∗ any' c (aC 1)) ∗ (any' (F := F) c (aQ 0) ∗ any' c (aQ 1)) ∗ any' (F := F) c aM)
      ∗ (own' c aX fullShare (I.x c) ∗ own' c aW fullShare (I.w c)) ∗ own' c aO fullShare f0
      ∗ ((bigSep Finset.univ fun k : Kn => atPos ER (cell c k) 0 ∅ 0) ∗ toksOf c)
      ∗ bigSep Finset.univ fun b : Ob => cred (tallyAt (cell c (obK b)) (obR b) (obN b))) ⊢ Init I K c f0 := by
  have h6 (a b d e f g : Fin 8 → sProp 𝕄) : iprop(bigSep Finset.univ a ∗ bigSep Finset.univ b ∗ bigSep Finset.univ d ∗ bigSep Finset.univ e ∗ bigSep Finset.univ f ∗ bigSep Finset.univ g)
      = bigSep Finset.univ fun j => iprop(a j ∗ b j ∗ d j ∗ e j ∗ f j ∗ g j) := by
    rw [bigSep_sep', bigSep_sep', bigSep_sep', bigSep_sep', bigSep_sep']
  have h3 {n : ℕ} (a b d : Fin n → sProp 𝕄) : iprop(bigSep Finset.univ a ∗ bigSep Finset.univ b ∗ bigSep Finset.univ d) = bigSep Finset.univ fun j => iprop(a j ∗ b j ∗ d j) := by
    rw [bigSep_sep', bigSep_sep']
  have h2 {n : ℕ} (a b : Fin n → sProp 𝕄) : iprop(bigSep Finset.univ a ∗ bigSep Finset.univ b) = bigSep Finset.univ fun j => iprop(a j ∗ b j) := by
    rw [bigSep_sep']
  have hb : iprop(cred (tallyAt (cell c kB) 0 1) ∗ cred (tallyAt (cell c kB) 0 1)) ⊢ (cred (tallyAt (cell c kB) 0 2) : sProp 𝕄) := by
    rw [show (tallyAt (cell c kB) 0 2 : CellTallies nD τ sig ℕ) = tallyAt (cell c kB) 0 1 + tallyAt (cell c kB) 0 1 from (tallyAt_add (cell c kB) (0 : ℕ) 1 1).symm]
    exact (cred_add _ _).2
  unfold toksOf
  rw [kn_split, sk_split, ob_split, ob_split]
  unfold Init Beside
  iintro ⟨HR, ⟨HC, HQ, HM⟩, Hxw, HO, ⟨⟨HaB, HaR, ⟨HaM0, HaM1⟩, HaG0, HaG1⟩, ⟨HsR, HsM, HsG⟩, HtB, HtR, HtC, HtM, HtG⟩, HcB, HcR, HcC, HcM, HcG⟩
  ihave HcB := (show iprop(cred (tallyAt (cell c (obK (oB 0))) (obR (oB 0)) (obN (oB 0))) ∗ cred (tallyAt (cell c (obK (oB 1))) (obR (oB 1)) (obN (oB 1)))) ⊢ (cred (tallyAt (cell c kB) 0 2) : sProp 𝕄) from hb) $$ HcB
  isplitl [HR]
  · iexact HR
  isplitl [HC]
  · iexact HC
  isplitl [HtB]
  · iexact HtB
  isplitl [HcB HaB]
  · isplitl [HcB]
    · iexact HcB
    · iexact HaB
  isplitl [Hxw]
  · iexact Hxw
  isplitl [HO]
  · iexact HO
  isplitl [HQ]
  · iexact HQ
  isplitl [HM]
  · iexact HM
  isplitl [HtR HsR HtC HcR HcC HaR]
  · iapply (show iprop((bigSep Finset.univ fun j : Fin 8 => bigSep Finset.univ fun h : Fin 7 => dutyTok ER (cell (tgt (lx j) c) (kR 1 (sl h.val) j)) (h.val / 2) false)
      ∗ (bigSep Finset.univ fun j : Fin 8 => bigSep Finset.univ fun h : Fin 7 => dutyTok ER (cell c (kR 0 (sl h.val) j)) (h.val / 2) false)
      ∗ (bigSep Finset.univ fun j : Fin 8 => bigSep Finset.univ fun h : Fin 7 => dutyTok ER (cell (up (lx j) c) (kR 2 (sl h.val) j)) (h.val / 2) false)
      ∗ (bigSep Finset.univ fun j : Fin 8 => bigSep Finset.univ fun h : Fin 7 => cred (tallyAt (cell c (kR 1 (sl h.val) j)) (h.val / 2) nR))
      ∗ (bigSep Finset.univ fun j : Fin 8 => bigSep Finset.univ fun h : Fin 7 => cred (tallyAt (cell c (kR 2 (sl h.val) j)) (h.val / 2) 1))
      ∗ (bigSep Finset.univ fun j : Fin 8 => iprop(ps c 1 j 0 0 ∗ ps c 0 j 0 0 ∗ ps c 2 j 0 0))) ⊢ bigSep Finset.univ fun j : Fin 8 => LR (F := F) c j from Entails.of_eq (h6 _ _ _ _ _ _))
    isplitl [HtR]
    · iexact HtR
    isplitl [HsR]
    · iexact HsR
    isplitl [HtC]
    · iexact HtC
    isplitl [HcR]
    · iexact HcR
    isplitl [HcC]
    · iexact HcC
    · iexact HaR
  unfold ExtT
  isplitl [HaM0 HsM HtM]
  · iapply (Entails.of_eq (h3 (fun o : Fin 7 => atPos ER (cell c (kM 0 o)) 0 ∅ 0) (fun o : Fin 7 => dutyTok ER (cell c (kM 0 o)) 0 false) (fun o : Fin 7 => dutyTok ER (cell (am o.val c) (kM 1 o)) 0 false)))
    isplitl [HaM0]
    · iexact HaM0
    isplitl [HsM]
    · iexact HsM
    · iexact HtM
  isplitl [HaM1 HcM]
  · iapply (show iprop((bigSep Finset.univ fun o : Fin 7 => atPos ER (cell c (kM 1 o)) 0 ∅ 0) ∗ (bigSep Finset.univ fun o : Fin 7 => cred (tallyAt (cell c (kM 1 o)) 0 nM))) ⊢ bigSep Finset.univ fun o : Fin 7 => Φn I c o 0 from Entails.of_eq (h2 _ _))
    isplitl [HaM1]
    · iexact HaM1
    · iexact HcM
  isplitl [HaG0 HsG HtG]
  · iapply (Entails.of_eq (h3 (fun e : Fin 14 => atPos ER (cell c (kG 0 e)) 0 ∅ 0) (fun e : Fin 14 => dutyTok ER (cell c (kG 0 e)) 0 false) (fun e : Fin 14 => dutyTok ER (cell (xr c (agW e)) (kG 1 e)) 0 false)))
    isplitl [HaG0]
    · iexact HaG0
    isplitl [HsG]
    · iexact HsG
    · iexact HtG
  · iapply (show iprop((bigSep Finset.univ fun e : Fin 14 => atPos ER (cell c (kG 1 e)) 0 ∅ 0) ∗ (bigSep Finset.univ fun e : Fin 14 => cred (tallyAt (cell c (kG 1 e)) 0 nG))) ⊢ bigSep Finset.univ fun e : Fin 14 => Φr (F := F) c e 0 from Entails.of_eq (h2 _ _))
    isplitl [HaG1]
    · iexact HaG1
    · iexact HcG

end K
-- ==== Proof.K.Launch.lean ====
module

public import proofs.«01_k».proof.Proof.K.Deal
public import proofs.«01_k».proof.Proof.Gen.KernelIdeal.Launch
public import proofs.«01_k».proof.Proof.Gen.KernelIdeal.Points
public import Idealize.ShloMosaic.Lib.Pipeline.CollectiveSegs

/-!
# The launch
-/

@[expose] public section

noncomputable section

namespace K

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at the start: any contents, every counter at zero. -/
def s₀ : MemSt nD τ sig (Elt F) := ⟨m, fun _ => 0, ρ⟩

/-- The arguments' blocks, as the windows fetch them. -/
def im : In F where
  x c := (win0_0.blk (0 : Fin 1)).view.read (Elt F) (m ((c : Thread nD τ).loc main_arg0))
  w c := (win0_1.blk (0 : Fin 1)).view.read (Elt F) (m ((c : Thread nD τ).loc main_arg1))

/-! ## The own semaphores -/

/-- The own cells' semaphores. -/
def osem : (Fin 3 × Fin 2 × Fin 8) ⊕ (Fin 2 × Fin 7) ⊕ (Fin 2 × Fin 14) → SemLoc sig := fun k => semOf (.inr k)

theorem osem_scoped : ∀ k, (osem k).isScoped .tc = true := by decide +kernel

theorem ownSemFacts : Pipeline.OwnSemFacts cfg0.spec osem where
  isScoped := osem_scoped
  inj := fun a b h => Sum.inr_injective (semOf_inj h)
  disj := by decide +kernel

theorem unscoped_eq : (Finset.univ : Finset (SemLoc sig)).filter (fun sm => ¬sm.isScoped .tc) = {semOf kB} := by decide +kernel

theorem sems_eq (c : Dev nD) : (bigSep Finset.univ fun k : Kn => semVal (cell c k) 0 : sProp 𝕄) = iprop(unscopedSems0 c ∗ Pipeline.ownSems0 osem c) := by
  unfold unscopedSems0
  rw [bigSep_univ_sum, bigSep_univ_of_subsingleton (), unscoped_eq, bigSep_singleton]
  rfl

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The buffers that no window stages. -/
def scr (c : Dev nD) : sProp 𝕄 :=
  iprop((any' (F := F) c (aC 0) ∗ any' c (aC 1)) ∗ (any' (F := F) c (aQ 0) ∗ any' c (aQ 1)) ∗ any' (F := F) c aM)

/-- What a device holds before its program, beside what it owes and the staging buffers; -/
def start (c : Dev nD) : sProp 𝕄 :=
  iprop(G1 (im m) c ∗ (bigSep Finset.univ fun b : Ob => cred (tallyAt (cell c (obK b)) (obR b) (obN b))) ∗ levAts Ls Lv)

/-- and after it. -/
def stop (c : Dev nD) : sProp 𝕄 := iprop(scr (F := F) c ∗ bigSep Finset.univ fun k : Kn => semVal (cell c k) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (im m).x c
    | ⟨1, _⟩ => (im m).w c
    | ⟨2, _⟩ => RV (im m)
  Φ t := match t with
    | ⟨0, _⟩ => iprop(start m c ∗ scr c)
    | ⟨_ + 1, _⟩ => stop c
  q _ := fullShare
  owed t := match t with
    | ⟨0, _⟩ => Orem c 0
    | ⟨_ + 1, _⟩ => 0

/-! ## The body -/

def bodyPre (c : Dev nD) : sProp 𝕄 :=
  iprop((start m c ∗ scr c) ∗ (dats m ρ 0 c).owesAt 0 t₀.castSucc
    ∗ (∃ d, own' c aX fullShare ((dats m ρ 0 c).before (0 : Fin 3) t₀ d))
    ∗ (∃ d, own' c aW fullShare ((dats m ρ 0 c).before (1 : Fin 3) t₀ d))
    ∗ (∃ d, own' c aO fullShare ((dats m ρ 0 c).before (2 : Fin 3) t₀ d)))

def bodyPost (c : Dev nD) : sProp 𝕄 :=
  iprop(stop c ∗ (dats m ρ 0 c).owesAt 0 t₀.succ ∗ own' c aX fullShare ((im m).x c) ∗ own' c aW fullShare ((im m).w c) ∗ own' c aO fullShare (RV (im m)))

theorem before_x (c : Dev nD) (d) : (dats m ρ 0 c).before (0 : Fin 3) t₀ d = (im m).x c := by
  unfold Dat.before; rw [if_pos (fetch0_0 t₀)]; rfl
theorem before_w (c : Dev nD) (d) : (dats m ρ 0 c).before (1 : Fin 3) t₀ d = (im m).w c := by
  unfold Dat.before; rw [if_pos (fetch0_1 t₀)]; rfl

theorem body_post (c : Dev nD) : iprop(Fin' (im m) c ∗ emp) ⊢ bodyPost m ρ c := by
  unfold Fin' bodyPost Dat.owesAt Pipeline.owesWithin ow
  rw [Orem_end, show (dats m ρ 0 c).owed t₀.succ = 0 from rfl]
  iintro ⟨⟨⟨%W, HO⟩, ⟨Hx, Hw⟩, Ho, Hs, Hz⟩, -⟩
  isplitl [Hs Hz]
  · unfold stop scr
    isplitl [Hs]
    · iexact Hs
    · iexact Hz
  isplitl [HO]
  · iexists W
    isplitr
    · ipureintro; exact fun _ _ => Or.inl trivial
    · iexact HO
  isplitl [Hx]
  · iexact Hx
  isplitl [Hw]
  · iexact Hw
  · iexact Ho

theorem body_start (c : Dev nD) : bodyPre m ρ c ⊢ iprop(∃ K f0, Init (im m) K c f0 ∗ emp) := by
  unfold bodyPre start G1 Dat.owesAt Pipeline.owesWithin
  rw [show (dats m ρ 0 c).owed t₀.castSucc = Orem c 0 from rfl]
  iintro ⟨⟨⟨⟨%K, ⟨#HI, #HR⟩, Ht⟩, Hc, #HL⟩, Hs⟩, ⟨%W, -, HO⟩, ⟨%d0, Hx⟩, ⟨%d1, Hw⟩, ⟨%d2, Ho⟩⟩
  rw [before_x, before_w]
  iexists K
  iexists ((dats m ρ 0 c).before (2 : Fin 3) t₀ d2)
  isplitl
  · iapply (init_intro (im m) K c)
    isplitl [HO]
    · isplitr
      · unfold recs
        isplitr
        · iexact HI
        isplitr
        · iexact HR
        · iexact HL
      · unfold ow
        iexists W
        iexact HO
    isplitl [Hs]
    · unfold scr
      iexact Hs
    isplitl [Hx Hw]
    · isplitl [Hx]
      · iexact Hx
      · iexact Hw
    isplitl [Ho]
    · iexact Ho
    isplitl [Ht]
    · iexact Ht
    · iexact Hc
  · iempintro

theorem body_run (c : Dev nD) : bodyPre m ρ c ⊢ WP c (cc0_body (F := F) aX (Memref.isWhole_whole _) aW (Memref.isWhole_whole _) aO (Memref.isWhole_whole _) (aC 0) (Memref.isWhole_whole _) (aC 1) (Memref.isWhole_whole _) (aQ 0) (Memref.isWhole_whole _) (aQ 1) (Memref.isWhole_whole _) aM (Memref.isWhole_whole _) cc0_scratch5 cc0_scratch6 cc0_scratch7 cc0_scratch8 cc0_scratch9 cc0_scratch10 cc0_scratch11 cc0_scratch12 cc0_scratch13 cc0_scratch14 cc0_scratch15 cc0_scratch16) (fun _ => bodyPost m ρ c) :=
  (body_start m ρ c).trans (BI.Laws.exists_elim fun K => BI.Laws.exists_elim fun f0 => device (im m) K c f0 (body_post m ρ c))

set_option maxRecDepth 100000 in
theorem body_obligation (c : Dev nD) : BodyObligation (dats (F := F) m ρ 0 c) (defs₀ (F := F)) Variants.none 0 Set.univ := fun t => by
  rw [fin_N t]
  rw [bigSep_W0, bigSep_W0]
  exact body_run m ρ c

/-! ## The launch -/

theorem share_eq (c : Dev nD) (w : Fin cfg0.W) : (dats m ρ 0 c).share w = fullShare := by unfold Dat.share; split <;> rfl

/-- The ghost state at the start. -/
def u₀ : UU := (initOf (Pipeline.cells cfgs cellOf_inj) (Pipeline.launchToks cfgs cellOf_inj), initOf allCells allToks)

theorem glob : (bigSep Finset.univ fun c => iprop(Pipeline.ownSems0 (Ix := ℕ) (Name := ℕ) (U := UU) (Lvl := ℕ) (Val := Elt F) (τ := τ) osem c ∗ unscopedSems0 c ∗ G0 (im m) c) : sProp 𝕄)
    ⊢ |={Set.univ}=> bigSep Finset.univ (G1 (im m)) := by
  refine ((bmono _ fun c _ => ?_).trans (bigSep_fupd _ _)).trans (BI.fupd_mono (regroup (im m)))
  have h := alloc (im m) c
  rw [sems_eq] at h
  refine BIBase.Entails.trans ?_ h
  iintro ⟨H1, H2, H3⟩
  isplitr [H3]
  · isplitl [H2]
    · iexact H2
    · iexact H1
  · iexact H3

theorem start_intro (c : Dev nD) :
    iprop(Pipeline.unscopedRestP Pipeline.Prefetch.none cfg0.spec c (fun b => m ((c : Thread nD τ).loc b)) ∗ levAts Ls Lv
        ∗ Pipeline.launchCred (fun d => Orem d 0) c ∗ prngReg c (ρ c) ∗ G1 (im m) c)
      ⊢ |={Set.univ}=> iprop(start m c ∗ emp) := by
  iintro ⟨-, Hlev, Hcr, -, HG⟩
  ihave Hc := (creds (F := F) c) $$ Hcr
  imodintro
  unfold start
  isplitl
  · isplitl [HG]
    · iexact HG
    isplitl [Hc]
    · iexact Hc
    · iexact Hlev
  · iempintro

theorem any_whole (c : Dev nD) (b : Ref sig .tc) :
    iprop(∃ f : Buf (Elt F) ((c : Thread nD τ).loc b), ((c : Thread nD τ).loc b) ↦{fullShare} f) ⊢ any' (F := F) c (Memref.whole b) :=
  BI.Laws.exists_elim fun f => (Entails.of_eq (owns_whole (c : Thread nD τ) b fullShare f).symm).trans (any_intro c (Memref.whole b) f)

theorem whole_any (c : Dev nD) (b : Ref sig .tc) :
    any' (F := F) c (Memref.whole b) ⊢ iprop(∃ f : Buf (Elt F) ((c : Thread nD τ).loc b), ((c : Thread nD τ).loc b) ↦{fullShare} f) :=
  BI.Laws.exists_elim fun f => (Entails.of_eq (owns_whole (c : Thread nD τ) b fullShare f)).trans (BI.Laws.exists_intro f)

theorem scr_eq (c : Dev nD) : (Pipeline.scopedRest cfg0.spec c : sProp 𝕄) ⊢ scr (F := F) c := by
  refine (Entails.of_eq (scopedRest0_eq c)).trans ?_
  unfold scr
  iintro ⟨H0, H1, H2, H3, H4⟩
  ihave H0 := (any_whole (F := F) c cc0_scratch0) $$ H0
  ihave H1 := (any_whole (F := F) c cc0_scratch1) $$ H1
  ihave H2 := (any_whole (F := F) c cc0_scratch2) $$ H2
  ihave H3 := (any_whole (F := F) c cc0_scratch3) $$ H3
  ihave H4 := (any_whole (F := F) c cc0_scratch4) $$ H4
  isplitl [H0 H1]
  · isplitl [H0]
    · iexact H0
    · iexact H1
  isplitl [H2 H3]
  · isplitl [H2]
    · iexact H2
    · iexact H3
  · iexact H4

theorem eq_scr (c : Dev nD) : scr (F := F) c ⊢ (Pipeline.scopedRest cfg0.spec c : sProp 𝕄) := by
  refine BIBase.Entails.trans ?_ (Entails.of_eq (scopedRest0_eq c).symm)
  unfold scr
  iintro ⟨⟨H0, H1⟩, ⟨H2, H3⟩, H4⟩
  isplitl [H0]
  · iapply (whole_any (F := F) c cc0_scratch0); iexact H0
  isplitl [H1]
  · iapply (whole_any (F := F) c cc0_scratch1); iexact H1
  isplitl [H2]
  · iapply (whole_any (F := F) c cc0_scratch2); iexact H2
  isplitl [H3]
  · iapply (whole_any (F := F) c cc0_scratch3); iexact H3
  · iapply (whole_any (F := F) c cc0_scratch4); iexact H4

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr c) from rfl]
  iintro ⟨Hs, -, Hr⟩
  isplitl [Hs]
  · iexact Hs
  · iapply (scr_eq (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scr (F := F) c ∗ bigSep Finset.univ fun k : Kn => semVal (cell c k) 0) from rfl, sems_eq]
  iintro ⟨Hs, Hu, Ho⟩
  isplitl [Hu]
  · iexact Hu
  isplitl [Ho]
  · iexact Ho
  · iapply (eq_scr (F := F) c); iexact Hs

theorem stage_else : ∀ (w : Fin cfg0.W) (s : Fin (cfg0.spec w).nbuf) (k : Kn), semOf k ≠ .dma ((cfg0.spec w).sem s) := by decide +kernel

theorem waits (c : Dev nD) : (levAts Ls Lv : sProp 𝕄) ⊢ Pipeline.cellsWaits cfgs (dats m ρ) 0 0 c :=
  Pipeline.cellsWaits_intro cfgs (dats m ρ) 0 0 c fun w s t => by
    rcases t with ⟨_ | _, ht⟩
    · exact mayWait_else c _ (fun k => stage_else w s k) 0 (by decide) 0
    · exact (mayWait_else c _ (fun k => stage_else w s k) 0 (by decide) 135).trans (Entails.of_eq (by rw [Orem_end]; rfl))

/-- An array at the end. -/
def finalA (c : Dev nD) (w : Fin cfg0.W) : Buf (Elt F) ((cfg0.win w).arr.view.loc (c : Thread nD τ)) := (dats m ρ 0 c).arrAt w cfg0.N

set_option maxRecDepth 100000 in
/-- From any memory with its counters at zero every device's program ends, with every array at `finalA` and every counter
    at zero. -/
theorem main_ends : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ Variants.none m ρ main
    (hmain := fun _ => rfl)
    (hbody := body_obligation m ρ) (hne := block_pos0) (harr := arr_whole0) (hstage := stage_whole0) (hshare := share_eq m ρ)
    (hdistinct := winFacts0.arr_inj)
    (O₀ := fun d => Orem d 0) (howed₀ := fun _ => rfl) (howedN := fun _ => rfl)
    (L := Ls) (lv := Lv) (hL := Ls_ne) (hwaits := waits m ρ)
    (G := G0 (im m)) (G' := G1 (im m)) (u₀ := u₀)
    (hu₀ := by
      unfold u₀
      iintro Hu
      ihave H := (ownU_pair _ _) $$ Hu
      icases H with ⟨HP, HX⟩
      imod (fund (im m)) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end K
-- ==== Proof.K.Frames.lean ====
module

public import proofs.«01_k».proof.Defs
public import proofs.«01_k».proof.Proof.K.Launch
public import proofs.«01_k».proof.Proof.Gen.Kernel
public import proofs.«01_k».proof.Proof.Gen.ReferenceIdeal.Run
public import Idealize.ShloMosaic.Lib.Quiescent

/-! # The three programs leave their arguments as they were and every counter at zero -/

@[expose] public section

noncomputable section

namespace K

open Idealize.ShloMosaic Idealize.ShloMosaic.TcCoe Idealize.SL.Sem

theorem ends {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_x m ρ c), (h.1 c (1 : Fin 3)).trans (finalA_w m ρ c)⟩, h.2⟩) (main_ends m ρ)

theorem frame_ideal : Cert.quiescent_KernelIdeal := fun m ρ _ => ends m ρ

/-! The kernel read on float words and the kernel read on extended reals have one text. -/

set_option maxRecDepth 100000 in
theorem defs0_same : Cert.Kernel.defs₀ (F := Bits) = Cert.KernelIdeal.defs₀ (F := Bits) := by
  refine congrArg Defs.onTc ?_
  funext l a
  obtain ⟨l, hl⟩ := l
  match l, hl, a with
  | 0, _, (t, s) => rfl
  | n + 1, h, _ => exact absurd h (Nat.not_lt.2 (Nat.le_add_left _ _))

set_option maxRecDepth 100000 in
theorem defs_same : Cert.Kernel.defs (F := Bits)  = Cert.KernelIdeal.defs (F := Bits)  := by
  unfold Cert.Kernel.defs
  rw [defs0_same]
  rfl

set_option maxRecDepth 100000 in
theorem frame_bits : Cert.quiescent_Kernel := fun m ρ _ => by
  rw [defs_same]
  exact ends (F := Bits) m ρ

theorem frame_ref : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end K
-- ==== Proof.K.Scalar.lean ====
module

public import Idealize.ShloMosaic.PureOps.Ideal.Laws
public import Idealize.ShloMosaic.Lib.IdealHost

/-!
# One element of the quantiser

The kernel multiplies by `127 / M`, rounds, clips, and goes through an 8-bit integer; the reference divides by `M / 127`,
rounds and clips. Both then multiply by the scale `M / 127`. For `|y| ≤ M` the two agree on all extended reals.
-/

@[expose] public section

noncomputable section

namespace K

open Idealize.ShloMosaic

/-- Rounding to the nearest integer, ties to even. -/
abbrev rnd (z : EReal) : EReal := Ideal.liftRound Ideal.roundHalfEven z
/-- The clipped rounding. -/
abbrev clip (z : EReal) : EReal := min 127 (max (-127) (rnd z))

theorem e127 : (127 : EReal) = ((127 : ℝ) : EReal) := by norm_cast
theorem en127 : (-127 : EReal) = ((-127 : ℝ) : EReal) := by rw [EReal.coe_neg, ← e127]

theorem bits_127 : Ideal.ofBits .f32 0x42FE0000#32 = 127 := by
  rw [e127]
  simp [Ideal.ofBits, Ideal.ieee, -EReal.coe_mul]; norm_num
theorem bits_n127 : Ideal.ofBits .f32 0xC2FE0000#32 = -127 := by
  rw [en127]
  simp [Ideal.ofBits, Ideal.ieee, -EReal.coe_mul, -EReal.coe_neg]; norm_num
theorem bits_bot : Ideal.ofBits .f32 0xFF800000#32 = ⊥ := by simp [Ideal.ofBits, Ideal.ieee]

/-- A clipped rounding is an integer between −127 and 127. -/
theorem clip_int (z : EReal) : ∃ n : ℤ, -127 ≤ n ∧ n ≤ 127 ∧ clip z = ((n : ℝ) : EReal) := by
  have key (n : ℤ) : min (127 : EReal) (max (-127) ((n : ℝ) : EReal)) = ((min 127 (max (-127) n) : ℤ) : ℝ) := by
    rw [en127, e127, ← EReal.coe_strictMono.monotone.map_max, ← EReal.coe_strictMono.monotone.map_min]
    push_cast; rfl
  induction z using EReal.rec with
  | bot =>
    refine ⟨-127, le_rfl, by norm_num, ?_⟩
    show min (127 : EReal) (max (-127) ⊥) = _
    rw [max_bot_right, en127, e127, ← EReal.coe_strictMono.monotone.map_min]; norm_num
  | top =>
    refine ⟨127, by norm_num, le_rfl, ?_⟩
    show min (127 : EReal) (max (-127) ⊤) = _
    rw [max_top_right, min_top_right, e127]; norm_num
  | coe r =>
    refine ⟨min 127 (max (-127) (Ideal.roundHalfEven r)), by omega, by omega, ?_⟩
    exact key _

/-- An 8-bit integer holds it. -/
theorem int_back (z : EReal) : (((Ideal.fptosi 8 (clip z)).toInt : ℝ) : EReal) = clip z := by
  obtain ⟨n, h1, h2, h⟩ := clip_int z
  rw [h]
  have hf : Ideal.fptosi 8 ((n : ℝ) : EReal) = BitVec.ofInt 8 n := by
    unfold Ideal.fptosi
    congr 1
    show max _ (min _ (if (0 : ℝ) ≤ (n : ℝ) then ⌊(n : ℝ)⌋ else ⌈(n : ℝ)⌉)) = n
    rw [Int.floor_intCast, Int.ceil_intCast, ite_self]
    norm_num
    omega
  rw [hf, BitVec.toInt_ofInt, Int.bmod_eq_of_le (by norm_num; omega) (by norm_num; omega)]

/-- The two quantisers agree. -/
theorem scal (M y : EReal) (h : max y (-y) ≤ M) :
    (((Ideal.fptosi 8 (clip (y * Ideal.div 127 M))).toInt : ℝ) : EReal) * Ideal.div M 127 = clip (Ideal.div y (Ideal.div M 127)) * Ideal.div M 127 := by
  rw [int_back]
  have h127 : (127 : EReal) ≠ 0 := by rw [e127]; norm_cast
  have hy := le_trans (le_max_left y (-y)) h
  have hy' := le_trans (le_max_right y (-y)) h
  induction M using EReal.rec with
  | bot =>
    rw [le_bot_iff] at hy hy'
    rw [hy] at hy'; simp at hy'
  | top =>
    have hd : Ideal.div ⊤ 127 = ⊤ := by
      unfold Ideal.div; rw [if_neg h127, e127, ← EReal.coe_inv]
      exact EReal.top_mul_coe_of_pos (by norm_num)
    have hi : Ideal.div 127 ⊤ = 0 := by
      unfold Ideal.div; rw [if_neg (by simp), EReal.inv_top, mul_zero]
    rw [hd, hi, mul_zero]
    congr 2
    unfold Ideal.div
    rw [if_neg (by simp), EReal.inv_top, mul_zero]
  | coe r =>
    have hyt : y ≠ ⊤ := fun e => by rw [e] at hy; exact absurd hy (not_le.mpr (EReal.coe_lt_top r))
    have hyb : y ≠ ⊥ := fun e => by rw [e, EReal.neg_bot] at hy'; exact absurd hy' (not_le.mpr (EReal.coe_lt_top r))
    lift y to ℝ using ⟨hyt, hyb⟩
    rw [← EReal.coe_neg] at hy'
    rw [EReal.coe_le_coe_iff] at hy hy'
    have hs : Ideal.div (r : EReal) 127 = ((r * 127⁻¹ : ℝ) : EReal) := by
      unfold Ideal.div; rw [if_neg h127, e127, ← EReal.coe_inv, ← EReal.coe_mul]
    rw [hs]
    by_cases h0 : r = 0
    · rw [h0, zero_mul, EReal.coe_zero, mul_zero, mul_zero]
    · have hi : Ideal.div 127 (r : EReal) = ((127 * r⁻¹ : ℝ) : EReal) := by
        unfold Ideal.div; rw [if_neg (by exact_mod_cast h0), e127, ← EReal.coe_inv, ← EReal.coe_mul]
      have hq : Ideal.div (y : EReal) ((r * 127⁻¹ : ℝ) : EReal) = ((y * (r * 127⁻¹)⁻¹ : ℝ) : EReal) := by
        unfold Ideal.div
        rw [if_neg (by exact_mod_cast mul_ne_zero h0 (by norm_num)), ← EReal.coe_inv, ← EReal.coe_mul]
      rw [hi, hq, ← EReal.coe_mul, mul_inv, inv_inv, mul_comm (127 : ℝ)]

end K
-- ==== Proof.K.Product.lean ====
module

public import proofs.«01_k».proof.Proof.K.Geo
public import proofs.«01_k».proof.Proof.Gen.ReferenceIdeal
public import Idealize.ShloMosaic.Lib.MatmulPlain
public import Idealize.ShloMosaic.Lib.StackMember
public import Idealize.ShloMosaic.Lib.Layout

/-!
# The sum over the devices is the whole product

The whole left operand is cut in eight blocks of columns and the whole right operand in eight blocks of rows, so the
eight local products add up to the product of the whole arrays, whichever way round the ring they are added.
-/

@[expose] public section

noncomputable section

namespace K

open Cert.KernelIdeal Cert.KernelIdeal.Gen
open Idealize.ShloMosaic Idealize.ShloMosaic.TcCoe
open Idealize.ShloMosaic.ValueIdx
open scoped BigOperators

theorem dot_local : dot_S512x512_S512x2048_S512x2048_1_0_0_1_n_n = DotDims.plain 512 512 2048 := rfl
theorem dot_whole : Cert.ReferenceIdeal.dot_S4096x4096_S4096x2048_S4096x2048_1_0_0_1_n_n = DotDims.plain 4096 4096 2048 := rfl

/-- A local product, at an index. -/
theorem G_at (I : In Ideal) (c : Dev nD) (x : S4096x2048.Idx) :
    G I c x = ∑ k : Fin 512, I.x c (ix2 (x 0) k) * I.w c (ix2 k (x 1)) := by
  have hx : x ∈ (oR' (rowOf x)).set := by
    have h1 := lt1 x
    rw [oR_mem]; simp only [rowOf]; omega
  rw [← Rect.map_emb_univ, Finset.mem_map] at hx
  obtain ⟨i, y, rfl⟩ : ∃ i y, x = (oR' i).emb y := let ⟨y, _, hy⟩ := hx; ⟨rowOf x, y, hy.symm⟩
  rw [show G I c ((oR' i).emb y) = _ from congrFun (G_row I c i) y]
  obtain ⟨a, b, rfl⟩ : ∃ (a : Fin 512) (b : Fin 2048), y = ix2 a b := ⟨_, _, eq_ix2 y⟩
  show FloatOps.matmul (F := Ideal) dot_S512x512_S512x2048_S512x2048_1_0_0_1_n_n none _ _ _ (ix2 a b) = _
  rw [dot_local, Ideal.matmul_plain_apply]
  rw [show constant (F := Ideal) S512x2048 .f32 0x00000000#32 (ix2 a b) = 0 from Ideal.ofBits_zero_f32, zero_add]
  refine Finset.sum_congr rfl fun k _ => ?_
  rw [shapeCast_self, shapeCast_self]
  congr 1
  · congr 1
    funext d; refine Fin.ext ?_
    match d with
    | ⟨0, _⟩ => rfl
    | ⟨1, _⟩ => show 0 + 1 * k.val = k.val; omega
  · congr 1
    funext d; refine Fin.ext ?_
    match d with
    | ⟨0, _⟩ => show 0 + 1 * k.val = k.val; omega
    | ⟨1, _⟩ => rfl

/-- Eight steps round the ring reach every device once. -/
theorem ring_bij (X : Fin 2) (c : Dev nD) : Function.Bijective (fun j : Fin 8 => (up X.val)^[j.val] c) := by
  revert X c; decide +kernel

theorem T_at (I : In Ideal) (x : S4096x2048.Idx) : T I x = ∑ d : Dev nD, G I d x := by
  rw [← (ring_bij (colOf x) (up (colOf x).val (rowOf x))).sum_comp fun d => G I d x]
  rw [Fin.sum_univ_eight]
  show FloatOps.addf (F := Ideal) (φ := .bf16) _ _ = _
  simp only [A, Ideal.addf_def]
  simp only [add_assoc]
  rfl

/-- The product of the whole arrays. -/
abbrev Y (x : FVec Ideal ⟨2, ![4096, 4096]⟩ .f32) (w : FVec Ideal ⟨2, ![4096, 2048]⟩ .f32) : FVec Ideal S4096x2048 .f32 :=
  Host.dotGeneral Cert.ReferenceIdeal.dot_S4096x4096_S4096x2048_S4096x2048_1_0_0_1_n_n none x w

theorem T_whole (I : In Ideal) (x : FVec Ideal ⟨2, ![4096, 4096]⟩ .f32) (w : FVec Ideal ⟨2, ![4096, 2048]⟩ .f32)
    (hx : ∀ c : Dev nD, I.x c = Layout.block ⟨2, ![4096, 512]⟩ ⟨2, ![4096, 4096]⟩ 1 8 c x)
    (hw : ∀ c : Dev nD, I.w c = Layout.block ⟨2, ![512, 2048]⟩ ⟨2, ![4096, 2048]⟩ 0 8 c w) (z : S4096x2048.Idx) :
    T I z = Y x w z := by
  obtain ⟨a, b, rfl⟩ : ∃ (a : Fin 4096) (b : Fin 2048), z = ix2 a b := ⟨_, _, eq_ix2 z⟩
  rw [T_at]
  unfold Y
  rw [dot_whole, StackMember.dotGeneral_plain_apply]
  rw [← Equiv.sum_comp (finProdFinEquiv (m := 8) (n := 512)) (fun k : Fin 4096 => x (ix2 a k) * w (ix2 k b)), Fintype.sum_prod_type]
  refine Finset.sum_congr rfl fun c _ => ?_
  rw [G_at, hx c, hw c]
  refine Finset.sum_congr rfl fun k _ => ?_
  rw [Layout.block_apply, Layout.block_apply]
  congr 1
  · congr 1
    funext d; refine Fin.ext ?_
    match d with
    | ⟨0, _⟩ => rfl
    | ⟨1, _⟩ => show c.val * 512 + k.val = k.val + 512 * c.val; omega
  · congr 1
    funext d; refine Fin.ext ?_
    match d with
    | ⟨0, _⟩ => show c.val * 512 + k.val = k.val + 512 * c.val; omega
    | ⟨1, _⟩ => rfl

end K
-- ==== Proof.K.Value.lean ====
module

public import proofs.«01_k».proof.Proof.K.Scalar
public import proofs.«01_k».proof.Proof.K.Product

/-!
# What the kernel leaves is the reference's term

The greatest absolute value of the eight rows of local maxima is the greatest absolute value of the whole sum, since every
half row chunk is the own half of one device.
-/

@[expose] public section

noncomputable section

namespace K

open Cert.KernelIdeal Cert.KernelIdeal.Gen
open Idealize.ShloMosaic Idealize.ShloMosaic.TcCoe
open Idealize.ShloMosaic.ValueIdx

/-! ## Maxima, by their upper bounds -/

theorem mred_le {s t : Shape} {axes : List (Fin s.rank)} (src : FVec Ideal s .f32) (h : s.Reduces axes t) (ht : ∀ a, t.size a = 1)
    (hφ : FKind.Formats .f32) (hacc : (0xFF800000#32 : BitVec 32) = FKind.maximumf.neutral .f32 hφ) (j : t.Idx) (b : EReal) :
    multiReduction .maximumf axes t src 0xFF800000#32 h hφ hacc j ≤ b ↔ ∀ i, src i ≤ b := by
  rw [multiReduction_maximumf_eq_fold, Finset.filter_true_of_mem (fun i _ => funext fun a => Fin.ext (by
    have := (h.drop i a).isLt; have := (j a).isLt; have := ht a; omega))]
  show Finset.fold max (Ideal.ofBits .f32 0xFF800000#32) src Finset.univ ≤ b ↔ _
  rw [Finset.fold_max_le, bits_bot]
  simp

theorem hred_le {s : Shape} {axes : List (Fin s.rank)} (src : FVec Ideal s .f32) (h : s.ReducesTo axes Cert.ReferenceIdeal.S_)
    (hu : 0 < Cert.ReferenceIdeal.S_.numel) (j : Cert.ReferenceIdeal.S_.Idx) (b : EReal) :
    Host.reduce FloatOps.maximumf src (constant Cert.ReferenceIdeal.S_ .f32 0xFF800000#32) h hu j ≤ b ↔ ∀ i, src i ≤ b := by
  rw [Host.reduce_eq_fold, Finset.filter_true_of_mem (fun i _ => funext fun a => Fin.elim0 a)]
  show Finset.fold max (Ideal.ofBits .f32 0xFF800000#32) src Finset.univ ≤ b ↔ _
  rw [Finset.fold_max_le, bits_bot]
  simp

theorem cast_le {s t : Shape} (x : s.Idx → EReal) (h : s.ShapeCasts t) (b : EReal) :
    (∀ j, shapeCast t x h j ≤ b) ↔ ∀ i, x i ≤ b :=
  (Shape.reshapeEquiv h).forall_congr_right (q := fun i => x i ≤ b)

/-- An absolute value. -/
abbrev ab (z : EReal) : EReal := max z (-z)

theorem half_le (v : Vec Ideal S512x1024 .bf16) (j : S1.Idx) (b : EReal) : k0_pay68 v j ≤ b ↔ ∀ y, ab (v y) ≤ b := by
  unfold k0_pay68
  refine (mred_le _ reduces_S1x512x1024_S1 (by decide) (.inl rfl) rfl j b).trans ?_
  rw [cast_le, shapeCast_self]
  rfl

/-- The one index of a vector of one entry. -/
def j0 : S1.Idx := Shape.reshapeEquiv shapeCasts_S1_S1x1x1 (fun a => ⟨(![0, 0, 0] : Fin 3 → ℕ) a, inpos_S1x1x1_p0_0_0 a⟩)

theorem pick (a : FVec Ideal S1 .f32) : extractAt ![0, 0, 0] (shapeCast S1x1x1 a shapeCasts_S1_S1x1x1) inpos_S1x1x1_p0_0_0 = a j0 := rfl

theorem pair (a : FVec Ideal S1 .f32) (v : Vec Ideal S512x1024 .bf16) : k0_pay69 a v = shapeCast S1x128 (broadcast S1x128 (Scalar.maximumf
    (extractAt ![0, 0, 0] (shapeCast S1x1x1 a shapeCasts_S1_S1x1x1) inpos_S1x1x1_p0_0_0)
    (extractAt ![0, 0, 0] (shapeCast S1x1x1 (k0_pay68 v) shapeCasts_S1_S1x1x1) inpos_S1x1x1_p0_0_0))) shapeCasts_S1x128_S1x128 := rfl

theorem pair_at (a : FVec Ideal S1 .f32) (v : Vec Ideal S512x1024 .bf16) (y : S1x128.Idx) (b : EReal) :
    k0_pay69 a v y ≤ b ↔ a j0 ≤ b ∧ k0_pay68 v j0 ≤ b := by
  rw [pair, shapeCast_self, pick, pick]
  generalize k0_pay68 v = a'
  exact max_le_iff (α := EReal)

theorem am1_le (I : In Ideal) (c : Dev nD) (y : S1x128.Idx) (b : EReal) :
    am1 I c y ≤ b ↔ ∀ X : Fin 2, ∀ y, ab (T I ((hR X (hc X 0 c)).emb y)) ≤ b := by
  unfold am1
  rw [pair_at, half_le, half_le, Fin.forall_fin_two]
  exact Iff.rfl

theorem up_inv (X : Fin 2) (i : Dev nD) : hc X 0 (up X.val i) = i := by revert X i; decide +kernel

/-- The greatest absolute value, as the kernel takes it. -/
def mx (I : In Ideal) : EReal := k0_pay71 (k0_pay70 (AM I))

theorem mx_le (I : In Ideal) (b : EReal) : mx I ≤ b ↔ ∀ z, ab (T I z) ≤ b := by
  unfold mx k0_pay71 k0_pay70
  dsimp only
  refine (iff_of_eq (congrArg (· ≤ b) (pick _))).trans ?_
  refine (mred_le _ reduces_S1x8x128_S1 (by decide) (.inl rfl) rfl _ b).trans ?_
  rw [cast_le]
  constructor
  · intro h z
    have hz : z ∈ (hR (colOf z) (rowOf z)).set := by
      have h1 := lt1 z
      rw [hR_mem]; simp only [rowOf, colOf]; omega
    rw [← Rect.map_emb_univ, Finset.mem_map] at hz
    obtain ⟨y, -, hy⟩ := hz
    have hr := h ((mR (up (colOf z).val (rowOf z))).emb (ix2 0 0))
    rw [show AM I ((mR (up (colOf z).val (rowOf z))).emb (ix2 0 0)) = _ from congrFun (AM_row I _) (ix2 0 0), am1_le] at hr
    have := hr (colOf z)
    rw [up_inv] at this
    rw [← hy]; exact this y
  · intro h z
    obtain ⟨i, -, hz⟩ := Finset.mem_biUnion.mp (show z ∈ (Finset.univ : Finset (Fin 8)).biUnion (fun p => (mR p).set) by rw [mR_cov]; exact Finset.mem_univ z)
    rw [← Rect.map_emb_univ, Finset.mem_map] at hz
    obtain ⟨y, -, rfl⟩ := hz
    rw [show AM I ((mR i).emb y) = _ from congrFun (AM_row I i) y, am1_le]
    exact fun X y => h _

/-! ## The result -/

theorem quant_pt (a : FVec Ideal S1x8x128 .f32) (v : Vec Ideal S512x1024 .bf16) (y : S512x1024.Idx) :
    k0_pay74 a v y = Ideal.fptosi 8 (clip (v y * Ideal.div 127 (k0_pay71 a))) := by
  unfold k0_pay74 k0_pay72
  generalize k0_pay71 a = M
  rw [shapeCast_self, shapeCast_self]
  unfold clip
  rw [← bits_n127, ← bits_127]
  rfl

theorem quant_at (I : In Ideal) (v : Vec Ideal S512x1024 .bf16) (y : S512x1024.Idx) :
    k0_pay74 (k0_pay70 (AM I)) v y = Ideal.fptosi 8 (clip (v y * Ideal.div 127 (mx I))) := quant_pt _ v y

theorem RV_at (I : In Ideal) (z : S4096x2048.Idx) :
    RV I z = (((Ideal.fptosi 8 (clip (T I z * Ideal.div 127 (mx I)))).toInt : ℝ) : EReal) * Ideal.div (mx I) 127 := by
  have hz : z ∈ (hR (colOf z) (rowOf z)).set := by
    have h1 := lt1 z
    rw [hR_mem]; simp only [rowOf, colOf]; omega
  rw [← Rect.map_emb_univ, Finset.mem_map] at hz
  obtain ⟨X, i, y, rfl⟩ : ∃ X i y, z = (hR X i).emb y := let ⟨y, _, hy⟩ := hz; ⟨colOf z, rowOf z, y, hy.symm⟩
  rw [show RV I ((hR X i).emb y) = _ from congrFun (RV_row I X i) y]
  show (((QV I X.val ((qR i).emb y)).toInt : ℝ) : EReal) * Ideal.div (mx I) (Ideal.ofBits .f32 0x42FE0000#32) = _
  rw [show QV I X.val ((qR i).emb y) = _ from congrFun (QV_row I X i) y]
  show (((k0_pay74 (k0_pay70 (AM I)) _ y).toInt : ℝ) : EReal) * Ideal.div (mx I) (Ideal.ofBits .f32 0x42FE0000#32) = _
  rw [quant_at, bits_127]

/-- The reference's term, of a product and of its greatest absolute value. -/
abbrev fin (Y' : FVec Ideal S4096x2048 .f32) (M : FVec Ideal Cert.ReferenceIdeal.S_ .f32) : FVec Ideal S4096x2048 .bf16 :=
  truncf .bf16 (mulf
    (minimumf (broadcastInDim Cert.ReferenceIdeal.S4096x2048 ![] Cert.ReferenceIdeal.Gen.bcast_S_S4096x2048 (id (constant Cert.ReferenceIdeal.S_ .f32 0x42FE0000#32)))
      (maximumf (broadcastInDim Cert.ReferenceIdeal.S4096x2048 ![] Cert.ReferenceIdeal.Gen.bcast_S_S4096x2048 (id (constant Cert.ReferenceIdeal.S_ .f32 0xC2FE0000#32)))
        (Host.roundeven (Host.divf Y' (broadcastInDim Cert.ReferenceIdeal.S4096x2048 ![] Cert.ReferenceIdeal.Gen.bcast_S_S4096x2048 (Host.divf M (constant Cert.ReferenceIdeal.S_ .f32 0x42FE0000#32)))))))
    (broadcastInDim Cert.ReferenceIdeal.S4096x2048 ![] Cert.ReferenceIdeal.Gen.bcast_S_S4096x2048 (Host.divf M (constant Cert.ReferenceIdeal.S_ .f32 0x42FE0000#32)))) Cert.ReferenceIdeal.Gen.bitsLt_bf16_f32

/-- The greatest absolute value, as the reference takes it. -/
abbrev top (Y' : FVec Ideal S4096x2048 .f32) : FVec Ideal Cert.ReferenceIdeal.S_ .f32 :=
  Host.reduce FloatOps.maximumf (Host.absf Y') (constant Cert.ReferenceIdeal.S_ .f32 0xFF800000#32) Cert.ReferenceIdeal.Gen.reducesTo_S4096x2048_S_d0_1
    Cert.ReferenceIdeal.Gen.h_S_

theorem fin_at (Y' : FVec Ideal S4096x2048 .f32) (m : EReal) (z : S4096x2048.Idx) :
    fin Y' (fun _ => m) z = clip (Ideal.div (Y' z) (Ideal.div m 127)) * Ideal.div m 127 := by
  unfold clip
  rw [← bits_n127, ← bits_127]
  rfl

theorem value_eq (I : In Ideal) (x : FVec Ideal ⟨2, ![4096, 4096]⟩ .f32) (w : FVec Ideal ⟨2, ![4096, 2048]⟩ .f32)
    (hx : ∀ c : Dev nD, I.x c = Layout.block ⟨2, ![4096, 512]⟩ ⟨2, ![4096, 4096]⟩ 1 8 c x)
    (hw : ∀ c : Dev nD, I.w c = Layout.block ⟨2, ![512, 2048]⟩ ⟨2, ![4096, 2048]⟩ 0 8 c w) : RV I = fin (Y x w) (top (Y x w)) := by
  have hT := T_whole I x w hx hw
  generalize Y x w = Y' at hT ⊢
  have hM : top Y' = fun _ => mx I := funext fun j => eq_of_forall_ge_iff fun b => by
    rw [hred_le, mx_le]
    exact forall_congr' fun i => by rw [hT]; rfl
  rw [hM]
  funext z
  rw [RV_at, scal _ _ ((mx_le I _).mp le_rfl z), hT, fin_at]

end K
-- ==== Proof.K.Same.lean ====
module

public import proofs.«01_k».proof.Proof.K.Frames
public import proofs.«01_k».proof.Proof.K.Value
public import Idealize.ShloMosaic.Lib.Pipeline.ValueKit.Geometry

/-! # The kernel's result is the reference's -/

@[expose] public section

noncomputable section

namespace K

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ) (ρ : Dev nD → PrngReg)

set_option maxRecDepth 100000 in
/-- A window of one point covers its whole array. -/
theorem im_x (c : Dev nD) : (im m).x c = m ((c : Thread nD τ).loc main_arg0) := by
  funext j
  refine congrArg (m ((c : Thread nD τ).loc main_arg0)) (funext fun a => Fin.ext ?_)
  match a with
  | ⟨0, _⟩ => exact (show 0 + 1 * (j 0).val = (j 0).val by omega)
  | ⟨1, _⟩ => exact (show 0 + 1 * (j 1).val = (j 1).val by omega)

set_option maxRecDepth 100000 in
theorem im_w (c : Dev nD) : (im m).w c = m ((c : Thread nD τ).loc main_arg1) := by
  funext j
  refine congrArg (m ((c : Thread nD τ).loc main_arg1)) (funext fun a => Fin.ext ?_)
  match a with
  | ⟨0, _⟩ => exact (show 0 + 1 * (j 0).val = (j 0).val by omega)
  | ⟨1, _⟩ => exact (show 0 + 1 * (j 1).val = (j 1).val by omega)

set_option maxRecDepth 100000 in
theorem finalA_o (c : Dev nD) : finalA m ρ c (2 : Fin 3) = RV (im m) := by
  unfold finalA
  refine (dats m ρ 0 c).arrAt_eq_of_after_last (2 : Fin 3) t₀ (by decide +kernel) (RV (im m)) (fun j => ?_)
  rfl

theorem algebraic : Cert.algebraic_KernelIdeal_ReferenceIdeal := fun m g m' g' _ hin => by
  have hx (c : Dev nD) := (im_x m c).trans (hin c).1
  have hw (c : Dev nD) := (im_w m c).trans (hin c).2
  refine ⟨RV (im m), ?_, ?_⟩
  · refine (θ_run Cert.KernelIdeal.defs _ _).mono (fun r h c => ⟨(h.1 c (2 : Fin 3)).trans (finalA_o m g c),
      (h.1 c (0 : Fin 3)).trans (finalA_x m g c), (h.1 c (1 : Fin 3)).trans (finalA_w m g c)⟩) (main_ends m g)
  · refine (θ_run Cert.ReferenceIdeal.defs _ _).mono (fun r h => ⟨(h 0).1.trans ?_, (h 0).2⟩)
      (Cert.ReferenceIdeal.Value.run (F := Ideal) m' g')
    exact (value_eq (im m) _ _ hx hw).symm

end K
-- ==== Proof.lean ====
/- The certificate's claim, put together from the modules under Proof/K. -/
module

public import proofs.«01_k».proof.Defs
public import proofs.«01_k».proof.Proof.K.Same

@[expose] public section

noncomputable section

namespace Cert.Proof

theorem claim : Cert.Claim := ⟨Cert.Kernel.Gen.facts, Cert.KernelIdeal.Gen.facts, Cert.ReferenceIdeal.Gen.facts,
  K.frame_bits, K.frame_ideal, K.frame_ref, True.intro, K.algebraic⟩

end Cert.Proof

end
